-- ==== Defs.lean ====
def Pre_Kernel [hPre_expert_in_range : Cert.Pre_expert_in_range.Facts] (m : (ℓ : Loc Cert.Kernel.nD Cert.Kernel.τ Cert.Kernel.sig) → Buf (Elt Bits) ℓ) : Prop :=
  ∀ c : Dev Cert.Kernel.nD,
    (Cert.Pre_expert_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_expert_in_range : Cert.Pre_expert_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_expert_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_expert_in_range : Cert.Pre_expert_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_expert_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KernelEven (m : (ℓ : Loc Cert.KernelEven.nD Cert.KernelEven.τ Cert.KernelEven.sig) → Buf (Elt Bits) ℓ) : Prop :=
  True

def Pre_KernelEvenIdeal (m : (ℓ : Loc Cert.KernelEvenIdeal.nD Cert.KernelEvenIdeal.τ Cert.KernelEvenIdeal.sig) → Buf (Elt Ideal) ℓ) : Prop :=
  True

def Pre_ReferenceEvenIdeal (m : (ℓ : Loc Cert.ReferenceEvenIdeal.nD Cert.ReferenceEvenIdeal.τ Cert.ReferenceEvenIdeal.sig) → Buf (Elt Ideal) ℓ) : Prop :=
  True

def Pre_KernelEvenSample (m : (ℓ : Loc Cert.KernelEvenSample.nD Cert.KernelEvenSample.τ Cert.KernelEvenSample.sig) → Buf (Elt Bits) ℓ) : Prop :=
  True

def Pre_KernelEvenSampleIdeal (m : (ℓ : Loc Cert.KernelEvenSampleIdeal.nD Cert.KernelEvenSampleIdeal.τ Cert.KernelEvenSampleIdeal.sig) → Buf (Elt Ideal) ℓ) : Prop :=
  True

def Pre_ReferenceEvenSampleIdeal (m : (ℓ : Loc Cert.ReferenceEvenSampleIdeal.nD Cert.ReferenceEvenSampleIdeal.τ Cert.ReferenceEvenSampleIdeal.sig) → Buf (Elt Ideal) ℓ) : Prop :=
  True

def Pre_KernelOdd (m : (ℓ : Loc Cert.KernelOdd.nD Cert.KernelOdd.τ Cert.KernelOdd.sig) → Buf (Elt Bits) ℓ) : Prop :=
  True

def Pre_KernelOddIdeal (m : (ℓ : Loc Cert.KernelOddIdeal.nD Cert.KernelOddIdeal.τ Cert.KernelOddIdeal.sig) → Buf (Elt Ideal) ℓ) : Prop :=
  True

def Pre_ReferenceOddIdeal (m : (ℓ : Loc Cert.ReferenceOddIdeal.nD Cert.ReferenceOddIdeal.τ Cert.ReferenceOddIdeal.sig) → Buf (Elt Ideal) ℓ) : Prop :=
  True

def Pre_KernelOddSample (m : (ℓ : Loc Cert.KernelOddSample.nD Cert.KernelOddSample.τ Cert.KernelOddSample.sig) → Buf (Elt Bits) ℓ) : Prop :=
  True

def Pre_KernelOddSampleIdeal (m : (ℓ : Loc Cert.KernelOddSampleIdeal.nD Cert.KernelOddSampleIdeal.τ Cert.KernelOddSampleIdeal.sig) → Buf (Elt Ideal) ℓ) : Prop :=
  True

def Pre_ReferenceOddSampleIdeal (m : (ℓ : Loc Cert.ReferenceOddSampleIdeal.nD Cert.ReferenceOddSampleIdeal.τ Cert.ReferenceOddSampleIdeal.sig) → Buf (Elt Ideal) ℓ) : Prop :=
  True

def Pre_S5Sample (m : (ℓ : Loc Cert.S5Sample.nD Cert.S5Sample.τ Cert.S5Sample.sig) → Buf (Elt Bits) ℓ) : Prop :=
  True

def Pre_S5SampleIdeal (m : (ℓ : Loc Cert.S5SampleIdeal.nD Cert.S5SampleIdeal.τ Cert.S5SampleIdeal.sig) → Buf (Elt Ideal) ℓ) : Prop :=
  True

def Pre_ReferenceS5SampleIdeal (m : (ℓ : Loc Cert.ReferenceS5SampleIdeal.nD Cert.ReferenceS5SampleIdeal.τ Cert.ReferenceS5SampleIdeal.sig) → Buf (Elt Ideal) ℓ) : Prop :=
  True

def Pre_S5Prompt (m : (ℓ : Loc Cert.S5Prompt.nD Cert.S5Prompt.τ Cert.S5Prompt.sig) → Buf (Elt Bits) ℓ) : Prop :=
  True

def Pre_S5PromptIdeal (m : (ℓ : Loc Cert.S5PromptIdeal.nD Cert.S5PromptIdeal.τ Cert.S5PromptIdeal.sig) → Buf (Elt Ideal) ℓ) : Prop :=
  True

def Pre_ReferenceS5PromptIdeal (m : (ℓ : Loc Cert.ReferenceS5PromptIdeal.nD Cert.ReferenceS5PromptIdeal.τ Cert.ReferenceS5PromptIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def quiescent_Kernel [hKernel : Cert.Kernel.Facts] [hPre_expert_in_range : Cert.Pre_expert_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_expert_in_range : Cert.Pre_expert_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_expert_in_range : Cert.Pre_expert_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelEven [hKernelEven : Cert.KernelEven.Facts] : Prop :=
  ∀ (m : (ℓ : Loc Cert.KernelEven.nD Cert.KernelEven.τ Cert.KernelEven.sig) → Buf (Elt Bits) ℓ) (g : Dev Cert.KernelEven.nD → PrngReg), Pre_KernelEven m →
    θ_run (Cert.KernelEven.defs (F := Bits)) (onTc (τ := Cert.KernelEven.τ) (Cert.KernelEven.main (F := Bits))) ⟨m, fun _ => 0, g⟩ (fun r => (∀ c : Dev Cert.KernelEven.nD,
      r.2.mem ((c.tc : Thread Cert.KernelEven.nD Cert.KernelEven.τ).loc Cert.KernelEven.main_arg0) = m ((c.tc : Thread Cert.KernelEven.nD Cert.KernelEven.τ).loc Cert.KernelEven.main_arg0)
      ∧ r.2.mem ((c.tc : Thread Cert.KernelEven.nD Cert.KernelEven.τ).loc Cert.KernelEven.main_arg1) = m ((c.tc : Thread Cert.KernelEven.nD Cert.KernelEven.τ).loc Cert.KernelEven.main_arg1)
      ∧ r.2.mem ((c.tc : Thread Cert.KernelEven.nD Cert.KernelEven.τ).loc Cert.KernelEven.main_arg2) = m ((c.tc : Thread Cert.KernelEven.nD Cert.KernelEven.τ).loc Cert.KernelEven.main_arg2))
      ∧ r.2.sem = fun _ => 0)

def quiescent_KernelEvenIdeal [hKernelEvenIdeal : Cert.KernelEvenIdeal.Facts] : Prop :=
  ∀ (m : (ℓ : Loc Cert.KernelEvenIdeal.nD Cert.KernelEvenIdeal.τ Cert.KernelEvenIdeal.sig) → Buf (Elt Ideal) ℓ) (g : Dev Cert.KernelEvenIdeal.nD → PrngReg), Pre_KernelEvenIdeal m →
    θ_run (Cert.KernelEvenIdeal.defs (F := Ideal)) (onTc (τ := Cert.KernelEvenIdeal.τ) (Cert.KernelEvenIdeal.main (F := Ideal))) ⟨m, fun _ => 0, g⟩ (fun r => (∀ c : Dev Cert.KernelEvenIdeal.nD,
      r.2.mem ((c.tc : Thread Cert.KernelEvenIdeal.nD Cert.KernelEvenIdeal.τ).loc Cert.KernelEvenIdeal.main_arg0) = m ((c.tc : Thread Cert.KernelEvenIdeal.nD Cert.KernelEvenIdeal.τ).loc Cert.KernelEvenIdeal.main_arg0)
      ∧ r.2.mem ((c.tc : Thread Cert.KernelEvenIdeal.nD Cert.KernelEvenIdeal.τ).loc Cert.KernelEvenIdeal.main_arg1) = m ((c.tc : Thread Cert.KernelEvenIdeal.nD Cert.KernelEvenIdeal.τ).loc Cert.KernelEvenIdeal.main_arg1)
      ∧ r.2.mem ((c.tc : Thread Cert.KernelEvenIdeal.nD Cert.KernelEvenIdeal.τ).loc Cert.KernelEvenIdeal.main_arg2) = m ((c.tc : Thread Cert.KernelEvenIdeal.nD Cert.KernelEvenIdeal.τ).loc Cert.KernelEvenIdeal.main_arg2))
      ∧ r.2.sem = fun _ => 0)

def quiescent_ReferenceEvenIdeal [hReferenceEvenIdeal : Cert.ReferenceEvenIdeal.Facts] : Prop :=
  ∀ (m : (ℓ : Loc Cert.ReferenceEvenIdeal.nD Cert.ReferenceEvenIdeal.τ Cert.ReferenceEvenIdeal.sig) → Buf (Elt Ideal) ℓ) (g : Dev Cert.ReferenceEvenIdeal.nD → PrngReg), Pre_ReferenceEvenIdeal m →
    θ_run (Cert.ReferenceEvenIdeal.defs (F := Ideal)) (onTc (τ := Cert.ReferenceEvenIdeal.τ) (Cert.ReferenceEvenIdeal.main (F := Ideal))) ⟨m, fun _ => 0, g⟩ (fun r => (∀ c : Dev Cert.ReferenceEvenIdeal.nD,
      r.2.mem ((c.tc : Thread Cert.ReferenceEvenIdeal.nD Cert.ReferenceEvenIdeal.τ).loc Cert.ReferenceEvenIdeal.main_arg0) = m ((c.tc : Thread Cert.ReferenceEvenIdeal.nD Cert.ReferenceEvenIdeal.τ).loc Cert.ReferenceEvenIdeal.main_arg0)
      ∧ r.2.mem ((c.tc : Thread Cert.ReferenceEvenIdeal.nD Cert.ReferenceEvenIdeal.τ).loc Cert.ReferenceEvenIdeal.main_arg1) = m ((c.tc : Thread Cert.ReferenceEvenIdeal.nD Cert.ReferenceEvenIdeal.τ).loc Cert.ReferenceEvenIdeal.main_arg1)
      ∧ r.2.mem ((c.tc : Thread Cert.ReferenceEvenIdeal.nD Cert.ReferenceEvenIdeal.τ).loc Cert.ReferenceEvenIdeal.main_arg2) = m ((c.tc : Thread Cert.ReferenceEvenIdeal.nD Cert.ReferenceEvenIdeal.τ).loc Cert.ReferenceEvenIdeal.main_arg2))
      ∧ r.2.sem = fun _ => 0)

def quiescent_KernelEvenSample [hKernelEvenSample : Cert.KernelEvenSample.Facts] : Prop :=
  ∀ (m : (ℓ : Loc Cert.KernelEvenSample.nD Cert.KernelEvenSample.τ Cert.KernelEvenSample.sig) → Buf (Elt Bits) ℓ) (g : Dev Cert.KernelEvenSample.nD → PrngReg), Pre_KernelEvenSample m →
    θ_run (Cert.KernelEvenSample.defs (F := Bits)) (onTc (τ := Cert.KernelEvenSample.τ) (Cert.KernelEvenSample.main (F := Bits))) ⟨m, fun _ => 0, g⟩ (fun r => (∀ c : Dev Cert.KernelEvenSample.nD,
      r.2.mem ((c.tc : Thread Cert.KernelEvenSample.nD Cert.KernelEvenSample.τ).loc Cert.KernelEvenSample.main_arg0) = m ((c.tc : Thread Cert.KernelEvenSample.nD Cert.KernelEvenSample.τ).loc Cert.KernelEvenSample.main_arg0)
      ∧ r.2.mem ((c.tc : Thread Cert.KernelEvenSample.nD Cert.KernelEvenSample.τ).loc Cert.KernelEvenSample.main_arg1) = m ((c.tc : Thread Cert.KernelEvenSample.nD Cert.KernelEvenSample.τ).loc Cert.KernelEvenSample.main_arg1)
      ∧ r.2.mem ((c.tc : Thread Cert.KernelEvenSample.nD Cert.KernelEvenSample.τ).loc Cert.KernelEvenSample.main_arg2) = m ((c.tc : Thread Cert.KernelEvenSample.nD Cert.KernelEvenSample.τ).loc Cert.KernelEvenSample.main_arg2))
      ∧ r.2.sem = fun _ => 0)

def quiescent_KernelEvenSampleIdeal [hKernelEvenSampleIdeal : Cert.KernelEvenSampleIdeal.Facts] : Prop :=
  ∀ (m : (ℓ : Loc Cert.KernelEvenSampleIdeal.nD Cert.KernelEvenSampleIdeal.τ Cert.KernelEvenSampleIdeal.sig) → Buf (Elt Ideal) ℓ) (g : Dev Cert.KernelEvenSampleIdeal.nD → PrngReg), Pre_KernelEvenSampleIdeal m →
    θ_run (Cert.KernelEvenSampleIdeal.defs (F := Ideal)) (onTc (τ := Cert.KernelEvenSampleIdeal.τ) (Cert.KernelEvenSampleIdeal.main (F := Ideal))) ⟨m, fun _ => 0, g⟩ (fun r => (∀ c : Dev Cert.KernelEvenSampleIdeal.nD,
      r.2.mem ((c.tc : Thread Cert.KernelEvenSampleIdeal.nD Cert.KernelEvenSampleIdeal.τ).loc Cert.KernelEvenSampleIdeal.main_arg0) = m ((c.tc : Thread Cert.KernelEvenSampleIdeal.nD Cert.KernelEvenSampleIdeal.τ).loc Cert.KernelEvenSampleIdeal.main_arg0)
      ∧ r.2.mem ((c.tc : Thread Cert.KernelEvenSampleIdeal.nD Cert.KernelEvenSampleIdeal.τ).loc Cert.KernelEvenSampleIdeal.main_arg1) = m ((c.tc : Thread Cert.KernelEvenSampleIdeal.nD Cert.KernelEvenSampleIdeal.τ).loc Cert.KernelEvenSampleIdeal.main_arg1)
      ∧ r.2.mem ((c.tc : Thread Cert.KernelEvenSampleIdeal.nD Cert.KernelEvenSampleIdeal.τ).loc Cert.KernelEvenSampleIdeal.main_arg2) = m ((c.tc : Thread Cert.KernelEvenSampleIdeal.nD Cert.KernelEvenSampleIdeal.τ).loc Cert.KernelEvenSampleIdeal.main_arg2))
      ∧ r.2.sem = fun _ => 0)

def quiescent_ReferenceEvenSampleIdeal [hReferenceEvenSampleIdeal : Cert.ReferenceEvenSampleIdeal.Facts] : Prop :=
  ∀ (m : (ℓ : Loc Cert.ReferenceEvenSampleIdeal.nD Cert.ReferenceEvenSampleIdeal.τ Cert.ReferenceEvenSampleIdeal.sig) → Buf (Elt Ideal) ℓ) (g : Dev Cert.ReferenceEvenSampleIdeal.nD → PrngReg), Pre_ReferenceEvenSampleIdeal m →
    θ_run (Cert.ReferenceEvenSampleIdeal.defs (F := Ideal)) (onTc (τ := Cert.ReferenceEvenSampleIdeal.τ) (Cert.ReferenceEvenSampleIdeal.main (F := Ideal))) ⟨m, fun _ => 0, g⟩ (fun r => (∀ c : Dev Cert.ReferenceEvenSampleIdeal.nD,
      r.2.mem ((c.tc : Thread Cert.ReferenceEvenSampleIdeal.nD Cert.ReferenceEvenSampleIdeal.τ).loc Cert.ReferenceEvenSampleIdeal.main_arg0) = m ((c.tc : Thread Cert.ReferenceEvenSampleIdeal.nD Cert.ReferenceEvenSampleIdeal.τ).loc Cert.ReferenceEvenSampleIdeal.main_arg0)
      ∧ r.2.mem ((c.tc : Thread Cert.ReferenceEvenSampleIdeal.nD Cert.ReferenceEvenSampleIdeal.τ).loc Cert.ReferenceEvenSampleIdeal.main_arg1) = m ((c.tc : Thread Cert.ReferenceEvenSampleIdeal.nD Cert.ReferenceEvenSampleIdeal.τ).loc Cert.ReferenceEvenSampleIdeal.main_arg1)
      ∧ r.2.mem ((c.tc : Thread Cert.ReferenceEvenSampleIdeal.nD Cert.ReferenceEvenSampleIdeal.τ).loc Cert.ReferenceEvenSampleIdeal.main_arg2) = m ((c.tc : Thread Cert.ReferenceEvenSampleIdeal.nD Cert.ReferenceEvenSampleIdeal.τ).loc Cert.ReferenceEvenSampleIdeal.main_arg2))
      ∧ r.2.sem = fun _ => 0)

def quiescent_KernelOdd [hKernelOdd : Cert.KernelOdd.Facts] : Prop :=
  ∀ (m : (ℓ : Loc Cert.KernelOdd.nD Cert.KernelOdd.τ Cert.KernelOdd.sig) → Buf (Elt Bits) ℓ) (g : Dev Cert.KernelOdd.nD → PrngReg), Pre_KernelOdd m →
    θ_run (Cert.KernelOdd.defs (F := Bits)) (onTc (τ := Cert.KernelOdd.τ) (Cert.KernelOdd.main (F := Bits))) ⟨m, fun _ => 0, g⟩ (fun r => (∀ c : Dev Cert.KernelOdd.nD,
      r.2.mem ((c.tc : Thread Cert.KernelOdd.nD Cert.KernelOdd.τ).loc Cert.KernelOdd.main_arg0) = m ((c.tc : Thread Cert.KernelOdd.nD Cert.KernelOdd.τ).loc Cert.KernelOdd.main_arg0)
      ∧ r.2.mem ((c.tc : Thread Cert.KernelOdd.nD Cert.KernelOdd.τ).loc Cert.KernelOdd.main_arg1) = m ((c.tc : Thread Cert.KernelOdd.nD Cert.KernelOdd.τ).loc Cert.KernelOdd.main_arg1)
      ∧ r.2.mem ((c.tc : Thread Cert.KernelOdd.nD Cert.KernelOdd.τ).loc Cert.KernelOdd.main_arg2) = m ((c.tc : Thread Cert.KernelOdd.nD Cert.KernelOdd.τ).loc Cert.KernelOdd.main_arg2))
      ∧ r.2.sem = fun _ => 0)

def quiescent_KernelOddIdeal [hKernelOddIdeal : Cert.KernelOddIdeal.Facts] : Prop :=
  ∀ (m : (ℓ : Loc Cert.KernelOddIdeal.nD Cert.KernelOddIdeal.τ Cert.KernelOddIdeal.sig) → Buf (Elt Ideal) ℓ) (g : Dev Cert.KernelOddIdeal.nD → PrngReg), Pre_KernelOddIdeal m →
    θ_run (Cert.KernelOddIdeal.defs (F := Ideal)) (onTc (τ := Cert.KernelOddIdeal.τ) (Cert.KernelOddIdeal.main (F := Ideal))) ⟨m, fun _ => 0, g⟩ (fun r => (∀ c : Dev Cert.KernelOddIdeal.nD,
      r.2.mem ((c.tc : Thread Cert.KernelOddIdeal.nD Cert.KernelOddIdeal.τ).loc Cert.KernelOddIdeal.main_arg0) = m ((c.tc : Thread Cert.KernelOddIdeal.nD Cert.KernelOddIdeal.τ).loc Cert.KernelOddIdeal.main_arg0)
      ∧ r.2.mem ((c.tc : Thread Cert.KernelOddIdeal.nD Cert.KernelOddIdeal.τ).loc Cert.KernelOddIdeal.main_arg1) = m ((c.tc : Thread Cert.KernelOddIdeal.nD Cert.KernelOddIdeal.τ).loc Cert.KernelOddIdeal.main_arg1)
      ∧ r.2.mem ((c.tc : Thread Cert.KernelOddIdeal.nD Cert.KernelOddIdeal.τ).loc Cert.KernelOddIdeal.main_arg2) = m ((c.tc : Thread Cert.KernelOddIdeal.nD Cert.KernelOddIdeal.τ).loc Cert.KernelOddIdeal.main_arg2))
      ∧ r.2.sem = fun _ => 0)

def quiescent_ReferenceOddIdeal [hReferenceOddIdeal : Cert.ReferenceOddIdeal.Facts] : Prop :=
  ∀ (m : (ℓ : Loc Cert.ReferenceOddIdeal.nD Cert.ReferenceOddIdeal.τ Cert.ReferenceOddIdeal.sig) → Buf (Elt Ideal) ℓ) (g : Dev Cert.ReferenceOddIdeal.nD → PrngReg), Pre_ReferenceOddIdeal m →
    θ_run (Cert.ReferenceOddIdeal.defs (F := Ideal)) (onTc (τ := Cert.ReferenceOddIdeal.τ) (Cert.ReferenceOddIdeal.main (F := Ideal))) ⟨m, fun _ => 0, g⟩ (fun r => (∀ c : Dev Cert.ReferenceOddIdeal.nD,
      r.2.mem ((c.tc : Thread Cert.ReferenceOddIdeal.nD Cert.ReferenceOddIdeal.τ).loc Cert.ReferenceOddIdeal.main_arg0) = m ((c.tc : Thread Cert.ReferenceOddIdeal.nD Cert.ReferenceOddIdeal.τ).loc Cert.ReferenceOddIdeal.main_arg0)
      ∧ r.2.mem ((c.tc : Thread Cert.ReferenceOddIdeal.nD Cert.ReferenceOddIdeal.τ).loc Cert.ReferenceOddIdeal.main_arg1) = m ((c.tc : Thread Cert.ReferenceOddIdeal.nD Cert.ReferenceOddIdeal.τ).loc Cert.ReferenceOddIdeal.main_arg1)
      ∧ r.2.mem ((c.tc : Thread Cert.ReferenceOddIdeal.nD Cert.ReferenceOddIdeal.τ).loc Cert.ReferenceOddIdeal.main_arg2) = m ((c.tc : Thread Cert.ReferenceOddIdeal.nD Cert.ReferenceOddIdeal.τ).loc Cert.ReferenceOddIdeal.main_arg2))
      ∧ r.2.sem = fun _ => 0)

def quiescent_KernelOddSample [hKernelOddSample : Cert.KernelOddSample.Facts] : Prop :=
  ∀ (m : (ℓ : Loc Cert.KernelOddSample.nD Cert.KernelOddSample.τ Cert.KernelOddSample.sig) → Buf (Elt Bits) ℓ) (g : Dev Cert.KernelOddSample.nD → PrngReg), Pre_KernelOddSample m →
    θ_run (Cert.KernelOddSample.defs (F := Bits)) (onTc (τ := Cert.KernelOddSample.τ) (Cert.KernelOddSample.main (F := Bits))) ⟨m, fun _ => 0, g⟩ (fun r => (∀ c : Dev Cert.KernelOddSample.nD,
      r.2.mem ((c.tc : Thread Cert.KernelOddSample.nD Cert.KernelOddSample.τ).loc Cert.KernelOddSample.main_arg0) = m ((c.tc : Thread Cert.KernelOddSample.nD Cert.KernelOddSample.τ).loc Cert.KernelOddSample.main_arg0)
      ∧ r.2.mem ((c.tc : Thread Cert.KernelOddSample.nD Cert.KernelOddSample.τ).loc Cert.KernelOddSample.main_arg1) = m ((c.tc : Thread Cert.KernelOddSample.nD Cert.KernelOddSample.τ).loc Cert.KernelOddSample.main_arg1)
      ∧ r.2.mem ((c.tc : Thread Cert.KernelOddSample.nD Cert.KernelOddSample.τ).loc Cert.KernelOddSample.main_arg2) = m ((c.tc : Thread Cert.KernelOddSample.nD Cert.KernelOddSample.τ).loc Cert.KernelOddSample.main_arg2))
      ∧ r.2.sem = fun _ => 0)

def quiescent_KernelOddSampleIdeal [hKernelOddSampleIdeal : Cert.KernelOddSampleIdeal.Facts] : Prop :=
  ∀ (m : (ℓ : Loc Cert.KernelOddSampleIdeal.nD Cert.KernelOddSampleIdeal.τ Cert.KernelOddSampleIdeal.sig) → Buf (Elt Ideal) ℓ) (g : Dev Cert.KernelOddSampleIdeal.nD → PrngReg), Pre_KernelOddSampleIdeal m →
    θ_run (Cert.KernelOddSampleIdeal.defs (F := Ideal)) (onTc (τ := Cert.KernelOddSampleIdeal.τ) (Cert.KernelOddSampleIdeal.main (F := Ideal))) ⟨m, fun _ => 0, g⟩ (fun r => (∀ c : Dev Cert.KernelOddSampleIdeal.nD,
      r.2.mem ((c.tc : Thread Cert.KernelOddSampleIdeal.nD Cert.KernelOddSampleIdeal.τ).loc Cert.KernelOddSampleIdeal.main_arg0) = m ((c.tc : Thread Cert.KernelOddSampleIdeal.nD Cert.KernelOddSampleIdeal.τ).loc Cert.KernelOddSampleIdeal.main_arg0)
      ∧ r.2.mem ((c.tc : Thread Cert.KernelOddSampleIdeal.nD Cert.KernelOddSampleIdeal.τ).loc Cert.KernelOddSampleIdeal.main_arg1) = m ((c.tc : Thread Cert.KernelOddSampleIdeal.nD Cert.KernelOddSampleIdeal.τ).loc Cert.KernelOddSampleIdeal.main_arg1)
      ∧ r.2.mem ((c.tc : Thread Cert.KernelOddSampleIdeal.nD Cert.KernelOddSampleIdeal.τ).loc Cert.KernelOddSampleIdeal.main_arg2) = m ((c.tc : Thread Cert.KernelOddSampleIdeal.nD Cert.KernelOddSampleIdeal.τ).loc Cert.KernelOddSampleIdeal.main_arg2))
      ∧ r.2.sem = fun _ => 0)

def quiescent_ReferenceOddSampleIdeal [hReferenceOddSampleIdeal : Cert.ReferenceOddSampleIdeal.Facts] : Prop :=
  ∀ (m : (ℓ : Loc Cert.ReferenceOddSampleIdeal.nD Cert.ReferenceOddSampleIdeal.τ Cert.ReferenceOddSampleIdeal.sig) → Buf (Elt Ideal) ℓ) (g : Dev Cert.ReferenceOddSampleIdeal.nD → PrngReg), Pre_ReferenceOddSampleIdeal m →
    θ_run (Cert.ReferenceOddSampleIdeal.defs (F := Ideal)) (onTc (τ := Cert.ReferenceOddSampleIdeal.τ) (Cert.ReferenceOddSampleIdeal.main (F := Ideal))) ⟨m, fun _ => 0, g⟩ (fun r => (∀ c : Dev Cert.ReferenceOddSampleIdeal.nD,
      r.2.mem ((c.tc : Thread Cert.ReferenceOddSampleIdeal.nD Cert.ReferenceOddSampleIdeal.τ).loc Cert.ReferenceOddSampleIdeal.main_arg0) = m ((c.tc : Thread Cert.ReferenceOddSampleIdeal.nD Cert.ReferenceOddSampleIdeal.τ).loc Cert.ReferenceOddSampleIdeal.main_arg0)
      ∧ r.2.mem ((c.tc : Thread Cert.ReferenceOddSampleIdeal.nD Cert.ReferenceOddSampleIdeal.τ).loc Cert.ReferenceOddSampleIdeal.main_arg1) = m ((c.tc : Thread Cert.ReferenceOddSampleIdeal.nD Cert.ReferenceOddSampleIdeal.τ).loc Cert.ReferenceOddSampleIdeal.main_arg1)
      ∧ r.2.mem ((c.tc : Thread Cert.ReferenceOddSampleIdeal.nD Cert.ReferenceOddSampleIdeal.τ).loc Cert.ReferenceOddSampleIdeal.main_arg2) = m ((c.tc : Thread Cert.ReferenceOddSampleIdeal.nD Cert.ReferenceOddSampleIdeal.τ).loc Cert.ReferenceOddSampleIdeal.main_arg2))
      ∧ r.2.sem = fun _ => 0)

def quiescent_S5Sample [hS5Sample : Cert.S5Sample.Facts] : Prop :=
  ∀ (m : (ℓ : Loc Cert.S5Sample.nD Cert.S5Sample.τ Cert.S5Sample.sig) → Buf (Elt Bits) ℓ) (g : Dev Cert.S5Sample.nD → PrngReg), Pre_S5Sample m →
    θ_run (Cert.S5Sample.defs (F := Bits)) (onTc (τ := Cert.S5Sample.τ) (Cert.S5Sample.main (F := Bits))) ⟨m, fun _ => 0, g⟩ (fun r => (∀ c : Dev Cert.S5Sample.nD,
      r.2.mem ((c.tc : Thread Cert.S5Sample.nD Cert.S5Sample.τ).loc Cert.S5Sample.main_arg0) = m ((c.tc : Thread Cert.S5Sample.nD Cert.S5Sample.τ).loc Cert.S5Sample.main_arg0)
      ∧ r.2.mem ((c.tc : Thread Cert.S5Sample.nD Cert.S5Sample.τ).loc Cert.S5Sample.main_arg1) = m ((c.tc : Thread Cert.S5Sample.nD Cert.S5Sample.τ).loc Cert.S5Sample.main_arg1)
      ∧ r.2.mem ((c.tc : Thread Cert.S5Sample.nD Cert.S5Sample.τ).loc Cert.S5Sample.main_arg2) = m ((c.tc : Thread Cert.S5Sample.nD Cert.S5Sample.τ).loc Cert.S5Sample.main_arg2)
      ∧ r.2.mem ((c.tc : Thread Cert.S5Sample.nD Cert.S5Sample.τ).loc Cert.S5Sample.main_arg3) = m ((c.tc : Thread Cert.S5Sample.nD Cert.S5Sample.τ).loc Cert.S5Sample.main_arg3)
      ∧ r.2.mem ((c.tc : Thread Cert.S5Sample.nD Cert.S5Sample.τ).loc Cert.S5Sample.main_arg4) = m ((c.tc : Thread Cert.S5Sample.nD Cert.S5Sample.τ).loc Cert.S5Sample.main_arg4)
      ∧ r.2.mem ((c.tc : Thread Cert.S5Sample.nD Cert.S5Sample.τ).loc Cert.S5Sample.main_arg5) = m ((c.tc : Thread Cert.S5Sample.nD Cert.S5Sample.τ).loc Cert.S5Sample.main_arg5)
      ∧ r.2.mem ((c.tc : Thread Cert.S5Sample.nD Cert.S5Sample.τ).loc Cert.S5Sample.main_arg6) = m ((c.tc : Thread Cert.S5Sample.nD Cert.S5Sample.τ).loc Cert.S5Sample.main_arg6)
      ∧ r.2.mem ((c.tc : Thread Cert.S5Sample.nD Cert.S5Sample.τ).loc Cert.S5Sample.main_arg7) = m ((c.tc : Thread Cert.S5Sample.nD Cert.S5Sample.τ).loc Cert.S5Sample.main_arg7)
      ∧ r.2.mem ((c.tc : Thread Cert.S5Sample.nD Cert.S5Sample.τ).loc Cert.S5Sample.main_arg8) = m ((c.tc : Thread Cert.S5Sample.nD Cert.S5Sample.τ).loc Cert.S5Sample.main_arg8)
      ∧ r.2.mem ((c.tc : Thread Cert.S5Sample.nD Cert.S5Sample.τ).loc Cert.S5Sample.main_arg9) = m ((c.tc : Thread Cert.S5Sample.nD Cert.S5Sample.τ).loc Cert.S5Sample.main_arg9)
      ∧ r.2.mem ((c.tc : Thread Cert.S5Sample.nD Cert.S5Sample.τ).loc Cert.S5Sample.main_arg10) = m ((c.tc : Thread Cert.S5Sample.nD Cert.S5Sample.τ).loc Cert.S5Sample.main_arg10)
      ∧ r.2.mem ((c.tc : Thread Cert.S5Sample.nD Cert.S5Sample.τ).loc Cert.S5Sample.main_arg11) = m ((c.tc : Thread Cert.S5Sample.nD Cert.S5Sample.τ).loc Cert.S5Sample.main_arg11)
      ∧ r.2.mem ((c.tc : Thread Cert.S5Sample.nD Cert.S5Sample.τ).loc Cert.S5Sample.main_arg12) = m ((c.tc : Thread Cert.S5Sample.nD Cert.S5Sample.τ).loc Cert.S5Sample.main_arg12))
      ∧ r.2.sem = fun _ => 0)

def quiescent_S5SampleIdeal [hS5SampleIdeal : Cert.S5SampleIdeal.Facts] : Prop :=
  ∀ (m : (ℓ : Loc Cert.S5SampleIdeal.nD Cert.S5SampleIdeal.τ Cert.S5SampleIdeal.sig) → Buf (Elt Ideal) ℓ) (g : Dev Cert.S5SampleIdeal.nD → PrngReg), Pre_S5SampleIdeal m →
    θ_run (Cert.S5SampleIdeal.defs (F := Ideal)) (onTc (τ := Cert.S5SampleIdeal.τ) (Cert.S5SampleIdeal.main (F := Ideal))) ⟨m, fun _ => 0, g⟩ (fun r => (∀ c : Dev Cert.S5SampleIdeal.nD,
      r.2.mem ((c.tc : Thread Cert.S5SampleIdeal.nD Cert.S5SampleIdeal.τ).loc Cert.S5SampleIdeal.main_arg0) = m ((c.tc : Thread Cert.S5SampleIdeal.nD Cert.S5SampleIdeal.τ).loc Cert.S5SampleIdeal.main_arg0)
      ∧ r.2.mem ((c.tc : Thread Cert.S5SampleIdeal.nD Cert.S5SampleIdeal.τ).loc Cert.S5SampleIdeal.main_arg1) = m ((c.tc : Thread Cert.S5SampleIdeal.nD Cert.S5SampleIdeal.τ).loc Cert.S5SampleIdeal.main_arg1)
      ∧ r.2.mem ((c.tc : Thread Cert.S5SampleIdeal.nD Cert.S5SampleIdeal.τ).loc Cert.S5SampleIdeal.main_arg2) = m ((c.tc : Thread Cert.S5SampleIdeal.nD Cert.S5SampleIdeal.τ).loc Cert.S5SampleIdeal.main_arg2)
      ∧ r.2.mem ((c.tc : Thread Cert.S5SampleIdeal.nD Cert.S5SampleIdeal.τ).loc Cert.S5SampleIdeal.main_arg3) = m ((c.tc : Thread Cert.S5SampleIdeal.nD Cert.S5SampleIdeal.τ).loc Cert.S5SampleIdeal.main_arg3)
      ∧ r.2.mem ((c.tc : Thread Cert.S5SampleIdeal.nD Cert.S5SampleIdeal.τ).loc Cert.S5SampleIdeal.main_arg4) = m ((c.tc : Thread Cert.S5SampleIdeal.nD Cert.S5SampleIdeal.τ).loc Cert.S5SampleIdeal.main_arg4)
      ∧ r.2.mem ((c.tc : Thread Cert.S5SampleIdeal.nD Cert.S5SampleIdeal.τ).loc Cert.S5SampleIdeal.main_arg5) = m ((c.tc : Thread Cert.S5SampleIdeal.nD Cert.S5SampleIdeal.τ).loc Cert.S5SampleIdeal.main_arg5)
      ∧ r.2.mem ((c.tc : Thread Cert.S5SampleIdeal.nD Cert.S5SampleIdeal.τ).loc Cert.S5SampleIdeal.main_arg6) = m ((c.tc : Thread Cert.S5SampleIdeal.nD Cert.S5SampleIdeal.τ).loc Cert.S5SampleIdeal.main_arg6)
      ∧ r.2.mem ((c.tc : Thread Cert.S5SampleIdeal.nD Cert.S5SampleIdeal.τ).loc Cert.S5SampleIdeal.main_arg7) = m ((c.tc : Thread Cert.S5SampleIdeal.nD Cert.S5SampleIdeal.τ).loc Cert.S5SampleIdeal.main_arg7)
      ∧ r.2.mem ((c.tc : Thread Cert.S5SampleIdeal.nD Cert.S5SampleIdeal.τ).loc Cert.S5SampleIdeal.main_arg8) = m ((c.tc : Thread Cert.S5SampleIdeal.nD Cert.S5SampleIdeal.τ).loc Cert.S5SampleIdeal.main_arg8)
      ∧ r.2.mem ((c.tc : Thread Cert.S5SampleIdeal.nD Cert.S5SampleIdeal.τ).loc Cert.S5SampleIdeal.main_arg9) = m ((c.tc : Thread Cert.S5SampleIdeal.nD Cert.S5SampleIdeal.τ).loc Cert.S5SampleIdeal.main_arg9)
      ∧ r.2.mem ((c.tc : Thread Cert.S5SampleIdeal.nD Cert.S5SampleIdeal.τ).loc Cert.S5SampleIdeal.main_arg10) = m ((c.tc : Thread Cert.S5SampleIdeal.nD Cert.S5SampleIdeal.τ).loc Cert.S5SampleIdeal.main_arg10)
      ∧ r.2.mem ((c.tc : Thread Cert.S5SampleIdeal.nD Cert.S5SampleIdeal.τ).loc Cert.S5SampleIdeal.main_arg11) = m ((c.tc : Thread Cert.S5SampleIdeal.nD Cert.S5SampleIdeal.τ).loc Cert.S5SampleIdeal.main_arg11)
      ∧ r.2.mem ((c.tc : Thread Cert.S5SampleIdeal.nD Cert.S5SampleIdeal.τ).loc Cert.S5SampleIdeal.main_arg12) = m ((c.tc : Thread Cert.S5SampleIdeal.nD Cert.S5SampleIdeal.τ).loc Cert.S5SampleIdeal.main_arg12))
      ∧ r.2.sem = fun _ => 0)

def quiescent_ReferenceS5SampleIdeal [hReferenceS5SampleIdeal : Cert.ReferenceS5SampleIdeal.Facts] : Prop :=
  ∀ (m : (ℓ : Loc Cert.ReferenceS5SampleIdeal.nD Cert.ReferenceS5SampleIdeal.τ Cert.ReferenceS5SampleIdeal.sig) → Buf (Elt Ideal) ℓ) (g : Dev Cert.ReferenceS5SampleIdeal.nD → PrngReg), Pre_ReferenceS5SampleIdeal m →
    θ_run (Cert.ReferenceS5SampleIdeal.defs (F := Ideal)) (onTc (τ := Cert.ReferenceS5SampleIdeal.τ) (Cert.ReferenceS5SampleIdeal.main (F := Ideal))) ⟨m, fun _ => 0, g⟩ (fun r => (∀ c : Dev Cert.ReferenceS5SampleIdeal.nD,
      r.2.mem ((c.tc : Thread Cert.ReferenceS5SampleIdeal.nD Cert.ReferenceS5SampleIdeal.τ).loc Cert.ReferenceS5SampleIdeal.main_arg0) = m ((c.tc : Thread Cert.ReferenceS5SampleIdeal.nD Cert.ReferenceS5SampleIdeal.τ).loc Cert.ReferenceS5SampleIdeal.main_arg0)
      ∧ r.2.mem ((c.tc : Thread Cert.ReferenceS5SampleIdeal.nD Cert.ReferenceS5SampleIdeal.τ).loc Cert.ReferenceS5SampleIdeal.main_arg1) = m ((c.tc : Thread Cert.ReferenceS5SampleIdeal.nD Cert.ReferenceS5SampleIdeal.τ).loc Cert.ReferenceS5SampleIdeal.main_arg1)
      ∧ r.2.mem ((c.tc : Thread Cert.ReferenceS5SampleIdeal.nD Cert.ReferenceS5SampleIdeal.τ).loc Cert.ReferenceS5SampleIdeal.main_arg2) = m ((c.tc : Thread Cert.ReferenceS5SampleIdeal.nD Cert.ReferenceS5SampleIdeal.τ).loc Cert.ReferenceS5SampleIdeal.main_arg2)
      ∧ r.2.mem ((c.tc : Thread Cert.ReferenceS5SampleIdeal.nD Cert.ReferenceS5SampleIdeal.τ).loc Cert.ReferenceS5SampleIdeal.main_arg3) = m ((c.tc : Thread Cert.ReferenceS5SampleIdeal.nD Cert.ReferenceS5SampleIdeal.τ).loc Cert.ReferenceS5SampleIdeal.main_arg3)
      ∧ r.2.mem ((c.tc : Thread Cert.ReferenceS5SampleIdeal.nD Cert.ReferenceS5SampleIdeal.τ).loc Cert.ReferenceS5SampleIdeal.main_arg4) = m ((c.tc : Thread Cert.ReferenceS5SampleIdeal.nD Cert.ReferenceS5SampleIdeal.τ).loc Cert.ReferenceS5SampleIdeal.main_arg4)
      ∧ r.2.mem ((c.tc : Thread Cert.ReferenceS5SampleIdeal.nD Cert.ReferenceS5SampleIdeal.τ).loc Cert.ReferenceS5SampleIdeal.main_arg5) = m ((c.tc : Thread Cert.ReferenceS5SampleIdeal.nD Cert.ReferenceS5SampleIdeal.τ).loc Cert.ReferenceS5SampleIdeal.main_arg5)
      ∧ r.2.mem ((c.tc : Thread Cert.ReferenceS5SampleIdeal.nD Cert.ReferenceS5SampleIdeal.τ).loc Cert.ReferenceS5SampleIdeal.main_arg6) = m ((c.tc : Thread Cert.ReferenceS5SampleIdeal.nD Cert.ReferenceS5SampleIdeal.τ).loc Cert.ReferenceS5SampleIdeal.main_arg6)
      ∧ r.2.mem ((c.tc : Thread Cert.ReferenceS5SampleIdeal.nD Cert.ReferenceS5SampleIdeal.τ).loc Cert.ReferenceS5SampleIdeal.main_arg7) = m ((c.tc : Thread Cert.ReferenceS5SampleIdeal.nD Cert.ReferenceS5SampleIdeal.τ).loc Cert.ReferenceS5SampleIdeal.main_arg7)
      ∧ r.2.mem ((c.tc : Thread Cert.ReferenceS5SampleIdeal.nD Cert.ReferenceS5SampleIdeal.τ).loc Cert.ReferenceS5SampleIdeal.main_arg8) = m ((c.tc : Thread Cert.ReferenceS5SampleIdeal.nD Cert.ReferenceS5SampleIdeal.τ).loc Cert.ReferenceS5SampleIdeal.main_arg8)
      ∧ r.2.mem ((c.tc : Thread Cert.ReferenceS5SampleIdeal.nD Cert.ReferenceS5SampleIdeal.τ).loc Cert.ReferenceS5SampleIdeal.main_arg9) = m ((c.tc : Thread Cert.ReferenceS5SampleIdeal.nD Cert.ReferenceS5SampleIdeal.τ).loc Cert.ReferenceS5SampleIdeal.main_arg9)
      ∧ r.2.mem ((c.tc : Thread Cert.ReferenceS5SampleIdeal.nD Cert.ReferenceS5SampleIdeal.τ).loc Cert.ReferenceS5SampleIdeal.main_arg10) = m ((c.tc : Thread Cert.ReferenceS5SampleIdeal.nD Cert.ReferenceS5SampleIdeal.τ).loc Cert.ReferenceS5SampleIdeal.main_arg10)
      ∧ r.2.mem ((c.tc : Thread Cert.ReferenceS5SampleIdeal.nD Cert.ReferenceS5SampleIdeal.τ).loc Cert.ReferenceS5SampleIdeal.main_arg11) = m ((c.tc : Thread Cert.ReferenceS5SampleIdeal.nD Cert.ReferenceS5SampleIdeal.τ).loc Cert.ReferenceS5SampleIdeal.main_arg11)
      ∧ r.2.mem ((c.tc : Thread Cert.ReferenceS5SampleIdeal.nD Cert.ReferenceS5SampleIdeal.τ).loc Cert.ReferenceS5SampleIdeal.main_arg12) = m ((c.tc : Thread Cert.ReferenceS5SampleIdeal.nD Cert.ReferenceS5SampleIdeal.τ).loc Cert.ReferenceS5SampleIdeal.main_arg12))
      ∧ r.2.sem = fun _ => 0)

def quiescent_S5Prompt [hS5Prompt : Cert.S5Prompt.Facts] : Prop :=
  ∀ (m : (ℓ : Loc Cert.S5Prompt.nD Cert.S5Prompt.τ Cert.S5Prompt.sig) → Buf (Elt Bits) ℓ) (g : Dev Cert.S5Prompt.nD → PrngReg), Pre_S5Prompt m →
    θ_run (Cert.S5Prompt.defs (F := Bits)) (onTc (τ := Cert.S5Prompt.τ) (Cert.S5Prompt.main (F := Bits))) ⟨m, fun _ => 0, g⟩ (fun r => (∀ c : Dev Cert.S5Prompt.nD,
      r.2.mem ((c.tc : Thread Cert.S5Prompt.nD Cert.S5Prompt.τ).loc Cert.S5Prompt.main_arg0) = m ((c.tc : Thread Cert.S5Prompt.nD Cert.S5Prompt.τ).loc Cert.S5Prompt.main_arg0)
      ∧ r.2.mem ((c.tc : Thread Cert.S5Prompt.nD Cert.S5Prompt.τ).loc Cert.S5Prompt.main_arg1) = m ((c.tc : Thread Cert.S5Prompt.nD Cert.S5Prompt.τ).loc Cert.S5Prompt.main_arg1)
      ∧ r.2.mem ((c.tc : Thread Cert.S5Prompt.nD Cert.S5Prompt.τ).loc Cert.S5Prompt.main_arg2) = m ((c.tc : Thread Cert.S5Prompt.nD Cert.S5Prompt.τ).loc Cert.S5Prompt.main_arg2)
      ∧ r.2.mem ((c.tc : Thread Cert.S5Prompt.nD Cert.S5Prompt.τ).loc Cert.S5Prompt.main_arg3) = m ((c.tc : Thread Cert.S5Prompt.nD Cert.S5Prompt.τ).loc Cert.S5Prompt.main_arg3)
      ∧ r.2.mem ((c.tc : Thread Cert.S5Prompt.nD Cert.S5Prompt.τ).loc Cert.S5Prompt.main_arg4) = m ((c.tc : Thread Cert.S5Prompt.nD Cert.S5Prompt.τ).loc Cert.S5Prompt.main_arg4)
      ∧ r.2.mem ((c.tc : Thread Cert.S5Prompt.nD Cert.S5Prompt.τ).loc Cert.S5Prompt.main_arg5) = m ((c.tc : Thread Cert.S5Prompt.nD Cert.S5Prompt.τ).loc Cert.S5Prompt.main_arg5)
      ∧ r.2.mem ((c.tc : Thread Cert.S5Prompt.nD Cert.S5Prompt.τ).loc Cert.S5Prompt.main_arg6) = m ((c.tc : Thread Cert.S5Prompt.nD Cert.S5Prompt.τ).loc Cert.S5Prompt.main_arg6)
      ∧ r.2.mem ((c.tc : Thread Cert.S5Prompt.nD Cert.S5Prompt.τ).loc Cert.S5Prompt.main_arg7) = m ((c.tc : Thread Cert.S5Prompt.nD Cert.S5Prompt.τ).loc Cert.S5Prompt.main_arg7)
      ∧ r.2.mem ((c.tc : Thread Cert.S5Prompt.nD Cert.S5Prompt.τ).loc Cert.S5Prompt.main_arg8) = m ((c.tc : Thread Cert.S5Prompt.nD Cert.S5Prompt.τ).loc Cert.S5Prompt.main_arg8)
      ∧ r.2.mem ((c.tc : Thread Cert.S5Prompt.nD Cert.S5Prompt.τ).loc Cert.S5Prompt.main_arg9) = m ((c.tc : Thread Cert.S5Prompt.nD Cert.S5Prompt.τ).loc Cert.S5Prompt.main_arg9)
      ∧ r.2.mem ((c.tc : Thread Cert.S5Prompt.nD Cert.S5Prompt.τ).loc Cert.S5Prompt.main_arg10) = m ((c.tc : Thread Cert.S5Prompt.nD Cert.S5Prompt.τ).loc Cert.S5Prompt.main_arg10))
      ∧ r.2.sem = fun _ => 0)

def quiescent_S5PromptIdeal [hS5PromptIdeal : Cert.S5PromptIdeal.Facts] : Prop :=
  ∀ (m : (ℓ : Loc Cert.S5PromptIdeal.nD Cert.S5PromptIdeal.τ Cert.S5PromptIdeal.sig) → Buf (Elt Ideal) ℓ) (g : Dev Cert.S5PromptIdeal.nD → PrngReg), Pre_S5PromptIdeal m →
    θ_run (Cert.S5PromptIdeal.defs (F := Ideal)) (onTc (τ := Cert.S5PromptIdeal.τ) (Cert.S5PromptIdeal.main (F := Ideal))) ⟨m, fun _ => 0, g⟩ (fun r => (∀ c : Dev Cert.S5PromptIdeal.nD,
      r.2.mem ((c.tc : Thread Cert.S5PromptIdeal.nD Cert.S5PromptIdeal.τ).loc Cert.S5PromptIdeal.main_arg0) = m ((c.tc : Thread Cert.S5PromptIdeal.nD Cert.S5PromptIdeal.τ).loc Cert.S5PromptIdeal.main_arg0)
      ∧ r.2.mem ((c.tc : Thread Cert.S5PromptIdeal.nD Cert.S5PromptIdeal.τ).loc Cert.S5PromptIdeal.main_arg1) = m ((c.tc : Thread Cert.S5PromptIdeal.nD Cert.S5PromptIdeal.τ).loc Cert.S5PromptIdeal.main_arg1)
      ∧ r.2.mem ((c.tc : Thread Cert.S5PromptIdeal.nD Cert.S5PromptIdeal.τ).loc Cert.S5PromptIdeal.main_arg2) = m ((c.tc : Thread Cert.S5PromptIdeal.nD Cert.S5PromptIdeal.τ).loc Cert.S5PromptIdeal.main_arg2)
      ∧ r.2.mem ((c.tc : Thread Cert.S5PromptIdeal.nD Cert.S5PromptIdeal.τ).loc Cert.S5PromptIdeal.main_arg3) = m ((c.tc : Thread Cert.S5PromptIdeal.nD Cert.S5PromptIdeal.τ).loc Cert.S5PromptIdeal.main_arg3)
      ∧ r.2.mem ((c.tc : Thread Cert.S5PromptIdeal.nD Cert.S5PromptIdeal.τ).loc Cert.S5PromptIdeal.main_arg4) = m ((c.tc : Thread Cert.S5PromptIdeal.nD Cert.S5PromptIdeal.τ).loc Cert.S5PromptIdeal.main_arg4)
      ∧ r.2.mem ((c.tc : Thread Cert.S5PromptIdeal.nD Cert.S5PromptIdeal.τ).loc Cert.S5PromptIdeal.main_arg5) = m ((c.tc : Thread Cert.S5PromptIdeal.nD Cert.S5PromptIdeal.τ).loc Cert.S5PromptIdeal.main_arg5)
      ∧ r.2.mem ((c.tc : Thread Cert.S5PromptIdeal.nD Cert.S5PromptIdeal.τ).loc Cert.S5PromptIdeal.main_arg6) = m ((c.tc : Thread Cert.S5PromptIdeal.nD Cert.S5PromptIdeal.τ).loc Cert.S5PromptIdeal.main_arg6)
      ∧ r.2.mem ((c.tc : Thread Cert.S5PromptIdeal.nD Cert.S5PromptIdeal.τ).loc Cert.S5PromptIdeal.main_arg7) = m ((c.tc : Thread Cert.S5PromptIdeal.nD Cert.S5PromptIdeal.τ).loc Cert.S5PromptIdeal.main_arg7)
      ∧ r.2.mem ((c.tc : Thread Cert.S5PromptIdeal.nD Cert.S5PromptIdeal.τ).loc Cert.S5PromptIdeal.main_arg8) = m ((c.tc : Thread Cert.S5PromptIdeal.nD Cert.S5PromptIdeal.τ).loc Cert.S5PromptIdeal.main_arg8)
      ∧ r.2.mem ((c.tc : Thread Cert.S5PromptIdeal.nD Cert.S5PromptIdeal.τ).loc Cert.S5PromptIdeal.main_arg9) = m ((c.tc : Thread Cert.S5PromptIdeal.nD Cert.S5PromptIdeal.τ).loc Cert.S5PromptIdeal.main_arg9)
      ∧ r.2.mem ((c.tc : Thread Cert.S5PromptIdeal.nD Cert.S5PromptIdeal.τ).loc Cert.S5PromptIdeal.main_arg10) = m ((c.tc : Thread Cert.S5PromptIdeal.nD Cert.S5PromptIdeal.τ).loc Cert.S5PromptIdeal.main_arg10))
      ∧ r.2.sem = fun _ => 0)

def quiescent_ReferenceS5PromptIdeal [hReferenceS5PromptIdeal : Cert.ReferenceS5PromptIdeal.Facts] : Prop :=
  ∀ (m : (ℓ : Loc Cert.ReferenceS5PromptIdeal.nD Cert.ReferenceS5PromptIdeal.τ Cert.ReferenceS5PromptIdeal.sig) → Buf (Elt Ideal) ℓ) (g : Dev Cert.ReferenceS5PromptIdeal.nD → PrngReg), Pre_ReferenceS5PromptIdeal m →
    θ_run (Cert.ReferenceS5PromptIdeal.defs (F := Ideal)) (onTc (τ := Cert.ReferenceS5PromptIdeal.τ) (Cert.ReferenceS5PromptIdeal.main (F := Ideal))) ⟨m, fun _ => 0, g⟩ (fun r => (∀ c : Dev Cert.ReferenceS5PromptIdeal.nD,
      r.2.mem ((c.tc : Thread Cert.ReferenceS5PromptIdeal.nD Cert.ReferenceS5PromptIdeal.τ).loc Cert.ReferenceS5PromptIdeal.main_arg0) = m ((c.tc : Thread Cert.ReferenceS5PromptIdeal.nD Cert.ReferenceS5PromptIdeal.τ).loc Cert.ReferenceS5PromptIdeal.main_arg0)
      ∧ r.2.mem ((c.tc : Thread Cert.ReferenceS5PromptIdeal.nD Cert.ReferenceS5PromptIdeal.τ).loc Cert.ReferenceS5PromptIdeal.main_arg1) = m ((c.tc : Thread Cert.ReferenceS5PromptIdeal.nD Cert.ReferenceS5PromptIdeal.τ).loc Cert.ReferenceS5PromptIdeal.main_arg1)
      ∧ r.2.mem ((c.tc : Thread Cert.ReferenceS5PromptIdeal.nD Cert.ReferenceS5PromptIdeal.τ).loc Cert.ReferenceS5PromptIdeal.main_arg2) = m ((c.tc : Thread Cert.ReferenceS5PromptIdeal.nD Cert.ReferenceS5PromptIdeal.τ).loc Cert.ReferenceS5PromptIdeal.main_arg2)
      ∧ r.2.mem ((c.tc : Thread Cert.ReferenceS5PromptIdeal.nD Cert.ReferenceS5PromptIdeal.τ).loc Cert.ReferenceS5PromptIdeal.main_arg3) = m ((c.tc : Thread Cert.ReferenceS5PromptIdeal.nD Cert.ReferenceS5PromptIdeal.τ).loc Cert.ReferenceS5PromptIdeal.main_arg3)
      ∧ r.2.mem ((c.tc : Thread Cert.ReferenceS5PromptIdeal.nD Cert.ReferenceS5PromptIdeal.τ).loc Cert.ReferenceS5PromptIdeal.main_arg4) = m ((c.tc : Thread Cert.ReferenceS5PromptIdeal.nD Cert.ReferenceS5PromptIdeal.τ).loc Cert.ReferenceS5PromptIdeal.main_arg4)
      ∧ r.2.mem ((c.tc : Thread Cert.ReferenceS5PromptIdeal.nD Cert.ReferenceS5PromptIdeal.τ).loc Cert.ReferenceS5PromptIdeal.main_arg5) = m ((c.tc : Thread Cert.ReferenceS5PromptIdeal.nD Cert.ReferenceS5PromptIdeal.τ).loc Cert.ReferenceS5PromptIdeal.main_arg5)
      ∧ r.2.mem ((c.tc : Thread Cert.ReferenceS5PromptIdeal.nD Cert.ReferenceS5PromptIdeal.τ).loc Cert.ReferenceS5PromptIdeal.main_arg6) = m ((c.tc : Thread Cert.ReferenceS5PromptIdeal.nD Cert.ReferenceS5PromptIdeal.τ).loc Cert.ReferenceS5PromptIdeal.main_arg6)
      ∧ r.2.mem ((c.tc : Thread Cert.ReferenceS5PromptIdeal.nD Cert.ReferenceS5PromptIdeal.τ).loc Cert.ReferenceS5PromptIdeal.main_arg7) = m ((c.tc : Thread Cert.ReferenceS5PromptIdeal.nD Cert.ReferenceS5PromptIdeal.τ).loc Cert.ReferenceS5PromptIdeal.main_arg7)
      ∧ r.2.mem ((c.tc : Thread Cert.ReferenceS5PromptIdeal.nD Cert.ReferenceS5PromptIdeal.τ).loc Cert.ReferenceS5PromptIdeal.main_arg8) = m ((c.tc : Thread Cert.ReferenceS5PromptIdeal.nD Cert.ReferenceS5PromptIdeal.τ).loc Cert.ReferenceS5PromptIdeal.main_arg8)
      ∧ r.2.mem ((c.tc : Thread Cert.ReferenceS5PromptIdeal.nD Cert.ReferenceS5PromptIdeal.τ).loc Cert.ReferenceS5PromptIdeal.main_arg9) = m ((c.tc : Thread Cert.ReferenceS5PromptIdeal.nD Cert.ReferenceS5PromptIdeal.τ).loc Cert.ReferenceS5PromptIdeal.main_arg9)
      ∧ r.2.mem ((c.tc : Thread Cert.ReferenceS5PromptIdeal.nD Cert.ReferenceS5PromptIdeal.τ).loc Cert.ReferenceS5PromptIdeal.main_arg10) = m ((c.tc : Thread Cert.ReferenceS5PromptIdeal.nD Cert.ReferenceS5PromptIdeal.τ).loc Cert.ReferenceS5PromptIdeal.main_arg10))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_expert_in_range : Cert.Pre_expert_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelEven_KernelEvenIdeal : Prop :=
  True

def algebraic_KernelEvenIdeal_ReferenceEvenIdeal [hKernelEvenIdeal : Cert.KernelEvenIdeal.Facts] [hReferenceEvenIdeal : Cert.ReferenceEvenIdeal.Facts] : Prop :=
  ∀ (m : (ℓ : Loc Cert.KernelEvenIdeal.nD Cert.KernelEvenIdeal.τ Cert.KernelEvenIdeal.sig) → Buf (Elt Ideal) ℓ) (g : Dev Cert.KernelEvenIdeal.nD → PrngReg)
    (m' : (ℓ : Loc Cert.ReferenceEvenIdeal.nD Cert.ReferenceEvenIdeal.τ Cert.ReferenceEvenIdeal.sig) → Buf (Elt Ideal) ℓ) (g' : Dev Cert.ReferenceEvenIdeal.nD → PrngReg), Pre_KernelEvenIdeal m →
    (∀ c : Dev Cert.KernelEvenIdeal.nD,
      m' ((c.tc : Thread Cert.ReferenceEvenIdeal.nD Cert.ReferenceEvenIdeal.τ).loc Cert.ReferenceEvenIdeal.main_arg0) = m ((c.tc : Thread Cert.KernelEvenIdeal.nD Cert.KernelEvenIdeal.τ).loc Cert.KernelEvenIdeal.main_arg0)
      ∧ m' ((c.tc : Thread Cert.ReferenceEvenIdeal.nD Cert.ReferenceEvenIdeal.τ).loc Cert.ReferenceEvenIdeal.main_arg1) = m ((c.tc : Thread Cert.KernelEvenIdeal.nD Cert.KernelEvenIdeal.τ).loc Cert.KernelEvenIdeal.main_arg1)
      ∧ m' ((c.tc : Thread Cert.ReferenceEvenIdeal.nD Cert.ReferenceEvenIdeal.τ).loc Cert.ReferenceEvenIdeal.main_arg2) = m ((c.tc : Thread Cert.KernelEvenIdeal.nD Cert.KernelEvenIdeal.τ).loc Cert.KernelEvenIdeal.main_arg2)) →
    ∃ (v0 : (c : Dev Cert.KernelEvenIdeal.nD) → Buf (Elt Ideal) ((c.tc : Thread Cert.KernelEvenIdeal.nD Cert.KernelEvenIdeal.τ).loc Cert.KernelEvenIdeal.main_v11)) (v1 : (c : Dev Cert.KernelEvenIdeal.nD) → Buf (Elt Ideal) ((c.tc : Thread Cert.KernelEvenIdeal.nD Cert.KernelEvenIdeal.τ).loc Cert.KernelEvenIdeal.main_v13)),
      θ_run (Cert.KernelEvenIdeal.defs (F := Ideal)) (onTc (τ := Cert.KernelEvenIdeal.τ) (Cert.KernelEvenIdeal.main (F := Ideal))) ⟨m, fun _ => 0, g⟩ (fun r => ∀ c : Dev Cert.KernelEvenIdeal.nD,
          r.2.mem ((c.tc : Thread Cert.KernelEvenIdeal.nD Cert.KernelEvenIdeal.τ).loc Cert.KernelEvenIdeal.main_v11) = v0 c
          ∧ r.2.mem ((c.tc : Thread Cert.KernelEvenIdeal.nD Cert.KernelEvenIdeal.τ).loc Cert.KernelEvenIdeal.main_v13) = v1 c
          ∧ r.2.mem ((c.tc : Thread Cert.KernelEvenIdeal.nD Cert.KernelEvenIdeal.τ).loc Cert.KernelEvenIdeal.main_arg0) = m ((c.tc : Thread Cert.KernelEvenIdeal.nD Cert.KernelEvenIdeal.τ).loc Cert.KernelEvenIdeal.main_arg0)
          ∧ r.2.mem ((c.tc : Thread Cert.KernelEvenIdeal.nD Cert.KernelEvenIdeal.τ).loc Cert.KernelEvenIdeal.main_arg1) = m ((c.tc : Thread Cert.KernelEvenIdeal.nD Cert.KernelEvenIdeal.τ).loc Cert.KernelEvenIdeal.main_arg1)
          ∧ r.2.mem ((c.tc : Thread Cert.KernelEvenIdeal.nD Cert.KernelEvenIdeal.τ).loc Cert.KernelEvenIdeal.main_arg2) = m ((c.tc : Thread Cert.KernelEvenIdeal.nD Cert.KernelEvenIdeal.τ).loc Cert.KernelEvenIdeal.main_arg2))
      ∧ θ_run (Cert.ReferenceEvenIdeal.defs (F := Ideal)) (onTc (τ := Cert.ReferenceEvenIdeal.τ) (Cert.ReferenceEvenIdeal.main (F := Ideal))) ⟨m', fun _ => 0, g'⟩ (fun r => ∀ c : Dev Cert.ReferenceEvenIdeal.nD,
          r.2.mem ((c.tc : Thread Cert.ReferenceEvenIdeal.nD Cert.ReferenceEvenIdeal.τ).loc Cert.ReferenceEvenIdeal.main_v22) = v0 c
          ∧ r.2.mem ((c.tc : Thread Cert.ReferenceEvenIdeal.nD Cert.ReferenceEvenIdeal.τ).loc Cert.ReferenceEvenIdeal.main_v24) = v1 c
          ∧ r.2.mem ((c.tc : Thread Cert.ReferenceEvenIdeal.nD Cert.ReferenceEvenIdeal.τ).loc Cert.ReferenceEvenIdeal.main_arg0) = m' ((c.tc : Thread Cert.ReferenceEvenIdeal.nD Cert.ReferenceEvenIdeal.τ).loc Cert.ReferenceEvenIdeal.main_arg0)
          ∧ r.2.mem ((c.tc : Thread Cert.ReferenceEvenIdeal.nD Cert.ReferenceEvenIdeal.τ).loc Cert.ReferenceEvenIdeal.main_arg1) = m' ((c.tc : Thread Cert.ReferenceEvenIdeal.nD Cert.ReferenceEvenIdeal.τ).loc Cert.ReferenceEvenIdeal.main_arg1)
          ∧ r.2.mem ((c.tc : Thread Cert.ReferenceEvenIdeal.nD Cert.ReferenceEvenIdeal.τ).loc Cert.ReferenceEvenIdeal.main_arg2) = m' ((c.tc : Thread Cert.ReferenceEvenIdeal.nD Cert.ReferenceEvenIdeal.τ).loc Cert.ReferenceEvenIdeal.main_arg2))

def preserves_KernelEvenSample_KernelEvenSampleIdeal : Prop :=
  True

def algebraic_KernelEvenSampleIdeal_ReferenceEvenSampleIdeal [hKernelEvenSampleIdeal : Cert.KernelEvenSampleIdeal.Facts] [hReferenceEvenSampleIdeal : Cert.ReferenceEvenSampleIdeal.Facts] : Prop :=
  ∀ (m : (ℓ : Loc Cert.KernelEvenSampleIdeal.nD Cert.KernelEvenSampleIdeal.τ Cert.KernelEvenSampleIdeal.sig) → Buf (Elt Ideal) ℓ) (g : Dev Cert.KernelEvenSampleIdeal.nD → PrngReg)
    (m' : (ℓ : Loc Cert.ReferenceEvenSampleIdeal.nD Cert.ReferenceEvenSampleIdeal.τ Cert.ReferenceEvenSampleIdeal.sig) → Buf (Elt Ideal) ℓ) (g' : Dev Cert.ReferenceEvenSampleIdeal.nD → PrngReg), Pre_KernelEvenSampleIdeal m →
    (∀ c : Dev Cert.KernelEvenSampleIdeal.nD,
      m' ((c.tc : Thread Cert.ReferenceEvenSampleIdeal.nD Cert.ReferenceEvenSampleIdeal.τ).loc Cert.ReferenceEvenSampleIdeal.main_arg0) = m ((c.tc : Thread Cert.KernelEvenSampleIdeal.nD Cert.KernelEvenSampleIdeal.τ).loc Cert.KernelEvenSampleIdeal.main_arg0)
      ∧ m' ((c.tc : Thread Cert.ReferenceEvenSampleIdeal.nD Cert.ReferenceEvenSampleIdeal.τ).loc Cert.ReferenceEvenSampleIdeal.main_arg1) = m ((c.tc : Thread Cert.KernelEvenSampleIdeal.nD Cert.KernelEvenSampleIdeal.τ).loc Cert.KernelEvenSampleIdeal.main_arg1)
      ∧ m' ((c.tc : Thread Cert.ReferenceEvenSampleIdeal.nD Cert.ReferenceEvenSampleIdeal.τ).loc Cert.ReferenceEvenSampleIdeal.main_arg2) = m ((c.tc : Thread Cert.KernelEvenSampleIdeal.nD Cert.KernelEvenSampleIdeal.τ).loc Cert.KernelEvenSampleIdeal.main_arg2)) →
    ∃ (v0 : (c : Dev Cert.KernelEvenSampleIdeal.nD) → Buf (Elt Ideal) ((c.tc : Thread Cert.KernelEvenSampleIdeal.nD Cert.KernelEvenSampleIdeal.τ).loc Cert.KernelEvenSampleIdeal.main_v10)) (v1 : (c : Dev Cert.KernelEvenSampleIdeal.nD) → Buf (Elt Ideal) ((c.tc : Thread Cert.KernelEvenSampleIdeal.nD Cert.KernelEvenSampleIdeal.τ).loc Cert.KernelEvenSampleIdeal.main_v11)),
      θ_run (Cert.KernelEvenSampleIdeal.defs (F := Ideal)) (onTc (τ := Cert.KernelEvenSampleIdeal.τ) (Cert.KernelEvenSampleIdeal.main (F := Ideal))) ⟨m, fun _ => 0, g⟩ (fun r => ∀ c : Dev Cert.KernelEvenSampleIdeal.nD,
          r.2.mem ((c.tc : Thread Cert.KernelEvenSampleIdeal.nD Cert.KernelEvenSampleIdeal.τ).loc Cert.KernelEvenSampleIdeal.main_v10) = v0 c
          ∧ r.2.mem ((c.tc : Thread Cert.KernelEvenSampleIdeal.nD Cert.KernelEvenSampleIdeal.τ).loc Cert.KernelEvenSampleIdeal.main_v11) = v1 c
          ∧ r.2.mem ((c.tc : Thread Cert.KernelEvenSampleIdeal.nD Cert.KernelEvenSampleIdeal.τ).loc Cert.KernelEvenSampleIdeal.main_arg0) = m ((c.tc : Thread Cert.KernelEvenSampleIdeal.nD Cert.KernelEvenSampleIdeal.τ).loc Cert.KernelEvenSampleIdeal.main_arg0)
          ∧ r.2.mem ((c.tc : Thread Cert.KernelEvenSampleIdeal.nD Cert.KernelEvenSampleIdeal.τ).loc Cert.KernelEvenSampleIdeal.main_arg1) = m ((c.tc : Thread Cert.KernelEvenSampleIdeal.nD Cert.KernelEvenSampleIdeal.τ).loc Cert.KernelEvenSampleIdeal.main_arg1)
          ∧ r.2.mem ((c.tc : Thread Cert.KernelEvenSampleIdeal.nD Cert.KernelEvenSampleIdeal.τ).loc Cert.KernelEvenSampleIdeal.main_arg2) = m ((c.tc : Thread Cert.KernelEvenSampleIdeal.nD Cert.KernelEvenSampleIdeal.τ).loc Cert.KernelEvenSampleIdeal.main_arg2))
      ∧ θ_run (Cert.ReferenceEvenSampleIdeal.defs (F := Ideal)) (onTc (τ := Cert.ReferenceEvenSampleIdeal.τ) (Cert.ReferenceEvenSampleIdeal.main (F := Ideal))) ⟨m', fun _ => 0, g'⟩ (fun r => ∀ c : Dev Cert.ReferenceEvenSampleIdeal.nD,
          r.2.mem ((c.tc : Thread Cert.ReferenceEvenSampleIdeal.nD Cert.ReferenceEvenSampleIdeal.τ).loc Cert.ReferenceEvenSampleIdeal.main_v21) = v0 c
          ∧ r.2.mem ((c.tc : Thread Cert.ReferenceEvenSampleIdeal.nD Cert.ReferenceEvenSampleIdeal.τ).loc Cert.ReferenceEvenSampleIdeal.main_v22) = v1 c
          ∧ r.2.mem ((c.tc : Thread Cert.ReferenceEvenSampleIdeal.nD Cert.ReferenceEvenSampleIdeal.τ).loc Cert.ReferenceEvenSampleIdeal.main_arg0) = m' ((c.tc : Thread Cert.ReferenceEvenSampleIdeal.nD Cert.ReferenceEvenSampleIdeal.τ).loc Cert.ReferenceEvenSampleIdeal.main_arg0)
          ∧ r.2.mem ((c.tc : Thread Cert.ReferenceEvenSampleIdeal.nD Cert.ReferenceEvenSampleIdeal.τ).loc Cert.ReferenceEvenSampleIdeal.main_arg1) = m' ((c.tc : Thread Cert.ReferenceEvenSampleIdeal.nD Cert.ReferenceEvenSampleIdeal.τ).loc Cert.ReferenceEvenSampleIdeal.main_arg1)
          ∧ r.2.mem ((c.tc : Thread Cert.ReferenceEvenSampleIdeal.nD Cert.ReferenceEvenSampleIdeal.τ).loc Cert.ReferenceEvenSampleIdeal.main_arg2) = m' ((c.tc : Thread Cert.ReferenceEvenSampleIdeal.nD Cert.ReferenceEvenSampleIdeal.τ).loc Cert.ReferenceEvenSampleIdeal.main_arg2))

def preserves_KernelOdd_KernelOddIdeal : Prop :=
  True

def algebraic_KernelOddIdeal_ReferenceOddIdeal [hKernelOddIdeal : Cert.KernelOddIdeal.Facts] [hReferenceOddIdeal : Cert.ReferenceOddIdeal.Facts] : Prop :=
  ∀ (m : (ℓ : Loc Cert.KernelOddIdeal.nD Cert.KernelOddIdeal.τ Cert.KernelOddIdeal.sig) → Buf (Elt Ideal) ℓ) (g : Dev Cert.KernelOddIdeal.nD → PrngReg)
    (m' : (ℓ : Loc Cert.ReferenceOddIdeal.nD Cert.ReferenceOddIdeal.τ Cert.ReferenceOddIdeal.sig) → Buf (Elt Ideal) ℓ) (g' : Dev Cert.ReferenceOddIdeal.nD → PrngReg), Pre_KernelOddIdeal m →
    (∀ c : Dev Cert.KernelOddIdeal.nD,
      m' ((c.tc : Thread Cert.ReferenceOddIdeal.nD Cert.ReferenceOddIdeal.τ).loc Cert.ReferenceOddIdeal.main_arg0) = m ((c.tc : Thread Cert.KernelOddIdeal.nD Cert.KernelOddIdeal.τ).loc Cert.KernelOddIdeal.main_arg0)
      ∧ m' ((c.tc : Thread Cert.ReferenceOddIdeal.nD Cert.ReferenceOddIdeal.τ).loc Cert.ReferenceOddIdeal.main_arg1) = m ((c.tc : Thread Cert.KernelOddIdeal.nD Cert.KernelOddIdeal.τ).loc Cert.KernelOddIdeal.main_arg1)
      ∧ m' ((c.tc : Thread Cert.ReferenceOddIdeal.nD Cert.ReferenceOddIdeal.τ).loc Cert.ReferenceOddIdeal.main_arg2) = m ((c.tc : Thread Cert.KernelOddIdeal.nD Cert.KernelOddIdeal.τ).loc Cert.KernelOddIdeal.main_arg2)) →
    ∃ (v0 : (c : Dev Cert.KernelOddIdeal.nD) → Buf (Elt Ideal) ((c.tc : Thread Cert.KernelOddIdeal.nD Cert.KernelOddIdeal.τ).loc Cert.KernelOddIdeal.main_v9)) (v1 : (c : Dev Cert.KernelOddIdeal.nD) → Buf (Elt Ideal) ((c.tc : Thread Cert.KernelOddIdeal.nD Cert.KernelOddIdeal.τ).loc Cert.KernelOddIdeal.main_v10)),
      θ_run (Cert.KernelOddIdeal.defs (F := Ideal)) (onTc (τ := Cert.KernelOddIdeal.τ) (Cert.KernelOddIdeal.main (F := Ideal))) ⟨m, fun _ => 0, g⟩ (fun r => ∀ c : Dev Cert.KernelOddIdeal.nD,
          r.2.mem ((c.tc : Thread Cert.KernelOddIdeal.nD Cert.KernelOddIdeal.τ).loc Cert.KernelOddIdeal.main_v9) = v0 c
          ∧ r.2.mem ((c.tc : Thread Cert.KernelOddIdeal.nD Cert.KernelOddIdeal.τ).loc Cert.KernelOddIdeal.main_v10) = v1 c
          ∧ r.2.mem ((c.tc : Thread Cert.KernelOddIdeal.nD Cert.KernelOddIdeal.τ).loc Cert.KernelOddIdeal.main_arg0) = m ((c.tc : Thread Cert.KernelOddIdeal.nD Cert.KernelOddIdeal.τ).loc Cert.KernelOddIdeal.main_arg0)
          ∧ r.2.mem ((c.tc : Thread Cert.KernelOddIdeal.nD Cert.KernelOddIdeal.τ).loc Cert.KernelOddIdeal.main_arg1) = m ((c.tc : Thread Cert.KernelOddIdeal.nD Cert.KernelOddIdeal.τ).loc Cert.KernelOddIdeal.main_arg1)
          ∧ r.2.mem ((c.tc : Thread Cert.KernelOddIdeal.nD Cert.KernelOddIdeal.τ).loc Cert.KernelOddIdeal.main_arg2) = m ((c.tc : Thread Cert.KernelOddIdeal.nD Cert.KernelOddIdeal.τ).loc Cert.KernelOddIdeal.main_arg2))
      ∧ θ_run (Cert.ReferenceOddIdeal.defs (F := Ideal)) (onTc (τ := Cert.ReferenceOddIdeal.τ) (Cert.ReferenceOddIdeal.main (F := Ideal))) ⟨m', fun _ => 0, g'⟩ (fun r => ∀ c : Dev Cert.ReferenceOddIdeal.nD,
          r.2.mem ((c.tc : Thread Cert.ReferenceOddIdeal.nD Cert.ReferenceOddIdeal.τ).loc Cert.ReferenceOddIdeal.main_v21) = v0 c
          ∧ r.2.mem ((c.tc : Thread Cert.ReferenceOddIdeal.nD Cert.ReferenceOddIdeal.τ).loc Cert.ReferenceOddIdeal.main_v22) = v1 c
          ∧ r.2.mem ((c.tc : Thread Cert.ReferenceOddIdeal.nD Cert.ReferenceOddIdeal.τ).loc Cert.ReferenceOddIdeal.main_arg0) = m' ((c.tc : Thread Cert.ReferenceOddIdeal.nD Cert.ReferenceOddIdeal.τ).loc Cert.ReferenceOddIdeal.main_arg0)
          ∧ r.2.mem ((c.tc : Thread Cert.ReferenceOddIdeal.nD Cert.ReferenceOddIdeal.τ).loc Cert.ReferenceOddIdeal.main_arg1) = m' ((c.tc : Thread Cert.ReferenceOddIdeal.nD Cert.ReferenceOddIdeal.τ).loc Cert.ReferenceOddIdeal.main_arg1)
          ∧ r.2.mem ((c.tc : Thread Cert.ReferenceOddIdeal.nD Cert.ReferenceOddIdeal.τ).loc Cert.ReferenceOddIdeal.main_arg2) = m' ((c.tc : Thread Cert.ReferenceOddIdeal.nD Cert.ReferenceOddIdeal.τ).loc Cert.ReferenceOddIdeal.main_arg2))

def preserves_KernelOddSample_KernelOddSampleIdeal : Prop :=
  True

def algebraic_KernelOddSampleIdeal_ReferenceOddSampleIdeal [hKernelOddSampleIdeal : Cert.KernelOddSampleIdeal.Facts] [hReferenceOddSampleIdeal : Cert.ReferenceOddSampleIdeal.Facts] : Prop :=
  ∀ (m : (ℓ : Loc Cert.KernelOddSampleIdeal.nD Cert.KernelOddSampleIdeal.τ Cert.KernelOddSampleIdeal.sig) → Buf (Elt Ideal) ℓ) (g : Dev Cert.KernelOddSampleIdeal.nD → PrngReg)
    (m' : (ℓ : Loc Cert.ReferenceOddSampleIdeal.nD Cert.ReferenceOddSampleIdeal.τ Cert.ReferenceOddSampleIdeal.sig) → Buf (Elt Ideal) ℓ) (g' : Dev Cert.ReferenceOddSampleIdeal.nD → PrngReg), Pre_KernelOddSampleIdeal m →
    (∀ c : Dev Cert.KernelOddSampleIdeal.nD,
      m' ((c.tc : Thread Cert.ReferenceOddSampleIdeal.nD Cert.ReferenceOddSampleIdeal.τ).loc Cert.ReferenceOddSampleIdeal.main_arg0) = m ((c.tc : Thread Cert.KernelOddSampleIdeal.nD Cert.KernelOddSampleIdeal.τ).loc Cert.KernelOddSampleIdeal.main_arg0)
      ∧ m' ((c.tc : Thread Cert.ReferenceOddSampleIdeal.nD Cert.ReferenceOddSampleIdeal.τ).loc Cert.ReferenceOddSampleIdeal.main_arg1) = m ((c.tc : Thread Cert.KernelOddSampleIdeal.nD Cert.KernelOddSampleIdeal.τ).loc Cert.KernelOddSampleIdeal.main_arg1)
      ∧ m' ((c.tc : Thread Cert.ReferenceOddSampleIdeal.nD Cert.ReferenceOddSampleIdeal.τ).loc Cert.ReferenceOddSampleIdeal.main_arg2) = m ((c.tc : Thread Cert.KernelOddSampleIdeal.nD Cert.KernelOddSampleIdeal.τ).loc Cert.KernelOddSampleIdeal.main_arg2)) →
    ∃ (v0 : (c : Dev Cert.KernelOddSampleIdeal.nD) → Buf (Elt Ideal) ((c.tc : Thread Cert.KernelOddSampleIdeal.nD Cert.KernelOddSampleIdeal.τ).loc Cert.KernelOddSampleIdeal.main_v9)) (v1 : (c : Dev Cert.KernelOddSampleIdeal.nD) → Buf (Elt Ideal) ((c.tc : Thread Cert.KernelOddSampleIdeal.nD Cert.KernelOddSampleIdeal.τ).loc Cert.KernelOddSampleIdeal.main_v10)),
      θ_run (Cert.KernelOddSampleIdeal.defs (F := Ideal)) (onTc (τ := Cert.KernelOddSampleIdeal.τ) (Cert.KernelOddSampleIdeal.main (F := Ideal))) ⟨m, fun _ => 0, g⟩ (fun r => ∀ c : Dev Cert.KernelOddSampleIdeal.nD,
          r.2.mem ((c.tc : Thread Cert.KernelOddSampleIdeal.nD Cert.KernelOddSampleIdeal.τ).loc Cert.KernelOddSampleIdeal.main_v9) = v0 c
          ∧ r.2.mem ((c.tc : Thread Cert.KernelOddSampleIdeal.nD Cert.KernelOddSampleIdeal.τ).loc Cert.KernelOddSampleIdeal.main_v10) = v1 c
          ∧ r.2.mem ((c.tc : Thread Cert.KernelOddSampleIdeal.nD Cert.KernelOddSampleIdeal.τ).loc Cert.KernelOddSampleIdeal.main_arg0) = m ((c.tc : Thread Cert.KernelOddSampleIdeal.nD Cert.KernelOddSampleIdeal.τ).loc Cert.KernelOddSampleIdeal.main_arg0)
          ∧ r.2.mem ((c.tc : Thread Cert.KernelOddSampleIdeal.nD Cert.KernelOddSampleIdeal.τ).loc Cert.KernelOddSampleIdeal.main_arg1) = m ((c.tc : Thread Cert.KernelOddSampleIdeal.nD Cert.KernelOddSampleIdeal.τ).loc Cert.KernelOddSampleIdeal.main_arg1)
          ∧ r.2.mem ((c.tc : Thread Cert.KernelOddSampleIdeal.nD Cert.KernelOddSampleIdeal.τ).loc Cert.KernelOddSampleIdeal.main_arg2) = m ((c.tc : Thread Cert.KernelOddSampleIdeal.nD Cert.KernelOddSampleIdeal.τ).loc Cert.KernelOddSampleIdeal.main_arg2))
      ∧ θ_run (Cert.ReferenceOddSampleIdeal.defs (F := Ideal)) (onTc (τ := Cert.ReferenceOddSampleIdeal.τ) (Cert.ReferenceOddSampleIdeal.main (F := Ideal))) ⟨m', fun _ => 0, g'⟩ (fun r => ∀ c : Dev Cert.ReferenceOddSampleIdeal.nD,
          r.2.mem ((c.tc : Thread Cert.ReferenceOddSampleIdeal.nD Cert.ReferenceOddSampleIdeal.τ).loc Cert.ReferenceOddSampleIdeal.main_v21) = v0 c
          ∧ r.2.mem ((c.tc : Thread Cert.ReferenceOddSampleIdeal.nD Cert.ReferenceOddSampleIdeal.τ).loc Cert.ReferenceOddSampleIdeal.main_v22) = v1 c
          ∧ r.2.mem ((c.tc : Thread Cert.ReferenceOddSampleIdeal.nD Cert.ReferenceOddSampleIdeal.τ).loc Cert.ReferenceOddSampleIdeal.main_arg0) = m' ((c.tc : Thread Cert.ReferenceOddSampleIdeal.nD Cert.ReferenceOddSampleIdeal.τ).loc Cert.ReferenceOddSampleIdeal.main_arg0)
          ∧ r.2.mem ((c.tc : Thread Cert.ReferenceOddSampleIdeal.nD Cert.ReferenceOddSampleIdeal.τ).loc Cert.ReferenceOddSampleIdeal.main_arg1) = m' ((c.tc : Thread Cert.ReferenceOddSampleIdeal.nD Cert.ReferenceOddSampleIdeal.τ).loc Cert.ReferenceOddSampleIdeal.main_arg1)
          ∧ r.2.mem ((c.tc : Thread Cert.ReferenceOddSampleIdeal.nD Cert.ReferenceOddSampleIdeal.τ).loc Cert.ReferenceOddSampleIdeal.main_arg2) = m' ((c.tc : Thread Cert.ReferenceOddSampleIdeal.nD Cert.ReferenceOddSampleIdeal.τ).loc Cert.ReferenceOddSampleIdeal.main_arg2))

def preserves_S5Sample_S5SampleIdeal : Prop :=
  True

def algebraic_S5SampleIdeal_ReferenceS5SampleIdeal [hS5SampleIdeal : Cert.S5SampleIdeal.Facts] [hReferenceS5SampleIdeal : Cert.ReferenceS5SampleIdeal.Facts] : Prop :=
  ∀ (m : (ℓ : Loc Cert.S5SampleIdeal.nD Cert.S5SampleIdeal.τ Cert.S5SampleIdeal.sig) → Buf (Elt Ideal) ℓ) (g : Dev Cert.S5SampleIdeal.nD → PrngReg)
    (m' : (ℓ : Loc Cert.ReferenceS5SampleIdeal.nD Cert.ReferenceS5SampleIdeal.τ Cert.ReferenceS5SampleIdeal.sig) → Buf (Elt Ideal) ℓ) (g' : Dev Cert.ReferenceS5SampleIdeal.nD → PrngReg), Pre_S5SampleIdeal m →
    (∀ c : Dev Cert.S5SampleIdeal.nD,
      m' ((c.tc : Thread Cert.ReferenceS5SampleIdeal.nD Cert.ReferenceS5SampleIdeal.τ).loc Cert.ReferenceS5SampleIdeal.main_arg0) = m ((c.tc : Thread Cert.S5SampleIdeal.nD Cert.S5SampleIdeal.τ).loc Cert.S5SampleIdeal.main_arg0)
      ∧ m' ((c.tc : Thread Cert.ReferenceS5SampleIdeal.nD Cert.ReferenceS5SampleIdeal.τ).loc Cert.ReferenceS5SampleIdeal.main_arg1) = m ((c.tc : Thread Cert.S5SampleIdeal.nD Cert.S5SampleIdeal.τ).loc Cert.S5SampleIdeal.main_arg1)
      ∧ m' ((c.tc : Thread Cert.ReferenceS5SampleIdeal.nD Cert.ReferenceS5SampleIdeal.τ).loc Cert.ReferenceS5SampleIdeal.main_arg2) = m ((c.tc : Thread Cert.S5SampleIdeal.nD Cert.S5SampleIdeal.τ).loc Cert.S5SampleIdeal.main_arg2)
      ∧ m' ((c.tc : Thread Cert.ReferenceS5SampleIdeal.nD Cert.ReferenceS5SampleIdeal.τ).loc Cert.ReferenceS5SampleIdeal.main_arg3) = m ((c.tc : Thread Cert.S5SampleIdeal.nD Cert.S5SampleIdeal.τ).loc Cert.S5SampleIdeal.main_arg3)
      ∧ m' ((c.tc : Thread Cert.ReferenceS5SampleIdeal.nD Cert.ReferenceS5SampleIdeal.τ).loc Cert.ReferenceS5SampleIdeal.main_arg4) = m ((c.tc : Thread Cert.S5SampleIdeal.nD Cert.S5SampleIdeal.τ).loc Cert.S5SampleIdeal.main_arg4)
      ∧ m' ((c.tc : Thread Cert.ReferenceS5SampleIdeal.nD Cert.ReferenceS5SampleIdeal.τ).loc Cert.ReferenceS5SampleIdeal.main_arg5) = m ((c.tc : Thread Cert.S5SampleIdeal.nD Cert.S5SampleIdeal.τ).loc Cert.S5SampleIdeal.main_arg5)
      ∧ m' ((c.tc : Thread Cert.ReferenceS5SampleIdeal.nD Cert.ReferenceS5SampleIdeal.τ).loc Cert.ReferenceS5SampleIdeal.main_arg6) = m ((c.tc : Thread Cert.S5SampleIdeal.nD Cert.S5SampleIdeal.τ).loc Cert.S5SampleIdeal.main_arg6)
      ∧ m' ((c.tc : Thread Cert.ReferenceS5SampleIdeal.nD Cert.ReferenceS5SampleIdeal.τ).loc Cert.ReferenceS5SampleIdeal.main_arg7) = m ((c.tc : Thread Cert.S5SampleIdeal.nD Cert.S5SampleIdeal.τ).loc Cert.S5SampleIdeal.main_arg7)
      ∧ m' ((c.tc : Thread Cert.ReferenceS5SampleIdeal.nD Cert.ReferenceS5SampleIdeal.τ).loc Cert.ReferenceS5SampleIdeal.main_arg8) = m ((c.tc : Thread Cert.S5SampleIdeal.nD Cert.S5SampleIdeal.τ).loc Cert.S5SampleIdeal.main_arg8)
      ∧ m' ((c.tc : Thread Cert.ReferenceS5SampleIdeal.nD Cert.ReferenceS5SampleIdeal.τ).loc Cert.ReferenceS5SampleIdeal.main_arg9) = m ((c.tc : Thread Cert.S5SampleIdeal.nD Cert.S5SampleIdeal.τ).loc Cert.S5SampleIdeal.main_arg9)
      ∧ m' ((c.tc : Thread Cert.ReferenceS5SampleIdeal.nD Cert.ReferenceS5SampleIdeal.τ).loc Cert.ReferenceS5SampleIdeal.main_arg10) = m ((c.tc : Thread Cert.S5SampleIdeal.nD Cert.S5SampleIdeal.τ).loc Cert.S5SampleIdeal.main_arg10)
      ∧ m' ((c.tc : Thread Cert.ReferenceS5SampleIdeal.nD Cert.ReferenceS5SampleIdeal.τ).loc Cert.ReferenceS5SampleIdeal.main_arg11) = m ((c.tc : Thread Cert.S5SampleIdeal.nD Cert.S5SampleIdeal.τ).loc Cert.S5SampleIdeal.main_arg11)
      ∧ m' ((c.tc : Thread Cert.ReferenceS5SampleIdeal.nD Cert.ReferenceS5SampleIdeal.τ).loc Cert.ReferenceS5SampleIdeal.main_arg12) = m ((c.tc : Thread Cert.S5SampleIdeal.nD Cert.S5SampleIdeal.τ).loc Cert.S5SampleIdeal.main_arg12)) →
    ∃ (v0 : (c : Dev Cert.S5SampleIdeal.nD) → Buf (Elt Ideal) ((c.tc : Thread Cert.S5SampleIdeal.nD Cert.S5SampleIdeal.τ).loc Cert.S5SampleIdeal.main_v114)) (v1 : (c : Dev Cert.S5SampleIdeal.nD) → Buf (Elt Ideal) ((c.tc : Thread Cert.S5SampleIdeal.nD Cert.S5SampleIdeal.τ).loc Cert.S5SampleIdeal.main_v115)),
      θ_run (Cert.S5SampleIdeal.defs (F := Ideal)) (onTc (τ := Cert.S5SampleIdeal.τ) (Cert.S5SampleIdeal.main (F := Ideal))) ⟨m, fun _ => 0, g⟩ (fun r => ∀ c : Dev Cert.S5SampleIdeal.nD,
          r.2.mem ((c.tc : Thread Cert.S5SampleIdeal.nD Cert.S5SampleIdeal.τ).loc Cert.S5SampleIdeal.main_v114) = v0 c
          ∧ r.2.mem ((c.tc : Thread Cert.S5SampleIdeal.nD Cert.S5SampleIdeal.τ).loc Cert.S5SampleIdeal.main_v115) = v1 c
          ∧ r.2.mem ((c.tc : Thread Cert.S5SampleIdeal.nD Cert.S5SampleIdeal.τ).loc Cert.S5SampleIdeal.main_arg0) = m ((c.tc : Thread Cert.S5SampleIdeal.nD Cert.S5SampleIdeal.τ).loc Cert.S5SampleIdeal.main_arg0)
          ∧ r.2.mem ((c.tc : Thread Cert.S5SampleIdeal.nD Cert.S5SampleIdeal.τ).loc Cert.S5SampleIdeal.main_arg1) = m ((c.tc : Thread Cert.S5SampleIdeal.nD Cert.S5SampleIdeal.τ).loc Cert.S5SampleIdeal.main_arg1)
          ∧ r.2.mem ((c.tc : Thread Cert.S5SampleIdeal.nD Cert.S5SampleIdeal.τ).loc Cert.S5SampleIdeal.main_arg2) = m ((c.tc : Thread Cert.S5SampleIdeal.nD Cert.S5SampleIdeal.τ).loc Cert.S5SampleIdeal.main_arg2)
          ∧ r.2.mem ((c.tc : Thread Cert.S5SampleIdeal.nD Cert.S5SampleIdeal.τ).loc Cert.S5SampleIdeal.main_arg3) = m ((c.tc : Thread Cert.S5SampleIdeal.nD Cert.S5SampleIdeal.τ).loc Cert.S5SampleIdeal.main_arg3)
          ∧ r.2.mem ((c.tc : Thread Cert.S5SampleIdeal.nD Cert.S5SampleIdeal.τ).loc Cert.S5SampleIdeal.main_arg4) = m ((c.tc : Thread Cert.S5SampleIdeal.nD Cert.S5SampleIdeal.τ).loc Cert.S5SampleIdeal.main_arg4)
          ∧ r.2.mem ((c.tc : Thread Cert.S5SampleIdeal.nD Cert.S5SampleIdeal.τ).loc Cert.S5SampleIdeal.main_arg5) = m ((c.tc : Thread Cert.S5SampleIdeal.nD Cert.S5SampleIdeal.τ).loc Cert.S5SampleIdeal.main_arg5)
          ∧ r.2.mem ((c.tc : Thread Cert.S5SampleIdeal.nD Cert.S5SampleIdeal.τ).loc Cert.S5SampleIdeal.main_arg6) = m ((c.tc : Thread Cert.S5SampleIdeal.nD Cert.S5SampleIdeal.τ).loc Cert.S5SampleIdeal.main_arg6)
          ∧ r.2.mem ((c.tc : Thread Cert.S5SampleIdeal.nD Cert.S5SampleIdeal.τ).loc Cert.S5SampleIdeal.main_arg7) = m ((c.tc : Thread Cert.S5SampleIdeal.nD Cert.S5SampleIdeal.τ).loc Cert.S5SampleIdeal.main_arg7)
          ∧ r.2.mem ((c.tc : Thread Cert.S5SampleIdeal.nD Cert.S5SampleIdeal.τ).loc Cert.S5SampleIdeal.main_arg8) = m ((c.tc : Thread Cert.S5SampleIdeal.nD Cert.S5SampleIdeal.τ).loc Cert.S5SampleIdeal.main_arg8)
          ∧ r.2.mem ((c.tc : Thread Cert.S5SampleIdeal.nD Cert.S5SampleIdeal.τ).loc Cert.S5SampleIdeal.main_arg9) = m ((c.tc : Thread Cert.S5SampleIdeal.nD Cert.S5SampleIdeal.τ).loc Cert.S5SampleIdeal.main_arg9)
          ∧ r.2.mem ((c.tc : Thread Cert.S5SampleIdeal.nD Cert.S5SampleIdeal.τ).loc Cert.S5SampleIdeal.main_arg10) = m ((c.tc : Thread Cert.S5SampleIdeal.nD Cert.S5SampleIdeal.τ).loc Cert.S5SampleIdeal.main_arg10)
          ∧ r.2.mem ((c.tc : Thread Cert.S5SampleIdeal.nD Cert.S5SampleIdeal.τ).loc Cert.S5SampleIdeal.main_arg11) = m ((c.tc : Thread Cert.S5SampleIdeal.nD Cert.S5SampleIdeal.τ).loc Cert.S5SampleIdeal.main_arg11)
          ∧ r.2.mem ((c.tc : Thread Cert.S5SampleIdeal.nD Cert.S5SampleIdeal.τ).loc Cert.S5SampleIdeal.main_arg12) = m ((c.tc : Thread Cert.S5SampleIdeal.nD Cert.S5SampleIdeal.τ).loc Cert.S5SampleIdeal.main_arg12))
      ∧ θ_run (Cert.ReferenceS5SampleIdeal.defs (F := Ideal)) (onTc (τ := Cert.ReferenceS5SampleIdeal.τ) (Cert.ReferenceS5SampleIdeal.main (F := Ideal))) ⟨m', fun _ => 0, g'⟩ (fun r => ∀ c : Dev Cert.ReferenceS5SampleIdeal.nD,
          r.2.mem ((c.tc : Thread Cert.ReferenceS5SampleIdeal.nD Cert.ReferenceS5SampleIdeal.τ).loc Cert.ReferenceS5SampleIdeal.main_v213) = v0 c
          ∧ r.2.mem ((c.tc : Thread Cert.ReferenceS5SampleIdeal.nD Cert.ReferenceS5SampleIdeal.τ).loc Cert.ReferenceS5SampleIdeal.main_v214) = v1 c
          ∧ r.2.mem ((c.tc : Thread Cert.ReferenceS5SampleIdeal.nD Cert.ReferenceS5SampleIdeal.τ).loc Cert.ReferenceS5SampleIdeal.main_arg0) = m' ((c.tc : Thread Cert.ReferenceS5SampleIdeal.nD Cert.ReferenceS5SampleIdeal.τ).loc Cert.ReferenceS5SampleIdeal.main_arg0)
          ∧ r.2.mem ((c.tc : Thread Cert.ReferenceS5SampleIdeal.nD Cert.ReferenceS5SampleIdeal.τ).loc Cert.ReferenceS5SampleIdeal.main_arg1) = m' ((c.tc : Thread Cert.ReferenceS5SampleIdeal.nD Cert.ReferenceS5SampleIdeal.τ).loc Cert.ReferenceS5SampleIdeal.main_arg1)
          ∧ r.2.mem ((c.tc : Thread Cert.ReferenceS5SampleIdeal.nD Cert.ReferenceS5SampleIdeal.τ).loc Cert.ReferenceS5SampleIdeal.main_arg2) = m' ((c.tc : Thread Cert.ReferenceS5SampleIdeal.nD Cert.ReferenceS5SampleIdeal.τ).loc Cert.ReferenceS5SampleIdeal.main_arg2)
          ∧ r.2.mem ((c.tc : Thread Cert.ReferenceS5SampleIdeal.nD Cert.ReferenceS5SampleIdeal.τ).loc Cert.ReferenceS5SampleIdeal.main_arg3) = m' ((c.tc : Thread Cert.ReferenceS5SampleIdeal.nD Cert.ReferenceS5SampleIdeal.τ).loc Cert.ReferenceS5SampleIdeal.main_arg3)
          ∧ r.2.mem ((c.tc : Thread Cert.ReferenceS5SampleIdeal.nD Cert.ReferenceS5SampleIdeal.τ).loc Cert.ReferenceS5SampleIdeal.main_arg4) = m' ((c.tc : Thread Cert.ReferenceS5SampleIdeal.nD Cert.ReferenceS5SampleIdeal.τ).loc Cert.ReferenceS5SampleIdeal.main_arg4)
          ∧ r.2.mem ((c.tc : Thread Cert.ReferenceS5SampleIdeal.nD Cert.ReferenceS5SampleIdeal.τ).loc Cert.ReferenceS5SampleIdeal.main_arg5) = m' ((c.tc : Thread Cert.ReferenceS5SampleIdeal.nD Cert.ReferenceS5SampleIdeal.τ).loc Cert.ReferenceS5SampleIdeal.main_arg5)
          ∧ r.2.mem ((c.tc : Thread Cert.ReferenceS5SampleIdeal.nD Cert.ReferenceS5SampleIdeal.τ).loc Cert.ReferenceS5SampleIdeal.main_arg6) = m' ((c.tc : Thread Cert.ReferenceS5SampleIdeal.nD Cert.ReferenceS5SampleIdeal.τ).loc Cert.ReferenceS5SampleIdeal.main_arg6)
          ∧ r.2.mem ((c.tc : Thread Cert.ReferenceS5SampleIdeal.nD Cert.ReferenceS5SampleIdeal.τ).loc Cert.ReferenceS5SampleIdeal.main_arg7) = m' ((c.tc : Thread Cert.ReferenceS5SampleIdeal.nD Cert.ReferenceS5SampleIdeal.τ).loc Cert.ReferenceS5SampleIdeal.main_arg7)
          ∧ r.2.mem ((c.tc : Thread Cert.ReferenceS5SampleIdeal.nD Cert.ReferenceS5SampleIdeal.τ).loc Cert.ReferenceS5SampleIdeal.main_arg8) = m' ((c.tc : Thread Cert.ReferenceS5SampleIdeal.nD Cert.ReferenceS5SampleIdeal.τ).loc Cert.ReferenceS5SampleIdeal.main_arg8)
          ∧ r.2.mem ((c.tc : Thread Cert.ReferenceS5SampleIdeal.nD Cert.ReferenceS5SampleIdeal.τ).loc Cert.ReferenceS5SampleIdeal.main_arg9) = m' ((c.tc : Thread Cert.ReferenceS5SampleIdeal.nD Cert.ReferenceS5SampleIdeal.τ).loc Cert.ReferenceS5SampleIdeal.main_arg9)
          ∧ r.2.mem ((c.tc : Thread Cert.ReferenceS5SampleIdeal.nD Cert.ReferenceS5SampleIdeal.τ).loc Cert.ReferenceS5SampleIdeal.main_arg10) = m' ((c.tc : Thread Cert.ReferenceS5SampleIdeal.nD Cert.ReferenceS5SampleIdeal.τ).loc Cert.ReferenceS5SampleIdeal.main_arg10)
          ∧ r.2.mem ((c.tc : Thread Cert.ReferenceS5SampleIdeal.nD Cert.ReferenceS5SampleIdeal.τ).loc Cert.ReferenceS5SampleIdeal.main_arg11) = m' ((c.tc : Thread Cert.ReferenceS5SampleIdeal.nD Cert.ReferenceS5SampleIdeal.τ).loc Cert.ReferenceS5SampleIdeal.main_arg11)
          ∧ r.2.mem ((c.tc : Thread Cert.ReferenceS5SampleIdeal.nD Cert.ReferenceS5SampleIdeal.τ).loc Cert.ReferenceS5SampleIdeal.main_arg12) = m' ((c.tc : Thread Cert.ReferenceS5SampleIdeal.nD Cert.ReferenceS5SampleIdeal.τ).loc Cert.ReferenceS5SampleIdeal.main_arg12))

def preserves_S5Prompt_S5PromptIdeal : Prop :=
  True

def algebraic_S5PromptIdeal_ReferenceS5PromptIdeal [hS5PromptIdeal : Cert.S5PromptIdeal.Facts] [hReferenceS5PromptIdeal : Cert.ReferenceS5PromptIdeal.Facts] : Prop :=
  ∀ (m : (ℓ : Loc Cert.S5PromptIdeal.nD Cert.S5PromptIdeal.τ Cert.S5PromptIdeal.sig) → Buf (Elt Ideal) ℓ) (g : Dev Cert.S5PromptIdeal.nD → PrngReg)
    (m' : (ℓ : Loc Cert.ReferenceS5PromptIdeal.nD Cert.ReferenceS5PromptIdeal.τ Cert.ReferenceS5PromptIdeal.sig) → Buf (Elt Ideal) ℓ) (g' : Dev Cert.ReferenceS5PromptIdeal.nD → PrngReg), Pre_S5PromptIdeal m →
    (∀ c : Dev Cert.S5PromptIdeal.nD,
      m' ((c.tc : Thread Cert.ReferenceS5PromptIdeal.nD Cert.ReferenceS5PromptIdeal.τ).loc Cert.ReferenceS5PromptIdeal.main_arg0) = m ((c.tc : Thread Cert.S5PromptIdeal.nD Cert.S5PromptIdeal.τ).loc Cert.S5PromptIdeal.main_arg0)
      ∧ m' ((c.tc : Thread Cert.ReferenceS5PromptIdeal.nD Cert.ReferenceS5PromptIdeal.τ).loc Cert.ReferenceS5PromptIdeal.main_arg1) = m ((c.tc : Thread Cert.S5PromptIdeal.nD Cert.S5PromptIdeal.τ).loc Cert.S5PromptIdeal.main_arg1)
      ∧ m' ((c.tc : Thread Cert.ReferenceS5PromptIdeal.nD Cert.ReferenceS5PromptIdeal.τ).loc Cert.ReferenceS5PromptIdeal.main_arg2) = m ((c.tc : Thread Cert.S5PromptIdeal.nD Cert.S5PromptIdeal.τ).loc Cert.S5PromptIdeal.main_arg2)
      ∧ m' ((c.tc : Thread Cert.ReferenceS5PromptIdeal.nD Cert.ReferenceS5PromptIdeal.τ).loc Cert.ReferenceS5PromptIdeal.main_arg3) = m ((c.tc : Thread Cert.S5PromptIdeal.nD Cert.S5PromptIdeal.τ).loc Cert.S5PromptIdeal.main_arg3)
      ∧ m' ((c.tc : Thread Cert.ReferenceS5PromptIdeal.nD Cert.ReferenceS5PromptIdeal.τ).loc Cert.ReferenceS5PromptIdeal.main_arg4) = m ((c.tc : Thread Cert.S5PromptIdeal.nD Cert.S5PromptIdeal.τ).loc Cert.S5PromptIdeal.main_arg4)
      ∧ m' ((c.tc : Thread Cert.ReferenceS5PromptIdeal.nD Cert.ReferenceS5PromptIdeal.τ).loc Cert.ReferenceS5PromptIdeal.main_arg5) = m ((c.tc : Thread Cert.S5PromptIdeal.nD Cert.S5PromptIdeal.τ).loc Cert.S5PromptIdeal.main_arg5)
      ∧ m' ((c.tc : Thread Cert.ReferenceS5PromptIdeal.nD Cert.ReferenceS5PromptIdeal.τ).loc Cert.ReferenceS5PromptIdeal.main_arg6) = m ((c.tc : Thread Cert.S5PromptIdeal.nD Cert.S5PromptIdeal.τ).loc Cert.S5PromptIdeal.main_arg6)
      ∧ m' ((c.tc : Thread Cert.ReferenceS5PromptIdeal.nD Cert.ReferenceS5PromptIdeal.τ).loc Cert.ReferenceS5PromptIdeal.main_arg7) = m ((c.tc : Thread Cert.S5PromptIdeal.nD Cert.S5PromptIdeal.τ).loc Cert.S5PromptIdeal.main_arg7)
      ∧ m' ((c.tc : Thread Cert.ReferenceS5PromptIdeal.nD Cert.ReferenceS5PromptIdeal.τ).loc Cert.ReferenceS5PromptIdeal.main_arg8) = m ((c.tc : Thread Cert.S5PromptIdeal.nD Cert.S5PromptIdeal.τ).loc Cert.S5PromptIdeal.main_arg8)
      ∧ m' ((c.tc : Thread Cert.ReferenceS5PromptIdeal.nD Cert.ReferenceS5PromptIdeal.τ).loc Cert.ReferenceS5PromptIdeal.main_arg9) = m ((c.tc : Thread Cert.S5PromptIdeal.nD Cert.S5PromptIdeal.τ).loc Cert.S5PromptIdeal.main_arg9)
      ∧ m' ((c.tc : Thread Cert.ReferenceS5PromptIdeal.nD Cert.ReferenceS5PromptIdeal.τ).loc Cert.ReferenceS5PromptIdeal.main_arg10) = m ((c.tc : Thread Cert.S5PromptIdeal.nD Cert.S5PromptIdeal.τ).loc Cert.S5PromptIdeal.main_arg10)) →
    ∃ (v0 : (c : Dev Cert.S5PromptIdeal.nD) → Buf (Elt Ideal) ((c.tc : Thread Cert.S5PromptIdeal.nD Cert.S5PromptIdeal.τ).loc Cert.S5PromptIdeal.main_v110)) (v1 : (c : Dev Cert.S5PromptIdeal.nD) → Buf (Elt Ideal) ((c.tc : Thread Cert.S5PromptIdeal.nD Cert.S5PromptIdeal.τ).loc Cert.S5PromptIdeal.main_v111)),
      θ_run (Cert.S5PromptIdeal.defs (F := Ideal)) (onTc (τ := Cert.S5PromptIdeal.τ) (Cert.S5PromptIdeal.main (F := Ideal))) ⟨m, fun _ => 0, g⟩ (fun r => ∀ c : Dev Cert.S5PromptIdeal.nD,
          r.2.mem ((c.tc : Thread Cert.S5PromptIdeal.nD Cert.S5PromptIdeal.τ).loc Cert.S5PromptIdeal.main_v110) = v0 c
          ∧ r.2.mem ((c.tc : Thread Cert.S5PromptIdeal.nD Cert.S5PromptIdeal.τ).loc Cert.S5PromptIdeal.main_v111) = v1 c
          ∧ r.2.mem ((c.tc : Thread Cert.S5PromptIdeal.nD Cert.S5PromptIdeal.τ).loc Cert.S5PromptIdeal.main_arg0) = m ((c.tc : Thread Cert.S5PromptIdeal.nD Cert.S5PromptIdeal.τ).loc Cert.S5PromptIdeal.main_arg0)
          ∧ r.2.mem ((c.tc : Thread Cert.S5PromptIdeal.nD Cert.S5PromptIdeal.τ).loc Cert.S5PromptIdeal.main_arg1) = m ((c.tc : Thread Cert.S5PromptIdeal.nD Cert.S5PromptIdeal.τ).loc Cert.S5PromptIdeal.main_arg1)
          ∧ r.2.mem ((c.tc : Thread Cert.S5PromptIdeal.nD Cert.S5PromptIdeal.τ).loc Cert.S5PromptIdeal.main_arg2) = m ((c.tc : Thread Cert.S5PromptIdeal.nD Cert.S5PromptIdeal.τ).loc Cert.S5PromptIdeal.main_arg2)
          ∧ r.2.mem ((c.tc : Thread Cert.S5PromptIdeal.nD Cert.S5PromptIdeal.τ).loc Cert.S5PromptIdeal.main_arg3) = m ((c.tc : Thread Cert.S5PromptIdeal.nD Cert.S5PromptIdeal.τ).loc Cert.S5PromptIdeal.main_arg3)
          ∧ r.2.mem ((c.tc : Thread Cert.S5PromptIdeal.nD Cert.S5PromptIdeal.τ).loc Cert.S5PromptIdeal.main_arg4) = m ((c.tc : Thread Cert.S5PromptIdeal.nD Cert.S5PromptIdeal.τ).loc Cert.S5PromptIdeal.main_arg4)
          ∧ r.2.mem ((c.tc : Thread Cert.S5PromptIdeal.nD Cert.S5PromptIdeal.τ).loc Cert.S5PromptIdeal.main_arg5) = m ((c.tc : Thread Cert.S5PromptIdeal.nD Cert.S5PromptIdeal.τ).loc Cert.S5PromptIdeal.main_arg5)
          ∧ r.2.mem ((c.tc : Thread Cert.S5PromptIdeal.nD Cert.S5PromptIdeal.τ).loc Cert.S5PromptIdeal.main_arg6) = m ((c.tc : Thread Cert.S5PromptIdeal.nD Cert.S5PromptIdeal.τ).loc Cert.S5PromptIdeal.main_arg6)
          ∧ r.2.mem ((c.tc : Thread Cert.S5PromptIdeal.nD Cert.S5PromptIdeal.τ).loc Cert.S5PromptIdeal.main_arg7) = m ((c.tc : Thread Cert.S5PromptIdeal.nD Cert.S5PromptIdeal.τ).loc Cert.S5PromptIdeal.main_arg7)
          ∧ r.2.mem ((c.tc : Thread Cert.S5PromptIdeal.nD Cert.S5PromptIdeal.τ).loc Cert.S5PromptIdeal.main_arg8) = m ((c.tc : Thread Cert.S5PromptIdeal.nD Cert.S5PromptIdeal.τ).loc Cert.S5PromptIdeal.main_arg8)
          ∧ r.2.mem ((c.tc : Thread Cert.S5PromptIdeal.nD Cert.S5PromptIdeal.τ).loc Cert.S5PromptIdeal.main_arg9) = m ((c.tc : Thread Cert.S5PromptIdeal.nD Cert.S5PromptIdeal.τ).loc Cert.S5PromptIdeal.main_arg9)
          ∧ r.2.mem ((c.tc : Thread Cert.S5PromptIdeal.nD Cert.S5PromptIdeal.τ).loc Cert.S5PromptIdeal.main_arg10) = m ((c.tc : Thread Cert.S5PromptIdeal.nD Cert.S5PromptIdeal.τ).loc Cert.S5PromptIdeal.main_arg10))
      ∧ θ_run (Cert.ReferenceS5PromptIdeal.defs (F := Ideal)) (onTc (τ := Cert.ReferenceS5PromptIdeal.τ) (Cert.ReferenceS5PromptIdeal.main (F := Ideal))) ⟨m', fun _ => 0, g'⟩ (fun r => ∀ c : Dev Cert.ReferenceS5PromptIdeal.nD,
          r.2.mem ((c.tc : Thread Cert.ReferenceS5PromptIdeal.nD Cert.ReferenceS5PromptIdeal.τ).loc Cert.ReferenceS5PromptIdeal.main_v53) = v0 c
          ∧ r.2.mem ((c.tc : Thread Cert.ReferenceS5PromptIdeal.nD Cert.ReferenceS5PromptIdeal.τ).loc Cert.ReferenceS5PromptIdeal.main_v54) = v1 c
          ∧ r.2.mem ((c.tc : Thread Cert.ReferenceS5PromptIdeal.nD Cert.ReferenceS5PromptIdeal.τ).loc Cert.ReferenceS5PromptIdeal.main_arg0) = m' ((c.tc : Thread Cert.ReferenceS5PromptIdeal.nD Cert.ReferenceS5PromptIdeal.τ).loc Cert.ReferenceS5PromptIdeal.main_arg0)
          ∧ r.2.mem ((c.tc : Thread Cert.ReferenceS5PromptIdeal.nD Cert.ReferenceS5PromptIdeal.τ).loc Cert.ReferenceS5PromptIdeal.main_arg1) = m' ((c.tc : Thread Cert.ReferenceS5PromptIdeal.nD Cert.ReferenceS5PromptIdeal.τ).loc Cert.ReferenceS5PromptIdeal.main_arg1)
          ∧ r.2.mem ((c.tc : Thread Cert.ReferenceS5PromptIdeal.nD Cert.ReferenceS5PromptIdeal.τ).loc Cert.ReferenceS5PromptIdeal.main_arg2) = m' ((c.tc : Thread Cert.ReferenceS5PromptIdeal.nD Cert.ReferenceS5PromptIdeal.τ).loc Cert.ReferenceS5PromptIdeal.main_arg2)
          ∧ r.2.mem ((c.tc : Thread Cert.ReferenceS5PromptIdeal.nD Cert.ReferenceS5PromptIdeal.τ).loc Cert.ReferenceS5PromptIdeal.main_arg3) = m' ((c.tc : Thread Cert.ReferenceS5PromptIdeal.nD Cert.ReferenceS5PromptIdeal.τ).loc Cert.ReferenceS5PromptIdeal.main_arg3)
          ∧ r.2.mem ((c.tc : Thread Cert.ReferenceS5PromptIdeal.nD Cert.ReferenceS5PromptIdeal.τ).loc Cert.ReferenceS5PromptIdeal.main_arg4) = m' ((c.tc : Thread Cert.ReferenceS5PromptIdeal.nD Cert.ReferenceS5PromptIdeal.τ).loc Cert.ReferenceS5PromptIdeal.main_arg4)
          ∧ r.2.mem ((c.tc : Thread Cert.ReferenceS5PromptIdeal.nD Cert.ReferenceS5PromptIdeal.τ).loc Cert.ReferenceS5PromptIdeal.main_arg5) = m' ((c.tc : Thread Cert.ReferenceS5PromptIdeal.nD Cert.ReferenceS5PromptIdeal.τ).loc Cert.ReferenceS5PromptIdeal.main_arg5)
          ∧ r.2.mem ((c.tc : Thread Cert.ReferenceS5PromptIdeal.nD Cert.ReferenceS5PromptIdeal.τ).loc Cert.ReferenceS5PromptIdeal.main_arg6) = m' ((c.tc : Thread Cert.ReferenceS5PromptIdeal.nD Cert.ReferenceS5PromptIdeal.τ).loc Cert.ReferenceS5PromptIdeal.main_arg6)
          ∧ r.2.mem ((c.tc : Thread Cert.ReferenceS5PromptIdeal.nD Cert.ReferenceS5PromptIdeal.τ).loc Cert.ReferenceS5PromptIdeal.main_arg7) = m' ((c.tc : Thread Cert.ReferenceS5PromptIdeal.nD Cert.ReferenceS5PromptIdeal.τ).loc Cert.ReferenceS5PromptIdeal.main_arg7)
          ∧ r.2.mem ((c.tc : Thread Cert.ReferenceS5PromptIdeal.nD Cert.ReferenceS5PromptIdeal.τ).loc Cert.ReferenceS5PromptIdeal.main_arg8) = m' ((c.tc : Thread Cert.ReferenceS5PromptIdeal.nD Cert.ReferenceS5PromptIdeal.τ).loc Cert.ReferenceS5PromptIdeal.main_arg8)
          ∧ r.2.mem ((c.tc : Thread Cert.ReferenceS5PromptIdeal.nD Cert.ReferenceS5PromptIdeal.τ).loc Cert.ReferenceS5PromptIdeal.main_arg9) = m' ((c.tc : Thread Cert.ReferenceS5PromptIdeal.nD Cert.ReferenceS5PromptIdeal.τ).loc Cert.ReferenceS5PromptIdeal.main_arg9)
          ∧ r.2.mem ((c.tc : Thread Cert.ReferenceS5PromptIdeal.nD Cert.ReferenceS5PromptIdeal.τ).loc Cert.ReferenceS5PromptIdeal.main_arg10) = m' ((c.tc : Thread Cert.ReferenceS5PromptIdeal.nD Cert.ReferenceS5PromptIdeal.τ).loc Cert.ReferenceS5PromptIdeal.main_arg10))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)) →
    ∃ (v0 : (c : Dev Cert.KernelFfnIdeal.nD) → Buf (Elt Ideal) ((c.tc : Thread Cert.KernelFfnIdeal.nD Cert.KernelFfnIdeal.τ).loc Cert.KernelFfnIdeal.main_v6)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v6) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v23) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4))

def Claim : Prop :=
  ∃ (hKernel : Cert.Kernel.Facts) (hKernelIdeal : Cert.KernelIdeal.Facts) (hReferenceIdeal : Cert.ReferenceIdeal.Facts) (hKernelEven : Cert.KernelEven.Facts) (hKernelEvenIdeal : Cert.KernelEvenIdeal.Facts) (hReferenceEvenIdeal : Cert.ReferenceEvenIdeal.Facts) (hKernelEvenSample : Cert.KernelEvenSample.Facts) (hKernelEvenSampleIdeal : Cert.KernelEvenSampleIdeal.Facts) (hReferenceEvenSampleIdeal : Cert.ReferenceEvenSampleIdeal.Facts) (hKernelOdd : Cert.KernelOdd.Facts) (hKernelOddIdeal : Cert.KernelOddIdeal.Facts) (hReferenceOddIdeal : Cert.ReferenceOddIdeal.Facts) (hKernelOddSample : Cert.KernelOddSample.Facts) (hKernelOddSampleIdeal : Cert.KernelOddSampleIdeal.Facts) (hReferenceOddSampleIdeal : Cert.ReferenceOddSampleIdeal.Facts) (hS5Sample : Cert.S5Sample.Facts) (hS5SampleIdeal : Cert.S5SampleIdeal.Facts) (hReferenceS5SampleIdeal : Cert.ReferenceS5SampleIdeal.Facts) (hS5Prompt : Cert.S5Prompt.Facts) (hS5PromptIdeal : Cert.S5PromptIdeal.Facts) (hReferenceS5PromptIdeal : Cert.ReferenceS5PromptIdeal.Facts) (hKernelFfn : Cert.KernelFfn.Facts) (hKernelFfnIdeal : Cert.KernelFfnIdeal.Facts) (hReferenceFfnIdeal : Cert.ReferenceFfnIdeal.Facts) (hPre_expert_in_range : Cert.Pre_expert_in_range.Facts),
    quiescent_Kernel (hKernel := hKernel) (hPre_expert_in_range := hPre_expert_in_range)
    ∧ quiescent_KernelIdeal (hKernelIdeal := hKernelIdeal) (hPre_expert_in_range := hPre_expert_in_range)
    ∧ quiescent_ReferenceIdeal (hReferenceIdeal := hReferenceIdeal) (hPre_expert_in_range := hPre_expert_in_range)
    ∧ quiescent_KernelEven (hKernelEven := hKernelEven)
    ∧ quiescent_KernelEvenIdeal (hKernelEvenIdeal := hKernelEvenIdeal)
    ∧ quiescent_ReferenceEvenIdeal (hReferenceEvenIdeal := hReferenceEvenIdeal)
    ∧ quiescent_KernelEvenSample (hKernelEvenSample := hKernelEvenSample)
    ∧ quiescent_KernelEvenSampleIdeal (hKernelEvenSampleIdeal := hKernelEvenSampleIdeal)
    ∧ quiescent_ReferenceEvenSampleIdeal (hReferenceEvenSampleIdeal := hReferenceEvenSampleIdeal)
    ∧ quiescent_KernelOdd (hKernelOdd := hKernelOdd)
    ∧ quiescent_KernelOddIdeal (hKernelOddIdeal := hKernelOddIdeal)
    ∧ quiescent_ReferenceOddIdeal (hReferenceOddIdeal := hReferenceOddIdeal)
    ∧ quiescent_KernelOddSample (hKernelOddSample := hKernelOddSample)
    ∧ quiescent_KernelOddSampleIdeal (hKernelOddSampleIdeal := hKernelOddSampleIdeal)
    ∧ quiescent_ReferenceOddSampleIdeal (hReferenceOddSampleIdeal := hReferenceOddSampleIdeal)
    ∧ quiescent_S5Sample (hS5Sample := hS5Sample)
    ∧ quiescent_S5SampleIdeal (hS5SampleIdeal := hS5SampleIdeal)
    ∧ quiescent_ReferenceS5SampleIdeal (hReferenceS5SampleIdeal := hReferenceS5SampleIdeal)
    ∧ quiescent_S5Prompt (hS5Prompt := hS5Prompt)
    ∧ quiescent_S5PromptIdeal (hS5PromptIdeal := hS5PromptIdeal)
    ∧ quiescent_ReferenceS5PromptIdeal (hReferenceS5PromptIdeal := hReferenceS5PromptIdeal)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ preserves_Kernel_KernelIdeal
    ∧ algebraic_KernelIdeal_ReferenceIdeal (hKernelIdeal := hKernelIdeal) (hReferenceIdeal := hReferenceIdeal) (hPre_expert_in_range := hPre_expert_in_range)
    ∧ preserves_KernelEven_KernelEvenIdeal
    ∧ algebraic_KernelEvenIdeal_ReferenceEvenIdeal (hKernelEvenIdeal := hKernelEvenIdeal) (hReferenceEvenIdeal := hReferenceEvenIdeal)
    ∧ preserves_KernelEvenSample_KernelEvenSampleIdeal
    ∧ algebraic_KernelEvenSampleIdeal_ReferenceEvenSampleIdeal (hKernelEvenSampleIdeal := hKernelEvenSampleIdeal) (hReferenceEvenSampleIdeal := hReferenceEvenSampleIdeal)
    ∧ preserves_KernelOdd_KernelOddIdeal
    ∧ algebraic_KernelOddIdeal_ReferenceOddIdeal (hKernelOddIdeal := hKernelOddIdeal) (hReferenceOddIdeal := hReferenceOddIdeal)
    ∧ preserves_KernelOddSample_KernelOddSampleIdeal
    ∧ algebraic_KernelOddSampleIdeal_ReferenceOddSampleIdeal (hKernelOddSampleIdeal := hKernelOddSampleIdeal) (hReferenceOddSampleIdeal := hReferenceOddSampleIdeal)
    ∧ preserves_S5Sample_S5SampleIdeal
    ∧ algebraic_S5SampleIdeal_ReferenceS5SampleIdeal (hS5SampleIdeal := hS5SampleIdeal) (hReferenceS5SampleIdeal := hReferenceS5SampleIdeal)
    ∧ preserves_S5Prompt_S5PromptIdeal
    ∧ algebraic_S5PromptIdeal_ReferenceS5PromptIdeal (hS5PromptIdeal := hS5PromptIdeal) (hReferenceS5PromptIdeal := hReferenceS5PromptIdeal)
    ∧ preserves_KernelFfn_KernelFfnIdeal
    ∧ algebraic_KernelFfnIdeal_ReferenceFfnIdeal (hKernelFfnIdeal := hKernelFfnIdeal) (hReferenceFfnIdeal := hReferenceFfnIdeal)
-- ==== Pre_expert_in_range.lean ====
abbrev S42 : Shape := ⟨1, ![42]⟩
abbrev S1 : Shape := ⟨1, ![1]⟩
abbrev S43008x1024 : Shape := ⟨2, ![43008, 1024]⟩
abbrev S8x1024x2816 : Shape := ⟨3, ![8, 1024, 2816]⟩
abbrev S8x2816x1024 : Shape := ⟨3, ![8, 2816, 1024]⟩
abbrev S_ : Shape := ⟨0, ![]⟩

class Facts : Prop where
  bcast_S_S42 : S_.BroadcastsInDim S42 (![] : Fin 0 → Fin S42.rank)

variable [Facts]

def fn {F : FTy → Type} [FloatOps F] (main_arg0 : IVec S42 32) (main_arg1 : IVec S1 32) (main_arg2 : FVec F S43008x1024 .f32) (main_arg3 : FVec F S8x1024x2816 .f32) (main_arg4 : FVec F S8x1024x2816 .f32) (main_arg5 : FVec F S8x2816x1024 .f32) : IVec S42 1 :=
  let main_c : IVec S_ 32 := constantI S_ 32 0#32
  let main_v0 : IVec S42 32 := broadcastInDim S42 ![] bcast_S_S42 main_c
  let main_v1 : IVec S42 1 := cmpi .sge main_arg0 main_v0
  let main_c_0 : IVec S_ 32 := constantI S_ 32 8#32
  let main_v2 : IVec S42 32 := broadcastInDim S42 ![] bcast_S_S42 main_c_0
  let main_v3 : IVec S42 1 := cmpi .slt main_arg0 main_v2
  let main_v4 : IVec S42 1 := andi main_v1 main_v3
  main_v4
-- ==== Kernel.lean ====
abbrev S42 : Shape := ⟨1, ![42]⟩
abbrev S1 : Shape := ⟨1, ![1]⟩
abbrev S43008x1024 : Shape := ⟨2, ![43008, 1024]⟩
abbrev S8x1024x2816 : Shape := ⟨3, ![8, 1024, 2816]⟩
abbrev S8x2816x1024 : Shape := ⟨3, ![8, 2816, 1024]⟩
abbrev S1024x1024 : Shape := ⟨2, ![1024, 1024]⟩
abbrev S1x1024x256 : Shape := ⟨3, ![1, 1024, 256]⟩
abbrev S1x256x1024 : Shape := ⟨3, ![1, 256, 1024]⟩
abbrev S1024x256 : Shape := ⟨2, ![1024, 256]⟩
abbrev S256x1024 : Shape := ⟨2, ![256, 1024]⟩

abbrev nBuf : Space → Nat
  | .hbm => 5
  | .vmem => 12
  | .smem => 2
  | _ => 0

abbrev bufTy : (tb : Table) → Fin (tcTables nBuf tb) → BufTy
  | .hbm, ⟨0, _⟩ => ⟨S43008x1024, .f32⟩
  | .hbm, ⟨1, _⟩ => ⟨S8x1024x2816, .f32⟩
  | .hbm, ⟨2, _⟩ => ⟨S8x1024x2816, .f32⟩
  | .hbm, ⟨3, _⟩ => ⟨S8x2816x1024, .f32⟩
  | .hbm, ⟨4, _⟩ => ⟨S43008x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | .local _ .smem, ⟨0, _⟩ => ⟨S42, .i32⟩
  | .local _ .smem, ⟨1, _⟩ => ⟨S1, .i32⟩
  | _, _ => ⟨S43008x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![42, 11], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c10_i32 : BitVec 32 := 10#32
  let v8 : BitVec 1 := Scalar.cmpi .eq arg1 c10_i32
  let v9 : BitVec 1 := Scalar.andi v1 v8
  let v10 : BitVec 32 := Scalar.extui v9
  let c0_i32_2 : BitVec 32 := 0#32
  let v11 : BitVec 1 := Scalar.cmpi .ne v10 c0_i32_2
  v11

def k0_cond4 (i : grid0.Coords) (v0 : BitVec 32) : BitVec 1 :=
  let arg0 : BitVec 32 := BitVec.ofNat 32 (i 0).val
  let v1 : BitVec 1 := Scalar.cmpi .slt arg0 v0
  let v_true : BitVec 1 := 1#1
  let v12 : BitVec 1 := Scalar.xori v1 v_true
  let arg1 : BitVec 32 := BitVec.ofNat 32 (i 1).val
  let c10_i32 : BitVec 32 := 10#32
  let v8 : BitVec 1 := Scalar.cmpi .eq arg1 c10_i32
  let v13 : BitVec 1 := Scalar.andi v12 v8
  let v14 : BitVec 32 := Scalar.extui v13
  let c0_i32_3 : BitVec 32 := 0#32
  let v15 : BitVec 1 := Scalar.cmpi .ne v14 c0_i32_3
  v15

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let c0_i32 : BitVec 32 := 0#32
  let v2 : BitVec 32 := Scalar.maxsi v1 c0_i32
  let v3 : BitVec 32 := Scalar.minsi arg0 v2
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S42.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S42) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c0_i32 : BitVec 32 := 0#32
  let v4 : BitVec 32 := Scalar.select v3 arg1 c0_i32
  let c0_i32_0 : BitVec 32 := 0#32
  let c0_i32_1 : BitVec 32 := 0#32
  ![v1.toNat, c0_i32_0.toNat, v4.toNat]

def cc0_transform_2 (k0_off1_inb : ∀ i : grid0.Coords, ∀ a, (k0_off1 i) a + S1.size a ≤ S42.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S42) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c0_i32 : BitVec 32 := 0#32
  let v4 : BitVec 32 := Scalar.select v3 arg1 c0_i32
  let c0_i32_0 : BitVec 32 := 0#32
  let c0_i32_1 : BitVec 32 := 0#32
  ![v1.toNat, c0_i32_0.toNat, v4.toNat]

def cc0_transform_3 (k0_off1_inb : ∀ i : grid0.Coords, ∀ a, (k0_off1 i) a + S1.size a ≤ S42.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S42) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c0_i32 : BitVec 32 := 0#32
  let v4 : BitVec 32 := Scalar.select v3 arg1 c0_i32
  let c0_i32_0 : BitVec 32 := 0#32
  let c0_i32_1 : BitVec 32 := 0#32
  ![v1.toNat, v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S42 : Shape := ⟨1, ![42]⟩
abbrev S1 : Shape := ⟨1, ![1]⟩
abbrev S43008x1024 : Shape := ⟨2, ![43008, 1024]⟩
abbrev S8x1024x2816 : Shape := ⟨3, ![8, 1024, 2816]⟩
abbrev S8x2816x1024 : Shape := ⟨3, ![8, 2816, 1024]⟩
abbrev S42x8 : Shape := ⟨2, ![42, 8]⟩
abbrev S42x1 : Shape := ⟨2, ![42, 1]⟩
abbrev S_ : Shape := ⟨0, ![]⟩
abbrev S42x1024x8 : Shape := ⟨3, ![42, 1024, 8]⟩
abbrev S43008x8 : Shape := ⟨2, ![43008, 8]⟩
abbrev S43008x1 : Shape := ⟨2, ![43008, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S43008x2816 : Shape := ⟨2, ![43008, 2816]⟩

abbrev nBuf : Space → Nat
  | .hbm => 209
  | .vmem => 0
  | .smem => 0
  | _ => 0

abbrev hbmTy0_0 (i : Nat) : BufTy := match i % 128 with
  | 0 => ⟨S42, .i32⟩
  | 1 => ⟨S1, .i32⟩
  | 2 => ⟨S43008x1024, .f32⟩
  | 3 => ⟨S8x1024x2816, .f32⟩
  | 4 => ⟨S8x1024x2816, .f32⟩
  | 5 => ⟨S8x2816x1024, .f32⟩
  | 6 => ⟨S42x8, .i32⟩
  | 7 => ⟨S42x8, .i32⟩
  | 8 => ⟨S42x1, .i32⟩
  | 9 => ⟨S42x8, .i32⟩
  | 10 => ⟨S42x8, .i1⟩
  | 11 => ⟨S_, .i32⟩
  | 12 => ⟨S42x8, .i32⟩
  | 13 => ⟨S42x8, .i1⟩
  | 14 => ⟨S42x8, .i1⟩
  | 15 => ⟨S_, .f32⟩
  | 16 => ⟨S_, .f32⟩
  | 17 => ⟨S42x8, .f32⟩
  | 18 => ⟨S42x8, .f32⟩
  | 19 => ⟨S42x8, .f32⟩
  | 20 => ⟨S42x8, .f32⟩
  | 21 => ⟨S42x1024x8, .f32⟩
  | 22 => ⟨S43008x8, .f32⟩
  | 23 => ⟨S_, .f32⟩
  | 24 => ⟨S43008x1024, .f32⟩
  | 25 => ⟨S43008x1, .f32⟩
  | 26 => ⟨S1x1024x2816, .f32⟩
  | 27 => ⟨S1024x2816, .f32⟩
  | 28 => ⟨S1x1024x2816, .f32⟩
  | 29 => ⟨S1024x2816, .f32⟩
  | 30 => ⟨S1x2816x1024, .f32⟩
  | 31 => ⟨S2816x1024, .f32⟩
  | 32 => ⟨S43008x2816, .f32⟩
  | 33 => ⟨S43008x2816, .f32⟩
  | 34 => ⟨S43008x2816, .f32⟩
  | 35 => ⟨S_, .f32⟩
  | 36 => ⟨S43008x2816, .f32⟩
  | 37 => ⟨S43008x2816, .f32⟩
  | 38 => ⟨S_, .f32⟩
  | 39 => ⟨S43008x2816, .f32⟩
  | 40 => ⟨S43008x2816, .f32⟩
  | 41 => ⟨S43008x2816, .f32⟩
  | 42 => ⟨S43008x2816, .f32⟩
  | 43 => ⟨S43008x2816, .f32⟩
  | 44 => ⟨S43008x1024, .f32⟩
  | 45 => ⟨S43008x1024, .f32⟩
  | 46 => ⟨S43008x1024, .f32⟩
  | 47 => ⟨S43008x1024, .f32⟩
  | 48 => ⟨S43008x1, .f32⟩
  | 49 => ⟨S1x1024x2816, .f32⟩
  | 50 => ⟨S1024x2816, .f32⟩
  | 51 => ⟨S1x1024x2816, .f32⟩
  | 52 => ⟨S1024x2816, .f32⟩
  | 53 => ⟨S1x2816x1024, .f32⟩
  | 54 => ⟨S2816x1024, .f32⟩
  | 55 => ⟨S43008x2816, .f32⟩
  | 56 => ⟨S43008x2816, .f32⟩
  | 57 => ⟨S43008x2816, .f32⟩
  | 58 => ⟨S_, .f32⟩
  | 59 => ⟨S43008x2816, .f32⟩
  | 60 => ⟨S43008x2816, .f32⟩
  | 61 => ⟨S_, .f32⟩
  | 62 => ⟨S43008x2816, .f32⟩
  | 63 => ⟨S43008x2816, .f32⟩
  | 64 => ⟨S43008x2816, .f32⟩
  | 65 => ⟨S43008x2816, .f32⟩
  | 66 => ⟨S43008x2816, .f32⟩
  | 67 => ⟨S43008x1024, .f32⟩
  | 68 => ⟨S43008x1024, .f32⟩
  | 69 => ⟨S43008x1024, .f32⟩
  | 70 => ⟨S43008x1024, .f32⟩
  | 71 => ⟨S43008x1, .f32⟩
  | 72 => ⟨S1x1024x2816, .f32⟩
  | 73 => ⟨S1024x2816, .f32⟩
  | 74 => ⟨S1x1024x2816, .f32⟩
  | 75 => ⟨S1024x2816, .f32⟩
  | 76 => ⟨S1x2816x1024, .f32⟩
  | 77 => ⟨S2816x1024, .f32⟩
  | 78 => ⟨S43008x2816, .f32⟩
  | 79 => ⟨S43008x2816, .f32⟩
  | 80 => ⟨S43008x2816, .f32⟩
  | 81 => ⟨S_, .f32⟩
  | 82 => ⟨S43008x2816, .f32⟩
  | 83 => ⟨S43008x2816, .f32⟩
  | 84 => ⟨S_, .f32⟩
  | 85 => ⟨S43008x2816, .f32⟩
  | 86 => ⟨S43008x2816, .f32⟩
  | 87 => ⟨S43008x2816, .f32⟩
  | 88 => ⟨S43008x2816, .f32⟩
  | 89 => ⟨S43008x2816, .f32⟩
  | 90 => ⟨S43008x1024, .f32⟩
  | 91 => ⟨S43008x1024, .f32⟩
  | 92 => ⟨S43008x1024, .f32⟩
  | 93 => ⟨S43008x1024, .f32⟩
  | 94 => ⟨S43008x1, .f32⟩
  | 95 => ⟨S1x1024x2816, .f32⟩
  | 96 => ⟨S1024x2816, .f32⟩
  | 97 => ⟨S1x1024x2816, .f32⟩
  | 98 => ⟨S1024x2816, .f32⟩
  | 99 => ⟨S1x2816x1024, .f32⟩
  | 100 => ⟨S2816x1024, .f32⟩
  | 101 => ⟨S43008x2816, .f32⟩
  | 102 => ⟨S43008x2816, .f32⟩
  | 103 => ⟨S43008x2816, .f32⟩
  | 104 => ⟨S_, .f32⟩
  | 105 => ⟨S43008x2816, .f32⟩
  | 106 => ⟨S43008x2816, .f32⟩
  | 107 => ⟨S_, .f32⟩
  | 108 => ⟨S43008x2816, .f32⟩
  | 109 => ⟨S43008x2816, .f32⟩
  | 110 => ⟨S43008x2816, .f32⟩
  | 111 => ⟨S43008x2816, .f32⟩
  | 112 => ⟨S43008x2816, .f32⟩
  | 113 => ⟨S43008x1024, .f32⟩
  | 114 => ⟨S43008x1024, .f32⟩
  | 115 => ⟨S43008x1024, .f32⟩
  | 116 => ⟨S43008x1024, .f32⟩
  | 117 => ⟨S43008x1, .f32⟩
  | 118 => ⟨S1x1024x2816, .f32⟩
  | 119 => ⟨S1024x2816, .f32⟩
  | 120 => ⟨S1x1024x2816, .f32⟩
  | 121 => ⟨S1024x2816, .f32⟩
  | 122 => ⟨S1x2816x1024, .f32⟩
  | 123 => ⟨S2816x1024, .f32⟩
  | 124 => ⟨S43008x2816, .f32⟩
  | 125 => ⟨S43008x2816, .f32⟩
  | 126 => ⟨S43008x2816, .f32⟩
  | 127 => ⟨S_, .f32⟩
  | _ => ⟨S42, .i32⟩

abbrev hbmTy0_1 (i : Nat) : BufTy := match i % 128 with
  | 0 => ⟨S43008x2816, .f32⟩
  | 1 => ⟨S43008x2816, .f32⟩
  | 2 => ⟨S_, .f32⟩
  | 3 => ⟨S43008x2816, .f32⟩
  | 4 => ⟨S43008x2816, .f32⟩
  | 5 => ⟨S43008x2816, .f32⟩
  | 6 => ⟨S43008x2816, .f32⟩
  | 7 => ⟨S43008x2816, .f32⟩
  | 8 => ⟨S43008x1024, .f32⟩
  | 9 => ⟨S43008x1024, .f32⟩
  | 10 => ⟨S43008x1024, .f32⟩
  | 11 => ⟨S43008x1024, .f32⟩
  | 12 => ⟨S43008x1, .f32⟩
  | 13 => ⟨S1x1024x2816, .f32⟩
  | 14 => ⟨S1024x2816, .f32⟩
  | 15 => ⟨S1x1024x2816, .f32⟩
  | 16 => ⟨S1024x2816, .f32⟩
  | 17 => ⟨S1x2816x1024, .f32⟩
  | 18 => ⟨S2816x1024, .f32⟩
  | 19 => ⟨S43008x2816, .f32⟩
  | 20 => ⟨S43008x2816, .f32⟩
  | 21 => ⟨S43008x2816, .f32⟩
  | 22 => ⟨S_, .f32⟩
  | 23 => ⟨S43008x2816, .f32⟩
  | 24 => ⟨S43008x2816, .f32⟩
  | 25 => ⟨S_, .f32⟩
  | 26 => ⟨S43008x2816, .f32⟩
  | 27 => ⟨S43008x2816, .f32⟩
  | 28 => ⟨S43008x2816, .f32⟩
  | 29 => ⟨S43008x2816, .f32⟩
  | 30 => ⟨S43008x2816, .f32⟩
  | 31 => ⟨S43008x1024, .f32⟩
  | 32 => ⟨S43008x1024, .f32⟩
  | 33 => ⟨S43008x1024, .f32⟩
  | 34 => ⟨S43008x1024, .f32⟩
  | 35 => ⟨S43008x1, .f32⟩
  | 36 => ⟨S1x1024x2816, .f32⟩
  | 37 => ⟨S1024x2816, .f32⟩
  | 38 => ⟨S1x1024x2816, .f32⟩
  | 39 => ⟨S1024x2816, .f32⟩
  | 40 => ⟨S1x2816x1024, .f32⟩
  | 41 => ⟨S2816x1024, .f32⟩
  | 42 => ⟨S43008x2816, .f32⟩
  | 43 => ⟨S43008x2816, .f32⟩
  | 44 => ⟨S43008x2816, .f32⟩
  | 45 => ⟨S_, .f32⟩
  | 46 => ⟨S43008x2816, .f32⟩
  | 47 => ⟨S43008x2816, .f32⟩
  | 48 => ⟨S_, .f32⟩
  | 49 => ⟨S43008x2816, .f32⟩
  | 50 => ⟨S43008x2816, .f32⟩
  | 51 => ⟨S43008x2816, .f32⟩
  | 52 => ⟨S43008x2816, .f32⟩
  | 53 => ⟨S43008x2816, .f32⟩
  | 54 => ⟨S43008x1024, .f32⟩
  | 55 => ⟨S43008x1024, .f32⟩
  | 56 => ⟨S43008x1024, .f32⟩
  | 57 => ⟨S43008x1024, .f32⟩
  | 58 => ⟨S43008x1, .f32⟩
  | 59 => ⟨S1x1024x2816, .f32⟩
  | 60 => ⟨S1024x2816, .f32⟩
  | 61 => ⟨S1x1024x2816, .f32⟩
  | 62 => ⟨S1024x2816, .f32⟩
  | 63 => ⟨S1x2816x1024, .f32⟩
  | 64 => ⟨S2816x1024, .f32⟩
  | 65 => ⟨S43008x2816, .f32⟩
  | 66 => ⟨S43008x2816, .f32⟩
  | 67 => ⟨S43008x2816, .f32⟩
  | 68 => ⟨S_, .f32⟩
  | 69 => ⟨S43008x2816, .f32⟩
  | 70 => ⟨S43008x2816, .f32⟩
  | 71 => ⟨S_, .f32⟩
  | 72 => ⟨S43008x2816, .f32⟩
  | 73 => ⟨S43008x2816, .f32⟩
  | 74 => ⟨S43008x2816, .f32⟩
  | 75 => ⟨S43008x2816, .f32⟩
  | 76 => ⟨S43008x2816, .f32⟩
  | 77 => ⟨S43008x1024, .f32⟩
  | 78 => ⟨S43008x1024, .f32⟩
  | 79 => ⟨S43008x1024, .f32⟩
  | 80 => ⟨S43008x1024, .f32⟩
  | _ => ⟨S42, .i32⟩

abbrev hbmTy (i : Nat) : BufTy := match i / 128 with
  | 0 => hbmTy0_0 i
  | 1 => hbmTy0_1 i
  | _ => ⟨S42, .i32⟩

abbrev bufTy : (tb : Table) → Fin (tcTables nBuf tb) → BufTy
  | .hbm, ⟨i, _⟩ => hbmTy i
  | _, _ => ⟨S42, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call2_v0 : Ref sig .tc := ⟨.hbm, 56, rfl⟩
abbrev main_call2_v1 : Ref sig .tc := ⟨.hbm, 57, rfl⟩
abbrev main_call2_cst : Ref sig .tc := ⟨.hbm, 58, rfl⟩
abbrev main_call2_v2 : Ref sig .tc := ⟨.hbm, 59, rfl⟩
abbrev main_call2_v3 : Ref sig .tc := ⟨.hbm, 60, rfl⟩
abbrev main_call2_cst_0 : Ref sig .tc := ⟨.hbm, 61, rfl⟩
abbrev main_call2_v4 : Ref sig .tc := ⟨.hbm, 62, rfl⟩
abbrev main_call2_v5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call3_v0 : Ref sig .tc := ⟨.hbm, 79, rfl⟩
abbrev main_call3_v1 : Ref sig .tc := ⟨.hbm, 80, rfl⟩
abbrev main_call3_cst : Ref sig .tc := ⟨.hbm, 81, rfl⟩
abbrev main_call3_v2 : Ref sig .tc := ⟨.hbm, 82, rfl⟩
abbrev main_call3_v3 : Ref sig .tc := ⟨.hbm, 83, rfl⟩
abbrev main_call3_cst_0 : Ref sig .tc := ⟨.hbm, 84, rfl⟩
abbrev main_call3_v4 : Ref sig .tc := ⟨.hbm, 85, rfl⟩
abbrev main_call3_v5 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_call4_v0 : Ref sig .tc := ⟨.hbm, 102, rfl⟩
abbrev main_call4_v1 : Ref sig .tc := ⟨.hbm, 103, rfl⟩
abbrev main_call4_cst : Ref sig .tc := ⟨.hbm, 104, rfl⟩
abbrev main_call4_v2 : Ref sig .tc := ⟨.hbm, 105, rfl⟩
abbrev main_call4_v3 : Ref sig .tc := ⟨.hbm, 106, rfl⟩
abbrev main_call4_cst_0 : Ref sig .tc := ⟨.hbm, 107, rfl⟩
abbrev main_call4_v4 : Ref sig .tc := ⟨.hbm, 108, rfl⟩
abbrev main_call4_v5 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_call5_v0 : Ref sig .tc := ⟨.hbm, 125, rfl⟩
abbrev main_call5_v1 : Ref sig .tc := ⟨.hbm, 126, rfl⟩
abbrev main_call5_cst : Ref sig .tc := ⟨.hbm, 127, rfl⟩
abbrev main_call5_v2 : Ref sig .tc := ⟨.hbm, 128, rfl⟩
abbrev main_call5_v3 : Ref sig .tc := ⟨.hbm, 129, rfl⟩
abbrev main_call5_cst_0 : Ref sig .tc := ⟨.hbm, 130, rfl⟩
abbrev main_call5_v4 : Ref sig .tc := ⟨.hbm, 131, rfl⟩
abbrev main_call5_v5 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_call6_v0 : Ref sig .tc := ⟨.hbm, 148, rfl⟩
abbrev main_call6_v1 : Ref sig .tc := ⟨.hbm, 149, rfl⟩
abbrev main_call6_cst : Ref sig .tc := ⟨.hbm, 150, rfl⟩
abbrev main_call6_v2 : Ref sig .tc := ⟨.hbm, 151, rfl⟩
abbrev main_call6_v3 : Ref sig .tc := ⟨.hbm, 152, rfl⟩
abbrev main_call6_cst_0 : Ref sig .tc := ⟨.hbm, 153, rfl⟩
abbrev main_call6_v4 : Ref sig .tc := ⟨.hbm, 154, rfl⟩
abbrev main_call6_v5 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_call7_v0 : Ref sig .tc := ⟨.hbm, 171, rfl⟩
abbrev main_call7_v1 : Ref sig .tc := ⟨.hbm, 172, rfl⟩
abbrev main_call7_cst : Ref sig .tc := ⟨.hbm, 173, rfl⟩
abbrev main_call7_v2 : Ref sig .tc := ⟨.hbm, 174, rfl⟩
abbrev main_call7_v3 : Ref sig .tc := ⟨.hbm, 175, rfl⟩
abbrev main_call7_cst_0 : Ref sig .tc := ⟨.hbm, 176, rfl⟩
abbrev main_call7_v4 : Ref sig .tc := ⟨.hbm, 177, rfl⟩
abbrev main_call7_v5 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_call8_v0 : Ref sig .tc := ⟨.hbm, 194, rfl⟩
abbrev main_call8_v1 : Ref sig .tc := ⟨.hbm, 195, rfl⟩
abbrev main_call8_cst : Ref sig .tc := ⟨.hbm, 196, rfl⟩
abbrev main_call8_v2 : Ref sig .tc := ⟨.hbm, 197, rfl⟩
abbrev main_call8_v3 : Ref sig .tc := ⟨.hbm, 198, rfl⟩
abbrev main_call8_cst_0 : Ref sig .tc := ⟨.hbm, 199, rfl⟩
abbrev main_call8_v4 : Ref sig .tc := ⟨.hbm, 200, rfl⟩
abbrev main_call8_v5 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩

abbrev nD : Nat := 1
abbrev τ : Topo := Topo.v7x

variable {F : FTy → Type} [FloatOps F]
-- ==== KernelEven.lean ====
abbrev S4x4096x1024 : Shape := ⟨3, ![4, 4096, 1024]⟩
abbrev S2x1024 : Shape := ⟨2, ![2, 1024]⟩
abbrev S1x1024x3584 : Shape := ⟨3, ![1, 1024, 3584]⟩
abbrev S16384x1024 : Shape := ⟨2, ![16384, 1024]⟩
abbrev S1x1024 : Shape := ⟨2, ![1, 1024]⟩
abbrev S1024 : Shape := ⟨1, ![1024]⟩
abbrev S1024x3584 : Shape := ⟨2, ![1024, 3584]⟩
abbrev S16384x3584 : Shape := ⟨2, ![16384, 3584]⟩
abbrev S1024x1024 : Shape := ⟨2, ![1024, 1024]⟩
abbrev S1024x512 : Shape := ⟨2, ![1024, 512]⟩
abbrev S1024x1 : Shape := ⟨2, ![1024, 1]⟩
abbrev S16384x512 : Shape := ⟨2, ![16384, 512]⟩
abbrev S4x4096x8x64 : Shape := ⟨4, ![4, 4096, 8, 64]⟩
abbrev S4x2048x8x64 : Shape := ⟨4, ![4, 2048, 8, 64]⟩
abbrev S1x4x2048x8x64 : Shape := ⟨5, ![1, 4, 2048, 8, 64]⟩

abbrev nBuf : Space → Nat
  | .hbm => 17
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S2x1024, .f32⟩
  | .hbm, ⟨2, _⟩ => ⟨S1x1024x3584, .f32⟩
  | .hbm, ⟨3, _⟩ => ⟨S16384x1024, .f32⟩
  | .hbm, ⟨4, _⟩ => ⟨S1x1024, .f32⟩
  | .hbm, ⟨5, _⟩ => ⟨S1024, .f32⟩
  | .hbm, ⟨6, _⟩ => ⟨S1024x3584, .f32⟩
  | .hbm, ⟨7, _⟩ => ⟨S1x1024, .f32⟩
  | .hbm, ⟨8, _⟩ => ⟨S16384x3584, .f32⟩
  | .hbm, ⟨9, _⟩ => ⟨S16384x512, .f32⟩
  | .hbm, ⟨10, _⟩ => ⟨S4x4096x8x64, .f32⟩
  | .hbm, ⟨11, _⟩ => ⟨S16384x512, .f32⟩
  | .hbm, ⟨12, _⟩ => ⟨S4x4096x8x64, .f32⟩
  | .hbm, ⟨13, _⟩ => ⟨S4x2048x8x64, .f32⟩
  | .hbm, ⟨14, _⟩ => ⟨S1x4x2048x8x64, .f32⟩
  | .hbm, ⟨15, _⟩ => ⟨S4x2048x8x64, .f32⟩
  | .hbm, ⟨16, _⟩ => ⟨S1x4x2048x8x64, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceEvenIdeal.lean ====
abbrev S4x4096x1024 : Shape := ⟨3, ![4, 4096, 1024]⟩
abbrev S2x1024 : Shape := ⟨2, ![2, 1024]⟩
abbrev S1x1024x3584 : Shape := ⟨3, ![1, 1024, 3584]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x3584 : Shape := ⟨2, ![1024, 3584]⟩
abbrev S4x4096x3584 : Shape := ⟨3, ![4, 4096, 3584]⟩
abbrev S4x4096x512 : Shape := ⟨3, ![4, 4096, 512]⟩
abbrev S4x4096x8x64 : Shape := ⟨4, ![4, 4096, 8, 64]⟩
abbrev S4x2048x8x64 : Shape := ⟨4, ![4, 2048, 8, 64]⟩
abbrev S1x4x2048x8x64 : Shape := ⟨5, ![1, 4, 2048, 8, 64]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S2x1024, .f32⟩
  | .hbm, ⟨2, _⟩ => ⟨S1x1024x3584, .f32⟩
  | .hbm, ⟨3, _⟩ => ⟨S1x1024, .f32⟩
  | .hbm, ⟨4, _⟩ => ⟨S1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S1024x3584, .f32⟩
  | .hbm, ⟨22, _⟩ => ⟨S4x4096x3584, .f32⟩
  | .hbm, ⟨23, _⟩ => ⟨S4x4096x512, .f32⟩
  | .hbm, ⟨24, _⟩ => ⟨S4x4096x8x64, .f32⟩
  | .hbm, ⟨25, _⟩ => ⟨S4x4096x512, .f32⟩
  | .hbm, ⟨26, _⟩ => ⟨S4x4096x8x64, .f32⟩
  | .hbm, ⟨27, _⟩ => ⟨S4x2048x8x64, .f32⟩
  | .hbm, ⟨28, _⟩ => ⟨S1x4x2048x8x64, .f32⟩
  | .hbm, ⟨29, _⟩ => ⟨S4x2048x8x64, .f32⟩
  | .hbm, ⟨30, _⟩ => ⟨S1x4x2048x8x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== KernelEvenSample.lean ====
abbrev S128x8x1024 : Shape := ⟨3, ![128, 8, 1024]⟩
abbrev S2x1024 : Shape := ⟨2, ![2, 1024]⟩
abbrev S1x1024x3584 : Shape := ⟨3, ![1, 1024, 3584]⟩
abbrev S1024x1024 : Shape := ⟨2, ![1024, 1024]⟩
abbrev S1x1024 : Shape := ⟨2, ![1, 1024]⟩
abbrev S1024 : Shape := ⟨1, ![1024]⟩
abbrev S1024x3584 : Shape := ⟨2, ![1024, 3584]⟩
abbrev S1024x512 : Shape := ⟨2, ![1024, 512]⟩
abbrev S1024x1 : Shape := ⟨2, ![1024, 1]⟩
abbrev S128x8x8x64 : Shape := ⟨4, ![128, 8, 8, 64]⟩
abbrev S1x128x8x8x64 : Shape := ⟨5, ![1, 128, 8, 8, 64]⟩

abbrev nBuf : Space → Nat
  | .hbm => 15
  | .vmem => 7
  | .smem => 0
  | _ => 0

abbrev bufTy : (tb : Table) → Fin (tcTables nBuf tb) → BufTy
  | .hbm, ⟨0, _⟩ => ⟨S128x8x1024, .f32⟩
  | .hbm, ⟨1, _⟩ => ⟨S2x1024, .f32⟩
  | .hbm, ⟨2, _⟩ => ⟨S1x1024x3584, .f32⟩
  | .hbm, ⟨3, _⟩ => ⟨S1024x1024, .f32⟩
  | .hbm, ⟨4, _⟩ => ⟨S1x1024, .f32⟩
  | .hbm, ⟨5, _⟩ => ⟨S1024, .f32⟩
  | .hbm, ⟨6, _⟩ => ⟨S1024x3584, .f32⟩
  | .hbm, ⟨7, _⟩ => ⟨S1x1024, .f32⟩
  | .hbm, ⟨8, _⟩ => ⟨S1024x3584, .f32⟩
  | .hbm, ⟨9, _⟩ => ⟨S1024x512, .f32⟩
  | .hbm, ⟨10, _⟩ => ⟨S128x8x8x64, .f32⟩
  | .hbm, ⟨11, _⟩ => ⟨S1024x512, .f32⟩
  | .hbm, ⟨12, _⟩ => ⟨S128x8x8x64, .f32⟩
  | .hbm, ⟨13, _⟩ => ⟨S1x128x8x8x64, .f32⟩
  | .hbm, ⟨14, _⟩ => ⟨S1x128x8x8x64, .f32⟩
  | .local _ .vmem, ⟨0, _⟩ => ⟨S1024x1024, .f32⟩
  | .local _ .vmem, ⟨1, _⟩ => ⟨S1x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x1024, .bf16⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceEvenSampleIdeal.lean ====
abbrev S128x8x1024 : Shape := ⟨3, ![128, 8, 1024]⟩
abbrev S2x1024 : Shape := ⟨2, ![2, 1024]⟩
abbrev S1x1024x3584 : Shape := ⟨3, ![1, 1024, 3584]⟩
abbrev S1x1024 : Shape := ⟨2, ![1, 1024]⟩
abbrev S1024 : Shape := ⟨1, ![1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S1024x3584 : Shape := ⟨2, ![1024, 3584]⟩
abbrev S128x8x3584 : Shape := ⟨3, ![128, 8, 3584]⟩
abbrev S128x8x512 : Shape := ⟨3, ![128, 8, 512]⟩
abbrev S128x8x8x64 : Shape := ⟨4, ![128, 8, 8, 64]⟩
abbrev S1x128x8x8x64 : Shape := ⟨5, ![1, 128, 8, 8, 64]⟩

abbrev nBuf : Space → Nat
  | .hbm => 29
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S2x1024, .f32⟩
  | .hbm, ⟨2, _⟩ => ⟨S1x1024x3584, .f32⟩
  | .hbm, ⟨3, _⟩ => ⟨S1x1024, .f32⟩
  | .hbm, ⟨4, _⟩ => ⟨S1024, .f32⟩
  | .hbm, ⟨5, _⟩ => ⟨S128x8x1024, .f32⟩
  | .hbm, ⟨6, _⟩ => ⟨S_, .f32⟩
  | .hbm, ⟨7, _⟩ => ⟨S128x8, .f32⟩
  | .hbm, ⟨8, _⟩ => ⟨S128x8x1, .f32⟩
  | .hbm, ⟨9, _⟩ => ⟨S_, .f32⟩
  | .hbm, ⟨10, _⟩ => ⟨S128x8x1, .f32⟩
  | .hbm, ⟨11, _⟩ => ⟨S128x8x1, .f32⟩
  | .hbm, ⟨12, _⟩ => ⟨S_, .f32⟩
  | .hbm, ⟨13, _⟩ => ⟨S128x8x1, .f32⟩
  | .hbm, ⟨14, _⟩ => ⟨S128x8x1, .f32⟩
  | .hbm, ⟨15, _⟩ => ⟨S128x8x1, .f32⟩
  | .hbm, ⟨16, _⟩ => ⟨S128x8x1024, .f32⟩
  | .hbm, ⟨17, _⟩ => ⟨S128x8x1024, .f32⟩
  | .hbm, ⟨18, _⟩ => ⟨S1x1x1024, .f32⟩
  | .hbm, ⟨19, _⟩ => ⟨S128x8x1024, .f32⟩
  | .hbm, ⟨20, _⟩ => ⟨S128x8x1024, .f32⟩
  | .hbm, ⟨21, _⟩ => ⟨S1024x3584, .f32⟩
  | .hbm, ⟨22, _⟩ => ⟨S128x8x3584, .f32⟩
  | .hbm, ⟨23, _⟩ => ⟨S128x8x512, .f32⟩
  | .hbm, ⟨24, _⟩ => ⟨S128x8x8x64, .f32⟩
  | .hbm, ⟨25, _⟩ => ⟨S128x8x512, .f32⟩
  | .hbm, ⟨26, _⟩ => ⟨S128x8x8x64, .f32⟩
  | .hbm, ⟨27, _⟩ => ⟨S1x128x8x8x64, .f32⟩
  | .hbm, ⟨28, _⟩ => ⟨S1x128x8x8x64, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== KernelOdd.lean ====
abbrev S16384x1024 : Shape := ⟨2, ![16384, 1024]⟩
abbrev S2x1024 : Shape := ⟨2, ![2, 1024]⟩
abbrev S1x1024x2048 : Shape := ⟨3, ![1, 1024, 2048]⟩
abbrev S1x1024 : Shape := ⟨2, ![1, 1024]⟩
abbrev S1024 : Shape := ⟨1, ![1024]⟩
abbrev S1024x2048 : Shape := ⟨2, ![1024, 2048]⟩
abbrev S16384x2048 : Shape := ⟨2, ![16384, 2048]⟩
abbrev S1024x1024 : Shape := ⟨2, ![1024, 1024]⟩
abbrev S1024x512 : Shape := ⟨2, ![1024, 512]⟩
abbrev S1024x1 : Shape := ⟨2, ![1024, 1]⟩
abbrev S16384x512 : Shape := ⟨2, ![16384, 512]⟩
abbrev S4x4096x4x128 : Shape := ⟨4, ![4, 4096, 4, 128]⟩
abbrev S1x4x4096x4x128 : Shape := ⟨5, ![1, 4, 4096, 4, 128]⟩

abbrev nBuf : Space → Nat
  | .hbm => 14
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x2048, .f32⟩
  | .hbm, ⟨3, _⟩ => ⟨S1x1024, .f32⟩
  | .hbm, ⟨4, _⟩ => ⟨S1024, .f32⟩
  | .hbm, ⟨5, _⟩ => ⟨S1024x2048, .f32⟩
  | .hbm, ⟨6, _⟩ => ⟨S1x1024, .f32⟩
  | .hbm, ⟨7, _⟩ => ⟨S16384x2048, .f32⟩
  | .hbm, ⟨8, _⟩ => ⟨S16384x512, .f32⟩
  | .hbm, ⟨9, _⟩ => ⟨S4x4096x4x128, .f32⟩
  | .hbm, ⟨10, _⟩ => ⟨S16384x512, .f32⟩
  | .hbm, ⟨11, _⟩ => ⟨S4x4096x4x128, .f32⟩
  | .hbm, ⟨12, _⟩ => ⟨S1x4x4096x4x128, .f32⟩
  | .hbm, ⟨13, _⟩ => ⟨S1x4x4096x4x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceOddIdeal.lean ====
abbrev S16384x1024 : Shape := ⟨2, ![16384, 1024]⟩
abbrev S2x1024 : Shape := ⟨2, ![2, 1024]⟩
abbrev S1x1024x2048 : Shape := ⟨3, ![1, 1024, 2048]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x2048 : Shape := ⟨2, ![1024, 2048]⟩
abbrev S16384x2048 : Shape := ⟨2, ![16384, 2048]⟩
abbrev S16384x512 : Shape := ⟨2, ![16384, 512]⟩
abbrev S4x4096x4x128 : Shape := ⟨4, ![4, 4096, 4, 128]⟩
abbrev S1x4x4096x4x128 : Shape := ⟨5, ![1, 4, 4096, 4, 128]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x2048, .f32⟩
  | .hbm, ⟨3, _⟩ => ⟨S1x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1024x2048, .f32⟩
  | .hbm, ⟨22, _⟩ => ⟨S16384x2048, .f32⟩
  | .hbm, ⟨23, _⟩ => ⟨S16384x512, .f32⟩
  | .hbm, ⟨24, _⟩ => ⟨S4x4096x4x128, .f32⟩
  | .hbm, ⟨25, _⟩ => ⟨S16384x512, .f32⟩
  | .hbm, ⟨26, _⟩ => ⟨S4x4096x4x128, .f32⟩
  | .hbm, ⟨27, _⟩ => ⟨S1x4x4096x4x128, .f32⟩
  | .hbm, ⟨28, _⟩ => ⟨S1x4x4096x4x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== KernelOddSample.lean ====
abbrev S1024x1024 : Shape := ⟨2, ![1024, 1024]⟩
abbrev S2x1024 : Shape := ⟨2, ![2, 1024]⟩
abbrev S1x1024x2048 : Shape := ⟨3, ![1, 1024, 2048]⟩
abbrev S1x1024 : Shape := ⟨2, ![1, 1024]⟩
abbrev S1024 : Shape := ⟨1, ![1024]⟩
abbrev S1024x2048 : Shape := ⟨2, ![1024, 2048]⟩
abbrev S1024x512 : Shape := ⟨2, ![1024, 512]⟩
abbrev S1024x1 : Shape := ⟨2, ![1024, 1]⟩
abbrev S128x8x4x128 : Shape := ⟨4, ![128, 8, 4, 128]⟩
abbrev S1x128x8x4x128 : Shape := ⟨5, ![1, 128, 8, 4, 128]⟩

abbrev nBuf : Space → Nat
  | .hbm => 14
  | .vmem => 7
  | .smem => 0
  | _ => 0

abbrev bufTy : (tb : Table) → Fin (tcTables nBuf tb) → BufTy
  | .hbm, ⟨0, _⟩ => ⟨S1024x1024, .f32⟩
  | .hbm, ⟨1, _⟩ => ⟨S2x1024, .f32⟩
  | .hbm, ⟨2, _⟩ => ⟨S1x1024x2048, .f32⟩
  | .hbm, ⟨3, _⟩ => ⟨S1x1024, .f32⟩
  | .hbm, ⟨4, _⟩ => ⟨S1024, .f32⟩
  | .hbm, ⟨5, _⟩ => ⟨S1024x2048, .f32⟩
  | .hbm, ⟨6, _⟩ => ⟨S1x1024, .f32⟩
  | .hbm, ⟨7, _⟩ => ⟨S1024x2048, .f32⟩
  | .hbm, ⟨8, _⟩ => ⟨S1024x512, .f32⟩
  | .hbm, ⟨9, _⟩ => ⟨S128x8x4x128, .f32⟩
  | .hbm, ⟨10, _⟩ => ⟨S1024x512, .f32⟩
  | .hbm, ⟨11, _⟩ => ⟨S128x8x4x128, .f32⟩
  | .hbm, ⟨12, _⟩ => ⟨S1x128x8x4x128, .f32⟩
  | .hbm, ⟨13, _⟩ => ⟨S1x128x8x4x128, .f32⟩
  | .local _ .vmem, ⟨0, _⟩ => ⟨S1024x1024, .f32⟩
  | .local _ .vmem, ⟨1, _⟩ => ⟨S1x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceOddSampleIdeal.lean ====
abbrev S1024x1024 : Shape := ⟨2, ![1024, 1024]⟩
abbrev S2x1024 : Shape := ⟨2, ![2, 1024]⟩
abbrev S1x1024x2048 : Shape := ⟨3, ![1, 1024, 2048]⟩
abbrev S1x1024 : Shape := ⟨2, ![1, 1024]⟩
abbrev S1024 : Shape := ⟨1, ![1024]⟩
abbrev S_ : Shape := ⟨0, ![]⟩
abbrev S1024x1 : Shape := ⟨2, ![1024, 1]⟩
abbrev S1024x2048 : Shape := ⟨2, ![1024, 2048]⟩
abbrev S1024x512 : Shape := ⟨2, ![1024, 512]⟩
abbrev S128x8x4x128 : Shape := ⟨4, ![128, 8, 4, 128]⟩
abbrev S1x128x8x4x128 : Shape := ⟨5, ![1, 128, 8, 4, 128]⟩

abbrev nBuf : Space → Nat
  | .hbm => 29
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S2x1024, .f32⟩
  | .hbm, ⟨2, _⟩ => ⟨S1x1024x2048, .f32⟩
  | .hbm, ⟨3, _⟩ => ⟨S1x1024, .f32⟩
  | .hbm, ⟨4, _⟩ => ⟨S1024, .f32⟩
  | .hbm, ⟨5, _⟩ => ⟨S1024x1024, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S1024x1, .f32⟩
  | .hbm, ⟨16, _⟩ => ⟨S1024x1024, .f32⟩
  | .hbm, ⟨17, _⟩ => ⟨S1024x1024, .f32⟩
  | .hbm, ⟨18, _⟩ => ⟨S1x1024, .f32⟩
  | .hbm, ⟨19, _⟩ => ⟨S1024x1024, .f32⟩
  | .hbm, ⟨20, _⟩ => ⟨S1024x1024, .f32⟩
  | .hbm, ⟨21, _⟩ => ⟨S1024x2048, .f32⟩
  | .hbm, ⟨22, _⟩ => ⟨S1024x2048, .f32⟩
  | .hbm, ⟨23, _⟩ => ⟨S1024x512, .f32⟩
  | .hbm, ⟨24, _⟩ => ⟨S128x8x4x128, .f32⟩
  | .hbm, ⟨25, _⟩ => ⟨S1024x512, .f32⟩
  | .hbm, ⟨26, _⟩ => ⟨S128x8x4x128, .f32⟩
  | .hbm, ⟨27, _⟩ => ⟨S1x128x8x4x128, .f32⟩
  | .hbm, ⟨28, _⟩ => ⟨S1x128x8x4x128, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== S5Sample.lean ====
abbrev S128x8x2048 : Shape := ⟨3, ![128, 8, 2048]⟩
abbrev S1x128x32x64 : Shape := ⟨4, ![1, 128, 32, 64]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x32x16 : Shape := ⟨3, ![1, 32, 16]⟩
abbrev S1x512x512 : Shape := ⟨3, ![1, 512, 512]⟩
abbrev S1x512 : Shape := ⟨2, ![1, 512]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x16 : Shape := ⟨2, ![32, 16]⟩
abbrev S32x1 : Shape := ⟨2, ![32, 1]⟩
abbrev S_ : Shape := ⟨0, ![]⟩
abbrev S32x64x1 : Shape := ⟨3, ![32, 64, 1]⟩
abbrev S8x8 : Shape := ⟨2, ![8, 8]⟩
abbrev S4x8x64x16 : Shape := ⟨4, ![4, 8, 64, 16]⟩
abbrev S4x8x16x64 : Shape := ⟨4, ![4, 8, 16, 64]⟩
abbrev S4x8x16x1x64 : Shape := ⟨5, ![4, 8, 16, 1, 64]⟩
abbrev S1x8x1x8x1 : Shape := ⟨5, ![1, 8, 1, 8, 1]⟩
abbrev S4x8x16x8x64 : Shape := ⟨5, ![4, 8, 16, 8, 64]⟩
abbrev S4x128x512 : Shape := ⟨3, ![4, 128, 512]⟩
abbrev S4x128x1024 : Shape := ⟨3, ![4, 128, 1024]⟩
abbrev S4x64x8x16 : Shape := ⟨4, ![4, 64, 8, 16]⟩
abbrev S4x1x64x8x16 : Shape := ⟨5, ![4, 1, 64, 8, 16]⟩
abbrev S4x8x64x8x16 : Shape := ⟨5, ![4, 8, 64, 8, 16]⟩
abbrev S4x512x128 : Shape := ⟨3, ![4, 512, 128]⟩
abbrev S4x1024x128 : Shape := ⟨3, ![4, 1024, 128]⟩
abbrev S4x512 : Shape := ⟨2, ![4, 512]⟩
abbrev S4x1024 : Shape := ⟨2, ![4, 1024]⟩
abbrev S4x1x1024 : Shape := ⟨3, ![4, 1, 1024]⟩
abbrev S4x2x1024 : Shape := ⟨3, ![4, 2, 1024]⟩
abbrev S4x1x128 : Shape := ⟨3, ![4, 1, 128]⟩
abbrev S128x32x64 : Shape := ⟨3, ![128, 32, 64]⟩
abbrev S128x4x512 : Shape := ⟨3, ![128, 4, 512]⟩
abbrev S128x4x1024 : Shape := ⟨3, ![128, 4, 1024]⟩
abbrev S512x512 : Shape := ⟨2, ![512, 512]⟩
abbrev S512 : Shape := ⟨1, ![512]⟩
abbrev S128x8x512 : Shape := ⟨3, ![128, 8, 512]⟩
abbrev S8x8x512 : Shape := ⟨3, ![8, 8, 512]⟩
abbrev S4x8x1024 : Shape := ⟨3, ![4, 8, 1024]⟩
abbrev S4x64x128 : Shape := ⟨3, ![4, 64, 128]⟩
abbrev S4x64x1024 : Shape := ⟨3, ![4, 64, 1024]⟩
abbrev S1x8x128 : Shape := ⟨3, ![1, 8, 128]⟩
abbrev S8x128 : Shape := ⟨2, ![8, 128]⟩
abbrev S1x64x128 : Shape := ⟨3, ![1, 64, 128]⟩
abbrev S64x128 : Shape := ⟨2, ![64, 128]⟩
abbrev S1x128x1024 : Shape := ⟨3, ![1, 128, 1024]⟩
abbrev S128x1024 : Shape := ⟨2, ![128, 1024]⟩
abbrev S64x1024 : Shape := ⟨2, ![64, 1024]⟩
abbrev S1x64x1024 : Shape := ⟨3, ![1, 64, 1024]⟩
abbrev S1x8x512 : Shape := ⟨3, ![1, 8, 512]⟩
abbrev S8x512 : Shape := ⟨2, ![8, 512]⟩
abbrev S1x1x512 : Shape := ⟨3, ![1, 1, 512]⟩
abbrev S1x1024x128 : Shape := ⟨3, ![1, 1024, 128]⟩
abbrev S1024x128 : Shape := ⟨2, ![1024, 128]⟩
abbrev S1x1x128 : Shape := ⟨3, ![1, 1, 128]⟩
abbrev S1x128 : Shape := ⟨2, ![1, 128]⟩
abbrev S64x512 : Shape := ⟨2, ![64, 512]⟩

abbrev nBuf : Space → Nat
  | .hbm => 132
  | .vmem => 18
  | .smem => 0
  | _ => 0

abbrev hbmTy0_0 (i : Nat) : BufTy := match i % 128 with
  | 0 => ⟨S128x8x2048, .f32⟩
  | 1 => ⟨S1x128x32x64, .f32⟩
  | 2 => ⟨S1x128x32x64, .f32⟩
  | 3 => ⟨S1x32x64, .f32⟩
  | 4 => ⟨S1x32x64, .f32⟩
  | 5 => ⟨S1x32, .f32⟩
  | 6 => ⟨S1x32x64x16, .f32⟩
  | 7 => ⟨S1x32x64x16, .f32⟩
  | 8 => ⟨S1x32x16x64, .f32⟩
  | 9 => ⟨S1x32x16x64, .f32⟩
  | 10 => ⟨S1x32x16, .f32⟩
  | 11 => ⟨S1x512x512, .f32⟩
  | 12 => ⟨S1x512, .f32⟩
  | 13 => ⟨S32x64, .f32⟩
  | 14 => ⟨S32x64, .f32⟩
  | 15 => ⟨S32, .f32⟩
  | 16 => ⟨S32x64x16, .f32⟩
  | 17 => ⟨S32x64x16, .f32⟩
  | 18 => ⟨S32x16x64, .f32⟩
  | 19 => ⟨S32x16x64, .f32⟩
  | 20 => ⟨S32x16, .f32⟩
  | 21 => ⟨S32, .f32⟩
  | 22 => ⟨S32x1, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S32x64, .f32⟩
  | 37 => ⟨S_, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S32x64, .f32⟩
  | 44 => ⟨S32x64, .f32⟩
  | 45 => ⟨S32x64, .f32⟩
  | 46 => ⟨S32x64, .f32⟩
  | 47 => ⟨S32x64, .f32⟩
  | 48 => ⟨S32x64x1, .f32⟩
  | 49 => ⟨S32x64x16, .f32⟩
  | 50 => ⟨S32x64x16, .f32⟩
  | 51 => ⟨S32x64x1, .f32⟩
  | 52 => ⟨S32x64x16, .f32⟩
  | 53 => ⟨S32x64x16, .f32⟩
  | 54 => ⟨S32x64x16, .f32⟩
  | 55 => ⟨S32x64x1, .f32⟩
  | 56 => ⟨S32x64x16, .f32⟩
  | 57 => ⟨S32x64x16, .f32⟩
  | 58 => ⟨S32x64x1, .f32⟩
  | 59 => ⟨S32x64x16, .f32⟩
  | 60 => ⟨S32x64x16, .f32⟩
  | 61 => ⟨S32x64x16, .f32⟩
  | 62 => ⟨S8x8, .i32⟩
  | 63 => ⟨S8x8, .i32⟩
  | 64 => ⟨S_, .i32⟩
  | 65 => ⟨S8x8, .i32⟩
  | 66 => ⟨S8x8, .i32⟩
  | 67 => ⟨S8x8, .i1⟩
  | 68 => ⟨S8x8, .f32⟩
  | 69 => ⟨S4x8x64x16, .f32⟩
  | 70 => ⟨S4x8x16x64, .f32⟩
  | 71 => ⟨S4x8x16x1x64, .f32⟩
  | 72 => ⟨S1x8x1x8x1, .f32⟩
  | 73 => ⟨S4x8x16x8x64, .f32⟩
  | 74 => ⟨S4x8x16x8x64, .f32⟩
  | 75 => ⟨S4x8x16x8x64, .f32⟩
  | 76 => ⟨S4x128x512, .f32⟩
  | 77 => ⟨S4x8x64x16, .f32⟩
  | 78 => ⟨S4x8x16x64, .f32⟩
  | 79 => ⟨S4x8x16x1x64, .f32⟩
  | 80 => ⟨S1x8x1x8x1, .f32⟩
  | 81 => ⟨S4x8x16x8x64, .f32⟩
  | 82 => ⟨S4x8x16x8x64, .f32⟩
  | 83 => ⟨S4x8x16x8x64, .f32⟩
  | 84 => ⟨S4x128x512, .f32⟩
  | 85 => ⟨S4x128x1024, .f32⟩
  | 86 => ⟨S4x8x16x64, .f32⟩
  | 87 => ⟨S4x64x8x16, .f32⟩
  | 88 => ⟨S4x1x64x8x16, .f32⟩
  | 89 => ⟨S8x8, .f32⟩
  | 90 => ⟨S1x8x1x8x1, .f32⟩
  | 91 => ⟨S4x8x64x8x16, .f32⟩
  | 92 => ⟨S4x8x64x8x16, .f32⟩
  | 93 => ⟨S4x8x64x8x16, .f32⟩
  | 94 => ⟨S4x512x128, .f32⟩
  | 95 => ⟨S32x16x64, .f32⟩
  | 96 => ⟨S4x8x16x64, .f32⟩
  | 97 => ⟨S4x64x8x16, .f32⟩
  | 98 => ⟨S4x1x64x8x16, .f32⟩
  | 99 => ⟨S8x8, .f32⟩
  | 100 => ⟨S1x8x1x8x1, .f32⟩
  | 101 => ⟨S4x8x64x8x16, .f32⟩
  | 102 => ⟨S4x8x64x8x16, .f32⟩
  | 103 => ⟨S4x8x64x8x16, .f32⟩
  | 104 => ⟨S4x512x128, .f32⟩
  | 105 => ⟨S4x1024x128, .f32⟩
  | 106 => ⟨S4x512, .f32⟩
  | 107 => ⟨S4x1024, .f32⟩
  | 108 => ⟨S4x512, .f32⟩
  | 109 => ⟨S4x1024, .f32⟩
  | 110 => ⟨S4x1x1024, .f32⟩
  | 111 => ⟨S4x1x1024, .f32⟩
  | 112 => ⟨S4x2x1024, .f32⟩
  | 113 => ⟨S4x1x128, .f32⟩
  | 114 => ⟨S128x32x64, .f32⟩
  | 115 => ⟨S128x32x64, .f32⟩
  | 116 => ⟨S128x4x512, .f32⟩
  | 117 => ⟨S128x4x512, .f32⟩
  | 118 => ⟨S128x4x1024, .f32⟩
  | 119 => ⟨S4x128x1024, .f32⟩
  | 120 => ⟨S512x512, .f32⟩
  | 121 => ⟨S512, .f32⟩
  | 122 => ⟨S1x512, .f32⟩
  | 123 => ⟨S128x8x512, .f32⟩
  | 124 => ⟨S4x128x1024, .f32⟩
  | 125 => ⟨S128x4x1024, .f32⟩
  | 126 => ⟨S128x4x512, .f32⟩
  | 127 => ⟨S128x32x64, .f32⟩
  | _ => ⟨S128x8x2048, .f32⟩

abbrev hbmTy0_1 (i : Nat) : BufTy := match i % 128 with
  | 0 => ⟨S128x4x512, .f32⟩
  | 1 => ⟨S128x32x64, .f32⟩
  | 2 => ⟨S1x128x32x64, .f32⟩
  | 3 => ⟨S1x128x32x64, .f32⟩
  | _ => ⟨S128x8x2048, .f32⟩

abbrev hbmTy (i : Nat) : BufTy := match i / 128 with
  | 0 => hbmTy0_0 i
  | 1 => hbmTy0_1 i
  | _ => ⟨S128x8x2048, .f32⟩

abbrev bufTy : (tb : Table) → Fin (tcTables nBuf tb) → BufTy
  | .hbm, ⟨i, _⟩ => hbmTy i
  | .local _ .vmem, ⟨0, _⟩ => ⟨S8x8x512, .f32⟩
  | .local _ .vmem, ⟨1, _⟩ => ⟨S8x8x512, .f32⟩
  | .local _ .vmem, ⟨2, _⟩ => ⟨S4x8x1024, .f32⟩
  | .local _ .vmem, ⟨3, _⟩ => ⟨S4x8x1024, .f32⟩
  | .local _ .vmem, ⟨4, _⟩ => ⟨S4x2x1024, .f32⟩
  | .local _ .vmem, ⟨5, _⟩ => ⟨S4x128x1024, .f32⟩
  | .local _ .vmem, ⟨6, _⟩ => ⟨S4x1024x128, .f32⟩
  | .local _ .vmem, ⟨7, _⟩ => ⟨S4x1x128, .f32⟩
  | .local _ .vmem, ⟨8, _⟩ => ⟨S512x512, .f32⟩
  | .local _ .vmem, ⟨9, _⟩ => ⟨S1x512, .f32⟩
  | .local _ .vmem, ⟨10, _⟩ => ⟨S8x8x512, .f32⟩
  | .local _ .vmem, ⟨11, _⟩ => ⟨S8x8x512, .f32⟩
  | .local _ .vmem, ⟨12, _⟩ => ⟨S4x8x1024, .f32⟩
  | .local _ .vmem, ⟨13, _⟩ => ⟨S4x8x1024, .f32⟩
  | .local _ .vmem, ⟨14, _⟩ => ⟨S4x64x128, .f32⟩
  | .local _ .vmem, ⟨15, _⟩ => ⟨S4x64x1024, .f32⟩
  | .local _ .vmem, ⟨16, _⟩ => ⟨S4x64x128, .f32⟩
  | .local _ .vmem, ⟨17, _⟩ => ⟨S4x8x1024, .f32⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_c : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108_0 : Ref sig .tc := ⟨.hbm, 123, rfl⟩
abbrev main_v108_1 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![16, 1], ![false, false]⟩

@[reducible] def k0_t1_loop : Scf.Loop 32 :=
  let c0_i32_244 : BitVec 32 := 0#32
  let c8_i32 : BitVec 32 := 8#32
  let v219 : BitVec 32 := Scalar.addi c0_i32_244 c8_i32
  let c1_i32 : BitVec 32 := 1#32
  ⟨c0_i32_244, v219, c1_i32⟩
def k0_mult1 (k0_t1 : Fin k0_t1_loop.trips) : BitVec 32 :=
  let c0_i32_244 : BitVec 32 := 0#32
  let c1_i32 : BitVec 32 := 1#32
  let arg16 : BitVec 32 := Scf.iv c0_i32_244 c1_i32 k0_t1
  let c8_i32_537 : BitVec 32 := 8#32
  let v505 : BitVec 32 := Scalar.muli arg16 c8_i32_537
  v505
def k0_off1 (k0_t1 : Fin k0_t1_loop.trips) : Fin 3 → Nat :=
  let c0_544 : Index := 0#32
  let c0_i32_244 : BitVec 32 := 0#32
  let c1_i32 : BitVec 32 := 1#32
  let arg16 : BitVec 32 := Scf.iv c0_i32_244 c1_i32 k0_t1
  let c8_i32_537 : BitVec 32 := 8#32
  let v505 : BitVec 32 := Scalar.muli arg16 c8_i32_537
  let v506 : BitVec 32 := v505
  let v516 : Index := Scalar.indexCast v506
  let c0_545 : Index := 0#32
  ![0, v516.toNat, 0]
def k0_off2 (k0_t1 : Fin k0_t1_loop.trips) : Fin 3 → Nat :=
  let c0_546 : Index := 0#32
  let c0_i32_244 : BitVec 32 := 0#32
  let c1_i32 : BitVec 32 := 1#32
  let arg16 : BitVec 32 := Scf.iv c0_i32_244 c1_i32 k0_t1
  let c8_i32_537 : BitVec 32 := 8#32
  let v505 : BitVec 32 := Scalar.muli arg16 c8_i32_537
  let v506 : BitVec 32 := v505
  let v525 : Index := Scalar.indexCast v506
  let c512_547 : Index := 512#32
  ![0, v525.toNat, 512]
def k0_off3 (k0_t1 : Fin k0_t1_loop.trips) : Fin 3 → Nat :=
  let c1_558 : Index := 1#32
  let c0_i32_244 : BitVec 32 := 0#32
  let c1_i32 : BitVec 32 := 1#32
  let arg16 : BitVec 32 := Scf.iv c0_i32_244 c1_i32 k0_t1
  let c8_i32_537 : BitVec 32 := 8#32
  let v505 : BitVec 32 := Scalar.muli arg16 c8_i32_537
  let v506 : BitVec 32 := v505
  let v546 : Index := Scalar.indexCast v506
  let c0_559 : Index := 0#32
  ![1, v546.toNat, 0]
def k0_off4 (k0_t1 : Fin k0_t1_loop.trips) : Fin 3 → Nat :=
  let c1_560 : Index := 1#32
  let c0_i32_244 : BitVec 32 := 0#32
  let c1_i32 : BitVec 32 := 1#32
  let arg16 : BitVec 32 := Scf.iv c0_i32_244 c1_i32 k0_t1
  let c8_i32_537 : BitVec 32 := 8#32
  let v505 : BitVec 32 := Scalar.muli arg16 c8_i32_537
  let v506 : BitVec 32 := v505
  let v555 : Index := Scalar.indexCast v506
  let c512_561 : Index := 512#32
  ![1, v555.toNat, 512]
def k0_off5 (k0_t1 : Fin k0_t1_loop.trips) : Fin 3 → Nat :=
  let c2_572 : Index := 2#32
  let c0_i32_244 : BitVec 32 := 0#32
  let c1_i32 : BitVec 32 := 1#32
  let arg16 : BitVec 32 := Scf.iv c0_i32_244 c1_i32 k0_t1
  let c8_i32_537 : BitVec 32 := 8#32
  let v505 : BitVec 32 := Scalar.muli arg16 c8_i32_537
  let v506 : BitVec 32 := v505
  let v576 : Index := Scalar.indexCast v506
  let c0_573 : Index := 0#32
  ![2, v576.toNat, 0]
def k0_off6 (k0_t1 : Fin k0_t1_loop.trips) : Fin 3 → Nat :=
  let c2_574 : Index := 2#32
  let c0_i32_244 : BitVec 32 := 0#32
  let c1_i32 : BitVec 32 := 1#32
  let arg16 : BitVec 32 := Scf.iv c0_i32_244 c1_i32 k0_t1
  let c8_i32_537 : BitVec 32 := 8#32
  let v505 : BitVec 32 := Scalar.muli arg16 c8_i32_537
  let v506 : BitVec 32 := v505
  let v585 : Index := Scalar.indexCast v506
  let c512_575 : Index := 512#32
  ![2, v585.toNat, 512]
def k0_off7 (k0_t1 : Fin k0_t1_loop.trips) : Fin 3 → Nat :=
  let c3_586 : Index := 3#32
  let c0_i32_244 : BitVec 32 := 0#32
  let c1_i32 : BitVec 32 := 1#32
  let arg16 : BitVec 32 := Scf.iv c0_i32_244 c1_i32 k0_t1
  let c8_i32_537 : BitVec 32 := 8#32
  let v505 : BitVec 32 := Scalar.muli arg16 c8_i32_537
  let v506 : BitVec 32 := v505
  let v606 : Index := Scalar.indexCast v506
  let c0_587 : Index := 0#32
  ![3, v606.toNat, 0]
def k0_off8 (k0_t1 : Fin k0_t1_loop.trips) : Fin 3 → Nat :=
  let c3_588 : Index := 3#32
  let c0_i32_244 : BitVec 32 := 0#32
  let c1_i32 : BitVec 32 := 1#32
  let arg16 : BitVec 32 := Scf.iv c0_i32_244 c1_i32 k0_t1
  let c8_i32_537 : BitVec 32 := 8#32
  let v505 : BitVec 32 := Scalar.muli arg16 c8_i32_537
  let v506 : BitVec 32 := v505
  let v615 : Index := Scalar.indexCast v506
  let c512_589 : Index := 512#32
  ![3, v615.toNat, 512]
def k0_cond2 (i : grid0.Coords) : BitVec 1 :=
  let arg1 : BitVec 32 := BitVec.ofNat 32 (i 1).val
  let c0_i32_535 : BitVec 32 := 0#32
  let v502 : BitVec 1 := Scalar.cmpi .eq arg1 c0_i32_535
  let v503 : BitVec 32 := Scalar.extui v502
  let c0_i32_536 : BitVec 32 := 0#32
  let v504 : BitVec 1 := Scalar.cmpi .ne v503 c0_i32_536
  v504

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S8x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceS5SampleIdeal.lean ====
abbrev S128x8x2048 : Shape := ⟨3, ![128, 8, 2048]⟩
abbrev S1x128x32x64 : Shape := ⟨4, ![1, 128, 32, 64]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x32x16 : Shape := ⟨3, ![1, 32, 16]⟩
abbrev S1x512x512 : Shape := ⟨3, ![1, 512, 512]⟩
abbrev S1x512 : Shape := ⟨2, ![1, 512]⟩
abbrev S128x8x512 : Shape := ⟨3, ![128, 8, 512]⟩
abbrev S128x8x32x16 : Shape := ⟨4, ![128, 8, 32, 16]⟩
abbrev S128x32x64 : Shape := ⟨3, ![128, 32, 64]⟩
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S_ : Shape := ⟨0, ![]⟩
abbrev S32x64x1 : Shape := ⟨3, ![32, 64, 1]⟩
abbrev S32x64x128x8 : Shape := ⟨4, ![32, 64, 128, 8]⟩
abbrev S128x8x32x64 : Shape := ⟨4, ![128, 8, 32, 64]⟩
abbrev S128x1x32x64 : Shape := ⟨4, ![128, 1, 32, 64]⟩

abbrev nBuf : Space → Nat
  | .hbm => 229
  | .vmem => 0
  | .smem => 0
  | _ => 0

abbrev hbmTy0_0 (i : Nat) : BufTy := match i % 128 with
  | 0 => ⟨S128x8x2048, .f32⟩
  | 1 => ⟨S1x128x32x64, .f32⟩
  | 2 => ⟨S1x128x32x64, .f32⟩
  | 3 => ⟨S1x32x64, .f32⟩
  | 4 => ⟨S1x32x64, .f32⟩
  | 5 => ⟨S1x32, .f32⟩
  | 6 => ⟨S1x32x64x16, .f32⟩
  | 7 => ⟨S1x32x64x16, .f32⟩
  | 8 => ⟨S1x32x16x64, .f32⟩
  | 9 => ⟨S1x32x16x64, .f32⟩
  | 10 => ⟨S1x32x16, .f32⟩
  | 11 => ⟨S1x512x512, .f32⟩
  | 12 => ⟨S1x512, .f32⟩
  | 13 => ⟨S128x8x512, .f32⟩
  | 14 => ⟨S128x8x32x16, .f32⟩
  | 15 => ⟨S128x32x64, .f32⟩
  | 16 => ⟨S128x32x64, .f32⟩
  | 17 => ⟨S32x64, .f32⟩
  | 18 => ⟨S32x64, .f32⟩
  | 19 => ⟨S32, .f32⟩
  | 20 => ⟨S32x64x16, .f32⟩
  | 21 => ⟨S32x64x16, .f32⟩
  | 22 => ⟨S32, .f32⟩
  | 23 => ⟨S32x1, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S32x64, .f32⟩
  | 37 => ⟨S32x64, .f32⟩
  | 38 => ⟨S_, .f32⟩
  | 39 => ⟨S32x64, .f32⟩
  | 40 => ⟨S32x64, .f32⟩
  | 41 => ⟨S32x64, .f32⟩
  | 42 => ⟨S32x64, .f32⟩
  | 43 => ⟨S32x64, .f32⟩
  | 44 => ⟨S32x64, .f32⟩
  | 45 => ⟨S32x64, .f32⟩
  | 46 => ⟨S32x64, .f32⟩
  | 47 => ⟨S32x64, .f32⟩
  | 48 => ⟨S32x64, .f32⟩
  | 49 => ⟨S32x64x1, .f32⟩
  | 50 => ⟨S32x64x16, .f32⟩
  | 51 => ⟨S32x64x16, .f32⟩
  | 52 => ⟨S32x64x1, .f32⟩
  | 53 => ⟨S32x64x16, .f32⟩
  | 54 => ⟨S32x64x16, .f32⟩
  | 55 => ⟨S32x64x16, .f32⟩
  | 56 => ⟨S32x64x1, .f32⟩
  | 57 => ⟨S32x64x16, .f32⟩
  | 58 => ⟨S32x64x16, .f32⟩
  | 59 => ⟨S32x64x1, .f32⟩
  | 60 => ⟨S32x64x16, .f32⟩
  | 61 => ⟨S32x64x16, .f32⟩
  | 62 => ⟨S32x64x16, .f32⟩
  | 63 => ⟨S32x64x128x8, .f32⟩
  | 64 => ⟨S128x8x32x64, .f32⟩
  | 65 => ⟨S32x64x128x8, .f32⟩
  | 66 => ⟨S128x8x32x64, .f32⟩
  | 67 => ⟨S1x32x64, .f32⟩
  | 68 => ⟨S128x32x64, .f32⟩
  | 69 => ⟨S128x32x64, .f32⟩
  | 70 => ⟨S1x32x64, .f32⟩
  | 71 => ⟨S128x32x64, .f32⟩
  | 72 => ⟨S128x32x64, .f32⟩
  | 73 => ⟨S128x32x64, .f32⟩
  | 74 => ⟨S128x1x32x64, .f32⟩
  | 75 => ⟨S128x32x64, .f32⟩
  | 76 => ⟨S128x32x64, .f32⟩
  | 77 => ⟨S1x32x64, .f32⟩
  | 78 => ⟨S128x32x64, .f32⟩
  | 79 => ⟨S128x32x64, .f32⟩
  | 80 => ⟨S1x32x64, .f32⟩
  | 81 => ⟨S128x32x64, .f32⟩
  | 82 => ⟨S128x32x64, .f32⟩
  | 83 => ⟨S128x32x64, .f32⟩
  | 84 => ⟨S128x1x32x64, .f32⟩
  | 85 => ⟨S128x32x64, .f32⟩
  | 86 => ⟨S128x32x64, .f32⟩
  | 87 => ⟨S1x32x64, .f32⟩
  | 88 => ⟨S128x32x64, .f32⟩
  | 89 => ⟨S128x32x64, .f32⟩
  | 90 => ⟨S1x32x64, .f32⟩
  | 91 => ⟨S128x32x64, .f32⟩
  | 92 => ⟨S128x32x64, .f32⟩
  | 93 => ⟨S128x32x64, .f32⟩
  | 94 => ⟨S128x1x32x64, .f32⟩
  | 95 => ⟨S128x32x64, .f32⟩
  | 96 => ⟨S128x32x64, .f32⟩
  | 97 => ⟨S1x32x64, .f32⟩
  | 98 => ⟨S128x32x64, .f32⟩
  | 99 => ⟨S128x32x64, .f32⟩
  | 100 => ⟨S1x32x64, .f32⟩
  | 101 => ⟨S128x32x64, .f32⟩
  | 102 => ⟨S128x32x64, .f32⟩
  | 103 => ⟨S128x32x64, .f32⟩
  | 104 => ⟨S128x1x32x64, .f32⟩
  | 105 => ⟨S128x32x64, .f32⟩
  | 106 => ⟨S128x32x64, .f32⟩
  | 107 => ⟨S1x32x64, .f32⟩
  | 108 => ⟨S128x32x64, .f32⟩
  | 109 => ⟨S128x32x64, .f32⟩
  | 110 => ⟨S1x32x64, .f32⟩
  | 111 => ⟨S128x32x64, .f32⟩
  | 112 => ⟨S128x32x64, .f32⟩
  | 113 => ⟨S128x32x64, .f32⟩
  | 114 => ⟨S128x1x32x64, .f32⟩
  | 115 => ⟨S128x32x64, .f32⟩
  | 116 => ⟨S128x32x64, .f32⟩
  | 117 => ⟨S1x32x64, .f32⟩
  | 118 => ⟨S128x32x64, .f32⟩
  | 119 => ⟨S128x32x64, .f32⟩
  | 120 => ⟨S1x32x64, .f32⟩
  | 121 => ⟨S128x32x64, .f32⟩
  | 122 => ⟨S128x32x64, .f32⟩
  | 123 => ⟨S128x32x64, .f32⟩
  | 124 => ⟨S128x1x32x64, .f32⟩
  | 125 => ⟨S128x32x64, .f32⟩
  | 126 => ⟨S128x32x64, .f32⟩
  | 127 => ⟨S1x32x64, .f32⟩
  | _ => ⟨S128x8x2048, .f32⟩

abbrev hbmTy0_1 (i : Nat) : BufTy := match i % 128 with
  | 0 => ⟨S128x32x64, .f32⟩
  | 1 => ⟨S128x32x64, .f32⟩
  | 2 => ⟨S1x32x64, .f32⟩
  | 3 => ⟨S128x32x64, .f32⟩
  | 4 => ⟨S128x32x64, .f32⟩
  | 5 => ⟨S128x32x64, .f32⟩
  | 6 => ⟨S128x1x32x64, .f32⟩
  | 7 => ⟨S128x32x64, .f32⟩
  | 8 => ⟨S128x32x64, .f32⟩
  | 9 => ⟨S1x32x64, .f32⟩
  | 10 => ⟨S128x32x64, .f32⟩
  | 11 => ⟨S128x32x64, .f32⟩
  | 12 => ⟨S1x32x64, .f32⟩
  | 13 => ⟨S128x32x64, .f32⟩
  | 14 => ⟨S128x32x64, .f32⟩
  | 15 => ⟨S128x32x64, .f32⟩
  | 16 => ⟨S128x1x32x64, .f32⟩
  | 17 => ⟨S128x32x64, .f32⟩
  | 18 => ⟨S128x32x64, .f32⟩
  | 19 => ⟨S1x32x64, .f32⟩
  | 20 => ⟨S128x32x64, .f32⟩
  | 21 => ⟨S128x32x64, .f32⟩
  | 22 => ⟨S1x32x64, .f32⟩
  | 23 => ⟨S128x32x64, .f32⟩
  | 24 => ⟨S128x32x64, .f32⟩
  | 25 => ⟨S128x32x64, .f32⟩
  | 26 => ⟨S128x1x32x64, .f32⟩
  | 27 => ⟨S128x32x64, .f32⟩
  | 28 => ⟨S128x32x64, .f32⟩
  | 29 => ⟨S1x32x64, .f32⟩
  | 30 => ⟨S128x32x64, .f32⟩
  | 31 => ⟨S128x32x64, .f32⟩
  | 32 => ⟨S1x32x64, .f32⟩
  | 33 => ⟨S128x32x64, .f32⟩
  | 34 => ⟨S128x32x64, .f32⟩
  | 35 => ⟨S128x32x64, .f32⟩
  | 36 => ⟨S128x1x32x64, .f32⟩
  | 37 => ⟨S128x32x64, .f32⟩
  | 38 => ⟨S128x32x64, .f32⟩
  | 39 => ⟨S1x32x64, .f32⟩
  | 40 => ⟨S128x32x64, .f32⟩
  | 41 => ⟨S128x32x64, .f32⟩
  | 42 => ⟨S1x32x64, .f32⟩
  | 43 => ⟨S128x32x64, .f32⟩
  | 44 => ⟨S128x32x64, .f32⟩
  | 45 => ⟨S128x32x64, .f32⟩
  | 46 => ⟨S128x1x32x64, .f32⟩
  | 47 => ⟨S128x32x64, .f32⟩
  | 48 => ⟨S128x32x64, .f32⟩
  | 49 => ⟨S1x32x64, .f32⟩
  | 50 => ⟨S128x32x64, .f32⟩
  | 51 => ⟨S128x32x64, .f32⟩
  | 52 => ⟨S1x32x64, .f32⟩
  | 53 => ⟨S128x32x64, .f32⟩
  | 54 => ⟨S128x32x64, .f32⟩
  | 55 => ⟨S128x32x64, .f32⟩
  | 56 => ⟨S128x1x32x64, .f32⟩
  | 57 => ⟨S128x32x64, .f32⟩
  | 58 => ⟨S128x32x64, .f32⟩
  | 59 => ⟨S1x32x64, .f32⟩
  | 60 => ⟨S128x32x64, .f32⟩
  | 61 => ⟨S128x32x64, .f32⟩
  | 62 => ⟨S1x32x64, .f32⟩
  | 63 => ⟨S128x32x64, .f32⟩
  | 64 => ⟨S128x32x64, .f32⟩
  | 65 => ⟨S128x32x64, .f32⟩
  | 66 => ⟨S128x1x32x64, .f32⟩
  | 67 => ⟨S128x32x64, .f32⟩
  | 68 => ⟨S128x32x64, .f32⟩
  | 69 => ⟨S1x32x64, .f32⟩
  | 70 => ⟨S128x32x64, .f32⟩
  | 71 => ⟨S128x32x64, .f32⟩
  | 72 => ⟨S1x32x64, .f32⟩
  | 73 => ⟨S128x32x64, .f32⟩
  | 74 => ⟨S128x32x64, .f32⟩
  | 75 => ⟨S128x32x64, .f32⟩
  | 76 => ⟨S128x1x32x64, .f32⟩
  | 77 => ⟨S128x32x64, .f32⟩
  | 78 => ⟨S128x32x64, .f32⟩
  | 79 => ⟨S1x32x64, .f32⟩
  | 80 => ⟨S128x32x64, .f32⟩
  | 81 => ⟨S128x32x64, .f32⟩
  | 82 => ⟨S1x32x64, .f32⟩
  | 83 => ⟨S128x32x64, .f32⟩
  | 84 => ⟨S128x32x64, .f32⟩
  | 85 => ⟨S128x32x64, .f32⟩
  | 86 => ⟨S128x1x32x64, .f32⟩
  | 87 => ⟨S128x32x64, .f32⟩
  | 88 => ⟨S128x32x64, .f32⟩
  | 89 => ⟨S1x32x64, .f32⟩
  | 90 => ⟨S128x32x64, .f32⟩
  | 91 => ⟨S128x32x64, .f32⟩
  | 92 => ⟨S1x32x64, .f32⟩
  | 93 => ⟨S128x32x64, .f32⟩
  | 94 => ⟨S128x32x64, .f32⟩
  | 95 => ⟨S128x32x64, .f32⟩
  | 96 => ⟨S128x1x32x64, .f32⟩
  | 97 => ⟨S128x32x64, .f32⟩
  | 98 => ⟨S128x32x64, .f32⟩
  | 99 => ⟨S1x128x32x64, .f32⟩
  | 100 => ⟨S1x128x32x64, .f32⟩
  | _ => ⟨S128x8x2048, .f32⟩

abbrev hbmTy (i : Nat) : BufTy := match i / 128 with
  | 0 => hbmTy0_0 i
  | 1 => hbmTy0_1 i
  | _ => ⟨S128x8x2048, .f32⟩

abbrev bufTy : (tb : Table) → Fin (tcTables nBuf tb) → BufTy
  | .hbm, ⟨i, _⟩ => hbmTy i
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_v200 : Ref sig .tc := ⟨.hbm, 214, rfl⟩
abbrev main_v201 : Ref sig .tc := ⟨.hbm, 215, rfl⟩
abbrev main_v202 : Ref sig .tc := ⟨.hbm, 216, rfl⟩
abbrev main_v203 : Ref sig .tc := ⟨.hbm, 217, rfl⟩
abbrev main_v204 : Ref sig .tc := ⟨.hbm, 218, rfl⟩
abbrev main_v205 : Ref sig .tc := ⟨.hbm, 219, rfl⟩
abbrev main_v206 : Ref sig .tc := ⟨.hbm, 220, rfl⟩
abbrev main_v207 : Ref sig .tc := ⟨.hbm, 221, rfl⟩
abbrev main_v208 : Ref sig .tc := ⟨.hbm, 222, rfl⟩
abbrev main_v209 : Ref sig .tc := ⟨.hbm, 223, rfl⟩
abbrev main_v210 : Ref sig .tc := ⟨.hbm, 224, rfl⟩
abbrev main_v211 : Ref sig .tc := ⟨.hbm, 225, rfl⟩
abbrev main_v212 : Ref sig .tc := ⟨.hbm, 226, rfl⟩
abbrev main_v213 : Ref sig .tc := ⟨.hbm, 227, rfl⟩
abbrev main_v214 : Ref sig .tc := ⟨.hbm, 228, rfl⟩

abbrev nD : Nat := 1
abbrev τ : Topo := Topo.v7x

variable {F : FTy → Type} [FloatOps F]
-- ==== S5Prompt.lean ====
abbrev S4x4096x2048 : Shape := ⟨3, ![4, 4096, 2048]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x32x16 : Shape := ⟨3, ![1, 32, 16]⟩
abbrev S1x512x512 : Shape := ⟨3, ![1, 512, 512]⟩
abbrev S1x512 : Shape := ⟨2, ![1, 512]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x16 : Shape := ⟨2, ![32, 16]⟩
abbrev S32x1 : Shape := ⟨2, ![32, 1]⟩
abbrev S_ : Shape := ⟨0, ![]⟩
abbrev S32x64x1 : Shape := ⟨3, ![32, 64, 1]⟩
abbrev S8x8 : Shape := ⟨2, ![8, 8]⟩
abbrev S4x8x64x16 : Shape := ⟨4, ![4, 8, 64, 16]⟩
abbrev S4x8x16x64 : Shape := ⟨4, ![4, 8, 16, 64]⟩
abbrev S4x8x16x1x64 : Shape := ⟨5, ![4, 8, 16, 1, 64]⟩
abbrev S1x8x1x8x1 : Shape := ⟨5, ![1, 8, 1, 8, 1]⟩
abbrev S4x8x16x8x64 : Shape := ⟨5, ![4, 8, 16, 8, 64]⟩
abbrev S4x128x512 : Shape := ⟨3, ![4, 128, 512]⟩
abbrev S4x128x1024 : Shape := ⟨3, ![4, 128, 1024]⟩
abbrev S4x64x8x16 : Shape := ⟨4, ![4, 64, 8, 16]⟩
abbrev S4x1x64x8x16 : Shape := ⟨5, ![4, 1, 64, 8, 16]⟩
abbrev S4x8x64x8x16 : Shape := ⟨5, ![4, 8, 64, 8, 16]⟩
abbrev S4x512x128 : Shape := ⟨3, ![4, 512, 128]⟩
abbrev S4x1024x128 : Shape := ⟨3, ![4, 1024, 128]⟩
abbrev S4x512 : Shape := ⟨2, ![4, 512]⟩
abbrev S4x1024 : Shape := ⟨2, ![4, 1024]⟩
abbrev S4x1x1024 : Shape := ⟨3, ![4, 1, 1024]⟩
abbrev S4x2x1024 : Shape := ⟨3, ![4, 2, 1024]⟩
abbrev S4x1x128 : Shape := ⟨3, ![4, 1, 128]⟩
abbrev S4x8x1024 : Shape := ⟨3, ![4, 8, 1024]⟩
abbrev S512x512 : Shape := ⟨2, ![512, 512]⟩
abbrev S512 : Shape := ⟨1, ![512]⟩
abbrev S4x4096x512 : Shape := ⟨3, ![4, 4096, 512]⟩
abbrev S4x1024x1024 : Shape := ⟨3, ![4, 1024, 1024]⟩
abbrev S1x128x128 : Shape := ⟨3, ![1, 128, 128]⟩
abbrev S128x128 : Shape := ⟨2, ![128, 128]⟩
abbrev S1x1024x128 : Shape := ⟨3, ![1, 1024, 128]⟩
abbrev S1024x128 : Shape := ⟨2, ![1024, 128]⟩
abbrev S1x128x1024 : Shape := ⟨3, ![1, 128, 1024]⟩
abbrev S128x1024 : Shape := ⟨2, ![128, 1024]⟩
abbrev S1024x1024 : Shape := ⟨2, ![1024, 1024]⟩
abbrev S1x1024x1024 : Shape := ⟨3, ![1, 1024, 1024]⟩
abbrev S1x8x512 : Shape := ⟨3, ![1, 8, 512]⟩
abbrev S8x512 : Shape := ⟨2, ![8, 512]⟩
abbrev S1x1x512 : Shape := ⟨3, ![1, 1, 512]⟩
abbrev S1x1x128 : Shape := ⟨3, ![1, 1, 128]⟩
abbrev S1x128 : Shape := ⟨2, ![1, 128]⟩
abbrev S1024x512 : Shape := ⟨2, ![1024, 512]⟩
abbrev S4x4x1024 : Shape := ⟨3, ![4, 4, 1024]⟩
abbrev S4x4x512 : Shape := ⟨3, ![4, 4, 512]⟩
abbrev S4x32x64 : Shape := ⟨3, ![4, 32, 64]⟩
abbrev S1x4x32x64 : Shape := ⟨4, ![1, 4, 32, 64]⟩

abbrev nBuf : Space → Nat
  | .hbm => 127
  | .vmem => 16
  | .smem => 0
  | _ => 0

abbrev bufTy : (tb : Table) → Fin (tcTables nBuf tb) → BufTy
  | .hbm, ⟨0, _⟩ => ⟨S4x4096x2048, .f32⟩
  | .hbm, ⟨1, _⟩ => ⟨S1x32x64, .f32⟩
  | .hbm, ⟨2, _⟩ => ⟨S1x32x64, .f32⟩
  | .hbm, ⟨3, _⟩ => ⟨S1x32, .f32⟩
  | .hbm, ⟨4, _⟩ => ⟨S1x32x64x16, .f32⟩
  | .hbm, ⟨5, _⟩ => ⟨S1x32x64x16, .f32⟩
  | .hbm, ⟨6, _⟩ => ⟨S1x32x16x64, .f32⟩
  | .hbm, ⟨7, _⟩ => ⟨S1x32x16x64, .f32⟩
  | .hbm, ⟨8, _⟩ => ⟨S1x32x16, .f32⟩
  | .hbm, ⟨9, _⟩ => ⟨S1x512x512, .f32⟩
  | .hbm, ⟨10, _⟩ => ⟨S1x512, .f32⟩
  | .hbm, ⟨11, _⟩ => ⟨S32x64, .f32⟩
  | .hbm, ⟨12, _⟩ => ⟨S32x64, .f32⟩
  | .hbm, ⟨13, _⟩ => ⟨S32, .f32⟩
  | .hbm, ⟨14, _⟩ => ⟨S32x64x16, .f32⟩
  | .hbm, ⟨15, _⟩ => ⟨S32x64x16, .f32⟩
  | .hbm, ⟨16, _⟩ => ⟨S32x16x64, .f32⟩
  | .hbm, ⟨17, _⟩ => ⟨S32x16x64, .f32⟩
  | .hbm, ⟨18, _⟩ => ⟨S32x16, .f32⟩
  | .hbm, ⟨19, _⟩ => ⟨S32, .f32⟩
  | .hbm, ⟨20, _⟩ => ⟨S32x1, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S_, .f32⟩
  | .hbm, ⟨36, _⟩ => ⟨S32x64, .f32⟩
  | .hbm, ⟨37, _⟩ => ⟨S32x64, .f32⟩
  | .hbm, ⟨38, _⟩ => ⟨S32x64, .f32⟩
  | .hbm, ⟨39, _⟩ => ⟨S32x64, .f32⟩
  | .hbm, ⟨40, _⟩ => ⟨S32x64, .f32⟩
  | .hbm, ⟨41, _⟩ => ⟨S32x64, .f32⟩
  | .hbm, ⟨42, _⟩ => ⟨S32x64, .f32⟩
  | .hbm, ⟨43, _⟩ => ⟨S32x64, .f32⟩
  | .hbm, ⟨44, _⟩ => ⟨S32x64, .f32⟩
  | .hbm, ⟨45, _⟩ => ⟨S32x64, .f32⟩
  | .hbm, ⟨46, _⟩ => ⟨S32x64x1, .f32⟩
  | .hbm, ⟨47, _⟩ => ⟨S32x64x16, .f32⟩
  | .hbm, ⟨48, _⟩ => ⟨S32x64x16, .f32⟩
  | .hbm, ⟨49, _⟩ => ⟨S32x64x1, .f32⟩
  | .hbm, ⟨50, _⟩ => ⟨S32x64x16, .f32⟩
  | .hbm, ⟨51, _⟩ => ⟨S32x64x16, .f32⟩
  | .hbm, ⟨52, _⟩ => ⟨S32x64x16, .f32⟩
  | .hbm, ⟨53, _⟩ => ⟨S32x64x1, .f32⟩
  | .hbm, ⟨54, _⟩ => ⟨S32x64x16, .f32⟩
  | .hbm, ⟨55, _⟩ => ⟨S32x64x16, .f32⟩
  | .hbm, ⟨56, _⟩ => ⟨S32x64x1, .f32⟩
  | .hbm, ⟨57, _⟩ => ⟨S32x64x16, .f32⟩
  | .hbm, ⟨58, _⟩ => ⟨S32x64x16, .f32⟩
  | .hbm, ⟨59, _⟩ => ⟨S32x64x16, .f32⟩
  | .hbm, ⟨60, _⟩ => ⟨S8x8, .i32⟩
  | .hbm, ⟨61, _⟩ => ⟨S8x8, .i32⟩
  | .hbm, ⟨62, _⟩ => ⟨S_, .i32⟩
  | .hbm, ⟨63, _⟩ => ⟨S8x8, .i32⟩
  | .hbm, ⟨64, _⟩ => ⟨S8x8, .i32⟩
  | .hbm, ⟨65, _⟩ => ⟨S8x8, .i1⟩
  | .hbm, ⟨66, _⟩ => ⟨S8x8, .f32⟩
  | .hbm, ⟨67, _⟩ => ⟨S4x8x64x16, .f32⟩
  | .hbm, ⟨68, _⟩ => ⟨S4x8x16x64, .f32⟩
  | .hbm, ⟨69, _⟩ => ⟨S4x8x16x1x64, .f32⟩
  | .hbm, ⟨70, _⟩ => ⟨S1x8x1x8x1, .f32⟩
  | .hbm, ⟨71, _⟩ => ⟨S4x8x16x8x64, .f32⟩
  | .hbm, ⟨72, _⟩ => ⟨S4x8x16x8x64, .f32⟩
  | .hbm, ⟨73, _⟩ => ⟨S4x8x16x8x64, .f32⟩
  | .hbm, ⟨74, _⟩ => ⟨S4x128x512, .f32⟩
  | .hbm, ⟨75, _⟩ => ⟨S4x8x64x16, .f32⟩
  | .hbm, ⟨76, _⟩ => ⟨S4x8x16x64, .f32⟩
  | .hbm, ⟨77, _⟩ => ⟨S4x8x16x1x64, .f32⟩
  | .hbm, ⟨78, _⟩ => ⟨S1x8x1x8x1, .f32⟩
  | .hbm, ⟨79, _⟩ => ⟨S4x8x16x8x64, .f32⟩
  | .hbm, ⟨80, _⟩ => ⟨S4x8x16x8x64, .f32⟩
  | .hbm, ⟨81, _⟩ => ⟨S4x8x16x8x64, .f32⟩
  | .hbm, ⟨82, _⟩ => ⟨S4x128x512, .f32⟩
  | .hbm, ⟨83, _⟩ => ⟨S4x128x1024, .f32⟩
  | .hbm, ⟨84, _⟩ => ⟨S4x8x16x64, .f32⟩
  | .hbm, ⟨85, _⟩ => ⟨S4x64x8x16, .f32⟩
  | .hbm, ⟨86, _⟩ => ⟨S4x1x64x8x16, .f32⟩
  | .hbm, ⟨87, _⟩ => ⟨S8x8, .f32⟩
  | .hbm, ⟨88, _⟩ => ⟨S1x8x1x8x1, .f32⟩
  | .hbm, ⟨89, _⟩ => ⟨S4x8x64x8x16, .f32⟩
  | .hbm, ⟨90, _⟩ => ⟨S4x8x64x8x16, .f32⟩
  | .hbm, ⟨91, _⟩ => ⟨S4x8x64x8x16, .f32⟩
  | .hbm, ⟨92, _⟩ => ⟨S4x512x128, .f32⟩
  | .hbm, ⟨93, _⟩ => ⟨S32x16x64, .f32⟩
  | .hbm, ⟨94, _⟩ => ⟨S4x8x16x64, .f32⟩
  | .hbm, ⟨95, _⟩ => ⟨S4x64x8x16, .f32⟩
  | .hbm, ⟨96, _⟩ => ⟨S4x1x64x8x16, .f32⟩
  | .hbm, ⟨97, _⟩ => ⟨S8x8, .f32⟩
  | .hbm, ⟨98, _⟩ => ⟨S1x8x1x8x1, .f32⟩
  | .hbm, ⟨99, _⟩ => ⟨S4x8x64x8x16, .f32⟩
  | .hbm, ⟨100, _⟩ => ⟨S4x8x64x8x16, .f32⟩
  | .hbm, ⟨101, _⟩ => ⟨S4x8x64x8x16, .f32⟩
  | .hbm, ⟨102, _⟩ => ⟨S4x512x128, .f32⟩
  | .hbm, ⟨103, _⟩ => ⟨S4x1024x128, .f32⟩
  | .hbm, ⟨104, _⟩ => ⟨S4x512, .f32⟩
  | .hbm, ⟨105, _⟩ => ⟨S4x1024, .f32⟩
  | .hbm, ⟨106, _⟩ => ⟨S4x512, .f32⟩
  | .hbm, ⟨107, _⟩ => ⟨S4x1024, .f32⟩
  | .hbm, ⟨108, _⟩ => ⟨S4x1x1024, .f32⟩
  | .hbm, ⟨109, _⟩ => ⟨S4x1x1024, .f32⟩
  | .hbm, ⟨110, _⟩ => ⟨S4x2x1024, .f32⟩
  | .hbm, ⟨111, _⟩ => ⟨S4x1x128, .f32⟩
  | .hbm, ⟨112, _⟩ => ⟨S_, .f32⟩
  | .hbm, ⟨113, _⟩ => ⟨S4x8x1024, .f32⟩
  | .hbm, ⟨114, _⟩ => ⟨S512x512, .f32⟩
  | .hbm, ⟨115, _⟩ => ⟨S512, .f32⟩
  | .hbm, ⟨116, _⟩ => ⟨S1x512, .f32⟩
  | .hbm, ⟨117, _⟩ => ⟨S4x4096x512, .f32⟩
  | .hbm, ⟨118, _⟩ => ⟨S4x8x1024, .f32⟩
  | .hbm, ⟨119, _⟩ => ⟨S4x4x1024, .f32⟩
  | .hbm, ⟨120, _⟩ => ⟨S4x4x1024, .f32⟩
  | .hbm, ⟨121, _⟩ => ⟨S4x4x512, .f32⟩
  | .hbm, ⟨122, _⟩ => ⟨S4x32x64, .f32⟩
  | .hbm, ⟨123, _⟩ => ⟨S4x4x512, .f32⟩
  | .hbm, ⟨124, _⟩ => ⟨S4x32x64, .f32⟩
  | .hbm, ⟨125, _⟩ => ⟨S1x4x32x64, .f32⟩
  | .hbm, ⟨126, _⟩ => ⟨S1x4x32x64, .f32⟩
  | .local _ .vmem, ⟨0, _⟩ => ⟨S4x128x512, .f32⟩
  | .local _ .vmem, ⟨1, _⟩ => ⟨S4x128x512, .f32⟩
  | .local _ .vmem, ⟨2, _⟩ => ⟨S4x8x1024, .f32⟩
  | .local _ .vmem, ⟨3, _⟩ => ⟨S4x2x1024, .f32⟩
  | .local _ .vmem, ⟨4, _⟩ => ⟨S4x128x1024, .f32⟩
  | .local _ .vmem, ⟨5, _⟩ => ⟨S4x1024x128, .f32⟩
  | .local _ .vmem, ⟨6, _⟩ => ⟨S4x1x128, .f32⟩
  | .local _ .vmem, ⟨7, _⟩ => ⟨S512x512, .f32⟩
  | .local _ .vmem, ⟨8, _⟩ => ⟨S1x512, .f32⟩
  | .local _ .vmem, ⟨9, _⟩ => ⟨S4x128x512, .f32⟩
  | .local _ .vmem, ⟨10, _⟩ => ⟨S4x128x512, .f32⟩
  | .local _ .vmem, ⟨11, _⟩ => ⟨S4x8x1024, .f32⟩
  | .local _ .vmem, ⟨12, _⟩ => ⟨S4x1024x128, .f32⟩
  | .local _ .vmem, ⟨13, _⟩ => ⟨S4x1024x1024, .f32⟩
  | .local _ .vmem, ⟨14, _⟩ => ⟨S4x1024x128, .f32⟩
  | .local _ .vmem, ⟨15, _⟩ => ⟨S4x8x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_c : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_cst_0 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103_0 : Ref sig .tc := ⟨.hbm, 117, rfl⟩
abbrev main_v103_1 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11

abbrev nD : Nat := 1
abbrev τ : Topo := Topo.v7x

variable {F : FTy → Type} [FloatOps F]

abbrev grid0 : Pipeline.Grid := ⟨2, ![1, 32], ![false, false]⟩

@[reducible] def k0_t1_loop : Scf.Loop 32 :=
  let c0_i32_156 : BitVec 32 := 0#32
  let c128_i32 : BitVec 32 := 128#32
  let v143 : BitVec 32 := Scalar.addi c0_i32_156 c128_i32
  let c1_i32 : BitVec 32 := 1#32
  ⟨c0_i32_156, v143, c1_i32⟩
def k0_mult1 (k0_t1 : Fin k0_t1_loop.trips) : BitVec 32 :=
  let c0_i32_156 : BitVec 32 := 0#32
  let c1_i32 : BitVec 32 := 1#32
  let arg16 : BitVec 32 := Scf.iv c0_i32_156 c1_i32 k0_t1
  let c8_i32 : BitVec 32 := 8#32
  let v349 : BitVec 32 := Scalar.muli arg16 c8_i32
  v349
def k0_off1 (k0_t1 : Fin k0_t1_loop.trips) : Fin 3 → Nat :=
  let c0_358 : Index := 0#32
  let c0_i32_156 : BitVec 32 := 0#32
  let c1_i32 : BitVec 32 := 1#32
  let arg16 : BitVec 32 := Scf.iv c0_i32_156 c1_i32 k0_t1
  let c8_i32 : BitVec 32 := 8#32
  let v349 : BitVec 32 := Scalar.muli arg16 c8_i32
  let v350 : BitVec 32 := v349
  let v360 : Index := Scalar.indexCast v350
  let c0_359 : Index := 0#32
  ![0, v360.toNat, 0]
def k0_off2 (k0_t1 : Fin k0_t1_loop.trips) : Fin 3 → Nat :=
  let c0_360 : Index := 0#32
  let c0_i32_156 : BitVec 32 := 0#32
  let c1_i32 : BitVec 32 := 1#32
  let arg16 : BitVec 32 := Scf.iv c0_i32_156 c1_i32 k0_t1
  let c8_i32 : BitVec 32 := 8#32
  let v349 : BitVec 32 := Scalar.muli arg16 c8_i32
  let v350 : BitVec 32 := v349
  let v369 : Index := Scalar.indexCast v350
  let c512_361 : Index := 512#32
  ![0, v369.toNat, 512]
def k0_off3 (k0_t1 : Fin k0_t1_loop.trips) : Fin 3 → Nat :=
  let c1_372 : Index := 1#32
  let c0_i32_156 : BitVec 32 := 0#32
  let c1_i32 : BitVec 32 := 1#32
  let arg16 : BitVec 32 := Scf.iv c0_i32_156 c1_i32 k0_t1
  let c8_i32 : BitVec 32 := 8#32
  let v349 : BitVec 32 := Scalar.muli arg16 c8_i32
  let v350 : BitVec 32 := v349
  let v390 : Index := Scalar.indexCast v350
  let c0_373 : Index := 0#32
  ![1, v390.toNat, 0]
def k0_off4 (k0_t1 : Fin k0_t1_loop.trips) : Fin 3 → Nat :=
  let c1_374 : Index := 1#32
  let c0_i32_156 : BitVec 32 := 0#32
  let c1_i32 : BitVec 32 := 1#32
  let arg16 : BitVec 32 := Scf.iv c0_i32_156 c1_i32 k0_t1
  let c8_i32 : BitVec 32 := 8#32
  let v349 : BitVec 32 := Scalar.muli arg16 c8_i32
  let v350 : BitVec 32 := v349
  let v399 : Index := Scalar.indexCast v350
  let c512_375 : Index := 512#32
  ![1, v399.toNat, 512]
def k0_off5 (k0_t1 : Fin k0_t1_loop.trips) : Fin 3 → Nat :=
  let c2_386 : Index := 2#32
  let c0_i32_156 : BitVec 32 := 0#32
  let c1_i32 : BitVec 32 := 1#32
  let arg16 : BitVec 32 := Scf.iv c0_i32_156 c1_i32 k0_t1
  let c8_i32 : BitVec 32 := 8#32
  let v349 : BitVec 32 := Scalar.muli arg16 c8_i32
  let v350 : BitVec 32 := v349
  let v420 : Index := Scalar.indexCast v350
  let c0_387 : Index := 0#32
  ![2, v420.toNat, 0]
def k0_off6 (k0_t1 : Fin k0_t1_loop.trips) : Fin 3 → Nat :=
  let c2_388 : Index := 2#32
  let c0_i32_156 : BitVec 32 := 0#32
  let c1_i32 : BitVec 32 := 1#32
  let arg16 : BitVec 32 := Scf.iv c0_i32_156 c1_i32 k0_t1
  let c8_i32 : BitVec 32 := 8#32
  let v349 : BitVec 32 := Scalar.muli arg16 c8_i32
  let v350 : BitVec 32 := v349
  let v429 : Index := Scalar.indexCast v350
  let c512_389 : Index := 512#32
  ![2, v429.toNat, 512]
def k0_off7 (k0_t1 : Fin k0_t1_loop.trips) : Fin 3 → Nat :=
  let c3_400 : Index := 3#32
  let c0_i32_156 : BitVec 32 := 0#32
  let c1_i32 : BitVec 32 := 1#32
  let arg16 : BitVec 32 := Scf.iv c0_i32_156 c1_i32 k0_t1
  let c8_i32 : BitVec 32 := 8#32
  let v349 : BitVec 32 := Scalar.muli arg16 c8_i32
  let v350 : BitVec 32 := v349
  let v450 : Index := Scalar.indexCast v350
  let c0_401 : Index := 0#32
  ![3, v450.toNat, 0]
def k0_off8 (k0_t1 : Fin k0_t1_loop.trips) : Fin 3 → Nat :=
  let c3_402 : Index := 3#32
  let c0_i32_156 : BitVec 32 := 0#32
  let c1_i32 : BitVec 32 := 1#32
  let arg16 : BitVec 32 := Scf.iv c0_i32_156 c1_i32 k0_t1
  let c8_i32 : BitVec 32 := 8#32
  let v349 : BitVec 32 := Scalar.muli arg16 c8_i32
  let v350 : BitVec 32 := v349
  let v459 : Index := Scalar.indexCast v350
  let c512_403 : Index := 512#32
  ![3, v459.toNat, 512]
def k0_cond2 (i : grid0.Coords) : BitVec 1 :=
  let arg1 : BitVec 32 := BitVec.ofNat 32 (i 1).val
  let c31_i32 : BitVec 32 := 31#32
  let v346 : BitVec 1 := Scalar.cmpi .eq arg1 c31_i32
  let v347 : BitVec 32 := Scalar.extui v346
  let c0_i32_351 : BitVec 32 := 0#32
  let v348 : BitVec 1 := Scalar.cmpi .ne v347 c0_i32_351
  v348

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S4x2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S4x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S4x8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== ReferenceS5PromptIdeal.lean ====
abbrev S4x4096x2048 : Shape := ⟨3, ![4, 4096, 2048]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x32x16 : Shape := ⟨3, ![1, 32, 16]⟩
abbrev S1x512x512 : Shape := ⟨3, ![1, 512, 512]⟩
abbrev S1x512 : Shape := ⟨2, ![1, 512]⟩
abbrev S4x4096x512 : Shape := ⟨3, ![4, 4096, 512]⟩
abbrev S4x4096x32x16 : Shape := ⟨4, ![4, 4096, 32, 16]⟩
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S_ : Shape := ⟨0, ![]⟩
abbrev S32x64x1 : Shape := ⟨3, ![32, 64, 1]⟩
abbrev S32x64x4x4096 : Shape := ⟨4, ![32, 64, 4, 4096]⟩
abbrev S4x4096x32x64 : Shape := ⟨4, ![4, 4096, 32, 64]⟩
abbrev S4x32x64 : Shape := ⟨3, ![4, 32, 64]⟩
abbrev S4x1x32x64 : Shape := ⟨4, ![4, 1, 32, 64]⟩
abbrev S1x4x32x64 : Shape := ⟨4, ![1, 4, 32, 64]⟩

abbrev nBuf : Space → Nat
  | .hbm => 121
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x32x64, .f32⟩
  | .hbm, ⟨2, _⟩ => ⟨S1x32x64, .f32⟩
  | .hbm, ⟨3, _⟩ => ⟨S1x32, .f32⟩
  | .hbm, ⟨4, _⟩ => ⟨S1x32x64x16, .f32⟩
  | .hbm, ⟨5, _⟩ => ⟨S1x32x64x16, .f32⟩
  | .hbm, ⟨6, _⟩ => ⟨S1x32x16x64, .f32⟩
  | .hbm, ⟨7, _⟩ => ⟨S1x32x16x64, .f32⟩
  | .hbm, ⟨8, _⟩ => ⟨S1x32x16, .f32⟩
  | .hbm, ⟨9, _⟩ => ⟨S1x512x512, .f32⟩
  | .hbm, ⟨10, _⟩ => ⟨S1x512, .f32⟩
  | .hbm, ⟨11, _⟩ => ⟨S4x4096x512, .f32⟩
  | .hbm, ⟨12, _⟩ => ⟨S4x4096x32x16, .f32⟩
  | .hbm, ⟨13, _⟩ => ⟨S32x64, .f32⟩
  | .hbm, ⟨14, _⟩ => ⟨S32x64, .f32⟩
  | .hbm, ⟨15, _⟩ => ⟨S32, .f32⟩
  | .hbm, ⟨16, _⟩ => ⟨S32x64x16, .f32⟩
  | .hbm, ⟨17, _⟩ => ⟨S32x64x16, .f32⟩
  | .hbm, ⟨18, _⟩ => ⟨S32, .f32⟩
  | .hbm, ⟨19, _⟩ => ⟨S32x1, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S_, .f32⟩
  | .hbm, ⟨35, _⟩ => ⟨S32x64, .f32⟩
  | .hbm, ⟨36, _⟩ => ⟨S32x64, .f32⟩
  | .hbm, ⟨37, _⟩ => ⟨S32x64, .f32⟩
  | .hbm, ⟨38, _⟩ => ⟨S32x64, .f32⟩
  | .hbm, ⟨39, _⟩ => ⟨S32x64, .f32⟩
  | .hbm, ⟨40, _⟩ => ⟨S32x64, .f32⟩
  | .hbm, ⟨41, _⟩ => ⟨S32x64, .f32⟩
  | .hbm, ⟨42, _⟩ => ⟨S32x64, .f32⟩
  | .hbm, ⟨43, _⟩ => ⟨S32x64, .f32⟩
  | .hbm, ⟨44, _⟩ => ⟨S32x64, .f32⟩
  | .hbm, ⟨45, _⟩ => ⟨S32x64x1, .f32⟩
  | .hbm, ⟨46, _⟩ => ⟨S32x64x16, .f32⟩
  | .hbm, ⟨47, _⟩ => ⟨S32x64x16, .f32⟩
  | .hbm, ⟨48, _⟩ => ⟨S32x64x1, .f32⟩
  | .hbm, ⟨49, _⟩ => ⟨S32x64x16, .f32⟩
  | .hbm, ⟨50, _⟩ => ⟨S32x64x16, .f32⟩
  | .hbm, ⟨51, _⟩ => ⟨S32x64x16, .f32⟩
  | .hbm, ⟨52, _⟩ => ⟨S32x64x1, .f32⟩
  | .hbm, ⟨53, _⟩ => ⟨S32x64x16, .f32⟩
  | .hbm, ⟨54, _⟩ => ⟨S32x64x16, .f32⟩
  | .hbm, ⟨55, _⟩ => ⟨S32x64x1, .f32⟩
  | .hbm, ⟨56, _⟩ => ⟨S32x64x16, .f32⟩
  | .hbm, ⟨57, _⟩ => ⟨S32x64x16, .f32⟩
  | .hbm, ⟨58, _⟩ => ⟨S32x64x16, .f32⟩
  | .hbm, ⟨59, _⟩ => ⟨S32x64x4x4096, .f32⟩
  | .hbm, ⟨60, _⟩ => ⟨S4x4096x32x64, .f32⟩
  | .hbm, ⟨61, _⟩ => ⟨S32x64x4x4096, .f32⟩
  | .hbm, ⟨62, _⟩ => ⟨S4x4096x32x64, .f32⟩
  | .hbm, ⟨63, _⟩ => ⟨S_, .f32⟩
  | .hbm, ⟨64, _⟩ => ⟨S4x32x64, .f32⟩
  | .hbm, ⟨65, _⟩ => ⟨S_, .i32⟩
  | .hbm, ⟨66, _⟩ => ⟨S_, .i32⟩
  | .hbm, ⟨67, _⟩ => ⟨S32x64, .f32⟩
  | .hbm, ⟨68, _⟩ => ⟨S32x64, .f32⟩
  | .hbm, ⟨69, _⟩ => ⟨S4x4096x32x64, .f32⟩
  | .hbm, ⟨70, _⟩ => ⟨S4x4096x32x64, .f32⟩
  | .hbm, ⟨71, _⟩ => ⟨S_, .i32⟩
  | .hbm, ⟨72, _⟩ => ⟨S_, .i32⟩
  | .hbm, ⟨73, _⟩ => ⟨S4x32x64, .f32⟩
  | .hbm, ⟨74, _⟩ => ⟨S4x32x64, .f32⟩
  | .hbm, ⟨75, _⟩ => ⟨S_, .i32⟩
  | .hbm, ⟨76, _⟩ => ⟨S_, .i1⟩
  | .hbm, ⟨77, _⟩ => ⟨S_, .i32⟩
  | .hbm, ⟨78, _⟩ => ⟨S_, .i32⟩
  | .hbm, ⟨79, _⟩ => ⟨S1x32x64, .f32⟩
  | .hbm, ⟨80, _⟩ => ⟨S4x32x64, .f32⟩
  | .hbm, ⟨81, _⟩ => ⟨S4x32x64, .f32⟩
  | .hbm, ⟨82, _⟩ => ⟨S1x32x64, .f32⟩
  | .hbm, ⟨83, _⟩ => ⟨S4x32x64, .f32⟩
  | .hbm, ⟨84, _⟩ => ⟨S4x32x64, .f32⟩
  | .hbm, ⟨85, _⟩ => ⟨S4x32x64, .f32⟩
  | .hbm, ⟨86, _⟩ => ⟨S_, .i32⟩
  | .hbm, ⟨87, _⟩ => ⟨S_, .i1⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S_, .i32⟩
  | .hbm, ⟨94, _⟩ => ⟨S_, .i32⟩
  | .hbm, ⟨95, _⟩ => ⟨S4x1x32x64, .f32⟩
  | .hbm, ⟨96, _⟩ => ⟨S4x32x64, .f32⟩
  | .hbm, ⟨97, _⟩ => ⟨S4x32x64, .f32⟩
  | .hbm, ⟨98, _⟩ => ⟨S1x32x64, .f32⟩
  | .hbm, ⟨99, _⟩ => ⟨S4x32x64, .f32⟩
  | .hbm, ⟨100, _⟩ => ⟨S4x32x64, .f32⟩
  | .hbm, ⟨101, _⟩ => ⟨S1x32x64, .f32⟩
  | .hbm, ⟨102, _⟩ => ⟨S4x32x64, .f32⟩
  | .hbm, ⟨103, _⟩ => ⟨S4x32x64, .f32⟩
  | .hbm, ⟨104, _⟩ => ⟨S4x32x64, .f32⟩
  | .hbm, ⟨105, _⟩ => ⟨S_, .i32⟩
  | .hbm, ⟨106, _⟩ => ⟨S_, .i1⟩
  | .hbm, ⟨107, _⟩ => ⟨S_, .i32⟩
  | .hbm, ⟨108, _⟩ => ⟨S_, .i32⟩
  | .hbm, ⟨109, _⟩ => ⟨S_, .i32⟩
  | .hbm, ⟨110, _⟩ => ⟨S_, .i32⟩
  | .hbm, ⟨111, _⟩ => ⟨S_, .i32⟩
  | .hbm, ⟨112, _⟩ => ⟨S_, .i32⟩
  | .hbm, ⟨113, _⟩ => ⟨S_, .i32⟩
  | .hbm, ⟨114, _⟩ => ⟨S4x1x32x64, .f32⟩
  | .hbm, ⟨115, _⟩ => ⟨S4x32x64, .f32⟩
  | .hbm, ⟨116, _⟩ => ⟨S4x32x64, .f32⟩
  | .hbm, ⟨117, _⟩ => ⟨S_, .i32⟩
  | .hbm, ⟨118, _⟩ => ⟨S_, .i32⟩
  | .hbm, ⟨119, _⟩ => ⟨S1x4x32x64, .f32⟩
  | .hbm, ⟨120, _⟩ => ⟨S1x4x32x64, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_0 : Ref sig .tc := ⟨.hbm, 63, rfl⟩
abbrev main_v51 : Ref sig .tc := ⟨.hbm, 64, rfl⟩
abbrev main_c : Ref sig .tc := ⟨.hbm, 65, rfl⟩
abbrev main_c_1 : Ref sig .tc := ⟨.hbm, 66, rfl⟩
abbrev main_v52_0 : Ref sig .tc := ⟨.hbm, 67, rfl⟩
abbrev main_v52_1 : Ref sig .tc := ⟨.hbm, 68, rfl⟩
abbrev main_v52_2 : Ref sig .tc := ⟨.hbm, 69, rfl⟩
abbrev main_v52_3 : Ref sig .tc := ⟨.hbm, 70, rfl⟩
abbrev main_v52_4 : Ref sig .tc := ⟨.hbm, 71, rfl⟩
abbrev main_v52_5 : Ref sig .tc := ⟨.hbm, 72, rfl⟩
abbrev main_v52_6 : Ref sig .tc := ⟨.hbm, 73, rfl⟩
abbrev main_v52_7 : Ref sig .tc := ⟨.hbm, 74, rfl⟩
abbrev main_while0c_c_9 : Ref sig .tc := ⟨.hbm, 75, rfl⟩
abbrev main_while0c_v55 : Ref sig .tc := ⟨.hbm, 76, rfl⟩
abbrev main_while0b_c_9 : Ref sig .tc := ⟨.hbm, 77, rfl⟩
abbrev main_while0b_v55 : Ref sig .tc := ⟨.hbm, 78, rfl⟩
abbrev main_while0b_v56 : Ref sig .tc := ⟨.hbm, 79, rfl⟩
abbrev main_while0b_v57 : Ref sig .tc := ⟨.hbm, 80, rfl⟩
abbrev main_while0b_v58 : Ref sig .tc := ⟨.hbm, 81, rfl⟩
abbrev main_while0b_v59 : Ref sig .tc := ⟨.hbm, 82, rfl⟩
abbrev main_while0b_v60 : Ref sig .tc := ⟨.hbm, 83, rfl⟩
abbrev main_while0b_v61 : Ref sig .tc := ⟨.hbm, 84, rfl⟩
abbrev main_while0b_v62 : Ref sig .tc := ⟨.hbm, 85, rfl⟩
abbrev main_while0b_call0_c : Ref sig .tc := ⟨.hbm, 86, rfl⟩
abbrev main_while0b_call0_v0 : Ref sig .tc := ⟨.hbm, 87, rfl⟩
abbrev main_while0b_call0_v1 : Ref sig .tc := ⟨.hbm, 88, rfl⟩
abbrev main_while0b_call0_c_0 : Ref sig .tc := ⟨.hbm, 89, rfl⟩
abbrev main_while0b_call0_v2 : Ref sig .tc := ⟨.hbm, 90, rfl⟩
abbrev main_while0b_call0_v3 : Ref sig .tc := ⟨.hbm, 91, rfl⟩
abbrev main_while0b_call0_c_1 : Ref sig .tc := ⟨.hbm, 92, rfl⟩
abbrev main_while0b_call0_c_2 : Ref sig .tc := ⟨.hbm, 93, rfl⟩
abbrev main_while0b_call0_c_3 : Ref sig .tc := ⟨.hbm, 94, rfl⟩
abbrev main_while0b_call0_v4 : Ref sig .tc := ⟨.hbm, 95, rfl⟩
abbrev main_while0b_v63 : Ref sig .tc := ⟨.hbm, 96, rfl⟩
abbrev main_while0b_v64 : Ref sig .tc := ⟨.hbm, 97, rfl⟩
abbrev main_while0b_v65 : Ref sig .tc := ⟨.hbm, 98, rfl⟩
abbrev main_while0b_v66 : Ref sig .tc := ⟨.hbm, 99, rfl⟩
abbrev main_while0b_v67 : Ref sig .tc := ⟨.hbm, 100, rfl⟩
abbrev main_while0b_v68 : Ref sig .tc := ⟨.hbm, 101, rfl⟩
abbrev main_while0b_v69 : Ref sig .tc := ⟨.hbm, 102, rfl⟩
abbrev main_while0b_v70 : Ref sig .tc := ⟨.hbm, 103, rfl⟩
abbrev main_while0b_v71 : Ref sig .tc := ⟨.hbm, 104, rfl⟩
abbrev main_while0b_call1_c : Ref sig .tc := ⟨.hbm, 105, rfl⟩
abbrev main_while0b_call1_v0 : Ref sig .tc := ⟨.hbm, 106, rfl⟩
abbrev main_while0b_call1_v1 : Ref sig .tc := ⟨.hbm, 107, rfl⟩
abbrev main_while0b_call1_c_0 : Ref sig .tc := ⟨.hbm, 108, rfl⟩
abbrev main_while0b_call1_v2 : Ref sig .tc := ⟨.hbm, 109, rfl⟩
abbrev main_while0b_call1_v3 : Ref sig .tc := ⟨.hbm, 110, rfl⟩
abbrev main_while0b_call1_c_1 : Ref sig .tc := ⟨.hbm, 111, rfl⟩
abbrev main_while0b_call1_c_2 : Ref sig .tc := ⟨.hbm, 112, rfl⟩
abbrev main_while0b_call1_c_3 : Ref sig .tc := ⟨.hbm, 113, rfl⟩
abbrev main_while0b_call1_v4 : Ref sig .tc := ⟨.hbm, 114, rfl⟩
abbrev main_while0b_v72 : Ref sig .tc := ⟨.hbm, 115, rfl⟩
abbrev main_while0b_v73 : Ref sig .tc := ⟨.hbm, 116, rfl⟩
abbrev main_while0b_c_10 : Ref sig .tc := ⟨.hbm, 117, rfl⟩
abbrev main_while0b_v74 : Ref sig .tc := ⟨.hbm, 118, rfl⟩
abbrev main_v53 : Ref sig .tc := ⟨.hbm, 119, rfl⟩
abbrev main_v54 : Ref sig .tc := ⟨.hbm, 120, rfl⟩

abbrev nD : Nat := 1
abbrev τ : Topo := Topo.v7x

variable {F : FTy → Type} [FloatOps F]

abbrev main_while0_count : Scf.Loop 32 := ⟨0#32, 4096#32, 1#32⟩
-- ==== KernelFfn.lean ====
abbrev S16384x1024 : Shape := ⟨2, ![16384, 1024]⟩
abbrev S2x1024 : Shape := ⟨2, ![2, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 12
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1x1024, .f32⟩
  | .hbm, ⟨11, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S256x1024, .f32⟩
  | .local _ .vmem, ⟨8, _⟩ => ⟨S256x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v25 : BitVec 1 := Scalar.cmpi .eq arg1 c10_i32
  let v26 : BitVec 32 := Scalar.extui v25
  let c0_i32_14 : BitVec 32 := 0#32
  let v27 : BitVec 1 := Scalar.cmpi .ne v26 c0_i32_14
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceFfnIdeal.lean ====
abbrev S16384x1024 : Shape := ⟨2, ![16384, 1024]⟩
abbrev S2x1024 : Shape := ⟨2, ![2, 1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x2816 : Shape := ⟨2, ![1024, 2816]⟩
abbrev S2816x1024 : Shape := ⟨2, ![2816, 1024]⟩
abbrev S16384x2816 : Shape := ⟨2, ![16384, 2816]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S1024x2816, .f32⟩
  | .hbm, ⟨24, _⟩ => ⟨S1024x2816, .f32⟩
  | .hbm, ⟨25, _⟩ => ⟨S2816x1024, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x1024, .f32⟩
  | .hbm, ⟨39, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Proof.RunKernelIdeal.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The expert kernel's body at one grid point, one lemma per way its four conditionals can go. Each states the
    contents the body leaves: the tile in half precision, the running sum, the output block. -/

/-- The two tables as the body is handed them: the expert of each tile, and the number of live tiles. -/
abbrev teM : Memref sig .tc .smem S42 .i32 := Memref.whole main_arg0
abbrev nvM : Memref sig .tc .smem S1 .i32 := Memref.whole main_arg1
abbrev hteM : teM.IsWhole := Memref.isWhole_whole _
abbrev hnvM : nvM.IsWhole := Memref.isWhole_whole _
/-- The two scratch buffers: the tile in half precision, and the running sum. -/
abbrev xbM : Memref sig .tc .vmem S1024x1024 .bf16 := Memref.whole cc0_scratch0
abbrev accM : Memref sig .tc .vmem S1024x1024 .f32 := Memref.whole cc0_scratch1

/-- A table held at half the full share (the pipeline keeps the other half). -/
abbrev TblBuf (c : Dev nD) {S : Shape} {e : EltTy} (M : Memref sig .tc .smem S e) : Type := Buf (Elt F) (M.view.loc (c : Thread nD τ))
abbrev tblPt (c : Dev nD) {S : Shape} {e : EltTy} (M : Memref sig .tc .smem S e) (f : TblBuf (F := F) c M) : sProp 𝕄 :=
  M.view.loc (c : Thread nD τ) ↦{fullShare.right} f

/-- The number of live tiles, as the body loads it. -/
abbrev word {c : Dev nD} (xt1 : TblBuf (F := F) c nvM) : BitVec 32 :=
  View.readAt (Elt F) nvM.view (Rect.unit (s := S1) ![0] S1.size inb_S1_S1_0).toLoadRect xt1 (Shape.Idx.first (numel1_S1.symm ▸ Nat.one_pos))

/-- The body's four conditions, of the grid point and the number of live tiles. -/
abbrev cFirst (i : grid0.Coords) (w : BitVec 32) : Prop :=
  Scalar.cmpi .ne (Scalar.extui (Scalar.andi (Scalar.cmpi .slt (BitVec.ofNat 32 (i 0).val) w) (Scalar.cmpi .eq (BitVec.ofNat 32 (i 1).val) 0#32))) 0#32 = 1#1
abbrev cLive (i : grid0.Coords) (w : BitVec 32) : Prop :=
  Scalar.cmpi .ne (Scalar.extui (Scalar.cmpi .slt (BitVec.ofNat 32 (i 0).val) w)) 0#32 = 1#1
abbrev cLast (i : grid0.Coords) (w : BitVec 32) : Prop := k0_cond3 i w = 1#1
abbrev cDead (i : grid0.Coords) (w : BitVec 32) : Prop := k0_cond4 i w = 1#1

theorem zero2 : (![0, 0] : Fin 2 → Nat) = fun _ => 0 := by decide
theorem zero3 : (![0, 0, 0] : Fin 3 → Nat) = fun _ => 0 := by decide

/-- A store of the whole shape, made last, is what is read back. -/
theorem read_store {sp : Space} {S : Shape} {e : EltTy} (v : View sig .tc sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons_self, View.mem_set_unit_zero h inb y⟩).trans (View.canon_cons_unit_zero h inb w L)

/-- A load of the whole shape reads the contents. -/
theorem load_whole {sp : Space} {S : Shape} {e : EltTy} (M : Memref sig .tc sp S e) (hM : M.IsWhole) {off : Fin S.rank → Nat} (h : off = fun _ => 0)
    (inb : ∀ a, off a + S.size a ≤ S.size a) (X : S.Idx → Elt F e) :
    View.readAt (Elt F) M.view (Rect.unit off S.size inb).toLoadRect (hM.unread X) = X := by
  rw [View.readAt_eq_ld, hM.read_unread, View.ld_unit_zero h]

set_option maxHeartbeats 2000000 in
/-- A live tile, its first column block: the tile is cut to half precision and the sum begins. -/
theorem run_first (c : Dev nD) (i : grid0.Coords) (arg4 : Memref sig .tc .vmem S1024x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x256x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole)
    (x0 : Vec F S1024x1024 .f32) (x1 : Vec F S1x1024x256 .f32) (x2 : Vec F S1x1024x256 .f32) (x3 : Vec F S1x256x1024 .f32) (xt0 : TblBuf (F := F) c teM) (xt1 : TblBuf (F := F) c nvM)
    (xs0 : Vec F S1024x1024 .bf16) (xs1 : Vec F S1024x1024 .f32) (xi4 : Vec F S1024x1024 .f32)
    (hc0 : cFirst i (word xt1)) (hc1 : cLive i (word xt1)) (hc2 : ¬cLast i (word xt1)) (hc3 : ¬cDead i (word xt1)) (E : Set ℕ) (K : PUnit → sProp 𝕄) :
    iprop(owns (c : Thread nD τ) arg4 fullShare (x0) ∗ owns (c : Thread nD τ) arg5 fullShare (x1) ∗ owns (c : Thread nD τ) arg6 fullShare (x2) ∗ owns (c : Thread nD τ) arg7 fullShare (x3) ∗ owns (c : Thread nD τ) arg8 fullShare (xi4) ∗ owns (c : Thread nD τ) arg9 fullShare (xs0) ∗ owns (c : Thread nD τ) arg10 fullShare (xs1) ∗ tblPt c teM xt0 ∗ tblPt c nvM xt1
        ∗ (iprop(owns (c : Thread nD τ) arg4 fullShare (x0) ∗ owns (c : Thread nD τ) arg5 fullShare (x1) ∗ owns (c : Thread nD τ) arg6 fullShare (x2) ∗ owns (c : Thread nD τ) arg7 fullShare (x3) ∗ owns (c : Thread nD τ) arg8 fullShare (xi4) ∗ owns (c : Thread nD τ) arg9 fullShare (k0_pay1 x0) ∗ owns (c : Thread nD τ) arg10 fullShare (k0_pay3 (k0_pay1 x0) x1 x2 k0_pay2 x3) ∗ tblPt c teM xt0 ∗ tblPt c nvM xt1) -∗ K ⟨⟩))
      ⊢ wp frame (wpE (defs₀ (F := F)) Variants.none c none) E (cc0_moe_experts i teM hteM nvM hnvM arg4 harg4 arg5 harg5 arg6 harg6 arg7 harg7 arg8 harg8 arg9 harg9 arg10 harg10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, HS0⟩, ⟨%f6, %hf6, HS1⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
  sl_exec (disch := first | sl_exact hc0 | sl_exact hc1 | sl_exact hc2 | sl_exact hc3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [HS0]
  · iexists _; isplitr
    swap; · iexact HS0
    ipureintro
    refine (read_store _ _ zero2 _ _ _).trans ?_; try sl_unfold_words
    try rw [load_whole arg4 harg4 zero2]
    try rw [load_whole arg9 harg9 zero2]
    try rw [load_whole arg10 harg10 zero2]
    try rw [load_whole arg5 harg5 zero3]
    try rw [load_whole arg6 harg6 zero3]
    try rw [load_whole arg7 harg7 zero3]
    try rw [View.readCov_unit_zero arg9.view zero2]
    try rw [View.readCov_unit_zero arg10.view zero2]
    try rfl
  isplitl [HS1]
  · iexists _; isplitr
    swap; · iexact HS1
    ipureintro
    refine (read_store _ _ zero2 _ _ _).trans ?_; try sl_unfold_words
    try rw [load_whole arg4 harg4 zero2]
    try rw [load_whole arg9 harg9 zero2]
    try rw [load_whole arg10 harg10 zero2]
    try rw [load_whole arg5 harg5 zero3]
    try rw [load_whole arg6 harg6 zero3]
    try rw [load_whole arg7 harg7 zero3]
    try rw [View.readCov_unit_zero arg9.view zero2]
    try rw [View.readCov_unit_zero arg10.view zero2]
    try rfl
  isplitl [HT0]; · iexact HT0
  iexact HT1

set_option maxHeartbeats 2000000 in
/-- A live tile, a column block between: the sum goes on. -/
theorem run_mid (c : Dev nD) (i : grid0.Coords) (arg4 : Memref sig .tc .vmem S1024x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x256x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole)
    (x0 : Vec F S1024x1024 .f32) (x1 : Vec F S1x1024x256 .f32) (x2 : Vec F S1x1024x256 .f32) (x3 : Vec F S1x256x1024 .f32) (xt0 : TblBuf (F := F) c teM) (xt1 : TblBuf (F := F) c nvM)
    (xs0 : Vec F S1024x1024 .bf16) (xs1 : Vec F S1024x1024 .f32) (xi4 : Vec F S1024x1024 .f32)
    (hc0 : ¬cFirst i (word xt1)) (hc1 : cLive i (word xt1)) (hc2 : ¬cLast i (word xt1)) (hc3 : ¬cDead i (word xt1)) (E : Set ℕ) (K : PUnit → sProp 𝕄) :
    iprop(owns (c : Thread nD τ) arg4 fullShare (x0) ∗ owns (c : Thread nD τ) arg5 fullShare (x1) ∗ owns (c : Thread nD τ) arg6 fullShare (x2) ∗ owns (c : Thread nD τ) arg7 fullShare (x3) ∗ owns (c : Thread nD τ) arg8 fullShare (xi4) ∗ owns (c : Thread nD τ) arg9 fullShare (xs0) ∗ owns (c : Thread nD τ) arg10 fullShare (xs1) ∗ tblPt c teM xt0 ∗ tblPt c nvM xt1
        ∗ (iprop(owns (c : Thread nD τ) arg4 fullShare (x0) ∗ owns (c : Thread nD τ) arg5 fullShare (x1) ∗ owns (c : Thread nD τ) arg6 fullShare (x2) ∗ owns (c : Thread nD τ) arg7 fullShare (x3) ∗ owns (c : Thread nD τ) arg8 fullShare (xi4) ∗ owns (c : Thread nD τ) arg9 fullShare (xs0) ∗ owns (c : Thread nD τ) arg10 fullShare (k0_pay3 xs0 x1 x2 xs1 x3) ∗ tblPt c teM xt0 ∗ tblPt c nvM xt1) -∗ K ⟨⟩))
      ⊢ wp frame (wpE (defs₀ (F := F)) Variants.none c none) E (cc0_moe_experts i teM hteM nvM hnvM arg4 harg4 arg5 harg5 arg6 harg6 arg7 harg7 arg8 harg8 arg9 harg9 arg10 harg10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, HS0⟩, ⟨%f6, %hf6, HS1⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
  sl_exec (disch := first | sl_exact hc0 | sl_exact hc1 | sl_exact hc2 | sl_exact hc3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [HS0]
  · iexists _; isplitr; · ipureintro; exact harg9.read_unread _
    iexact HS0
  isplitl [HS1]
  · iexists _; isplitr
    swap; · iexact HS1
    ipureintro
    refine (read_store _ _ zero2 _ _ _).trans ?_; try sl_unfold_words
    try rw [load_whole arg4 harg4 zero2]
    try rw [load_whole arg9 harg9 zero2]
    try rw [load_whole arg10 harg10 zero2]
    try rw [load_whole arg5 harg5 zero3]
    try rw [load_whole arg6 harg6 zero3]
    try rw [load_whole arg7 harg7 zero3]
    try rw [View.readCov_unit_zero arg9.view zero2]
    try rw [View.readCov_unit_zero arg10.view zero2]
    try rfl
  isplitl [HT0]; · iexact HT0
  iexact HT1

set_option maxHeartbeats 2000000 in
/-- A live tile, its last column block: the sum is finished and stored. -/
theorem run_last (c : Dev nD) (i : grid0.Coords) (arg4 : Memref sig .tc .vmem S1024x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x256x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole)
    (x0 : Vec F S1024x1024 .f32) (x1 : Vec F S1x1024x256 .f32) (x2 : Vec F S1x1024x256 .f32) (x3 : Vec F S1x256x1024 .f32) (xt0 : TblBuf (F := F) c teM) (xt1 : TblBuf (F := F) c nvM)
    (xs0 : Vec F S1024x1024 .bf16) (xs1 : Vec F S1024x1024 .f32) (xi4 : Vec F S1024x1024 .f32)
    (hc0 : ¬cFirst i (word xt1)) (hc1 : cLive i (word xt1)) (hc2 : cLast i (word xt1)) (hc3 : ¬cDead i (word xt1)) (E : Set ℕ) (K : PUnit → sProp 𝕄) :
    iprop(owns (c : Thread nD τ) arg4 fullShare (x0) ∗ owns (c : Thread nD τ) arg5 fullShare (x1) ∗ owns (c : Thread nD τ) arg6 fullShare (x2) ∗ owns (c : Thread nD τ) arg7 fullShare (x3) ∗ owns (c : Thread nD τ) arg8 fullShare (xi4) ∗ owns (c : Thread nD τ) arg9 fullShare (xs0) ∗ owns (c : Thread nD τ) arg10 fullShare (xs1) ∗ tblPt c teM xt0 ∗ tblPt c nvM xt1
        ∗ (iprop(owns (c : Thread nD τ) arg4 fullShare (x0) ∗ owns (c : Thread nD τ) arg5 fullShare (x1) ∗ owns (c : Thread nD τ) arg6 fullShare (x2) ∗ owns (c : Thread nD τ) arg7 fullShare (x3) ∗ owns (c : Thread nD τ) arg8 fullShare (k0_pay3 xs0 x1 x2 xs1 x3) ∗ owns (c : Thread nD τ) arg9 fullShare (xs0) ∗ owns (c : Thread nD τ) arg10 fullShare (k0_pay3 xs0 x1 x2 xs1 x3) ∗ tblPt c teM xt0 ∗ tblPt c nvM xt1) -∗ K ⟨⟩))
      ⊢ wp frame (wpE (defs₀ (F := F)) Variants.none c none) E (cc0_moe_experts i teM hteM nvM hnvM arg4 harg4 arg5 harg5 arg6 harg6 arg7 harg7 arg8 harg8 arg9 harg9 arg10 harg10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, HS0⟩, ⟨%f6, %hf6, HS1⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
  sl_exec (disch := first | sl_exact hc0 | sl_exact hc1 | sl_exact hc2 | sl_exact hc3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr
    swap; · iexact H4
    ipureintro
    refine (read_store _ _ zero2 _ _ _).trans ?_; try sl_unfold_words
    try rw [load_whole arg4 harg4 zero2]
    try rw [load_whole arg9 harg9 zero2]
    try rw [load_whole arg10 harg10 zero2]
    try rw [load_whole arg5 harg5 zero3]
    try rw [load_whole arg6 harg6 zero3]
    try rw [load_whole arg7 harg7 zero3]
    try rw [View.readCov_unit_zero arg9.view zero2]
    try rw [View.readCov_unit_zero arg10.view zero2]
    try rfl
  isplitl [HS0]
  · iexists _; isplitr; · ipureintro; exact harg9.read_unread _
    iexact HS0
  isplitl [HS1]
  · iexists _; isplitr
    swap; · iexact HS1
    ipureintro
    refine (read_store _ _ zero2 _ _ _).trans ?_; try sl_unfold_words
    try rw [load_whole arg4 harg4 zero2]
    try rw [load_whole arg9 harg9 zero2]
    try rw [load_whole arg10 harg10 zero2]
    try rw [load_whole arg5 harg5 zero3]
    try rw [load_whole arg6 harg6 zero3]
    try rw [load_whole arg7 harg7 zero3]
    try rw [View.readCov_unit_zero arg9.view zero2]
    try rw [View.readCov_unit_zero arg10.view zero2]
    try rfl
  isplitl [HT0]; · iexact HT0
  iexact HT1

set_option maxHeartbeats 2000000 in
/-- A tile that is not live, not its last point: nothing is stored. -/
theorem run_skip (c : Dev nD) (i : grid0.Coords) (arg4 : Memref sig .tc .vmem S1024x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x256x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole)
    (x0 : Vec F S1024x1024 .f32) (x1 : Vec F S1x1024x256 .f32) (x2 : Vec F S1x1024x256 .f32) (x3 : Vec F S1x256x1024 .f32) (xt0 : TblBuf (F := F) c teM) (xt1 : TblBuf (F := F) c nvM)
    (xs0 : Vec F S1024x1024 .bf16) (xs1 : Vec F S1024x1024 .f32) (xi4 : Vec F S1024x1024 .f32)
    (hc0 : ¬cFirst i (word xt1)) (hc1 : ¬cLive i (word xt1)) (hc2 : ¬cLast i (word xt1)) (hc3 : ¬cDead i (word xt1)) (E : Set ℕ) (K : PUnit → sProp 𝕄) :
    iprop(owns (c : Thread nD τ) arg4 fullShare (x0) ∗ owns (c : Thread nD τ) arg5 fullShare (x1) ∗ owns (c : Thread nD τ) arg6 fullShare (x2) ∗ owns (c : Thread nD τ) arg7 fullShare (x3) ∗ owns (c : Thread nD τ) arg8 fullShare (xi4) ∗ owns (c : Thread nD τ) arg9 fullShare (xs0) ∗ owns (c : Thread nD τ) arg10 fullShare (xs1) ∗ tblPt c teM xt0 ∗ tblPt c nvM xt1
        ∗ (iprop(owns (c : Thread nD τ) arg4 fullShare (x0) ∗ owns (c : Thread nD τ) arg5 fullShare (x1) ∗ owns (c : Thread nD τ) arg6 fullShare (x2) ∗ owns (c : Thread nD τ) arg7 fullShare (x3) ∗ owns (c : Thread nD τ) arg8 fullShare (xi4) ∗ owns (c : Thread nD τ) arg9 fullShare (xs0) ∗ owns (c : Thread nD τ) arg10 fullShare (xs1) ∗ tblPt c teM xt0 ∗ tblPt c nvM xt1) -∗ K ⟨⟩))
      ⊢ wp frame (wpE (defs₀ (F := F)) Variants.none c none) E (cc0_moe_experts i teM hteM nvM hnvM arg4 harg4 arg5 harg5 arg6 harg6 arg7 harg7 arg8 harg8 arg9 harg9 arg10 harg10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, HS0⟩, ⟨%f6, %hf6, HS1⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
  sl_exec (disch := first | sl_exact hc0 | sl_exact hc1 | sl_exact hc2 | sl_exact hc3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [HS0]
  · iexists _; isplitr; · ipureintro; exact harg9.read_unread _
    iexact HS0
  isplitl [HS1]
  · iexists _; isplitr; · ipureintro; exact harg10.read_unread _
    iexact HS1
  isplitl [HT0]; · iexact HT0
  iexact HT1

set_option maxHeartbeats 2000000 in
/-- A tile that is not live, its last point: zeros are stored. -/
theorem run_zero (c : Dev nD) (i : grid0.Coords) (arg4 : Memref sig .tc .vmem S1024x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x256x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole)
    (x0 : Vec F S1024x1024 .f32) (x1 : Vec F S1x1024x256 .f32) (x2 : Vec F S1x1024x256 .f32) (x3 : Vec F S1x256x1024 .f32) (xt0 : TblBuf (F := F) c teM) (xt1 : TblBuf (F := F) c nvM)
    (xs0 : Vec F S1024x1024 .bf16) (xs1 : Vec F S1024x1024 .f32) (xi4 : Vec F S1024x1024 .f32)
    (hc0 : ¬cFirst i (word xt1)) (hc1 : ¬cLive i (word xt1)) (hc2 : ¬cLast i (word xt1)) (hc3 : cDead i (word xt1)) (E : Set ℕ) (K : PUnit → sProp 𝕄) :
    iprop(owns (c : Thread nD τ) arg4 fullShare (x0) ∗ owns (c : Thread nD τ) arg5 fullShare (x1) ∗ owns (c : Thread nD τ) arg6 fullShare (x2) ∗ owns (c : Thread nD τ) arg7 fullShare (x3) ∗ owns (c : Thread nD τ) arg8 fullShare (xi4) ∗ owns (c : Thread nD τ) arg9 fullShare (xs0) ∗ owns (c : Thread nD τ) arg10 fullShare (xs1) ∗ tblPt c teM xt0 ∗ tblPt c nvM xt1
        ∗ (iprop(owns (c : Thread nD τ) arg4 fullShare (x0) ∗ owns (c : Thread nD τ) arg5 fullShare (x1) ∗ owns (c : Thread nD τ) arg6 fullShare (x2) ∗ owns (c : Thread nD τ) arg7 fullShare (x3) ∗ owns (c : Thread nD τ) arg8 fullShare (k0_pay4) ∗ owns (c : Thread nD τ) arg9 fullShare (xs0) ∗ owns (c : Thread nD τ) arg10 fullShare (xs1) ∗ tblPt c teM xt0 ∗ tblPt c nvM xt1) -∗ K ⟨⟩))
      ⊢ wp frame (wpE (defs₀ (F := F)) Variants.none c none) E (cc0_moe_experts i teM hteM nvM hnvM arg4 harg4 arg5 harg5 arg6 harg6 arg7 harg7 arg8 harg8 arg9 harg9 arg10 harg10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, HS0⟩, ⟨%f6, %hf6, HS1⟩, HT0, HT1, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
  sl_exec (disch := first | sl_exact hc0 | sl_exact hc1 | sl_exact hc2 | sl_exact hc3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr
    swap; · iexact H4
    ipureintro
    refine (read_store _ _ zero2 _ _ _).trans ?_; try sl_unfold_words
    try rw [load_whole arg4 harg4 zero2]
    try rw [load_whole arg9 harg9 zero2]
    try rw [load_whole arg10 harg10 zero2]
    try rw [load_whole arg5 harg5 zero3]
    try rw [load_whole arg6 harg6 zero3]
    try rw [load_whole arg7 harg7 zero3]
    try rw [View.readCov_unit_zero arg9.view zero2]
    try rw [View.readCov_unit_zero arg10.view zero2]
    try rfl
  isplitl [HS0]
  · iexists _; isplitr; · ipureintro; exact harg9.read_unread _
    iexact HS0
  isplitl [HS1]
  · iexists _; isplitr; · ipureintro; exact harg10.read_unread _
    iexact HS1
  isplitl [HT0]; · iexact HT0
  iexact HT1

end Cert.KernelIdeal.Moe

end
-- ==== Proof.FrameKernelIdeal.lean ====
module

public import proofs.«01_k».proof.Proof.RunKernelIdeal
public import Idealize.ShloMosaic.Lib.Claim

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the pipeline, and the tables -/

/-- The buffers when the pipeline is entered: as launched, the program being the pipeline alone. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables' contents (the mesh has one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- Every window that a table places lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem PhiT_eq (c : Dev nD) : (Pipeline.ΦT pre0 (tbl m) c : sProp 𝕄) = iprop(tblPt c teM (tbl m 0) ∗ tblPt c nvM (tbl m 1)) := by
  unfold Pipeline.ΦT Pipeline.prefHeld
  rw [show (Finset.univ : Finset (Fin 2)) = insert (0 : Fin 2) {(1 : Fin 2)} from by decide,
    bigSep_insert (by decide), bigSep_singleton]
  rfl

theorem PhiA_eq (c : Dev nD) :
    (Pipeline.ΦA spec0 c : sProp 𝕄)
      = iprop(iprop((∃ d, owns (c : Thread nD τ) xbM fullShare d) ∗ (∃ d, owns (c : Thread nD τ) accM fullShare d)) ∗ (∃ r, prngReg c r)) := by
  unfold Pipeline.ΦA; rw [scopedRest0_eq]; simp only [xbM, accM, owns_whole]; try rfl

theorem one_idx (x y : S1.Idx) : x = y := funext fun a => by
  obtain rfl : a = 0 := Subsingleton.elim (α := Fin 1) _ _
  have hx : (x 0).val < 1 := (x 0).isLt
  have hy : (y 0).val < 1 := (y 0).isLt
  exact Fin.ext (by omega)
/-- The number of live tiles. -/
def nv : BitVec 32 := (tbl m).atD 1 ![0]
theorem word_eq (c : Dev nD) : word (c := c) (tbl m 1) = nv m := by
  unfold nv word Pipeline.Prefetch.Contents.atD
  rw [dif_pos (by decide)]
  exact congrArg (tbl m 1) (one_idx _ _)

/-! ## The conditions, of the tile and the column block -/

/-- The tile of grid point `i` is live. -/
abbrev Live (i : grid0.Coords) (w : BitVec 32) : Prop := Scalar.cmpi .slt (BitVec.ofNat 32 (i 0).val) w = 1#1

theorem bits_first : ∀ (b : BitVec 1) (f : Fin 11),
    (Scalar.cmpi .ne (Scalar.extui (Scalar.andi b (Scalar.cmpi .eq (BitVec.ofNat 32 f.val) 0#32)) : BitVec 32) 0#32 = 1#1) ↔ (b = 1#1 ∧ f.val = 0) := by decide
theorem bits_live : ∀ (b : BitVec 1), (Scalar.cmpi .ne (Scalar.extui b : BitVec 32) 0#32 = 1#1) ↔ b = 1#1 := by decide
theorem bits_last : ∀ (b : BitVec 1) (f : Fin 11),
    (Scalar.cmpi .ne (Scalar.extui (Scalar.andi b (Scalar.cmpi .eq (BitVec.ofNat 32 f.val) 10#32)) : BitVec 32) 0#32 = 1#1) ↔ (b = 1#1 ∧ f.val = 10) := by decide
theorem bits_dead : ∀ (b : BitVec 1) (f : Fin 11),
    (Scalar.cmpi .ne (Scalar.extui (Scalar.andi (Scalar.xori b 1#1) (Scalar.cmpi .eq (BitVec.ofNat 32 f.val) 10#32)) : BitVec 32) 0#32 = 1#1) ↔ (b ≠ 1#1 ∧ f.val = 10) := by decide

theorem cFirst_iff (i : grid0.Coords) (w : BitVec 32) : cFirst i w ↔ (Live i w ∧ (i 1).val = 0) := bits_first _ (i 1)
theorem cLive_iff (i : grid0.Coords) (w : BitVec 32) : cLive i w ↔ Live i w := bits_live _
theorem cLast_iff (i : grid0.Coords) (w : BitVec 32) : cLast i w ↔ (Live i w ∧ (i 1).val = 10) := bits_last _ (i 1)
theorem cDead_iff (i : grid0.Coords) (w : BitVec 32) : cDead i w ↔ (¬Live i w ∧ (i 1).val = 10) := bits_dead _ (i 1)

theorem coord0 : ∀ t : Fin grid0.N, (grid0.coords t 0).val = t.val / 11 := by decide +kernel
theorem coord1 : ∀ t : Fin grid0.N, (grid0.coords t 1).val = t.val % 11 := by decide +kernel

/-- Liveness at point number `n`. -/
abbrev LiveN (n : ℕ) : Prop := Scalar.cmpi .slt (BitVec.ofNat 32 (n / 11)) (nv m) = 1#1
theorem live_iff (t : Fin grid0.N) : Live (grid0.coords t) (nv m) ↔ LiveN m t.val := by
  unfold Live; rw [coord0]

theorem idle_iff (hO : Ok m) (t : Fin (cfgM m hO).N) : (cfgM m hO).idle 4 (grid0.coords t) = decide (t.val % 11 ≠ 10) := by
  have h3 : k0_cond3 (grid0.coords t) (nv m) = 1#1 ↔ _ := cLast_iff (grid0.coords t) (nv m)
  have h4 : k0_cond4 (grid0.coords t) (nv m) = 1#1 ↔ _ := cDead_iff (grid0.coords t) (nv m)
  have h1 := coord1 t
  show (!(k0_cond3 (grid0.coords t) (nv m) == 1#1) && !(k0_cond4 (grid0.coords t) (nv m) == 1#1)) = _
  rw [h1] at h3 h4
  by_cases hf : t.val % 11 = 10
  · by_cases hl : Live (grid0.coords t) (nv m)
    · rw [h3.mpr ⟨hl, hf⟩]; simp [hf]
    · rw [h4.mpr ⟨hl, hf⟩]; simp [hf]
  · have a : ¬ (k0_cond3 (grid0.coords t) (nv m) = 1#1) := fun h => hf (h3.mp h).2
    have b : ¬ (k0_cond4 (grid0.coords t) (nv m) = 1#1) := fun h => hf (h4.mp h).2
    simp [a, b, hf]

theorem flush_iff (a : (pcfg0 (F := F)).Adm) : ∀ t : Fin (cfg0 a).N, ((cfg0 a).win 4).flush t = true ↔ t.val % 11 = 10 :=
  (fun t => Pipeline.Window.flushOf_reads cc0_transform_4 reads0_4 hreads0_4 0 (by decide) (by decide) (Pipeline.Window.sep_of_coord cc0_transform_4 0 0 (fun _ => rfl) (by decide)) (P := 11) (m := 10) (by decide) rfl t : ∀ t : Fin grid0.N, Pipeline.Window.flushOf grid0 true cc0_transform_4 t = true ↔ t.val % 11 = 10)

/-! ## The blocks, and what the scratch holds after each point -/

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

abbrev bx (hO : Ok m) (c : Dev nD) (t : Fin (cfgM m hO).N) : Vec F S1024x1024 .f32 := iblk m hO c 0 t
abbrev bg (hO : Ok m) (c : Dev nD) (t : Fin (cfgM m hO).N) : Vec F S1x1024x256 .f32 := iblk m hO c 1 t
abbrev bu (hO : Ok m) (c : Dev nD) (t : Fin (cfgM m hO).N) : Vec F S1x1024x256 .f32 := iblk m hO c 2 t
abbrev bd (hO : Ok m) (c : Dev nD) (t : Fin (cfgM m hO).N) : Vec F S1x256x1024 .f32 := iblk m hO c 3 t

/-- The scratch: the tile in half precision and the running sum. -/
abbrev St (F : FTy → Type) : Type := Vec F S1024x1024 .bf16 × Vec F S1024x1024 .f32

/-- One live point's work on the scratch. -/
def next (hO : Ok m) (c : Dev nD) (t : Fin (cfgM m hO).N) (s : St F) : St F :=
  if t.val % 11 = 0 then (k0_pay1 (bx m hO c t), k0_pay3 (k0_pay1 (bx m hO c t)) (bg m hO c t) (bu m hO c t) k0_pay2 (bd m hO c t))
  else (s.1, k0_pay3 s.1 (bg m hO c t) (bu m hO c t) s.2 (bd m hO c t))

/-- The scratch after point `n`, were every tile live up to there (only read at live points). -/
def st (hO : Ok m) (c : Dev nD) : (n : ℕ) → n < (cfgM m hO).N → St F
  | 0, h => next m hO c ⟨0, h⟩ (k0_pay1 (bx m hO c ⟨0, h⟩), k0_pay2)
  | n + 1, h => next m hO c ⟨n + 1, h⟩ (st hO c n (Nat.lt_of_succ_lt h))

/-- What is known of the scratch before point `n`: its contents, if the point before was live. -/
def Inv (hO : Ok m) (c : Dev nD) : ℕ → St F → Prop
  | 0, _ => True
  | n + 1, s => ∀ h : n < (cfgM m hO).N, LiveN m n → s = st m hO c n h

/-- A live point makes the scratch the next state, whatever is not known of it. -/
theorem st_of_inv (hO : Ok m) (c : Dev nD) (t : Fin (cfgM m hO).N) (s : St F) (h : Inv m hO c t.val s) (hl : LiveN m t.val) :
    st m hO c t.val t.isLt = next m hO c t s := by
  obtain ⟨n, hn⟩ := t
  cases n with
  | zero => rfl
  | succ n =>
    show next m hO c ⟨n + 1, hn⟩ (st m hO c n _) = _
    by_cases hf : (n + 1) % 11 = 0
    · unfold next; rw [if_pos hf, if_pos hf]
    · have hd : n / 11 = (n + 1) / 11 := by omega
      rw [h (Nat.lt_of_succ_lt hn) (by unfold LiveN at hl ⊢; rw [hd]; exact hl)]

/-- The output block after the last point of a tile: the sum, or zeros. -/
def outv (hO : Ok m) (c : Dev nD) (t : Fin (cfgM m hO).N) : Vec F S1024x1024 .f32 :=
  if LiveN m t.val then (st m hO c t.val t.isLt).2 else k0_pay4

/-- The invariant between points: the scratch at contents about which `Inv` holds. -/
def Phi (hO : Ok m) (c : Dev nD) (n : ℕ) : sProp 𝕄 :=
  iprop((∃ xb acc, ⌜Inv m hO c n (xb, acc)⌝ ∗ owns (c : Thread nD τ) xbM fullShare xb ∗ owns (c : Thread nD τ) accM fullShare acc)
    ∗ (∃ r, prngReg c r) ∗ Pipeline.ΦT pre0 (tbl m) c)

/-! ## The proof data and the body -/

/-- The pipeline's proof data: the arrays as found, each input's block left in place, the output at `outv`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outv m hO c t
  Φ t := Phi m hO c t.val
  q _ := fullShare
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem after1 (hO : Ok m) (c : Dev nD) (t : Fin (cfgM m hO).N) : (dats m hO 0 c).after 1 t = iblk m hO c 1 t := by dsimp only [dats]; try rfl
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem after2 (hO : Ok m) (c : Dev nD) (t : Fin (cfgM m hO).N) : (dats m hO 0 c).after 2 t = iblk m hO c 2 t := by dsimp only [dats]; try rfl
theorem before2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem after3 (hO : Ok m) (c : Dev nD) (t : Fin (cfgM m hO).N) : (dats m hO 0 c).after 3 t = iblk m hO c 3 t := by dsimp only [dats]; try rfl
theorem before3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem after4 (hO : Ok m) (c : Dev nD) (t : Fin (cfgM m hO).N) : (dats m hO 0 c).after 4 t = outv m hO c t := by dsimp only [dats]; try rfl

/-- Each window's staging buffer at point `t`. -/
abbrev ms0 (hO : Ok m) (t : Fin (cfgM m hO).N) : Memref sig .tc .vmem S1024x1024 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1024x256 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1024x256 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x256x1024 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1024x1024 .f32 := spec0_4.stage ((cfgM m hO).slots t 4)
abbrev hs4 (hO : Ok m) (t : Fin (cfgM m hO).N) : (ms4 m hO t).IsWhole := hstage0_4 (((cfgM m hO).slots t 4).cast nbuf0_4)
theorem leaves0 (hO : Ok m) (c : Dev nD) (t : Fin (cfgM m hO).N) :
    (dats m hO 0 c).leavesExact 0 t = owns (c : Thread nD τ) (ms0 m hO t) fullShare (iblk m hO c 0 t) := by
  unfold Dat.leavesExact
  rw [show (cfgM m hO).idle 0 (grid0.coords t) = false from rfl, after0]; try rfl
theorem leaves1 (hO : Ok m) (c : Dev nD) (t : Fin (cfgM m hO).N) :
    (dats m hO 0 c).leavesExact 1 t = owns (c : Thread nD τ) (ms1 m hO t) fullShare (iblk m hO c 1 t) := by
  unfold Dat.leavesExact
  rw [show (cfgM m hO).idle 1 (grid0.coords t) = false from rfl, after1]; try rfl
theorem leaves2 (hO : Ok m) (c : Dev nD) (t : Fin (cfgM m hO).N) :
    (dats m hO 0 c).leavesExact 2 t = owns (c : Thread nD τ) (ms2 m hO t) fullShare (iblk m hO c 2 t) := by
  unfold Dat.leavesExact
  rw [show (cfgM m hO).idle 2 (grid0.coords t) = false from rfl, after2]; try rfl
theorem leaves3 (hO : Ok m) (c : Dev nD) (t : Fin (cfgM m hO).N) :
    (dats m hO 0 c).leavesExact 3 t = owns (c : Thread nD τ) (ms3 m hO t) fullShare (iblk m hO c 3 t) := by
  unfold Dat.leavesExact
  rw [show (cfgM m hO).idle 3 (grid0.coords t) = false from rfl, after3]; try rfl
/-- The body at point `t`. -/
abbrev bodyAt (hO : Ok m) (t : Fin (cfgM m hO).N) : Prog (TpuEff nD τ sig (Elt F) Λ₀ .tc) PUnit :=
  cc0_moe_experts (grid0.coords t) teM hteM nvM hnvM (ms0 m hO t) (hs0 m hO t) (ms1 m hO t) (hs1 m hO t) (ms2 m hO t) (hs2 m hO t) (ms3 m hO t) (hs3 m hO t) (ms4 m hO t) (hs4 m hO t) xbM (Memref.isWhole_whole _) accM (Memref.isWhole_whole _)

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

theorem leaves4_idle (hO : Ok m) (c : Dev nD) (t : Fin (cfgM m hO).N) (hf : t.val % 11 ≠ 10) :
    (dats m hO 0 c).leavesExact 4 t = iprop(∃ d, owns (c : Thread nD τ) (ms4 m hO t) fullShare ((dats m hO 0 c).before 4 t d)) :=
  Dat.leavesExact_idle (dats m hO 0 c) 4 t (by rw [idle_iff]; exact decide_eq_true hf)
    (Bool.eq_false_iff.mpr fun h => hf ((flush_iff (adm m hO) t).mp h))
theorem leaves4_live (hO : Ok m) (c : Dev nD) (t : Fin (cfgM m hO).N) (hf : t.val % 11 = 10) :
    (dats m hO 0 c).leavesExact 4 t = owns (c : Thread nD τ) (ms4 m hO t) fullShare (outv m hO c t) := by
  unfold Dat.leavesExact
  rw [show (cfgM m hO).idle 4 (grid0.coords t) = false from by rw [idle_iff]; exact decide_eq_false (not_not.mpr hf), after4]; try rfl

set_option maxHeartbeats 4000000 in
/-- The body at any point, by the five cases. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2, before3]
  rw [show (dats m hO 0 c).owesAt () t.succ = (dats m hO 0 c).owesAt () t.castSucc from rfl]
  rw [show (dats m hO 0 c).Φ t.succ = Phi m hO c (t.val + 1) from rfl, show (dats m hO 0 c).Φ t.castSucc = Phi m hO c t.val from rfl]
  rw [leaves0, leaves1, leaves2, leaves3]
  unfold Phi; rw [PhiT_eq]
  have hL := live_iff m t
  have h1 := coord1 t
  have hw := word_eq m c
  have e1 : cFirst (grid0.coords t) (word (c := c) (tbl m 1)) ↔ (LiveN m t.val ∧ t.val % 11 = 0) := by rw [hw, cFirst_iff, hL, h1]
  have e2 : cLive (grid0.coords t) (word (c := c) (tbl m 1)) ↔ LiveN m t.val := by rw [hw, cLive_iff, hL]
  have e3 : cLast (grid0.coords t) (word (c := c) (tbl m 1)) ↔ (LiveN m t.val ∧ t.val % 11 = 10) := by rw [hw, cLast_iff, hL, h1]
  have e4 : cDead (grid0.coords t) (word (c := c) (tbl m 1)) ↔ (¬LiveN m t.val ∧ t.val % 11 = 10) := by rw [hw, cDead_iff, hL, h1]
  by_cases hl : LiveN m t.val
  · by_cases h0 : t.val % 11 = 0
    · rw [leaves4_idle m hO c t (by omega)]
      iintro ⟨⟨⟨%xb, %acc, %hi, HS0, HS1⟩, Hg, ⟨HT0, HT1⟩⟩, Ho, ⟨%d0, H0⟩, ⟨%d1, H1⟩, ⟨%d2, H2⟩, ⟨%d3, H3⟩, ⟨%d4, H4⟩⟩
      have hs := st_of_inv m hO c t (xb, acc) hi hl
      unfold next at hs; rw [if_pos h0] at hs
      iapply (run_first c (grid0.coords t) _ (hs0 m hO t) _ (hs1 m hO t) _ (hs2 m hO t) _ (hs3 m hO t) _ (hs4 m hO t) _ (Memref.isWhole_whole _) _ (Memref.isWhole_whole _) (iblk m hO c 0 t) (iblk m hO c 1 t) (iblk m hO c 2 t) (iblk m hO c 3 t) (tbl m 0) (tbl m 1) xb acc _ (e1.mpr ⟨hl, h0⟩) (e2.mpr hl) (fun h => by have := (e3.mp h).2; omega) (fun h => (e4.mp h).1 hl) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HT0]; · iexact HT0
      isplitl [HT1]; · iexact HT1
      iintro ⟨H0, H1, H2, H3, H4, HS0, HS1, HT0, HT1⟩
      isplitl [HS0 HS1 Hg HT0 HT1]
      · isplitl [HS0 HS1]
        · iexists _; iexists _; isplitr
          swap
          · isplitl [HS0]; · iexact HS0
            iexact HS1
          ipureintro; exact fun _ _ => hs.symm
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4
    · by_cases hf : t.val % 11 = 10
      · rw [leaves4_live m hO c t hf]
        iintro ⟨⟨⟨%xb, %acc, %hi, HS0, HS1⟩, Hg, ⟨HT0, HT1⟩⟩, Ho, ⟨%d0, H0⟩, ⟨%d1, H1⟩, ⟨%d2, H2⟩, ⟨%d3, H3⟩, ⟨%d4, H4⟩⟩
        have hs := st_of_inv m hO c t (xb, acc) hi hl
        unfold next at hs; rw [if_neg h0] at hs
        have ho : outv m hO c t = (st m hO c t.val t.isLt).2 := if_pos hl
        rw [ho, hs]
        iapply (run_last c (grid0.coords t) _ (hs0 m hO t) _ (hs1 m hO t) _ (hs2 m hO t) _ (hs3 m hO t) _ (hs4 m hO t) _ (Memref.isWhole_whole _) _ (Memref.isWhole_whole _) (iblk m hO c 0 t) (iblk m hO c 1 t) (iblk m hO c 2 t) (iblk m hO c 3 t) (tbl m 0) (tbl m 1) xb acc _ (fun h => h0 (e1.mp h).2) (e2.mpr hl) (e3.mpr ⟨hl, hf⟩) (fun h => (e4.mp h).1 hl) Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HT0]; · iexact HT0
        isplitl [HT1]; · iexact HT1
        iintro ⟨H0, H1, H2, H3, H4, HS0, HS1, HT0, HT1⟩
        isplitl [HS0 HS1 Hg HT0 HT1]
        · isplitl [HS0 HS1]
          · iexists _; iexists _; isplitr
            swap
            · isplitl [HS0]; · iexact HS0
              iexact HS1
            ipureintro; exact fun _ _ => hs.symm
          isplitl [Hg]; · iexact Hg
          isplitl [HT0]; · iexact HT0
          iexact HT1
        isplitl [Ho]; · iexact Ho
        isplitl [H0]; · iexact H0
        isplitl [H1]; · iexact H1
        isplitl [H2]; · iexact H2
        isplitl [H3]; · iexact H3
        iexact H4
      · rw [leaves4_idle m hO c t hf]
        iintro ⟨⟨⟨%xb, %acc, %hi, HS0, HS1⟩, Hg, ⟨HT0, HT1⟩⟩, Ho, ⟨%d0, H0⟩, ⟨%d1, H1⟩, ⟨%d2, H2⟩, ⟨%d3, H3⟩, ⟨%d4, H4⟩⟩
        have hs := st_of_inv m hO c t (xb, acc) hi hl
        unfold next at hs; rw [if_neg h0] at hs
        iapply (run_mid c (grid0.coords t) _ (hs0 m hO t) _ (hs1 m hO t) _ (hs2 m hO t) _ (hs3 m hO t) _ (hs4 m hO t) _ (Memref.isWhole_whole _) _ (Memref.isWhole_whole _) (iblk m hO c 0 t) (iblk m hO c 1 t) (iblk m hO c 2 t) (iblk m hO c 3 t) (tbl m 0) (tbl m 1) xb acc _ (fun h => h0 (e1.mp h).2) (e2.mpr hl) (fun h => hf (e3.mp h).2) (fun h => (e4.mp h).1 hl) Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HT0]; · iexact HT0
        isplitl [HT1]; · iexact HT1
        iintro ⟨H0, H1, H2, H3, H4, HS0, HS1, HT0, HT1⟩
        isplitl [HS0 HS1 Hg HT0 HT1]
        · isplitl [HS0 HS1]
          · iexists _; iexists _; isplitr
            swap
            · isplitl [HS0]; · iexact HS0
              iexact HS1
            ipureintro; exact fun _ _ => hs.symm
          isplitl [Hg]; · iexact Hg
          isplitl [HT0]; · iexact HT0
          iexact HT1
        isplitl [Ho]; · iexact Ho
        isplitl [H0]; · iexact H0
        isplitl [H1]; · iexact H1
        isplitl [H2]; · iexact H2
        isplitl [H3]; · iexact H3
        iexists _; iexact H4
  · by_cases hf : t.val % 11 = 10
    · rw [leaves4_live m hO c t hf]
      iintro ⟨⟨⟨%xb, %acc, %hi, HS0, HS1⟩, Hg, ⟨HT0, HT1⟩⟩, Ho, ⟨%d0, H0⟩, ⟨%d1, H1⟩, ⟨%d2, H2⟩, ⟨%d3, H3⟩, ⟨%d4, H4⟩⟩
      have ho : outv m hO c t = k0_pay4 := if_neg hl
      rw [ho]
      iapply (run_zero c (grid0.coords t) _ (hs0 m hO t) _ (hs1 m hO t) _ (hs2 m hO t) _ (hs3 m hO t) _ (hs4 m hO t) _ (Memref.isWhole_whole _) _ (Memref.isWhole_whole _) (iblk m hO c 0 t) (iblk m hO c 1 t) (iblk m hO c 2 t) (iblk m hO c 3 t) (tbl m 0) (tbl m 1) xb acc _ (fun h => hl (e1.mp h).1) (fun h => hl (e2.mp h)) (fun h => hl (e3.mp h).1) (e4.mpr ⟨hl, hf⟩) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HT0]; · iexact HT0
      isplitl [HT1]; · iexact HT1
      iintro ⟨H0, H1, H2, H3, H4, HS0, HS1, HT0, HT1⟩
      isplitl [HS0 HS1 Hg HT0 HT1]
      · isplitl [HS0 HS1]
        · iexists _; iexists _; isplitr
          swap
          · isplitl [HS0]; · iexact HS0
            iexact HS1
          ipureintro; exact fun _ h => absurd h hl
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4
    · rw [leaves4_idle m hO c t hf]
      iintro ⟨⟨⟨%xb, %acc, %hi, HS0, HS1⟩, Hg, ⟨HT0, HT1⟩⟩, Ho, ⟨%d0, H0⟩, ⟨%d1, H1⟩, ⟨%d2, H2⟩, ⟨%d3, H3⟩, ⟨%d4, H4⟩⟩
      iapply (run_skip c (grid0.coords t) _ (hs0 m hO t) _ (hs1 m hO t) _ (hs2 m hO t) _ (hs3 m hO t) _ (hs4 m hO t) _ (Memref.isWhole_whole _) _ (Memref.isWhole_whole _) (iblk m hO c 0 t) (iblk m hO c 1 t) (iblk m hO c 2 t) (iblk m hO c 3 t) (tbl m 0) (tbl m 1) xb acc _ (fun h => hl (e1.mp h).1) (fun h => hl (e2.mp h)) (fun h => hl (e3.mp h).1) (fun h => hf (e4.mp h).2) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HT0]; · iexact HT0
      isplitl [HT1]; · iexact HT1
      iintro ⟨H0, H1, H2, H3, H4, HS0, HS1, HT0, HT1⟩
      isplitl [HS0 HS1 Hg HT0 HT1]
      · isplitl [HS0 HS1]
        · iexists _; iexists _; isplitr
          swap
          · isplitl [HS0]; · iexact HS0
            iexact HS1
          ipureintro; exact fun _ h => absurd h hl
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = Phi m hO c 0 from rfl, PhiA_eq]; unfold Phi
  iintro ⟨⟨⟨⟨%xb, HS0⟩, ⟨%acc, HS1⟩⟩, Hg⟩, HT⟩
  isplitl [HS0 HS1]
  · iexists xb; iexists acc
    isplitr; · ipureintro; trivial
    isplitl [HS0]; · iexact HS0
    iexact HS1
  isplitl [Hg]; · iexact Hg
  iexact HT

theorem hout (hO : Ok m) (c : Dev nD) : (dats m hO 0 c).Φ (Fin.last (cfgM m hO).N) ⊢ Pipeline.ΦA spec0 c := by
  rw [show (dats m hO 0 c).Φ (Fin.last (cfgM m hO).N) = Phi m hO c (cfgM m hO).N from rfl, PhiA_eq]; unfold Phi
  iintro ⟨⟨%xb, %acc, %hi, HS0, HS1⟩, Hg, -⟩
  isplitl [HS0 HS1]
  · isplitl [HS0]
    · iexists _; iexact HS0
    iexists _; iexact HS1
  iexact Hg

/-! ## The run and the frame -/

set_option backward.isDefEq.respectTransparency.types false in
/-- The launch: every array ends at what the proof data say, and every semaphore at zero. -/
theorem run_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).2 main_arg0 (by decide : main_arg0 ∈ Pipeline.restRefs sig spec0),
      (h.1 c).2 main_arg1 (by decide : main_arg1 ∈ Pipeline.restRefs sig spec0),
      ((h.1 c).1 0).trans (((dats m hO 0 c).arrAt_in 0 rfl _).trans (A_eq m hO c 0)),
      ((h.1 c).1 1).trans (((dats m hO 0 c).arrAt_in 1 rfl _).trans (A_eq m hO c 1)),
      ((h.1 c).1 2).trans (((dats m hO 0 c).arrAt_in 2 rfl _).trans (A_eq m hO c 2)),
      ((h.1 c).1 3).trans (((dats m hO 0 c).arrAt_in 3 rfl _).trans (A_eq m hO c 3))⟩) (run_quiescent m ρ hO)

/-- The frame: the arguments unchanged and every semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_quiescent m ρ hO))

end Cert.KernelIdeal.Moe

end
-- ==== Proof.OkKernelIdeal.lean ====
module

public import proofs.«01_k».proof.Proof.FrameKernelIdeal
public import proofs.«01_k».proof.Proof.Gen.Pre_expert_in_range
public import proofs.«01_k».proof.Defs

@[expose] public section

set_option maxRecDepth 16384

noncomputable section

namespace Cert.KernelIdeal.Moe

open Cert.KernelIdeal.Gen
open Idealize.ShloMosaic Idealize.ShloMosaic.TcCoe Idealize.SL.Sem

/-! Every block that a table places lies inside its array, from the precondition: an expert number below 8. -/

section Words

theorem minsi_cases (x y : BitVec 32) : (x.toInt < y.toInt ∧ Scalar.minsi x y = x) ∨ (¬ x.toInt < y.toInt ∧ Scalar.minsi x y = y) := by
  show (_ ∧ (if x.slt y then x else y) = x) ∨ (_ ∧ (if x.slt y then x else y) = y)
  by_cases h : x.slt y = true
  · exact .inl ⟨BitVec.slt_iff_toInt_lt.mp h, if_pos h⟩
  · exact .inr ⟨fun h' => h (BitVec.slt_iff_toInt_lt.mpr h'), if_neg h⟩
theorem maxsi_cases (x y : BitVec 32) : (y.toInt < x.toInt ∧ Scalar.maxsi x y = x) ∨ (¬ y.toInt < x.toInt ∧ Scalar.maxsi x y = y) := by
  show (_ ∧ (if y.slt x then x else y) = x) ∨ (_ ∧ (if y.slt x then x else y) = y)
  by_cases h : y.slt x = true
  · exact .inl ⟨BitVec.slt_iff_toInt_lt.mp h, if_pos h⟩
  · exact .inr ⟨fun h' => h (BitVec.slt_iff_toInt_lt.mpr h'), if_neg h⟩

/-- The tile read for tile `k`: never past tile `k`, whatever the number of live tiles. -/
theorem tile_le (k : ℕ) (hk : k < 42) (x : BitVec 32) :
    (Scalar.minsi (BitVec.ofNat 32 k) (Scalar.maxsi x 0#32)).toNat ≤ k := by
  have e0 : (0#32 : BitVec 32).toInt = 0 := rfl
  have ek : (BitVec.ofNat 32 k).toInt = k := by
    rw [BitVec.toInt_eq_toNat_cond, BitVec.toNat_ofNat, Nat.mod_eq_of_lt (by omega), if_pos (by omega)]
  have ekn : (BitVec.ofNat 32 k).toNat = k := by rw [BitVec.toNat_ofNat, Nat.mod_eq_of_lt (by omega)]
  have hx := x.isLt
  have hxi := BitVec.toInt_eq_toNat_cond x
  rcases minsi_cases (BitVec.ofNat 32 k) (Scalar.maxsi x 0#32) with ⟨-, e⟩ | ⟨h, e⟩
  · rw [e, ekn]
  · rw [e]
    rw [ek] at h
    rcases maxsi_cases x 0#32 with ⟨h', e'⟩ | ⟨h', e'⟩
    · rw [e'] at h ⊢
      rw [e0] at h'
      by_cases c : 2 * x.toNat < 2 ^ 32
      · rw [if_pos c] at hxi; omega
      · rw [if_neg c] at hxi; omega
    · rw [e']; simp

/-- The tile read for a live tile is that tile. -/
theorem tile_eq (k : ℕ) (hk : k < 42) (w : BitVec 32) (hl : Scalar.cmpi .slt (BitVec.ofNat 32 k) w = 1#1) :
    (Scalar.minsi (BitVec.ofNat 32 k) (Scalar.maxsi (Scalar.subi w 1#32) 0#32)).toNat = k := by
  have e0 : (0#32 : BitVec 32).toInt = 0 := rfl
  have ek : (BitVec.ofNat 32 k).toInt = k := by
    rw [BitVec.toInt_eq_toNat_cond, BitVec.toNat_ofNat, Nat.mod_eq_of_lt (by omega), if_pos (by omega)]
  have ekn : (BitVec.ofNat 32 k).toNat = k := by rw [BitVec.toNat_ofNat, Nat.mod_eq_of_lt (by omega)]
  have hw := w.isLt
  have hwi := BitVec.toInt_eq_toNat_cond w
  have hlt : (k : ℤ) < w.toInt := by
    simp only [Scalar.cmpi, IntOp.cmpi] at hl
    have : (BitVec.ofNat 32 k).slt w = true := by
      revert hl; cases (BitVec.ofNat 32 k).slt w <;> decide
    rwa [BitVec.slt_iff_toInt_lt, ek] at this
  have hpos : 2 * w.toNat < 2 ^ 32 := by
    by_contra c; rw [if_neg c] at hwi; omega
  rw [if_pos hpos] at hwi
  have hs : (Scalar.subi w 1#32).toNat = w.toNat - 1 := by
    show (w - 1#32).toNat = _
    rw [BitVec.toNat_sub]; simp only [BitVec.toNat_ofNat]; omega
  have hsi : (Scalar.subi w 1#32).toInt = w.toNat - 1 := by
    rw [BitVec.toInt_eq_toNat_cond, hs, if_pos (by omega)]; omega
  generalize Scalar.subi w 1#32 = x at hs hsi ⊢
  rcases maxsi_cases x 0#32 with ⟨h1, e1⟩ | ⟨h1, e1⟩
  · rw [e1]
    rcases minsi_cases (BitVec.ofNat 32 k) x with ⟨-, e⟩ | ⟨h, e⟩
    · rw [e, ekn]
    · rw [e, hs]; rw [ek, hsi] at h; omega
  · rw [e1]
    rw [e0, hsi] at h1
    have hk0 : k = 0 := by omega
    subst hk0
    rfl

theorem select_le (b : BitVec 1) (f : ℕ) (hf : f < 11) : (Scalar.select b (BitVec.ofNat 32 f) 0#32).toNat ≤ f := by
  unfold Scalar.select
  split
  · rw [BitVec.toNat_ofNat, Nat.mod_eq_of_lt (by omega)]
  · simp

theorem select_eq (b : BitVec 1) (f : ℕ) (hf : f < 11) (hb : b = 1#1) : (Scalar.select b (BitVec.ofNat 32 f) 0#32).toNat = f := by
  unfold Scalar.select
  rw [if_pos (show b = 1 from hb), BitVec.toNat_ofNat, Nat.mod_eq_of_lt (by omega)]

theorem andi_ofBool (a b : Bool) : IntOp.andi (BitVec.ofBool a) (BitVec.ofBool b) = BitVec.ofBool (a && b) := by
  cases a <;> cases b <;> decide
theorem ofBool_eq_one (a : Bool) : BitVec.ofBool a = 1#1 ↔ a = true := by cases a <;> decide

end Words

section

variable {F : FTy → Type} [FloatOps F]
variable (m : (ℓ : Loc nD τ sig) → Buf (Elt F) ℓ)

/-- The expert table, as an array of words. -/
abbrev te : S42.Idx → BitVec 32 := m (((0 : Dev nD) : Thread nD τ).loc main_arg0)

/-- With every expert number below 8 every block lies inside its array. -/
theorem ok_of_lt (h : ∀ x : S42.Idx, (te m x).toNat < 8) : Ok m := by
  refine ⟨fun i => ⟨?_, .inl rfl⟩, fun i => ⟨?_, .inl rfl⟩, fun i => ⟨?_, .inl rfl⟩, fun i => ⟨?_, .inl rfl⟩⟩
  · intro a
    have h0 : (i 0).val < 42 := (i 0).isLt
    have ht := tile_le (i 0).val h0
    fin_cases a
    · show ((Scalar.minsi (BitVec.ofNat 32 (i 0).val) (Scalar.maxsi _ 0#32)).toNat + 1) * 1024 ≤ 43008
      have := ht (Scalar.subi ((tbl m).at 1 (Rect.unit (s := S1) ![0] S1.size inb_S1_S1_0) numel1_S1) 1#32)
      omega
    · show (0 + 1) * 1024 ≤ 1024; omega
  all_goals
    intro a
    have h1 : (i 1).val < 11 := (i 1).isLt
    have hs := fun b => select_le b (i 1).val h1
    fin_cases a
  · exact (Nat.mul_one _).le.trans (Nat.succ_le_of_lt (h _))
  · show (0 + 1) * 1024 ≤ 1024; omega
  · show ((Scalar.select (Scalar.cmpi .slt (BitVec.ofNat 32 (i 0).val) ((tbl m).at 1 (Rect.unit (s := S1) ![0] S1.size inb_S1_S1_0) numel1_S1)) (BitVec.ofNat 32 (i 1).val) 0#32).toNat + 1) * 256 ≤ 2816
    have := hs (Scalar.cmpi .slt (BitVec.ofNat 32 (i 0).val) ((tbl m).at 1 (Rect.unit (s := S1) ![0] S1.size inb_S1_S1_0) numel1_S1))
    omega
  · exact (Nat.mul_one _).le.trans (Nat.succ_le_of_lt (h _))
  · show (0 + 1) * 1024 ≤ 1024; omega
  · show ((Scalar.select (Scalar.cmpi .slt (BitVec.ofNat 32 (i 0).val) ((tbl m).at 1 (Rect.unit (s := S1) ![0] S1.size inb_S1_S1_0) numel1_S1)) (BitVec.ofNat 32 (i 1).val) 0#32).toNat + 1) * 256 ≤ 2816
    have := hs (Scalar.cmpi .slt (BitVec.ofNat 32 (i 0).val) ((tbl m).at 1 (Rect.unit (s := S1) ![0] S1.size inb_S1_S1_0) numel1_S1))
    omega
  · exact (Nat.mul_one _).le.trans (Nat.succ_le_of_lt (h _))
  · show ((Scalar.select (Scalar.cmpi .slt (BitVec.ofNat 32 (i 0).val) ((tbl m).at 1 (Rect.unit (s := S1) ![0] S1.size inb_S1_S1_0) numel1_S1)) (BitVec.ofNat 32 (i 1).val) 0#32).toNat + 1) * 256 ≤ 2816
    have := hs (Scalar.cmpi .slt (BitVec.ofNat 32 (i 0).val) ((tbl m).at 1 (Rect.unit (s := S1) ![0] S1.size inb_S1_S1_0) numel1_S1))
    omega
  · show (0 + 1) * 1024 ≤ 1024; omega

end

/-- The precondition bounds every expert number. -/
theorem te_lt (m : (ℓ : Loc nD τ sig) → Buf (Elt Ideal) ℓ) (h : Cert.Pre_KernelIdeal m) (x : S42.Idx) : (te m x).toNat < 8 := by
  have e := congrFun (h 0) x
  simp only [Pre_expert_in_range.fn, andi, cmpi, broadcastInDim, constantI, IntOp.cmpi, andi_ofBool, ofBool_eq_one, Bool.and_eq_true] at e
  obtain ⟨hge, hlt⟩ := e
  simp only [BitVec.sle, BitVec.slt, decide_eq_true_eq, BitVec.toInt, BitVec.toNat_ofNat] at hge hlt
  change (BitVec.toNat (m (((0 : Dev nD) : Thread nD τ).loc main_arg0) x)) < 8
  omega

theorem ok_of_pre (m : (ℓ : Loc nD τ sig) → Buf (Elt Ideal) ℓ) (h : Cert.Pre_KernelIdeal m) : Ok m := ok_of_lt m (te_lt m h)

end Cert.KernelIdeal.Moe

end
-- ==== Proof.PayKernelIdeal.lean ====
module

public import proofs.«01_k».proof.Proof.OkKernelIdeal
public import Idealize.ShloMosaic.Lib.Pipeline.ValueKit
public import Idealize.ShloMosaic.Lib.Pointwise
public import Idealize.ShloMosaic.PureOps.Ideal.Laws

@[expose] public section

set_option maxRecDepth 16384

noncomputable section

namespace Cert.KernelIdeal.Moe

open Cert.KernelIdeal.Gen
open Idealize.ShloMosaic Idealize.ShloMosaic.TcCoe Idealize.SL.Sem

/-! The body's arithmetic at an index, over the extended reals. -/

theorem pay1_apply (x : Vec Ideal S1024x1024 .f32) (j : S1024x1024.Idx) : k0_pay1 x j = x j := by
  pointwise [k0_pay1]

theorem pay2_apply (j : S1024x1024.Idx) : k0_pay2 (F := Ideal) j = 0 := by
  pointwise [k0_pay2]
theorem pay4_apply (j : S1024x1024.Idx) : k0_pay4 (F := Ideal) j = 0 := by
  pointwise [k0_pay4]

/-- The gate (or up) projection of row `a` of a tile, at column `k` of a weight block. -/
def proj (xb : S1024x1024.Idx → EReal) (w : S1x1024x256.Idx → EReal) (a : Fin 1024) (k : Fin 256) : EReal :=
  ∑ l : Fin 1024, xb (ix2 a l) * w (ix3 0 l k)
/-- What one column block adds to the running sum. -/
def part (xb : S1024x1024.Idx → EReal) (wg wu : S1x1024x256.Idx → EReal) (wd : S1x256x1024.Idx → EReal) (j : S1024x1024.Idx) : EReal :=
  ∑ k : Fin 256, (proj xb wg (j 0) k * Ideal.logistic (proj xb wg (j 0) k) * proj xb wu (j 0) k) * wd (ix3 0 k (j 1))

theorem pay3_apply (xb : Vec Ideal S1024x1024 .bf16) (wg wu : Vec Ideal S1x1024x256 .f32) (acc : Vec Ideal S1024x1024 .f32) (wd : Vec Ideal S1x256x1024 .f32) (j : S1024x1024.Idx) :
    k0_pay3 xb wg wu acc wd j = acc j + part xb wg wu wd j := by
  pointwise [k0_pay3]
  rfl

end Cert.KernelIdeal.Moe

end
-- ==== Proof.Idx.lean ====
module

public import Idealize.ShloMosaic.Lib.ValueIdx

@[expose] public section

namespace Cert

/-- Two indices of a one-axis shape are equal if their coordinates are. -/
theorem idx_ext₁ {n : Fin 1 → ℕ} {x y : (a : Fin 1) → Fin (n a)} (h : (x 0 : ℕ) = y 0) : x = y :=
  funext fun a => by obtain rfl : a = 0 := Subsingleton.elim _ _; exact Fin.ext h
/-- Two indices of a three-axis shape are equal if their coordinates are. -/
theorem idx_ext₃ {n : Fin 3 → ℕ} {x y : (a : Fin 3) → Fin (n a)} (h0 : (x 0 : ℕ) = y 0) (h1 : (x 1 : ℕ) = y 1) (h2 : (x 2 : ℕ) = y 2) : x = y :=
  funext fun a => Fin.ext (match a with | ⟨0, _⟩ => h0 | ⟨1, _⟩ => h1 | ⟨2, _⟩ => h2)

end Cert

end
-- ==== Proof.BlkKernelIdeal.lean ====
module

public import proofs.«01_k».proof.Proof.PayKernelIdeal
public import proofs.«01_k».proof.Proof.Idx
public import Idealize.ShloMosaic.Lib.Pipeline.Covers

@[expose] public section

set_option maxRecDepth 16384

noncomputable section

namespace Cert.KernelIdeal.Moe

open Cert.KernelIdeal.Gen
open Idealize.ShloMosaic Idealize.ShloMosaic.TcCoe Idealize.SL.Sem

/-! The blocks a grid point reads, at an index of their arrays. -/

variable (m : (ℓ : Loc nD τ sig) → Buf (Elt Ideal) ℓ)

abbrev A2 : S43008x1024.Idx → EReal := m (((0 : Dev nD) : Thread nD τ).loc main_arg2)
abbrev A3 : S8x1024x2816.Idx → EReal := m (((0 : Dev nD) : Thread nD τ).loc main_arg3)
abbrev A4 : S8x1024x2816.Idx → EReal := m (((0 : Dev nD) : Thread nD τ).loc main_arg4)
abbrev A5 : S8x2816x1024.Idx → EReal := m (((0 : Dev nD) : Thread nD τ).loc main_arg5)

theorem at_nv : (tbl m).at 1 (Rect.unit (s := S1) ![0] S1.size inb_S1_S1_0) numel1_S1 = nv m := by
  unfold nv Pipeline.Prefetch.Contents.atD
  rw [dif_pos (by decide)]
  exact congrArg (tbl m 1) (one_idx _ _)

theorem tile_lt (t : Fin grid0.N) : t.val / 11 < 42 := by
  have h : t.val < 462 := t.isLt
  omega
theorem at_te (t : Fin grid0.N) : (tbl m).at 0 (Rect.unit (s := S42) ![(Scalar.indexCast (BitVec.ofNat 32 (grid0.coords t 0).val)).toNat] S1.size (k0_off1_inb (grid0.coords t))) numel1_S1
    = te m (ix1 ⟨t.val / 11, tile_lt t⟩) := by
  refine congrArg (te m) (idx_ext₁ ?_)
  have h := coord0 t
  have hl := tile_lt t
  show (BitVec.ofNat 32 (grid0.coords t 0).val).toNat + 1 * 0 = t.val / 11
  rw [BitVec.toNat_ofNat, h, Nat.mod_eq_of_lt (by omega)]; omega

theorem idx0 (hO : Ok m) (t : Fin (cfgM m hO).N) : ((cfgM m hO).win 0).index t = ![(Scalar.minsi (BitVec.ofNat 32 (t.val / 11)) (Scalar.maxsi (Scalar.subi (nv m) 1#32) 0#32)).toNat, 0] := by
  rw [← coord0 t, ← at_nv]; rfl
theorem idx1 (hO : Ok m) (t : Fin (cfgM m hO).N) : ((cfgM m hO).win 1).index t
    = ![(te m (ix1 ⟨t.val / 11, tile_lt t⟩)).toNat, 0, (Scalar.select (Scalar.cmpi .slt (BitVec.ofNat 32 (t.val / 11)) (nv m)) (BitVec.ofNat 32 (t.val % 11)) 0#32).toNat] := by
  rw [← at_te, ← at_nv, ← coord0 t, ← coord1 t]; rfl
theorem idx2 (hO : Ok m) (t : Fin (cfgM m hO).N) : ((cfgM m hO).win 2).index t
    = ![(te m (ix1 ⟨t.val / 11, tile_lt t⟩)).toNat, 0, (Scalar.select (Scalar.cmpi .slt (BitVec.ofNat 32 (t.val / 11)) (nv m)) (BitVec.ofNat 32 (t.val % 11)) 0#32).toNat] := by
  rw [← at_te, ← at_nv, ← coord0 t, ← coord1 t]; rfl
theorem idx3 (hO : Ok m) (t : Fin (cfgM m hO).N) : ((cfgM m hO).win 3).index t
    = ![(te m (ix1 ⟨t.val / 11, tile_lt t⟩)).toNat, (Scalar.select (Scalar.cmpi .slt (BitVec.ofNat 32 (t.val / 11)) (nv m)) (BitVec.ofNat 32 (t.val % 11)) 0#32).toNat, 0] := by
  rw [← at_te, ← at_nv, ← coord0 t, ← coord1 t]; rfl

/-- The tile a point reads does not change within a run of the column blocks. -/
theorem bx_congr (hO : Ok m) (c : Dev nD) (t u : Fin (cfgM m hO).N) (h : t.val / 11 = u.val / 11) : bx m hO c t = bx m hO c u := by
  obtain rfl : c = 0 := Subsingleton.elim _ _
  funext y
  have e := fun t => Pipeline.Window.rect_emb_val ((cfgM m hO).win 0) t
  have hi : ((cfgM m hO).win 0).index t = ((cfgM m hO).win 0).index u := by rw [idx0, idx0, h]
  exact congrArg (A2 m) (Shape.idx_ext₂ ((e t y (0 : Fin 2)).trans (by rw [hi]; exact (e u y (0 : Fin 2)).symm)) ((e t y (1 : Fin 2)).trans (by rw [hi]; exact (e u y (1 : Fin 2)).symm)))

theorem bx_live (hO : Ok m) (c : Dev nD) (t : Fin (cfgM m hO).N) (hl : LiveN m t.val) (a l : Fin 1024) (h : t.val / 11 * 1024 + a.val < 43008) :
    bx m hO c t (ix2 a l) = A2 m (ix2 ⟨t.val / 11 * 1024 + a.val, h⟩ l) := by
  obtain rfl : c = 0 := Subsingleton.elim _ _
  have e := Pipeline.Window.rect_emb_val ((cfgM m hO).win 0) t
  have hi : ((cfgM m hO).win 0).index t = ![t.val / 11, 0] := by rw [idx0, tile_eq (t.val / 11) (tile_lt t) (nv m) hl]
  exact congrArg (A2 m) (Shape.idx_ext₂ ((e _ (0 : Fin 2)).trans (by rw [hi]; rfl)) ((e _ (1 : Fin 2)).trans (by rw [hi]; exact (Nat.zero_add _))))

/-- The expert of the tile of point `t`. -/
def expert (hr : ∀ x, (te m x).toNat < 8) (n : ℕ) (h : n < 42) : Fin 8 := ⟨(te m (ix1 ⟨n, h⟩)).toNat, hr _⟩

set_option maxHeartbeats 400000
theorem bg_live (hr : ∀ x, (te m x).toNat < 8) (hO : Ok m) (c : Dev nD) (t : Fin (cfgM m hO).N) (hl : LiveN m t.val) (l : Fin 1024) (k : Fin 256) (h : t.val % 11 * 256 + k.val < 2816) :
    bg m hO c t (ix3 0 l k) = A3 m (ix3 (expert m hr (t.val / 11) (tile_lt t)) l ⟨t.val % 11 * 256 + k.val, h⟩) := by
  obtain rfl : c = 0 := Subsingleton.elim _ _
  have e := Pipeline.Window.rect_emb_val ((cfgM m hO).win 1) t
  have hi := idx1 m hO t
  rw [select_eq _ (t.val % 11) (by omega) hl] at hi
  exact congrArg (A3 m) (idx_ext₃ ((e _ (0 : Fin 3)).trans (by rw [hi]; exact (Nat.mul_one _))) ((e _ (1 : Fin 3)).trans (by rw [hi]; exact (Nat.zero_add _))) ((e _ (2 : Fin 3)).trans (by rw [hi]; rfl)))
theorem bu_live (hr : ∀ x, (te m x).toNat < 8) (hO : Ok m) (c : Dev nD) (t : Fin (cfgM m hO).N) (hl : LiveN m t.val) (l : Fin 1024) (k : Fin 256) (h : t.val % 11 * 256 + k.val < 2816) :
    bu m hO c t (ix3 0 l k) = A4 m (ix3 (expert m hr (t.val / 11) (tile_lt t)) l ⟨t.val % 11 * 256 + k.val, h⟩) := by
  obtain rfl : c = 0 := Subsingleton.elim _ _
  have e := Pipeline.Window.rect_emb_val ((cfgM m hO).win 2) t
  have hi := idx2 m hO t
  rw [select_eq _ (t.val % 11) (by omega) hl] at hi
  exact congrArg (A4 m) (idx_ext₃ ((e _ (0 : Fin 3)).trans (by rw [hi]; exact (Nat.mul_one _))) ((e _ (1 : Fin 3)).trans (by rw [hi]; exact (Nat.zero_add _))) ((e _ (2 : Fin 3)).trans (by rw [hi]; rfl)))
theorem bd_live (hr : ∀ x, (te m x).toNat < 8) (hO : Ok m) (c : Dev nD) (t : Fin (cfgM m hO).N) (hl : LiveN m t.val) (k : Fin 256) (b : Fin 1024) (h : t.val % 11 * 256 + k.val < 2816) :
    bd m hO c t (ix3 0 k b) = A5 m (ix3 (expert m hr (t.val / 11) (tile_lt t)) ⟨t.val % 11 * 256 + k.val, h⟩ b) := by
  obtain rfl : c = 0 := Subsingleton.elim _ _
  have e := Pipeline.Window.rect_emb_val ((cfgM m hO).win 3) t
  have hi := idx3 m hO t
  rw [select_eq _ (t.val % 11) (by omega) hl] at hi
  exact congrArg (A5 m) (idx_ext₃ ((e _ (0 : Fin 3)).trans (by rw [hi]; exact (Nat.mul_one _))) ((e _ (1 : Fin 3)).trans (by rw [hi]; rfl)) ((e _ (2 : Fin 3)).trans (by rw [hi]; exact (Nat.zero_add _))))

/-! ## The running sum at the last point of a live tile -/

theorem st_fst (hO : Ok m) (c : Dev nD) : ∀ (n : ℕ) (h : n < (cfgM m hO).N), (st m hO c n h).1 = k0_pay1 (bx m hO c ⟨n, h⟩)
  | 0, h => rfl
  | n + 1, h => by
    show (next m hO c ⟨n + 1, h⟩ (st m hO c n (Nat.lt_of_succ_lt h))).1 = _
    unfold next
    by_cases hf : (n + 1) % 11 = 0
    · rw [if_pos hf]
    · rw [if_neg hf]
      show (st m hO c n (Nat.lt_of_succ_lt h)).1 = _
      rw [st_fst hO c n (Nat.lt_of_succ_lt h), bx_congr m hO c ⟨n, Nat.lt_of_succ_lt h⟩ ⟨n + 1, h⟩ (show n / 11 = (n + 1) / 11 by omega)]

/-- What point `t` adds. -/
abbrev term (hO : Ok m) (c : Dev nD) (t : Fin (cfgM m hO).N) (j : S1024x1024.Idx) : EReal :=
  part (bx m hO c t) (bg m hO c t) (bu m hO c t) (bd m hO c t) j

theorem pay1_eq (x : Vec Ideal S1024x1024 .f32) : (k0_pay1 x : S1024x1024.Idx → EReal) = x := funext (pay1_apply x)

theorem st_reset (hO : Ok m) (c : Dev nD) (t : Fin (cfgM m hO).N) (h : t.val % 11 = 0) (j : S1024x1024.Idx) :
    (st m hO c t.val t.isLt).2 j = (fun _ => (0 : EReal)) j + term m hO c t j := by
  obtain ⟨n, hn⟩ := t
  have e : (st m hO c n hn) = next m hO c ⟨n, hn⟩ (st m hO c n hn) := by
    cases n with
    | zero => rfl
    | succ n =>
      show next m hO c ⟨n + 1, hn⟩ _ = _
      unfold next; rw [if_pos h, if_pos h]
  rw [e]; unfold next; rw [if_pos h]
  show k0_pay3 (k0_pay1 (bx m hO c ⟨n, hn⟩)) (bg m hO c ⟨n, hn⟩) (bu m hO c ⟨n, hn⟩) (k0_pay2 (F := Ideal)) (bd m hO c ⟨n, hn⟩) j = _
  rw [pay3_apply, pay2_apply, pay1_eq]

theorem st_step (hO : Ok m) (c : Dev nD) (t : Fin (cfgM m hO).N) (h : ¬t.val % 11 = 0) (j : S1024x1024.Idx) :
    (st m hO c t.val t.isLt).2 j = (st m hO c (t.val - 1) (Nat.lt_of_le_of_lt (Nat.sub_le _ _) t.isLt)).2 j + term m hO c t j := by
  obtain ⟨n, hn⟩ := t
  cases n with
  | zero => exact absurd rfl h
  | succ n =>
    show (next m hO c ⟨n + 1, hn⟩ (st m hO c n (Nat.lt_of_succ_lt hn))).2 j = _
    unfold next; rw [if_neg h]
    show k0_pay3 (st m hO c n (Nat.lt_of_succ_lt hn)).1 _ _ _ _ j = _
    rw [pay3_apply, st_fst, pay1_eq, bx_congr m hO c ⟨n, Nat.lt_of_succ_lt hn⟩ ⟨n + 1, hn⟩ (show n / 11 = (n + 1) / 11 by
      have : ¬(n + 1) % 11 = 0 := h
      omega)]
    rfl

theorem st_last (hO : Ok m) (c : Dev nD) (t : Fin (cfgM m hO).N) (h : t.val % 11 = 10) (j : S1024x1024.Idx) :
    (st m hO c t.val t.isLt).2 j = ∑ s : Fin 11, term m hO c ⟨11 * (t.val / 11) + s.val, Pipeline.run_point_lt_of_flush t h s⟩ j := by
  have e := Pipeline.eq_sum_fin_of_reset_step_apply_of_flush (M := EReal) (fun n h => (st m hO c n h).2) 11 (fun _ => 0) (term m hO c) (st_reset m hO c) (st_step m hO c) t h j
  rw [zero_add] at e
  exact e

/-! ## A tile's rows -/

/-- The gated unit of row `r` at hidden column `k`, by expert `e`. -/
def hid (x : S43008x1024.Idx → EReal) (wg wu : S8x1024x2816.Idx → EReal) (e : Fin 8) (r : Fin 43008) (k : Fin 2816) : EReal :=
  (∑ l : Fin 1024, x (ix2 r l) * wg (ix3 e l k)) * Ideal.logistic (∑ l : Fin 1024, x (ix2 r l) * wg (ix3 e l k))
    * (∑ l : Fin 1024, x (ix2 r l) * wu (ix3 e l k))
/-- Row `r` of expert `e`'s feed-forward network, at output column `b`. -/
def ffn (x : S43008x1024.Idx → EReal) (wg wu : S8x1024x2816.Idx → EReal) (wd : S8x2816x1024.Idx → EReal) (e : Fin 8) (r : Fin 43008) (b : Fin 1024) : EReal :=
  ∑ k : Fin 2816, hid x wg wu e r k * wd (ix3 e k b)

theorem term_live (hr : ∀ x, (te m x).toNat < 8) (hO : Ok m) (c : Dev nD) (t : Fin (cfgM m hO).N) (hl : LiveN m t.val) (j : S1024x1024.Idx)
    (n : ℕ) (hn : n < 42) (hd : t.val / 11 = n) (s : ℕ) (hs : t.val % 11 = s) (hs' : s < 11) (h : n * 1024 + (j 0).val < 43008) :
    term m hO c t j = ∑ k : Fin 256, hid (A2 m) (A3 m) (A4 m) (expert m hr n hn) ⟨n * 1024 + (j 0).val, h⟩ ⟨s * 256 + k.val, by omega⟩
      * A5 m (ix3 (expert m hr n hn) ⟨s * 256 + k.val, by omega⟩ (j 1)) := by
  subst hd; subst hs
  unfold term part proj hid
  refine Finset.sum_congr rfl fun k _ => ?_
  have hk : t.val % 11 * 256 + k.val < 2816 := by omega
  rw [bd_live m hr hO c t hl k (j 1) hk]
  have e1 : ∀ l, bx m hO c t (ix2 (j 0) l) = _ := fun l => bx_live m hO c t hl (j 0) l h
  have e2 : ∀ l, bg m hO c t (ix3 0 l k) = _ := fun l => bg_live m hr hO c t hl l k hk
  have e3 : ∀ l, bu m hO c t (ix3 0 l k) = _ := fun l => bu_live m hr hO c t hl l k hk
  simp only [e1, e2, e3]

theorem outv_apply (hr : ∀ x, (te m x).toNat < 8) (hO : Ok m) (c : Dev nD) (t : Fin (cfgM m hO).N) (hf : t.val % 11 = 10) (j : S1024x1024.Idx)
    (h : t.val / 11 * 1024 + (j 0).val < 43008) :
    outv m hO c t j = if LiveN m t.val then ffn (A2 m) (A3 m) (A4 m) (A5 m) (expert m hr (t.val / 11) (tile_lt t)) ⟨t.val / 11 * 1024 + (j 0).val, h⟩ (j 1) else (0 : EReal) := by
  unfold outv
  by_cases hl : LiveN m t.val
  · rw [if_pos hl, if_pos hl, st_last m hO c t hf]
    unfold ffn
    have e : ∀ s : Fin 11, term m hO c ⟨11 * (t.val / 11) + s.val, Pipeline.run_point_lt_of_flush t hf s⟩ j = _ := fun s =>
      term_live m hr hO c _ (by
        unfold LiveN at hl ⊢
        rw [show (11 * (t.val / 11) + s.val) / 11 = t.val / 11 by omega]; exact hl) j (t.val / 11) (tile_lt t)
        (show (11 * (t.val / 11) + s.val) / 11 = t.val / 11 by omega) s.val (show (11 * (t.val / 11) + s.val) % 11 = s.val by omega) s.isLt h
    simp only [e]
    exact Fin.sum_mul_add_fin 11 256 (fun k : Fin 2816 => hid (A2 m) (A3 m) (A4 m) (expert m hr (t.val / 11) (tile_lt t)) ⟨t.val / 11 * 1024 + (j 0).val, h⟩ k
      * A5 m (ix3 (expert m hr (t.val / 11) (tile_lt t)) k (j 1)))
  · rw [if_neg hl, if_neg hl]; exact pay4_apply j

/-! ## The output array -/

theorem row_lt (r : Fin 43008) : r.val / 1024 < 42 := by omega
/-- What the kernel computes: a row of a live tile by its tile's expert, zero past the live tiles. -/
def Y (hr : ∀ x, (te m x).toNat < 8) : S43008x1024.Idx → EReal := fun i =>
  if Scalar.cmpi .slt (BitVec.ofNat 32 ((i 0).val / 1024)) (nv m) = 1#1 then
    ffn (A2 m) (A3 m) (A4 m) (A5 m) (expert m hr ((i 0).val / 1024) (row_lt (i 0))) (i 0) (i 1)
  else 0

theorem Y_at (hr : ∀ x, (te m x).toNat < 8) (n : ℕ) (hn : n < 42) (a : ℕ) (ha : a < 1024) (r : Fin 43008) (b b' : Fin 1024) (h0 : r.val = n * 1024 + a) (h1 : b.val = b'.val)
    (h : n * 1024 + a < 43008) :
    Y m hr (ix2 r b) = if Scalar.cmpi .slt (BitVec.ofNat 32 n) (nv m) = 1#1 then ffn (A2 m) (A3 m) (A4 m) (A5 m) (expert m hr n hn) ⟨n * 1024 + a, h⟩ b' else 0 := by
  obtain rfl : b = b' := Fin.ext h1
  obtain rfl : r = ⟨n * 1024 + a, h⟩ := Fin.ext h0
  have hd : (n * 1024 + a) / 1024 = n := by omega
  show (if Scalar.cmpi .slt (BitVec.ofNat 32 ((n * 1024 + a) / 1024)) (nv m) = 1#1 then ffn (A2 m) (A3 m) (A4 m) (A5 m) (expert m hr ((n * 1024 + a) / 1024) _) ⟨n * 1024 + a, h⟩ b else 0) = _
  simp only [hd]

theorem idx4 (hO : Ok m) (t : Fin (cfgM m hO).N) : ((cfgM m hO).win 4).index t = ![t.val / 11, 0] := by
  have hl := tile_lt t
  have e : (BitVec.ofNat 32 (grid0.coords t 0).val).toNat = t.val / 11 := by
    rw [BitVec.toNat_ofNat, coord0, Nat.mod_eq_of_lt (by omega)]
  rw [← e]; rfl

theorem outv_Y (hr : ∀ x, (te m x).toNat < 8) (hO : Ok m) (c : Dev nD) (t : Fin (cfgM m hO).N) (hf : t.val % 11 = 10) (y : S1024x1024.Idx) :
    outv m hO c t y = Y m hr (((cfgM m hO).win 4).rect t |>.emb y) := by
  have e := Pipeline.Window.rect_emb_val ((cfgM m hO).win 4) t y
  have hi := idx4 m hO t
  have ht := tile_lt t
  have h0 : (y 0).val < 1024 := (y 0).isLt
  have h : t.val / 11 * 1024 + (y 0).val < 43008 := by omega
  exact (outv_apply m hr hO c t hf y h).trans
    (Y_at m hr (t.val / 11) ht (y 0).val h0 _ _ (y 1) ((e (0 : Fin 2)).trans (by rw [hi]; rfl)) ((e (1 : Fin 2)).trans (by rw [hi]; exact Nat.zero_add _)) h).symm

theorem out_eq (hr : ∀ x, (te m x).toNat < 8) (hO : Ok m) (c : Dev nD) : (dats m hO 0 c).arrAt 4 (cfgM m hO).N = Y m hr := by
  refine (dats m hO 0 c).arrAt_eq_of_covers 4 (Y m hr) ?_ fun t hf y => ?_
  · refine Pipeline.Window.covers_of_index_surj _ rfl (fun a => by match a with | ⟨0, _⟩ => exact (by decide : 0 < 1024) | ⟨1, _⟩ => exact (by decide : 0 < 1024)) fun β => ?_
    have h0 : (β (0 : Fin 2)).val < 42 := lt_of_lt_of_eq (β (0 : Fin 2)).isLt (show (42 * 1024 + 1023) / 1024 = 42 by decide)
    have h1 : (β (1 : Fin 2)).val < 1 := lt_of_lt_of_eq (β (1 : Fin 2)).isLt (show (1024 + 1023) / 1024 = 1 by decide)
    refine ⟨⟨11 * (β (0 : Fin 2)).val, show 11 * (β (0 : Fin 2)).val < 462 by omega⟩, fun a => ?_⟩
    rw [idx4]
    match a with
    | ⟨0, _⟩ => exact (Nat.mul_div_cancel_left _ (by decide) : 11 * (β (0 : Fin 2)).val / 11 = (β (0 : Fin 2)).val)
    | ⟨1, _⟩ => exact (show 0 = (β (1 : Fin 2)).val by omega)
  · have hf' := (flush_iff (adm m hO) t).mp hf
    have e := outv_Y m hr hO c t hf' y
    rw [← after4] at e
    exact e

end Cert.KernelIdeal.Moe

end
-- ==== Proof.RefIdeal.lean ====
module

public import proofs.«01_k».proof.Proof.BlkKernelIdeal
public import proofs.«01_k».proof.Proof.Gen.ReferenceIdeal.Read
public import Idealize.ShloMosaic.Lib.IdealHost

@[expose] public section

noncomputable section

namespace Cert.ReferenceIdeal.Moe

open Cert.ReferenceIdeal Cert.ReferenceIdeal.Read
open Idealize.ShloMosaic
open Cert.KernelIdeal.Moe (hid ffn)

/-! The reference at an index: a sum over the experts, each with the weight one if it is the tile's and the
tile is live, else zero. -/

variable (x0 : (⟨S42, .i32⟩ : BufTy).Contents (Elt Ideal)) (x1 : (⟨S1, .i32⟩ : BufTy).Contents (Elt Ideal))
  (x2 : (⟨S43008x1024, .f32⟩ : BufTy).Contents (Elt Ideal)) (x3 x4 : (⟨S8x1024x2816, .f32⟩ : BufTy).Contents (Elt Ideal))
  (x5 : (⟨S8x2816x1024, .f32⟩ : BufTy).Contents (Elt Ideal))

theorem row_lt (r : Fin 43008) : r.val / 1024 < 42 := by omega

/-- The weight of expert `e` in row `r`. -/
def coef (r : Fin 43008) (e : Fin 8) : EReal :=
  Scalar.select (IntOp.andi (IntOp.cmpi .eq (BitVec.ofNat 32 e.val) (x0 (ix1 ⟨r.val / 1024, row_lt r⟩)))
    (IntOp.cmpi .slt (BitVec.ofNat 32 (r.val / 1024)) (x1 (ix1 0)))) (1 : EReal) 0

theorem one_idx (q : S1.Idx) : q = ix1 0 := idx_ext₁ (Nat.lt_one_iff.mp (q 0).isLt)

theorem v9_apply (a : Fin 42) (e : Fin 8) : val_main_v9 (F := Ideal) x0 x1 (ix2 a e)
    = Scalar.select (IntOp.andi (IntOp.cmpi .eq (BitVec.ofNat 32 e.val) (x0 (ix1 a)))
    (IntOp.cmpi .slt (BitVec.ofNat 32 a.val) (x1 (ix1 0)))) (1 : EReal) 0 := by
  rw [val_main_v9_apply, val_main_v8_apply, val_main_v4_apply, val_main_v7_apply, val_main_call0_v0_apply, val_main_call0_v1_apply,
    val_main_cst_apply, val_main_cst_0_apply, val_main_v0_apply, val_main_v1_apply, val_main_v3_apply, val_main_v2_apply, val_main_v6_apply]
  have h1 : (FloatOps.ofBits (F := Ideal) .f32 0x3F800000#32 : EReal) = 1 := Ideal.ofBits_one_f32
  have h0 : (FloatOps.ofBits (F := Ideal) .f32 0x00000000#32 : EReal) = 0 := Ideal.ofBits_zero_f32
  have h5 : val_main_v5 (F := Ideal) x1 (idx_main_v6 (ix2 a e)) = x1 (ix1 0) :=
    congrArg x1 (one_idx _)
  have h2 : x0 (idx_main_v2 (idx_main_v3 (ix2 a e))) = x0 (ix1 a) := congrArg x0 (idx_ext₁ rfl)
  rw [h5, h2]
  show Scalar.select _ (FloatOps.ofBits (F := Ideal) .f32 0x3F800000#32 : EReal) (FloatOps.ofBits (F := Ideal) .f32 0x00000000#32 : EReal) = _
  rw [h1, h0]
  rfl

theorem v12_apply (r : Fin 43008) (e : Fin 8) : val_main_v12 (F := Ideal) x0 x1 (ix2 r e) = coef x0 x1 r e := by
  rw [val_main_v12_apply, val_main_v11_apply, val_main_v10_apply]
  have h : idx_main_v11 (idx_main_v12 (ix2 r e)) = ix2 ⟨r.val / 1024, row_lt r⟩ e :=
    Shape.idx_ext₂ (show (r.val * 8 + e.val) / 8192 = r.val / 1024 by omega) (show (r.val * 8 + e.val) % 8 = e.val by omega)
  rw [h, v9_apply]
  rfl

theorem v13_apply (i : S43008x1024.Idx) : val_main_v13 (F := Ideal) i = (0 : EReal) := by
  rw [val_main_v13_apply, val_main_cst_1_apply]
  exact Ideal.ofBits_zero_f32

/-- `x · (1 / (1 + exp (−x)))`, as the reference spells it. -/
theorem silu_eq (x : EReal) : FloatOps.mulf (F := Ideal) (φ := .f32) x (FloatOps.hostDivf (F := Ideal) (φ := .f32) (FloatOps.ofBits .f32 0x3F800000#32)
    (FloatOps.addf (FloatOps.ofBits .f32 0x3F800000#32) (FloatOps.hostUnary .exp (FloatOps.hostNegf x)))) = x * Ideal.logistic x := by
  have h1 : (FloatOps.ofBits (F := Ideal) .f32 0x3F800000#32 : EReal) = 1 := Ideal.ofBits_one_f32
  show x * Ideal.div (FloatOps.ofBits (F := Ideal) .f32 0x3F800000#32 : EReal) ((FloatOps.ofBits (F := Ideal) .f32 0x3F800000#32 : EReal) + Ideal.exp (-x)) = _
  rw [h1]; rfl

/-! ### Expert 0 -/

theorem gate0 (r : Fin 43008) (k : Fin 2816) : val_main_v21 (F := Ideal) x2 x3 (ix2 r k) = ∑ l : Fin 1024, x2 (ix2 r l) * x3 (ix3 0 l k) := by
  rw [val_main_v21_apply]
  refine Finset.sum_congr rfl fun l _ => ?_
  rw [val_main_v16_apply, val_main_v15_apply]
  exact congrArg₂ (· * ·) (congrArg x2 (Shape.idx_ext₂ rfl rfl)) (congrArg x3 (idx_ext₃ rfl
    (show (l.val * 2816 + k.val) / 2816 % 1024 = l.val by omega) (show (l.val * 2816 + k.val) % 2816 = k.val by omega)))
theorem up0 (r : Fin 43008) (k : Fin 2816) : val_main_v23 (F := Ideal) x2 x4 (ix2 r k) = ∑ l : Fin 1024, x2 (ix2 r l) * x4 (ix3 0 l k) := by
  rw [val_main_v23_apply]
  refine Finset.sum_congr rfl fun l _ => ?_
  rw [val_main_v18_apply, val_main_v17_apply]
  exact congrArg₂ (· * ·) (congrArg x2 (Shape.idx_ext₂ rfl rfl)) (congrArg x4 (idx_ext₃ rfl
    (show (l.val * 2816 + k.val) / 2816 % 1024 = l.val by omega) (show (l.val * 2816 + k.val) % 2816 = k.val by omega)))
theorem hid0 (r : Fin 43008) (k : Fin 2816) : val_main_v24 (F := Ideal) x2 x3 x4 (ix2 r k) = hid x2 x3 x4 0 r k := by
  rw [val_main_v24_apply, val_main_v22_apply, val_main_call1_v5_apply, val_main_call1_v4_apply, val_main_call1_cst_0_apply, val_main_call1_v3_apply, val_main_call1_v2_apply, val_main_call1_cst_apply, val_main_call1_v1_apply, val_main_call1_v0_apply,
    silu_eq, gate0, up0]
  rfl
theorem ffn0 (r : Fin 43008) (c : Fin 1024) : val_main_v25 (F := Ideal) x2 x3 x4 x5 (ix2 r c) = ffn x2 x3 x4 x5 0 r c := by
  rw [val_main_v25_apply]
  refine Finset.sum_congr rfl fun k _ => ?_
  have hi : lidx_main_v25 (ix2 r c) k = ix2 r k := Shape.idx_ext₂ rfl rfl
  rw [val_main_v20_apply, val_main_v19_apply, hi, hid0]
  exact congrArg (hid x2 x3 x4 0 r k * ·) (congrArg x5 (idx_ext₃ rfl
    (show (k.val * 1024 + c.val) / 1024 % 2816 = k.val by omega) (show (k.val * 1024 + c.val) % 1024 = c.val by omega)))
theorem sum0 (r : Fin 43008) (c : Fin 1024) : val_main_v28 (F := Ideal) x0 x1 x2 x3 x4 x5 (ix2 r c)
    = val_main_v13 (F := Ideal) (ix2 r c) + coef x0 x1 r 0 * ffn x2 x3 x4 x5 0 r c := by
  rw [val_main_v28_apply, val_main_v27_apply, val_main_v26_apply, val_main_v14_apply, ffn0]
  have h : idx_main_v14 (idx_main_v26 (ix2 r c)) = ix2 r (0 : Fin 8) := Shape.idx_ext₂ rfl rfl
  rw [h, v12_apply]
  rfl

/-! ### Expert 1 -/

theorem gate1 (r : Fin 43008) (k : Fin 2816) : val_main_v36 (F := Ideal) x2 x3 (ix2 r k) = ∑ l : Fin 1024, x2 (ix2 r l) * x3 (ix3 1 l k) := by
  rw [val_main_v36_apply]
  refine Finset.sum_congr rfl fun l _ => ?_
  rw [val_main_v31_apply, val_main_v30_apply]
  exact congrArg₂ (· * ·) (congrArg x2 (Shape.idx_ext₂ rfl rfl)) (congrArg x3 (idx_ext₃ rfl
    (show (l.val * 2816 + k.val) / 2816 % 1024 = l.val by omega) (show (l.val * 2816 + k.val) % 2816 = k.val by omega)))
theorem up1 (r : Fin 43008) (k : Fin 2816) : val_main_v38 (F := Ideal) x2 x4 (ix2 r k) = ∑ l : Fin 1024, x2 (ix2 r l) * x4 (ix3 1 l k) := by
  rw [val_main_v38_apply]
  refine Finset.sum_congr rfl fun l _ => ?_
  rw [val_main_v33_apply, val_main_v32_apply]
  exact congrArg₂ (· * ·) (congrArg x2 (Shape.idx_ext₂ rfl rfl)) (congrArg x4 (idx_ext₃ rfl
    (show (l.val * 2816 + k.val) / 2816 % 1024 = l.val by omega) (show (l.val * 2816 + k.val) % 2816 = k.val by omega)))
theorem hid1 (r : Fin 43008) (k : Fin 2816) : val_main_v39 (F := Ideal) x2 x3 x4 (ix2 r k) = hid x2 x3 x4 1 r k := by
  rw [val_main_v39_apply, val_main_v37_apply, val_main_call2_v5_apply, val_main_call2_v4_apply, val_main_call2_cst_0_apply, val_main_call2_v3_apply, val_main_call2_v2_apply, val_main_call2_cst_apply, val_main_call2_v1_apply, val_main_call2_v0_apply,
    silu_eq, gate1, up1]
  rfl
theorem ffn1 (r : Fin 43008) (c : Fin 1024) : val_main_v40 (F := Ideal) x2 x3 x4 x5 (ix2 r c) = ffn x2 x3 x4 x5 1 r c := by
  rw [val_main_v40_apply]
  refine Finset.sum_congr rfl fun k _ => ?_
  have hi : lidx_main_v40 (ix2 r c) k = ix2 r k := Shape.idx_ext₂ rfl rfl
  rw [val_main_v35_apply, val_main_v34_apply, hi, hid1]
  exact congrArg (hid x2 x3 x4 1 r k * ·) (congrArg x5 (idx_ext₃ rfl
    (show (k.val * 1024 + c.val) / 1024 % 2816 = k.val by omega) (show (k.val * 1024 + c.val) % 1024 = c.val by omega)))
theorem sum1 (r : Fin 43008) (c : Fin 1024) : val_main_v43 (F := Ideal) x0 x1 x2 x3 x4 x5 (ix2 r c)
    = val_main_v28 (F := Ideal) x0 x1 x2 x3 x4 x5 (ix2 r c) + coef x0 x1 r 1 * ffn x2 x3 x4 x5 1 r c := by
  rw [val_main_v43_apply, val_main_v42_apply, val_main_v41_apply, val_main_v29_apply, ffn1]
  have h : idx_main_v29 (idx_main_v41 (ix2 r c)) = ix2 r (1 : Fin 8) := Shape.idx_ext₂ rfl rfl
  rw [h, v12_apply]
  rfl

/-! ### Expert 2 -/

theorem gate2 (r : Fin 43008) (k : Fin 2816) : val_main_v51 (F := Ideal) x2 x3 (ix2 r k) = ∑ l : Fin 1024, x2 (ix2 r l) * x3 (ix3 2 l k) := by
  rw [val_main_v51_apply]
  refine Finset.sum_congr rfl fun l _ => ?_
  rw [val_main_v46_apply, val_main_v45_apply]
  exact congrArg₂ (· * ·) (congrArg x2 (Shape.idx_ext₂ rfl rfl)) (congrArg x3 (idx_ext₃ rfl
    (show (l.val * 2816 + k.val) / 2816 % 1024 = l.val by omega) (show (l.val * 2816 + k.val) % 2816 = k.val by omega)))
theorem up2 (r : Fin 43008) (k : Fin 2816) : val_main_v53 (F := Ideal) x2 x4 (ix2 r k) = ∑ l : Fin 1024, x2 (ix2 r l) * x4 (ix3 2 l k) := by
  rw [val_main_v53_apply]
  refine Finset.sum_congr rfl fun l _ => ?_
  rw [val_main_v48_apply, val_main_v47_apply]
  exact congrArg₂ (· * ·) (congrArg x2 (Shape.idx_ext₂ rfl rfl)) (congrArg x4 (idx_ext₃ rfl
    (show (l.val * 2816 + k.val) / 2816 % 1024 = l.val by omega) (show (l.val * 2816 + k.val) % 2816 = k.val by omega)))
theorem hid2 (r : Fin 43008) (k : Fin 2816) : val_main_v54 (F := Ideal) x2 x3 x4 (ix2 r k) = hid x2 x3 x4 2 r k := by
  rw [val_main_v54_apply, val_main_v52_apply, val_main_call3_v5_apply, val_main_call3_v4_apply, val_main_call3_cst_0_apply, val_main_call3_v3_apply, val_main_call3_v2_apply, val_main_call3_cst_apply, val_main_call3_v1_apply, val_main_call3_v0_apply,
    silu_eq, gate2, up2]
  rfl
theorem ffn2 (r : Fin 43008) (c : Fin 1024) : val_main_v55 (F := Ideal) x2 x3 x4 x5 (ix2 r c) = ffn x2 x3 x4 x5 2 r c := by
  rw [val_main_v55_apply]
  refine Finset.sum_congr rfl fun k _ => ?_
  have hi : lidx_main_v55 (ix2 r c) k = ix2 r k := Shape.idx_ext₂ rfl rfl
  rw [val_main_v50_apply, val_main_v49_apply, hi, hid2]
  exact congrArg (hid x2 x3 x4 2 r k * ·) (congrArg x5 (idx_ext₃ rfl
    (show (k.val * 1024 + c.val) / 1024 % 2816 = k.val by omega) (show (k.val * 1024 + c.val) % 1024 = c.val by omega)))
theorem sum2 (r : Fin 43008) (c : Fin 1024) : val_main_v58 (F := Ideal) x0 x1 x2 x3 x4 x5 (ix2 r c)
    = val_main_v43 (F := Ideal) x0 x1 x2 x3 x4 x5 (ix2 r c) + coef x0 x1 r 2 * ffn x2 x3 x4 x5 2 r c := by
  rw [val_main_v58_apply, val_main_v57_apply, val_main_v56_apply, val_main_v44_apply, ffn2]
  have h : idx_main_v44 (idx_main_v56 (ix2 r c)) = ix2 r (2 : Fin 8) := Shape.idx_ext₂ rfl rfl
  rw [h, v12_apply]
  rfl

/-! ### Expert 3 -/

theorem gate3 (r : Fin 43008) (k : Fin 2816) : val_main_v66 (F := Ideal) x2 x3 (ix2 r k) = ∑ l : Fin 1024, x2 (ix2 r l) * x3 (ix3 3 l k) := by
  rw [val_main_v66_apply]
  refine Finset.sum_congr rfl fun l _ => ?_
  rw [val_main_v61_apply, val_main_v60_apply]
  exact congrArg₂ (· * ·) (congrArg x2 (Shape.idx_ext₂ rfl rfl)) (congrArg x3 (idx_ext₃ rfl
    (show (l.val * 2816 + k.val) / 2816 % 1024 = l.val by omega) (show (l.val * 2816 + k.val) % 2816 = k.val by omega)))
theorem up3 (r : Fin 43008) (k : Fin 2816) : val_main_v68 (F := Ideal) x2 x4 (ix2 r k) = ∑ l : Fin 1024, x2 (ix2 r l) * x4 (ix3 3 l k) := by
  rw [val_main_v68_apply]
  refine Finset.sum_congr rfl fun l _ => ?_
  rw [val_main_v63_apply, val_main_v62_apply]
  exact congrArg₂ (· * ·) (congrArg x2 (Shape.idx_ext₂ rfl rfl)) (congrArg x4 (idx_ext₃ rfl
    (show (l.val * 2816 + k.val) / 2816 % 1024 = l.val by omega) (show (l.val * 2816 + k.val) % 2816 = k.val by omega)))
theorem hid3 (r : Fin 43008) (k : Fin 2816) : val_main_v69 (F := Ideal) x2 x3 x4 (ix2 r k) = hid x2 x3 x4 3 r k := by
  rw [val_main_v69_apply, val_main_v67_apply, val_main_call4_v5_apply, val_main_call4_v4_apply, val_main_call4_cst_0_apply, val_main_call4_v3_apply, val_main_call4_v2_apply, val_main_call4_cst_apply, val_main_call4_v1_apply, val_main_call4_v0_apply,
    silu_eq, gate3, up3]
  rfl
theorem ffn3 (r : Fin 43008) (c : Fin 1024) : val_main_v70 (F := Ideal) x2 x3 x4 x5 (ix2 r c) = ffn x2 x3 x4 x5 3 r c := by
  rw [val_main_v70_apply]
  refine Finset.sum_congr rfl fun k _ => ?_
  have hi : lidx_main_v70 (ix2 r c) k = ix2 r k := Shape.idx_ext₂ rfl rfl
  rw [val_main_v65_apply, val_main_v64_apply, hi, hid3]
  exact congrArg (hid x2 x3 x4 3 r k * ·) (congrArg x5 (idx_ext₃ rfl
    (show (k.val * 1024 + c.val) / 1024 % 2816 = k.val by omega) (show (k.val * 1024 + c.val) % 1024 = c.val by omega)))
theorem sum3 (r : Fin 43008) (c : Fin 1024) : val_main_v73 (F := Ideal) x0 x1 x2 x3 x4 x5 (ix2 r c)
    = val_main_v58 (F := Ideal) x0 x1 x2 x3 x4 x5 (ix2 r c) + coef x0 x1 r 3 * ffn x2 x3 x4 x5 3 r c := by
  rw [val_main_v73_apply, val_main_v72_apply, val_main_v71_apply, val_main_v59_apply, ffn3]
  have h : idx_main_v59 (idx_main_v71 (ix2 r c)) = ix2 r (3 : Fin 8) := Shape.idx_ext₂ rfl rfl
  rw [h, v12_apply]
  rfl

/-! ### Expert 4 -/

theorem gate4 (r : Fin 43008) (k : Fin 2816) : val_main_v81 (F := Ideal) x2 x3 (ix2 r k) = ∑ l : Fin 1024, x2 (ix2 r l) * x3 (ix3 4 l k) := by
  rw [val_main_v81_apply]
  refine Finset.sum_congr rfl fun l _ => ?_
  rw [val_main_v76_apply, val_main_v75_apply]
  exact congrArg₂ (· * ·) (congrArg x2 (Shape.idx_ext₂ rfl rfl)) (congrArg x3 (idx_ext₃ rfl
    (show (l.val * 2816 + k.val) / 2816 % 1024 = l.val by omega) (show (l.val * 2816 + k.val) % 2816 = k.val by omega)))
theorem up4 (r : Fin 43008) (k : Fin 2816) : val_main_v83 (F := Ideal) x2 x4 (ix2 r k) = ∑ l : Fin 1024, x2 (ix2 r l) * x4 (ix3 4 l k) := by
  rw [val_main_v83_apply]
  refine Finset.sum_congr rfl fun l _ => ?_
  rw [val_main_v78_apply, val_main_v77_apply]
  exact congrArg₂ (· * ·) (congrArg x2 (Shape.idx_ext₂ rfl rfl)) (congrArg x4 (idx_ext₃ rfl
    (show (l.val * 2816 + k.val) / 2816 % 1024 = l.val by omega) (show (l.val * 2816 + k.val) % 2816 = k.val by omega)))
theorem hid4 (r : Fin 43008) (k : Fin 2816) : val_main_v84 (F := Ideal) x2 x3 x4 (ix2 r k) = hid x2 x3 x4 4 r k := by
  rw [val_main_v84_apply, val_main_v82_apply, val_main_call5_v5_apply, val_main_call5_v4_apply, val_main_call5_cst_0_apply, val_main_call5_v3_apply, val_main_call5_v2_apply, val_main_call5_cst_apply, val_main_call5_v1_apply, val_main_call5_v0_apply,
    silu_eq, gate4, up4]
  rfl
theorem ffn4 (r : Fin 43008) (c : Fin 1024) : val_main_v85 (F := Ideal) x2 x3 x4 x5 (ix2 r c) = ffn x2 x3 x4 x5 4 r c := by
  rw [val_main_v85_apply]
  refine Finset.sum_congr rfl fun k _ => ?_
  have hi : lidx_main_v85 (ix2 r c) k = ix2 r k := Shape.idx_ext₂ rfl rfl
  rw [val_main_v80_apply, val_main_v79_apply, hi, hid4]
  exact congrArg (hid x2 x3 x4 4 r k * ·) (congrArg x5 (idx_ext₃ rfl
    (show (k.val * 1024 + c.val) / 1024 % 2816 = k.val by omega) (show (k.val * 1024 + c.val) % 1024 = c.val by omega)))
theorem sum4 (r : Fin 43008) (c : Fin 1024) : val_main_v88 (F := Ideal) x0 x1 x2 x3 x4 x5 (ix2 r c)
    = val_main_v73 (F := Ideal) x0 x1 x2 x3 x4 x5 (ix2 r c) + coef x0 x1 r 4 * ffn x2 x3 x4 x5 4 r c := by
  rw [val_main_v88_apply, val_main_v87_apply, val_main_v86_apply, val_main_v74_apply, ffn4]
  have h : idx_main_v74 (idx_main_v86 (ix2 r c)) = ix2 r (4 : Fin 8) := Shape.idx_ext₂ rfl rfl
  rw [h, v12_apply]
  rfl

/-! ### Expert 5 -/

theorem gate5 (r : Fin 43008) (k : Fin 2816) : val_main_v96 (F := Ideal) x2 x3 (ix2 r k) = ∑ l : Fin 1024, x2 (ix2 r l) * x3 (ix3 5 l k) := by
  rw [val_main_v96_apply]
  refine Finset.sum_congr rfl fun l _ => ?_
  rw [val_main_v91_apply, val_main_v90_apply]
  exact congrArg₂ (· * ·) (congrArg x2 (Shape.idx_ext₂ rfl rfl)) (congrArg x3 (idx_ext₃ rfl
    (show (l.val * 2816 + k.val) / 2816 % 1024 = l.val by omega) (show (l.val * 2816 + k.val) % 2816 = k.val by omega)))
theorem up5 (r : Fin 43008) (k : Fin 2816) : val_main_v98 (F := Ideal) x2 x4 (ix2 r k) = ∑ l : Fin 1024, x2 (ix2 r l) * x4 (ix3 5 l k) := by
  rw [val_main_v98_apply]
  refine Finset.sum_congr rfl fun l _ => ?_
  rw [val_main_v93_apply, val_main_v92_apply]
  exact congrArg₂ (· * ·) (congrArg x2 (Shape.idx_ext₂ rfl rfl)) (congrArg x4 (idx_ext₃ rfl
    (show (l.val * 2816 + k.val) / 2816 % 1024 = l.val by omega) (show (l.val * 2816 + k.val) % 2816 = k.val by omega)))
theorem hid5 (r : Fin 43008) (k : Fin 2816) : val_main_v99 (F := Ideal) x2 x3 x4 (ix2 r k) = hid x2 x3 x4 5 r k := by
  rw [val_main_v99_apply, val_main_v97_apply, val_main_call6_v5_apply, val_main_call6_v4_apply, val_main_call6_cst_0_apply, val_main_call6_v3_apply, val_main_call6_v2_apply, val_main_call6_cst_apply, val_main_call6_v1_apply, val_main_call6_v0_apply,
    silu_eq, gate5, up5]
  rfl
theorem ffn5 (r : Fin 43008) (c : Fin 1024) : val_main_v100 (F := Ideal) x2 x3 x4 x5 (ix2 r c) = ffn x2 x3 x4 x5 5 r c := by
  rw [val_main_v100_apply]
  refine Finset.sum_congr rfl fun k _ => ?_
  have hi : lidx_main_v100 (ix2 r c) k = ix2 r k := Shape.idx_ext₂ rfl rfl
  rw [val_main_v95_apply, val_main_v94_apply, hi, hid5]
  exact congrArg (hid x2 x3 x4 5 r k * ·) (congrArg x5 (idx_ext₃ rfl
    (show (k.val * 1024 + c.val) / 1024 % 2816 = k.val by omega) (show (k.val * 1024 + c.val) % 1024 = c.val by omega)))
theorem sum5 (r : Fin 43008) (c : Fin 1024) : val_main_v103 (F := Ideal) x0 x1 x2 x3 x4 x5 (ix2 r c)
    = val_main_v88 (F := Ideal) x0 x1 x2 x3 x4 x5 (ix2 r c) + coef x0 x1 r 5 * ffn x2 x3 x4 x5 5 r c := by
  rw [val_main_v103_apply, val_main_v102_apply, val_main_v101_apply, val_main_v89_apply, ffn5]
  have h : idx_main_v89 (idx_main_v101 (ix2 r c)) = ix2 r (5 : Fin 8) := Shape.idx_ext₂ rfl rfl
  rw [h, v12_apply]
  rfl

/-! ### Expert 6 -/

theorem gate6 (r : Fin 43008) (k : Fin 2816) : val_main_v111 (F := Ideal) x2 x3 (ix2 r k) = ∑ l : Fin 1024, x2 (ix2 r l) * x3 (ix3 6 l k) := by
  rw [val_main_v111_apply]
  refine Finset.sum_congr rfl fun l _ => ?_
  rw [val_main_v106_apply, val_main_v105_apply]
  exact congrArg₂ (· * ·) (congrArg x2 (Shape.idx_ext₂ rfl rfl)) (congrArg x3 (idx_ext₃ rfl
    (show (l.val * 2816 + k.val) / 2816 % 1024 = l.val by omega) (show (l.val * 2816 + k.val) % 2816 = k.val by omega)))
theorem up6 (r : Fin 43008) (k : Fin 2816) : val_main_v113 (F := Ideal) x2 x4 (ix2 r k) = ∑ l : Fin 1024, x2 (ix2 r l) * x4 (ix3 6 l k) := by
  rw [val_main_v113_apply]
  refine Finset.sum_congr rfl fun l _ => ?_
  rw [val_main_v108_apply, val_main_v107_apply]
  exact congrArg₂ (· * ·) (congrArg x2 (Shape.idx_ext₂ rfl rfl)) (congrArg x4 (idx_ext₃ rfl
    (show (l.val * 2816 + k.val) / 2816 % 1024 = l.val by omega) (show (l.val * 2816 + k.val) % 2816 = k.val by omega)))
theorem hid6 (r : Fin 43008) (k : Fin 2816) : val_main_v114 (F := Ideal) x2 x3 x4 (ix2 r k) = hid x2 x3 x4 6 r k := by
  rw [val_main_v114_apply, val_main_v112_apply, val_main_call7_v5_apply, val_main_call7_v4_apply, val_main_call7_cst_0_apply, val_main_call7_v3_apply, val_main_call7_v2_apply, val_main_call7_cst_apply, val_main_call7_v1_apply, val_main_call7_v0_apply,
    silu_eq, gate6, up6]
  rfl
theorem ffn6 (r : Fin 43008) (c : Fin 1024) : val_main_v115 (F := Ideal) x2 x3 x4 x5 (ix2 r c) = ffn x2 x3 x4 x5 6 r c := by
  rw [val_main_v115_apply]
  refine Finset.sum_congr rfl fun k _ => ?_
  have hi : lidx_main_v115 (ix2 r c) k = ix2 r k := Shape.idx_ext₂ rfl rfl
  rw [val_main_v110_apply, val_main_v109_apply, hi, hid6]
  exact congrArg (hid x2 x3 x4 6 r k * ·) (congrArg x5 (idx_ext₃ rfl
    (show (k.val * 1024 + c.val) / 1024 % 2816 = k.val by omega) (show (k.val * 1024 + c.val) % 1024 = c.val by omega)))
theorem sum6 (r : Fin 43008) (c : Fin 1024) : val_main_v118 (F := Ideal) x0 x1 x2 x3 x4 x5 (ix2 r c)
    = val_main_v103 (F := Ideal) x0 x1 x2 x3 x4 x5 (ix2 r c) + coef x0 x1 r 6 * ffn x2 x3 x4 x5 6 r c := by
  rw [val_main_v118_apply, val_main_v117_apply, val_main_v116_apply, val_main_v104_apply, ffn6]
  have h : idx_main_v104 (idx_main_v116 (ix2 r c)) = ix2 r (6 : Fin 8) := Shape.idx_ext₂ rfl rfl
  rw [h, v12_apply]
  rfl

/-! ### Expert 7 -/

theorem gate7 (r : Fin 43008) (k : Fin 2816) : val_main_v126 (F := Ideal) x2 x3 (ix2 r k) = ∑ l : Fin 1024, x2 (ix2 r l) * x3 (ix3 7 l k) := by
  rw [val_main_v126_apply]
  refine Finset.sum_congr rfl fun l _ => ?_
  rw [val_main_v121_apply, val_main_v120_apply]
  exact congrArg₂ (· * ·) (congrArg x2 (Shape.idx_ext₂ rfl rfl)) (congrArg x3 (idx_ext₃ rfl
    (show (l.val * 2816 + k.val) / 2816 % 1024 = l.val by omega) (show (l.val * 2816 + k.val) % 2816 = k.val by omega)))
theorem up7 (r : Fin 43008) (k : Fin 2816) : val_main_v128 (F := Ideal) x2 x4 (ix2 r k) = ∑ l : Fin 1024, x2 (ix2 r l) * x4 (ix3 7 l k) := by
  rw [val_main_v128_apply]
  refine Finset.sum_congr rfl fun l _ => ?_
  rw [val_main_v123_apply, val_main_v122_apply]
  exact congrArg₂ (· * ·) (congrArg x2 (Shape.idx_ext₂ rfl rfl)) (congrArg x4 (idx_ext₃ rfl
    (show (l.val * 2816 + k.val) / 2816 % 1024 = l.val by omega) (show (l.val * 2816 + k.val) % 2816 = k.val by omega)))
theorem hid7 (r : Fin 43008) (k : Fin 2816) : val_main_v129 (F := Ideal) x2 x3 x4 (ix2 r k) = hid x2 x3 x4 7 r k := by
  rw [val_main_v129_apply, val_main_v127_apply, val_main_call8_v5_apply, val_main_call8_v4_apply, val_main_call8_cst_0_apply, val_main_call8_v3_apply, val_main_call8_v2_apply, val_main_call8_cst_apply, val_main_call8_v1_apply, val_main_call8_v0_apply,
    silu_eq, gate7, up7]
  rfl
theorem ffn7 (r : Fin 43008) (c : Fin 1024) : val_main_v130 (F := Ideal) x2 x3 x4 x5 (ix2 r c) = ffn x2 x3 x4 x5 7 r c := by
  rw [val_main_v130_apply]
  refine Finset.sum_congr rfl fun k _ => ?_
  have hi : lidx_main_v130 (ix2 r c) k = ix2 r k := Shape.idx_ext₂ rfl rfl
  rw [val_main_v125_apply, val_main_v124_apply, hi, hid7]
  exact congrArg (hid x2 x3 x4 7 r k * ·) (congrArg x5 (idx_ext₃ rfl
    (show (k.val * 1024 + c.val) / 1024 % 2816 = k.val by omega) (show (k.val * 1024 + c.val) % 1024 = c.val by omega)))
theorem sum7 (r : Fin 43008) (c : Fin 1024) : val_main_v133 (F := Ideal) x0 x1 x2 x3 x4 x5 (ix2 r c)
    = val_main_v118 (F := Ideal) x0 x1 x2 x3 x4 x5 (ix2 r c) + coef x0 x1 r 7 * ffn x2 x3 x4 x5 7 r c := by
  rw [val_main_v133_apply, val_main_v132_apply, val_main_v131_apply, val_main_v119_apply, ffn7]
  have h : idx_main_v119 (idx_main_v131 (ix2 r c)) = ix2 r (7 : Fin 8) := Shape.idx_ext₂ rfl rfl
  rw [h, v12_apply]
  rfl

/-- A sum over the experts whose weights pick one. -/
theorem pick (Y : Fin 8 → EReal) (w : Fin 8 → EReal) (e : Fin 8) (h1 : w e = 1) (h0 : ∀ i, i ≠ e → w i = 0) :
    ((((((((0 : EReal) + w 0 * Y 0) + w 1 * Y 1) + w 2 * Y 2) + w 3 * Y 3) + w 4 * Y 4) + w 5 * Y 5) + w 6 * Y 6) + w 7 * Y 7 = Y e := by
  have hs : ∑ i : Fin 8, w i * Y i = Y e := by
    rw [Finset.sum_eq_single e (fun i _ hi => by rw [h0 i hi, zero_mul]) (fun h => absurd (Finset.mem_univ e) h), h1, one_mul]
  rw [← hs, Fin.sum_univ_eight, zero_add]

theorem total (r : Fin 43008) (c : Fin 1024) : val_main_v133 (F := Ideal) x0 x1 x2 x3 x4 x5 (ix2 r c)
    = ((((((((0 : EReal) + coef x0 x1 r 0 * ffn x2 x3 x4 x5 0 r c) + coef x0 x1 r 1 * ffn x2 x3 x4 x5 1 r c) + coef x0 x1 r 2 * ffn x2 x3 x4 x5 2 r c)
      + coef x0 x1 r 3 * ffn x2 x3 x4 x5 3 r c) + coef x0 x1 r 4 * ffn x2 x3 x4 x5 4 r c) + coef x0 x1 r 5 * ffn x2 x3 x4 x5 5 r c)
      + coef x0 x1 r 6 * ffn x2 x3 x4 x5 6 r c) + coef x0 x1 r 7 * ffn x2 x3 x4 x5 7 r c := by
  rw [sum7, sum6, sum5, sum4, sum3, sum2, sum1, sum0, v13_apply]

theorem cmp_one (p : CmpIPredicate) (a b : BitVec 32) : IntOp.cmpi p a b = Scalar.cmpi p a b := rfl

theorem eq_word (e : Fin 8) (w : BitVec 32) (h : w.toNat < 8) : IntOp.cmpi .eq (BitVec.ofNat 32 e.val) w = if e = ⟨w.toNat, h⟩ then 1#1 else 0#1 := by
  by_cases he : e = ⟨w.toNat, h⟩
  · rw [if_pos he, he]
    have : BitVec.ofNat 32 w.toNat = w := BitVec.ofNat_toNat 32 w |>.trans (BitVec.setWidth_eq w)
    show BitVec.ofBool (decide (BitVec.ofNat 32 w.toNat = w)) = 1#1
    rw [this]; simp
  · rw [if_neg he]
    have hne : ¬(BitVec.ofNat 32 e.val = w) := fun hw => he (Fin.ext (by
      have := congrArg BitVec.toNat hw
      rw [BitVec.toNat_ofNat, Nat.mod_eq_of_lt (by omega)] at this
      exact this))
    show BitVec.ofBool (decide (BitVec.ofNat 32 e.val = w)) = 0#1
    simp [hne]

theorem coef_eq (r : Fin 43008) (e : Fin 8) (h : (x0 (ix1 ⟨r.val / 1024, row_lt r⟩) : BitVec 32).toNat < 8) :
    coef x0 x1 r e = if e = ⟨_, h⟩ ∧ Scalar.cmpi .slt (BitVec.ofNat 32 (r.val / 1024)) (x1 (ix1 0)) = 1#1 then 1 else 0 := by
  unfold coef
  rw [eq_word e _ h, cmp_one]
  generalize Scalar.cmpi .slt (BitVec.ofNat 32 (r.val / 1024)) (x1 (ix1 0)) = b
  by_cases he : e = ⟨_, h⟩
  · rw [if_pos he]
    by_cases hb : b = 1#1
    · rw [if_pos ⟨he, hb⟩, hb]; rfl
    · rw [if_neg (fun q => hb q.2), (by revert hb; revert b; decide : b = 0#1)]; rfl
  · rw [if_neg he, if_neg (fun q => he q.1)]
    have : IntOp.andi 0#1 b = 0#1 := by revert b; decide
    rw [this]; rfl

theorem value (h : ∀ x, (x0 x : BitVec 32).toNat < 8) (r : Fin 43008) (c : Fin 1024) : val_main_v133 (F := Ideal) x0 x1 x2 x3 x4 x5 (ix2 r c)
    = if Scalar.cmpi .slt (BitVec.ofNat 32 (r.val / 1024)) (x1 (ix1 0)) = 1#1 then ffn x2 x3 x4 x5 ⟨(x0 (ix1 ⟨r.val / 1024, row_lt r⟩) : BitVec 32).toNat, h _⟩ r c else (0 : EReal) := by
  rw [total]
  have hc := fun e => coef_eq x0 x1 r e (h _)
  by_cases hl : Scalar.cmpi .slt (BitVec.ofNat 32 (r.val / 1024)) (x1 (ix1 0)) = 1#1
  · rw [if_pos hl]
    exact pick (fun e => ffn x2 x3 x4 x5 e r c) (coef x0 x1 r) ⟨_, h _⟩ (by rw [hc, if_pos ⟨rfl, hl⟩]) fun i hi => by rw [hc, if_neg fun q => hi q.1]
  · rw [if_neg hl]
    have hz : ∀ e, coef x0 x1 r e = 0 := fun e => by rw [hc, if_neg fun q => hl q.2]
    simp only [hz, zero_mul, add_zero]

end Cert.ReferenceIdeal.Moe

end
-- ==== Proof.RunValue.lean ====
module

public import proofs.«01_k».proof.Proof.RefIdeal
public import proofs.«01_k».proof.Proof.OkKernel
public import Idealize.ShloMosaic.Lib.Quiescent

@[expose] public section

noncomputable section

/-! Both programs end with the same array: a row of a live tile by its tile's expert, zero past the live tiles. -/

namespace Cert.ReferenceIdeal.Moe

open Cert.ReferenceIdeal
open Idealize.ShloMosaic Idealize.ShloMosaic.TcCoe Idealize.SL.Sem

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run _ _ _).mono (fun r h => ⟨fun c => (h c).2, sem_eq_zero_of_no_sems (by decide) r.2⟩) (Value.run m ρ)

end Cert.ReferenceIdeal.Moe

namespace Cert.KernelIdeal.Moe

open Cert.KernelIdeal Cert.KernelIdeal.Gen
open Idealize.ShloMosaic Idealize.ShloMosaic.TcCoe Idealize.SL.Sem

theorem run_value (m : (ℓ : Loc nD τ sig) → Buf (Elt Ideal) ℓ) (ρ : Dev nD → PrngReg) (hr : ∀ x, (te m x).toNat < 8) (hO : Ok m) :
    θ_run (defs (F := Ideal)) (onTc (τ := τ) (main (F := Ideal))) ⟨m, fun _ => 0, ρ⟩ (fun r => ∀ c : Dev nD,
      r.2.mem ((c.tc : Thread nD τ).loc main_v0) = Y m hr
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c => ⟨((h.1.1 c).1 4).trans (out_eq m hr hO c), h.2 c⟩) (θ_run_and (run_quiescent m ρ hO) (unchanged m ρ hO))

theorem nv_eq (m : (ℓ : Loc nD τ sig) → Buf (Elt Ideal) ℓ) : nv m = (m (((0 : Dev nD) : Thread nD τ).loc main_arg1) : S1.Idx → BitVec 32) (ix1 0) := by
  unfold nv Pipeline.Prefetch.Contents.atD
  rw [dif_pos (by decide)]
  exact congrArg (tbl m 1) (one_idx _ _)

/-- The reference's array is the kernel's. -/
theorem reference_eq (m : (ℓ : Loc nD τ sig) → Buf (Elt Ideal) ℓ) (hr : ∀ x, (te m x).toNat < 8) :
    Cert.ReferenceIdeal.Read.val_main_v133 (F := Ideal) (te m) (m (((0 : Dev nD) : Thread nD τ).loc main_arg1)) (A2 m) (A3 m) (A4 m) (A5 m) = Y m hr := by
  funext i
  obtain ⟨r, c, rfl⟩ : ∃ (r : Fin 43008) (c : Fin 1024), i = ix2 r c := ⟨i 0, i 1, Shape.idx_ext₂ rfl rfl⟩
  refine (Cert.ReferenceIdeal.Moe.value _ _ _ _ _ _ hr r c).trans ?_
  show _ = if Scalar.cmpi .slt (BitVec.ofNat 32 (r.val / 1024)) (nv m) = 1#1 then ffn (A2 m) (A3 m) (A4 m) (A5 m) (expert m hr (r.val / 1024) (row_lt r)) r c else (0 : EReal)
  rw [nv_eq]
  rfl

end Cert.KernelIdeal.Moe

end
-- ==== Proof.Rms.lean ====
module

public import proofs.«01_k».proof.Proof.Idx
public import Idealize.ShloMosaic.PureOps.Ideal.Laws
public import Idealize.ShloMosaic.Lib.IdealHost
public import Idealize.ShloMosaic.Lib.ValueIdx
public import Idealize.ShloMosaic.Lib.Pipeline.Value
public import Idealize.ShloMosaic.Lib.Pointwise

@[expose] public section

noncomputable section

namespace Cert.Rms

open Idealize.ShloMosaic

/-! The arithmetic of a normalized projection: a row divided by the root of its mean square, scaled, times a column. -/

/-- The factor of a row: one over the root of its mean square and the small constant. -/
def factor (x : Fin 1024 → EReal) : EReal :=
  Ideal.rsqrt (Ideal.div (∑ k : Fin 1024, x k * x k) (Ideal.ofBits .f32 0x44800000#32) + Ideal.ofBits .f32 0x358637BD#32)

/-- The normalized row at column `l`. -/
def norm (x g : Fin 1024 → EReal) (l : Fin 1024) : EReal := x l * factor x * g l

/-- The normalized row times a column of the weights. -/
def dot (x g w : Fin 1024 → EReal) : EReal := ∑ l : Fin 1024, norm x g l * w l

/-- The last axis of a band of `E` columns from column `o`, cut into `H` heads of `D` lanes, and its rows into `B` sequences
    of `T` positions: at an index, the entry of the array at the position's row and the head's column. -/
theorem heads_at {α : Type} {B T H D E R C : ℕ} (hB : 1 < B) (hT : 1 < T) (hH : 1 < H) (hD : 1 < D) (hE : E = H * D) (o : ℕ) (f : (⟨2, ![R, C]⟩ : Shape).Idx → α)
    (hs : (⟨2, ![R, C]⟩ : Shape).Slices ![0, o] ⟨2, ![R, E]⟩) (hc : (⟨2, ![R, E]⟩ : Shape).ShapeCasts ⟨4, ![B, T, H, D]⟩)
    (hb : (⟨4, ![B, T, H, D]⟩ : Shape).BroadcastsInDim ⟨5, ![1, B, T, H, D]⟩ (![1, 2, 3, 4] : Fin 4 → Fin 5))
    (i : (⟨5, ![1, B, T, H, D]⟩ : Shape).Idx) (r : Fin R) (c : Fin C)
    (hr : r.val = (i 1).val * T + (i 2).val) (hcol : c.val = o + ((i 3).val * D + (i 4).val)) :
    broadcastInDim ⟨5, ![1, B, T, H, D]⟩ (![1, 2, 3, 4] : Fin 4 → Fin 5) hb (shapeCast ⟨4, ![B, T, H, D]⟩ (extractStridedSlice ⟨2, ![R, E]⟩ ![0, o] f hs) hc) i = f (ix2 r c) := by
  have h3 : (i 3).val < H := (i 3).isLt
  have h4 : (i 4).val < D := (i 4).isLt
  have hl : (i 3).val * D + (i 4).val < E := by rw [hE]; nlinarith
  refine (broadcastInDim_apply _ hb _ i (fun a => match a with | ⟨0, _⟩ => i 1 | ⟨1, _⟩ => i 2 | ⟨2, _⟩ => i 3 | ⟨3, _⟩ => i 4 : (⟨4, ![B, T, H, D]⟩ : Shape).Idx)
    (fun a => match a with
      | ⟨0, _⟩ => (if_neg (Nat.ne_of_gt hB)).symm | ⟨1, _⟩ => (if_neg (Nat.ne_of_gt hT)).symm | ⟨2, _⟩ => (if_neg (Nat.ne_of_gt hH)).symm | ⟨3, _⟩ => (if_neg (Nat.ne_of_gt hD)).symm)).trans ?_
  refine (shapeCast_apply _ hc _ (ix2 r ⟨(i 3).val * D + (i 4).val, hl⟩) (by
    rw [Shape.rowMajor_val_two, Shape.rowMajor_val_four]
    show r.val * E + ((i 3).val * D + (i 4).val) = (((i 1).val * T + (i 2).val) * H + (i 3).val) * D + (i 4).val
    rw [hr, hE]
    ring)).trans ?_
  exact extractStridedSlice_apply ![0, o] f hs (ix2 r ⟨(i 3).val * D + (i 4).val, hl⟩) (ix2 r c) (fun a => match a with | ⟨0, _⟩ => (Nat.zero_add _).symm | ⟨1, _⟩ => hcol)

/-- The carried blocks of a projection over a grid whose points go through the column blocks of one row block and then the
    next: a first point normalizes its rows and keeps them, the others find them as the point before left them, and each
    multiplies them with its block of the weights. What every point leaves is its block of the product. -/
theorem carried {N R C : ℕ} (X : Fin R → Fin 1024 → EReal) (g : Fin 1024 → EReal) (W : Fin C → Fin 1024 → EReal)
    (row : Fin N → Fin 1024 → Fin R) (col : Fin N → Fin 512 → Fin C) (first : Fin N → Prop)
    (st : (n : ℕ) → n < N → ((⟨2, ![1024, 512]⟩ : Shape).Idx → EReal) × ((⟨2, ![1024, 1024]⟩ : Shape).Idx → EReal))
    (kept : Fin N → (⟨2, ![1024, 1024]⟩ : Shape).Idx → EReal)
    (mul : Fin N → ((⟨2, ![1024, 1024]⟩ : Shape).Idx → EReal) → (⟨2, ![1024, 512]⟩ : Shape).Idx → EReal)
    (hrow : ∀ t, ¬first t → ∃ h : t.val - 1 < N, t.val ≠ 0 ∧ row ⟨t.val - 1, h⟩ = row t)
    (hkept : ∀ t a l, kept t (ix2 a l) = norm (X (row t a)) g l)
    (hmul : ∀ t v a b, mul t v (ix2 a b) = ∑ l : Fin 1024, v (ix2 a l) * W (col t b) l)
    (hA : ∀ t, first t → st t.val t.isLt = (mul t (kept t), kept t))
    (hB : ∀ t, ¬first t → st t.val t.isLt = (mul t (st (t.val - 1) (Nat.lt_of_le_of_lt (Nat.sub_le _ _) t.isLt)).2, (st (t.val - 1) (Nat.lt_of_le_of_lt (Nat.sub_le _ _) t.isLt)).2))
    (t : Fin N) (a : Fin 1024) (b : Fin 512) : (st t.val t.isLt).1 (ix2 a b) = dot (X (row t a)) g (W (col t b)) := by
  classical
  have carry : ∀ (n : ℕ) (h : n < N) (a l : Fin 1024), (st n h).2 (ix2 a l) = norm (X (row ⟨n, h⟩ a)) g l := by
    intro n
    induction n with
    | zero =>
      intro h a l
      by_cases hf : first ⟨0, h⟩
      · rw [show st 0 h = _ from hA ⟨0, h⟩ hf]
        exact hkept _ a l
      · exact absurd rfl (hrow _ hf).2.1
    | succ n ih =>
      intro h a l
      by_cases hf : first ⟨n + 1, h⟩
      · rw [show st (n + 1) h = _ from hA ⟨n + 1, h⟩ hf]
        exact hkept _ a l
      · obtain ⟨h', _, e⟩ := hrow _ hf
        rw [show st (n + 1) h = _ from hB ⟨n + 1, h⟩ hf, ← e]
        exact ih h' a l
  by_cases hf : first t
  · rw [hA t hf]
    exact (hmul t _ a b).trans (Finset.sum_congr rfl fun l _ => congrArg (· * _) (hkept t a l))
  · obtain ⟨h', _, e⟩ := hrow _ hf
    rw [hB t hf, ← e]
    exact (hmul t _ a b).trans (Finset.sum_congr rfl fun l _ => congrArg (· * _) (carry _ h' a l))

end Cert.Rms

end
-- ==== Proof.EvenKernelIdeal.lean ====
module

public import proofs.«01_k».proof.Proof.Rms
public import proofs.«01_k».proof.Proof.Gen.KernelEvenIdeal.Frame
public import Idealize.ShloMosaic.Lib.Pipeline.ValueKit
public import Idealize.ShloMosaic.Lib.Pipeline.Covers
public import Idealize.ShloMosaic.Lib.Pointwise
public import Idealize.ShloMosaic.Lib.Claim
public import Idealize.ShloMosaic.Lib.Tactic

@[expose] public section

set_option maxRecDepth 16384

noncomputable section

namespace Cert.KernelEvenIdeal.Rms

open Cert.KernelEvenIdeal Cert.KernelEvenIdeal.Gen
open Idealize.ShloMosaic Idealize.ShloMosaic.TcCoe Idealize.SL.Sem

theorem hz : (![0, 0] : Fin 2 → Nat) = fun _ => 0 := funext fun a => by fin_cases a <;> rfl

/-! The body's arithmetic at an index, over the extended reals. -/

theorem pay1_apply (x : Vec Ideal S1024x1024 .f32) (g : Vec Ideal S1x1024 .f32) (a l : Fin 1024) :
    k0_pay1 x g (ix2 a l) = Cert.Rms.norm (fun k => x (ix2 a k)) (fun k => g (ix2 0 k)) l := by
  pointwise [k0_pay1]
  rfl

theorem pay2_apply (xn : Vec Ideal S1024x1024 .bf16) (w : Vec Ideal S1024x512 .f32) (a : Fin 1024) (b : Fin 512) :
    k0_pay2 xn w (ix2 a b) = ∑ l : Fin 1024, xn (ix2 a l) * w (ix2 l b) := by
  pointwise [k0_pay2]

/-! What a point leaves, from the blocks it reads. -/

section
variable {F : FTy → Type} [FloatOps F]

theorem sout_A (c : Dev nD) (i : grid0.Coords) (a2 : Memref sig .tc .vmem S1024x1024 .f32) (h2 : a2.IsWhole) (a3 : Memref sig .tc .vmem S1x1024 .f32) (h3 : a3.IsWhole)
    (a4 : Memref sig .tc .vmem S1024x512 .f32) (h4 : a4.IsWhole) (a5 : Memref sig .tc .vmem S1024x512 .f32) (h5 : a5.IsWhole) (a6 : Memref sig .tc .vmem S1024x1024 .bf16) (h6 : a6.IsWhole)
    (hc : cond0_0 i) (x0 : Vec F S1024x1024 .f32) (x1 : Vec F S1x1024 .f32) (x2 : Vec F S1024x512 .f32) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, View.ld_unit_zero (S := S1024x1024) hz, View.ld_unit_zero (S := S1x1024) hz]

theorem out_A (c : Dev nD) (i : grid0.Coords) (a2 : Memref sig .tc .vmem S1024x1024 .f32) (h2 : a2.IsWhole) (a3 : Memref sig .tc .vmem S1x1024 .f32) (h3 : a3.IsWhole)
    (a4 : Memref sig .tc .vmem S1024x512 .f32) (h4 : a4.IsWhole) (a5 : Memref sig .tc .vmem S1024x512 .f32) (h5 : a5.IsWhole) (a6 : Memref sig .tc .vmem S1024x1024 .bf16) (h6 : a6.IsWhole)
    (hc : cond0_0 i) (x0 : Vec F S1024x1024 .f32) (x1 : Vec F S1x1024 .f32) (x2 : Vec F S1024x512 .f32) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz, View.readCov_unit_zero (S := S1024x1024) _ hz]
  simp only [View.readAt_eq_ld, h2.read_unread, h3.read_unread, h4.read_unread, View.ld_unit_zero (S := S1024x1024) hz, View.ld_unit_zero (S := S1x1024) hz, View.ld_unit_zero (S := S1024x512) hz]

theorem out_B (c : Dev nD) (i : grid0.Coords) (a2 : Memref sig .tc .vmem S1024x1024 .f32) (h2 : a2.IsWhole) (a3 : Memref sig .tc .vmem S1x1024 .f32) (h3 : a3.IsWhole)
    (a4 : Memref sig .tc .vmem S1024x512 .f32) (h4 : a4.IsWhole) (a5 : Memref sig .tc .vmem S1024x512 .f32) (h5 : a5.IsWhole) (a6 : Memref sig .tc .vmem S1024x1024 .bf16) (h6 : a6.IsWhole)
    (hc : ¬cond0_0 i) (x0 : Vec F S1024x1024 .f32) (x1 : Vec F S1x1024 .f32) (x2 : Vec F S1024x512 .f32) (xs : Vec F S1024x1024 .bf16) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero hz]
  simp only [View.readAt_eq_ld, h4.read_unread, h6.read_unread, View.ld_unit_zero (S := S1024x1024) hz, View.ld_unit_zero (S := S1024x512) hz]

end

/-! The arrays at the entry of the grid. -/

variable (m : (ℓ : Loc nD τ sig) → Buf (Elt Ideal) ℓ)

abbrev A0 : S4x4096x1024.Idx → EReal := m (((0 : Dev nD) : Thread nD τ).loc main_arg0)
abbrev A1 : S2x1024.Idx → EReal := m (((0 : Dev nD) : Thread nD τ).loc main_arg1)
abbrev A2 : S1x1024x3584.Idx → EReal := m (((0 : Dev nD) : Thread nD τ).loc main_arg2)

/-- Row `r` of the batch of sequences laid out one after another. -/
def X (r : Fin 16384) (l : Fin 1024) : EReal := A0 m (ix3 ⟨r.val / 4096, by omega⟩ ⟨r.val % 4096, by omega⟩ l)

theorem entry_x (r : Fin 16384) (l : Fin 1024) : V m 0 main_v0 (ix2 r l) = X m r l := by
  have e : V m 0 main_v0 = shapeCast S16384x1024 (A0 m) shapeCasts_S4x4096x1024_S16384x1024 := by
    simp only [V, V0, hostOps0, List.flatten_cons, List.flatten_nil, List.append_nil]
    after_results
    rfl
  rw [e]
  exact shapeCast_apply _ _ _ _ (by
    rw [Shape.rowMajor_val_three, Shape.rowMajor_val_two]
    show (r.val / 4096 * 4096 + r.val % 4096) * 1024 + l.val = r.val * 1024 + l.val
    omega)
theorem entry_g (l : Fin 1024) : V m 0 main_v4 (ix2 0 l) = A1 m (ix2 0 l) := by
  have e : V m 0 main_v4 = shapeCast S1x1024 (shapeCast S1024 (extractStridedSlice S1x1024 ![0, 0] (A1 m) slices_S2x1024_S1x1024_0_0) shapeCasts_S1x1024_S1024) shapeCasts_S1024_S1x1024 := by
    simp only [V, V0, hostOps0, List.flatten_cons, List.flatten_nil, List.append_nil]
    after_results
    rfl
  rw [e]
  pointwise
theorem entry_w (l : Fin 1024) (b : Fin 3584) : V m 0 main_v3 (ix2 l b) = A2 m (ix3 0 l b) := by
  have e : V m 0 main_v3 = shapeCast S1024x3584 (A2 m) shapeCasts_S1x1024x3584_S1024x3584 := by
    simp only [V, V0, hostOps0, List.flatten_cons, List.flatten_nil, List.append_nil]
    after_results
    rfl
  rw [e]
  pointwise

/-! The blocks a point reads, at an index of the arrays. -/

theorem idx0 : ∀ t : Fin cfg0.N, win0_0.index t = ![t.val / 7, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, t.val % 7] := (by decide +kernel : ∀ t : Fin grid0.N, _)
theorem idx3 : ∀ t : Fin cfg0.N, win0_3.index t = ![t.val / 7, t.val % 7] := (by decide +kernel : ∀ t : Fin grid0.N, _)

theorem row_lt (t : Fin cfg0.N) (a : Fin 1024) : t.val / 7 * 1024 + a.val < 16384 := by
  have h := lt_of_lt_of_eq t.isLt (show cfg0.N = 112 from N_0)
  omega
theorem col_lt (t : Fin cfg0.N) (b : Fin 512) : t.val % 7 * 512 + b.val < 3584 := by omega

theorem blk_x (t : Fin cfg0.N) (a l : Fin 1024) : iblk m 0 0 t (ix2 a l) = X m ⟨t.val / 7 * 1024 + a.val, row_lt t a⟩ l := by
  have e := Pipeline.Window.rect_emb_val (cfg0.win 0) t
  have hi := idx0 t
  exact (congrArg (V m 0 main_v0) (Shape.idx_ext₂ ((e _ (0 : Fin 2)).trans (by rw [hi]; rfl)) ((e _ (1 : Fin 2)).trans (by rw [hi]; exact Nat.zero_add _)))).trans (entry_x m _ l)
theorem blk_g (t : Fin cfg0.N) (l : Fin 1024) : iblk m 0 1 t (ix2 0 l) = A1 m (ix2 0 l) := by
  have e := Pipeline.Window.rect_emb_val (cfg0.win 1) t
  have hi := idx1 t
  exact (congrArg (V m 0 main_v4) (Shape.idx_ext₂ ((e _ (0 : Fin 2)).trans (by rw [hi]; rfl)) ((e _ (1 : Fin 2)).trans (by rw [hi]; exact Nat.zero_add _)))).trans (entry_g m l)
theorem blk_w (t : Fin cfg0.N) (l : Fin 1024) (b : Fin 512) : iblk m 0 2 t (ix2 l b) = A2 m (ix3 0 l ⟨t.val % 7 * 512 + b.val, col_lt t b⟩) := by
  have e := Pipeline.Window.rect_emb_val (cfg0.win 2) t
  have hi := idx2 t
  exact (congrArg (V m 0 main_v3) (Shape.idx_ext₂ ((e _ (0 : Fin 2)).trans (by rw [hi]; exact Nat.zero_add _)) ((e _ (1 : Fin 2)).trans (by rw [hi]; rfl)))).trans (entry_w m l _)

/-! The scratch holds the normalized rows of the row block throughout its column blocks. -/

/-- The normalized rows of the row block of point `n`, at an index. -/
def Normed (n : ℕ) (v : Vec Ideal S1024x1024 .bf16) : Prop :=
  ∀ (a l : Fin 1024) (h : n / 7 * 1024 + a.val < 16384), v (ix2 a l) = Cert.Rms.norm (X m ⟨n / 7 * 1024 + a.val, h⟩) (fun k => A1 m (ix2 0 k)) l

theorem pay1_normed (t : Fin cfg0.N) : Normed m t.val (k0_pay1 (iblk m 0 0 t) (iblk m 0 1 t)) := fun a l h => by
  rw [pay1_apply]
  congr 1
  · funext k; exact blk_x m t a k
  · funext k; exact blk_g m t k

theorem scratch (n : ℕ) (h : n < cfg0.N) : Normed m n (outsAt0 m 0 n h).2 := by
  induction n with
  | zero =>
    have e := outsAt0_A m 0 ⟨0, h⟩ rfl
    rw [sout_A] at e
    rw [e]
    exact pay1_normed m ⟨0, h⟩
  | succ n ih =>
    by_cases h0 : (n + 1) % 7 = 0
    · have e := outsAt0_A m 0 ⟨n + 1, h⟩ h0
      rw [sout_A] at e
      rw [e]
      exact pay1_normed m ⟨n + 1, h⟩
    · have e := outsAt0_B m 0 ⟨n + 1, h⟩ h0
      rw [e]
      intro a l hl
      have hn : n / 7 = (n + 1) / 7 := by omega
      have := ih (Nat.lt_of_succ_lt h) a l (by rw [hn]; exact hl)
      refine this.trans ?_
      simp only [hn]

/-- Row `r` of the product at column `b`. -/
def P (r : Fin 16384) (b : Fin 3584) : EReal := Cert.Rms.dot (X m r) (fun k => A1 m (ix2 0 k)) (fun l => A2 m (ix3 0 l b))

theorem pay2_eq (t : Fin cfg0.N) (v : Vec Ideal S1024x1024 .bf16) (hv : Normed m t.val v) (a : Fin 1024) (b : Fin 512) :
    k0_pay2 v (iblk m 0 2 t) (ix2 a b) = P m ⟨t.val / 7 * 1024 + a.val, row_lt t a⟩ ⟨t.val % 7 * 512 + b.val, col_lt t b⟩ := by
  rw [pay2_apply]
  exact Finset.sum_congr rfl fun l _ => congr (congrArg _ (hv a l (row_lt t a))) (blk_w m t l b)

theorem out_block (t : Fin cfg0.N) (a : Fin 1024) (b : Fin 512) :
    (outsAt0 m 0 t.val t.isLt).1 (ix2 a b) = P m ⟨t.val / 7 * 1024 + a.val, row_lt t a⟩ ⟨t.val % 7 * 512 + b.val, col_lt t b⟩ := by
  by_cases h0 : t.val % 7 = 0
  · rw [outsAt0_A m 0 t h0, out_A]
    exact pay2_eq m t _ (pay1_normed m t) a b
  · rw [outsAt0_B m 0 t h0, out_B]
    refine pay2_eq m t _ (fun a l h => ?_) a b
    have hn : (t.val - 1) / 7 = t.val / 7 := by omega
    refine (scratch m (t.val - 1) (Nat.lt_of_le_of_lt (Nat.sub_le _ _) t.isLt) a l (by rw [hn]; exact h)).trans ?_
    simp only [hn]

/-! The array of the call. -/

/-- The product, as the contents of the call's array. -/
def proj : S16384x3584.Idx → EReal := fun i => P m (i 0) (i 1)

theorem out_at (t : Fin cfg0.N) (y : S1024x512.Idx) : (outsAt0 m 0 t.val t.isLt).1 y = proj m (((cfg0.win 3).rect t).emb y) := by
  have e := Pipeline.Window.rect_emb_val (cfg0.win 3) t y
  have hi := idx3 t
  obtain ⟨a, b, rfl⟩ : ∃ (a : Fin 1024) (b : Fin 512), y = ix2 a b := ⟨y 0, y 1, Shape.idx_ext₂ rfl rfl⟩
  refine (out_block m t a b).trans ?_
  exact congr (congrArg (P m) (Fin.ext ((e (0 : Fin 2)).trans (by rw [hi]; rfl)).symm)) (Fin.ext ((e (1 : Fin 2)).trans (by rw [hi]; rfl)).symm)

theorem arr_eq : (dats m 0 0).arrAt 3 cfg0.N = proj m := by
  refine (dats m 0 0).arrAt_eq_of_covers 3 (proj m) ?_ fun t hf y => ?_
  · refine Pipeline.Window.covers_of_index_surj _ rfl (fun a => by match a with | ⟨0, _⟩ => exact (by decide : 0 < 1024) | ⟨1, _⟩ => exact (by decide : 0 < 512)) fun β => ?_
    have h0 : (β (0 : Fin 2)).val < 16 := lt_of_lt_of_eq (β (0 : Fin 2)).isLt (show (16384 + 1023) / 1024 = 16 by decide)
    have h1 : (β (1 : Fin 2)).val < 7 := lt_of_lt_of_eq (β (1 : Fin 2)).isLt (show (3584 + 511) / 512 = 7 by decide)
    refine ⟨⟨7 * (β (0 : Fin 2)).val + (β (1 : Fin 2)).val, lt_of_lt_of_eq (by omega) (show cfg0.N = 112 from N_0).symm⟩, fun a => ?_⟩
    refine (congrFun (idx3 _) a).trans ?_
    match a with
    | ⟨0, _⟩ => exact (show (7 * (β (0 : Fin 2)).val + (β (1 : Fin 2)).val) / 7 = (β (0 : Fin 2)).val by omega)
    | ⟨1, _⟩ => exact (show (7 * (β (0 : Fin 2)).val + (β (1 : Fin 2)).val) % 7 = (β (1 : Fin 2)).val by omega)
  · have e := out_at m t y
    rw [← after0_3] at e
    exact e

/-! The results: columns of the product, after the call. -/

/-- The host's cut of 512 columns into heads, of the later half of each sequence. -/
def heads (o : ℕ) (h : S16384x3584.Slices ![0, o] S16384x512) (f : S16384x3584.Idx → EReal) : S1x4x2048x8x64.Idx → EReal :=
  broadcastInDim S1x4x2048x8x64 ![1, 2, 3, 4] bcast_S4x2048x8x64_S1x4x2048x8x64_1_2_3_4 (extractStridedSlice S4x2048x8x64 ![0, 2048, 0, 0] (shapeCast S4x4096x8x64 (extractStridedSlice S16384x512 ![0, o] f h) shapeCasts_S16384x512_S4x4096x8x64) slices_S4x4096x8x64_S4x2048x8x64_0_2048_0_0)

theorem arr_v5 : Pipeline.withArrays cfg0.spec 0 (V0 m 0) (fun w => (dats m 0 0).arrAt w cfg0.N) (Proc.devRef .tc main_v5) = proj m :=
  (Pipeline.withArrays_arr cfg0.spec (by decide) 0 (V0 m 0) (fun w => (dats m 0 0).arrAt w cfg0.N) 3).trans (arr_eq m)

theorem tail_v11 : Pipeline.afterTail₀ cfgs (dats m) 0 (V0 m) [hostOps1] 0 main_v11 = heads 512 slices_S16384x3584_S16384x512_0_512 (proj m) := by
  unfold Pipeline.afterTail₀
  simp only [hostOps1, List.flatten_cons, List.flatten_nil, List.append_nil]
  after_results
  rw [show Pipeline.withArrays (cfgs 0).spec 0 (V0 m 0) (fun w => (dats m 0 0).arrAt w (cfgs 0).N) (Proc.devRef .tc main_v5) = proj m from arr_v5 m]
  rfl
theorem tail_v13 : Pipeline.afterTail₀ cfgs (dats m) 0 (V0 m) [hostOps1] 0 main_v13 = heads 1024 slices_S16384x3584_S16384x512_0_1024 (proj m) := by
  unfold Pipeline.afterTail₀
  simp only [hostOps1, List.flatten_cons, List.flatten_nil, List.append_nil]
  after_results
  rw [show Pipeline.withArrays (cfgs 0).spec 0 (V0 m 0) (fun w => (dats m 0 0).arrAt w (cfgs 0).N) (Proc.devRef .tc main_v5) = proj m from arr_v5 m]
  rfl

theorem heads_apply (o : ℕ) (ho : o + 512 ≤ 3584) (h : S16384x3584.Slices ![0, o] S16384x512) (f : S16384x3584.Idx → EReal) (i : S1x4x2048x8x64.Idx) (r : Fin 16384) (c : Fin 3584)
    (hr : r.val = (i 1).val * 4096 + (2048 + (i 2).val)) (hc : c.val = o + ((i 3).val * 64 + (i 4).val)) :
    heads o h f i = f (ix2 r c) := by
  have h1 : (i 1).val < 4 := (i 1).isLt
  have h2 : (i 2).val < 2048 := (i 2).isLt
  have h3 : (i 3).val < 8 := (i 3).isLt
  have h4 : (i 4).val < 64 := (i 4).isLt
  unfold heads
  refine (broadcastInDim_apply _ bcast_S4x2048x8x64_S1x4x2048x8x64_1_2_3_4 _ i (fun a => match a with | ⟨0, _⟩ => i 1 | ⟨1, _⟩ => i 2 | ⟨2, _⟩ => i 3 | ⟨3, _⟩ => i 4 : S4x2048x8x64.Idx)
    (fun a => match a with | ⟨0, _⟩ => rfl | ⟨1, _⟩ => rfl | ⟨2, _⟩ => rfl | ⟨3, _⟩ => rfl)).trans ?_
  refine (extractStridedSlice_apply ![0, 2048, 0, 0] _ slices_S4x4096x8x64_S4x2048x8x64_0_2048_0_0 _ (fun a => match a with | ⟨0, _⟩ => i 1 | ⟨1, _⟩ => ⟨2048 + (i 2).val, by show _ < 4096; omega⟩ | ⟨2, _⟩ => i 3 | ⟨3, _⟩ => i 4 : S4x4096x8x64.Idx)
    (fun a => match a with | ⟨0, _⟩ => (Nat.zero_add _).symm | ⟨1, _⟩ => rfl | ⟨2, _⟩ => (Nat.zero_add _).symm | ⟨3, _⟩ => (Nat.zero_add _).symm)).trans ?_
  refine (shapeCast_apply _ shapeCasts_S16384x512_S4x4096x8x64 _ (ix2 r ⟨(i 3).val * 64 + (i 4).val, by omega⟩) (by
    rw [Shape.rowMajor_val_two, Shape.rowMajor_val_four]
    show r.val * 512 + ((i 3).val * 64 + (i 4).val) = (((i 1).val * 4096 + (2048 + (i 2).val)) * 8 + (i 3).val) * 64 + (i 4).val
    omega)).trans ?_
  exact extractStridedSlice_apply ![0, o] f h (ix2 r ⟨(i 3).val * 64 + (i 4).val, by omega⟩) (ix2 r c) (fun a => match a with | ⟨0, _⟩ => (Nat.zero_add _).symm | ⟨1, _⟩ => hc)

/-- The row of a sequence's position in its later half. -/
theorem X_eq (b : Fin 4) (s : Fin 4096) (r : Fin 16384) (hr : r.val = b.val * 4096 + s.val) : X m r = fun l => A0 m (ix3 b s l) := by
  funext l
  have h0 : (⟨r.val / 4096, by omega⟩ : Fin 4) = b := Fin.ext (by show r.val / 4096 = _; omega)
  have h1 : (⟨r.val % 4096, by omega⟩ : Fin 4096) = s := Fin.ext (by show r.val % 4096 = _; omega)
  unfold X
  rw [h0, h1]

/-- The result: a position's key (or value) at a head and a lane. -/
def val (o : ℕ) (ho : o + 512 ≤ 3584) (x : S4x4096x1024.Idx → EReal) (g : S2x1024.Idx → EReal) (w : S1x1024x3584.Idx → EReal) : S1x4x2048x8x64.Idx → EReal := fun i =>
  Cert.Rms.dot (fun l => x (ix3 (i 1) ⟨2048 + (i 2).val, by have h : (i 2).val < 2048 := (i 2).isLt; omega⟩ l)) (fun k => g (ix2 0 k))
    (fun l => w (ix3 0 l ⟨o + ((i 3).val * 64 + (i 4).val), by have h3 : (i 3).val < 8 := (i 3).isLt; have h4 : (i 4).val < 64 := (i 4).isLt; omega⟩))

theorem heads_eq (o : ℕ) (ho : o + 512 ≤ 3584) (h : S16384x3584.Slices ![0, o] S16384x512) : heads o h (proj m) = val o ho (A0 m) (A1 m) (A2 m) := by
  funext i
  have h1 : (i 1).val < 4 := (i 1).isLt
  have h2 : (i 2).val < 2048 := (i 2).isLt
  have h3 : (i 3).val < 8 := (i 3).isLt
  have h4 : (i 4).val < 64 := (i 4).isLt
  refine (heads_apply o ho h (proj m) i ⟨(i 1).val * 4096 + (2048 + (i 2).val), by omega⟩ ⟨o + ((i 3).val * 64 + (i 4).val), by omega⟩ rfl rfl).trans ?_
  exact congrArg (Cert.Rms.dot · (fun k => A1 m (ix2 0 k)) (fun l => A2 m (ix3 0 l ⟨o + ((i 3).val * 64 + (i 4).val), by omega⟩))) (X_eq m (i 1) ⟨2048 + (i 2).val, by omega⟩ _ rfl)

theorem run_value (ρ : Dev nD → PrngReg) : θ_run (defs (F := Ideal)) (onTc (τ := τ) (main (F := Ideal))) ⟨m, fun _ => 0, ρ⟩ (fun r => ∀ c : Dev nD,
      r.2.mem ((c.tc : Thread nD τ).loc main_v11) = val 512 (by decide) (A0 m) (A1 m) (A2 m)
      ∧ r.2.mem ((c.tc : Thread nD τ).loc main_v13) = val 1024 (by decide) (A0 m) (A1 m) (A2 m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c => by
    obtain rfl : c = 0 := Subsingleton.elim _ _
    exact ⟨((h.1 0).2 main_v11 (Pipeline.mem_restRefs_of main_v11 (by decide) (by decide))).trans ((tail_v11 m).trans (heads_eq m 512 _ _)),
      ((h.1 0).2 main_v13 (Pipeline.mem_restRefs_of main_v13 (by decide) (by decide))).trans ((tail_v13 m).trans (heads_eq m 1024 _ _)), h.2.1 0⟩)
    (θ_run_and (run_main m ρ) (frame m ρ))

end Cert.KernelEvenIdeal.Rms

end
-- ==== Proof.EvenRefIdeal.lean ====
module

public import proofs.«01_k».proof.Proof.EvenKernelIdeal
public import proofs.«01_k».proof.Proof.Gen.ReferenceEvenIdeal.Run
public import proofs.«01_k».proof.Proof.Gen.ReferenceEvenIdeal.Read
public import Idealize.ShloMosaic.Lib.Quiescent

@[expose] public section

noncomputable section

namespace Cert.ReferenceEvenIdeal.Rms

open Cert.ReferenceEvenIdeal Cert.ReferenceEvenIdeal.Read
open Idealize.ShloMosaic Idealize.ShloMosaic.TcCoe Idealize.SL.Sem

variable (x : S4x4096x1024.Idx → EReal) (g : S2x1024.Idx → EReal) (w : S1x1024x3584.Idx → EReal)

/-- The normalized row of the reference, at a position. -/
theorem norm_at (b : Fin 4) (s : Fin 4096) (l : Fin 1024) :
    val_main_v14 (F := Ideal) x g (ix3 b s l) = Cert.Rms.norm (fun k => x (ix3 b s k)) (fun k => g (ix2 0 k)) l := by
  have hs : val_main_v3 (F := Ideal) x (idx_main_v4 (idx_main_v10 (ix3 b s l))) = ∑ k : Fin 1024, x (ix3 b s k) * x (ix3 b s k) := by
    rw [val_main_v3_apply, val_main_cst_apply]
    refine (congrArg (· + _) Ideal.ofBits_zero_f32).trans ((zero_add _).trans (Finset.sum_congr rfl fun k _ => ?_))
    have hi : idx_main_v3 (idx_main_v4 (idx_main_v10 (ix3 b s l))) k = ix3 b s k := idx_ext₃ rfl rfl rfl
    rw [hi]
    rfl
  have hg : val_main_v13 (F := Ideal) g (ix3 b s l) = g (ix2 0 l) := by
    rw [val_main_v13_apply, val_main_v12_apply, val_main_v1_apply, val_main_v0_apply]
    exact congrArg g (Shape.idx_ext₂ rfl (Nat.mod_eq_of_lt l.isLt))
  rw [val_main_v14_apply, hg, val_main_v11_apply, val_main_v10_apply, val_main_v9_apply, val_main_v8_apply, val_main_v6_apply, val_main_v4_apply, hs,
    val_main_v5_apply, val_main_cst_0_apply, val_main_v7_apply, val_main_cst_1_apply]
  rfl

theorem prod_at (b : Fin 4) (s : Fin 4096) (c : Fin 3584) :
    val_main_v16 (F := Ideal) x g w (ix3 b s c) = Cert.Rms.dot (fun l => x (ix3 b s l)) (fun k => g (ix2 0 k)) (fun l => w (ix3 0 l c)) := by
  rw [val_main_v16_apply]
  refine Finset.sum_congr rfl fun l _ => ?_
  have hl : lidx_main_v16 (ix3 b s c) l = ix3 b s l := idx_ext₃ rfl rfl rfl
  have hw : val_main_v15 (F := Ideal) w (ridx_main_v16 (ix3 b s c) l) = w (ix3 0 l c) := by
    rw [val_main_v15_apply]
    exact congrArg w (idx_ext₃ rfl (show (l.val * 3584 + c.val) / 3584 % 1024 = l.val by omega) (show (l.val * 3584 + c.val) % 3584 = c.val by omega))
  rw [hl, norm_at, hw]

theorem keys_eq : val_main_v22 (F := Ideal) x g w = Cert.KernelEvenIdeal.Rms.val 512 (by decide) x g w := by
  funext i
  have h1 : (i 1).val < 4 := (i 1).isLt
  have h2 : (i 2).val < 2048 := (i 2).isLt
  have h3 : (i 3).val < 8 := (i 3).isLt
  have h4 : (i 4).val < 64 := (i 4).isLt
  rw [val_main_v22_apply, val_main_v21_apply, val_main_v18_apply, val_main_v17_apply]
  refine Eq.trans (congrArg _ (idx_ext₃ ?_ ?_ ?_)) (prod_at x g w (i 1) ⟨2048 + (i 2).val, by omega⟩ ⟨512 + ((i 3).val * 64 + (i 4).val), by omega⟩)
  · show ((((i 1).val * 4096 + (2048 + (i 2).val)) * 8 + (i 3).val) * 64 + (i 4).val) / 2097152 = (i 1).val; omega
  · show ((((i 1).val * 4096 + (2048 + (i 2).val)) * 8 + (i 3).val) * 64 + (i 4).val) / 512 % 4096 = 2048 + (i 2).val; omega
  · show 512 + ((((i 1).val * 4096 + (2048 + (i 2).val)) * 8 + (i 3).val) * 64 + (i 4).val) % 512 = 512 + ((i 3).val * 64 + (i 4).val); omega

theorem values_eq : val_main_v24 (F := Ideal) x g w = Cert.KernelEvenIdeal.Rms.val 1024 (by decide) x g w := by
  funext i
  have h1 : (i 1).val < 4 := (i 1).isLt
  have h2 : (i 2).val < 2048 := (i 2).isLt
  have h3 : (i 3).val < 8 := (i 3).isLt
  have h4 : (i 4).val < 64 := (i 4).isLt
  rw [val_main_v24_apply, val_main_v23_apply, val_main_v20_apply, val_main_v19_apply]
  refine Eq.trans (congrArg _ (idx_ext₃ ?_ ?_ ?_)) (prod_at x g w (i 1) ⟨2048 + (i 2).val, by omega⟩ ⟨1024 + ((i 3).val * 64 + (i 4).val), by omega⟩)
  · show ((((i 1).val * 4096 + (2048 + (i 2).val)) * 8 + (i 3).val) * 64 + (i 4).val) / 2097152 = (i 1).val; omega
  · show ((((i 1).val * 4096 + (2048 + (i 2).val)) * 8 + (i 3).val) * 64 + (i 4).val) / 512 % 4096 = 2048 + (i 2).val; omega
  · show 1024 + ((((i 1).val * 4096 + (2048 + (i 2).val)) * 8 + (i 3).val) * 64 + (i 4).val) % 512 = 1024 + ((i 3).val * 64 + (i 4).val); omega

theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v22) = Cert.KernelEvenIdeal.Rms.val 512 (by decide) (m ((c.tc : Thread nD τ).loc main_arg0)) (m ((c.tc : Thread nD τ).loc main_arg1)) (m ((c.tc : Thread nD τ).loc main_arg2))
      ∧ r.2.mem ((c.tc : Thread nD τ).loc main_v24) = Cert.KernelEvenIdeal.Rms.val 1024 (by decide) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c => ⟨(h c).1.trans ((val_main_v22_eq _ _ _).trans (keys_eq _ _ _)), (h c).2.1.trans ((val_main_v24_eq _ _ _).trans (values_eq _ _ _)), (h c).2.2⟩) (Value.run m ρ)

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2.2, sem_eq_zero_of_no_sems (by decide) r.2⟩) (Value.run m ρ)

end Cert.ReferenceEvenIdeal.Rms

end
-- ==== Proof.EvenSampleKernelIdeal.lean ====
module

public import proofs.«01_k».proof.Proof.EvenKernelIdeal
public import proofs.«01_k».proof.Proof.Gen.KernelEvenSampleIdeal.Frame
public import Idealize.ShloMosaic.Lib.Pipeline.ValueKit
public import Idealize.ShloMosaic.Lib.Pipeline.Covers
public import Idealize.ShloMosaic.Lib.Pointwise
public import Idealize.ShloMosaic.Lib.Claim
public import Idealize.ShloMosaic.Lib.Tactic

@[expose] public section

set_option maxRecDepth 16384

noncomputable section

namespace Cert.KernelEvenSampleIdeal.Rms

open Cert.KernelEvenSampleIdeal Cert.KernelEvenSampleIdeal.Gen
open Idealize.ShloMosaic Idealize.ShloMosaic.TcCoe Idealize.SL.Sem

open Cert.KernelEvenIdeal.Rms (hz)

/-! The body's arithmetic at an index, over the extended reals. -/

theorem pay1_apply (x : Vec Ideal S1024x1024 .f32) (g : Vec Ideal S1x1024 .f32) (a l : Fin 1024) :
    k0_pay1 x g (ix2 a l) = Cert.Rms.norm (fun k => x (ix2 a k)) (fun k => g (ix2 0 k)) l := by
  pointwise [k0_pay1]
  rfl

theorem pay2_apply (xn : Vec Ideal S1024x1024 .bf16) (w : Vec Ideal S1024x512 .f32) (a : Fin 1024) (b : Fin 512) :
    k0_pay2 xn w (ix2 a b) = ∑ l : Fin 1024, xn (ix2 a l) * w (ix2 l b) := by
  pointwise [k0_pay2]

/-! What a point leaves, from the blocks it reads. -/

section
variable {F : FTy → Type} [FloatOps F]

theorem sout_A (c : Dev nD) (i : grid0.Coords) (a2 : Memref sig .tc .vmem S1024x1024 .f32) (h2 : a2.IsWhole) (a3 : Memref sig .tc .vmem S1x1024 .f32) (h3 : a3.IsWhole)
    (a4 : Memref sig .tc .vmem S1024x512 .f32) (h4 : a4.IsWhole) (a5 : Memref sig .tc .vmem S1024x512 .f32) (h5 : a5.IsWhole) (a6 : Memref sig .tc .vmem S1024x1024 .bf16) (h6 : a6.IsWhole)
    (hc : cond0_0 i) (x0 : Vec F S1024x1024 .f32) (x1 : Vec F S1x1024 .f32) (x2 : Vec F S1024x512 .f32) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, View.ld_unit_zero (S := S1024x1024) hz, View.ld_unit_zero (S := S1x1024) hz]

theorem out_A (c : Dev nD) (i : grid0.Coords) (a2 : Memref sig .tc .vmem S1024x1024 .f32) (h2 : a2.IsWhole) (a3 : Memref sig .tc .vmem S1x1024 .f32) (h3 : a3.IsWhole)
    (a4 : Memref sig .tc .vmem S1024x512 .f32) (h4 : a4.IsWhole) (a5 : Memref sig .tc .vmem S1024x512 .f32) (h5 : a5.IsWhole) (a6 : Memref sig .tc .vmem S1024x1024 .bf16) (h6 : a6.IsWhole)
    (hc : cond0_0 i) (x0 : Vec F S1024x1024 .f32) (x1 : Vec F S1x1024 .f32) (x2 : Vec F S1024x512 .f32) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz, View.readCov_unit_zero (S := S1024x1024) _ hz]
  simp only [View.readAt_eq_ld, h2.read_unread, h3.read_unread, h4.read_unread, View.ld_unit_zero (S := S1024x1024) hz, View.ld_unit_zero (S := S1x1024) hz, View.ld_unit_zero (S := S1024x512) hz]

theorem out_B (c : Dev nD) (i : grid0.Coords) (a2 : Memref sig .tc .vmem S1024x1024 .f32) (h2 : a2.IsWhole) (a3 : Memref sig .tc .vmem S1x1024 .f32) (h3 : a3.IsWhole)
    (a4 : Memref sig .tc .vmem S1024x512 .f32) (h4 : a4.IsWhole) (a5 : Memref sig .tc .vmem S1024x512 .f32) (h5 : a5.IsWhole) (a6 : Memref sig .tc .vmem S1024x1024 .bf16) (h6 : a6.IsWhole)
    (hc : ¬cond0_0 i) (x0 : Vec F S1024x1024 .f32) (x1 : Vec F S1x1024 .f32) (x2 : Vec F S1024x512 .f32) (xs : Vec F S1024x1024 .bf16) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero hz]
  simp only [View.readAt_eq_ld, h4.read_unread, h6.read_unread, View.ld_unit_zero (S := S1024x1024) hz, View.ld_unit_zero (S := S1024x512) hz]

end

/-! The arrays at the entry of the grid. -/

variable (m : (ℓ : Loc nD τ sig) → Buf (Elt Ideal) ℓ)

abbrev A0 : S128x8x1024.Idx → EReal := m (((0 : Dev nD) : Thread nD τ).loc main_arg0)
abbrev A1 : S2x1024.Idx → EReal := m (((0 : Dev nD) : Thread nD τ).loc main_arg1)
abbrev A2 : S1x1024x3584.Idx → EReal := m (((0 : Dev nD) : Thread nD τ).loc main_arg2)

/-- Row `r` of the batch of sequences laid out one after another. -/
def X (r : Fin 1024) (l : Fin 1024) : EReal := A0 m (ix3 ⟨r.val / 8, by omega⟩ ⟨r.val % 8, by omega⟩ l)

theorem entry_x (r : Fin 1024) (l : Fin 1024) : V m 0 main_v0 (ix2 r l) = X m r l := by
  have e : V m 0 main_v0 = shapeCast S1024x1024 (A0 m) shapeCasts_S128x8x1024_S1024x1024 := by
    simp only [V, V0, hostOps0, List.flatten_cons, List.flatten_nil, List.append_nil]
    after_results
    rfl
  rw [e]
  exact shapeCast_apply _ _ _ _ (by
    rw [Shape.rowMajor_val_three, Shape.rowMajor_val_two]
    show (r.val / 8 * 8 + r.val % 8) * 1024 + l.val = r.val * 1024 + l.val
    omega)
theorem entry_g (l : Fin 1024) : V m 0 main_v4 (ix2 0 l) = A1 m (ix2 0 l) := by
  have e : V m 0 main_v4 = shapeCast S1x1024 (shapeCast S1024 (extractStridedSlice S1x1024 ![0, 0] (A1 m) slices_S2x1024_S1x1024_0_0) shapeCasts_S1x1024_S1024) shapeCasts_S1024_S1x1024 := by
    simp only [V, V0, hostOps0, List.flatten_cons, List.flatten_nil, List.append_nil]
    after_results
    rfl
  rw [e]
  pointwise
theorem entry_w (l : Fin 1024) (b : Fin 3584) : V m 0 main_v3 (ix2 l b) = A2 m (ix3 0 l b) := by
  have e : V m 0 main_v3 = shapeCast S1024x3584 (A2 m) shapeCasts_S1x1024x3584_S1024x3584 := by
    simp only [V, V0, hostOps0, List.flatten_cons, List.flatten_nil, List.append_nil]
    after_results
    rfl
  rw [e]
  pointwise

/-! The blocks a point reads, at an index of the arrays. -/

theorem idx0 : ∀ t : Fin cfg0.N, win0_0.index t = ![t.val / 7, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, t.val % 7] := (by decide +kernel : ∀ t : Fin grid0.N, _)
theorem idx3 : ∀ t : Fin cfg0.N, win0_3.index t = ![t.val / 7, t.val % 7] := (by decide +kernel : ∀ t : Fin grid0.N, _)

/-- The row of the array that is row `a` of a point's block. -/
def row (t : Fin cfg0.N) (a : Fin 1024) : Fin 1024 := ⟨t.val / 7 * 1024 + a.val, by
  have h := lt_of_lt_of_eq t.isLt (show cfg0.N = 7 from N_0)
  omega⟩
/-- The column of the array that is column `b` of a point's block. -/
def col (t : Fin cfg0.N) (b : Fin 512) : Fin 3584 := ⟨t.val % 7 * 512 + b.val, by omega⟩

theorem blk_x (t : Fin cfg0.N) (a l : Fin 1024) : iblk m 0 0 t (ix2 a l) = X m (row t a) l := by
  have e := Pipeline.Window.rect_emb_val (cfg0.win 0) t
  have hi := idx0 t
  exact (congrArg (V m 0 main_v0) (Shape.idx_ext₂ ((e _ (0 : Fin 2)).trans (by rw [hi]; rfl)) ((e _ (1 : Fin 2)).trans (by rw [hi]; exact Nat.zero_add _)))).trans (entry_x m _ l)
theorem blk_g (t : Fin cfg0.N) (l : Fin 1024) : iblk m 0 1 t (ix2 0 l) = A1 m (ix2 0 l) := by
  have e := Pipeline.Window.rect_emb_val (cfg0.win 1) t
  have hi := idx1 t
  exact (congrArg (V m 0 main_v4) (Shape.idx_ext₂ ((e _ (0 : Fin 2)).trans (by rw [hi]; rfl)) ((e _ (1 : Fin 2)).trans (by rw [hi]; exact Nat.zero_add _)))).trans (entry_g m l)
theorem blk_w (t : Fin cfg0.N) (l : Fin 1024) (b : Fin 512) : iblk m 0 2 t (ix2 l b) = A2 m (ix3 0 l (col t b)) := by
  have e := Pipeline.Window.rect_emb_val (cfg0.win 2) t
  have hi := idx2 t
  exact (congrArg (V m 0 main_v3) (Shape.idx_ext₂ ((e _ (0 : Fin 2)).trans (by rw [hi]; exact Nat.zero_add _)) ((e _ (1 : Fin 2)).trans (by rw [hi]; rfl)))).trans (entry_w m l _)

/-! The block of the product that a point leaves. -/

/-- The product, as the contents of the call's array. -/
def proj : S1024x3584.Idx → EReal := fun i => Cert.Rms.dot (X m (i 0)) (fun k => A1 m (ix2 0 k)) (fun l => A2 m (ix3 0 l (i 1)))

theorem out_block (t : Fin cfg0.N) (a : Fin 1024) (b : Fin 512) : (outsAt0 m 0 t.val t.isLt).1 (ix2 a b) = proj m (ix2 (row t a) (col t b)) := by
  refine Cert.Rms.carried (X m) (fun k => A1 m (ix2 0 k)) (fun c l => A2 m (ix3 0 l c)) row col (fun t => t.val % 7 = 0) (outsAt0 m 0)
    (fun t => k0_pay1 (iblk m 0 0 t) (iblk m 0 1 t)) (fun t v => k0_pay2 v (iblk m 0 2 t)) (fun t h0 => ?_) (fun t a l => ?_) (fun t v a b => ?_) (fun t h0 => ?_) (fun t h0 => ?_) t a b
  · refine ⟨Nat.lt_of_le_of_lt (Nat.sub_le _ _) t.isLt, fun h => h0 (by rw [h]), funext fun a => Fin.ext ?_⟩
    show (t.val - 1) / 7 * 1024 + a.val = t.val / 7 * 1024 + a.val
    have h0' : t.val % 7 ≠ 0 := h0
    omega
  · rw [pay1_apply]
    congr 1
    · funext k; exact blk_x m t a k
    · funext k; exact blk_g m t k
  · rw [pay2_apply]
    exact Finset.sum_congr rfl fun l _ => congrArg (_ * ·) (blk_w m t l b)
  · rw [outsAt0_A m 0 t h0, out_A, sout_A]
  · rw [outsAt0_B m 0 t h0, out_B]
    rfl

theorem out_at (t : Fin cfg0.N) (y : S1024x512.Idx) : (outsAt0 m 0 t.val t.isLt).1 y = proj m (((cfg0.win 3).rect t).emb y) := by
  have e := Pipeline.Window.rect_emb_val (cfg0.win 3) t y
  have hi := idx3 t
  obtain ⟨a, b, rfl⟩ : ∃ (a : Fin 1024) (b : Fin 512), y = ix2 a b := ⟨y 0, y 1, Shape.idx_ext₂ rfl rfl⟩
  refine (out_block m t a b).trans (congrArg (proj m) (Shape.idx_ext₂ ?_ ?_))
  · exact ((e (0 : Fin 2)).trans (by rw [hi]; rfl)).symm
  · exact ((e (1 : Fin 2)).trans (by rw [hi]; rfl)).symm

theorem arr_eq : (dats m 0 0).arrAt 3 cfg0.N = proj m := by
  refine (dats m 0 0).arrAt_eq_of_covers 3 (proj m) ?_ fun t hf y => ?_
  · refine Pipeline.Window.covers_of_index_surj _ rfl (fun a => by match a with | ⟨0, _⟩ => exact (by decide : 0 < 1024) | ⟨1, _⟩ => exact (by decide : 0 < 512)) fun β => ?_
    have h0 : (β (0 : Fin 2)).val < 1 := lt_of_lt_of_eq (β (0 : Fin 2)).isLt (show (1024 + 1023) / 1024 = 1 by decide)
    have h1 : (β (1 : Fin 2)).val < 7 := lt_of_lt_of_eq (β (1 : Fin 2)).isLt (show (3584 + 511) / 512 = 7 by decide)
    refine ⟨⟨7 * (β (0 : Fin 2)).val + (β (1 : Fin 2)).val, lt_of_lt_of_eq (by omega) (show cfg0.N = 7 from N_0).symm⟩, fun a => ?_⟩
    refine (congrFun (idx3 _) a).trans ?_
    match a with
    | ⟨0, _⟩ => exact (show (7 * (β (0 : Fin 2)).val + (β (1 : Fin 2)).val) / 7 = (β (0 : Fin 2)).val by omega)
    | ⟨1, _⟩ => exact (show (7 * (β (0 : Fin 2)).val + (β (1 : Fin 2)).val) % 7 = (β (1 : Fin 2)).val by omega)
  · have e := out_at m t y
    rw [← after0_3] at e
    exact e

/-! The results: columns of the product, after the call. -/

theorem arr_out : Pipeline.withArrays cfg0.spec 0 (V0 m 0) (fun w => (dats m 0 0).arrAt w cfg0.N) (Proc.devRef .tc main_v5) = proj m :=
  (Pipeline.withArrays_arr cfg0.spec (by decide) 0 (V0 m 0) (fun w => (dats m 0 0).arrAt w cfg0.N) 3).trans (arr_eq m)

/-- The host's cut of 512 columns into heads. -/
def heads (o : ℕ) (h : S1024x3584.Slices ![0, o] S1024x512) (f : S1024x3584.Idx → EReal) : S1x128x8x8x64.Idx → EReal :=
  broadcastInDim S1x128x8x8x64 ![1, 2, 3, 4] bcast_S128x8x8x64_S1x128x8x8x64_1_2_3_4 (shapeCast S128x8x8x64 (extractStridedSlice S1024x512 ![0, o] f h) shapeCasts_S1024x512_S128x8x8x64)

theorem tail_keys : Pipeline.afterTail₀ cfgs (dats m) 0 (V0 m) [hostOps1] 0 main_v10 = heads 512 slices_S1024x3584_S1024x512_0_512 (proj m) := by
  unfold Pipeline.afterTail₀
  simp only [hostOps1, List.flatten_cons, List.flatten_nil, List.append_nil]
  after_results
  rw [show Pipeline.withArrays (cfgs 0).spec 0 (V0 m 0) (fun w => (dats m 0 0).arrAt w (cfgs 0).N) (Proc.devRef .tc main_v5) = proj m from arr_out m]
  rfl
theorem tail_values : Pipeline.afterTail₀ cfgs (dats m) 0 (V0 m) [hostOps1] 0 main_v11 = heads 1024 slices_S1024x3584_S1024x512_0_1024 (proj m) := by
  unfold Pipeline.afterTail₀
  simp only [hostOps1, List.flatten_cons, List.flatten_nil, List.append_nil]
  after_results
  rw [show Pipeline.withArrays (cfgs 0).spec 0 (V0 m 0) (fun w => (dats m 0 0).arrAt w (cfgs 0).N) (Proc.devRef .tc main_v5) = proj m from arr_out m]
  rfl

/-- The result: a position's key (or value) at a head and a lane. -/
def val (o : ℕ) (ho : o + 512 ≤ 3584) (x : S128x8x1024.Idx → EReal) (g : S2x1024.Idx → EReal) (w : S1x1024x3584.Idx → EReal) : S1x128x8x8x64.Idx → EReal := fun i =>
  Cert.Rms.dot (fun l => x (ix3 (i 1) (i 2) l)) (fun k => g (ix2 0 k))
    (fun l => w (ix3 0 l ⟨o + ((i 3).val * 64 + (i 4).val), by have h3 : (i 3).val < 8 := (i 3).isLt; have h4 : (i 4).val < 64 := (i 4).isLt; omega⟩))

theorem heads_eq (o : ℕ) (ho : o + 512 ≤ 3584) (h : S1024x3584.Slices ![0, o] S1024x512) : heads o h (proj m) = val o ho (A0 m) (A1 m) (A2 m) := by
  funext i
  have h1 : (i 1).val < 128 := (i 1).isLt
  have h2 : (i 2).val < 8 := (i 2).isLt
  have h3 : (i 3).val < 8 := (i 3).isLt
  have h4 : (i 4).val < 64 := (i 4).isLt
  refine (Cert.Rms.heads_at (by decide) (by decide) (by decide) (by decide) rfl o (proj m) h _ _ i ⟨(i 1).val * 8 + (i 2).val, by omega⟩ ⟨o + ((i 3).val * 64 + (i 4).val), by omega⟩ rfl rfl).trans ?_
  exact congrArg (Cert.Rms.dot · (fun k => A1 m (ix2 0 k)) (fun l => A2 m (ix3 0 l ⟨o + ((i 3).val * 64 + (i 4).val), by omega⟩))) (funext fun l => congrArg (A0 m) (Cert.idx_ext₃ (show ((i 1).val * 8 + (i 2).val) / 8 = (i 1).val by omega) (show ((i 1).val * 8 + (i 2).val) % 8 = (i 2).val by omega) rfl))

theorem run_value (ρ : Dev nD → PrngReg) : θ_run (defs (F := Ideal)) (onTc (τ := τ) (main (F := Ideal))) ⟨m, fun _ => 0, ρ⟩ (fun r => ∀ c : Dev nD,
      r.2.mem ((c.tc : Thread nD τ).loc main_v10) = val 512 (by decide) (A0 m) (A1 m) (A2 m)
      ∧ r.2.mem ((c.tc : Thread nD τ).loc main_v11) = val 1024 (by decide) (A0 m) (A1 m) (A2 m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c => by
    obtain rfl : c = 0 := Subsingleton.elim _ _
    exact ⟨((h.1 0).2 main_v10 (Pipeline.mem_restRefs_of main_v10 (by decide) (by decide))).trans ((tail_keys m).trans (heads_eq m 512 _ _)),
      ((h.1 0).2 main_v11 (Pipeline.mem_restRefs_of main_v11 (by decide) (by decide))).trans ((tail_values m).trans (heads_eq m 1024 _ _)), h.2.1 0⟩)
    (θ_run_and (run_main m ρ) (frame m ρ))

end Cert.KernelEvenSampleIdeal.Rms

end
-- ==== Proof.EvenSampleRefIdeal.lean ====
module

public import proofs.«01_k».proof.Proof.EvenSampleKernelIdeal
public import proofs.«01_k».proof.Proof.Gen.ReferenceEvenSampleIdeal.Run
public import proofs.«01_k».proof.Proof.Gen.ReferenceEvenSampleIdeal.Read
public import Idealize.ShloMosaic.Lib.Quiescent

@[expose] public section

noncomputable section

namespace Cert.ReferenceEvenSampleIdeal.Rms

open Cert.ReferenceEvenSampleIdeal Cert.ReferenceEvenSampleIdeal.Read
open Idealize.ShloMosaic Idealize.ShloMosaic.TcCoe Idealize.SL.Sem

variable (x : S128x8x1024.Idx → EReal) (g : S2x1024.Idx → EReal) (w : S1x1024x3584.Idx → EReal)

/-- The normalized row of the reference, at a position. -/
theorem norm_at (b : Fin 128) (s : Fin 8) (l : Fin 1024) :
    val_main_v14 (F := Ideal) x g (ix3 b s l) = Cert.Rms.norm (fun k => x (ix3 b s k)) (fun k => g (ix2 0 k)) l := by
  have hs : val_main_v3 (F := Ideal) x (idx_main_v4 (idx_main_v10 (ix3 b s l))) = ∑ k : Fin 1024, x (ix3 b s k) * x (ix3 b s k) := by
    rw [val_main_v3_apply, val_main_cst_apply]
    refine (congrArg (· + _) Ideal.ofBits_zero_f32).trans ((zero_add _).trans (Finset.sum_congr rfl fun k _ => ?_))
    have hi : idx_main_v3 (idx_main_v4 (idx_main_v10 (ix3 b s l))) k = ix3 b s k := idx_ext₃ rfl rfl rfl
    rw [hi]
    rfl
  have hg : val_main_v13 (F := Ideal) g (ix3 b s l) = g (ix2 0 l) := by
    rw [val_main_v13_apply, val_main_v12_apply, val_main_v1_apply, val_main_v0_apply]
    exact congrArg g (Shape.idx_ext₂ rfl (Nat.mod_eq_of_lt l.isLt))
  rw [val_main_v14_apply, hg, val_main_v11_apply, val_main_v10_apply, val_main_v9_apply, val_main_v8_apply, val_main_v6_apply, val_main_v4_apply, hs,
    val_main_v5_apply, val_main_cst_0_apply, val_main_v7_apply, val_main_cst_1_apply]
  rfl

theorem prod_at (b : Fin 128) (s : Fin 8) (c : Fin 3584) :
    val_main_v16 (F := Ideal) x g w (ix3 b s c) = Cert.Rms.dot (fun l => x (ix3 b s l)) (fun k => g (ix2 0 k)) (fun l => w (ix3 0 l c)) := by
  rw [val_main_v16_apply]
  refine Finset.sum_congr rfl fun l _ => ?_
  have hl : lidx_main_v16 (ix3 b s c) l = ix3 b s l := idx_ext₃ rfl rfl rfl
  have hw : val_main_v15 (F := Ideal) w (ridx_main_v16 (ix3 b s c) l) = w (ix3 0 l c) := by
    rw [val_main_v15_apply]
    exact congrArg w (idx_ext₃ rfl (show (l.val * 3584 + c.val) / 3584 % 1024 = l.val by omega) (show (l.val * 3584 + c.val) % 3584 = c.val by omega))
  rw [hl, norm_at, hw]

theorem keys_eq : val_main_v21 (F := Ideal) x g w = Cert.KernelEvenSampleIdeal.Rms.val 512 (by decide) x g w := by
  funext i
  have h1 : (i 1).val < 128 := (i 1).isLt
  have h2 : (i 2).val < 8 := (i 2).isLt
  have h3 : (i 3).val < 8 := (i 3).isLt
  have h4 : (i 4).val < 64 := (i 4).isLt
  rw [val_main_v21_apply, val_main_v18_apply, val_main_v17_apply]
  refine Eq.trans (congrArg _ (idx_ext₃ ?_ ?_ ?_)) (prod_at x g w (i 1) (i 2) ⟨512 + ((i 3).val * 64 + (i 4).val), by omega⟩)
  · show ((((i 1).val * 8 + (i 2).val) * 8 + (i 3).val) * 64 + (i 4).val) / 4096 = (i 1).val; omega
  · show ((((i 1).val * 8 + (i 2).val) * 8 + (i 3).val) * 64 + (i 4).val) / 512 % 8 = (i 2).val; omega
  · show 512 + ((((i 1).val * 8 + (i 2).val) * 8 + (i 3).val) * 64 + (i 4).val) % 512 = 512 + ((i 3).val * 64 + (i 4).val); omega

theorem values_eq : val_main_v22 (F := Ideal) x g w = Cert.KernelEvenSampleIdeal.Rms.val 1024 (by decide) x g w := by
  funext i
  have h1 : (i 1).val < 128 := (i 1).isLt
  have h2 : (i 2).val < 8 := (i 2).isLt
  have h3 : (i 3).val < 8 := (i 3).isLt
  have h4 : (i 4).val < 64 := (i 4).isLt
  rw [val_main_v22_apply, val_main_v20_apply, val_main_v19_apply]
  refine Eq.trans (congrArg _ (idx_ext₃ ?_ ?_ ?_)) (prod_at x g w (i 1) (i 2) ⟨1024 + ((i 3).val * 64 + (i 4).val), by omega⟩)
  · show ((((i 1).val * 8 + (i 2).val) * 8 + (i 3).val) * 64 + (i 4).val) / 4096 = (i 1).val; omega
  · show ((((i 1).val * 8 + (i 2).val) * 8 + (i 3).val) * 64 + (i 4).val) / 512 % 8 = (i 2).val; omega
  · show 1024 + ((((i 1).val * 8 + (i 2).val) * 8 + (i 3).val) * 64 + (i 4).val) % 512 = 1024 + ((i 3).val * 64 + (i 4).val); omega

theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v21) = Cert.KernelEvenSampleIdeal.Rms.val 512 (by decide) (m ((c.tc : Thread nD τ).loc main_arg0)) (m ((c.tc : Thread nD τ).loc main_arg1)) (m ((c.tc : Thread nD τ).loc main_arg2))
      ∧ r.2.mem ((c.tc : Thread nD τ).loc main_v22) = Cert.KernelEvenSampleIdeal.Rms.val 1024 (by decide) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c => ⟨(h c).1.trans ((val_main_v21_eq _ _ _).trans (keys_eq _ _ _)), (h c).2.1.trans ((val_main_v22_eq _ _ _).trans (values_eq _ _ _)), (h c).2.2⟩) (Value.run m ρ)

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2.2, sem_eq_zero_of_no_sems (by decide) r.2⟩) (Value.run m ρ)

end Cert.ReferenceEvenSampleIdeal.Rms

end
-- ==== Proof.OddKernelIdeal.lean ====
module

public import proofs.«01_k».proof.Proof.EvenKernelIdeal
public import proofs.«01_k».proof.Proof.Gen.KernelOddIdeal.Frame
public import Idealize.ShloMosaic.Lib.Pipeline.ValueKit
public import Idealize.ShloMosaic.Lib.Pipeline.Covers
public import Idealize.ShloMosaic.Lib.Pointwise
public import Idealize.ShloMosaic.Lib.Claim
public import Idealize.ShloMosaic.Lib.Tactic

@[expose] public section

set_option maxRecDepth 16384

noncomputable section

namespace Cert.KernelOddIdeal.Rms

open Cert.KernelOddIdeal Cert.KernelOddIdeal.Gen
open Idealize.ShloMosaic Idealize.ShloMosaic.TcCoe Idealize.SL.Sem

open Cert.KernelEvenIdeal.Rms (hz)

/-! The body's arithmetic at an index, over the extended reals. -/

theorem pay1_apply (x : Vec Ideal S1024x1024 .f32) (g : Vec Ideal S1x1024 .f32) (a l : Fin 1024) :
    k0_pay1 x g (ix2 a l) = Cert.Rms.norm (fun k => x (ix2 a k)) (fun k => g (ix2 0 k)) l := by
  pointwise [k0_pay1]
  rfl

theorem pay2_apply (xn : Vec Ideal S1024x1024 .bf16) (w : Vec Ideal S1024x512 .f32) (a : Fin 1024) (b : Fin 512) :
    k0_pay2 xn w (ix2 a b) = ∑ l : Fin 1024, xn (ix2 a l) * w (ix2 l b) := by
  pointwise [k0_pay2]

/-! What a point leaves, from the blocks it reads. -/

section
variable {F : FTy → Type} [FloatOps F]

theorem sout_A (c : Dev nD) (i : grid0.Coords) (a2 : Memref sig .tc .vmem S1024x1024 .f32) (h2 : a2.IsWhole) (a3 : Memref sig .tc .vmem S1x1024 .f32) (h3 : a3.IsWhole)
    (a4 : Memref sig .tc .vmem S1024x512 .f32) (h4 : a4.IsWhole) (a5 : Memref sig .tc .vmem S1024x512 .f32) (h5 : a5.IsWhole) (a6 : Memref sig .tc .vmem S1024x1024 .bf16) (h6 : a6.IsWhole)
    (hc : cond0_0 i) (x0 : Vec F S1024x1024 .f32) (x1 : Vec F S1x1024 .f32) (x2 : Vec F S1024x512 .f32) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, View.ld_unit_zero (S := S1024x1024) hz, View.ld_unit_zero (S := S1x1024) hz]

theorem out_A (c : Dev nD) (i : grid0.Coords) (a2 : Memref sig .tc .vmem S1024x1024 .f32) (h2 : a2.IsWhole) (a3 : Memref sig .tc .vmem S1x1024 .f32) (h3 : a3.IsWhole)
    (a4 : Memref sig .tc .vmem S1024x512 .f32) (h4 : a4.IsWhole) (a5 : Memref sig .tc .vmem S1024x512 .f32) (h5 : a5.IsWhole) (a6 : Memref sig .tc .vmem S1024x1024 .bf16) (h6 : a6.IsWhole)
    (hc : cond0_0 i) (x0 : Vec F S1024x1024 .f32) (x1 : Vec F S1x1024 .f32) (x2 : Vec F S1024x512 .f32) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz, View.readCov_unit_zero (S := S1024x1024) _ hz]
  simp only [View.readAt_eq_ld, h2.read_unread, h3.read_unread, h4.read_unread, View.ld_unit_zero (S := S1024x1024) hz, View.ld_unit_zero (S := S1x1024) hz, View.ld_unit_zero (S := S1024x512) hz]

theorem out_B (c : Dev nD) (i : grid0.Coords) (a2 : Memref sig .tc .vmem S1024x1024 .f32) (h2 : a2.IsWhole) (a3 : Memref sig .tc .vmem S1x1024 .f32) (h3 : a3.IsWhole)
    (a4 : Memref sig .tc .vmem S1024x512 .f32) (h4 : a4.IsWhole) (a5 : Memref sig .tc .vmem S1024x512 .f32) (h5 : a5.IsWhole) (a6 : Memref sig .tc .vmem S1024x1024 .bf16) (h6 : a6.IsWhole)
    (hc : ¬cond0_0 i) (x0 : Vec F S1024x1024 .f32) (x1 : Vec F S1x1024 .f32) (x2 : Vec F S1024x512 .f32) (xs : Vec F S1024x1024 .bf16) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero hz]
  simp only [View.readAt_eq_ld, h4.read_unread, h6.read_unread, View.ld_unit_zero (S := S1024x1024) hz, View.ld_unit_zero (S := S1024x512) hz]

end

/-! The arrays at the entry of the grid. -/

variable (m : (ℓ : Loc nD τ sig) → Buf (Elt Ideal) ℓ)

abbrev A0 : S16384x1024.Idx → EReal := m (((0 : Dev nD) : Thread nD τ).loc main_arg0)
abbrev A1 : S2x1024.Idx → EReal := m (((0 : Dev nD) : Thread nD τ).loc main_arg1)
abbrev A2 : S1x1024x2048.Idx → EReal := m (((0 : Dev nD) : Thread nD τ).loc main_arg2)

/-- Row `r` of the residual stream. -/
def X (r : Fin 16384) (l : Fin 1024) : EReal := A0 m (ix2 r l)

theorem entry_x (r : Fin 16384) (l : Fin 1024) : V m 0 main_arg0 (ix2 r l) = X m r l := by
  have e : V m 0 main_arg0 = A0 m := by
    simp only [V, V0, hostOps0, List.flatten_cons, List.flatten_nil, List.append_nil]
    after_results
  rw [e]
  rfl
theorem entry_g (l : Fin 1024) : V m 0 main_v3 (ix2 0 l) = A1 m (ix2 1 l) := by
  have e : V m 0 main_v3 = shapeCast S1x1024 (shapeCast S1024 (extractStridedSlice S1x1024 ![1, 0] (A1 m) slices_S2x1024_S1x1024_1_0) shapeCasts_S1x1024_S1024) shapeCasts_S1024_S1x1024 := by
    simp only [V, V0, hostOps0, List.flatten_cons, List.flatten_nil, List.append_nil]
    after_results
    rfl
  rw [e]
  pointwise
theorem entry_w (l : Fin 1024) (b : Fin 2048) : V m 0 main_v2 (ix2 l b) = A2 m (ix3 0 l b) := by
  have e : V m 0 main_v2 = shapeCast S1024x2048 (A2 m) shapeCasts_S1x1024x2048_S1024x2048 := by
    simp only [V, V0, hostOps0, List.flatten_cons, List.flatten_nil, List.append_nil]
    after_results
    rfl
  rw [e]
  pointwise

/-! The blocks a point reads, at an index of the arrays. -/

theorem idx0 : ∀ t : Fin cfg0.N, win0_0.index t = ![t.val / 4, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, t.val % 4] := (by decide +kernel : ∀ t : Fin grid0.N, _)
theorem idx3 : ∀ t : Fin cfg0.N, win0_3.index t = ![t.val / 4, t.val % 4] := (by decide +kernel : ∀ t : Fin grid0.N, _)

/-- The row of the array that is row `a` of a point's block. -/
def row (t : Fin cfg0.N) (a : Fin 1024) : Fin 16384 := ⟨t.val / 4 * 1024 + a.val, by
  have h := lt_of_lt_of_eq t.isLt (show cfg0.N = 64 from N_0)
  omega⟩
/-- The column of the array that is column `b` of a point's block. -/
def col (t : Fin cfg0.N) (b : Fin 512) : Fin 2048 := ⟨t.val % 4 * 512 + b.val, by omega⟩

theorem blk_x (t : Fin cfg0.N) (a l : Fin 1024) : iblk m 0 0 t (ix2 a l) = X m (row t a) l := by
  have e := Pipeline.Window.rect_emb_val (cfg0.win 0) t
  have hi := idx0 t
  exact (congrArg (V m 0 main_arg0) (Shape.idx_ext₂ ((e _ (0 : Fin 2)).trans (by rw [hi]; rfl)) ((e _ (1 : Fin 2)).trans (by rw [hi]; exact Nat.zero_add _)))).trans (entry_x m _ l)
theorem blk_g (t : Fin cfg0.N) (l : Fin 1024) : iblk m 0 1 t (ix2 0 l) = A1 m (ix2 1 l) := by
  have e := Pipeline.Window.rect_emb_val (cfg0.win 1) t
  have hi := idx1 t
  exact (congrArg (V m 0 main_v3) (Shape.idx_ext₂ ((e _ (0 : Fin 2)).trans (by rw [hi]; rfl)) ((e _ (1 : Fin 2)).trans (by rw [hi]; exact Nat.zero_add _)))).trans (entry_g m l)
theorem blk_w (t : Fin cfg0.N) (l : Fin 1024) (b : Fin 512) : iblk m 0 2 t (ix2 l b) = A2 m (ix3 0 l (col t b)) := by
  have e := Pipeline.Window.rect_emb_val (cfg0.win 2) t
  have hi := idx2 t
  exact (congrArg (V m 0 main_v2) (Shape.idx_ext₂ ((e _ (0 : Fin 2)).trans (by rw [hi]; exact Nat.zero_add _)) ((e _ (1 : Fin 2)).trans (by rw [hi]; rfl)))).trans (entry_w m l _)

/-! The block of the product that a point leaves. -/

/-- The product, as the contents of the call's array. -/
def proj : S16384x2048.Idx → EReal := fun i => Cert.Rms.dot (X m (i 0)) (fun k => A1 m (ix2 1 k)) (fun l => A2 m (ix3 0 l (i 1)))

theorem out_block (t : Fin cfg0.N) (a : Fin 1024) (b : Fin 512) : (outsAt0 m 0 t.val t.isLt).1 (ix2 a b) = proj m (ix2 (row t a) (col t b)) := by
  refine Cert.Rms.carried (X m) (fun k => A1 m (ix2 1 k)) (fun c l => A2 m (ix3 0 l c)) row col (fun t => t.val % 4 = 0) (outsAt0 m 0)
    (fun t => k0_pay1 (iblk m 0 0 t) (iblk m 0 1 t)) (fun t v => k0_pay2 v (iblk m 0 2 t)) (fun t h0 => ?_) (fun t a l => ?_) (fun t v a b => ?_) (fun t h0 => ?_) (fun t h0 => ?_) t a b
  · refine ⟨Nat.lt_of_le_of_lt (Nat.sub_le _ _) t.isLt, fun h => h0 (by rw [h]), funext fun a => Fin.ext ?_⟩
    show (t.val - 1) / 4 * 1024 + a.val = t.val / 4 * 1024 + a.val
    have h0' : t.val % 4 ≠ 0 := h0
    omega
  · rw [pay1_apply]
    congr 1
    · funext k; exact blk_x m t a k
    · funext k; exact blk_g m t k
  · rw [pay2_apply]
    exact Finset.sum_congr rfl fun l _ => congrArg (_ * ·) (blk_w m t l b)
  · rw [outsAt0_A m 0 t h0, out_A, sout_A]
  · rw [outsAt0_B m 0 t h0, out_B]
    rfl

theorem out_at (t : Fin cfg0.N) (y : S1024x512.Idx) : (outsAt0 m 0 t.val t.isLt).1 y = proj m (((cfg0.win 3).rect t).emb y) := by
  have e := Pipeline.Window.rect_emb_val (cfg0.win 3) t y
  have hi := idx3 t
  obtain ⟨a, b, rfl⟩ : ∃ (a : Fin 1024) (b : Fin 512), y = ix2 a b := ⟨y 0, y 1, Shape.idx_ext₂ rfl rfl⟩
  refine (out_block m t a b).trans (congrArg (proj m) (Shape.idx_ext₂ ?_ ?_))
  · exact ((e (0 : Fin 2)).trans (by rw [hi]; rfl)).symm
  · exact ((e (1 : Fin 2)).trans (by rw [hi]; rfl)).symm

theorem arr_eq : (dats m 0 0).arrAt 3 cfg0.N = proj m := by
  refine (dats m 0 0).arrAt_eq_of_covers 3 (proj m) ?_ fun t hf y => ?_
  · refine Pipeline.Window.covers_of_index_surj _ rfl (fun a => by match a with | ⟨0, _⟩ => exact (by decide : 0 < 1024) | ⟨1, _⟩ => exact (by decide : 0 < 512)) fun β => ?_
    have h0 : (β (0 : Fin 2)).val < 16 := lt_of_lt_of_eq (β (0 : Fin 2)).isLt (show (16384 + 1023) / 1024 = 16 by decide)
    have h1 : (β (1 : Fin 2)).val < 4 := lt_of_lt_of_eq (β (1 : Fin 2)).isLt (show (2048 + 511) / 512 = 4 by decide)
    refine ⟨⟨4 * (β (0 : Fin 2)).val + (β (1 : Fin 2)).val, lt_of_lt_of_eq (by omega) (show cfg0.N = 64 from N_0).symm⟩, fun a => ?_⟩
    refine (congrFun (idx3 _) a).trans ?_
    match a with
    | ⟨0, _⟩ => exact (show (4 * (β (0 : Fin 2)).val + (β (1 : Fin 2)).val) / 4 = (β (0 : Fin 2)).val by omega)
    | ⟨1, _⟩ => exact (show (4 * (β (0 : Fin 2)).val + (β (1 : Fin 2)).val) % 4 = (β (1 : Fin 2)).val by omega)
  · have e := out_at m t y
    rw [← after0_3] at e
    exact e

/-! The results: columns of the product, after the call. -/

theorem arr_out : Pipeline.withArrays cfg0.spec 0 (V0 m 0) (fun w => (dats m 0 0).arrAt w cfg0.N) (Proc.devRef .tc main_v4) = proj m :=
  (Pipeline.withArrays_arr cfg0.spec (by decide) 0 (V0 m 0) (fun w => (dats m 0 0).arrAt w cfg0.N) 3).trans (arr_eq m)

/-- The host's cut of 512 columns into heads. -/
def heads (o : ℕ) (h : S16384x2048.Slices ![0, o] S16384x512) (f : S16384x2048.Idx → EReal) : S1x4x4096x4x128.Idx → EReal :=
  broadcastInDim S1x4x4096x4x128 ![1, 2, 3, 4] bcast_S4x4096x4x128_S1x4x4096x4x128_1_2_3_4 (shapeCast S4x4096x4x128 (extractStridedSlice S16384x512 ![0, o] f h) shapeCasts_S16384x512_S4x4096x4x128)

theorem tail_keys : Pipeline.afterTail₀ cfgs (dats m) 0 (V0 m) [hostOps1] 0 main_v9 = heads 512 slices_S16384x2048_S16384x512_0_512 (proj m) := by
  unfold Pipeline.afterTail₀
  simp only [hostOps1, List.flatten_cons, List.flatten_nil, List.append_nil]
  after_results
  rw [show Pipeline.withArrays (cfgs 0).spec 0 (V0 m 0) (fun w => (dats m 0 0).arrAt w (cfgs 0).N) (Proc.devRef .tc main_v4) = proj m from arr_out m]
  rfl
theorem tail_values : Pipeline.afterTail₀ cfgs (dats m) 0 (V0 m) [hostOps1] 0 main_v10 = heads 1024 slices_S16384x2048_S16384x512_0_1024 (proj m) := by
  unfold Pipeline.afterTail₀
  simp only [hostOps1, List.flatten_cons, List.flatten_nil, List.append_nil]
  after_results
  rw [show Pipeline.withArrays (cfgs 0).spec 0 (V0 m 0) (fun w => (dats m 0 0).arrAt w (cfgs 0).N) (Proc.devRef .tc main_v4) = proj m from arr_out m]
  rfl

/-- The result: a position's key (or value) at a head and a lane. -/
def val (o : ℕ) (ho : o + 512 ≤ 2048) (x : S16384x1024.Idx → EReal) (g : S2x1024.Idx → EReal) (w : S1x1024x2048.Idx → EReal) : S1x4x4096x4x128.Idx → EReal := fun i =>
  Cert.Rms.dot (fun l => x (ix2 ⟨(i 1).val * 4096 + (i 2).val, by have h1 : (i 1).val < 4 := (i 1).isLt; have h2 : (i 2).val < 4096 := (i 2).isLt; omega⟩ l)) (fun k => g (ix2 1 k))
    (fun l => w (ix3 0 l ⟨o + ((i 3).val * 128 + (i 4).val), by have h3 : (i 3).val < 4 := (i 3).isLt; have h4 : (i 4).val < 128 := (i 4).isLt; omega⟩))

theorem heads_eq (o : ℕ) (ho : o + 512 ≤ 2048) (h : S16384x2048.Slices ![0, o] S16384x512) : heads o h (proj m) = val o ho (A0 m) (A1 m) (A2 m) := by
  funext i
  have h1 : (i 1).val < 4 := (i 1).isLt
  have h2 : (i 2).val < 4096 := (i 2).isLt
  have h3 : (i 3).val < 4 := (i 3).isLt
  have h4 : (i 4).val < 128 := (i 4).isLt
  refine (Cert.Rms.heads_at (by decide) (by decide) (by decide) (by decide) rfl o (proj m) h _ _ i ⟨(i 1).val * 4096 + (i 2).val, by omega⟩ ⟨o + ((i 3).val * 128 + (i 4).val), by omega⟩ rfl rfl).trans ?_
  exact congrArg (Cert.Rms.dot · (fun k => A1 m (ix2 1 k)) (fun l => A2 m (ix3 0 l ⟨o + ((i 3).val * 128 + (i 4).val), by omega⟩))) rfl

theorem run_value (ρ : Dev nD → PrngReg) : θ_run (defs (F := Ideal)) (onTc (τ := τ) (main (F := Ideal))) ⟨m, fun _ => 0, ρ⟩ (fun r => ∀ c : Dev nD,
      r.2.mem ((c.tc : Thread nD τ).loc main_v9) = val 512 (by decide) (A0 m) (A1 m) (A2 m)
      ∧ r.2.mem ((c.tc : Thread nD τ).loc main_v10) = val 1024 (by decide) (A0 m) (A1 m) (A2 m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c => by
    obtain rfl : c = 0 := Subsingleton.elim _ _
    exact ⟨((h.1 0).2 main_v9 (Pipeline.mem_restRefs_of main_v9 (by decide) (by decide))).trans ((tail_keys m).trans (heads_eq m 512 _ _)),
      ((h.1 0).2 main_v10 (Pipeline.mem_restRefs_of main_v10 (by decide) (by decide))).trans ((tail_values m).trans (heads_eq m 1024 _ _)), h.2.1 0⟩)
    (θ_run_and (run_main m ρ) (frame m ρ))

end Cert.KernelOddIdeal.Rms

end
-- ==== Proof.OddRefIdeal.lean ====
module

public import proofs.«01_k».proof.Proof.OddKernelIdeal
public import proofs.«01_k».proof.Proof.Gen.ReferenceOddIdeal.Run
public import proofs.«01_k».proof.Proof.Gen.ReferenceOddIdeal.Read
public import Idealize.ShloMosaic.Lib.Quiescent

@[expose] public section

noncomputable section

namespace Cert.ReferenceOddIdeal.Rms

open Cert.ReferenceOddIdeal Cert.ReferenceOddIdeal.Read
open Idealize.ShloMosaic Idealize.ShloMosaic.TcCoe Idealize.SL.Sem

variable (x : S16384x1024.Idx → EReal) (g : S2x1024.Idx → EReal) (w : S1x1024x2048.Idx → EReal)

/-- The normalized row of the reference, at a position. -/
theorem norm_at (r : Fin 16384) (l : Fin 1024) :
    val_main_v14 (F := Ideal) x g (ix2 r l) = Cert.Rms.norm (fun k => x (ix2 r k)) (fun k => g (ix2 1 k)) l := by
  have hs : val_main_v3 (F := Ideal) x (idx_main_v4 (idx_main_v10 (ix2 r l))) = ∑ k : Fin 1024, x (ix2 r k) * x (ix2 r k) := by
    rw [val_main_v3_apply, val_main_cst_apply]
    refine (congrArg (· + _) Ideal.ofBits_zero_f32).trans ((zero_add _).trans (Finset.sum_congr rfl fun k _ => ?_))
    have hi : idx_main_v3 (idx_main_v4 (idx_main_v10 (ix2 r l))) k = ix2 r k := Shape.idx_ext₂ rfl rfl
    rw [hi]
    rfl
  have hg : val_main_v13 (F := Ideal) g (ix2 r l) = g (ix2 1 l) := by
    rw [val_main_v13_apply, val_main_v12_apply, val_main_v1_apply, val_main_v0_apply]
    exact congrArg g (Shape.idx_ext₂ rfl (Nat.mod_eq_of_lt l.isLt))
  rw [val_main_v14_apply, hg, val_main_v11_apply, val_main_v10_apply, val_main_v9_apply, val_main_v8_apply, val_main_v6_apply, val_main_v4_apply, hs,
    val_main_v5_apply, val_main_cst_0_apply, val_main_v7_apply, val_main_cst_1_apply]
  rfl

theorem prod_at (r : Fin 16384) (c : Fin 2048) :
    val_main_v16 (F := Ideal) x g w (ix2 r c) = Cert.Rms.dot (fun l => x (ix2 r l)) (fun k => g (ix2 1 k)) (fun l => w (ix3 0 l c)) := by
  rw [val_main_v16_apply]
  refine Finset.sum_congr rfl fun l _ => ?_
  have hl : lidx_main_v16 (ix2 r c) l = ix2 r l := Shape.idx_ext₂ rfl rfl
  have hw : val_main_v15 (F := Ideal) w (ridx_main_v16 (ix2 r c) l) = w (ix3 0 l c) := by
    rw [val_main_v15_apply]
    exact congrArg w (idx_ext₃ rfl (show (l.val * 2048 + c.val) / 2048 % 1024 = l.val by omega) (show (l.val * 2048 + c.val) % 2048 = c.val by omega))
  rw [hl, norm_at, hw]

theorem keys_eq : val_main_v21 (F := Ideal) x g w = Cert.KernelOddIdeal.Rms.val 512 (by decide) x g w := by
  funext i
  have h1 : (i 1).val < 4 := (i 1).isLt
  have h2 : (i 2).val < 4096 := (i 2).isLt
  have h3 : (i 3).val < 4 := (i 3).isLt
  have h4 : (i 4).val < 128 := (i 4).isLt
  rw [val_main_v21_apply, val_main_v18_apply, val_main_v17_apply]
  refine Eq.trans (congrArg _ (Shape.idx_ext₂ ?_ ?_)) (prod_at x g w ⟨(i 1).val * 4096 + (i 2).val, by omega⟩ ⟨512 + ((i 3).val * 128 + (i 4).val), by omega⟩)
  · show ((((i 1).val * 4096 + (i 2).val) * 4 + (i 3).val) * 128 + (i 4).val) / 512 = (i 1).val * 4096 + (i 2).val; omega
  · show 512 + ((((i 1).val * 4096 + (i 2).val) * 4 + (i 3).val) * 128 + (i 4).val) % 512 = 512 + ((i 3).val * 128 + (i 4).val); omega

theorem values_eq : val_main_v22 (F := Ideal) x g w = Cert.KernelOddIdeal.Rms.val 1024 (by decide) x g w := by
  funext i
  have h1 : (i 1).val < 4 := (i 1).isLt
  have h2 : (i 2).val < 4096 := (i 2).isLt
  have h3 : (i 3).val < 4 := (i 3).isLt
  have h4 : (i 4).val < 128 := (i 4).isLt
  rw [val_main_v22_apply, val_main_v20_apply, val_main_v19_apply]
  refine Eq.trans (congrArg _ (Shape.idx_ext₂ ?_ ?_)) (prod_at x g w ⟨(i 1).val * 4096 + (i 2).val, by omega⟩ ⟨1024 + ((i 3).val * 128 + (i 4).val), by omega⟩)
  · show ((((i 1).val * 4096 + (i 2).val) * 4 + (i 3).val) * 128 + (i 4).val) / 512 = (i 1).val * 4096 + (i 2).val; omega
  · show 1024 + ((((i 1).val * 4096 + (i 2).val) * 4 + (i 3).val) * 128 + (i 4).val) % 512 = 1024 + ((i 3).val * 128 + (i 4).val); omega

theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v21) = Cert.KernelOddIdeal.Rms.val 512 (by decide) (m ((c.tc : Thread nD τ).loc main_arg0)) (m ((c.tc : Thread nD τ).loc main_arg1)) (m ((c.tc : Thread nD τ).loc main_arg2))
      ∧ r.2.mem ((c.tc : Thread nD τ).loc main_v22) = Cert.KernelOddIdeal.Rms.val 1024 (by decide) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c => ⟨(h c).1.trans ((val_main_v21_eq _ _ _).trans (keys_eq _ _ _)), (h c).2.1.trans ((val_main_v22_eq _ _ _).trans (values_eq _ _ _)), (h c).2.2⟩) (Value.run m ρ)

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2.2, sem_eq_zero_of_no_sems (by decide) r.2⟩) (Value.run m ρ)

end Cert.ReferenceOddIdeal.Rms

end
-- ==== Proof.OddSampleKernelIdeal.lean ====
module

public import proofs.«01_k».proof.Proof.EvenKernelIdeal
public import proofs.«01_k».proof.Proof.Gen.KernelOddSampleIdeal.Frame
public import Idealize.ShloMosaic.Lib.Pipeline.ValueKit
public import Idealize.ShloMosaic.Lib.Pipeline.Covers
public import Idealize.ShloMosaic.Lib.Pointwise
public import Idealize.ShloMosaic.Lib.Claim
public import Idealize.ShloMosaic.Lib.Tactic

@[expose] public section

set_option maxRecDepth 16384

noncomputable section

namespace Cert.KernelOddSampleIdeal.Rms

open Cert.KernelOddSampleIdeal Cert.KernelOddSampleIdeal.Gen
open Idealize.ShloMosaic Idealize.ShloMosaic.TcCoe Idealize.SL.Sem

open Cert.KernelEvenIdeal.Rms (hz)

/-! The body's arithmetic at an index, over the extended reals. -/

theorem pay1_apply (x : Vec Ideal S1024x1024 .f32) (g : Vec Ideal S1x1024 .f32) (a l : Fin 1024) :
    k0_pay1 x g (ix2 a l) = Cert.Rms.norm (fun k => x (ix2 a k)) (fun k => g (ix2 0 k)) l := by
  pointwise [k0_pay1]
  rfl

theorem pay2_apply (xn : Vec Ideal S1024x1024 .bf16) (w : Vec Ideal S1024x512 .f32) (a : Fin 1024) (b : Fin 512) :
    k0_pay2 xn w (ix2 a b) = ∑ l : Fin 1024, xn (ix2 a l) * w (ix2 l b) := by
  pointwise [k0_pay2]

/-! What a point leaves, from the blocks it reads. -/

section
variable {F : FTy → Type} [FloatOps F]

theorem sout_A (c : Dev nD) (i : grid0.Coords) (a2 : Memref sig .tc .vmem S1024x1024 .f32) (h2 : a2.IsWhole) (a3 : Memref sig .tc .vmem S1x1024 .f32) (h3 : a3.IsWhole)
    (a4 : Memref sig .tc .vmem S1024x512 .f32) (h4 : a4.IsWhole) (a5 : Memref sig .tc .vmem S1024x512 .f32) (h5 : a5.IsWhole) (a6 : Memref sig .tc .vmem S1024x1024 .bf16) (h6 : a6.IsWhole)
    (hc : cond0_0 i) (x0 : Vec F S1024x1024 .f32) (x1 : Vec F S1x1024 .f32) (x2 : Vec F S1024x512 .f32) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, View.ld_unit_zero (S := S1024x1024) hz, View.ld_unit_zero (S := S1x1024) hz]

theorem out_A (c : Dev nD) (i : grid0.Coords) (a2 : Memref sig .tc .vmem S1024x1024 .f32) (h2 : a2.IsWhole) (a3 : Memref sig .tc .vmem S1x1024 .f32) (h3 : a3.IsWhole)
    (a4 : Memref sig .tc .vmem S1024x512 .f32) (h4 : a4.IsWhole) (a5 : Memref sig .tc .vmem S1024x512 .f32) (h5 : a5.IsWhole) (a6 : Memref sig .tc .vmem S1024x1024 .bf16) (h6 : a6.IsWhole)
    (hc : cond0_0 i) (x0 : Vec F S1024x1024 .f32) (x1 : Vec F S1x1024 .f32) (x2 : Vec F S1024x512 .f32) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz, View.readCov_unit_zero (S := S1024x1024) _ hz]
  simp only [View.readAt_eq_ld, h2.read_unread, h3.read_unread, h4.read_unread, View.ld_unit_zero (S := S1024x1024) hz, View.ld_unit_zero (S := S1x1024) hz, View.ld_unit_zero (S := S1024x512) hz]

theorem out_B (c : Dev nD) (i : grid0.Coords) (a2 : Memref sig .tc .vmem S1024x1024 .f32) (h2 : a2.IsWhole) (a3 : Memref sig .tc .vmem S1x1024 .f32) (h3 : a3.IsWhole)
    (a4 : Memref sig .tc .vmem S1024x512 .f32) (h4 : a4.IsWhole) (a5 : Memref sig .tc .vmem S1024x512 .f32) (h5 : a5.IsWhole) (a6 : Memref sig .tc .vmem S1024x1024 .bf16) (h6 : a6.IsWhole)
    (hc : ¬cond0_0 i) (x0 : Vec F S1024x1024 .f32) (x1 : Vec F S1x1024 .f32) (x2 : Vec F S1024x512 .f32) (xs : Vec F S1024x1024 .bf16) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero hz]
  simp only [View.readAt_eq_ld, h4.read_unread, h6.read_unread, View.ld_unit_zero (S := S1024x1024) hz, View.ld_unit_zero (S := S1024x512) hz]

end

/-! The arrays at the entry of the grid. -/

variable (m : (ℓ : Loc nD τ sig) → Buf (Elt Ideal) ℓ)

abbrev A0 : S1024x1024.Idx → EReal := m (((0 : Dev nD) : Thread nD τ).loc main_arg0)
abbrev A1 : S2x1024.Idx → EReal := m (((0 : Dev nD) : Thread nD τ).loc main_arg1)
abbrev A2 : S1x1024x2048.Idx → EReal := m (((0 : Dev nD) : Thread nD τ).loc main_arg2)

/-- Row `r` of the residual stream. -/
def X (r : Fin 1024) (l : Fin 1024) : EReal := A0 m (ix2 r l)

theorem entry_x (r : Fin 1024) (l : Fin 1024) : V m 0 main_arg0 (ix2 r l) = X m r l := by
  have e : V m 0 main_arg0 = A0 m := by
    simp only [V, V0, hostOps0, List.flatten_cons, List.flatten_nil, List.append_nil]
    after_results
  rw [e]
  rfl
theorem entry_g (l : Fin 1024) : V m 0 main_v3 (ix2 0 l) = A1 m (ix2 1 l) := by
  have e : V m 0 main_v3 = shapeCast S1x1024 (shapeCast S1024 (extractStridedSlice S1x1024 ![1, 0] (A1 m) slices_S2x1024_S1x1024_1_0) shapeCasts_S1x1024_S1024) shapeCasts_S1024_S1x1024 := by
    simp only [V, V0, hostOps0, List.flatten_cons, List.flatten_nil, List.append_nil]
    after_results
    rfl
  rw [e]
  pointwise
theorem entry_w (l : Fin 1024) (b : Fin 2048) : V m 0 main_v2 (ix2 l b) = A2 m (ix3 0 l b) := by
  have e : V m 0 main_v2 = shapeCast S1024x2048 (A2 m) shapeCasts_S1x1024x2048_S1024x2048 := by
    simp only [V, V0, hostOps0, List.flatten_cons, List.flatten_nil, List.append_nil]
    after_results
    rfl
  rw [e]
  pointwise

/-! The blocks a point reads, at an index of the arrays. -/

theorem idx0 : ∀ t : Fin cfg0.N, win0_0.index t = ![t.val / 4, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, t.val % 4] := (by decide +kernel : ∀ t : Fin grid0.N, _)
theorem idx3 : ∀ t : Fin cfg0.N, win0_3.index t = ![t.val / 4, t.val % 4] := (by decide +kernel : ∀ t : Fin grid0.N, _)

/-- The row of the array that is row `a` of a point's block. -/
def row (t : Fin cfg0.N) (a : Fin 1024) : Fin 1024 := ⟨t.val / 4 * 1024 + a.val, by
  have h := lt_of_lt_of_eq t.isLt (show cfg0.N = 4 from N_0)
  omega⟩
/-- The column of the array that is column `b` of a point's block. -/
def col (t : Fin cfg0.N) (b : Fin 512) : Fin 2048 := ⟨t.val % 4 * 512 + b.val, by omega⟩

theorem blk_x (t : Fin cfg0.N) (a l : Fin 1024) : iblk m 0 0 t (ix2 a l) = X m (row t a) l := by
  have e := Pipeline.Window.rect_emb_val (cfg0.win 0) t
  have hi := idx0 t
  exact (congrArg (V m 0 main_arg0) (Shape.idx_ext₂ ((e _ (0 : Fin 2)).trans (by rw [hi]; rfl)) ((e _ (1 : Fin 2)).trans (by rw [hi]; exact Nat.zero_add _)))).trans (entry_x m _ l)
theorem blk_g (t : Fin cfg0.N) (l : Fin 1024) : iblk m 0 1 t (ix2 0 l) = A1 m (ix2 1 l) := by
  have e := Pipeline.Window.rect_emb_val (cfg0.win 1) t
  have hi := idx1 t
  exact (congrArg (V m 0 main_v3) (Shape.idx_ext₂ ((e _ (0 : Fin 2)).trans (by rw [hi]; rfl)) ((e _ (1 : Fin 2)).trans (by rw [hi]; exact Nat.zero_add _)))).trans (entry_g m l)
theorem blk_w (t : Fin cfg0.N) (l : Fin 1024) (b : Fin 512) : iblk m 0 2 t (ix2 l b) = A2 m (ix3 0 l (col t b)) := by
  have e := Pipeline.Window.rect_emb_val (cfg0.win 2) t
  have hi := idx2 t
  exact (congrArg (V m 0 main_v2) (Shape.idx_ext₂ ((e _ (0 : Fin 2)).trans (by rw [hi]; exact Nat.zero_add _)) ((e _ (1 : Fin 2)).trans (by rw [hi]; rfl)))).trans (entry_w m l _)

/-! The block of the product that a point leaves. -/

/-- The product, as the contents of the call's array. -/
def proj : S1024x2048.Idx → EReal := fun i => Cert.Rms.dot (X m (i 0)) (fun k => A1 m (ix2 1 k)) (fun l => A2 m (ix3 0 l (i 1)))

theorem out_block (t : Fin cfg0.N) (a : Fin 1024) (b : Fin 512) : (outsAt0 m 0 t.val t.isLt).1 (ix2 a b) = proj m (ix2 (row t a) (col t b)) := by
  refine Cert.Rms.carried (X m) (fun k => A1 m (ix2 1 k)) (fun c l => A2 m (ix3 0 l c)) row col (fun t => t.val % 4 = 0) (outsAt0 m 0)
    (fun t => k0_pay1 (iblk m 0 0 t) (iblk m 0 1 t)) (fun t v => k0_pay2 v (iblk m 0 2 t)) (fun t h0 => ?_) (fun t a l => ?_) (fun t v a b => ?_) (fun t h0 => ?_) (fun t h0 => ?_) t a b
  · refine ⟨Nat.lt_of_le_of_lt (Nat.sub_le _ _) t.isLt, fun h => h0 (by rw [h]), funext fun a => Fin.ext ?_⟩
    show (t.val - 1) / 4 * 1024 + a.val = t.val / 4 * 1024 + a.val
    have h0' : t.val % 4 ≠ 0 := h0
    omega
  · rw [pay1_apply]
    congr 1
    · funext k; exact blk_x m t a k
    · funext k; exact blk_g m t k
  · rw [pay2_apply]
    exact Finset.sum_congr rfl fun l _ => congrArg (_ * ·) (blk_w m t l b)
  · rw [outsAt0_A m 0 t h0, out_A, sout_A]
  · rw [outsAt0_B m 0 t h0, out_B]
    rfl

theorem out_at (t : Fin cfg0.N) (y : S1024x512.Idx) : (outsAt0 m 0 t.val t.isLt).1 y = proj m (((cfg0.win 3).rect t).emb y) := by
  have e := Pipeline.Window.rect_emb_val (cfg0.win 3) t y
  have hi := idx3 t
  obtain ⟨a, b, rfl⟩ : ∃ (a : Fin 1024) (b : Fin 512), y = ix2 a b := ⟨y 0, y 1, Shape.idx_ext₂ rfl rfl⟩
  refine (out_block m t a b).trans (congrArg (proj m) (Shape.idx_ext₂ ?_ ?_))
  · exact ((e (0 : Fin 2)).trans (by rw [hi]; rfl)).symm
  · exact ((e (1 : Fin 2)).trans (by rw [hi]; rfl)).symm

theorem arr_eq : (dats m 0 0).arrAt 3 cfg0.N = proj m := by
  refine (dats m 0 0).arrAt_eq_of_covers 3 (proj m) ?_ fun t hf y => ?_
  · refine Pipeline.Window.covers_of_index_surj _ rfl (fun a => by match a with | ⟨0, _⟩ => exact (by decide : 0 < 1024) | ⟨1, _⟩ => exact (by decide : 0 < 512)) fun β => ?_
    have h0 : (β (0 : Fin 2)).val < 1 := lt_of_lt_of_eq (β (0 : Fin 2)).isLt (show (1024 + 1023) / 1024 = 1 by decide)
    have h1 : (β (1 : Fin 2)).val < 4 := lt_of_lt_of_eq (β (1 : Fin 2)).isLt (show (2048 + 511) / 512 = 4 by decide)
    refine ⟨⟨4 * (β (0 : Fin 2)).val + (β (1 : Fin 2)).val, lt_of_lt_of_eq (by omega) (show cfg0.N = 4 from N_0).symm⟩, fun a => ?_⟩
    refine (congrFun (idx3 _) a).trans ?_
    match a with
    | ⟨0, _⟩ => exact (show (4 * (β (0 : Fin 2)).val + (β (1 : Fin 2)).val) / 4 = (β (0 : Fin 2)).val by omega)
    | ⟨1, _⟩ => exact (show (4 * (β (0 : Fin 2)).val + (β (1 : Fin 2)).val) % 4 = (β (1 : Fin 2)).val by omega)
  · have e := out_at m t y
    rw [← after0_3] at e
    exact e

/-! The results: columns of the product, after the call. -/

theorem arr_out : Pipeline.withArrays cfg0.spec 0 (V0 m 0) (fun w => (dats m 0 0).arrAt w cfg0.N) (Proc.devRef .tc main_v4) = proj m :=
  (Pipeline.withArrays_arr cfg0.spec (by decide) 0 (V0 m 0) (fun w => (dats m 0 0).arrAt w cfg0.N) 3).trans (arr_eq m)

/-- The host's cut of 512 columns into heads. -/
def heads (o : ℕ) (h : S1024x2048.Slices ![0, o] S1024x512) (f : S1024x2048.Idx → EReal) : S1x128x8x4x128.Idx → EReal :=
  broadcastInDim S1x128x8x4x128 ![1, 2, 3, 4] bcast_S128x8x4x128_S1x128x8x4x128_1_2_3_4 (shapeCast S128x8x4x128 (extractStridedSlice S1024x512 ![0, o] f h) shapeCasts_S1024x512_S128x8x4x128)

theorem tail_keys : Pipeline.afterTail₀ cfgs (dats m) 0 (V0 m) [hostOps1] 0 main_v9 = heads 512 slices_S1024x2048_S1024x512_0_512 (proj m) := by
  unfold Pipeline.afterTail₀
  simp only [hostOps1, List.flatten_cons, List.flatten_nil, List.append_nil]
  after_results
  rw [show Pipeline.withArrays (cfgs 0).spec 0 (V0 m 0) (fun w => (dats m 0 0).arrAt w (cfgs 0).N) (Proc.devRef .tc main_v4) = proj m from arr_out m]
  rfl
theorem tail_values : Pipeline.afterTail₀ cfgs (dats m) 0 (V0 m) [hostOps1] 0 main_v10 = heads 1024 slices_S1024x2048_S1024x512_0_1024 (proj m) := by
  unfold Pipeline.afterTail₀
  simp only [hostOps1, List.flatten_cons, List.flatten_nil, List.append_nil]
  after_results
  rw [show Pipeline.withArrays (cfgs 0).spec 0 (V0 m 0) (fun w => (dats m 0 0).arrAt w (cfgs 0).N) (Proc.devRef .tc main_v4) = proj m from arr_out m]
  rfl

/-- The result: a position's key (or value) at a head and a lane. -/
def val (o : ℕ) (ho : o + 512 ≤ 2048) (x : S1024x1024.Idx → EReal) (g : S2x1024.Idx → EReal) (w : S1x1024x2048.Idx → EReal) : S1x128x8x4x128.Idx → EReal := fun i =>
  Cert.Rms.dot (fun l => x (ix2 ⟨(i 1).val * 8 + (i 2).val, by have h1 : (i 1).val < 128 := (i 1).isLt; have h2 : (i 2).val < 8 := (i 2).isLt; omega⟩ l)) (fun k => g (ix2 1 k))
    (fun l => w (ix3 0 l ⟨o + ((i 3).val * 128 + (i 4).val), by have h3 : (i 3).val < 4 := (i 3).isLt; have h4 : (i 4).val < 128 := (i 4).isLt; omega⟩))

theorem heads_eq (o : ℕ) (ho : o + 512 ≤ 2048) (h : S1024x2048.Slices ![0, o] S1024x512) : heads o h (proj m) = val o ho (A0 m) (A1 m) (A2 m) := by
  funext i
  have h1 : (i 1).val < 128 := (i 1).isLt
  have h2 : (i 2).val < 8 := (i 2).isLt
  have h3 : (i 3).val < 4 := (i 3).isLt
  have h4 : (i 4).val < 128 := (i 4).isLt
  refine (Cert.Rms.heads_at (by decide) (by decide) (by decide) (by decide) rfl o (proj m) h _ _ i ⟨(i 1).val * 8 + (i 2).val, by omega⟩ ⟨o + ((i 3).val * 128 + (i 4).val), by omega⟩ rfl rfl).trans ?_
  exact congrArg (Cert.Rms.dot · (fun k => A1 m (ix2 1 k)) (fun l => A2 m (ix3 0 l ⟨o + ((i 3).val * 128 + (i 4).val), by omega⟩))) rfl

theorem run_value (ρ : Dev nD → PrngReg) : θ_run (defs (F := Ideal)) (onTc (τ := τ) (main (F := Ideal))) ⟨m, fun _ => 0, ρ⟩ (fun r => ∀ c : Dev nD,
      r.2.mem ((c.tc : Thread nD τ).loc main_v9) = val 512 (by decide) (A0 m) (A1 m) (A2 m)
      ∧ r.2.mem ((c.tc : Thread nD τ).loc main_v10) = val 1024 (by decide) (A0 m) (A1 m) (A2 m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c => by
    obtain rfl : c = 0 := Subsingleton.elim _ _
    exact ⟨((h.1 0).2 main_v9 (Pipeline.mem_restRefs_of main_v9 (by decide) (by decide))).trans ((tail_keys m).trans (heads_eq m 512 _ _)),
      ((h.1 0).2 main_v10 (Pipeline.mem_restRefs_of main_v10 (by decide) (by decide))).trans ((tail_values m).trans (heads_eq m 1024 _ _)), h.2.1 0⟩)
    (θ_run_and (run_main m ρ) (frame m ρ))

end Cert.KernelOddSampleIdeal.Rms

end
-- ==== Proof.OddSampleRefIdeal.lean ====
module

public import proofs.«01_k».proof.Proof.OddSampleKernelIdeal
public import proofs.«01_k».proof.Proof.Gen.ReferenceOddSampleIdeal.Run
public import proofs.«01_k».proof.Proof.Gen.ReferenceOddSampleIdeal.Read
public import Idealize.ShloMosaic.Lib.Quiescent

@[expose] public section

noncomputable section

namespace Cert.ReferenceOddSampleIdeal.Rms

open Cert.ReferenceOddSampleIdeal Cert.ReferenceOddSampleIdeal.Read
open Idealize.ShloMosaic Idealize.ShloMosaic.TcCoe Idealize.SL.Sem

variable (x : S1024x1024.Idx → EReal) (g : S2x1024.Idx → EReal) (w : S1x1024x2048.Idx → EReal)

/-- The normalized row of the reference, at a position. -/
theorem norm_at (r : Fin 1024) (l : Fin 1024) :
    val_main_v14 (F := Ideal) x g (ix2 r l) = Cert.Rms.norm (fun k => x (ix2 r k)) (fun k => g (ix2 1 k)) l := by
  have hs : val_main_v3 (F := Ideal) x (idx_main_v4 (idx_main_v10 (ix2 r l))) = ∑ k : Fin 1024, x (ix2 r k) * x (ix2 r k) := by
    rw [val_main_v3_apply, val_main_cst_apply]
    refine (congrArg (· + _) Ideal.ofBits_zero_f32).trans ((zero_add _).trans (Finset.sum_congr rfl fun k _ => ?_))
    have hi : idx_main_v3 (idx_main_v4 (idx_main_v10 (ix2 r l))) k = ix2 r k := Shape.idx_ext₂ rfl rfl
    rw [hi]
    rfl
  have hg : val_main_v13 (F := Ideal) g (ix2 r l) = g (ix2 1 l) := by
    rw [val_main_v13_apply, val_main_v12_apply, val_main_v1_apply, val_main_v0_apply]
    exact congrArg g (Shape.idx_ext₂ rfl (Nat.mod_eq_of_lt l.isLt))
  rw [val_main_v14_apply, hg, val_main_v11_apply, val_main_v10_apply, val_main_v9_apply, val_main_v8_apply, val_main_v6_apply, val_main_v4_apply, hs,
    val_main_v5_apply, val_main_cst_0_apply, val_main_v7_apply, val_main_cst_1_apply]
  rfl

theorem prod_at (r : Fin 1024) (c : Fin 2048) :
    val_main_v16 (F := Ideal) x g w (ix2 r c) = Cert.Rms.dot (fun l => x (ix2 r l)) (fun k => g (ix2 1 k)) (fun l => w (ix3 0 l c)) := by
  rw [val_main_v16_apply]
  refine Finset.sum_congr rfl fun l _ => ?_
  have hl : lidx_main_v16 (ix2 r c) l = ix2 r l := Shape.idx_ext₂ rfl rfl
  have hw : val_main_v15 (F := Ideal) w (ridx_main_v16 (ix2 r c) l) = w (ix3 0 l c) := by
    rw [val_main_v15_apply]
    exact congrArg w (idx_ext₃ rfl (show (l.val * 2048 + c.val) / 2048 % 1024 = l.val by omega) (show (l.val * 2048 + c.val) % 2048 = c.val by omega))
  rw [hl, norm_at, hw]

theorem keys_eq : val_main_v21 (F := Ideal) x g w = Cert.KernelOddSampleIdeal.Rms.val 512 (by decide) x g w := by
  funext i
  have h1 : (i 1).val < 128 := (i 1).isLt
  have h2 : (i 2).val < 8 := (i 2).isLt
  have h3 : (i 3).val < 4 := (i 3).isLt
  have h4 : (i 4).val < 128 := (i 4).isLt
  rw [val_main_v21_apply, val_main_v18_apply, val_main_v17_apply]
  refine Eq.trans (congrArg _ (Shape.idx_ext₂ ?_ ?_)) (prod_at x g w ⟨(i 1).val * 8 + (i 2).val, by omega⟩ ⟨512 + ((i 3).val * 128 + (i 4).val), by omega⟩)
  · show ((((i 1).val * 8 + (i 2).val) * 4 + (i 3).val) * 128 + (i 4).val) / 512 = (i 1).val * 8 + (i 2).val; omega
  · show 512 + ((((i 1).val * 8 + (i 2).val) * 4 + (i 3).val) * 128 + (i 4).val) % 512 = 512 + ((i 3).val * 128 + (i 4).val); omega

theorem values_eq : val_main_v22 (F := Ideal) x g w = Cert.KernelOddSampleIdeal.Rms.val 1024 (by decide) x g w := by
  funext i
  have h1 : (i 1).val < 128 := (i 1).isLt
  have h2 : (i 2).val < 8 := (i 2).isLt
  have h3 : (i 3).val < 4 := (i 3).isLt
  have h4 : (i 4).val < 128 := (i 4).isLt
  rw [val_main_v22_apply, val_main_v20_apply, val_main_v19_apply]
  refine Eq.trans (congrArg _ (Shape.idx_ext₂ ?_ ?_)) (prod_at x g w ⟨(i 1).val * 8 + (i 2).val, by omega⟩ ⟨1024 + ((i 3).val * 128 + (i 4).val), by omega⟩)
  · show ((((i 1).val * 8 + (i 2).val) * 4 + (i 3).val) * 128 + (i 4).val) / 512 = (i 1).val * 8 + (i 2).val; omega
  · show 1024 + ((((i 1).val * 8 + (i 2).val) * 4 + (i 3).val) * 128 + (i 4).val) % 512 = 1024 + ((i 3).val * 128 + (i 4).val); omega

theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v21) = Cert.KernelOddSampleIdeal.Rms.val 512 (by decide) (m ((c.tc : Thread nD τ).loc main_arg0)) (m ((c.tc : Thread nD τ).loc main_arg1)) (m ((c.tc : Thread nD τ).loc main_arg2))
      ∧ r.2.mem ((c.tc : Thread nD τ).loc main_v22) = Cert.KernelOddSampleIdeal.Rms.val 1024 (by decide) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c => ⟨(h c).1.trans ((val_main_v21_eq _ _ _).trans (keys_eq _ _ _)), (h c).2.1.trans ((val_main_v22_eq _ _ _).trans (values_eq _ _ _)), (h c).2.2⟩) (Value.run m ρ)

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2.2, sem_eq_zero_of_no_sems (by decide) r.2⟩) (Value.run m ρ)

end Cert.ReferenceOddSampleIdeal.Rms

end
-- ==== Proof.S5SampleBody.lean ====
module

public import proofs.«01_k».proof.Proof.Gen.S5SampleIdeal.Frame
public import Idealize.ShloMosaic.Lib.Pipeline.ValueKit
public import Idealize.ShloMosaic.Lib.Pipeline.Covers
public import Idealize.ShloMosaic.Lib.Pointwise
public import Idealize.ShloMosaic.Lib.Claim
public import Idealize.ShloMosaic.Lib.Tactic

@[expose] public section

set_option maxRecDepth 16384

noncomputable section

namespace Cert.S5SampleIdeal.Scan

open Cert.S5SampleIdeal Cert.S5SampleIdeal.Gen
open Idealize.ShloMosaic Idealize.ShloMosaic.TcCoe Idealize.SL.Sem

/-! One step of the recurrence, at an index: the first arrangement of its arithmetic in the kernel;
the other blocks' are the same functions, cut at other places. -/

theorem re_apply (p q : Vec Ideal S8x512 .f32) (a b : Vec Ideal S1x1x512 .f32) (x : Vec Ideal S1x8x512 .f32) (r : Fin 8) (l : Fin 512) :
    k0_pay3 p q a b x (ix2 r l) = a (ix3 0 0 l) * p (ix2 r l) - b (ix3 0 0 l) * q (ix2 r l) + x (ix3 0 r l) := by
  pointwise [k0_pay3, k0_pay1, k0_pay2]

theorem im_apply (p q : Vec Ideal S8x512 .f32) (a b : Vec Ideal S1x1x512 .f32) (x : Vec Ideal S1x8x512 .f32) (r : Fin 8) (l : Fin 512) :
    k0_pay4 p q a b x (ix2 r l) = a (ix3 0 0 l) * q (ix2 r l) + b (ix3 0 0 l) * p (ix2 r l) + x (ix3 0 r l) := by
  pointwise [k0_pay4, k0_pay1, k0_pay2]

/-- The third block's imaginary part, whose two products the kernel takes apart. -/
theorem im_apply' (p q : Vec Ideal S8x512 .f32) (a b : Vec Ideal S1x1x512 .f32) (x : Vec Ideal S1x8x512 .f32) (r : Fin 8) (l : Fin 512) :
    k0_pay18 p (k0_pay16 q a) (k0_pay17 b) x (ix2 r l) = a (ix3 0 0 l) * q (ix2 r l) + b (ix3 0 0 l) * p (ix2 r l) + x (ix3 0 r l) := by
  pointwise [k0_pay18, k0_pay16, k0_pay17, k0_pay13, k0_pay14]

/-- What the loop carries: the real and the imaginary part of each of the four blocks of states. -/
abbrev Carry : Type := FVec Ideal S8x512 .f32 × FVec Ideal S8x512 .f32 × FVec Ideal S8x512 .f32 × FVec Ideal S8x512 .f32 × FVec Ideal S8x512 .f32 × FVec Ideal S8x512 .f32 × FVec Ideal S8x512 .f32 × FVec Ideal S8x512 .f32

def re (s : Carry) (k : Fin 4) : FVec Ideal S8x512 .f32 := match k with
  | 0 => s.1
  | 1 => s.2.2.1
  | 2 => s.2.2.2.2.1
  | 3 => s.2.2.2.2.2.2.1
def im (s : Carry) (k : Fin 4) : FVec Ideal S8x512 .f32 := match k with
  | 0 => s.2.1
  | 1 => s.2.2.2.1
  | 2 => s.2.2.2.2.2.1
  | 3 => s.2.2.2.2.2.2.2

/-- A lane of the real half of a block's row, and of the imaginary half. -/
abbrev lo (l : Fin 512) : Fin 1024 := ⟨l.val, by omega⟩
abbrev hi (l : Fin 512) : Fin 1024 := ⟨512 + l.val, by omega⟩

theorem trips_eq : k0_t1_loop.trips = 8 := by decide +kernel

/-- The row of the time-major inputs that trip `n` adds to sequence `r`. -/
abbrev at_ (n : Fin k0_t1_loop.trips) (r : Fin 8) : Fin 64 := ⟨8 * n.val + r.val, by have h := lt_of_lt_of_eq n.isLt trips_eq; omega⟩

theorem off1 : ∀ n, k0_off1 n = ![0, 8 * n.val, 0] := by decide +kernel
theorem off2 : ∀ n, k0_off2 n = ![0, 8 * n.val, 512] := by decide +kernel
theorem off3 : ∀ n, k0_off3 n = ![1, 8 * n.val, 0] := by decide +kernel
theorem off4 : ∀ n, k0_off4 n = ![1, 8 * n.val, 512] := by decide +kernel
theorem off5 : ∀ n, k0_off5 n = ![2, 8 * n.val, 0] := by decide +kernel
theorem off6 : ∀ n, k0_off6 n = ![2, 8 * n.val, 512] := by decide +kernel
theorem off7 : ∀ n, k0_off7 n = ![3, 8 * n.val, 0] := by decide +kernel
theorem off8 : ∀ n, k0_off8 n = ![3, 8 * n.val, 512] := by decide +kernel

/-! Reads through rectangles, at an index. -/

/-- A block's row of decays. -/
theorem ld_decay (v : View sig .tc .vmem S4x2x1024 .f32) (f : v.ty.Contents (Elt Ideal)) (k : Fin 4) (j : Fin 2) (h) (l : Fin 512) :
    View.readAt (Elt Ideal) v (Rect.unit (s := S4x2x1024) ![k.val, j.val, 0] S1x1x512.size h).toLoadRect f (ix3 0 0 l) = v.read (Elt Ideal) f (ix3 k j (lo l)) := by
  rw [View.readAt_apply]
  refine congrArg _ (funext fun a => Fin.ext ?_)
  match a with
  | ⟨0, _⟩ => show k.val + 1 * 0 = k.val; omega
  | ⟨1, _⟩ => show j.val + 1 * 0 = j.val; omega
  | ⟨2, _⟩ => show 0 + 1 * l.val = l.val; omega

/-- Eight rows of a block, a half of its lanes. -/
theorem ld_rows {R : ℕ} (v : View sig .tc .vmem ⟨3, ![4, R, 1024]⟩ .f32) (f : v.ty.Contents (Elt Ideal)) (off : Fin 3 → ℕ) (h) (r : Fin 8) (l : Fin 512)
    (k : Fin 4) (y : Fin R) (z : Fin 1024) (h0 : off 0 = k.val) (h1 : off 1 + r.val = y.val) (h2 : off 2 + l.val = z.val) :
    View.readAt (Elt Ideal) v (Rect.unit (s := ⟨3, ![4, R, 1024]⟩) off S1x8x512.size h).toLoadRect f (ix3 0 r l) = v.read (Elt Ideal) f (ix3 k y z) := by
  rw [View.readAt_apply]
  refine congrArg _ (funext fun a => Fin.ext ?_)
  match a with
  | ⟨0, _⟩ => show off 0 + 1 * 0 = k.val; omega
  | ⟨1, _⟩ => show off 1 + 1 * r.val = y.val; omega
  | ⟨2, _⟩ => show off 2 + 1 * l.val = z.val; omega

section
variable (𝒱 : Variants) (c : Dev nD) (bd : Option 𝒱.V) (i : grid0.Coords)
  (a2 : Memref sig .tc .vmem S8x8x512 .f32) (h2 : a2.IsWhole) (a3 : Memref sig .tc .vmem S4x8x1024 .f32) (h3 : a3.IsWhole) (a4 : Memref sig .tc .vmem S4x2x1024 .f32) (h4 : a4.IsWhole)
  (a5 : Memref sig .tc .vmem S4x128x1024 .f32) (h5 : a5.IsWhole) (a6 : Memref sig .tc .vmem S4x1024x128 .f32) (h6 : a6.IsWhole) (a7 : Memref sig .tc .vmem S4x1x128 .f32) (h7 : a7.IsWhole)
  (a8 : Memref sig .tc .vmem S512x512 .f32) (h8 : a8.IsWhole) (a9 : Memref sig .tc .vmem S1x512 .f32) (h9 : a9.IsWhole) (a10 : Memref sig .tc .vmem S8x8x512 .f32) (h10 : a10.IsWhole)
  (a11 : Memref sig .tc .vmem S4x8x1024 .f32) (h11 : a11.IsWhole) (a12 : Memref sig .tc .vmem S4x64x128 .f32) (h12 : a12.IsWhole) (a13 : Memref sig .tc .vmem S4x64x1024 .f32) (h13 : a13.IsWhole)
  (a14 : Memref sig .tc .vmem S4x64x128 .f32) (h14 : a14.IsWhole) (a15 : Memref sig .tc .vmem S4x8x1024 .f32) (h15 : a15.IsWhole)
  (v : Vec Ideal S1x8x512 .f32) (X : BufTy.Contents (Elt Ideal) a4.view.ty) (n : Fin k0_t1_loop.trips)
  (s : Carry) (f : BufTy.Contents (Elt Ideal) a13.view.ty)

theorem trip_re (k : Fin 4) (r : Fin 8) (l : Fin 512) :
    re (tripR_k0_t1 (F := Ideal) 𝒱 c bd i a2 h2 a3 h3 a4 h4 a5 h5 a6 h6 a7 h7 a8 h8 a9 h9 a10 h10 a11 h11 a12 h12 a13 h13 a14 h14 a15 h15 v X n s f) k (ix2 r l)
      = a4.view.read (Elt Ideal) X (ix3 k 0 (lo l)) * re s k (ix2 r l) - a4.view.read (Elt Ideal) X (ix3 k 1 (lo l)) * im s k (ix2 r l)
        + a13.view.read (Elt Ideal) f (ix3 k (at_ n r) (lo l)) := by
  unfold tripR_k0_t1 trip_k0_t1
  dsimp only
  rw [← ld_decay a4.view X k 0 (by revert k; decide) l, ← ld_decay a4.view X k 1 (by revert k; decide) l]
  match k with
  | 0 =>
    rw [← ld_rows (R := 64) a13.view f (k0_off1 n) (k0_off1_inb n) r l 0 (at_ n r) (lo l) (by rw [off1]; rfl) (by rw [off1]; rfl) (by rw [off1]; exact Nat.zero_add _)]
    exact re_apply _ _ _ _ _ r l
  | 1 =>
    rw [← ld_rows (R := 64) a13.view f (k0_off3 n) (k0_off3_inb n) r l 1 (at_ n r) (lo l) (by rw [off3]; rfl) (by rw [off3]; rfl) (by rw [off3]; exact Nat.zero_add _)]
    exact re_apply _ _ _ _ _ r l
  | 2 =>
    rw [← ld_rows (R := 64) a13.view f (k0_off5 n) (k0_off5_inb n) r l 2 (at_ n r) (lo l) (by rw [off5]; rfl) (by rw [off5]; rfl) (by rw [off5]; exact Nat.zero_add _)]
    exact re_apply _ _ _ _ _ r l
  | 3 =>
    rw [← ld_rows (R := 64) a13.view f (k0_off7 n) (k0_off7_inb n) r l 3 (at_ n r) (lo l) (by rw [off7]; rfl) (by rw [off7]; rfl) (by rw [off7]; exact Nat.zero_add _)]
    exact re_apply _ _ _ _ _ r l

theorem trip_im (k : Fin 4) (r : Fin 8) (l : Fin 512) :
    im (tripR_k0_t1 (F := Ideal) 𝒱 c bd i a2 h2 a3 h3 a4 h4 a5 h5 a6 h6 a7 h7 a8 h8 a9 h9 a10 h10 a11 h11 a12 h12 a13 h13 a14 h14 a15 h15 v X n s f) k (ix2 r l)
      = a4.view.read (Elt Ideal) X (ix3 k 0 (lo l)) * im s k (ix2 r l) + a4.view.read (Elt Ideal) X (ix3 k 1 (lo l)) * re s k (ix2 r l)
        + a13.view.read (Elt Ideal) f (ix3 k (at_ n r) (hi l)) := by
  unfold tripR_k0_t1 trip_k0_t1
  dsimp only
  rw [← ld_decay a4.view X k 0 (by revert k; decide) l, ← ld_decay a4.view X k 1 (by revert k; decide) l]
  match k with
  | 0 =>
    rw [← ld_rows (R := 64) a13.view f (k0_off2 n) (k0_off2_inb n) r l 0 (at_ n r) (hi l) (by rw [off2]; rfl) (by rw [off2]; rfl) (by rw [off2]; rfl)]
    exact im_apply _ _ _ _ _ r l
  | 1 =>
    rw [← ld_rows (R := 64) a13.view f (k0_off4 n) (k0_off4_inb n) r l 1 (at_ n r) (hi l) (by rw [off4]; rfl) (by rw [off4]; rfl) (by rw [off4]; rfl)]
    exact im_apply _ _ _ _ _ r l
  | 2 =>
    rw [← ld_rows (R := 64) a13.view f (k0_off6 n) (k0_off6_inb n) r l 2 (at_ n r) (hi l) (by rw [off6]; rfl) (by rw [off6]; rfl) (by rw [off6]; rfl)]
    exact im_apply' _ _ _ _ _ r l
  | 3 =>
    rw [← ld_rows (R := 64) a13.view f (k0_off8 n) (k0_off8_inb n) r l 3 (at_ n r) (hi l) (by rw [off8]; rfl) (by rw [off8]; rfl) (by rw [off8]; rfl)]
    exact im_apply _ _ _ _ _ r l

/-- A trip writes its own eight rows only. -/
theorem trip_rows (y : S4x64x1024.Idx) (hy : 8 * n.val + 8 ≤ (y 1).val) :
    ∀ p ∈ tripL_k0_t1 (F := Ideal) 𝒱 c bd i a2 h2 a3 h3 a4 h4 a5 h5 a6 h6 a7 h7 a8 h8 a9 h9 a10 h10 a11 h11 a12 h12 a13 h13 a14 h14 a15 h15 v X n s f, y ∉ p.1.set := by
  have miss : ∀ p : View.Piece (Elt Ideal) S4x64x1024 .f32, p.1.off 1 = 8 * n.val ∧ p.1.stride 1 = 1 ∧ p.1.size 1 = 8 → y ∉ p.1.set :=
    fun p h => Rect.not_mem_set_of_axis _ y (1 : Fin 3) (8 * n.val) 8 h.1 h.2.1 h.2.2 (Or.inr hy)
  intro p hp
  refine miss p ?_
  revert p
  unfold tripL_k0_t1 trip_k0_t1
  dsimp only
  refine List.forall_mem_cons.2 ⟨⟨congrFun (off8 n) 1, rfl, rfl⟩, List.forall_mem_cons.2 ⟨⟨congrFun (off7 n) 1, rfl, rfl⟩,
    List.forall_mem_cons.2 ⟨⟨congrFun (off6 n) 1, rfl, rfl⟩, List.forall_mem_cons.2 ⟨⟨congrFun (off5 n) 1, rfl, rfl⟩,
    List.forall_mem_cons.2 ⟨⟨congrFun (off4 n) 1, rfl, rfl⟩, List.forall_mem_cons.2 ⟨⟨congrFun (off3 n) 1, rfl, rfl⟩,
    List.forall_mem_cons.2 ⟨⟨congrFun (off2 n) 1, rfl, rfl⟩, List.forall_mem_cons.2 ⟨⟨congrFun (off1 n) 1, rfl, rfl⟩, fun p hp => absurd hp List.not_mem_nil⟩⟩⟩⟩⟩⟩⟩⟩

end

end Cert.S5SampleIdeal.Scan

end
-- ==== Proof.Recur.lean ====
module

public import Idealize.ShloMosaic.Lib.Pointwise

@[expose] public section

noncomputable section

namespace Cert.Recur

/-- A state of a linear recurrence with a complex decay, its two parts kept apart: after `n` inputs. -/
def run (ar ai : EReal) (br bi : ℕ → EReal) (h : EReal × EReal) : ℕ → EReal × EReal
  | 0 => h
  | n + 1 => (ar * (run ar ai br bi h n).1 - ai * (run ar ai br bi h n).2 + br n,
      ar * (run ar ai br bi h n).2 + ai * (run ar ai br bi h n).1 + bi n)

/-- States whose inputs agree up to `n` agree after `n`. -/
theorem run_congr {ar ai : EReal} {br bi br' bi' : ℕ → EReal} {h : EReal × EReal} (N : ℕ) (hr : ∀ n < N, br n = br' n) (hi : ∀ n < N, bi n = bi' n) :
    run ar ai br bi h N = run ar ai br' bi' h N := by
  induction N with
  | zero => rfl
  | succ n ih =>
    have e := ih (fun m hm => hr m (by omega)) (fun m hm => hi m (by omega))
    simp only [run, e, hr n (by omega), hi n (by omega)]

/-- A sum of products with a matrix that is zero off the diagonal blocks has the terms of one block only. -/
theorem sum_block {G C : ℕ} (g : Fin G) (u : Fin (G * C) → EReal) (b : Fin C → EReal) (w : Fin (G * C) → EReal)
    (hon : ∀ c : Fin C, w (finProdFinEquiv (g, c)) = b c) (hoff : ∀ g' (c : Fin C), g' ≠ g → w (finProdFinEquiv (g', c)) = 0) :
    ∑ j, u j * w j = ∑ c : Fin C, u (finProdFinEquiv (g, c)) * b c := by
  rw [← finProdFinEquiv.sum_comp, Fintype.sum_prod_type, Finset.sum_eq_single g]
  · exact Finset.sum_congr rfl fun c _ => by rw [hon]
  · intro g' _ hg
    exact Finset.sum_eq_zero fun c _ => by rw [hoff g' c hg, mul_zero]
  · exact fun h => absurd (Finset.mem_univ g) h

/-- The states of 32 groups of 64 after eight inputs: sequence `b`, group `g`, state `p`. An input is the group's
16 channels against the input vector of the state. -/
def states (u : Fin 128 → Fin 8 → Fin 512 → EReal) (ar ai : Fin 32 → Fin 64 → EReal) (br bi : Fin 32 → Fin 64 → Fin 16 → EReal)
    (hr hi : Fin 128 → Fin 32 → Fin 64 → EReal) (b : Fin 128) (g : Fin 32) (p : Fin 64) : EReal × EReal :=
  run (ar g p) (ai g p) (fun t => ∑ c : Fin 16, u b ⟨t % 8, by omega⟩ ⟨16 * g.val + c.val, by omega⟩ * br g p c)
    (fun t => ∑ c : Fin 16, u b ⟨t % 8, by omega⟩ ⟨16 * g.val + c.val, by omega⟩ * bi g p c) (hr b g p, hi b g p) 8

end Cert.Recur

end
-- ==== Proof.S5SampleLoop.lean ====
module

public import proofs.«01_k».proof.Proof.S5SampleBody
public import proofs.«01_k».proof.Proof.Recur
public import proofs.«01_k».proof.Proof.Idx

@[expose] public section

set_option maxRecDepth 16384

noncomputable section

namespace Cert.S5SampleIdeal.Scan

open Cert.S5SampleIdeal Cert.S5SampleIdeal.Gen
open Idealize.ShloMosaic Idealize.ShloMosaic.TcCoe Idealize.SL.Sem

/-! The inputs laid out by time: eight stores a block, each of one sequence at every eighth row. -/

/-- The time-major inputs: row `8 t + j` of block `k` is sequence `j` at time `t`, the block's lanes. -/
def utm (x0 : Vec Ideal S8x8x512 .f32) (k : Fin 4) (y : Fin 64) (l : Fin 128) : EReal :=
  x0 (ix3 ⟨y.val % 8, by omega⟩ ⟨y.val / 8, by omega⟩ ⟨128 * k.val + l.val, by omega⟩)

theorem inb_in (k : Fin 4) (j : Fin 8) : ∀ a, ![j.val, 0, 128 * k.val] a + S1x8x128.size a ≤ S8x8x512.size a := by
  intro a
  match a with
  | ⟨0, _⟩ => show j.val + 1 ≤ 8; omega
  | ⟨1, _⟩ => show 0 + 8 ≤ 8; omega
  | ⟨2, _⟩ => show 128 * k.val + 128 ≤ 512; omega

/-- Sequence `j`'s lanes of block `k`, as the store through the stride takes them. -/
def lanes (a2 : Memref sig .tc .vmem S8x8x512 .f32) (h2 : a2.IsWhole) (x0 : Vec Ideal S8x8x512 .f32) (k : Fin 4) (j : Fin 8) : Vec Ideal S1x8x128 .f32 :=
  k0_pay27 (View.readAt (Elt Ideal) a2.view (Rect.unit (s := S8x8x512) ![j.val, 0, 128 * k.val] S1x8x128.size (inb_in k j)).toLoadRect (h2.unread x0))

theorem inb_st (k : Fin 4) (j : Fin 8) : ∀ a, S1x8x128.size a = 0 ∨ ![k.val, j.val, 0] a + ![1, 8, 1] a * (S1x8x128.size a - 1) < S4x64x128.size a := by
  intro a
  match a with
  | ⟨0, _⟩ => exact Or.inr (show k.val + 1 * (1 - 1) < 4 by omega)
  | ⟨1, _⟩ => exact Or.inr (show j.val + 8 * (8 - 1) < 64 by omega)
  | ⟨2, _⟩ => exact Or.inr (show 0 + 1 * (128 - 1) < 128 by omega)

/-- The store of one sequence's lanes. -/
def upiece (k : Fin 4) (j : Fin 8) (w : Vec Ideal S1x8x128 .f32) : View.Piece (Elt Ideal) S4x64x128 .f32 :=
  ⟨{ off := ![k.val, j.val, 0], size := S1x8x128.size, stride := ![1, 8, 1], inb := inb_st k j, stride_pos := spos_1_8_1 }, w⟩

/-- A block's eight stores, the last first. -/
def ublock (a2 : Memref sig .tc .vmem S8x8x512 .f32) (h2 : a2.IsWhole) (x0 : Vec Ideal S8x8x512 .f32) (k : Fin 4) : List (View.Piece (Elt Ideal) S4x64x128 .f32) :=
  [7, 6, 5, 4, 3, 2, 1, 0].map fun j => upiece k j (lanes a2 h2 x0 k j)

theorem upiece_at (a2 : Memref sig .tc .vmem S8x8x512 .f32) (h2 : a2.IsWhole) (x0 : Vec Ideal S8x8x512 .f32) (k : Fin 4) (j : Fin 8) (x : S1x8x128.Idx) :
    (upiece k j (lanes a2 h2 x0 k j)).2 x = (fun y : S4x64x128.Idx => utm x0 (y 0) (y 1) (y 2)) ((upiece k j (lanes a2 h2 x0 k j)).1.emb x) := by
  obtain ⟨t, l, rfl⟩ : ∃ (t : Fin 8) (l : Fin 128), x = ix3 0 t l := ⟨x 1, x 2, Cert.idx_ext₃ (Nat.lt_one_iff.mp (x 0).isLt) rfl rfl⟩
  have e : lanes a2 h2 x0 k j (ix3 0 t l) = View.readAt (Elt Ideal) a2.view (Rect.unit (s := S8x8x512) ![j.val, 0, 128 * k.val] S1x8x128.size (inb_in k j)).toLoadRect (h2.unread x0) (ix3 0 t l) := by
    unfold lanes
    pointwise [k0_pay27]
  refine e.trans ?_
  rw [View.readAt_apply, h2.read_unread]
  refine congrArg x0 (funext fun a => Fin.ext ?_)
  match a with
  | ⟨0, _⟩ => show j.val + 1 * 0 = (j.val + 8 * t.val) % 8; omega
  | ⟨1, _⟩ => show 0 + 1 * t.val = (j.val + 8 * t.val) / 8; omega
  | ⟨2, _⟩ => show 128 * k.val + 1 * l.val = 128 * (k.val + 1 * 0) + (0 + 1 * l.val); omega

/-- Reading a block back after its eight stores, whatever was stored before them. -/
theorem utm_read (v : View sig .tc .vmem S4x64x128 .f32) (f : v.ty.Contents (Elt Ideal)) (L : List (View.Piece (Elt Ideal) S4x64x128 .f32))
    (a2 : Memref sig .tc .vmem S8x8x512 .f32) (h2 : a2.IsWhole) (x0 : Vec Ideal S8x8x512 .f32) (k : Fin 4) (y : Fin 64) (l : Fin 128) :
    v.read (Elt Ideal) (v.writes (Elt Ideal) f (ublock a2 h2 x0 k ++ L)) (ix3 k y l) = utm x0 k y l := by
  rw [View.writes_append]
  refine View.read_writes_apply_of_pieces v _ (fun z : S4x64x128.Idx => utm x0 (z 0) (z 1) (z 2)) _ (fun p hp x => ?_) (ix3 k y l) ⟨upiece k ⟨y.val % 8, by omega⟩ (lanes a2 h2 x0 k ⟨y.val % 8, by omega⟩), ?_, ?_⟩
  · obtain ⟨j, -, rfl⟩ := List.mem_map.mp hp
    exact upiece_at a2 h2 x0 k j x
  · refine List.mem_map.mpr ⟨_, ?_, rfl⟩
    generalize (⟨y.val % 8, _⟩ : Fin 8) = j
    revert j
    decide
  · refine (LoadRect.mem_set _).mpr fun a => ?_
    match a with
    | ⟨0, _⟩ => exact ⟨0, (by decide : 0 < 1), by show k.val = k.val + 1 * 0; omega⟩
    | ⟨1, _⟩ => exact ⟨y.val / 8, (by show y.val / 8 < 8; omega), by show y.val = y.val % 8 + 8 * (y.val / 8); omega⟩
    | ⟨2, _⟩ => exact ⟨l.val, l.isLt, by show l.val = 0 + 1 * l.val; omega⟩

/-! The products with the input matrices. -/

/-- Block `k`'s inputs at row `y` times its matrix. -/
def inputs (x0 : Vec Ideal S8x8x512 .f32) (x3 : Vec Ideal S4x128x1024 .f32) (k : Fin 4) (y : Fin 64) (z : Fin 1024) : EReal :=
  ∑ l : Fin 128, utm x0 k y l * x3 (ix3 k l z)

/-- The same, at an index of the buffer. -/
def inputsAt (x0 : Vec Ideal S8x8x512 .f32) (x3 : Vec Ideal S4x128x1024 .f32) : Vec Ideal S4x64x1024 .f32 := fun y => inputs x0 x3 (y 0) (y 1) (y 2)

theorem dot_apply (u : Vec Ideal S1x64x128 .f32) (w : Vec Ideal S1x128x1024 .f32) (y : Fin 64) (z : Fin 1024) :
    k0_pay66 u w (ix3 0 y z) = ∑ l : Fin 128, u (ix3 0 y l) * w (ix3 0 l z) := by
  pointwise [k0_pay66]

section
variable (c : Dev nD) (i : grid0.Coords)
  (a2 : Memref sig .tc .vmem S8x8x512 .f32) (h2 : a2.IsWhole) (a3 : Memref sig .tc .vmem S4x8x1024 .f32) (h3 : a3.IsWhole) (a4 : Memref sig .tc .vmem S4x2x1024 .f32) (h4 : a4.IsWhole)
  (a5 : Memref sig .tc .vmem S4x128x1024 .f32) (h5 : a5.IsWhole) (a6 : Memref sig .tc .vmem S4x1024x128 .f32) (h6 : a6.IsWhole) (a7 : Memref sig .tc .vmem S4x1x128 .f32) (h7 : a7.IsWhole)
  (a8 : Memref sig .tc .vmem S512x512 .f32) (h8 : a8.IsWhole) (a9 : Memref sig .tc .vmem S1x512 .f32) (h9 : a9.IsWhole) (a10 : Memref sig .tc .vmem S8x8x512 .f32) (h10 : a10.IsWhole)
  (a11 : Memref sig .tc .vmem S4x8x1024 .f32) (h11 : a11.IsWhole) (a12 : Memref sig .tc .vmem S4x64x128 .f32) (h12 : a12.IsWhole) (a13 : Memref sig .tc .vmem S4x64x1024 .f32) (h13 : a13.IsWhole)
  (a14 : Memref sig .tc .vmem S4x64x128 .f32) (h14 : a14.IsWhole) (a15 : Memref sig .tc .vmem S4x8x1024 .f32) (h15 : a15.IsWhole)
  (x0 : Vec Ideal S8x8x512 .f32) (x1 : Vec Ideal S4x8x1024 .f32) (x2 : Vec Ideal S4x2x1024 .f32) (x3 : Vec Ideal S4x128x1024 .f32)

/-- A block's product, from the block read back and its matrix read. -/
theorem dot_block (L : List (View.Piece (Elt Ideal) S4x64x128 .f32)) (k : Fin 4) (hu) (hw) (y : Fin 64) (z : Fin 1024) :
    k0_pay66 (a12.view.readCov (ublock a2 h2 x0 k ++ L) (Rect.unit (s := S4x64x128) ![k.val, 0, 0] S1x64x128.size hu).toLoadRect)
      (View.readAt (Elt Ideal) a5.view (Rect.unit (s := S4x128x1024) ![k.val, 0, 0] S1x128x1024.size hw).toLoadRect (h5.unread x3)) (ix3 0 y z)
      = inputs x0 x3 k y z := by
  rw [dot_apply]
  refine Finset.sum_congr rfl fun l _ => congrArg₂ (· * ·) ?_ ?_
  · have e : (Rect.unit (s := S4x64x128) ![k.val, 0, 0] S1x64x128.size hu).toLoadRect.idx (ix3 0 y l) = ix3 k y l := funext fun a => Fin.ext (by
      match a with
      | ⟨0, _⟩ => show k.val + 1 * 0 = k.val; omega
      | ⟨1, _⟩ => show 0 + 1 * y.val = y.val; omega
      | ⟨2, _⟩ => show 0 + 1 * l.val = l.val; omega)
    exact (congrArg (a12.view.read (Elt Ideal) (a12.view.writes (Elt Ideal) a12.view.junk (ublock a2 h2 x0 k ++ L))) e).trans (utm_read a12.view a12.view.junk L a2 h2 x0 k y l)
  · rw [View.readAt_apply, h5.read_unread]
    refine congrArg x3 (funext fun a => Fin.ext ?_)
    match a with
    | ⟨0, _⟩ => show k.val + 1 * 0 = k.val; omega
    | ⟨1, _⟩ => show 0 + 1 * l.val = l.val; omega
    | ⟨2, _⟩ => show 0 + 1 * z.val = z.val; omega

/-- What the loop finds in the buffer of inputs. -/
theorem hb_read (k : Fin 4) (y : Fin 64) (z : Fin 1024) :
    a13.view.read (Elt Ideal) (a13.view.writes (Elt Ideal) a13.view.junk (kernelRun0_A.sl.HS1_4 (F := Ideal) c a2 h2 a5 h5 a12 x0 x3)) (ix3 k y z) = inputs x0 x3 k y z := by
  refine View.read_writes_apply_of_pieces a13.view _ (inputsAt x0 x3) _ ?_ (ix3 k y z) ?_
  · have ok : ∀ (k : Fin 4) (h) (w : Vec Ideal S1x64x1024 .f32), (∀ y z, w (ix3 0 y z) = inputs x0 x3 k y z) →
        ∀ x, w x = (inputsAt x0 x3) ((Rect.unit (s := S4x64x1024) ![k.val, 0, 0] S1x64x1024.size h).emb x) := by
      intro k h w hw x
      obtain ⟨y, z, rfl⟩ : ∃ (y : Fin 64) (z : Fin 1024), x = ix3 0 y z := ⟨x 1, x 2, Cert.idx_ext₃ (Nat.lt_one_iff.mp (x 0).isLt) rfl rfl⟩
      refine (hw y z).trans ?_
      show inputs x0 x3 k y z = inputs x0 x3 ⟨k.val + 1 * 0, _⟩ ⟨0 + 1 * y.val, _⟩ ⟨0 + 1 * z.val, _⟩
      congr 1 <;> exact Fin.ext (by dsimp only; omega)
    unfold kernelRun0_A.sl.HS1_4
    refine List.forall_mem_cons.2 ⟨ok 3 (by decide) _ fun y z => dot_block a2 h2 a5 h5 a12 x0 x3 (kernelRun0_A.sl.HS0_24 (F := Ideal) c a2 h2 x0) 3 _ _ y z,
      List.forall_mem_cons.2 ⟨ok 2 (by decide) _ fun y z => dot_block a2 h2 a5 h5 a12 x0 x3 (kernelRun0_A.sl.HS0_16 (F := Ideal) c a2 h2 x0) 2 _ _ y z,
      List.forall_mem_cons.2 ⟨ok 1 (by decide) _ fun y z => dot_block a2 h2 a5 h5 a12 x0 x3 (kernelRun0_A.sl.HS0_8 (F := Ideal) c a2 h2 x0) 1 _ _ y z,
      List.forall_mem_cons.2 ⟨ok 0 (by decide) _ fun y z => dot_block a2 h2 a5 h5 a12 x0 x3 [] 0 _ _ y z, fun p hp => absurd hp List.not_mem_nil⟩⟩⟩⟩
  · have cov : ∀ k : Fin 4, ∀ h, ix3 k y z ∈ (Rect.unit (s := S4x64x1024) ![k.val, 0, 0] S1x64x1024.size h).set := by
      intro k h
      refine (LoadRect.mem_set _).mpr fun a => ?_
      match a with
      | ⟨0, _⟩ => exact ⟨0, (by decide : 0 < 1), by show k.val = k.val + 1 * 0; omega⟩
      | ⟨1, _⟩ => exact ⟨y.val, y.isLt, by show y.val = 0 + 1 * y.val; omega⟩
      | ⟨2, _⟩ => exact ⟨z.val, z.isLt, by show z.val = 0 + 1 * z.val; omega⟩
    unfold kernelRun0_A.sl.HS1_4
    match k with
    | 0 => exact ⟨_, List.mem_cons_of_mem _ (List.mem_cons_of_mem _ (List.mem_cons_of_mem _ List.mem_cons_self)), cov 0 (by decide)⟩
    | 1 => exact ⟨_, List.mem_cons_of_mem _ (List.mem_cons_of_mem _ List.mem_cons_self), cov 1 (by decide)⟩
    | 2 => exact ⟨_, List.mem_cons_of_mem _ List.mem_cons_self, cov 2 (by decide)⟩
    | 3 => exact ⟨_, List.mem_cons_self, cov 3 (by decide)⟩

end

/-! The loop, from what it finds and what it starts from. -/

/-- The row of the time-major inputs of sequence `r` at time `t` (taken round past the last). -/
abbrev tm (t : ℕ) (r : Fin 8) : Fin 64 := ⟨(8 * t + r.val) % 64, by omega⟩

section
variable (𝒱 : Variants) (c : Dev nD) (bd : Option 𝒱.V) (i : grid0.Coords)
  (a2 : Memref sig .tc .vmem S8x8x512 .f32) (h2 : a2.IsWhole) (a3 : Memref sig .tc .vmem S4x8x1024 .f32) (h3 : a3.IsWhole) (a4 : Memref sig .tc .vmem S4x2x1024 .f32) (h4 : a4.IsWhole)
  (a5 : Memref sig .tc .vmem S4x128x1024 .f32) (h5 : a5.IsWhole) (a6 : Memref sig .tc .vmem S4x1024x128 .f32) (h6 : a6.IsWhole) (a7 : Memref sig .tc .vmem S4x1x128 .f32) (h7 : a7.IsWhole)
  (a8 : Memref sig .tc .vmem S512x512 .f32) (h8 : a8.IsWhole) (a9 : Memref sig .tc .vmem S1x512 .f32) (h9 : a9.IsWhole) (a10 : Memref sig .tc .vmem S8x8x512 .f32) (h10 : a10.IsWhole)
  (a11 : Memref sig .tc .vmem S4x8x1024 .f32) (h11 : a11.IsWhole) (a12 : Memref sig .tc .vmem S4x64x128 .f32) (h12 : a12.IsWhole) (a13 : Memref sig .tc .vmem S4x64x1024 .f32) (h13 : a13.IsWhole)
  (a14 : Memref sig .tc .vmem S4x64x128 .f32) (h14 : a14.IsWhole) (a15 : Memref sig .tc .vmem S4x8x1024 .f32) (h15 : a15.IsWhole)
  (v : Vec Ideal S1x8x512 .f32) (X : BufTy.Contents (Elt Ideal) a4.view.ty) (G : BufTy.Contents (Elt Ideal) a13.view.ty) (init : Carry)

theorem loop_state (N : ℕ) (hN : N ≤ 8) :
    (∀ (k : Fin 4) (r : Fin 8) (l : Fin 512),
      (re (st_k0_t1 (F := Ideal) 𝒱 c bd i a2 h2 a3 h3 a4 h4 a5 h5 a6 h6 a7 h7 a8 h8 a9 h9 a10 h10 a11 h11 a12 h12 a13 h13 a14 h14 a15 h15 v X G init N).1 k (ix2 r l), im (st_k0_t1 (F := Ideal) 𝒱 c bd i a2 h2 a3 h3 a4 h4 a5 h5 a6 h6 a7 h7 a8 h8 a9 h9 a10 h10 a11 h11 a12 h12 a13 h13 a14 h14 a15 h15 v X G init N).1 k (ix2 r l))
        = Cert.Recur.run (a4.view.read (Elt Ideal) X (ix3 k 0 (lo l))) (a4.view.read (Elt Ideal) X (ix3 k 1 (lo l)))
            (fun t => a13.view.read (Elt Ideal) G (ix3 k (tm t r) (lo l))) (fun t => a13.view.read (Elt Ideal) G (ix3 k (tm t r) (hi l)))
            (re init k (ix2 r l), im init k (ix2 r l)) N)
    ∧ ∀ y : S4x64x1024.Idx, 8 * N ≤ (y 1).val → ∀ p ∈ (st_k0_t1 (F := Ideal) 𝒱 c bd i a2 h2 a3 h3 a4 h4 a5 h5 a6 h6 a7 h7 a8 h8 a9 h9 a10 h10 a11 h11 a12 h12 a13 h13 a14 h14 a15 h15 v X G init N).2, y ∉ p.1.set := by
  induction N with
  | zero => exact ⟨fun k r l => rfl, fun y _ p hp => absurd hp List.not_mem_nil⟩
  | succ n ih =>
    have ih := ih (by omega)
    have e := st_k0_t1_succ (F := Ideal) 𝒱 c bd i a2 h2 a3 h3 a4 h4 a5 h5 a6 h6 a7 h7 a8 h8 a9 h9 a10 h10 a11 h11 a12 h12 a13 h13 a14 h14 a15 h15 v X G init ⟨n, lt_of_lt_of_eq (show n < 8 by omega) trips_eq.symm⟩
    dsimp only at e
    rw [e]
    refine ⟨fun k r l => ?_, fun y hy p hp => ?_⟩
    · have ht : at_ ⟨n, lt_of_lt_of_eq (show n < 8 by omega) trips_eq.symm⟩ r = tm n r := Fin.ext (by show 8 * n + r.val = (8 * n + r.val) % 64; omega)
      have rd : ∀ z, a13.view.read (Elt Ideal) (a13.view.writes (Elt Ideal) G (st_k0_t1 (F := Ideal) 𝒱 c bd i a2 h2 a3 h3 a4 h4 a5 h5 a6 h6 a7 h7 a8 h8 a9 h9 a10 h10 a11 h11 a12 h12 a13 h13 a14 h14 a15 h15 v X G init n).2) (ix3 k (tm n r) z)
          = a13.view.read (Elt Ideal) G (ix3 k (tm n r) z) := fun z =>
        View.read_writes_apply_of_forall_not_mem a13.view G (ix3 k (tm n r) z) _ (ih.2 _ (by show 8 * n ≤ (8 * n + r.val) % 64; omega))
      have e1 := congrArg Prod.fst (ih.1 k r l)
      have e2 := congrArg Prod.snd (ih.1 k r l)
      dsimp only at e1 e2
      refine Prod.ext ?_ ?_
      · refine (trip_re 𝒱 c bd i a2 h2 a3 h3 a4 h4 a5 h5 a6 h6 a7 h7 a8 h8 a9 h9 a10 h10 a11 h11 a12 h12 a13 h13 a14 h14 a15 h15 v X _ _ _ k r l).trans ?_
        rw [ht, rd, e1, e2]
        rfl
      · refine (trip_im 𝒱 c bd i a2 h2 a3 h3 a4 h4 a5 h5 a6 h6 a7 h7 a8 h8 a9 h9 a10 h10 a11 h11 a12 h12 a13 h13 a14 h14 a15 h15 v X _ _ _ k r l).trans ?_
        rw [ht, rd, e1, e2]
        rfl
    · rcases List.mem_append.mp hp with hp | hp
      · exact trip_rows 𝒱 c bd i a2 h2 a3 h3 a4 h4 a5 h5 a6 h6 a7 h7 a8 h8 a9 h9 a10 h10 a11 h11 a12 h12 a13 h13 a14 h14 a15 h15 v X _ _ _ y (by show 8 * n + 8 ≤ _; omega) p hp
      · exact ih.2 y (by omega) p hp

end

end Cert.S5SampleIdeal.Scan

end
-- ==== Proof.S5SampleOut.lean ====
module

public import proofs.«01_k».proof.Proof.S5SampleLoop

@[expose] public section

set_option maxRecDepth 16384

noncomputable section

namespace Cert.S5SampleIdeal.Scan

open Cert.S5SampleIdeal Cert.S5SampleIdeal.Gen
open Idealize.ShloMosaic Idealize.ShloMosaic.TcCoe Idealize.SL.Sem

/-! A carried pair of blocks as the state buffer holds it: the real parts in the low lanes, the imaginary in the high. -/

theorem put_apply (w : FVec Ideal S8x512 .f32) (r : Fin 8) (l : Fin 512) : k0_pay76 w (ix3 0 r l) = w (ix2 r l) := by
  pointwise [k0_pay76]

theorem take_apply (w : Vec Ideal S1x8x512 .f32) (r : Fin 8) (l : Fin 512) : k0_pay67 w (ix2 r l) = w (ix3 0 r l) := by
  pointwise [k0_pay67]

theorem whole_apply (w : Vec Ideal S4x8x1024 .f32) (k : Fin 4) (r : Fin 8) (z : Fin 1024) : k0_pay26 w (ix3 k r z) = w (ix3 k r z) := by
  pointwise [k0_pay26]

/-- The state buffer's contents for a carried value. -/
def held (s : Carry) : Vec Ideal S4x8x1024 .f32 := fun z =>
  if h : (z 2).val < 512 then re s (z 0) (ix2 (z 1) ⟨(z 2).val, h⟩) else im s (z 0) (ix2 (z 1) ⟨(z 2).val - 512, by have h' : (z 2).val < 1024 := (z 2).isLt; omega⟩)

theorem held_lo (s : Carry) (k : Fin 4) (r : Fin 8) (l : Fin 512) : held s (ix3 k r (lo l)) = re s k (ix2 r l) :=
  dif_pos (show (lo l).val < 512 from l.isLt)

theorem held_hi (s : Carry) (k : Fin 4) (r : Fin 8) (l : Fin 512) : held s (ix3 k r (hi l)) = im s k (ix2 r l) := by
  refine (dif_neg (show ¬ (hi l).val < 512 by show ¬ 512 + l.val < 512; omega)).trans ?_
  exact congrArg (fun q => im s k (ix2 r q)) (Fin.ext (show 512 + l.val - 512 = l.val by omega))

/-- The eight stores of a carried value, the last first. -/
def stores (s : Carry) : List (View.Piece (Elt Ideal) S4x8x1024 .f32) :=
  [⟨Rect.unit ![3, 0, 512] S1x8x512.size inb_S4x8x1024_S1x8x512_3_0_512, k0_pay83 (im s 3)⟩, ⟨Rect.unit ![3, 0, 0] S1x8x512.size inb_S4x8x1024_S1x8x512_3_0_0, k0_pay82 (re s 3)⟩, ⟨Rect.unit ![2, 0, 512] S1x8x512.size inb_S4x8x1024_S1x8x512_2_0_512, k0_pay81 (im s 2)⟩, ⟨Rect.unit ![2, 0, 0] S1x8x512.size inb_S4x8x1024_S1x8x512_2_0_0, k0_pay80 (re s 2)⟩, ⟨Rect.unit ![1, 0, 512] S1x8x512.size inb_S4x8x1024_S1x8x512_1_0_512, k0_pay79 (im s 1)⟩, ⟨Rect.unit ![1, 0, 0] S1x8x512.size inb_S4x8x1024_S1x8x512_1_0_0, k0_pay78 (re s 1)⟩, ⟨Rect.unit ![0, 0, 512] S1x8x512.size inb_S4x8x1024_S1x8x512_0_0_512, k0_pay77 (im s 0)⟩, ⟨Rect.unit ![0, 0, 0] S1x8x512.size inb_S4x8x1024_S1x8x512_0_0_0, k0_pay76 (re s 0)⟩]

theorem stores_read (v : View sig .tc .vmem S4x8x1024 .f32) (f : v.ty.Contents (Elt Ideal)) (L) (s : Carry) (y : S4x8x1024.Idx) :
    v.read (Elt Ideal) (v.writes (Elt Ideal) f (stores s ++ L)) y = held s y := by
  rw [View.writes_append]
  obtain ⟨k, r, z, rfl⟩ : ∃ (k : Fin 4) (r : Fin 8) (z : Fin 1024), y = ix3 k r z := ⟨y 0, y 1, y 2, Cert.idx_ext₃ rfl rfl rfl⟩
  refine View.read_writes_apply_of_pieces v _ (held s) _ ?_ (ix3 k r z) ?_
  · have okl : ∀ (k : Fin 4) (h) (w : Vec Ideal S1x8x512 .f32), (∀ r l, w (ix3 0 r l) = re s k (ix2 r l)) →
        ∀ x, w x = held s ((Rect.unit (s := S4x8x1024) ![k.val, 0, 0] S1x8x512.size h).emb x) := by
      intro k h w hw x
      obtain ⟨r, l, rfl⟩ : ∃ (r : Fin 8) (l : Fin 512), x = ix3 0 r l := ⟨x 1, x 2, Cert.idx_ext₃ (Nat.lt_one_iff.mp (x 0).isLt) rfl rfl⟩
      refine (hw r l).trans ((held_lo s k r l).symm.trans (congrArg (held s) (Cert.idx_ext₃ ?_ ?_ ?_)))
      · show k.val = k.val + 1 * 0; omega
      · show r.val = 0 + 1 * r.val; omega
      · show l.val = 0 + 1 * l.val; omega
    have okh : ∀ (k : Fin 4) (h) (w : Vec Ideal S1x8x512 .f32), (∀ r l, w (ix3 0 r l) = im s k (ix2 r l)) →
        ∀ x, w x = held s ((Rect.unit (s := S4x8x1024) ![k.val, 0, 512] S1x8x512.size h).emb x) := by
      intro k h w hw x
      obtain ⟨r, l, rfl⟩ : ∃ (r : Fin 8) (l : Fin 512), x = ix3 0 r l := ⟨x 1, x 2, Cert.idx_ext₃ (Nat.lt_one_iff.mp (x 0).isLt) rfl rfl⟩
      refine (hw r l).trans ((held_hi s k r l).symm.trans (congrArg (held s) (Cert.idx_ext₃ ?_ ?_ ?_)))
      · show k.val = k.val + 1 * 0; omega
      · show r.val = 0 + 1 * r.val; omega
      · show 512 + l.val = 512 + 1 * l.val; omega
    exact List.forall_mem_cons.2 ⟨okh 3 (by decide) _ fun r l => put_apply ((im s 3)) r l, List.forall_mem_cons.2 ⟨okl 3 (by decide) _ fun r l => put_apply ((re s 3)) r l, List.forall_mem_cons.2 ⟨okh 2 (by decide) _ fun r l => put_apply ((im s 2)) r l, List.forall_mem_cons.2 ⟨okl 2 (by decide) _ fun r l => put_apply ((re s 2)) r l, List.forall_mem_cons.2 ⟨okh 1 (by decide) _ fun r l => put_apply ((im s 1)) r l, List.forall_mem_cons.2 ⟨okl 1 (by decide) _ fun r l => put_apply ((re s 1)) r l, List.forall_mem_cons.2 ⟨okh 0 (by decide) _ fun r l => put_apply ((im s 0)) r l, List.forall_mem_cons.2 ⟨okl 0 (by decide) _ fun r l => put_apply ((re s 0)) r l, fun p hp => absurd hp List.not_mem_nil⟩⟩⟩⟩⟩⟩⟩⟩
  · have covl : z.val < 512 → ∀ k : Fin 4, ∀ h, ix3 k r z ∈ (Rect.unit (s := S4x8x1024) ![k.val, 0, 0] S1x8x512.size h).set := by
      intro hz k h
      refine (LoadRect.mem_set _).mpr fun a => ?_
      match a with
      | ⟨0, _⟩ => exact ⟨0, (by decide : 0 < 1), by show k.val = k.val + 1 * 0; omega⟩
      | ⟨1, _⟩ => exact ⟨r.val, r.isLt, by show r.val = 0 + 1 * r.val; omega⟩
      | ⟨2, _⟩ => exact ⟨z.val, hz, by show z.val = 0 + 1 * z.val; omega⟩
    have covh : ¬ z.val < 512 → ∀ k : Fin 4, ∀ h, ix3 k r z ∈ (Rect.unit (s := S4x8x1024) ![k.val, 0, 512] S1x8x512.size h).set := by
      intro hz k h
      refine (LoadRect.mem_set _).mpr fun a => ?_
      match a with
      | ⟨0, _⟩ => exact ⟨0, (by decide : 0 < 1), by show k.val = k.val + 1 * 0; omega⟩
      | ⟨1, _⟩ => exact ⟨r.val, r.isLt, by show r.val = 0 + 1 * r.val; omega⟩
      | ⟨2, _⟩ => exact ⟨z.val - 512, (by show z.val - 512 < 512; omega), by show z.val = 512 + 1 * (z.val - 512); omega⟩
    by_cases hz : z.val < 512
    · match k with
      | 0 => exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), covl hz 0 (by decide)⟩
      | 1 => exact ⟨_, List.mem_cons_of_mem _ (List.mem_cons_of_mem _ (List.mem_cons_of_mem _ (List.mem_cons_of_mem _ (List.mem_cons_of_mem _ (List.mem_cons_self))))), covl hz 1 (by decide)⟩
      | 2 => exact ⟨_, List.mem_cons_of_mem _ (List.mem_cons_of_mem _ (List.mem_cons_of_mem _ (List.mem_cons_self))), covl hz 2 (by decide)⟩
      | 3 => exact ⟨_, List.mem_cons_of_mem _ (List.mem_cons_self), covl hz 3 (by decide)⟩
    · match k with
      | 0 => exact ⟨_, List.mem_cons_of_mem _ (List.mem_cons_of_mem _ (List.mem_cons_of_mem _ (List.mem_cons_of_mem _ (List.mem_cons_of_mem _ (List.mem_cons_of_mem _ (List.mem_cons_self)))))), covh hz 0 (by decide)⟩
      | 1 => exact ⟨_, List.mem_cons_of_mem _ (List.mem_cons_of_mem _ (List.mem_cons_of_mem _ (List.mem_cons_of_mem _ (List.mem_cons_self)))), covh hz 1 (by decide)⟩
      | 2 => exact ⟨_, List.mem_cons_of_mem _ (List.mem_cons_of_mem _ (List.mem_cons_self)), covh hz 2 (by decide)⟩
      | 3 => exact ⟨_, List.mem_cons_self, covh hz 3 (by decide)⟩

section
variable (c : Dev nD) (i : grid0.Coords)
  (a2 : Memref sig .tc .vmem S8x8x512 .f32) (h2 : a2.IsWhole) (a3 : Memref sig .tc .vmem S4x8x1024 .f32) (h3 : a3.IsWhole) (a4 : Memref sig .tc .vmem S4x2x1024 .f32) (h4 : a4.IsWhole)
  (a5 : Memref sig .tc .vmem S4x128x1024 .f32) (h5 : a5.IsWhole) (a6 : Memref sig .tc .vmem S4x1024x128 .f32) (h6 : a6.IsWhole) (a7 : Memref sig .tc .vmem S4x1x128 .f32) (h7 : a7.IsWhole)
  (a8 : Memref sig .tc .vmem S512x512 .f32) (h8 : a8.IsWhole) (a9 : Memref sig .tc .vmem S1x512 .f32) (h9 : a9.IsWhole) (a10 : Memref sig .tc .vmem S8x8x512 .f32) (h10 : a10.IsWhole)
  (a11 : Memref sig .tc .vmem S4x8x1024 .f32) (h11 : a11.IsWhole) (a12 : Memref sig .tc .vmem S4x64x128 .f32) (h12 : a12.IsWhole) (a13 : Memref sig .tc .vmem S4x64x1024 .f32) (h13 : a13.IsWhole)
  (a14 : Memref sig .tc .vmem S4x64x128 .f32) (h14 : a14.IsWhole) (a15 : Memref sig .tc .vmem S4x8x1024 .f32) (h15 : a15.IsWhole)
  (x0 : Vec Ideal S8x8x512 .f32) (x1 : Vec Ideal S4x8x1024 .f32) (x2 : Vec Ideal S4x2x1024 .f32) (x3 : Vec Ideal S4x128x1024 .f32)
  (x4 : Vec Ideal S4x1024x128 .f32) (x5 : Vec Ideal S4x1x128 .f32) (x6 : Vec Ideal S512x512 .f32) (x7 : Vec Ideal S1x512 .f32)

/-- The state buffer after the first store holds the state the sequence starts from. -/
theorem start_read (k : Fin 4) (r : Fin 8) (z : Fin 1024) :
    a15.view.read (Elt Ideal) (a15.view.writes (Elt Ideal) a15.view.junk (kernelRun0_A.sl.HS3_1 (F := Ideal) c a3 h3 x1)) (ix3 k r z) = x1 (ix3 k r z) := by
  refine View.read_writes_apply_of_pieces a15.view _ x1 _ ?_ (ix3 k r z) ⟨_, List.mem_cons_self, ?_⟩
  · unfold kernelRun0_A.sl.HS3_1
    refine List.forall_mem_cons.2 ⟨fun x => ?_, fun p hp => absurd hp List.not_mem_nil⟩
    obtain ⟨k, r, z, rfl⟩ : ∃ (k : Fin 4) (r : Fin 8) (z : Fin 1024), x = ix3 k r z := ⟨x 0, x 1, x 2, Cert.idx_ext₃ rfl rfl rfl⟩
    have e0 : (Rect.unit (s := S4x8x1024) ![0, 0, 0] S4x8x1024.size inb_S4x8x1024_S4x8x1024_0_0_0).emb (ix3 k r z) = ix3 k r z := funext fun a => Fin.ext (by
      match a with
      | ⟨0, _⟩ => show 0 + 1 * k.val = k.val; omega
      | ⟨1, _⟩ => show 0 + 1 * r.val = r.val; omega
      | ⟨2, _⟩ => show 0 + 1 * z.val = z.val; omega)
    refine Eq.trans (whole_apply (View.readAt (Elt Ideal) a3.view (Rect.unit (s := S4x8x1024) ![0, 0, 0] S4x8x1024.size inb_S4x8x1024_S4x8x1024_0_0_0).toLoadRect (h3.unread x1)) k r z) ?_
    rw [View.readAt_apply, h3.read_unread]
    rfl
  · refine (LoadRect.mem_set _).mpr fun a => ?_
    match a with
    | ⟨0, _⟩ => exact ⟨k.val, k.isLt, by show k.val = 0 + 1 * k.val; omega⟩
    | ⟨1, _⟩ => exact ⟨r.val, r.isLt, by show r.val = 0 + 1 * r.val; omega⟩
    | ⟨2, _⟩ => exact ⟨z.val, z.isLt, by show z.val = 0 + 1 * z.val; omega⟩

/-- The value the loop starts from. -/
def init : Carry :=
  (k0_pay67 (kernelRun0_A.sl.v (F := Ideal) c a3 h3 a15 x1), k0_pay68 (kernelRun0_A.sl.v205 (F := Ideal) c a3 h3 a15 x1),
    k0_pay69 (kernelRun0_A.sl.v207 (F := Ideal) c a3 h3 a15 x1), k0_pay70 (kernelRun0_A.sl.v209 (F := Ideal) c a3 h3 a15 x1),
    k0_pay71 (kernelRun0_A.sl.v211 (F := Ideal) c a3 h3 a15 x1), k0_pay72 (kernelRun0_A.sl.v213 (F := Ideal) c a3 h3 a15 x1),
    k0_pay73 (kernelRun0_A.sl.v215 (F := Ideal) c a3 h3 a15 x1), k0_pay74 (kernelRun0_A.sl.v217 (F := Ideal) c a3 h3 a15 x1))

theorem init_re (k : Fin 4) (r : Fin 8) (l : Fin 512) : re (init c a3 h3 a15 x1) k (ix2 r l) = x1 (ix3 k r (lo l)) := by
  refine Eq.trans ?_ (start_read c a3 h3 a15 x1 k r (lo l))
  match k with
  | 0 => exact (take_apply _ r l).trans (ld_rows (R := 8) a15.view _ ![0, 0, 0] (by decide) r l 0 r (lo l) rfl (Nat.zero_add _) (Nat.zero_add _))
  | 1 => exact (take_apply _ r l).trans (ld_rows (R := 8) a15.view _ ![1, 0, 0] (by decide) r l 1 r (lo l) rfl (Nat.zero_add _) (Nat.zero_add _))
  | 2 => exact (take_apply _ r l).trans (ld_rows (R := 8) a15.view _ ![2, 0, 0] (by decide) r l 2 r (lo l) rfl (Nat.zero_add _) (Nat.zero_add _))
  | 3 => exact (take_apply _ r l).trans (ld_rows (R := 8) a15.view _ ![3, 0, 0] (by decide) r l 3 r (lo l) rfl (Nat.zero_add _) (Nat.zero_add _))

theorem init_im (k : Fin 4) (r : Fin 8) (l : Fin 512) : im (init c a3 h3 a15 x1) k (ix2 r l) = x1 (ix3 k r (hi l)) := by
  refine Eq.trans ?_ (start_read c a3 h3 a15 x1 k r (hi l))
  match k with
  | 0 => exact (take_apply _ r l).trans (ld_rows (R := 8) a15.view _ ![0, 0, 512] (by decide) r l 0 r (hi l) rfl (Nat.zero_add _) rfl)
  | 1 => exact (take_apply _ r l).trans (ld_rows (R := 8) a15.view _ ![1, 0, 512] (by decide) r l 1 r (hi l) rfl (Nat.zero_add _) rfl)
  | 2 => exact (take_apply _ r l).trans (ld_rows (R := 8) a15.view _ ![2, 0, 512] (by decide) r l 2 r (hi l) rfl (Nat.zero_add _) rfl)
  | 3 => exact (take_apply _ r l).trans (ld_rows (R := 8) a15.view _ ![3, 0, 512] (by decide) r l 3 r (hi l) rfl (Nat.zero_add _) rfl)

/-- The value the loop ends at. -/
def final : Carry := (st_k0_t1 (F := Ideal) Variants.none c none i a2 h2 a3 h3 a4 h4 a5 h5 a6 h6 a7 h7 a8 h8 a9 h9 a10 h10 a11 h11 a12 h12 a13 h13 a14 h14 a15 h15 (kernelRun0_A.sl.v c a3 h3 a15 x1) (h4.unread x2) (a13.view.writes (Elt Ideal) a13.view.junk (kernelRun0_A.sl.HS1_4 (F := Ideal) c a2 h2 a5 h5 a12 x0 x3)) (init c a3 h3 a15 x1) k0_t1_loop.trips).1

/-- The state the kernel stores: of sequence `r`, lane `l` of block `k`, after eight inputs. -/
def state (x0 : Vec Ideal S8x8x512 .f32) (x1 : Vec Ideal S4x8x1024 .f32) (x2 : Vec Ideal S4x2x1024 .f32) (x3 : Vec Ideal S4x128x1024 .f32)
    (k : Fin 4) (r : Fin 8) (l : Fin 512) : EReal × EReal :=
  Cert.Recur.run (x2 (ix3 k 0 (lo l))) (x2 (ix3 k 1 (lo l))) (fun t => inputs x0 x3 k (tm t r) (lo l)) (fun t => inputs x0 x3 k (tm t r) (hi l))
    (x1 (ix3 k r (lo l)), x1 (ix3 k r (hi l))) 8

theorem final_eq (k : Fin 4) (r : Fin 8) (l : Fin 512) :
    (re (final c i a2 h2 a3 h3 a4 h4 a5 h5 a6 h6 a7 h7 a8 h8 a9 h9 a10 h10 a11 h11 a12 h12 a13 h13 a14 h14 a15 h15 x0 x1 x2 x3) k (ix2 r l), im (final c i a2 h2 a3 h3 a4 h4 a5 h5 a6 h6 a7 h7 a8 h8 a9 h9 a10 h10 a11 h11 a12 h12 a13 h13 a14 h14 a15 h15 x0 x1 x2 x3) k (ix2 r l)) = state x0 x1 x2 x3 k r l := by
  have e := (loop_state Variants.none c none i a2 h2 a3 h3 a4 h4 a5 h5 a6 h6 a7 h7 a8 h8 a9 h9 a10 h10 a11 h11 a12 h12 a13 h13 a14 h14 a15 h15 (kernelRun0_A.sl.v (F := Ideal) c a3 h3 a15 x1) (h4.unread x2)
    (a13.view.writes (Elt Ideal) a13.view.junk (kernelRun0_A.sl.HS1_4 (F := Ideal) c a2 h2 a5 h5 a12 x0 x3)) (init c a3 h3 a15 x1) 8 le_rfl).1 k r l
  unfold final
  rw [trips_eq]
  refine e.trans ?_
  simp only [h4.read_unread, hb_read, init_re, init_im]
  rfl

/-- The state buffer the output is read from. -/
theorem last_read (y : S4x8x1024.Idx) :
    a15.view.read (Elt Ideal) (a15.view.writes (Elt Ideal) a15.view.junk (kernelRun0_A.sl.HS3_9 (F := Ideal) c i a2 h2 a3 h3 a4 h4 a5 h5 a6 h6 a7 h7 a8 h8 a9 h9 a10 h10 a11 h11 a12 h12 a13 h13 a14 h14 a15 h15 x0 x1 x2 x3)) y = held (final c i a2 h2 a3 h3 a4 h4 a5 h5 a6 h6 a7 h7 a8 h8 a9 h9 a10 h10 a11 h11 a12 h12 a13 h13 a14 h14 a15 h15 x0 x1 x2 x3) y :=
  stores_read a15.view a15.view.junk (kernelRun0_A.sl.HS3_1 (F := Ideal) c a3 h3 x1) (final c i a2 h2 a3 h3 a4 h4 a5 h5 a6 h6 a7 h7 a8 h8 a9 h9 a10 h10 a11 h11 a12 h12 a13 h13 a14 h14 a15 h15 x0 x1 x2 x3) y

/-- What the point leaves in the output's buffer. -/
theorem out_eq (hc0) (hc1) (y : S4x8x1024.Idx) :
    out0_A_9 (F := Ideal) c i a2 h2 a3 h3 a4 h4 a5 h5 a6 h6 a7 h7 a8 h8 a9 h9 a10 h10 a11 h11 a12 h12 a13 h13 a14 h14 a15 h15 hc0 hc1 x0 x1 x2 x3 x4 x5 x6 x7 y = held (final c i a2 h2 a3 h3 a4 h4 a5 h5 a6 h6 a7 h7 a8 h8 a9 h9 a10 h10 a11 h11 a12 h12 a13 h13 a14 h14 a15 h15 x0 x1 x2 x3) y := by
  unfold out0_A_9
  refine View.read_writes_apply_of_pieces VO0_9 _ (held (final c i a2 h2 a3 h3 a4 h4 a5 h5 a6 h6 a7 h7 a8 h8 a9 h9 a10 h10 a11 h11 a12 h12 a13 h13 a14 h14 a15 h15 x0 x1 x2 x3)) _ ?_ y (cover0_A_9 c i a2 h2 a3 h3 a4 h4 a5 h5 a6 h6 a7 h7 a8 h8 a9 h9 a10 h10 a11 h11 a12 h12 a13 h13 a14 h14 a15 h15 hc0 hc1 x0 x1 x2 x3 x4 x5 x6 x7 y)
  refine List.forall_mem_cons.2 ⟨fun x => ?_, fun p hp => absurd hp List.not_mem_nil⟩
  refine Eq.trans ?_ (last_read c i a2 h2 a3 h3 a4 h4 a5 h5 a6 h6 a7 h7 a8 h8 a9 h9 a10 h10 a11 h11 a12 h12 a13 h13 a14 h14 a15 h15 x0 x1 x2 x3 _)
  rfl

theorem out_lo (hc0) (hc1) (k : Fin 4) (r : Fin 8) (l : Fin 512) :
    out0_A_9 (F := Ideal) c i a2 h2 a3 h3 a4 h4 a5 h5 a6 h6 a7 h7 a8 h8 a9 h9 a10 h10 a11 h11 a12 h12 a13 h13 a14 h14 a15 h15 hc0 hc1 x0 x1 x2 x3 x4 x5 x6 x7 (ix3 k r (lo l)) = (state x0 x1 x2 x3 k r l).1 :=
  (out_eq ..).trans ((held_lo ..).trans (congrArg Prod.fst (final_eq c i a2 h2 a3 h3 a4 h4 a5 h5 a6 h6 a7 h7 a8 h8 a9 h9 a10 h10 a11 h11 a12 h12 a13 h13 a14 h14 a15 h15 x0 x1 x2 x3 k r l)))

theorem out_hi (hc0) (hc1) (k : Fin 4) (r : Fin 8) (l : Fin 512) :
    out0_A_9 (F := Ideal) c i a2 h2 a3 h3 a4 h4 a5 h5 a6 h6 a7 h7 a8 h8 a9 h9 a10 h10 a11 h11 a12 h12 a13 h13 a14 h14 a15 h15 hc0 hc1 x0 x1 x2 x3 x4 x5 x6 x7 (ix3 k r (hi l)) = (state x0 x1 x2 x3 k r l).2 :=
  (out_eq ..).trans ((held_hi ..).trans (congrArg Prod.snd (final_eq c i a2 h2 a3 h3 a4 h4 a5 h5 a6 h6 a7 h7 a8 h8 a9 h9 a10 h10 a11 h11 a12 h12 a13 h13 a14 h14 a15 h15 x0 x1 x2 x3 k r l)))

end

end Cert.S5SampleIdeal.Scan

end
-- ==== Proof.S5SampleRefIdeal.lean ====
module

public import proofs.«01_k».proof.Proof.Gen.ReferenceS5SampleIdeal.Read
public import proofs.«01_k».proof.Proof.Recur
public import proofs.«01_k».proof.Proof.Idx
public import Idealize.ShloMosaic.Lib.Claim
public import Idealize.ShloMosaic.Lib.Tactic

@[expose] public section

set_option maxRecDepth 16384

noncomputable section

namespace Cert.ReferenceS5SampleIdeal.Scan

open Cert.ReferenceS5SampleIdeal Cert.ReferenceS5SampleIdeal.Gen Cert.ReferenceS5SampleIdeal.Read
open Idealize.ShloMosaic Idealize.ShloMosaic.TcCoe Idealize.SL.Sem

/-! The parameters of the recurrence, as functions of the layer's: the decays and the input vectors. -/

section
variable (x3 x4 : S1x32x64.Idx → EReal) (x5 : S1x32.Idx → EReal) (x6 x7 : S1x32x64x16.Idx → EReal)

def decayRe (g : Fin 32) (p : Fin 64) : EReal := val_main_v17 (F := Ideal) x3 x4 x5 (ix2 g p)
def decayIm (g : Fin 32) (p : Fin 64) : EReal := val_main_v21 (F := Ideal) x3 x4 x5 (ix2 g p)
def inRe (g : Fin 32) (p : Fin 64) (c : Fin 16) : EReal := val_main_v41 (F := Ideal) x3 x4 x5 x6 x7 (ix3 g p c)
def inIm (g : Fin 32) (p : Fin 64) (c : Fin 16) : EReal := val_main_v48 (F := Ideal) x3 x4 x5 x6 x7 (ix3 g p c)

end

variable (x0 : S128x8x2048.Idx → EReal) (x1 x2 : S1x128x32x64.Idx → EReal) (x3 x4 : S1x32x64.Idx → EReal) (x5 : S1x32.Idx → EReal) (x6 x7 : S1x32x64x16.Idx → EReal)

/-- The recurrence's inputs: the last 512 columns. -/
def chan (b : Fin 128) (t : Fin 8) (j : Fin 512) : EReal := x0 (ix3 b t ⟨1536 + j.val, by omega⟩)

def start (x : S1x128x32x64.Idx → EReal) (b : Fin 128) (g : Fin 32) (p : Fin 64) : EReal := x (ix4 0 b g p)

/-- The states, as both programs leave them. -/
def val : Fin 128 → Fin 32 → Fin 64 → EReal × EReal :=
  Cert.Recur.states (chan x0) (decayRe x3 x4 x5) (decayIm x3 x4 x5) (inRe x3 x4 x5 x6 x7) (inIm x3 x4 x5 x6 x7) (start x1) (start x2)

def valRe : S1x128x32x64.Idx → EReal := fun i => (val x0 x1 x2 x3 x4 x5 x6 x7 (i 1) (i 2) (i 3)).1
def valIm : S1x128x32x64.Idx → EReal := fun i => (val x0 x1 x2 x3 x4 x5 x6 x7 (i 1) (i 2) (i 3)).2

/-! The inputs of the reference at an index. -/

theorem idx_ext₄ {n : Fin 4 → ℕ} {x y : (a : Fin 4) → Fin (n a)} (h0 : (x 0 : ℕ) = y 0) (h1 : (x 1 : ℕ) = y 1) (h2 : (x 2 : ℕ) = y 2) (h3 : (x 3 : ℕ) = y 3) : x = y :=
  funext fun a => Fin.ext (match a with | ⟨0, _⟩ => h0 | ⟨1, _⟩ => h1 | ⟨2, _⟩ => h2 | ⟨3, _⟩ => h3)

theorem chan_at (b : Fin 128) (t : Fin 8) (g : Fin 32) (c : Fin 16) :
    val_main_v1 (F := Ideal) x0 (ix4 b t g c) = chan x0 b t ⟨16 * g.val + c.val, by omega⟩ := by
  rw [val_main_v1_apply, val_main_v0_apply]
  refine congrArg x0 (Cert.idx_ext₃ ?_ ?_ ?_)
  · show (((b.val * 8 + t.val) * 32 + g.val) * 16 + c.val) / 4096 = b.val; omega
  · show (((b.val * 8 + t.val) * 32 + g.val) * 16 + c.val) / 512 % 8 = t.val; omega
  · show 1536 + (((b.val * 8 + t.val) * 32 + g.val) * 16 + c.val) % 512 = 1536 + (16 * g.val + c.val); omega

theorem re_in (b : Fin 128) (t : Fin 8) (g : Fin 32) (p : Fin 64) :
    val_main_v50 (F := Ideal) x0 x3 x4 x5 x6 x7 (ix4 b t g p) = ∑ c : Fin 16, chan x0 b t ⟨16 * g.val + c.val, by omega⟩ * inRe x3 x4 x5 x6 x7 g p c := by
  rw [val_main_v50_apply, val_main_v49_apply]
  refine Finset.sum_congr rfl fun c _ => (mul_comm _ _).trans (congrArg₂ (· * ·) ?_ ?_)
  · exact (congrArg (val_main_v1 (F := Ideal) x0) (idx_ext₄ rfl rfl rfl rfl)).trans (chan_at x0 b t g c)
  · exact congrArg (val_main_v41 (F := Ideal) x3 x4 x5 x6 x7) (Cert.idx_ext₃ rfl rfl rfl)

theorem im_in (b : Fin 128) (t : Fin 8) (g : Fin 32) (p : Fin 64) :
    val_main_v52 (F := Ideal) x0 x3 x4 x5 x6 x7 (ix4 b t g p) = ∑ c : Fin 16, chan x0 b t ⟨16 * g.val + c.val, by omega⟩ * inIm x3 x4 x5 x6 x7 g p c := by
  rw [val_main_v52_apply, val_main_v51_apply]
  refine Finset.sum_congr rfl fun c _ => (mul_comm _ _).trans (congrArg₂ (· * ·) ?_ ?_)
  · exact (congrArg (val_main_v1 (F := Ideal) x0) (idx_ext₄ rfl rfl rfl rfl)).trans (chan_at x0 b t g c)
  · exact congrArg (val_main_v48 (F := Ideal) x3 x4 x5 x6 x7) (Cert.idx_ext₃ rfl rfl rfl)

/-! One step of the reference's recurrence. -/

/-- The inputs of one time. -/
def cut (s : Fin 4 → ℕ) (h : S128x8x32x64.Slices s S128x1x32x64) (w : Vec Ideal S128x8x32x64 .f32) : FVec Ideal S128x32x64 .f32 :=
  shapeCast S128x32x64 (extractStridedSlice S128x1x32x64 s w h) shapeCasts_S128x1x32x64_S128x32x64

theorem cut_apply (t : Fin 8) (s : Fin 4 → ℕ) (hs : s = ![0, t.val, 0, 0]) (h : S128x8x32x64.Slices s S128x1x32x64) (w : Vec Ideal S128x8x32x64 .f32) (b : Fin 128) (g : Fin 32) (p : Fin 64) :
    cut s h w (ix3 b g p) = w (ix4 b t g p) := by
  subst hs
  unfold cut
  rw [shapeCast_apply (extractStridedSlice S128x1x32x64 ![0, t.val, 0, 0] w h) _ (ix3 b g p) (ix4 b 0 g p) (by
    rw [Shape.rowMajor_val_three, Shape.rowMajor_val_four]
    show ((b.val * 1 + 0) * 32 + g.val) * 64 + p.val = (b.val * 32 + g.val) * 64 + p.val
    omega)]
  exact extractStridedSlice_apply _ w h (ix4 b 0 g p) (ix4 b t g p) (fun a => match a with
    | ⟨0, _⟩ => by show b.val = 0 + b.val; omega
    | ⟨1, _⟩ => by show t.val = t.val + 0; omega
    | ⟨2, _⟩ => by show g.val = 0 + g.val; omega
    | ⟨3, _⟩ => by show p.val = 0 + p.val; omega)

/-- The real part of the next state; the imaginary is the other. -/
def nextRe (p q x : FVec Ideal S128x32x64 .f32) : FVec Ideal S128x32x64 .f32 :=
  addf (subf (mulf (val_main_v54 (F := Ideal) x3 x4 x5) p) (mulf (val_main_v57 (F := Ideal) x3 x4 x5) q)) x
def nextIm (p q x : FVec Ideal S128x32x64 .f32) : FVec Ideal S128x32x64 .f32 :=
  addf (addf (mulf (val_main_v54 (F := Ideal) x3 x4 x5) q) (mulf (val_main_v57 (F := Ideal) x3 x4 x5) p)) x

theorem re_decay (b : Fin 128) (g : Fin 32) (p : Fin 64) : val_main_v54 (F := Ideal) x3 x4 x5 (ix3 b g p) = decayRe x3 x4 x5 g p := by
  rw [val_main_v54_apply, val_main_v53_apply]
  exact congrArg (val_main_v17 (F := Ideal) x3 x4 x5) (Shape.idx_ext₂ rfl rfl)
theorem im_decay (b : Fin 128) (g : Fin 32) (p : Fin 64) : val_main_v57 (F := Ideal) x3 x4 x5 (ix3 b g p) = decayIm x3 x4 x5 g p := by
  rw [val_main_v57_apply, val_main_v56_apply]
  exact congrArg (val_main_v21 (F := Ideal) x3 x4 x5) (Shape.idx_ext₂ rfl rfl)

/-- The states after `n` steps, at an index. -/
abbrev after (n : ℕ) (b : Fin 128) (g : Fin 32) (p : Fin 64) : EReal × EReal :=
  Cert.Recur.run (decayRe x3 x4 x5 g p) (decayIm x3 x4 x5 g p)
    (fun t => ∑ c : Fin 16, chan x0 b ⟨t % 8, by omega⟩ ⟨16 * g.val + c.val, by omega⟩ * inRe x3 x4 x5 x6 x7 g p c)
    (fun t => ∑ c : Fin 16, chan x0 b ⟨t % 8, by omega⟩ ⟨16 * g.val + c.val, by omega⟩ * inIm x3 x4 x5 x6 x7 g p c) (start x1 b g p, start x2 b g p) n

/-- Two vectors that hold the states after `n` steps. -/
def Holds (n : ℕ) (u v : FVec Ideal S128x32x64 .f32) : Prop :=
  ∀ b g p, (u (ix3 b g p), v (ix3 b g p)) = after x0 x1 x2 x3 x4 x5 x6 x7 n b g p

theorem holds_zero : Holds x0 x1 x2 x3 x4 x5 x6 x7 0 (val_main_v2 (F := Ideal) x1) (val_main_v3 (F := Ideal) x2) := fun b g p => by
  refine Prod.ext ?_ ?_
  · show val_main_v2 (F := Ideal) x1 (ix3 b g p) = x1 (ix4 0 b g p)
    rw [val_main_v2_apply]
    refine congrArg x1 (idx_ext₄ rfl ?_ ?_ ?_)
    · show ((b.val * 32 + g.val) * 64 + p.val) / 2048 % 128 = b.val; omega
    · show ((b.val * 32 + g.val) * 64 + p.val) / 64 % 32 = g.val; omega
    · show ((b.val * 32 + g.val) * 64 + p.val) % 64 = p.val; omega
  · show val_main_v3 (F := Ideal) x2 (ix3 b g p) = x2 (ix4 0 b g p)
    rw [val_main_v3_apply]
    refine congrArg x2 (idx_ext₄ rfl ?_ ?_ ?_)
    · show ((b.val * 32 + g.val) * 64 + p.val) / 2048 % 128 = b.val; omega
    · show ((b.val * 32 + g.val) * 64 + p.val) / 64 % 32 = g.val; omega
    · show ((b.val * 32 + g.val) * 64 + p.val) % 64 = p.val; omega

theorem holds_succ (t : Fin 8) (s : Fin 4 → ℕ) (hs : s = ![0, t.val, 0, 0]) (h : S128x8x32x64.Slices s S128x1x32x64) (u v : FVec Ideal S128x32x64 .f32)
    (ih : Holds x0 x1 x2 x3 x4 x5 x6 x7 t.val u v) :
    Holds x0 x1 x2 x3 x4 x5 x6 x7 (t.val + 1) (nextRe x3 x4 x5 u v (cut s h (val_main_v50 (F := Ideal) x0 x3 x4 x5 x6 x7)))
      (nextIm x3 x4 x5 u v (cut s h (val_main_v52 (F := Ideal) x0 x3 x4 x5 x6 x7))) := fun b g p => by
  have e1 := congrArg Prod.fst (ih b g p)
  have e2 := congrArg Prod.snd (ih b g p)
  dsimp only at e1 e2
  have ht : (⟨t.val % 8, by omega⟩ : Fin 8) = t := Fin.ext (Nat.mod_eq_of_lt t.isLt)
  refine Prod.ext ?_ ?_
  · show val_main_v54 (F := Ideal) x3 x4 x5 (ix3 b g p) * u (ix3 b g p) - val_main_v57 (F := Ideal) x3 x4 x5 (ix3 b g p) * v (ix3 b g p) + cut s h (val_main_v50 (F := Ideal) x0 x3 x4 x5 x6 x7) (ix3 b g p) = _
    rw [re_decay, im_decay, cut_apply t s hs, re_in, e1, e2]
    show _ = _ * _ - _ * _ + ∑ c : Fin 16, chan x0 b ⟨t.val % 8, _⟩ _ * _
    rw [ht]
  · show val_main_v54 (F := Ideal) x3 x4 x5 (ix3 b g p) * v (ix3 b g p) + val_main_v57 (F := Ideal) x3 x4 x5 (ix3 b g p) * u (ix3 b g p) + cut s h (val_main_v52 (F := Ideal) x0 x3 x4 x5 x6 x7) (ix3 b g p) = _
    rw [re_decay, im_decay, cut_apply t s hs, im_in, e1, e2]
    show _ = _ * _ + _ * _ + ∑ c : Fin 16, chan x0 b ⟨t.val % 8, _⟩ _ * _
    rw [ht]

theorem holds_eight : Holds x0 x1 x2 x3 x4 x5 x6 x7 8 (val_main_v202 (F := Ideal) x0 x1 x2 x3 x4 x5 x6 x7) (val_main_v212 (F := Ideal) x0 x1 x2 x3 x4 x5 x6 x7) := by
  have h1 : Holds x0 x1 x2 x3 x4 x5 x6 x7 1 (val_main_v62 (F := Ideal) x0 x1 x2 x3 x4 x5 x6 x7) (val_main_v72 (F := Ideal) x0 x1 x2 x3 x4 x5 x6 x7) := holds_succ x0 x1 x2 x3 x4 x5 x6 x7 0 _ rfl slices_S128x8x32x64_S128x1x32x64_0_0_0_0 _ _ (holds_zero x0 x1 x2 x3 x4 x5 x6 x7)
  have h2 : Holds x0 x1 x2 x3 x4 x5 x6 x7 2 (val_main_v82 (F := Ideal) x0 x1 x2 x3 x4 x5 x6 x7) (val_main_v92 (F := Ideal) x0 x1 x2 x3 x4 x5 x6 x7) := holds_succ x0 x1 x2 x3 x4 x5 x6 x7 1 _ rfl slices_S128x8x32x64_S128x1x32x64_0_1_0_0 _ _ h1
  have h3 : Holds x0 x1 x2 x3 x4 x5 x6 x7 3 (val_main_v102 (F := Ideal) x0 x1 x2 x3 x4 x5 x6 x7) (val_main_v112 (F := Ideal) x0 x1 x2 x3 x4 x5 x6 x7) := holds_succ x0 x1 x2 x3 x4 x5 x6 x7 2 _ rfl slices_S128x8x32x64_S128x1x32x64_0_2_0_0 _ _ h2
  have h4 : Holds x0 x1 x2 x3 x4 x5 x6 x7 4 (val_main_v122 (F := Ideal) x0 x1 x2 x3 x4 x5 x6 x7) (val_main_v132 (F := Ideal) x0 x1 x2 x3 x4 x5 x6 x7) := holds_succ x0 x1 x2 x3 x4 x5 x6 x7 3 _ rfl slices_S128x8x32x64_S128x1x32x64_0_3_0_0 _ _ h3
  have h5 : Holds x0 x1 x2 x3 x4 x5 x6 x7 5 (val_main_v142 (F := Ideal) x0 x1 x2 x3 x4 x5 x6 x7) (val_main_v152 (F := Ideal) x0 x1 x2 x3 x4 x5 x6 x7) := holds_succ x0 x1 x2 x3 x4 x5 x6 x7 4 _ rfl slices_S128x8x32x64_S128x1x32x64_0_4_0_0 _ _ h4
  have h6 : Holds x0 x1 x2 x3 x4 x5 x6 x7 6 (val_main_v162 (F := Ideal) x0 x1 x2 x3 x4 x5 x6 x7) (val_main_v172 (F := Ideal) x0 x1 x2 x3 x4 x5 x6 x7) := holds_succ x0 x1 x2 x3 x4 x5 x6 x7 5 _ rfl slices_S128x8x32x64_S128x1x32x64_0_5_0_0 _ _ h5
  have h7 : Holds x0 x1 x2 x3 x4 x5 x6 x7 7 (val_main_v182 (F := Ideal) x0 x1 x2 x3 x4 x5 x6 x7) (val_main_v192 (F := Ideal) x0 x1 x2 x3 x4 x5 x6 x7) := holds_succ x0 x1 x2 x3 x4 x5 x6 x7 6 _ rfl slices_S128x8x32x64_S128x1x32x64_0_6_0_0 _ _ h6
  have h8 : Holds x0 x1 x2 x3 x4 x5 x6 x7 8 (val_main_v202 (F := Ideal) x0 x1 x2 x3 x4 x5 x6 x7) (val_main_v212 (F := Ideal) x0 x1 x2 x3 x4 x5 x6 x7) := holds_succ x0 x1 x2 x3 x4 x5 x6 x7 7 _ rfl slices_S128x8x32x64_S128x1x32x64_0_7_0_0 _ _ h7
  exact h8

theorem pair_eq (b : Fin 128) (g : Fin 32) (p : Fin 64) :
    (val_main_v202 (F := Ideal) x0 x1 x2 x3 x4 x5 x6 x7 (ix3 b g p), val_main_v212 (F := Ideal) x0 x1 x2 x3 x4 x5 x6 x7 (ix3 b g p)) = val x0 x1 x2 x3 x4 x5 x6 x7 b g p :=
  holds_eight x0 x1 x2 x3 x4 x5 x6 x7 b g p

theorem re_eq : val_main_v213 (F := Ideal) x0 x1 x2 x3 x4 x5 x6 x7 = valRe x0 x1 x2 x3 x4 x5 x6 x7 := by
  funext i
  obtain ⟨b, g, p, rfl⟩ : ∃ (b : Fin 128) (g : Fin 32) (p : Fin 64), i = ix4 0 b g p := ⟨i 1, i 2, i 3, idx_ext₄ (Nat.lt_one_iff.mp (i 0).isLt) rfl rfl rfl⟩
  have e : valRe x0 x1 x2 x3 x4 x5 x6 x7 (ix4 0 b g p) = (val x0 x1 x2 x3 x4 x5 x6 x7 b g p).1 := rfl
  have hi : idx_main_v213 (ix4 0 b g p) = ix3 b g p := Cert.idx_ext₃ rfl rfl rfl
  rw [val_main_v213_apply, hi, e, ← pair_eq]

theorem im_eq : val_main_v214 (F := Ideal) x0 x1 x2 x3 x4 x5 x6 x7 = valIm x0 x1 x2 x3 x4 x5 x6 x7 := by
  funext i
  obtain ⟨b, g, p, rfl⟩ : ∃ (b : Fin 128) (g : Fin 32) (p : Fin 64), i = ix4 0 b g p := ⟨i 1, i 2, i 3, idx_ext₄ (Nat.lt_one_iff.mp (i 0).isLt) rfl rfl rfl⟩
  have e : valIm x0 x1 x2 x3 x4 x5 x6 x7 (ix4 0 b g p) = (val x0 x1 x2 x3 x4 x5 x6 x7 b g p).2 := rfl
  have hi : idx_main_v214 (ix4 0 b g p) = ix3 b g p := Cert.idx_ext₃ rfl rfl rfl
  rw [val_main_v214_apply, hi, e, ← pair_eq]

theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v213) = valRe (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v214) = valIm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run _ _ _).mono (fun r h c => ⟨(h c).1.trans ((val_main_v213_eq _).trans (re_eq _ _ _ _ _ _ _ _)), (h c).2.1.trans ((val_main_v214_eq _).trans (im_eq _ _ _ _ _ _ _ _)), (h c).2.2⟩) (Value.run m ρ)

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run _ _ _).mono (fun r h => ⟨fun c => (h c).2.2, sem_eq_zero_of_no_sems (by decide) r.2⟩) (Value.run m ρ)

end Cert.ReferenceS5SampleIdeal.Scan

end
-- ==== Proof.S5SampleEntry.lean ====
module

public import proofs.«01_k».proof.Proof.S5SampleOut
public import proofs.«01_k».proof.Proof.S5SampleRefIdeal

@[expose] public section

set_option maxRecDepth 16384

noncomputable section

namespace Cert.S5SampleIdeal.Scan

open Cert.S5SampleIdeal Cert.S5SampleIdeal.Gen
open Idealize.ShloMosaic Idealize.ShloMosaic.TcCoe Idealize.SL.Sem

open Cert.ReferenceS5SampleIdeal.Scan (idx_ext₄)

/-- Two indices of a five-axis shape are equal if their coordinates are. -/
theorem idx_ext₅ {n : Fin 5 → ℕ} {x y : (a : Fin 5) → Fin (n a)} (h0 : (x 0 : ℕ) = y 0) (h1 : (x 1 : ℕ) = y 1) (h2 : (x 2 : ℕ) = y 2) (h3 : (x 3 : ℕ) = y 3) (h4 : (x 4 : ℕ) = y 4) : x = y :=
  funext fun a => Fin.ext (match a with | ⟨0, _⟩ => h0 | ⟨1, _⟩ => h1 | ⟨2, _⟩ => h2 | ⟨3, _⟩ => h3 | ⟨4, _⟩ => h4)

/-! How the host lays the parameters out in blocks of eight groups. -/

/-- The group and the state of lane `l` of block `k`. -/
def grp (k : Fin 4) (l : Fin 512) : Fin 32 := ⟨8 * k.val + l.val / 64, by omega⟩
def st (l : Fin 512) : Fin 64 := ⟨l.val % 64, by omega⟩

/-- A decay for each lane, twice: for the real and for the imaginary parts. -/
def doubled (w : Vec Ideal S32x64 .f32) : Vec Ideal S4x1x1024 .f32 :=
  broadcastInDim S4x1x1024 ![0, 2] bcast_S4x1024_S4x1x1024_0_2
    (concatenate S4x1024 1 [⟨S4x512, shapeCast S4x512 w shapeCasts_S32x64_S4x512⟩, ⟨S4x512, shapeCast S4x512 w shapeCasts_S32x64_S4x512⟩] concatenates_S4x512_S4x512_S4x1024_d1)

theorem doubled_lo (w : Vec Ideal S32x64 .f32) (k : Fin 4) (l : Fin 512) : doubled w (ix3 k 0 (lo l)) = w (ix2 (grp k l) (st l)) := by
  unfold doubled
  rw [broadcastInDim_apply _ bcast_S4x1024_S4x1x1024_0_2 _ (ix3 k 0 (lo l)) (ix2 k (lo l)) (fun a => match a with
    | ⟨0, _⟩ => rfl
    | ⟨1, _⟩ => rfl)]
  rw [concatenate_pair_apply_left (1 : Fin S4x1024.rank) _ _ concatenates_S4x512_S4x512_S4x1024_d1 (ix2 k (lo l)) rfl (ix2 k l) (fun b => match b with
    | ⟨0, _⟩ => rfl
    | ⟨1, _⟩ => rfl)]
  exact shapeCast_apply w _ (ix2 k l) (ix2 (grp k l) (st l)) (by
    rw [Shape.rowMajor_val_two, Shape.rowMajor_val_two]
    show (8 * k.val + l.val / 64) * 64 + l.val % 64 = k.val * 512 + l.val
    omega)

/-- The decays' real parts and their imaginary parts, for each block. -/
def decays (p q : Vec Ideal S32x64 .f32) : Vec Ideal S4x2x1024 .f32 :=
  concatenate S4x2x1024 1 [⟨S4x1x1024, doubled p⟩, ⟨S4x1x1024, doubled q⟩] concatenates_S4x1x1024_S4x1x1024_S4x2x1024_d1

theorem decays_re (p q : Vec Ideal S32x64 .f32) (k : Fin 4) (l : Fin 512) : decays p q (ix3 k 0 (lo l)) = p (ix2 (grp k l) (st l)) :=
  (concatenate_pair_apply_left (1 : Fin S4x2x1024.rank) _ _ concatenates_S4x1x1024_S4x1x1024_S4x2x1024_d1 (ix3 k 0 (lo l)) rfl (ix3 k 0 (lo l)) (fun b => match b with
    | ⟨0, _⟩ => rfl
    | ⟨1, _⟩ => rfl
    | ⟨2, _⟩ => rfl)).trans (doubled_lo p k l)

theorem decays_im (p q : Vec Ideal S32x64 .f32) (k : Fin 4) (l : Fin 512) : decays p q (ix3 k 1 (lo l)) = q (ix2 (grp k l) (st l)) :=
  (concatenate_pair_apply_right (1 : Fin S4x2x1024.rank) _ _ concatenates_S4x1x1024_S4x1x1024_S4x2x1024_d1 (ix3 k 1 (lo l)) rfl rfl (ix3 k 0 (lo l)) (fun b hb => match b with
    | ⟨0, _⟩ => rfl
    | ⟨1, _⟩ => absurd rfl hb
    | ⟨2, _⟩ => rfl) rfl).trans (doubled_lo q k l)

/-- The unit matrix of eight groups. -/
def eye : FVec Ideal S8x8 .f32 :=
  uitofp .f32 (cmpi .eq (addi (iotaInDim S8x8 32 0) (broadcastInDim S8x8 ![] bcast_S_S8x8 (constantI S_ 32 0#32))) (iotaInDim S8x8 32 1))

theorem eye_bit : ∀ a b : Fin 8, IntOp.cmpi .eq (IntOp.addi (BitVec.ofNat 32 a.val) 0#32) (BitVec.ofNat 32 b.val) = if a = b then 1#1 else 0#1 := by decide

theorem eye_apply (a b : Fin 8) : eye (ix2 a b) = if a = b then 1 else 0 := by
  refine (congrArg (FloatOps.uitofp (F := Ideal) .f32) (eye_bit a b)).trans ?_
  split
  · show (((1#1 : BitVec 1).toNat : ℝ) : EReal) = 1
    simp
  · show (((0#1 : BitVec 1).toNat : ℝ) : EReal) = 0
    simp

/-- The input vectors of a block's groups, along the diagonal of a matrix from channels to states. -/
def diag (w : Vec Ideal S32x64x16 .f32) : Vec Ideal S4x128x512 .f32 :=
  shapeCast S4x128x512 (mulf
    (broadcastInDim S4x8x16x8x64 ![0, 1, 2, 3, 4] bcast_S4x8x16x1x64_S4x8x16x8x64_0_1_2_3_4 (broadcastInDim S4x8x16x1x64 ![0, 1, 2, 4] bcast_S4x8x16x64_S4x8x16x1x64_0_1_2_4
      (transpose S4x8x16x64 [0, 1, 3, 2] (shapeCast S4x8x64x16 w shapeCasts_S32x64x16_S4x8x64x16) transposes_S4x8x64x16_S4x8x16x64_0_1_3_2)) : FVec Ideal S4x8x16x8x64 .f32)
    (broadcastInDim S4x8x16x8x64 ![0, 1, 2, 3, 4] bcast_S1x8x1x8x1_S4x8x16x8x64_0_1_2_3_4 (broadcastInDim S1x8x1x8x1 ![1, 3] bcast_S8x8_S1x8x1x8x1_1_3 eye))) shapeCasts_S4x8x16x8x64_S4x128x512

theorem diag_apply (w : Vec Ideal S32x64x16 .f32) (k : Fin 4) (a : Fin 8) (c : Fin 16) (b : Fin 8) (p : Fin 64) :
    diag w (ix3 k ⟨16 * a.val + c.val, by omega⟩ ⟨64 * b.val + p.val, by omega⟩) = w (ix3 ⟨8 * k.val + a.val, by omega⟩ p c) * eye (ix2 a b) := by
  unfold diag
  rw [shapeCast_apply _ shapeCasts_S4x8x16x8x64_S4x128x512 _ (ix5 k a c b p) (by
    rw [Shape.rowMajor_val_three, Shape.rowMajor_val_five]
    show (((k.val * 8 + a.val) * 16 + c.val) * 8 + b.val) * 64 + p.val = (k.val * 128 + (16 * a.val + c.val)) * 512 + (64 * b.val + p.val)
    omega)]
  refine congrArg₂ (· * ·) ?_ ?_
  · rw [broadcastInDim_apply _ bcast_S4x8x16x1x64_S4x8x16x8x64_0_1_2_3_4 _ (ix5 k a c b p) (ix5 k a c 0 p) (fun d => match d with
      | ⟨0, _⟩ => rfl | ⟨1, _⟩ => rfl | ⟨2, _⟩ => rfl | ⟨3, _⟩ => rfl | ⟨4, _⟩ => rfl)]
    rw [broadcastInDim_apply _ bcast_S4x8x16x64_S4x8x16x1x64_0_1_2_4 _ (ix5 k a c 0 p) (ix4 k a c p) (fun d => match d with
      | ⟨0, _⟩ => rfl | ⟨1, _⟩ => rfl | ⟨2, _⟩ => rfl | ⟨3, _⟩ => rfl)]
    rw [transpose_apply [0, 1, 3, 2] _ transposes_S4x8x64x16_S4x8x16x64_0_1_3_2 (ix4 k a c p) (ix4 k a p c) (fun d => match d with
      | ⟨0, _⟩ => rfl | ⟨1, _⟩ => rfl | ⟨2, _⟩ => rfl | ⟨3, _⟩ => rfl)]
    exact shapeCast_apply w _ (ix4 k a p c) _ (by
      rw [Shape.rowMajor_val_three, Shape.rowMajor_val_four]
      show ((8 * k.val + a.val) * 64 + p.val) * 16 + c.val = ((k.val * 8 + a.val) * 64 + p.val) * 16 + c.val
      omega)
  · rw [broadcastInDim_apply _ bcast_S1x8x1x8x1_S4x8x16x8x64_0_1_2_3_4 _ (ix5 k a c b p) (ix5 0 a 0 b 0) (fun d => match d with
      | ⟨0, _⟩ => rfl | ⟨1, _⟩ => rfl | ⟨2, _⟩ => rfl | ⟨3, _⟩ => rfl | ⟨4, _⟩ => rfl)]
    exact broadcastInDim_apply _ bcast_S8x8_S1x8x1x8x1_1_3 _ (ix5 0 a 0 b 0) (ix2 a b) (fun d => match d with
      | ⟨0, _⟩ => rfl | ⟨1, _⟩ => rfl)

/-- The matrices of the real and of the imaginary parts. -/
def mats (p q : Vec Ideal S32x64x16 .f32) : Vec Ideal S4x128x1024 .f32 :=
  concatenate S4x128x1024 2 [⟨S4x128x512, diag p⟩, ⟨S4x128x512, diag q⟩] concatenates_S4x128x512_S4x128x512_S4x128x1024_d2

theorem mats_lo (p q : Vec Ideal S32x64x16 .f32) (k : Fin 4) (j : Fin 128) (l : Fin 512) : mats p q (ix3 k j (lo l)) = diag p (ix3 k j l) :=
  concatenate_pair_apply_left (2 : Fin S4x128x1024.rank) _ _ concatenates_S4x128x512_S4x128x512_S4x128x1024_d2 (ix3 k j (lo l)) rfl (ix3 k j l) (fun b => match b with
    | ⟨0, _⟩ => rfl
    | ⟨1, _⟩ => rfl
    | ⟨2, _⟩ => rfl)

theorem mats_hi (p q : Vec Ideal S32x64x16 .f32) (k : Fin 4) (j : Fin 128) (l : Fin 512) : mats p q (ix3 k j (hi l)) = diag q (ix3 k j l) :=
  concatenate_pair_apply_right (2 : Fin S4x128x1024.rank) _ _ concatenates_S4x128x512_S4x128x512_S4x128x1024_d2 (ix3 k j (hi l)) rfl rfl (ix3 k j l) (fun b hb => match b with
    | ⟨0, _⟩ => rfl
    | ⟨1, _⟩ => rfl
    | ⟨2, _⟩ => absurd rfl hb) (show l.val + 512 = 512 + l.val by omega)

/-- A block's channels against its matrix: the sixteen channels of the lane's group. -/
theorem diag_sum (w : Vec Ideal S32x64x16 .f32) (u : Fin 512 → EReal) (k : Fin 4) (l : Fin 512) :
    ∑ j : Fin 128, u ⟨128 * k.val + j.val, by omega⟩ * diag w (ix3 k j l)
      = ∑ c : Fin 16, u ⟨16 * (grp k l).val + c.val, by have := (grp k l).isLt; omega⟩ * w (ix3 (grp k l) (st l) c) := by
  have at_ : ∀ (a : Fin 8) (c : Fin 16), diag w (ix3 k (finProdFinEquiv (a, c) : Fin (8 * 16)) l) = w (ix3 ⟨8 * k.val + a.val, by omega⟩ (st l) c) * eye (ix2 a ⟨l.val / 64, by omega⟩) := fun a c => by
    have e1 : (finProdFinEquiv (a, c) : Fin (8 * 16)) = (⟨16 * a.val + c.val, by omega⟩ : Fin 128) := Fin.ext (show c.val + 16 * a.val = 16 * a.val + c.val by omega)
    have e2 : l = (⟨64 * (l.val / 64) + (st l).val, by have := (st l).isLt; omega⟩ : Fin 512) := Fin.ext (show l.val = 64 * (l.val / 64) + l.val % 64 by omega)
    exact (congrArg₂ (fun (x : Fin 128) (y : Fin 512) => diag w (ix3 k x y)) e1 e2).trans (diag_apply w k a c ⟨l.val / 64, by omega⟩ (st l))
  refine (Cert.Recur.sum_block (G := 8) (C := 16) ⟨l.val / 64, by omega⟩ (fun j => u ⟨128 * k.val + j.val, by have := j.isLt; omega⟩) (fun c => w (ix3 (grp k l) (st l) c)) (fun j => diag w (ix3 k j l)) (fun c => ?_) (fun g' c hg => ?_)).trans ?_
  · rw [at_, eye_apply, if_pos rfl, mul_one]
    rfl
  · rw [at_, eye_apply, if_neg hg, mul_zero]
  · refine Finset.sum_congr rfl fun c _ => congrArg (· * _) (congrArg u (Fin.ext ?_))
    show 128 * k.val + (c.val + 16 * (l.val / 64)) = 16 * (8 * k.val + l.val / 64) + c.val
    omega

/-- The states by block, real parts in front of imaginary ones. -/
def blocked (p q : Vec Ideal S1x128x32x64 .f32) : Vec Ideal S4x128x1024 .f32 :=
  transpose S4x128x1024 [1, 0, 2] (concatenate S128x4x1024 2
    [⟨S128x4x512, shapeCast S128x4x512 (shapeCast S128x32x64 p shapeCasts_S1x128x32x64_S128x32x64) shapeCasts_S128x32x64_S128x4x512⟩,
     ⟨S128x4x512, shapeCast S128x4x512 (shapeCast S128x32x64 q shapeCasts_S1x128x32x64_S128x32x64) shapeCasts_S128x32x64_S128x4x512⟩] concatenates_S128x4x512_S128x4x512_S128x4x1024_d2) transposes_S128x4x1024_S4x128x1024_1_0_2

theorem cast_state (p : Vec Ideal S1x128x32x64 .f32) (b : Fin 128) (k : Fin 4) (l : Fin 512) :
    shapeCast S128x4x512 (shapeCast S128x32x64 p shapeCasts_S1x128x32x64_S128x32x64) shapeCasts_S128x32x64_S128x4x512 (ix3 b k l) = p (ix4 0 b (grp k l) (st l)) := by
  rw [shapeCast_apply _ shapeCasts_S128x32x64_S128x4x512 (ix3 b k l) (ix3 b (grp k l) (st l)) (by
    rw [Shape.rowMajor_val_three, Shape.rowMajor_val_three]
    show (b.val * 32 + (8 * k.val + l.val / 64)) * 64 + l.val % 64 = (b.val * 4 + k.val) * 512 + l.val
    omega)]
  exact shapeCast_apply p _ _ _ (by
    rw [Shape.rowMajor_val_three, Shape.rowMajor_val_four]
    show ((0 * 128 + b.val) * 32 + (8 * k.val + l.val / 64)) * 64 + l.val % 64 = (b.val * 32 + (8 * k.val + l.val / 64)) * 64 + l.val % 64
    omega)

theorem blocked_lo (p q : Vec Ideal S1x128x32x64 .f32) (k : Fin 4) (b : Fin 128) (l : Fin 512) : blocked p q (ix3 k b (lo l)) = p (ix4 0 b (grp k l) (st l)) := by
  unfold blocked
  rw [transpose_apply [1, 0, 2] _ transposes_S128x4x1024_S4x128x1024_1_0_2 (ix3 k b (lo l)) (ix3 b k (lo l)) (fun d => match d with
    | ⟨0, _⟩ => rfl | ⟨1, _⟩ => rfl | ⟨2, _⟩ => rfl)]
  exact (concatenate_pair_apply_left (2 : Fin S128x4x1024.rank) _ _ concatenates_S128x4x512_S128x4x512_S128x4x1024_d2 (ix3 b k (lo l)) rfl (ix3 b k l) (fun b => match b with
    | ⟨0, _⟩ => rfl
    | ⟨1, _⟩ => rfl
    | ⟨2, _⟩ => rfl)).trans (cast_state p b k l)

theorem blocked_hi (p q : Vec Ideal S1x128x32x64 .f32) (k : Fin 4) (b : Fin 128) (l : Fin 512) : blocked p q (ix3 k b (hi l)) = q (ix4 0 b (grp k l) (st l)) := by
  unfold blocked
  rw [transpose_apply [1, 0, 2] _ transposes_S128x4x1024_S4x128x1024_1_0_2 (ix3 k b (hi l)) (ix3 b k (hi l)) (fun d => match d with
    | ⟨0, _⟩ => rfl | ⟨1, _⟩ => rfl | ⟨2, _⟩ => rfl)]
  exact (concatenate_pair_apply_right (2 : Fin S128x4x1024.rank) _ _ concatenates_S128x4x512_S128x4x512_S128x4x1024_d2 (ix3 b k (hi l)) rfl rfl (ix3 b k l) (fun b hb => match b with
    | ⟨0, _⟩ => rfl
    | ⟨1, _⟩ => rfl
    | ⟨2, _⟩ => absurd rfl hb) (show l.val + 512 = 512 + l.val by omega)).trans (cast_state q b k l)

/-! The arrays at the entry of the grid. -/

section
variable (m : (ℓ : Loc nD τ sig) → Buf (Elt Ideal) ℓ)

abbrev A0 : S128x8x2048.Idx → EReal := m (((0 : Dev nD) : Thread nD τ).loc main_arg0)
abbrev A1 : S1x128x32x64.Idx → EReal := m (((0 : Dev nD) : Thread nD τ).loc main_arg1)
abbrev A2 : S1x128x32x64.Idx → EReal := m (((0 : Dev nD) : Thread nD τ).loc main_arg2)
abbrev A3 : S1x32x64.Idx → EReal := m (((0 : Dev nD) : Thread nD τ).loc main_arg3)
abbrev A4 : S1x32x64.Idx → EReal := m (((0 : Dev nD) : Thread nD τ).loc main_arg4)
abbrev A5 : S1x32.Idx → EReal := m (((0 : Dev nD) : Thread nD τ).loc main_arg5)
abbrev A6 : S1x32x64x16.Idx → EReal := m (((0 : Dev nD) : Thread nD τ).loc main_arg6)
abbrev A7 : S1x32x64x16.Idx → EReal := m (((0 : Dev nD) : Thread nD τ).loc main_arg7)

theorem entry_x : V m 0 main_arg0 = A0 m := by
  simp only [V, V0, hostOps0, List.flatten_cons, List.flatten_nil, List.append_nil]
  after_results

theorem entry_h : V m 0 main_v104 = blocked (A1 m) (A2 m) := by
  simp only [V, V0, hostOps0, List.flatten_cons, List.flatten_nil, List.append_nil]
  after_results
  rfl

theorem entry_a : V m 0 main_v97 = decays (Cert.ReferenceS5SampleIdeal.Read.val_main_v17 (F := Ideal) (A3 m) (A4 m) (A5 m)) (Cert.ReferenceS5SampleIdeal.Read.val_main_v21 (F := Ideal) (A3 m) (A4 m) (A5 m)) := by
  simp only [V, V0, hostOps0, List.flatten_cons, List.flatten_nil, List.append_nil]
  after_results
  rfl

theorem entry_b : V m 0 main_v70 = mats (Cert.ReferenceS5SampleIdeal.Read.val_main_v41 (F := Ideal) (A3 m) (A4 m) (A5 m) (A6 m) (A7 m)) (Cert.ReferenceS5SampleIdeal.Read.val_main_v48 (F := Ideal) (A3 m) (A4 m) (A5 m) (A6 m) (A7 m)) := by
  simp only [V, V0, hostOps0, List.flatten_cons, List.flatten_nil, List.append_nil]
  after_results
  rfl

end

end Cert.S5SampleIdeal.Scan

end
-- ==== Proof.S5SampleKernelIdeal.lean ====
module

public import proofs.«01_k».proof.Proof.S5SampleEntry

@[expose] public section

set_option maxRecDepth 16384

noncomputable section

namespace Cert.S5SampleIdeal.Scan

open Cert.S5SampleIdeal Cert.S5SampleIdeal.Gen
open Idealize.ShloMosaic Idealize.ShloMosaic.TcCoe Idealize.SL.Sem

open Cert.ReferenceS5SampleIdeal.Scan (idx_ext₄ decayRe decayIm inRe inIm chan start val valRe valIm)

variable (m : (ℓ : Loc nD τ sig) → Buf (Elt Ideal) ℓ)

/-! The blocks a point reads, at an index of the arrays. -/

theorem idx0 : ∀ t : Fin cfg0.N, win0_0.index t = ![t.val, 0, 3] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0] := (by decide +kernel : ∀ t : Fin grid0.N, _)
theorem idx9 : ∀ t : Fin cfg0.N, win0_9.index t = ![0, t.val, 0] := (by decide +kernel : ∀ t : Fin grid0.N, _)

/-- The sequence that is sequence `r` of a point's block. -/
def row (t : Fin cfg0.N) (r : Fin 8) : Fin 128 := ⟨t.val * 8 + r.val, by
  have h := lt_of_lt_of_eq t.isLt (show cfg0.N = 16 from N_0)
  omega⟩

theorem blk_x (t : Fin cfg0.N) (r s : Fin 8) (j : Fin 512) : iblk m 0 0 t (ix3 r s j) = chan (A0 m) (row t r) s j := by
  have e := Pipeline.Window.rect_emb_val (cfg0.win 0) t
  have hi := idx0 t
  exact (congrArg (V m 0 main_arg0) (Cert.idx_ext₃ ((e _ (0 : Fin 3)).trans (by rw [hi]; rfl)) ((e _ (1 : Fin 3)).trans (by rw [hi]; exact Nat.zero_add _)) ((e _ (2 : Fin 3)).trans (by rw [hi]; rfl)))).trans
    (congrFun (entry_x m) (ix3 (row t r) s ⟨1536 + j.val, by omega⟩))
theorem blk_h (t : Fin cfg0.N) (k : Fin 4) (r : Fin 8) (j : Fin 1024) : iblk m 0 1 t (ix3 k r j) = blocked (A1 m) (A2 m) (ix3 k (row t r) j) := by
  have e := Pipeline.Window.rect_emb_val (cfg0.win 1) t
  have hi := idx1 t
  exact (congrArg (V m 0 main_v104) (Cert.idx_ext₃ ((e _ (0 : Fin 3)).trans (by rw [hi]; exact Nat.zero_add _)) ((e _ (1 : Fin 3)).trans (by rw [hi]; rfl)) ((e _ (2 : Fin 3)).trans (by rw [hi]; exact Nat.zero_add _)))).trans
    (congrFun (entry_h m) (ix3 k (row t r) j))
theorem blk_a (t : Fin cfg0.N) (k : Fin 4) (d : Fin 2) (j : Fin 1024) : iblk m 0 2 t (ix3 k d j) = V m 0 main_v97 (ix3 k d j) := by
  have e := Pipeline.Window.rect_emb_val (cfg0.win 2) t
  have hi := idx2 t
  exact congrArg (V m 0 main_v97) (Cert.idx_ext₃ ((e _ (0 : Fin 3)).trans (by rw [hi]; exact Nat.zero_add _)) ((e _ (1 : Fin 3)).trans (by rw [hi]; exact Nat.zero_add _)) ((e _ (2 : Fin 3)).trans (by rw [hi]; exact Nat.zero_add _)))
theorem blk_b (t : Fin cfg0.N) (k : Fin 4) (i : Fin 128) (j : Fin 1024) : iblk m 0 3 t (ix3 k i j) = V m 0 main_v70 (ix3 k i j) := by
  have e := Pipeline.Window.rect_emb_val (cfg0.win 3) t
  have hi := idx3 t
  exact congrArg (V m 0 main_v70) (Cert.idx_ext₃ ((e _ (0 : Fin 3)).trans (by rw [hi]; exact Nat.zero_add _)) ((e _ (1 : Fin 3)).trans (by rw [hi]; exact Nat.zero_add _)) ((e _ (2 : Fin 3)).trans (by rw [hi]; exact Nat.zero_add _)))

/-! The states of a point are the states of its eight sequences. -/

theorem decay_re (t : Fin cfg0.N) (k : Fin 4) (l : Fin 512) : iblk m 0 2 t (ix3 k 0 (lo l)) = decayRe (A3 m) (A4 m) (A5 m) (grp k l) (st l) :=
  (blk_a m t k 0 (lo l)).trans ((congrFun (entry_a m) _).trans (decays_re _ _ k l))
theorem decay_im (t : Fin cfg0.N) (k : Fin 4) (l : Fin 512) : iblk m 0 2 t (ix3 k 1 (lo l)) = decayIm (A3 m) (A4 m) (A5 m) (grp k l) (st l) :=
  (blk_a m t k 1 (lo l)).trans ((congrFun (entry_a m) _).trans (decays_im _ _ k l))

/-- The channels of a sequence at step `s`, as a point's block holds them. -/
theorem utm_eq (t : Fin cfg0.N) (k : Fin 4) (s : ℕ) (hs : s < 8) (r : Fin 8) (j : Fin 128) :
    utm (iblk m 0 0 t) k (tm s r) j = chan (A0 m) (row t r) ⟨s % 8, Nat.mod_lt _ (by decide)⟩ ⟨128 * k.val + j.val, by omega⟩ := by
  have e : (ix3 ⟨(tm s r).val % 8, Nat.mod_lt _ (by decide)⟩ ⟨(tm s r).val / 8, by have := (tm s r).isLt; omega⟩ ⟨128 * k.val + j.val, by omega⟩ : S8x8x512.Idx)
      = ix3 r ⟨s % 8, Nat.mod_lt _ (by decide)⟩ ⟨128 * k.val + j.val, by omega⟩ :=
    Cert.idx_ext₃ (show (8 * s + r.val) % 64 % 8 = r.val by omega) (show (8 * s + r.val) % 64 / 8 = s % 8 by omega) rfl
  exact (congrArg (iblk m 0 0 t) e).trans (blk_x m t r ⟨s % 8, Nat.mod_lt _ (by decide)⟩ ⟨128 * k.val + j.val, by omega⟩)

theorem inputs_lo (t : Fin cfg0.N) (k : Fin 4) (s : ℕ) (hs : s < 8) (r : Fin 8) (l : Fin 512) :
    inputs (iblk m 0 0 t) (iblk m 0 3 t) k (tm s r) (lo l) = ∑ c : Fin 16, chan (A0 m) (row t r) ⟨s % 8, Nat.mod_lt _ (by decide)⟩ ⟨16 * (grp k l).val + c.val, by have := (grp k l).isLt; omega⟩
      * inRe (A3 m) (A4 m) (A5 m) (A6 m) (A7 m) (grp k l) (st l) c :=
  (Finset.sum_congr rfl fun j _ => congrArg₂ (· * ·) (utm_eq m t k s hs r j) ((blk_b m t k j (lo l)).trans ((congrFun (entry_b m) _).trans (mats_lo _ _ k j l)))).trans
    (diag_sum _ (chan (A0 m) (row t r) ⟨s % 8, Nat.mod_lt _ (by decide)⟩) k l)
theorem inputs_hi (t : Fin cfg0.N) (k : Fin 4) (s : ℕ) (hs : s < 8) (r : Fin 8) (l : Fin 512) :
    inputs (iblk m 0 0 t) (iblk m 0 3 t) k (tm s r) (hi l) = ∑ c : Fin 16, chan (A0 m) (row t r) ⟨s % 8, Nat.mod_lt _ (by decide)⟩ ⟨16 * (grp k l).val + c.val, by have := (grp k l).isLt; omega⟩
      * inIm (A3 m) (A4 m) (A5 m) (A6 m) (A7 m) (grp k l) (st l) c :=
  (Finset.sum_congr rfl fun j _ => congrArg₂ (· * ·) (utm_eq m t k s hs r j) ((blk_b m t k j (hi l)).trans ((congrFun (entry_b m) _).trans (mats_hi _ _ k j l)))).trans
    (diag_sum _ (chan (A0 m) (row t r) ⟨s % 8, Nat.mod_lt _ (by decide)⟩) k l)

/-- The states after eight steps. -/
abbrev after : Fin 128 → Fin 32 → Fin 64 → EReal × EReal := val (A0 m) (A1 m) (A2 m) (A3 m) (A4 m) (A5 m) (A6 m) (A7 m)

theorem state_eq (t : Fin cfg0.N) (k : Fin 4) (r : Fin 8) (l : Fin 512) :
    state (iblk m 0 0 t) (iblk m 0 1 t) (iblk m 0 2 t) (iblk m 0 3 t) k r l = after m (row t r) (grp k l) (st l) := by
  have h0 : iblk m 0 1 t (ix3 k r (lo l)) = start (A1 m) (row t r) (grp k l) (st l) := (blk_h m t k r (lo l)).trans (blocked_lo _ _ k (row t r) l)
  have h1 : iblk m 0 1 t (ix3 k r (hi l)) = start (A2 m) (row t r) (grp k l) (st l) := (blk_h m t k r (hi l)).trans (blocked_hi _ _ k (row t r) l)
  unfold after val Cert.Recur.states state
  rw [decay_re, decay_im, h0, h1]
  exact Cert.Recur.run_congr 8 (fun s hs => inputs_lo m t k s hs r l) (fun s hs => inputs_hi m t k s hs r l)

/-! The array of the states. -/

/-- The states, as the contents of the call's array. -/
def swept : S4x128x1024.Idx → EReal := fun i =>
  if h : (i 2).val < 512 then (after m (i 1) (grp (i 0) ⟨(i 2).val, h⟩) (st ⟨(i 2).val, h⟩)).1
  else (after m (i 1) (grp (i 0) ⟨(i 2).val - 512, by have h2 : (i 2).val < 1024 := (i 2).isLt; omega⟩) (st ⟨(i 2).val - 512, by have h2 : (i 2).val < 1024 := (i 2).isLt; omega⟩)).2

theorem swept_lo (k : Fin 4) (b : Fin 128) (l : Fin 512) : swept m (ix3 k b (lo l)) = (after m b (grp k l) (st l)).1 :=
  dif_pos l.isLt
theorem swept_hi (k : Fin 4) (b : Fin 128) (l : Fin 512) : swept m (ix3 k b (hi l)) = (after m b (grp k l) (st l)).2 := by
  have e : (⟨512 + l.val - 512, by omega⟩ : Fin 512) = l := Fin.ext (by show 512 + l.val - 512 = l.val; omega)
  exact (dif_neg (show ¬ 512 + l.val < 512 by omega)).trans (congrArg (fun x => (after m b (grp k x) (st x)).2) e)

theorem out_block (t : Fin cfg0.N) (k : Fin 4) (r : Fin 8) (j : Fin 1024) : (outsAt0 m 0 t).2 (ix3 k r j) = swept m (ix3 k (row t r) j) := by
  by_cases h : j.val < 512
  · obtain ⟨l, rfl⟩ : ∃ l : Fin 512, j = lo l := ⟨⟨j.val, h⟩, rfl⟩
    have e : (outsAt0 m 0 t).2 (ix3 k r (lo l)) = (state (iblk m 0 0 t) (iblk m 0 1 t) (iblk m 0 2 t) (iblk m 0 3 t) k r l).1 :=
      by dsimp only [outsAt0]; exact out_lo _ _ _ _ _ _ _ _ _ _ _ _ _ _ _ _ _ _ _ _ _ _ _ _ _ _ _ _ _ _ _ _ _ _ _ _ _ _ _ _ k r l
    rw [e, state_eq, swept_lo]
  · obtain ⟨l, rfl⟩ : ∃ l : Fin 512, j = hi l := ⟨⟨j.val - 512, by omega⟩, Fin.ext (show j.val = 512 + (j.val - 512) by omega)⟩
    have e : (outsAt0 m 0 t).2 (ix3 k r (hi l)) = (state (iblk m 0 0 t) (iblk m 0 1 t) (iblk m 0 2 t) (iblk m 0 3 t) k r l).2 :=
      by dsimp only [outsAt0]; exact out_hi _ _ _ _ _ _ _ _ _ _ _ _ _ _ _ _ _ _ _ _ _ _ _ _ _ _ _ _ _ _ _ _ _ _ _ _ _ _ _ _ k r l
    rw [e, state_eq, swept_hi]

theorem out_at (t : Fin cfg0.N) (y : S4x8x1024.Idx) : (outsAt0 m 0 t).2 y = swept m (((cfg0.win 9).rect t).emb y) := by
  have e := Pipeline.Window.rect_emb_val (cfg0.win 9) t y
  have hi := idx9 t
  obtain ⟨k, r, j, rfl⟩ : ∃ (k : Fin 4) (r : Fin 8) (j : Fin 1024), y = ix3 k r j := ⟨y 0, y 1, y 2, Cert.idx_ext₃ rfl rfl rfl⟩
  refine (out_block m t k r j).trans (congrArg (swept m) (Cert.idx_ext₃ ?_ ?_ ?_))
  · exact ((e (0 : Fin 3)).trans (by rw [hi]; exact Nat.zero_add _)).symm
  · exact ((e (1 : Fin 3)).trans (by rw [hi]; rfl)).symm
  · exact ((e (2 : Fin 3)).trans (by rw [hi]; exact Nat.zero_add _)).symm

theorem arr_eq : (dats m 0 0).arrAt 9 cfg0.N = swept m := by
  refine (dats m 0 0).arrAt_eq_of_covers 9 (swept m) ?_ fun t hf y => ?_
  · refine Pipeline.Window.covers_of_index_surj _ rfl (fun a => by match a with | ⟨0, _⟩ => exact (by decide : 0 < 4) | ⟨1, _⟩ => exact (by decide : 0 < 8) | ⟨2, _⟩ => exact (by decide : 0 < 1024)) fun β => ?_
    have h0 : (β (0 : Fin 3)).val < 1 := lt_of_lt_of_eq (β (0 : Fin 3)).isLt (show (4 + 3) / 4 = 1 by decide)
    have h1 : (β (1 : Fin 3)).val < 16 := lt_of_lt_of_eq (β (1 : Fin 3)).isLt (show (128 + 7) / 8 = 16 by decide)
    have h2 : (β (2 : Fin 3)).val < 1 := lt_of_lt_of_eq (β (2 : Fin 3)).isLt (show (1024 + 1023) / 1024 = 1 by decide)
    refine ⟨⟨(β (1 : Fin 3)).val, lt_of_lt_of_eq h1 (show cfg0.N = 16 from N_0).symm⟩, fun a => ?_⟩
    refine (congrFun (idx9 _) a).trans ?_
    match a with
    | ⟨0, _⟩ => exact (show 0 = (β (0 : Fin 3)).val by omega)
    | ⟨1, _⟩ => rfl
    | ⟨2, _⟩ => exact (show 0 = (β (2 : Fin 3)).val by omega)
  · have e := out_at m t y
    rw [← after0_9] at e
    exact e

/-! The results: the states by sequence, after the call. -/

theorem arr_out : Pipeline.withArrays cfg0.spec 0 (V0 m 0) (fun w => (dats m 0 0).arrAt w cfg0.N) (Proc.devRef .tc main_v108_1) = swept m :=
  (Pipeline.withArrays_arr cfg0.spec (by decide) 0 (V0 m 0) (fun w => (dats m 0 0).arrAt w cfg0.N) 9).trans (arr_eq m)

/-- The host's cut of 512 lanes into groups. -/
def groups (o : Fin 3 → ℕ) (h : S128x4x1024.Slices o S128x4x512) (f : S4x128x1024.Idx → EReal) : S1x128x32x64.Idx → EReal :=
  broadcastInDim S1x128x32x64 ![1, 2, 3] bcast_S128x32x64_S1x128x32x64_1_2_3
    (shapeCast S128x32x64 (extractStridedSlice S128x4x512 o (transpose S128x4x1024 [1, 0, 2] f transposes_S4x128x1024_S128x4x1024_1_0_2) h) shapeCasts_S128x4x512_S128x32x64)

theorem groups_apply (d : ℕ) (o : Fin 3 → ℕ) (ho : o = ![0, 0, d]) (h : S128x4x1024.Slices o S128x4x512) (hd : d + 512 ≤ 1024) (f : S4x128x1024.Idx → EReal) (b : Fin 128) (g : Fin 32) (p : Fin 64) :
    groups o h f (ix4 0 b g p) = f (ix3 ⟨g.val / 8, by omega⟩ b ⟨d + (64 * (g.val % 8) + p.val), by omega⟩) := by
  subst ho
  unfold groups
  rw [broadcastInDim_apply _ bcast_S128x32x64_S1x128x32x64_1_2_3 _ (ix4 0 b g p) (ix3 b g p) (fun a => match a with
    | ⟨0, _⟩ => rfl | ⟨1, _⟩ => rfl | ⟨2, _⟩ => rfl)]
  rw [shapeCast_apply _ shapeCasts_S128x4x512_S128x32x64 (ix3 b g p) (ix3 b ⟨g.val / 8, by omega⟩ ⟨64 * (g.val % 8) + p.val, by omega⟩) (by
    rw [Shape.rowMajor_val_three, Shape.rowMajor_val_three]
    show (b.val * 4 + g.val / 8) * 512 + (64 * (g.val % 8) + p.val) = (b.val * 32 + g.val) * 64 + p.val
    omega)]
  rw [extractStridedSlice_apply _ _ h _ (ix3 b ⟨g.val / 8, by omega⟩ ⟨d + (64 * (g.val % 8) + p.val), by omega⟩) (fun a => match a with
    | ⟨0, _⟩ => (Nat.zero_add _).symm | ⟨1, _⟩ => (Nat.zero_add _).symm | ⟨2, _⟩ => rfl)]
  exact transpose_apply [1, 0, 2] _ transposes_S4x128x1024_S128x4x1024_1_0_2 _ _ (fun a => match a with
    | ⟨0, _⟩ => rfl | ⟨1, _⟩ => rfl | ⟨2, _⟩ => rfl)

/-- The block and the lane of a group's state. -/
theorem grp_eq (g : Fin 32) (p : Fin 64) : grp ⟨g.val / 8, by omega⟩ ⟨64 * (g.val % 8) + p.val, by omega⟩ = g :=
  Fin.ext (show 8 * (g.val / 8) + (64 * (g.val % 8) + p.val) / 64 = g.val by omega)
theorem st_eq (g : Fin 32) (p : Fin 64) : st ⟨64 * (g.val % 8) + p.val, by omega⟩ = p :=
  Fin.ext (show (64 * (g.val % 8) + p.val) % 64 = p.val by omega)

theorem groups_re : groups ![0, 0, 0] slices_S128x4x1024_S128x4x512_0_0_0 (swept m) = valRe (A0 m) (A1 m) (A2 m) (A3 m) (A4 m) (A5 m) (A6 m) (A7 m) := by
  funext i
  obtain ⟨b, g, p, rfl⟩ : ∃ (b : Fin 128) (g : Fin 32) (p : Fin 64), i = ix4 0 b g p := ⟨i 1, i 2, i 3, idx_ext₄ (Nat.lt_one_iff.mp (i 0).isLt) rfl rfl rfl⟩
  have e : valRe (A0 m) (A1 m) (A2 m) (A3 m) (A4 m) (A5 m) (A6 m) (A7 m) (ix4 0 b g p) = (after m b g p).1 := rfl
  have z : (ix3 ⟨g.val / 8, by omega⟩ b ⟨0 + (64 * (g.val % 8) + p.val), by omega⟩ : S4x128x1024.Idx) = ix3 ⟨g.val / 8, by omega⟩ b (lo ⟨64 * (g.val % 8) + p.val, by omega⟩) :=
    Cert.idx_ext₃ rfl rfl (Nat.zero_add _)
  refine (groups_apply 0 _ rfl _ (by decide) (swept m) b g p).trans ((congrArg (swept m) z).trans ((swept_lo m _ b ⟨64 * (g.val % 8) + p.val, by omega⟩).trans ?_))
  rw [grp_eq, st_eq, e]
theorem groups_im : groups ![0, 0, 512] slices_S128x4x1024_S128x4x512_0_0_512 (swept m) = valIm (A0 m) (A1 m) (A2 m) (A3 m) (A4 m) (A5 m) (A6 m) (A7 m) := by
  funext i
  obtain ⟨b, g, p, rfl⟩ : ∃ (b : Fin 128) (g : Fin 32) (p : Fin 64), i = ix4 0 b g p := ⟨i 1, i 2, i 3, idx_ext₄ (Nat.lt_one_iff.mp (i 0).isLt) rfl rfl rfl⟩
  have e : valIm (A0 m) (A1 m) (A2 m) (A3 m) (A4 m) (A5 m) (A6 m) (A7 m) (ix4 0 b g p) = (after m b g p).2 := rfl
  refine (groups_apply 512 _ rfl _ (by decide) (swept m) b g p).trans ((swept_hi m _ b ⟨64 * (g.val % 8) + p.val, by omega⟩).trans ?_)
  rw [grp_eq, st_eq, e]

theorem tail_re : Pipeline.afterTail₀ cfgs (dats m) 0 (V0 m) [hostOps1] 0 main_v114 = groups ![0, 0, 0] slices_S128x4x1024_S128x4x512_0_0_0 (swept m) := by
  unfold Pipeline.afterTail₀
  simp only [hostOps1, List.flatten_cons, List.flatten_nil, List.append_nil]
  after_results
  rw [show Pipeline.withArrays (cfgs 0).spec 0 (V0 m 0) (fun w => (dats m 0 0).arrAt w (cfgs 0).N) (Proc.devRef .tc main_v108_1) = swept m from arr_out m]
  rfl
theorem tail_im : Pipeline.afterTail₀ cfgs (dats m) 0 (V0 m) [hostOps1] 0 main_v115 = groups ![0, 0, 512] slices_S128x4x1024_S128x4x512_0_0_512 (swept m) := by
  unfold Pipeline.afterTail₀
  simp only [hostOps1, List.flatten_cons, List.flatten_nil, List.append_nil]
  after_results
  rw [show Pipeline.withArrays (cfgs 0).spec 0 (V0 m 0) (fun w => (dats m 0 0).arrAt w (cfgs 0).N) (Proc.devRef .tc main_v108_1) = swept m from arr_out m]
  rfl

theorem run_value (ρ : Dev nD → PrngReg) : θ_run (defs (F := Ideal)) (onTc (τ := τ) (main (F := Ideal))) ⟨m, fun _ => 0, ρ⟩ (fun r => ∀ c : Dev nD,
      r.2.mem ((c.tc : Thread nD τ).loc main_v114) = valRe (A0 m) (A1 m) (A2 m) (A3 m) (A4 m) (A5 m) (A6 m) (A7 m)
      ∧ r.2.mem ((c.tc : Thread nD τ).loc main_v115) = valIm (A0 m) (A1 m) (A2 m) (A3 m) (A4 m) (A5 m) (A6 m) (A7 m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run _ _ _).mono (fun r h c => by
    obtain rfl : c = 0 := Subsingleton.elim _ _
    exact ⟨((h.1 0).2 main_v114 (Pipeline.mem_restRefs_of main_v114 (by decide) (by decide))).trans ((tail_re m).trans (groups_re m)),
      ((h.1 0).2 main_v115 (Pipeline.mem_restRefs_of main_v115 (by decide) (by decide))).trans ((tail_im m).trans (groups_im m)), h.2.1 0⟩)
    (θ_run_and (run_main m ρ) (frame m ρ))

end Cert.S5SampleIdeal.Scan

end
-- ==== Proof.S5PromptCond.lean ====
module

public import proofs.«01_k».proof.Proof.Gen.S5Prompt.Loops
public import proofs.«01_k».proof.Proof.Gen.S5Prompt.Frame

@[expose] public section

set_option maxRecDepth 16384
set_option maxHeartbeats 8000000

noncomputable section

namespace Cert.S5Prompt.Scan

open Cert.S5Prompt.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The point is the first of the pass. -/
abbrev cFirst (i : grid0.Coords) : Prop := (Scalar.cmpi .ne (Scalar.extui (Scalar.cmpi .eq (BitVec.ofNat 32 (i 1).val) 0#32)) 0#32) = 1#1
/-- The point is the last of the pass. -/
abbrev cLast (i : grid0.Coords) : Prop := k0_cond2 i = 1#1

end Cert.S5Prompt.Scan

end
-- ==== Proof.S5PromptBody.lean ====
module

public import proofs.«01_k».proof.Proof.Gen.S5PromptIdeal.Frame
public import proofs.«01_k».proof.Proof.Gen.S5PromptIdeal.Loops
public import Idealize.ShloMosaic.Lib.Pipeline.ValueKit
public import Idealize.ShloMosaic.Lib.Pipeline.Covers
public import Idealize.ShloMosaic.Lib.Pointwise
public import Idealize.ShloMosaic.Lib.Claim
public import Idealize.ShloMosaic.Lib.Tactic

@[expose] public section

set_option maxRecDepth 16384

noncomputable section

namespace Cert.S5PromptIdeal.Scan

open Cert.S5PromptIdeal Cert.S5PromptIdeal.Gen
open Idealize.ShloMosaic Idealize.ShloMosaic.TcCoe Idealize.SL.Sem

/-! One step of the recurrence, at an index: the first arrangement of its arithmetic in the kernel;
the other blocks' are the same functions, cut at other places. -/

theorem re_apply (p q : Vec Ideal S8x512 .f32) (a b : Vec Ideal S1x1x512 .f32) (x : Vec Ideal S1x8x512 .f32) (r : Fin 8) (l : Fin 512) :
    k0_pay7 p q a b x (ix2 r l) = a (ix3 0 0 l) * p (ix2 r l) - b (ix3 0 0 l) * q (ix2 r l) + x (ix3 0 r l) := by
  pointwise [k0_pay7, k0_pay5, k0_pay6]

theorem im_apply (p q : Vec Ideal S8x512 .f32) (a b : Vec Ideal S1x1x512 .f32) (x : Vec Ideal S1x8x512 .f32) (r : Fin 8) (l : Fin 512) :
    k0_pay8 p q a b x (ix2 r l) = a (ix3 0 0 l) * q (ix2 r l) + b (ix3 0 0 l) * p (ix2 r l) + x (ix3 0 r l) := by
  pointwise [k0_pay8, k0_pay5, k0_pay6]

/-- The third block's imaginary part, whose two products the kernel takes apart. -/
theorem im_apply' (p q : Vec Ideal S8x512 .f32) (a b : Vec Ideal S1x1x512 .f32) (x : Vec Ideal S1x8x512 .f32) (r : Fin 8) (l : Fin 512) :
    k0_pay22 p (k0_pay20 q a) (k0_pay21 b) x (ix2 r l) = a (ix3 0 0 l) * q (ix2 r l) + b (ix3 0 0 l) * p (ix2 r l) + x (ix3 0 r l) := by
  pointwise [k0_pay22, k0_pay20, k0_pay21, k0_pay17, k0_pay18]

/-- What the loop carries: the real and the imaginary part of each of the four blocks of states. -/
abbrev Carry : Type := FVec Ideal S8x512 .f32 × FVec Ideal S8x512 .f32 × FVec Ideal S8x512 .f32 × FVec Ideal S8x512 .f32 × FVec Ideal S8x512 .f32 × FVec Ideal S8x512 .f32 × FVec Ideal S8x512 .f32 × FVec Ideal S8x512 .f32

def re (s : Carry) (k : Fin 4) : FVec Ideal S8x512 .f32 := match k with
  | 0 => s.1
  | 1 => s.2.2.1
  | 2 => s.2.2.2.2.1
  | 3 => s.2.2.2.2.2.2.1
def im (s : Carry) (k : Fin 4) : FVec Ideal S8x512 .f32 := match k with
  | 0 => s.2.1
  | 1 => s.2.2.2.1
  | 2 => s.2.2.2.2.2.1
  | 3 => s.2.2.2.2.2.2.2

/-- A lane of the real half of a block's row, and of the imaginary half. -/
abbrev lo (l : Fin 512) : Fin 1024 := ⟨l.val, by omega⟩
abbrev hi (l : Fin 512) : Fin 1024 := ⟨512 + l.val, by omega⟩

theorem trips_eq : k0_t1_loop.trips = 128 := by decide +kernel

/-- The row of the time-major inputs that trip `n` adds to sequence `r`. -/
abbrev at_ (n : Fin k0_t1_loop.trips) (r : Fin 8) : Fin 1024 := ⟨8 * n.val + r.val, by have h := lt_of_lt_of_eq n.isLt trips_eq; omega⟩

theorem off1 : ∀ n, k0_off1 n = ![0, 8 * n.val, 0] := by decide +kernel
theorem off2 : ∀ n, k0_off2 n = ![0, 8 * n.val, 512] := by decide +kernel
theorem off3 : ∀ n, k0_off3 n = ![1, 8 * n.val, 0] := by decide +kernel
theorem off4 : ∀ n, k0_off4 n = ![1, 8 * n.val, 512] := by decide +kernel
theorem off5 : ∀ n, k0_off5 n = ![2, 8 * n.val, 0] := by decide +kernel
theorem off6 : ∀ n, k0_off6 n = ![2, 8 * n.val, 512] := by decide +kernel
theorem off7 : ∀ n, k0_off7 n = ![3, 8 * n.val, 0] := by decide +kernel
theorem off8 : ∀ n, k0_off8 n = ![3, 8 * n.val, 512] := by decide +kernel

/-! Reads through rectangles, at an index. -/

/-- A block's row of decays. -/
theorem ld_decay (v : View sig .tc .vmem S4x2x1024 .f32) (f : v.ty.Contents (Elt Ideal)) (k : Fin 4) (j : Fin 2) (h) (l : Fin 512) :
    View.readAt (Elt Ideal) v (Rect.unit (s := S4x2x1024) ![k.val, j.val, 0] S1x1x512.size h).toLoadRect f (ix3 0 0 l) = v.read (Elt Ideal) f (ix3 k j (lo l)) := by
  rw [View.readAt_apply]
  refine congrArg _ (funext fun a => Fin.ext ?_)
  match a with
  | ⟨0, _⟩ => show k.val + 1 * 0 = k.val; omega
  | ⟨1, _⟩ => show j.val + 1 * 0 = j.val; omega
  | ⟨2, _⟩ => show 0 + 1 * l.val = l.val; omega

/-- Eight rows of a block, a half of its lanes. -/
theorem ld_rows {R : ℕ} (v : View sig .tc .vmem ⟨3, ![4, R, 1024]⟩ .f32) (f : v.ty.Contents (Elt Ideal)) (off : Fin 3 → ℕ) (h) (r : Fin 8) (l : Fin 512)
    (k : Fin 4) (y : Fin R) (z : Fin 1024) (h0 : off 0 = k.val) (h1 : off 1 + r.val = y.val) (h2 : off 2 + l.val = z.val) :
    View.readAt (Elt Ideal) v (Rect.unit (s := ⟨3, ![4, R, 1024]⟩) off S1x8x512.size h).toLoadRect f (ix3 0 r l) = v.read (Elt Ideal) f (ix3 k y z) := by
  rw [View.readAt_apply]
  refine congrArg _ (funext fun a => Fin.ext ?_)
  match a with
  | ⟨0, _⟩ => show off 0 + 1 * 0 = k.val; omega
  | ⟨1, _⟩ => show off 1 + 1 * r.val = y.val; omega
  | ⟨2, _⟩ => show off 2 + 1 * l.val = z.val; omega

section
variable (𝒱 : Variants) (c : Dev nD) (bd : Option 𝒱.V) (i : grid0.Coords)
  (a2 : Memref sig .tc .vmem S4x128x512 .f32) (h2 : a2.IsWhole) (a3 : Memref sig .tc .vmem S4x8x1024 .f32) (h3 : a3.IsWhole) (a4 : Memref sig .tc .vmem S4x2x1024 .f32) (h4 : a4.IsWhole)
  (a5 : Memref sig .tc .vmem S4x128x1024 .f32) (h5 : a5.IsWhole) (a6 : Memref sig .tc .vmem S4x1024x128 .f32) (h6 : a6.IsWhole) (a7 : Memref sig .tc .vmem S4x1x128 .f32) (h7 : a7.IsWhole)
  (a8 : Memref sig .tc .vmem S512x512 .f32) (h8 : a8.IsWhole) (a9 : Memref sig .tc .vmem S1x512 .f32) (h9 : a9.IsWhole) (a10 : Memref sig .tc .vmem S4x128x512 .f32) (h10 : a10.IsWhole)
  (a11 : Memref sig .tc .vmem S4x8x1024 .f32) (h11 : a11.IsWhole) (a12 : Memref sig .tc .vmem S4x1024x128 .f32) (h12 : a12.IsWhole) (a13 : Memref sig .tc .vmem S4x1024x1024 .f32) (h13 : a13.IsWhole)
  (a14 : Memref sig .tc .vmem S4x1024x128 .f32) (h14 : a14.IsWhole) (a15 : Memref sig .tc .vmem S4x8x1024 .f32) (h15 : a15.IsWhole)
  (v : FVec Ideal S8x512 .f32) (X : BufTy.Contents (Elt Ideal) a4.view.ty) (n : Fin k0_t1_loop.trips)
  (s : Carry) (f : BufTy.Contents (Elt Ideal) a13.view.ty)

theorem trip_re (k : Fin 4) (r : Fin 8) (l : Fin 512) :
    re (tripR_k0_t1 (F := Ideal) 𝒱 c bd i a2 h2 a3 h3 a4 h4 a5 h5 a6 h6 a7 h7 a8 h8 a9 h9 a10 h10 a11 h11 a12 h12 a13 h13 a14 h14 a15 h15 v X n s f) k (ix2 r l)
      = a4.view.read (Elt Ideal) X (ix3 k 0 (lo l)) * re s k (ix2 r l) - a4.view.read (Elt Ideal) X (ix3 k 1 (lo l)) * im s k (ix2 r l)
        + a13.view.read (Elt Ideal) f (ix3 k (at_ n r) (lo l)) := by
  unfold tripR_k0_t1 trip_k0_t1
  dsimp only
  rw [← ld_decay a4.view X k 0 (by revert k; decide) l, ← ld_decay a4.view X k 1 (by revert k; decide) l]
  match k with
  | 0 =>
    rw [← ld_rows (R := 1024) a13.view f (k0_off1 n) (k0_off1_inb n) r l 0 (at_ n r) (lo l) (by rw [off1]; rfl) (by rw [off1]; rfl) (by rw [off1]; exact Nat.zero_add _)]
    exact re_apply _ _ _ _ _ r l
  | 1 =>
    rw [← ld_rows (R := 1024) a13.view f (k0_off3 n) (k0_off3_inb n) r l 1 (at_ n r) (lo l) (by rw [off3]; rfl) (by rw [off3]; rfl) (by rw [off3]; exact Nat.zero_add _)]
    exact re_apply _ _ _ _ _ r l
  | 2 =>
    rw [← ld_rows (R := 1024) a13.view f (k0_off5 n) (k0_off5_inb n) r l 2 (at_ n r) (lo l) (by rw [off5]; rfl) (by rw [off5]; rfl) (by rw [off5]; exact Nat.zero_add _)]
    exact re_apply _ _ _ _ _ r l
  | 3 =>
    rw [← ld_rows (R := 1024) a13.view f (k0_off7 n) (k0_off7_inb n) r l 3 (at_ n r) (lo l) (by rw [off7]; rfl) (by rw [off7]; rfl) (by rw [off7]; exact Nat.zero_add _)]
    exact re_apply _ _ _ _ _ r l

theorem trip_im (k : Fin 4) (r : Fin 8) (l : Fin 512) :
    im (tripR_k0_t1 (F := Ideal) 𝒱 c bd i a2 h2 a3 h3 a4 h4 a5 h5 a6 h6 a7 h7 a8 h8 a9 h9 a10 h10 a11 h11 a12 h12 a13 h13 a14 h14 a15 h15 v X n s f) k (ix2 r l)
      = a4.view.read (Elt Ideal) X (ix3 k 0 (lo l)) * im s k (ix2 r l) + a4.view.read (Elt Ideal) X (ix3 k 1 (lo l)) * re s k (ix2 r l)
        + a13.view.read (Elt Ideal) f (ix3 k (at_ n r) (hi l)) := by
  unfold tripR_k0_t1 trip_k0_t1
  dsimp only
  rw [← ld_decay a4.view X k 0 (by revert k; decide) l, ← ld_decay a4.view X k 1 (by revert k; decide) l]
  match k with
  | 0 =>
    rw [← ld_rows (R := 1024) a13.view f (k0_off2 n) (k0_off2_inb n) r l 0 (at_ n r) (hi l) (by rw [off2]; rfl) (by rw [off2]; rfl) (by rw [off2]; rfl)]
    exact im_apply _ _ _ _ _ r l
  | 1 =>
    rw [← ld_rows (R := 1024) a13.view f (k0_off4 n) (k0_off4_inb n) r l 1 (at_ n r) (hi l) (by rw [off4]; rfl) (by rw [off4]; rfl) (by rw [off4]; rfl)]
    exact im_apply _ _ _ _ _ r l
  | 2 =>
    rw [← ld_rows (R := 1024) a13.view f (k0_off6 n) (k0_off6_inb n) r l 2 (at_ n r) (hi l) (by rw [off6]; rfl) (by rw [off6]; rfl) (by rw [off6]; rfl)]
    exact im_apply' _ _ _ _ _ r l
  | 3 =>
    rw [← ld_rows (R := 1024) a13.view f (k0_off8 n) (k0_off8_inb n) r l 3 (at_ n r) (hi l) (by rw [off8]; rfl) (by rw [off8]; rfl) (by rw [off8]; rfl)]
    exact im_apply _ _ _ _ _ r l

/-- A trip writes its own eight rows only. -/
theorem trip_rows (y : S4x1024x1024.Idx) (hy : 8 * n.val + 8 ≤ (y 1).val) :
    ∀ p ∈ tripL_k0_t1 (F := Ideal) 𝒱 c bd i a2 h2 a3 h3 a4 h4 a5 h5 a6 h6 a7 h7 a8 h8 a9 h9 a10 h10 a11 h11 a12 h12 a13 h13 a14 h14 a15 h15 v X n s f, y ∉ p.1.set := by
  have miss : ∀ p : View.Piece (Elt Ideal) S4x1024x1024 .f32, p.1.off 1 = 8 * n.val ∧ p.1.stride 1 = 1 ∧ p.1.size 1 = 8 → y ∉ p.1.set :=
    fun p h => Rect.not_mem_set_of_axis _ y (1 : Fin 3) (8 * n.val) 8 h.1 h.2.1 h.2.2 (Or.inr hy)
  intro p hp
  refine miss p ?_
  revert p
  unfold tripL_k0_t1 trip_k0_t1
  dsimp only
  refine List.forall_mem_cons.2 ⟨⟨congrFun (off8 n) 1, rfl, rfl⟩, List.forall_mem_cons.2 ⟨⟨congrFun (off7 n) 1, rfl, rfl⟩,
    List.forall_mem_cons.2 ⟨⟨congrFun (off6 n) 1, rfl, rfl⟩, List.forall_mem_cons.2 ⟨⟨congrFun (off5 n) 1, rfl, rfl⟩,
    List.forall_mem_cons.2 ⟨⟨congrFun (off4 n) 1, rfl, rfl⟩, List.forall_mem_cons.2 ⟨⟨congrFun (off3 n) 1, rfl, rfl⟩,
    List.forall_mem_cons.2 ⟨⟨congrFun (off2 n) 1, rfl, rfl⟩, List.forall_mem_cons.2 ⟨⟨congrFun (off1 n) 1, rfl, rfl⟩, fun p hp => absurd hp List.not_mem_nil⟩⟩⟩⟩⟩⟩⟩⟩

end

end Cert.S5PromptIdeal.Scan

end
-- ==== Proof.S5PromptCondIdeal.lean ====
module

public import proofs.«01_k».proof.Proof.Gen.S5PromptIdeal.Loops
public import proofs.«01_k».proof.Proof.Gen.S5PromptIdeal.Frame

@[expose] public section

set_option maxRecDepth 16384
set_option maxHeartbeats 8000000

noncomputable section

namespace Cert.S5PromptIdeal.Scan

open Cert.S5PromptIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The point is the first of the pass. -/
abbrev cFirst (i : grid0.Coords) : Prop := (Scalar.cmpi .ne (Scalar.extui (Scalar.cmpi .eq (BitVec.ofNat 32 (i 1).val) 0#32)) 0#32) = 1#1
/-- The point is the last of the pass. -/
abbrev cLast (i : grid0.Coords) : Prop := k0_cond2 i = 1#1

end Cert.S5PromptIdeal.Scan

end
-- ==== Proof.S5PromptFirstIdeal.lean ====
module

public import proofs.«01_k».proof.Proof.S5PromptCondIdeal

@[expose] public section

set_option maxRecDepth 16384
set_option maxHeartbeats 8000000

noncomputable section

namespace Cert.S5PromptIdeal.Scan

open Cert.S5PromptIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option sl_exec.stridedRows true in
/-- The body at the first point: the states are loaded into their buffer before the loop. The lists are what the body stores, of its sums and of the states. -/
def runFirst (c : Dev nD) (i : grid0.Coords) (a2 : Memref sig .tc .vmem S4x128x512 .f32) (h2 : a2.IsWhole) (a3 : Memref sig .tc .vmem S4x8x1024 .f32) (h3 : a3.IsWhole) (a4 : Memref sig .tc .vmem S4x2x1024 .f32) (h4 : a4.IsWhole) (a5 : Memref sig .tc .vmem S4x128x1024 .f32) (h5 : a5.IsWhole) (a6 : Memref sig .tc .vmem S4x1024x128 .f32) (h6 : a6.IsWhole) (a7 : Memref sig .tc .vmem S4x1x128 .f32) (h7 : a7.IsWhole) (a8 : Memref sig .tc .vmem S512x512 .f32) (h8 : a8.IsWhole) (a9 : Memref sig .tc .vmem S1x512 .f32) (h9 : a9.IsWhole) (a10 : Memref sig .tc .vmem S4x128x512 .f32) (h10 : a10.IsWhole) (a11 : Memref sig .tc .vmem S4x8x1024 .f32) (h11 : a11.IsWhole) (a12 : Memref sig .tc .vmem S4x1024x128 .f32) (h12 : a12.IsWhole) (a13 : Memref sig .tc .vmem S4x1024x1024 .f32) (h13 : a13.IsWhole) (a14 : Memref sig .tc .vmem S4x1024x128 .f32) (h14 : a14.IsWhole) (a15 : Memref sig .tc .vmem S4x8x1024 .f32) (h15 : a15.IsWhole)
    (hc0 : cFirst i) (hc1 : ¬ cLast i) (x0 : Vec F S4x128x512 .f32) (x1 : Vec F S4x8x1024 .f32) (x2 : Vec F S4x2x1024 .f32) (x3 : Vec F S4x128x1024 .f32) (x4 : Vec F S4x1024x128 .f32) (x5 : Vec F S4x1x128 .f32) (x6 : Vec F S512x512 .f32) (x7 : Vec F S1x512 .f32) :
    Σ' (L8 : List (View.Piece (Elt F) S4x128x512 .f32)), { LT : List (View.Piece (Elt F) S4x8x1024 .f32) //
      ∀ (xo : Vec F S4x8x1024 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ (∃ d, owns (c : Thread nD τ) a10 fullShare d) ∗ owns (c : Thread nD τ) a11 fullShare xo ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ (∃ f, a10.view.loc (c : Thread nD τ) ↦[a10.view.set]{fullShare} a10.view.writes (Elt F) f L8) ∗ owns (c : Thread nD τ) a11 fullShare xo ∗ (∃ d, owns (c : Thread nD τ) a12 fullShare d) ∗ (∃ d, owns (c : Thread nD τ) a13 fullShare d) ∗ (∃ d, owns (c : Thread nD τ) a14 fullShare d) ∗ (∃ f, a15.view.loc (c : Thread nD τ) ↦[a15.view.set]{fullShare} a15.view.writes (Elt F) f LT)) -∗ K ⟨⟩))
          ⊢ wp frame (wpE (defs₀ (F := F)) Variants.none c none) E (cc0_s5 i a2 h2 a3 h3 a4 h4 a5 h5 a6 h6 a7 h7 a8 h8 a9 h9 a10 h10 a11 h11 a12 h12 a13 h13 a14 h14 a15 h15) K } := by
  refine ⟨?_, ?_, fun xo E K => ?run⟩
  case run =>
    simp only [cc0_s5_eq_skeleton]; unfold cc0_s5_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%ds0, %fs0, -, HS0⟩, ⟨%ds1, %fs1, -, HS1⟩, ⟨%ds2, %fs2, -, HS2⟩, ⟨%ds3, %fs3, -, HS3⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6; obtain rfl := h9.eq_unread hf7
    sl_exec (disch := first | sl_exact hc0 | sl_exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]
    · iexists _; isplitr; · ipureintro; exact h9.read_unread _
      iexact H7
    isplitl [H8]; · iexists _; iexact H8
    isplitl [H9]
    · iexists _; isplitr; · ipureintro; exact hf9
      iexact H9
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _; iexact HS3

end Cert.S5PromptIdeal.Scan

end
-- ==== Proof.S5PromptNextIdeal.lean ====
module

public import proofs.«01_k».proof.Proof.S5PromptCondIdeal

@[expose] public section

set_option maxRecDepth 16384
set_option maxHeartbeats 8000000

noncomputable section

namespace Cert.S5PromptIdeal.Scan

open Cert.S5PromptIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option sl_exec.stridedRows true in
/-- The body at a point between: the loop starts from the states that the point before left. -/
def runNext (c : Dev nD) (i : grid0.Coords) (a2 : Memref sig .tc .vmem S4x128x512 .f32) (h2 : a2.IsWhole) (a3 : Memref sig .tc .vmem S4x8x1024 .f32) (h3 : a3.IsWhole) (a4 : Memref sig .tc .vmem S4x2x1024 .f32) (h4 : a4.IsWhole) (a5 : Memref sig .tc .vmem S4x128x1024 .f32) (h5 : a5.IsWhole) (a6 : Memref sig .tc .vmem S4x1024x128 .f32) (h6 : a6.IsWhole) (a7 : Memref sig .tc .vmem S4x1x128 .f32) (h7 : a7.IsWhole) (a8 : Memref sig .tc .vmem S512x512 .f32) (h8 : a8.IsWhole) (a9 : Memref sig .tc .vmem S1x512 .f32) (h9 : a9.IsWhole) (a10 : Memref sig .tc .vmem S4x128x512 .f32) (h10 : a10.IsWhole) (a11 : Memref sig .tc .vmem S4x8x1024 .f32) (h11 : a11.IsWhole) (a12 : Memref sig .tc .vmem S4x1024x128 .f32) (h12 : a12.IsWhole) (a13 : Memref sig .tc .vmem S4x1024x1024 .f32) (h13 : a13.IsWhole) (a14 : Memref sig .tc .vmem S4x1024x128 .f32) (h14 : a14.IsWhole) (a15 : Memref sig .tc .vmem S4x8x1024 .f32) (h15 : a15.IsWhole)
    (hc0 : ¬ cFirst i) (hc1 : ¬ cLast i) (x0 : Vec F S4x128x512 .f32) (x1 : Vec F S4x8x1024 .f32) (x2 : Vec F S4x2x1024 .f32) (x3 : Vec F S4x128x1024 .f32) (x4 : Vec F S4x1024x128 .f32) (x5 : Vec F S4x1x128 .f32) (x6 : Vec F S512x512 .f32) (x7 : Vec F S1x512 .f32) (xs : Vec F S4x8x1024 .f32) :
    Σ' (L8 : List (View.Piece (Elt F) S4x128x512 .f32)), { LT : List (View.Piece (Elt F) S4x8x1024 .f32) //
      ∀ (xo : Vec F S4x8x1024 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ (∃ d, owns (c : Thread nD τ) a10 fullShare d) ∗ owns (c : Thread nD τ) a11 fullShare xo ∗ (∃ d, owns (c : Thread nD τ) a12 fullShare d) ∗ (∃ d, owns (c : Thread nD τ) a13 fullShare d) ∗ (∃ d, owns (c : Thread nD τ) a14 fullShare d) ∗ owns (c : Thread nD τ) a15 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ (∃ f, a10.view.loc (c : Thread nD τ) ↦[a10.view.set]{fullShare} a10.view.writes (Elt F) f L8) ∗ owns (c : Thread nD τ) a11 fullShare xo ∗ (∃ d, owns (c : Thread nD τ) a12 fullShare d) ∗ (∃ d, owns (c : Thread nD τ) a13 fullShare d) ∗ (∃ d, owns (c : Thread nD τ) a14 fullShare d) ∗ (∃ f, a15.view.loc (c : Thread nD τ) ↦[a15.view.set]{fullShare} a15.view.writes (Elt F) f LT)) -∗ K ⟨⟩))
          ⊢ wp frame (wpE (defs₀ (F := F)) Variants.none c none) E (cc0_s5 i a2 h2 a3 h3 a4 h4 a5 h5 a6 h6 a7 h7 a8 h8 a9 h9 a10 h10 a11 h11 a12 h12 a13 h13 a14 h14 a15 h15) K } := by
  refine ⟨?_, ?_, fun xo E K => ?run⟩
  case run =>
    simp only [cc0_s5_eq_skeleton]; unfold cc0_s5_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%ds0, %fs0, -, HS0⟩, ⟨%ds1, %fs1, -, HS1⟩, ⟨%ds2, %fs2, -, HS2⟩, ⟨%fs3, %hfs3, HS3⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6; obtain rfl := h9.eq_unread hf7; obtain rfl := h15.eq_unread hfs3
    sl_exec (disch := first | sl_exact hc0 | sl_exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]
    · iexists _; isplitr; · ipureintro; exact h9.read_unread _
      iexact H7
    isplitl [H8]; · iexists _; iexact H8
    isplitl [H9]
    · iexists _; isplitr; · ipureintro; exact hf9
      iexact H9
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _; iexact HS3

end Cert.S5PromptIdeal.Scan

end
-- ==== Proof.S5PromptLastIdeal.lean ====
module

public import proofs.«01_k».proof.Proof.S5PromptCondIdeal

@[expose] public section

set_option maxRecDepth 16384
set_option maxHeartbeats 8000000

noncomputable section

namespace Cert.S5PromptIdeal.Scan

open Cert.S5PromptIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option sl_exec.stridedRows true in
/-- The body at the last point: the states are copied out after the loop. -/
def runLast (c : Dev nD) (i : grid0.Coords) (a2 : Memref sig .tc .vmem S4x128x512 .f32) (h2 : a2.IsWhole) (a3 : Memref sig .tc .vmem S4x8x1024 .f32) (h3 : a3.IsWhole) (a4 : Memref sig .tc .vmem S4x2x1024 .f32) (h4 : a4.IsWhole) (a5 : Memref sig .tc .vmem S4x128x1024 .f32) (h5 : a5.IsWhole) (a6 : Memref sig .tc .vmem S4x1024x128 .f32) (h6 : a6.IsWhole) (a7 : Memref sig .tc .vmem S4x1x128 .f32) (h7 : a7.IsWhole) (a8 : Memref sig .tc .vmem S512x512 .f32) (h8 : a8.IsWhole) (a9 : Memref sig .tc .vmem S1x512 .f32) (h9 : a9.IsWhole) (a10 : Memref sig .tc .vmem S4x128x512 .f32) (h10 : a10.IsWhole) (a11 : Memref sig .tc .vmem S4x8x1024 .f32) (h11 : a11.IsWhole) (a12 : Memref sig .tc .vmem S4x1024x128 .f32) (h12 : a12.IsWhole) (a13 : Memref sig .tc .vmem S4x1024x1024 .f32) (h13 : a13.IsWhole) (a14 : Memref sig .tc .vmem S4x1024x128 .f32) (h14 : a14.IsWhole) (a15 : Memref sig .tc .vmem S4x8x1024 .f32) (h15 : a15.IsWhole)
    (hc0 : ¬ cFirst i) (hc1 : cLast i) (x0 : Vec F S4x128x512 .f32) (x1 : Vec F S4x8x1024 .f32) (x2 : Vec F S4x2x1024 .f32) (x3 : Vec F S4x128x1024 .f32) (x4 : Vec F S4x1024x128 .f32) (x5 : Vec F S4x1x128 .f32) (x6 : Vec F S512x512 .f32) (x7 : Vec F S1x512 .f32) (xs : Vec F S4x8x1024 .f32) :
    Σ' (L8 : List (View.Piece (Elt F) S4x128x512 .f32)), Σ' (L9 : List (View.Piece (Elt F) S4x8x1024 .f32)), { LT : List (View.Piece (Elt F) S4x8x1024 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ owns (c : Thread nD τ) a15 fullShare xs
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ (∃ f, a10.view.loc (c : Thread nD τ) ↦[a10.view.set]{fullShare} a10.view.writes (Elt F) f L8) ∗ (∃ f, a11.view.loc (c : Thread nD τ) ↦[a11.view.set]{fullShare} a11.view.writes (Elt F) f L9) ∗ (∃ d, owns (c : Thread nD τ) a12 fullShare d) ∗ (∃ d, owns (c : Thread nD τ) a13 fullShare d) ∗ (∃ d, owns (c : Thread nD τ) a14 fullShare d) ∗ (∃ f, a15.view.loc (c : Thread nD τ) ↦[a15.view.set]{fullShare} a15.view.writes (Elt F) f LT)) -∗ K ⟨⟩))
          ⊢ wp frame (wpE (defs₀ (F := F)) Variants.none c none) E (cc0_s5 i a2 h2 a3 h3 a4 h4 a5 h5 a6 h6 a7 h7 a8 h8 a9 h9 a10 h10 a11 h11 a12 h12 a13 h13 a14 h14 a15 h15) K } := by
  refine ⟨?_, ?_, ?_, fun E K => ?run⟩
  case run =>
    simp only [cc0_s5_eq_skeleton]; unfold cc0_s5_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%ds2, %fs2, -, HS2⟩, ⟨%fs3, %hfs3, HS3⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6; obtain rfl := h9.eq_unread hf7; obtain rfl := h15.eq_unread hfs3
    sl_exec (disch := first | sl_exact hc0 | sl_exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]
    · iexists _; isplitr; · ipureintro; exact h9.read_unread _
      iexact H7
    isplitl [H8]; · iexists _; iexact H8
    isplitl [H9]; · iexists _; iexact H9
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _; iexact HS3

end Cert.S5PromptIdeal.Scan

end
-- ==== Proof.S5PromptLoop.lean ====
module

public import proofs.«01_k».proof.Proof.S5PromptBody
public import proofs.«01_k».proof.Proof.S5PromptFirstIdeal
public import proofs.«01_k».proof.Proof.S5PromptNextIdeal
public import proofs.«01_k».proof.Proof.S5PromptLastIdeal
public import proofs.«01_k».proof.Proof.Recur
public import proofs.«01_k».proof.Proof.Idx

@[expose] public section

set_option maxRecDepth 16384

noncomputable section

namespace Cert.S5PromptIdeal.Scan

open Cert.S5PromptIdeal Cert.S5PromptIdeal.Gen
open Idealize.ShloMosaic Idealize.ShloMosaic.TcCoe Idealize.SL.Sem

/-! The inputs laid out by time: four stores a block, each of one sequence at every eighth row, over zeros. -/

/-- The time-major inputs: row `8 t + j` of block `k` is sequence `j` at time `t`, the block's lanes. -/
def utm (x0 : Vec Ideal S4x128x512 .f32) (k : Fin 4) (y : Fin 1024) (l : Fin 128) : EReal :=
  x0 (ix3 ⟨y.val % 4, by omega⟩ ⟨y.val / 8, by omega⟩ ⟨128 * k.val + l.val, by omega⟩)

theorem inb_in (k : Fin 4) (j : Fin 4) : ∀ a, ![j.val, 0, 128 * k.val] a + S1x128x128.size a ≤ S4x128x512.size a := by
  intro a
  match a with
  | ⟨0, _⟩ => show j.val + 1 ≤ 4; omega
  | ⟨1, _⟩ => show 0 + 128 ≤ 128; omega
  | ⟨2, _⟩ => show 128 * k.val + 128 ≤ 512; omega

/-- Sequence `j`'s lanes of block `k`, as the store through the stride takes them. -/
def lanes (a2 : Memref sig .tc .vmem S4x128x512 .f32) (h2 : a2.IsWhole) (x0 : Vec Ideal S4x128x512 .f32) (k : Fin 4) (j : Fin 4) : Vec Ideal S1x128x128 .f32 :=
  k0_pay32 (View.readAt (Elt Ideal) a2.view (Rect.unit (s := S4x128x512) ![j.val, 0, 128 * k.val] S1x128x128.size (inb_in k j)).toLoadRect (h2.unread x0))

theorem inb_st (k : Fin 4) (j : Fin 4) : ∀ a, S1x128x128.size a = 0 ∨ ![k.val, j.val, 0] a + ![1, 8, 1] a * (S1x128x128.size a - 1) < S4x1024x128.size a := by
  intro a
  match a with
  | ⟨0, _⟩ => exact Or.inr (show k.val + 1 * (1 - 1) < 4 by omega)
  | ⟨1, _⟩ => exact Or.inr (show j.val + 8 * (128 - 1) < 1024 by omega)
  | ⟨2, _⟩ => exact Or.inr (show 0 + 1 * (128 - 1) < 128 by omega)

/-- The store of one sequence's lanes. -/
def upiece (k : Fin 4) (j : Fin 4) (w : Vec Ideal S1x128x128 .f32) : View.Piece (Elt Ideal) S4x1024x128 .f32 :=
  ⟨{ off := ![k.val, j.val, 0], size := S1x128x128.size, stride := ![1, 8, 1], inb := inb_st k j, stride_pos := spos_1_8_1 }, w⟩

/-- A block's four stores, the last first. -/
def ublock (a2 : Memref sig .tc .vmem S4x128x512 .f32) (h2 : a2.IsWhole) (x0 : Vec Ideal S4x128x512 .f32) (k : Fin 4) : List (View.Piece (Elt Ideal) S4x1024x128 .f32) :=
  [3, 2, 1, 0].map fun j => upiece k j (lanes a2 h2 x0 k j)

theorem upiece_at (a2 : Memref sig .tc .vmem S4x128x512 .f32) (h2 : a2.IsWhole) (x0 : Vec Ideal S4x128x512 .f32) (k : Fin 4) (j : Fin 4) (x : S1x128x128.Idx) :
    (upiece k j (lanes a2 h2 x0 k j)).2 x = (fun y : S4x1024x128.Idx => utm x0 (y 0) (y 1) (y 2)) ((upiece k j (lanes a2 h2 x0 k j)).1.emb x) := by
  obtain ⟨t, l, rfl⟩ : ∃ (t : Fin 128) (l : Fin 128), x = ix3 0 t l := ⟨x 1, x 2, Cert.idx_ext₃ (Nat.lt_one_iff.mp (x 0).isLt) rfl rfl⟩
  have e : lanes a2 h2 x0 k j (ix3 0 t l) = View.readAt (Elt Ideal) a2.view (Rect.unit (s := S4x128x512) ![j.val, 0, 128 * k.val] S1x128x128.size (inb_in k j)).toLoadRect (h2.unread x0) (ix3 0 t l) := by
    unfold lanes
    pointwise [k0_pay32]
  refine e.trans ?_
  rw [View.readAt_apply, h2.read_unread]
  refine congrArg x0 (funext fun a => Fin.ext ?_)
  match a with
  | ⟨0, _⟩ => show j.val + 1 * 0 = (j.val + 8 * t.val) % 4; omega
  | ⟨1, _⟩ => show 0 + 1 * t.val = (j.val + 8 * t.val) / 8; omega
  | ⟨2, _⟩ => show 128 * k.val + 1 * l.val = 128 * (k.val + 1 * 0) + (0 + 1 * l.val); omega

/-- Reading a block's row of a sequence back after its four stores, whatever was stored before them. -/
theorem utm_read (v : View sig .tc .vmem S4x1024x128 .f32) (f : v.ty.Contents (Elt Ideal)) (L : List (View.Piece (Elt Ideal) S4x1024x128 .f32))
    (a2 : Memref sig .tc .vmem S4x128x512 .f32) (h2 : a2.IsWhole) (x0 : Vec Ideal S4x128x512 .f32) (k : Fin 4) (y : Fin 1024) (hy : y.val % 8 < 4) (l : Fin 128) :
    v.read (Elt Ideal) (v.writes (Elt Ideal) f (ublock a2 h2 x0 k ++ L)) (ix3 k y l) = utm x0 k y l := by
  rw [View.writes_append]
  refine View.read_writes_apply_of_pieces v _ (fun z : S4x1024x128.Idx => utm x0 (z 0) (z 1) (z 2)) _ (fun p hp x => ?_) (ix3 k y l) ⟨upiece k ⟨y.val % 8, hy⟩ (lanes a2 h2 x0 k ⟨y.val % 8, hy⟩), ?_, ?_⟩
  · obtain ⟨j, -, rfl⟩ := List.mem_map.mp hp
    exact upiece_at a2 h2 x0 k j x
  · refine List.mem_map.mpr ⟨_, ?_, rfl⟩
    generalize (⟨y.val % 8, _⟩ : Fin 4) = j
    revert j
    decide
  · refine (LoadRect.mem_set _).mpr fun a => ?_
    match a with
    | ⟨0, _⟩ => exact ⟨0, (by decide : 0 < 1), by show k.val = k.val + 1 * 0; omega⟩
    | ⟨1, _⟩ => exact ⟨y.val / 8, (by show y.val / 8 < 128; omega), by show y.val = y.val % 8 + 8 * (y.val / 8); omega⟩
    | ⟨2, _⟩ => exact ⟨l.val, l.isLt, by show l.val = 0 + 1 * l.val; omega⟩

/-! The products with the input matrices. -/

/-- Block `k`'s inputs at row `y` times its matrix. -/
def inputs (x0 : Vec Ideal S4x128x512 .f32) (x3 : Vec Ideal S4x128x1024 .f32) (k : Fin 4) (y : Fin 1024) (z : Fin 1024) : EReal :=
  ∑ l : Fin 128, utm x0 k y l * x3 (ix3 k l z)

theorem dot_apply (u : Vec Ideal S1x1024x128 .f32) (w : Vec Ideal S1x128x1024 .f32) (y : Fin 1024) (z : Fin 1024) :
    k0_pay37 u w (ix3 0 y z) = ∑ l : Fin 128, u (ix3 0 y l) * w (ix3 0 l z) := by
  pointwise [k0_pay37]

section
variable (c : Dev nD) (i : grid0.Coords)
  (a2 : Memref sig .tc .vmem S4x128x512 .f32) (h2 : a2.IsWhole) (a3 : Memref sig .tc .vmem S4x8x1024 .f32) (h3 : a3.IsWhole) (a4 : Memref sig .tc .vmem S4x2x1024 .f32) (h4 : a4.IsWhole)
  (a5 : Memref sig .tc .vmem S4x128x1024 .f32) (h5 : a5.IsWhole) (a6 : Memref sig .tc .vmem S4x1024x128 .f32) (h6 : a6.IsWhole) (a7 : Memref sig .tc .vmem S4x1x128 .f32) (h7 : a7.IsWhole)
  (a8 : Memref sig .tc .vmem S512x512 .f32) (h8 : a8.IsWhole) (a9 : Memref sig .tc .vmem S1x512 .f32) (h9 : a9.IsWhole) (a10 : Memref sig .tc .vmem S4x128x512 .f32) (h10 : a10.IsWhole)
  (a11 : Memref sig .tc .vmem S4x8x1024 .f32) (h11 : a11.IsWhole) (a12 : Memref sig .tc .vmem S4x1024x128 .f32) (h12 : a12.IsWhole) (a13 : Memref sig .tc .vmem S4x1024x1024 .f32) (h13 : a13.IsWhole)
  (a14 : Memref sig .tc .vmem S4x1024x128 .f32) (h14 : a14.IsWhole) (a15 : Memref sig .tc .vmem S4x8x1024 .f32) (h15 : a15.IsWhole)
  (x0 : Vec Ideal S4x128x512 .f32) (x1 : Vec Ideal S4x8x1024 .f32) (x2 : Vec Ideal S4x2x1024 .f32) (x3 : Vec Ideal S4x128x1024 .f32)

theorem inb_u (k : Fin 4) : ∀ a, ![k.val, 0, 0] a + S1x1024x128.size a ≤ S4x1024x128.size a := by revert k; decide
theorem inb_b (k : Fin 4) : ∀ a, ![k.val, 0, 0] a + S1x128x1024.size a ≤ S4x128x1024.size a := by revert k; decide

/-- A block's product, from the block read back and its matrix read. -/
def product (L : List (View.Piece (Elt Ideal) S4x1024x128 .f32)) (k : Fin 4) : Vec Ideal S1x1024x1024 .f32 :=
  k0_pay37 (a12.view.readCov (ublock a2 h2 x0 k ++ L) (Rect.unit (s := S4x1024x128) ![k.val, 0, 0] S1x1024x128.size (inb_u k)).toLoadRect)
      (View.readAt (Elt Ideal) a5.view (Rect.unit (s := S4x128x1024) ![k.val, 0, 0] S1x128x1024.size (inb_b k)).toLoadRect (h5.unread x3))

theorem dot_block (L : List (View.Piece (Elt Ideal) S4x1024x128 .f32)) (k : Fin 4) (y : Fin 1024) (hy : y.val % 8 < 4) (z : Fin 1024) :
    product a2 h2 a5 h5 a12 x0 x3 L k (ix3 0 y z) = inputs x0 x3 k y z := by
  unfold product
  rw [dot_apply]
  refine Finset.sum_congr rfl fun l _ => congrArg₂ (· * ·) ?_ ?_
  · have e : (Rect.unit (s := S4x1024x128) ![k.val, 0, 0] S1x1024x128.size (inb_u k)).toLoadRect.idx (ix3 0 y l) = ix3 k y l := funext fun a => Fin.ext (by
      match a with
      | ⟨0, _⟩ => show k.val + 1 * 0 = k.val; omega
      | ⟨1, _⟩ => show 0 + 1 * y.val = y.val; omega
      | ⟨2, _⟩ => show 0 + 1 * l.val = l.val; omega)
    exact (congrArg (a12.view.read (Elt Ideal) (a12.view.writes (Elt Ideal) a12.view.junk (ublock a2 h2 x0 k ++ L))) e).trans (utm_read a12.view a12.view.junk L a2 h2 x0 k y hy l)
  · rw [View.readAt_apply, h5.read_unread]
    refine congrArg x3 (funext fun a => Fin.ext ?_)
    match a with
    | ⟨0, _⟩ => show k.val + 1 * 0 = k.val; omega
    | ⟨1, _⟩ => show 0 + 1 * l.val = l.val; omega
    | ⟨2, _⟩ => show 0 + 1 * z.val = z.val; omega

/-- What was stored before block `k`'s inputs. -/
def earlier : Fin 4 → List (View.Piece (Elt Ideal) S4x1024x128 .f32)
  | 0 => [⟨Rect.unit ![0, 0, 0] S4x1024x128.size inb_S4x1024x128_S4x1024x128_0_0_0, k0_pay31 (F := Ideal)⟩]
  | 1 => runNext.sl.HS0_5 (F := Ideal) c a2 h2 x0
  | 2 => runNext.sl.HS0_9 (F := Ideal) c a2 h2 x0
  | 3 => runNext.sl.HS0_13 (F := Ideal) c a2 h2 x0

/-- The four products, as the stores hold them. -/
def products : Vec Ideal S4x1024x1024 .f32 := fun y => product a2 h2 a5 h5 a12 x0 x3 (earlier c a2 h2 x0 (y 0)) (y 0) (ix3 0 (y 1) (y 2))

/-- What the loop finds in the buffer of products. -/
theorem hb_all (k : Fin 4) (y : Fin 1024) (z : Fin 1024) :
    a13.view.read (Elt Ideal) (a13.view.writes (Elt Ideal) a13.view.junk (runNext.sl.HS1_4 (F := Ideal) c a2 h2 a5 h5 a12 x0 x3)) (ix3 k y z) = products c a2 h2 a5 h5 a12 x0 x3 (ix3 k y z) := by
  refine View.read_writes_apply_of_pieces a13.view _ (products c a2 h2 a5 h5 a12 x0 x3) _ ?_ (ix3 k y z) ?_
  · have ok : ∀ (k : Fin 4) (h) (w : Vec Ideal S1x1024x1024 .f32), w = product a2 h2 a5 h5 a12 x0 x3 (earlier c a2 h2 x0 k) k →
        ∀ x, w x = (products c a2 h2 a5 h5 a12 x0 x3) ((Rect.unit (s := S4x1024x1024) ![k.val, 0, 0] S1x1024x1024.size h).emb x) := by
      intro k h w hw x
      obtain ⟨y, z, rfl⟩ : ∃ (y : Fin 1024) (z : Fin 1024), x = ix3 0 y z := ⟨x 1, x 2, Cert.idx_ext₃ (Nat.lt_one_iff.mp (x 0).isLt) rfl rfl⟩
      have e : (Rect.unit (s := S4x1024x1024) ![k.val, 0, 0] S1x1024x1024.size h).emb (ix3 0 y z) = ix3 k y z :=
        Cert.idx_ext₃ (show k.val + 1 * 0 = k.val by omega) (show 0 + 1 * y.val = y.val by omega) (show 0 + 1 * z.val = z.val by omega)
      rw [e, hw]
      rfl
    unfold runNext.sl.HS1_4
    refine List.forall_mem_cons.2 ⟨ok 3 (by decide) _ rfl, List.forall_mem_cons.2 ⟨ok 2 (by decide) _ rfl,
      List.forall_mem_cons.2 ⟨ok 1 (by decide) _ rfl, List.forall_mem_cons.2 ⟨ok 0 (by decide) _ rfl, fun p hp => absurd hp List.not_mem_nil⟩⟩⟩⟩
  · have cov : ∀ k : Fin 4, ∀ h, ix3 k y z ∈ (Rect.unit (s := S4x1024x1024) ![k.val, 0, 0] S1x1024x1024.size h).set := by
      intro k h
      refine (LoadRect.mem_set _).mpr fun a => ?_
      match a with
      | ⟨0, _⟩ => exact ⟨0, (by decide : 0 < 1), by show k.val = k.val + 1 * 0; omega⟩
      | ⟨1, _⟩ => exact ⟨y.val, y.isLt, by show y.val = 0 + 1 * y.val; omega⟩
      | ⟨2, _⟩ => exact ⟨z.val, z.isLt, by show z.val = 0 + 1 * z.val; omega⟩
    unfold runNext.sl.HS1_4
    match k with
    | 0 => exact ⟨_, List.mem_cons_of_mem _ (List.mem_cons_of_mem _ (List.mem_cons_of_mem _ List.mem_cons_self)), cov 0 (by decide)⟩
    | 1 => exact ⟨_, List.mem_cons_of_mem _ (List.mem_cons_of_mem _ List.mem_cons_self), cov 1 (by decide)⟩
    | 2 => exact ⟨_, List.mem_cons_of_mem _ List.mem_cons_self, cov 2 (by decide)⟩
    | 3 => exact ⟨_, List.mem_cons_self, cov 3 (by decide)⟩

/-- At the rows of the four sequences, the products are of the inputs. -/
theorem hb_read (k : Fin 4) (y : Fin 1024) (hy : y.val % 8 < 4) (z : Fin 1024) :
    a13.view.read (Elt Ideal) (a13.view.writes (Elt Ideal) a13.view.junk (runNext.sl.HS1_4 (F := Ideal) c a2 h2 a5 h5 a12 x0 x3)) (ix3 k y z) = inputs x0 x3 k y z :=
  (hb_all c a2 h2 a5 h5 a12 a13 x0 x3 k y z).trans (dot_block a2 h2 a5 h5 a12 x0 x3 (earlier c a2 h2 x0 k) k y hy z)

end

/-! The loop, from what it finds and what it starts from. -/

/-- The row of the time-major inputs of sequence `r` at time `t` (taken round past the last). -/
abbrev tm (t : ℕ) (r : Fin 8) : Fin 1024 := ⟨(8 * t + r.val) % 1024, by omega⟩

section
variable (𝒱 : Variants) (c : Dev nD) (bd : Option 𝒱.V) (i : grid0.Coords)
  (a2 : Memref sig .tc .vmem S4x128x512 .f32) (h2 : a2.IsWhole) (a3 : Memref sig .tc .vmem S4x8x1024 .f32) (h3 : a3.IsWhole) (a4 : Memref sig .tc .vmem S4x2x1024 .f32) (h4 : a4.IsWhole)
  (a5 : Memref sig .tc .vmem S4x128x1024 .f32) (h5 : a5.IsWhole) (a6 : Memref sig .tc .vmem S4x1024x128 .f32) (h6 : a6.IsWhole) (a7 : Memref sig .tc .vmem S4x1x128 .f32) (h7 : a7.IsWhole)
  (a8 : Memref sig .tc .vmem S512x512 .f32) (h8 : a8.IsWhole) (a9 : Memref sig .tc .vmem S1x512 .f32) (h9 : a9.IsWhole) (a10 : Memref sig .tc .vmem S4x128x512 .f32) (h10 : a10.IsWhole)
  (a11 : Memref sig .tc .vmem S4x8x1024 .f32) (h11 : a11.IsWhole) (a12 : Memref sig .tc .vmem S4x1024x128 .f32) (h12 : a12.IsWhole) (a13 : Memref sig .tc .vmem S4x1024x1024 .f32) (h13 : a13.IsWhole)
  (a14 : Memref sig .tc .vmem S4x1024x128 .f32) (h14 : a14.IsWhole) (a15 : Memref sig .tc .vmem S4x8x1024 .f32) (h15 : a15.IsWhole)
  (v : FVec Ideal S8x512 .f32) (X : BufTy.Contents (Elt Ideal) a4.view.ty) (G : BufTy.Contents (Elt Ideal) a13.view.ty) (init : Carry)

theorem loop_state (N : ℕ) (hN : N ≤ 128) :
    (∀ (k : Fin 4) (r : Fin 8) (l : Fin 512),
      (re (st_k0_t1 (F := Ideal) 𝒱 c bd i a2 h2 a3 h3 a4 h4 a5 h5 a6 h6 a7 h7 a8 h8 a9 h9 a10 h10 a11 h11 a12 h12 a13 h13 a14 h14 a15 h15 v X G init N).1 k (ix2 r l), im (st_k0_t1 (F := Ideal) 𝒱 c bd i a2 h2 a3 h3 a4 h4 a5 h5 a6 h6 a7 h7 a8 h8 a9 h9 a10 h10 a11 h11 a12 h12 a13 h13 a14 h14 a15 h15 v X G init N).1 k (ix2 r l))
        = Cert.Recur.run (a4.view.read (Elt Ideal) X (ix3 k 0 (lo l))) (a4.view.read (Elt Ideal) X (ix3 k 1 (lo l)))
            (fun t => a13.view.read (Elt Ideal) G (ix3 k (tm t r) (lo l))) (fun t => a13.view.read (Elt Ideal) G (ix3 k (tm t r) (hi l)))
            (re init k (ix2 r l), im init k (ix2 r l)) N)
    ∧ ∀ y : S4x1024x1024.Idx, 8 * N ≤ (y 1).val → ∀ p ∈ (st_k0_t1 (F := Ideal) 𝒱 c bd i a2 h2 a3 h3 a4 h4 a5 h5 a6 h6 a7 h7 a8 h8 a9 h9 a10 h10 a11 h11 a12 h12 a13 h13 a14 h14 a15 h15 v X G init N).2, y ∉ p.1.set := by
  induction N with
  | zero => exact ⟨fun k r l => rfl, fun y _ p hp => absurd hp List.not_mem_nil⟩
  | succ n ih =>
    have ih := ih (by omega)
    have e := st_k0_t1_succ (F := Ideal) 𝒱 c bd i a2 h2 a3 h3 a4 h4 a5 h5 a6 h6 a7 h7 a8 h8 a9 h9 a10 h10 a11 h11 a12 h12 a13 h13 a14 h14 a15 h15 v X G init ⟨n, lt_of_lt_of_eq (show n < 128 by omega) trips_eq.symm⟩
    dsimp only at e
    rw [e]
    refine ⟨fun k r l => ?_, fun y hy p hp => ?_⟩
    · have ht : at_ ⟨n, lt_of_lt_of_eq (show n < 128 by omega) trips_eq.symm⟩ r = tm n r := Fin.ext (by show 8 * n + r.val = (8 * n + r.val) % 1024; omega)
      have rd : ∀ z, a13.view.read (Elt Ideal) (a13.view.writes (Elt Ideal) G (st_k0_t1 (F := Ideal) 𝒱 c bd i a2 h2 a3 h3 a4 h4 a5 h5 a6 h6 a7 h7 a8 h8 a9 h9 a10 h10 a11 h11 a12 h12 a13 h13 a14 h14 a15 h15 v X G init n).2) (ix3 k (tm n r) z)
          = a13.view.read (Elt Ideal) G (ix3 k (tm n r) z) := fun z =>
        View.read_writes_apply_of_forall_not_mem a13.view G (ix3 k (tm n r) z) _ (ih.2 _ (by show 8 * n ≤ (8 * n + r.val) % 1024; omega))
      have e1 := congrArg Prod.fst (ih.1 k r l)
      have e2 := congrArg Prod.snd (ih.1 k r l)
      dsimp only at e1 e2
      refine Prod.ext ?_ ?_
      · refine (trip_re 𝒱 c bd i a2 h2 a3 h3 a4 h4 a5 h5 a6 h6 a7 h7 a8 h8 a9 h9 a10 h10 a11 h11 a12 h12 a13 h13 a14 h14 a15 h15 v X _ _ _ k r l).trans ?_
        rw [ht, rd, e1, e2]
        rfl
      · refine (trip_im 𝒱 c bd i a2 h2 a3 h3 a4 h4 a5 h5 a6 h6 a7 h7 a8 h8 a9 h9 a10 h10 a11 h11 a12 h12 a13 h13 a14 h14 a15 h15 v X _ _ _ k r l).trans ?_
        rw [ht, rd, e1, e2]
        rfl
    · rcases List.mem_append.mp hp with hp | hp
      · exact trip_rows 𝒱 c bd i a2 h2 a3 h3 a4 h4 a5 h5 a6 h6 a7 h7 a8 h8 a9 h9 a10 h10 a11 h11 a12 h12 a13 h13 a14 h14 a15 h15 v X _ _ _ y (by show 8 * n + 8 ≤ _; omega) p hp
      · exact ih.2 y (by omega) p hp

end

end Cert.S5PromptIdeal.Scan

end
-- ==== Proof.S5PromptFrameIdeal.lean ====
module

public import proofs.«01_k».proof.Proof.S5PromptFirstIdeal
public import proofs.«01_k».proof.Proof.S5PromptNextIdeal
public import proofs.«01_k».proof.Proof.S5PromptLastIdeal
public import Idealize.ShloMosaic.Lib.Claim

@[expose] public section

set_option maxRecDepth 16384

noncomputable section

namespace Cert.S5PromptIdeal.Scan

open Cert.S5PromptIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the stores of a point cover -/

theorem covFirst_y (c : Dev nD) (i : grid0.Coords) (a2 : Memref sig .tc .vmem S4x128x512 .f32) (h2 : a2.IsWhole) (a3 : Memref sig .tc .vmem S4x8x1024 .f32) (h3 : a3.IsWhole) (a4 : Memref sig .tc .vmem S4x2x1024 .f32) (h4 : a4.IsWhole) (a5 : Memref sig .tc .vmem S4x128x1024 .f32) (h5 : a5.IsWhole) (a6 : Memref sig .tc .vmem S4x1024x128 .f32) (h6 : a6.IsWhole) (a7 : Memref sig .tc .vmem S4x1x128 .f32) (h7 : a7.IsWhole) (a8 : Memref sig .tc .vmem S512x512 .f32) (h8 : a8.IsWhole) (a9 : Memref sig .tc .vmem S1x512 .f32) (h9 : a9.IsWhole) (a10 : Memref sig .tc .vmem S4x128x512 .f32) (h10 : a10.IsWhole) (a11 : Memref sig .tc .vmem S4x8x1024 .f32) (h11 : a11.IsWhole) (a12 : Memref sig .tc .vmem S4x1024x128 .f32) (h12 : a12.IsWhole) (a13 : Memref sig .tc .vmem S4x1024x1024 .f32) (h13 : a13.IsWhole) (a14 : Memref sig .tc .vmem S4x1024x128 .f32) (h14 : a14.IsWhole) (a15 : Memref sig .tc .vmem S4x8x1024 .f32) (h15 : a15.IsWhole)
    (hc0 : cFirst i) (hc1 : ¬ cLast i) (x0 : Vec F S4x128x512 .f32) (x1 : Vec F S4x8x1024 .f32) (x2 : Vec F S4x2x1024 .f32) (x3 : Vec F S4x128x1024 .f32) (x4 : Vec F S4x1024x128 .f32) (x5 : Vec F S4x1x128 .f32) (x6 : Vec F S512x512 .f32) (x7 : Vec F S1x512 .f32) (y : S4x128x512.Idx) :
    ∃ pc ∈ (runFirst c i a2 h2 a3 h3 a4 h4 a5 h5 a6 h6 a7 h7 a8 h8 a9 h9 a10 h10 a11 h11 a12 h12 a13 h13 a14 h14 a15 h15 hc0 hc1 x0 x1 x2 x3 x4 x5 x6 x7).1, y ∈ pc.1.set :=
  View.cover_of_tiledL (runFirst c i a2 h2 a3 h3 a4 h4 a5 h5 a6 h6 a7 h7 a8 h8 a9 h9 a10 h10 a11 h11 a12 h12 a13 h13 a14 h14 a15 h15 hc0 hc1 x0 x1 x2 x3 x4 x5 x6 x7).1 S1x128x128.size (by sl_kernel_rfl) y

theorem covFirst_s (c : Dev nD) (i : grid0.Coords) (a2 : Memref sig .tc .vmem S4x128x512 .f32) (h2 : a2.IsWhole) (a3 : Memref sig .tc .vmem S4x8x1024 .f32) (h3 : a3.IsWhole) (a4 : Memref sig .tc .vmem S4x2x1024 .f32) (h4 : a4.IsWhole) (a5 : Memref sig .tc .vmem S4x128x1024 .f32) (h5 : a5.IsWhole) (a6 : Memref sig .tc .vmem S4x1024x128 .f32) (h6 : a6.IsWhole) (a7 : Memref sig .tc .vmem S4x1x128 .f32) (h7 : a7.IsWhole) (a8 : Memref sig .tc .vmem S512x512 .f32) (h8 : a8.IsWhole) (a9 : Memref sig .tc .vmem S1x512 .f32) (h9 : a9.IsWhole) (a10 : Memref sig .tc .vmem S4x128x512 .f32) (h10 : a10.IsWhole) (a11 : Memref sig .tc .vmem S4x8x1024 .f32) (h11 : a11.IsWhole) (a12 : Memref sig .tc .vmem S4x1024x128 .f32) (h12 : a12.IsWhole) (a13 : Memref sig .tc .vmem S4x1024x1024 .f32) (h13 : a13.IsWhole) (a14 : Memref sig .tc .vmem S4x1024x128 .f32) (h14 : a14.IsWhole) (a15 : Memref sig .tc .vmem S4x8x1024 .f32) (h15 : a15.IsWhole)
    (hc0 : cFirst i) (hc1 : ¬ cLast i) (x0 : Vec F S4x128x512 .f32) (x1 : Vec F S4x8x1024 .f32) (x2 : Vec F S4x2x1024 .f32) (x3 : Vec F S4x128x1024 .f32) (x4 : Vec F S4x1024x128 .f32) (x5 : Vec F S4x1x128 .f32) (x6 : Vec F S512x512 .f32) (x7 : Vec F S1x512 .f32) (y : S4x8x1024.Idx) :
    ∃ pc ∈ (runFirst c i a2 h2 a3 h3 a4 h4 a5 h5 a6 h6 a7 h7 a8 h8 a9 h9 a10 h10 a11 h11 a12 h12 a13 h13 a14 h14 a15 h15 hc0 hc1 x0 x1 x2 x3 x4 x5 x6 x7).2.1, y ∈ pc.1.set :=
  let ⟨pc, hp, hy⟩ := View.cover_of_tiledL (((runFirst c i a2 h2 a3 h3 a4 h4 a5 h5 a6 h6 a7 h7 a8 h8 a9 h9 a10 h10 a11 h11 a12 h12 a13 h13 a14 h14 a15 h15 hc0 hc1 x0 x1 x2 x3 x4 x5 x6 x7).2.1).take 8) S1x8x512.size (by sl_kernel_rfl) y
  ⟨pc, List.mem_of_mem_take hp, hy⟩

theorem covNext_y (c : Dev nD) (i : grid0.Coords) (a2 : Memref sig .tc .vmem S4x128x512 .f32) (h2 : a2.IsWhole) (a3 : Memref sig .tc .vmem S4x8x1024 .f32) (h3 : a3.IsWhole) (a4 : Memref sig .tc .vmem S4x2x1024 .f32) (h4 : a4.IsWhole) (a5 : Memref sig .tc .vmem S4x128x1024 .f32) (h5 : a5.IsWhole) (a6 : Memref sig .tc .vmem S4x1024x128 .f32) (h6 : a6.IsWhole) (a7 : Memref sig .tc .vmem S4x1x128 .f32) (h7 : a7.IsWhole) (a8 : Memref sig .tc .vmem S512x512 .f32) (h8 : a8.IsWhole) (a9 : Memref sig .tc .vmem S1x512 .f32) (h9 : a9.IsWhole) (a10 : Memref sig .tc .vmem S4x128x512 .f32) (h10 : a10.IsWhole) (a11 : Memref sig .tc .vmem S4x8x1024 .f32) (h11 : a11.IsWhole) (a12 : Memref sig .tc .vmem S4x1024x128 .f32) (h12 : a12.IsWhole) (a13 : Memref sig .tc .vmem S4x1024x1024 .f32) (h13 : a13.IsWhole) (a14 : Memref sig .tc .vmem S4x1024x128 .f32) (h14 : a14.IsWhole) (a15 : Memref sig .tc .vmem S4x8x1024 .f32) (h15 : a15.IsWhole)
    (hc0 : ¬ cFirst i) (hc1 : ¬ cLast i) (x0 : Vec F S4x128x512 .f32) (x1 : Vec F S4x8x1024 .f32) (x2 : Vec F S4x2x1024 .f32) (x3 : Vec F S4x128x1024 .f32) (x4 : Vec F S4x1024x128 .f32) (x5 : Vec F S4x1x128 .f32) (x6 : Vec F S512x512 .f32) (x7 : Vec F S1x512 .f32) (xs : Vec F S4x8x1024 .f32) (y : S4x128x512.Idx) :
    ∃ pc ∈ (runNext c i a2 h2 a3 h3 a4 h4 a5 h5 a6 h6 a7 h7 a8 h8 a9 h9 a10 h10 a11 h11 a12 h12 a13 h13 a14 h14 a15 h15 hc0 hc1 x0 x1 x2 x3 x4 x5 x6 x7 xs).1, y ∈ pc.1.set :=
  View.cover_of_tiledL (runNext c i a2 h2 a3 h3 a4 h4 a5 h5 a6 h6 a7 h7 a8 h8 a9 h9 a10 h10 a11 h11 a12 h12 a13 h13 a14 h14 a15 h15 hc0 hc1 x0 x1 x2 x3 x4 x5 x6 x7 xs).1 S1x128x128.size (by sl_kernel_rfl) y

theorem covNext_s (c : Dev nD) (i : grid0.Coords) (a2 : Memref sig .tc .vmem S4x128x512 .f32) (h2 : a2.IsWhole) (a3 : Memref sig .tc .vmem S4x8x1024 .f32) (h3 : a3.IsWhole) (a4 : Memref sig .tc .vmem S4x2x1024 .f32) (h4 : a4.IsWhole) (a5 : Memref sig .tc .vmem S4x128x1024 .f32) (h5 : a5.IsWhole) (a6 : Memref sig .tc .vmem S4x1024x128 .f32) (h6 : a6.IsWhole) (a7 : Memref sig .tc .vmem S4x1x128 .f32) (h7 : a7.IsWhole) (a8 : Memref sig .tc .vmem S512x512 .f32) (h8 : a8.IsWhole) (a9 : Memref sig .tc .vmem S1x512 .f32) (h9 : a9.IsWhole) (a10 : Memref sig .tc .vmem S4x128x512 .f32) (h10 : a10.IsWhole) (a11 : Memref sig .tc .vmem S4x8x1024 .f32) (h11 : a11.IsWhole) (a12 : Memref sig .tc .vmem S4x1024x128 .f32) (h12 : a12.IsWhole) (a13 : Memref sig .tc .vmem S4x1024x1024 .f32) (h13 : a13.IsWhole) (a14 : Memref sig .tc .vmem S4x1024x128 .f32) (h14 : a14.IsWhole) (a15 : Memref sig .tc .vmem S4x8x1024 .f32) (h15 : a15.IsWhole)
    (hc0 : ¬ cFirst i) (hc1 : ¬ cLast i) (x0 : Vec F S4x128x512 .f32) (x1 : Vec F S4x8x1024 .f32) (x2 : Vec F S4x2x1024 .f32) (x3 : Vec F S4x128x1024 .f32) (x4 : Vec F S4x1024x128 .f32) (x5 : Vec F S4x1x128 .f32) (x6 : Vec F S512x512 .f32) (x7 : Vec F S1x512 .f32) (xs : Vec F S4x8x1024 .f32) (y : S4x8x1024.Idx) :
    ∃ pc ∈ (runNext c i a2 h2 a3 h3 a4 h4 a5 h5 a6 h6 a7 h7 a8 h8 a9 h9 a10 h10 a11 h11 a12 h12 a13 h13 a14 h14 a15 h15 hc0 hc1 x0 x1 x2 x3 x4 x5 x6 x7 xs).2.1, y ∈ pc.1.set :=
  View.cover_of_tiledL (runNext c i a2 h2 a3 h3 a4 h4 a5 h5 a6 h6 a7 h7 a8 h8 a9 h9 a10 h10 a11 h11 a12 h12 a13 h13 a14 h14 a15 h15 hc0 hc1 x0 x1 x2 x3 x4 x5 x6 x7 xs).2.1 S1x8x512.size (by sl_kernel_rfl) y

theorem covLast_y (c : Dev nD) (i : grid0.Coords) (a2 : Memref sig .tc .vmem S4x128x512 .f32) (h2 : a2.IsWhole) (a3 : Memref sig .tc .vmem S4x8x1024 .f32) (h3 : a3.IsWhole) (a4 : Memref sig .tc .vmem S4x2x1024 .f32) (h4 : a4.IsWhole) (a5 : Memref sig .tc .vmem S4x128x1024 .f32) (h5 : a5.IsWhole) (a6 : Memref sig .tc .vmem S4x1024x128 .f32) (h6 : a6.IsWhole) (a7 : Memref sig .tc .vmem S4x1x128 .f32) (h7 : a7.IsWhole) (a8 : Memref sig .tc .vmem S512x512 .f32) (h8 : a8.IsWhole) (a9 : Memref sig .tc .vmem S1x512 .f32) (h9 : a9.IsWhole) (a10 : Memref sig .tc .vmem S4x128x512 .f32) (h10 : a10.IsWhole) (a11 : Memref sig .tc .vmem S4x8x1024 .f32) (h11 : a11.IsWhole) (a12 : Memref sig .tc .vmem S4x1024x128 .f32) (h12 : a12.IsWhole) (a13 : Memref sig .tc .vmem S4x1024x1024 .f32) (h13 : a13.IsWhole) (a14 : Memref sig .tc .vmem S4x1024x128 .f32) (h14 : a14.IsWhole) (a15 : Memref sig .tc .vmem S4x8x1024 .f32) (h15 : a15.IsWhole)
    (hc0 : ¬ cFirst i) (hc1 : cLast i) (x0 : Vec F S4x128x512 .f32) (x1 : Vec F S4x8x1024 .f32) (x2 : Vec F S4x2x1024 .f32) (x3 : Vec F S4x128x1024 .f32) (x4 : Vec F S4x1024x128 .f32) (x5 : Vec F S4x1x128 .f32) (x6 : Vec F S512x512 .f32) (x7 : Vec F S1x512 .f32) (xs : Vec F S4x8x1024 .f32) (y : S4x128x512.Idx) :
    ∃ pc ∈ (runLast c i a2 h2 a3 h3 a4 h4 a5 h5 a6 h6 a7 h7 a8 h8 a9 h9 a10 h10 a11 h11 a12 h12 a13 h13 a14 h14 a15 h15 hc0 hc1 x0 x1 x2 x3 x4 x5 x6 x7 xs).1, y ∈ pc.1.set :=
  View.cover_of_tiledL (runLast c i a2 h2 a3 h3 a4 h4 a5 h5 a6 h6 a7 h7 a8 h8 a9 h9 a10 h10 a11 h11 a12 h12 a13 h13 a14 h14 a15 h15 hc0 hc1 x0 x1 x2 x3 x4 x5 x6 x7 xs).1 S1x128x128.size (by sl_kernel_rfl) y

theorem covLast_h (c : Dev nD) (i : grid0.Coords) (a2 : Memref sig .tc .vmem S4x128x512 .f32) (h2 : a2.IsWhole) (a3 : Memref sig .tc .vmem S4x8x1024 .f32) (h3 : a3.IsWhole) (a4 : Memref sig .tc .vmem S4x2x1024 .f32) (h4 : a4.IsWhole) (a5 : Memref sig .tc .vmem S4x128x1024 .f32) (h5 : a5.IsWhole) (a6 : Memref sig .tc .vmem S4x1024x128 .f32) (h6 : a6.IsWhole) (a7 : Memref sig .tc .vmem S4x1x128 .f32) (h7 : a7.IsWhole) (a8 : Memref sig .tc .vmem S512x512 .f32) (h8 : a8.IsWhole) (a9 : Memref sig .tc .vmem S1x512 .f32) (h9 : a9.IsWhole) (a10 : Memref sig .tc .vmem S4x128x512 .f32) (h10 : a10.IsWhole) (a11 : Memref sig .tc .vmem S4x8x1024 .f32) (h11 : a11.IsWhole) (a12 : Memref sig .tc .vmem S4x1024x128 .f32) (h12 : a12.IsWhole) (a13 : Memref sig .tc .vmem S4x1024x1024 .f32) (h13 : a13.IsWhole) (a14 : Memref sig .tc .vmem S4x1024x128 .f32) (h14 : a14.IsWhole) (a15 : Memref sig .tc .vmem S4x8x1024 .f32) (h15 : a15.IsWhole)
    (hc0 : ¬ cFirst i) (hc1 : cLast i) (x0 : Vec F S4x128x512 .f32) (x1 : Vec F S4x8x1024 .f32) (x2 : Vec F S4x2x1024 .f32) (x3 : Vec F S4x128x1024 .f32) (x4 : Vec F S4x1024x128 .f32) (x5 : Vec F S4x1x128 .f32) (x6 : Vec F S512x512 .f32) (x7 : Vec F S1x512 .f32) (xs : Vec F S4x8x1024 .f32) (y : S4x8x1024.Idx) :
    ∃ pc ∈ (runLast c i a2 h2 a3 h3 a4 h4 a5 h5 a6 h6 a7 h7 a8 h8 a9 h9 a10 h10 a11 h11 a12 h12 a13 h13 a14 h14 a15 h15 hc0 hc1 x0 x1 x2 x3 x4 x5 x6 x7 xs).2.1, y ∈ pc.1.set :=
  View.cover_of_tiledL (runLast c i a2 h2 a3 h3 a4 h4 a5 h5 a6 h6 a7 h7 a8 h8 a9 h9 a10 h10 a11 h11 a12 h12 a13 h13 a14 h14 a15 h15 hc0 hc1 x0 x1 x2 x3 x4 x5 x6 x7 xs).2.1 S4x8x1024.size (by sl_kernel_rfl) y

theorem covLast_s (c : Dev nD) (i : grid0.Coords) (a2 : Memref sig .tc .vmem S4x128x512 .f32) (h2 : a2.IsWhole) (a3 : Memref sig .tc .vmem S4x8x1024 .f32) (h3 : a3.IsWhole) (a4 : Memref sig .tc .vmem S4x2x1024 .f32) (h4 : a4.IsWhole) (a5 : Memref sig .tc .vmem S4x128x1024 .f32) (h5 : a5.IsWhole) (a6 : Memref sig .tc .vmem S4x1024x128 .f32) (h6 : a6.IsWhole) (a7 : Memref sig .tc .vmem S4x1x128 .f32) (h7 : a7.IsWhole) (a8 : Memref sig .tc .vmem S512x512 .f32) (h8 : a8.IsWhole) (a9 : Memref sig .tc .vmem S1x512 .f32) (h9 : a9.IsWhole) (a10 : Memref sig .tc .vmem S4x128x512 .f32) (h10 : a10.IsWhole) (a11 : Memref sig .tc .vmem S4x8x1024 .f32) (h11 : a11.IsWhole) (a12 : Memref sig .tc .vmem S4x1024x128 .f32) (h12 : a12.IsWhole) (a13 : Memref sig .tc .vmem S4x1024x1024 .f32) (h13 : a13.IsWhole) (a14 : Memref sig .tc .vmem S4x1024x128 .f32) (h14 : a14.IsWhole) (a15 : Memref sig .tc .vmem S4x8x1024 .f32) (h15 : a15.IsWhole)
    (hc0 : ¬ cFirst i) (hc1 : cLast i) (x0 : Vec F S4x128x512 .f32) (x1 : Vec F S4x8x1024 .f32) (x2 : Vec F S4x2x1024 .f32) (x3 : Vec F S4x128x1024 .f32) (x4 : Vec F S4x1024x128 .f32) (x5 : Vec F S4x1x128 .f32) (x6 : Vec F S512x512 .f32) (x7 : Vec F S1x512 .f32) (xs : Vec F S4x8x1024 .f32) (y : S4x8x1024.Idx) :
    ∃ pc ∈ (runLast c i a2 h2 a3 h3 a4 h4 a5 h5 a6 h6 a7 h7 a8 h8 a9 h9 a10 h10 a11 h11 a12 h12 a13 h13 a14 h14 a15 h15 hc0 hc1 x0 x1 x2 x3 x4 x5 x6 x7 xs).2.2.1, y ∈ pc.1.set :=
  View.cover_of_tiledL (runLast c i a2 h2 a3 h3 a4 h4 a5 h5 a6 h6 a7 h7 a8 h8 a9 h9 a10 h10 a11 h11 a12 h12 a13 h13 a14 h14 a15 h15 hc0 hc1 x0 x1 x2 x3 x4 x5 x6 x7 xs).2.2.1 S1x8x512.size (by sl_kernel_rfl) y

/-! ## The points -/

theorem coord1 : ∀ t : Fin grid0.N, (grid0.coords t 1).val = t.val := by decide +kernel
theorem first_bits : ∀ n : Fin 32, ((Scalar.cmpi .ne (Scalar.extui (Scalar.cmpi .eq (BitVec.ofNat 32 n.val) 0#32) : BitVec 32) 0#32) = 1#1) ↔ n.val = 0 := by decide
theorem last_bits : ∀ n : Fin 32, ((Scalar.cmpi .ne (Scalar.extui (Scalar.cmpi .eq (BitVec.ofNat 32 n.val) 31#32) : BitVec 32) 0#32) = 1#1) ↔ n.val = 31 := by decide
theorem cFirst_iff (t : Fin cfg0.N) : cFirst (grid0.coords t) ↔ t.val = 0 := (first_bits (grid0.coords t 1)).trans (by rw [coord1])
theorem cLast_iff (t : Fin cfg0.N) : cLast (grid0.coords t) ↔ t.val = 31 := (last_bits (grid0.coords t 1)).trans (by rw [coord1])

theorem idle_iff (t : Fin cfg0.N) : cfg0.idle 9 (grid0.coords t) = decide (t.val ≠ 31) := by
  have h := cLast_iff t
  show (!(k0_cond2 (grid0.coords t) == 1#1)) = _
  by_cases e : t.val = 31
  · rw [show k0_cond2 (grid0.coords t) = 1#1 from h.mpr e]; simp [e]
  · have a : ¬ (k0_cond2 (grid0.coords t) = 1#1) := fun k => e (h.mp k)
    simp [a, e]

abbrev ms0 (t : Fin cfg0.N) : Memref sig .tc .vmem S4x128x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4x8x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x2x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4x128x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4x1024x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S4x1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x512 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S4x128x512 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S4x8x1024 .f32 := win0_9.stage (cfg0.slots t 9)
abbrev hs9 (t : Fin cfg0.N) : (ms9 t).IsWhole := hstage0_9 ((cfg0.slots t 9).cast nbuf0_9)
abbrev sc0 : Memref sig .tc .vmem S4x1024x128 .f32 := Memref.whole cc0_scratch0
abbrev sc1 : Memref sig .tc .vmem S4x1024x1024 .f32 := Memref.whole cc0_scratch1
abbrev sc2 : Memref sig .tc .vmem S4x1024x128 .f32 := Memref.whole cc0_scratch2
abbrev sc3 : Memref sig .tc .vmem S4x8x1024 .f32 := Memref.whole cc0_scratch3

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-! ## The contents after each point -/

/-- Views through which contents are stated. -/
abbrev VY : View sig .tc .vmem S4x128x512 .f32 := (Memref.whole cc0_stg8_0 : Memref sig .tc .vmem S4x128x512 .f32).view
abbrev VH : View sig .tc .vmem S4x8x1024 .f32 := (Memref.whole cc0_scratch3 : Memref sig .tc .vmem S4x8x1024 .f32).view
def ofY (L : List (View.Piece (Elt F) S4x128x512 .f32)) : Vec F S4x128x512 .f32 := VY.read (Elt F) (VY.writes (Elt F) VY.junk L)
def ofH (L : List (View.Piece (Elt F) S4x8x1024 .f32)) : Vec F S4x8x1024 .f32 := VH.read (Elt F) (VH.writes (Elt F) VH.junk L)

/-- The body's stores at a point, by its place in the pass. -/
abbrev atFirst (c : Dev nD) (t : Fin cfg0.N) (h : t.val = 0) :=
  runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) ((cFirst_iff t).mpr h) (fun k => by have := (cLast_iff t).mp k; omega) (iblk m c 0 t) (iblk m c 1 t) (iblk m c 2 t) (iblk m c 3 t) (iblk m c 4 t) (iblk m c 5 t) (iblk m c 6 t) (iblk m c 7 t)
abbrev atNext (c : Dev nD) (t : Fin cfg0.N) (h : t.val ≠ 0) (h' : t.val ≠ 31) (s : Vec F S4x8x1024 .f32) :=
  runNext (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) (fun k => h ((cFirst_iff t).mp k)) (fun k => h' ((cLast_iff t).mp k)) (iblk m c 0 t) (iblk m c 1 t) (iblk m c 2 t) (iblk m c 3 t) (iblk m c 4 t) (iblk m c 5 t) (iblk m c 6 t) (iblk m c 7 t) s
abbrev atLast (c : Dev nD) (t : Fin cfg0.N) (h : t.val = 31) (s : Vec F S4x8x1024 .f32) :=
  runLast (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) (fun k => by have := (cFirst_iff t).mp k; omega) ((cLast_iff t).mpr h) (iblk m c 0 t) (iblk m c 1 t) (iblk m c 2 t) (iblk m c 3 t) (iblk m c 4 t) (iblk m c 5 t) (iblk m c 6 t) (iblk m c 7 t) s

/-- What a point leaves, from the states before it: its sums, the states copied out (at the last point) and the states. -/
def step (c : Dev nD) (t : Fin cfg0.N) (s : Vec F S4x8x1024 .f32) : Vec F S4x128x512 .f32 × Vec F S4x8x1024 .f32 × Vec F S4x8x1024 .f32 :=
  if h : t.val = 0 then (ofY (atFirst m c t h).1, s, ofH (atFirst m c t h).2.1)
  else if h' : t.val = 31 then (ofY (atLast m c t h' s).1, ofH (atLast m c t h' s).2.1, ofH (atLast m c t h' s).2.2.1)
  else (ofY (atNext m c t h h' s).1, s, ofH (atNext m c t h h' s).2.1)

/-- The states after point `n`. -/
def st (c : Dev nD) : (n : ℕ) → n < cfg0.N → Vec F S4x8x1024 .f32
  | 0, h => (step m c ⟨0, h⟩ (ofH [])).2.2
  | n + 1, h => (step m c ⟨n + 1, h⟩ (st c n (Nat.lt_of_succ_lt h))).2.2

/-- What is known of the state buffer before point `n`. -/
def Known (c : Dev nD) : ℕ → Vec F S4x8x1024 .f32 → Prop
  | 0, _ => True
  | n + 1, s => ∀ h : n < cfg0.N, s = st m c n h

/-- The states before point `t`. -/
def before (c : Dev nD) (t : Fin cfg0.N) : Vec F S4x8x1024 .f32 :=
  if h : t.val = 0 then ofH [] else st m c (t.val - 1) (by have := t.isLt; omega)

theorem known_eq (c : Dev nD) (t : Fin cfg0.N) (s : Vec F S4x8x1024 .f32) (h : Known m c t.val s) (h0 : t.val ≠ 0) : s = before m c t := by
  obtain ⟨n, hn⟩ := t
  cases n with
  | zero => exact absurd rfl h0
  | succ n => exact (h (Nat.lt_of_succ_lt hn)).trans (by unfold before; rw [dif_neg h0]; rfl)

theorem st_eq (c : Dev nD) (t : Fin cfg0.N) : st m c t.val t.isLt = (step m c t (before m c t)).2.2 := by
  obtain ⟨n, hn⟩ := t
  cases n with
  | zero => rfl
  | succ n => rfl

/-- The invariant between points. -/
def Phi (c : Dev nD) (n : ℕ) : sProp 𝕄 :=
  iprop(iprop((∃ d, owns (c : Thread nD τ) sc0 fullShare d) ∗ (∃ d, owns (c : Thread nD τ) sc1 fullShare d) ∗ (∃ d, owns (c : Thread nD τ) sc2 fullShare d) ∗ (∃ d, ⌜Known m c n d⌝ ∗ owns (c : Thread nD τ) sc3 fullShare d)) ∗ (∃ r, prngReg c r))

/-! ## The proof data and the body -/

/-- The pipeline's proof data: each input's block left in place, the outputs at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (step m c t (before m c t)).1
    | ⟨9, _⟩ => (step m c t (before m c t)).2.1
  Φ t := Phi m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (step m c t (before m c t)).1 := by dsimp only [dats]
theorem after9 (c : Dev nD) (t : Fin cfg0.N) : (dats m 0 c).after 9 t = (step m c t (before m c t)).2.1 := by dsimp only [dats]
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
theorem before7 (c : Dev nD) (t : Fin cfg0.N) (d) : (dats m 0 c).before 7 t d = iblk m c 7 t := before0_7_of m (dats m 0 c) (A_eq m c 7) (after7 m c) t d
theorem leaves0 (c : Dev nD) (t : Fin cfg0.N) : (dats m 0 c).leavesExact 0 t = owns (c : Thread nD τ) (ms0 t) fullShare ((dats m 0 c).after 0 t) := by
  unfold Dat.leavesExact; rw [show cfg0.idle 0 (grid0.coords t) = false from rfl]
theorem leaves1 (c : Dev nD) (t : Fin cfg0.N) : (dats m 0 c).leavesExact 1 t = owns (c : Thread nD τ) (ms1 t) fullShare ((dats m 0 c).after 1 t) := by
  unfold Dat.leavesExact; rw [show cfg0.idle 1 (grid0.coords t) = false from rfl]
theorem leaves2 (c : Dev nD) (t : Fin cfg0.N) : (dats m 0 c).leavesExact 2 t = owns (c : Thread nD τ) (ms2 t) fullShare ((dats m 0 c).after 2 t) := by
  unfold Dat.leavesExact; rw [show cfg0.idle 2 (grid0.coords t) = false from rfl]
theorem leaves3 (c : Dev nD) (t : Fin cfg0.N) : (dats m 0 c).leavesExact 3 t = owns (c : Thread nD τ) (ms3 t) fullShare ((dats m 0 c).after 3 t) := by
  unfold Dat.leavesExact; rw [show cfg0.idle 3 (grid0.coords t) = false from rfl]
theorem leaves4 (c : Dev nD) (t : Fin cfg0.N) : (dats m 0 c).leavesExact 4 t = owns (c : Thread nD τ) (ms4 t) fullShare ((dats m 0 c).after 4 t) := by
  unfold Dat.leavesExact; rw [show cfg0.idle 4 (grid0.coords t) = false from rfl]
theorem leaves5 (c : Dev nD) (t : Fin cfg0.N) : (dats m 0 c).leavesExact 5 t = owns (c : Thread nD τ) (ms5 t) fullShare ((dats m 0 c).after 5 t) := by
  unfold Dat.leavesExact; rw [show cfg0.idle 5 (grid0.coords t) = false from rfl]
theorem leaves6 (c : Dev nD) (t : Fin cfg0.N) : (dats m 0 c).leavesExact 6 t = owns (c : Thread nD τ) (ms6 t) fullShare ((dats m 0 c).after 6 t) := by
  unfold Dat.leavesExact; rw [show cfg0.idle 6 (grid0.coords t) = false from rfl]
theorem leaves7 (c : Dev nD) (t : Fin cfg0.N) : (dats m 0 c).leavesExact 7 t = owns (c : Thread nD τ) (ms7 t) fullShare ((dats m 0 c).after 7 t) := by
  unfold Dat.leavesExact; rw [show cfg0.idle 7 (grid0.coords t) = false from rfl]
theorem leaves8 (c : Dev nD) (t : Fin cfg0.N) : (dats m 0 c).leavesExact 8 t = owns (c : Thread nD τ) (ms8 t) fullShare ((dats m 0 c).after 8 t) := by
  unfold Dat.leavesExact; rw [show cfg0.idle 8 (grid0.coords t) = false from rfl]
theorem leaves9_live (c : Dev nD) (t : Fin cfg0.N) (h : t.val = 31) : (dats m 0 c).leavesExact 9 t = owns (c : Thread nD τ) (ms9 t) fullShare ((dats m 0 c).after 9 t) := by
  unfold Dat.leavesExact; rw [show cfg0.idle 9 (grid0.coords t) = false from by rw [idle_iff]; exact decide_eq_false (not_not.mpr h)]
theorem leaves9_idle (c : Dev nD) (t : Fin cfg0.N) (h : t.val ≠ 31) : (dats m 0 c).leavesExact 9 t = iprop(∃ d, owns (c : Thread nD τ) (ms9 t) fullShare ((dats m 0 c).before 9 t d)) :=
  Dat.leavesExact_idle (dats m 0 c) 9 t (by rw [idle_iff]; exact decide_eq_true h)
    (Bool.eq_false_iff.mpr fun k => by have e := (flush0_9 t).mp k; have := lt_of_lt_of_eq t.isLt N_0; omega)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 8000000 in
/-- The body at any point, by its place in the pass. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  rw [leaves0, leaves1, leaves2, leaves3, leaves4, leaves5, leaves6, leaves7, leaves8, after0, after1, after2, after3, after4, after5, after6, after7, after8]
  unfold Phi
  by_cases h : t.val = 0
  · rw [leaves9_idle m c t (by omega)]
    have hst := st_eq m c t
    unfold step at hst ⊢; rw [dif_pos h] at hst ⊢
    dsimp only at hst ⊢
    iintro ⟨⟨⟨HS0, HS1, HS2, ⟨%s, %hs, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((atFirst m c t h).2.2 ((dats m 0 c).before 9 t d9) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [HS0]; · iexact HS0
    isplitl [HS1]; · iexact HS1
    isplitl [HS2]; · iexact HS2
    isplitl [HS3]; · iexists _; iexact HS3
    iintro ⟨H0, H1, H2, H3, H4, H5, H6, H7, ⟨%e8, H8⟩, H9, HS0, HS1, HS2, ⟨%e3, HS3⟩⟩
    isplitl [HS0 HS1 HS2 HS3 Hg]
    · isplitl [HS0 HS1 HS2 HS3]
      · isplitl [HS0]; · iexact HS0
        isplitl [HS1]; · iexact HS1
        isplitl [HS2]; · iexact HS2
        iexists _; isplitr
        swap
        · unfold owns; iexists _; isplitr
          swap; · iexact HS3
          ipureintro; rfl
        ipureintro; exact fun _ => (View.read_writes_of_cover _ _ _ _ _ (covFirst_s c _ _ _ _ _ _ _ _ _ _ _ _ _ _ _ _ _ _ _ _ _ _ _ _ _ _ _ _ _ _ _ _ _ _ _ _ _ _ _)).trans hst.symm
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (covFirst_y c _ _ _ _ _ _ _ _ _ _ _ _ _ _ _ _ _ _ _ _ _ _ _ _ _ _ _ _ _ _ _ _ _ _ _ _ _ _ _)
    iexists _; iexact H9
  · by_cases h' : t.val = 31
    · rw [leaves9_live m c t h', after9]
      have hst := st_eq m c t
      unfold step at hst ⊢; rw [dif_neg h, dif_pos h'] at hst ⊢
      dsimp only at hst ⊢
      iintro ⟨⟨⟨HS0, HS1, HS2, ⟨%s, %hs, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      obtain rfl := known_eq m c t s hs h
      iapply ((atLast m c t h' (before m c t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      iintro ⟨H0, H1, H2, H3, H4, H5, H6, H7, ⟨%e8, H8⟩, ⟨%e9, H9⟩, HS0, HS1, HS2, ⟨%e3, HS3⟩⟩
      isplitl [HS0 HS1 HS2 HS3 Hg]
      · isplitl [HS0 HS1 HS2 HS3]
        · isplitl [HS0]; · iexact HS0
          isplitl [HS1]; · iexact HS1
          isplitl [HS2]; · iexact HS2
          iexists _; isplitr
          swap
          · unfold owns; iexists _; isplitr
            swap; · iexact HS3
            ipureintro; rfl
          ipureintro; exact fun _ => (View.read_writes_of_cover _ _ _ _ _ (covLast_s c _ _ _ _ _ _ _ _ _ _ _ _ _ _ _ _ _ _ _ _ _ _ _ _ _ _ _ _ _ _ _ _ _ _ _ _ _ _ _ _)).trans hst.symm
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (covLast_y c _ _ _ _ _ _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (covLast_h c _ _ _ _ _ _ _ _ _ _ _ _ _ _ _ _ _ _ _ _ _ _ _ _ _ _ _ _ _ _ _ _ _ _ _ _ _ _ _ _)
    · rw [leaves9_idle m c t h']
      have hst := st_eq m c t
      unfold step at hst ⊢; rw [dif_neg h, dif_neg h'] at hst ⊢
      dsimp only at hst ⊢
      iintro ⟨⟨⟨HS0, HS1, HS2, ⟨%s, %hs, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      obtain rfl := known_eq m c t s hs h
      iapply ((atNext m c t h h' (before m c t)).2.2 ((dats m 0 c).before 9 t d9) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [HS0]; · iexact HS0
      isplitl [HS1]; · iexact HS1
      isplitl [HS2]; · iexact HS2
      isplitl [HS3]; · iexact HS3
      iintro ⟨H0, H1, H2, H3, H4, H5, H6, H7, ⟨%e8, H8⟩, H9, HS0, HS1, HS2, ⟨%e3, HS3⟩⟩
      isplitl [HS0 HS1 HS2 HS3 Hg]
      · isplitl [HS0 HS1 HS2 HS3]
        · isplitl [HS0]; · iexact HS0
          isplitl [HS1]; · iexact HS1
          isplitl [HS2]; · iexact HS2
          iexists _; isplitr
          swap
          · unfold owns; iexists _; isplitr
            swap; · iexact HS3
            ipureintro; rfl
          ipureintro; exact fun _ => (View.read_writes_of_cover _ _ _ _ _ (covNext_s c _ _ _ _ _ _ _ _ _ _ _ _ _ _ _ _ _ _ _ _ _ _ _ _ _ _ _ _ _ _ _ _ _ _ _ _ _ _ _ _)).trans hst.symm
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (covNext_y c _ _ _ _ _ _ _ _ _ _ _ _ _ _ _ _ _ _ _ _ _ _ _ _ _ _ _ _ _ _ _ _ _ _ _ _ _ _ _ _)
      iexists _; iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : (Pipeline.ΦA spec0 c : sProp 𝕄) ⊢ (dats m 0 c).Φ 0 := by
  rw [show (dats m 0 c).Φ 0 = Phi m c 0 from rfl, PhiA_eq]; unfold Phi
  iintro ⟨⟨HS0, HS1, HS2, ⟨%d, HS3⟩⟩, Hg⟩
  isplitl [HS0 HS1 HS2 HS3]
  · isplitl [HS0]; · iexact HS0
    isplitl [HS1]; · iexact HS1
    isplitl [HS2]; · iexact HS2
    iexists d; isplitr
    · ipureintro; trivial
    iexact HS3
  iexact Hg

theorem hout (c : Dev nD) : (dats m 0 c).Φ (Fin.last cfg0.N) ⊢ (Pipeline.ΦA spec0 c : sProp 𝕄) := by
  rw [show (dats m 0 c).Φ (Fin.last cfg0.N) = Phi m c cfg0.N from rfl, PhiA_eq]; unfold Phi
  iintro ⟨⟨HS0, HS1, HS2, ⟨%d, -, HS3⟩⟩, Hg⟩
  isplitl [HS0 HS1 HS2 HS3]
  · isplitl [HS0]; · iexact HS0
    isplitl [HS1]; · iexact HS1
    isplitl [HS2]; · iexact HS2
    iexists d; iexact HS3
  iexact Hg

/-! ## The run and the frame -/

set_option backward.isDefEq.respectTransparency.types false in
set_option maxHeartbeats 800000 in
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- Every run ends, the arguments as they were and every counter at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_quiescent m ρ))

end Cert.S5PromptIdeal.Scan

end
-- ==== Proof.S5PromptOut.lean ====
module

public import proofs.«01_k».proof.Proof.S5PromptLoop
public import proofs.«01_k».proof.Proof.S5PromptFrameIdeal

@[expose] public section

set_option maxRecDepth 16384

noncomputable section

namespace Cert.S5PromptIdeal.Scan

open Cert.S5PromptIdeal Cert.S5PromptIdeal.Gen
open Idealize.ShloMosaic Idealize.ShloMosaic.TcCoe Idealize.SL.Sem

/-! A carried pair of blocks as the state buffer holds it: the real parts in the low lanes, the imaginary in the high. -/

theorem put_apply (w : FVec Ideal S8x512 .f32) (r : Fin 8) (l : Fin 512) : k0_pay63 w (ix3 0 r l) = w (ix2 r l) := by
  pointwise [k0_pay63]

theorem take_apply (w : Vec Ideal S1x8x512 .f32) (r : Fin 8) (l : Fin 512) : k0_pay54 w (ix2 r l) = w (ix3 0 r l) := by
  pointwise [k0_pay54]

theorem whole_apply (w : Vec Ideal S4x8x1024 .f32) (k : Fin 4) (r : Fin 8) (z : Fin 1024) : k0_pay30 w (ix3 k r z) = w (ix3 k r z) := by
  pointwise [k0_pay30]

/-- The state buffer's contents for a carried value. -/
def held (s : Carry) : Vec Ideal S4x8x1024 .f32 := fun z =>
  if h : (z 2).val < 512 then re s (z 0) (ix2 (z 1) ⟨(z 2).val, h⟩) else im s (z 0) (ix2 (z 1) ⟨(z 2).val - 512, by have h' : (z 2).val < 1024 := (z 2).isLt; omega⟩)

theorem held_lo (s : Carry) (k : Fin 4) (r : Fin 8) (l : Fin 512) : held s (ix3 k r (lo l)) = re s k (ix2 r l) :=
  dif_pos (show (lo l).val < 512 from l.isLt)

theorem held_hi (s : Carry) (k : Fin 4) (r : Fin 8) (l : Fin 512) : held s (ix3 k r (hi l)) = im s k (ix2 r l) := by
  refine (dif_neg (show ¬ (hi l).val < 512 by show ¬ 512 + l.val < 512; omega)).trans ?_
  exact congrArg (fun q => im s k (ix2 r q)) (Fin.ext (show 512 + l.val - 512 = l.val by omega))

/-- The eight stores of a carried value, the last first. -/
def stores (s : Carry) : List (View.Piece (Elt Ideal) S4x8x1024 .f32) :=
  [⟨Rect.unit ![3, 0, 512] S1x8x512.size inb_S4x8x1024_S1x8x512_3_0_512, k0_pay70 (im s 3)⟩, ⟨Rect.unit ![3, 0, 0] S1x8x512.size inb_S4x8x1024_S1x8x512_3_0_0, k0_pay69 (re s 3)⟩, ⟨Rect.unit ![2, 0, 512] S1x8x512.size inb_S4x8x1024_S1x8x512_2_0_512, k0_pay68 (im s 2)⟩, ⟨Rect.unit ![2, 0, 0] S1x8x512.size inb_S4x8x1024_S1x8x512_2_0_0, k0_pay67 (re s 2)⟩, ⟨Rect.unit ![1, 0, 512] S1x8x512.size inb_S4x8x1024_S1x8x512_1_0_512, k0_pay66 (im s 1)⟩, ⟨Rect.unit ![1, 0, 0] S1x8x512.size inb_S4x8x1024_S1x8x512_1_0_0, k0_pay65 (re s 1)⟩, ⟨Rect.unit ![0, 0, 512] S1x8x512.size inb_S4x8x1024_S1x8x512_0_0_512, k0_pay64 (im s 0)⟩, ⟨Rect.unit ![0, 0, 0] S1x8x512.size inb_S4x8x1024_S1x8x512_0_0_0, k0_pay63 (re s 0)⟩]

theorem stores_read (v : View sig .tc .vmem S4x8x1024 .f32) (f : v.ty.Contents (Elt Ideal)) (L) (s : Carry) (y : S4x8x1024.Idx) :
    v.read (Elt Ideal) (v.writes (Elt Ideal) f (stores s ++ L)) y = held s y := by
  rw [View.writes_append]
  obtain ⟨k, r, z, rfl⟩ : ∃ (k : Fin 4) (r : Fin 8) (z : Fin 1024), y = ix3 k r z := ⟨y 0, y 1, y 2, Cert.idx_ext₃ rfl rfl rfl⟩
  refine View.read_writes_apply_of_pieces v _ (held s) _ ?_ (ix3 k r z) ?_
  · have okl : ∀ (k : Fin 4) (h) (w : Vec Ideal S1x8x512 .f32), (∀ r l, w (ix3 0 r l) = re s k (ix2 r l)) →
        ∀ x, w x = held s ((Rect.unit (s := S4x8x1024) ![k.val, 0, 0] S1x8x512.size h).emb x) := by
      intro k h w hw x
      obtain ⟨r, l, rfl⟩ : ∃ (r : Fin 8) (l : Fin 512), x = ix3 0 r l := ⟨x 1, x 2, Cert.idx_ext₃ (Nat.lt_one_iff.mp (x 0).isLt) rfl rfl⟩
      refine (hw r l).trans ((held_lo s k r l).symm.trans (congrArg (held s) (Cert.idx_ext₃ ?_ ?_ ?_)))
      · show k.val = k.val + 1 * 0; omega
      · show r.val = 0 + 1 * r.val; omega
      · show l.val = 0 + 1 * l.val; omega
    have okh : ∀ (k : Fin 4) (h) (w : Vec Ideal S1x8x512 .f32), (∀ r l, w (ix3 0 r l) = im s k (ix2 r l)) →
        ∀ x, w x = held s ((Rect.unit (s := S4x8x1024) ![k.val, 0, 512] S1x8x512.size h).emb x) := by
      intro k h w hw x
      obtain ⟨r, l, rfl⟩ : ∃ (r : Fin 8) (l : Fin 512), x = ix3 0 r l := ⟨x 1, x 2, Cert.idx_ext₃ (Nat.lt_one_iff.mp (x 0).isLt) rfl rfl⟩
      refine (hw r l).trans ((held_hi s k r l).symm.trans (congrArg (held s) (Cert.idx_ext₃ ?_ ?_ ?_)))
      · show k.val = k.val + 1 * 0; omega
      · show r.val = 0 + 1 * r.val; omega
      · show 512 + l.val = 512 + 1 * l.val; omega
    exact List.forall_mem_cons.2 ⟨okh 3 (by decide) _ fun r l => put_apply ((im s 3)) r l, List.forall_mem_cons.2 ⟨okl 3 (by decide) _ fun r l => put_apply ((re s 3)) r l, List.forall_mem_cons.2 ⟨okh 2 (by decide) _ fun r l => put_apply ((im s 2)) r l, List.forall_mem_cons.2 ⟨okl 2 (by decide) _ fun r l => put_apply ((re s 2)) r l, List.forall_mem_cons.2 ⟨okh 1 (by decide) _ fun r l => put_apply ((im s 1)) r l, List.forall_mem_cons.2 ⟨okl 1 (by decide) _ fun r l => put_apply ((re s 1)) r l, List.forall_mem_cons.2 ⟨okh 0 (by decide) _ fun r l => put_apply ((im s 0)) r l, List.forall_mem_cons.2 ⟨okl 0 (by decide) _ fun r l => put_apply ((re s 0)) r l, fun p hp => absurd hp List.not_mem_nil⟩⟩⟩⟩⟩⟩⟩⟩
  · have covl : z.val < 512 → ∀ k : Fin 4, ∀ h, ix3 k r z ∈ (Rect.unit (s := S4x8x1024) ![k.val, 0, 0] S1x8x512.size h).set := by
      intro hz k h
      refine (LoadRect.mem_set _).mpr fun a => ?_
      match a with
      | ⟨0, _⟩ => exact ⟨0, (by decide : 0 < 1), by show k.val = k.val + 1 * 0; omega⟩
      | ⟨1, _⟩ => exact ⟨r.val, r.isLt, by show r.val = 0 + 1 * r.val; omega⟩
      | ⟨2, _⟩ => exact ⟨z.val, hz, by show z.val = 0 + 1 * z.val; omega⟩
    have covh : ¬ z.val < 512 → ∀ k : Fin 4, ∀ h, ix3 k r z ∈ (Rect.unit (s := S4x8x1024) ![k.val, 0, 512] S1x8x512.size h).set := by
      intro hz k h
      refine (LoadRect.mem_set _).mpr fun a => ?_
      match a with
      | ⟨0, _⟩ => exact ⟨0, (by decide : 0 < 1), by show k.val = k.val + 1 * 0; omega⟩
      | ⟨1, _⟩ => exact ⟨r.val, r.isLt, by show r.val = 0 + 1 * r.val; omega⟩
      | ⟨2, _⟩ => exact ⟨z.val - 512, (by show z.val - 512 < 512; omega), by show z.val = 512 + 1 * (z.val - 512); omega⟩
    by_cases hz : z.val < 512
    · match k with
      | 0 => exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), covl hz 0 (by decide)⟩
      | 1 => exact ⟨_, List.mem_cons_of_mem _ (List.mem_cons_of_mem _ (List.mem_cons_of_mem _ (List.mem_cons_of_mem _ (List.mem_cons_of_mem _ (List.mem_cons_self))))), covl hz 1 (by decide)⟩
      | 2 => exact ⟨_, List.mem_cons_of_mem _ (List.mem_cons_of_mem _ (List.mem_cons_of_mem _ (List.mem_cons_self))), covl hz 2 (by decide)⟩
      | 3 => exact ⟨_, List.mem_cons_of_mem _ (List.mem_cons_self), covl hz 3 (by decide)⟩
    · match k with
      | 0 => exact ⟨_, List.mem_cons_of_mem _ (List.mem_cons_of_mem _ (List.mem_cons_of_mem _ (List.mem_cons_of_mem _ (List.mem_cons_of_mem _ (List.mem_cons_of_mem _ (List.mem_cons_self)))))), covh hz 0 (by decide)⟩
      | 1 => exact ⟨_, List.mem_cons_of_mem _ (List.mem_cons_of_mem _ (List.mem_cons_of_mem _ (List.mem_cons_of_mem _ (List.mem_cons_self)))), covh hz 1 (by decide)⟩
      | 2 => exact ⟨_, List.mem_cons_of_mem _ (List.mem_cons_of_mem _ (List.mem_cons_self)), covh hz 2 (by decide)⟩
      | 3 => exact ⟨_, List.mem_cons_self, covh hz 3 (by decide)⟩

section
variable (c : Dev nD) (i : grid0.Coords)
  (a2 : Memref sig .tc .vmem S4x128x512 .f32) (h2 : a2.IsWhole) (a3 : Memref sig .tc .vmem S4x8x1024 .f32) (h3 : a3.IsWhole) (a4 : Memref sig .tc .vmem S4x2x1024 .f32) (h4 : a4.IsWhole)
  (a5 : Memref sig .tc .vmem S4x128x1024 .f32) (h5 : a5.IsWhole) (a6 : Memref sig .tc .vmem S4x1024x128 .f32) (h6 : a6.IsWhole) (a7 : Memref sig .tc .vmem S4x1x128 .f32) (h7 : a7.IsWhole)
  (a8 : Memref sig .tc .vmem S512x512 .f32) (h8 : a8.IsWhole) (a9 : Memref sig .tc .vmem S1x512 .f32) (h9 : a9.IsWhole) (a10 : Memref sig .tc .vmem S4x128x512 .f32) (h10 : a10.IsWhole)
  (a11 : Memref sig .tc .vmem S4x8x1024 .f32) (h11 : a11.IsWhole) (a12 : Memref sig .tc .vmem S4x1024x128 .f32) (h12 : a12.IsWhole) (a13 : Memref sig .tc .vmem S4x1024x1024 .f32) (h13 : a13.IsWhole)
  (a14 : Memref sig .tc .vmem S4x1024x128 .f32) (h14 : a14.IsWhole) (a15 : Memref sig .tc .vmem S4x8x1024 .f32) (h15 : a15.IsWhole)
  (x0 : Vec Ideal S4x128x512 .f32) (x1 : Vec Ideal S4x8x1024 .f32) (x2 : Vec Ideal S4x2x1024 .f32) (x3 : Vec Ideal S4x128x1024 .f32)
  (x4 : Vec Ideal S4x1024x128 .f32) (x5 : Vec Ideal S4x1x128 .f32) (x6 : Vec Ideal S512x512 .f32) (x7 : Vec Ideal S1x512 .f32)

/-- The state buffer after the first store holds the state the sequence starts from. -/
theorem start_read (k : Fin 4) (r : Fin 8) (z : Fin 1024) :
    a15.view.read (Elt Ideal) (a15.view.writes (Elt Ideal) a15.view.junk (runFirst.sl.HS3_1 (F := Ideal) c a3 h3 x1)) (ix3 k r z) = x1 (ix3 k r z) := by
  refine View.read_writes_apply_of_pieces a15.view _ x1 _ ?_ (ix3 k r z) ⟨_, List.mem_cons_self, ?_⟩
  · unfold runFirst.sl.HS3_1
    refine List.forall_mem_cons.2 ⟨fun x => ?_, fun p hp => absurd hp List.not_mem_nil⟩
    obtain ⟨k, r, z, rfl⟩ : ∃ (k : Fin 4) (r : Fin 8) (z : Fin 1024), x = ix3 k r z := ⟨x 0, x 1, x 2, Cert.idx_ext₃ rfl rfl rfl⟩
    have e0 : (Rect.unit (s := S4x8x1024) ![0, 0, 0] S4x8x1024.size inb_S4x8x1024_S4x8x1024_0_0_0).emb (ix3 k r z) = ix3 k r z := funext fun a => Fin.ext (by
      match a with
      | ⟨0, _⟩ => show 0 + 1 * k.val = k.val; omega
      | ⟨1, _⟩ => show 0 + 1 * r.val = r.val; omega
      | ⟨2, _⟩ => show 0 + 1 * z.val = z.val; omega)
    refine Eq.trans (whole_apply (View.readAt (Elt Ideal) a3.view (Rect.unit (s := S4x8x1024) ![0, 0, 0] S4x8x1024.size inb_S4x8x1024_S4x8x1024_0_0_0).toLoadRect (h3.unread x1)) k r z) ?_
    rw [View.readAt_apply, h3.read_unread]
    rfl
  · refine (LoadRect.mem_set _).mpr fun a => ?_
    match a with
    | ⟨0, _⟩ => exact ⟨k.val, k.isLt, by show k.val = 0 + 1 * k.val; omega⟩
    | ⟨1, _⟩ => exact ⟨r.val, r.isLt, by show r.val = 0 + 1 * r.val; omega⟩
    | ⟨2, _⟩ => exact ⟨z.val, z.isLt, by show z.val = 0 + 1 * z.val; omega⟩

/-- The value the loop starts from, read from the state buffer. -/
def taken (f : a15.view.ty.Contents (Elt Ideal)) : Carry :=
  (k0_pay54 (View.readAt (Elt Ideal) a15.view (Rect.unit (s := S4x8x1024) ![0, 0, 0] S1x8x512.size inb_S4x8x1024_S1x8x512_0_0_0).toLoadRect f), k0_pay55 (View.readAt (Elt Ideal) a15.view (Rect.unit (s := S4x8x1024) ![0, 0, 512] S1x8x512.size inb_S4x8x1024_S1x8x512_0_0_512).toLoadRect f), k0_pay56 (View.readAt (Elt Ideal) a15.view (Rect.unit (s := S4x8x1024) ![1, 0, 0] S1x8x512.size inb_S4x8x1024_S1x8x512_1_0_0).toLoadRect f), k0_pay57 (View.readAt (Elt Ideal) a15.view (Rect.unit (s := S4x8x1024) ![1, 0, 512] S1x8x512.size inb_S4x8x1024_S1x8x512_1_0_512).toLoadRect f), k0_pay58 (View.readAt (Elt Ideal) a15.view (Rect.unit (s := S4x8x1024) ![2, 0, 0] S1x8x512.size inb_S4x8x1024_S1x8x512_2_0_0).toLoadRect f), k0_pay59 (View.readAt (Elt Ideal) a15.view (Rect.unit (s := S4x8x1024) ![2, 0, 512] S1x8x512.size inb_S4x8x1024_S1x8x512_2_0_512).toLoadRect f), k0_pay60 (View.readAt (Elt Ideal) a15.view (Rect.unit (s := S4x8x1024) ![3, 0, 0] S1x8x512.size inb_S4x8x1024_S1x8x512_3_0_0).toLoadRect f), k0_pay61 (View.readAt (Elt Ideal) a15.view (Rect.unit (s := S4x8x1024) ![3, 0, 512] S1x8x512.size inb_S4x8x1024_S1x8x512_3_0_512).toLoadRect f))

theorem taken_re (f : a15.view.ty.Contents (Elt Ideal)) (k : Fin 4) (r : Fin 8) (l : Fin 512) : re (taken a15 f) k (ix2 r l) = a15.view.read (Elt Ideal) f (ix3 k r (lo l)) := by
  match k with
  | 0 => exact (take_apply _ r l).trans (ld_rows (R := 8) a15.view _ ![0, 0, 0] (by decide) r l 0 r (lo l) rfl (Nat.zero_add _) (Nat.zero_add _))
  | 1 => exact (take_apply _ r l).trans (ld_rows (R := 8) a15.view _ ![1, 0, 0] (by decide) r l 1 r (lo l) rfl (Nat.zero_add _) (Nat.zero_add _))
  | 2 => exact (take_apply _ r l).trans (ld_rows (R := 8) a15.view _ ![2, 0, 0] (by decide) r l 2 r (lo l) rfl (Nat.zero_add _) (Nat.zero_add _))
  | 3 => exact (take_apply _ r l).trans (ld_rows (R := 8) a15.view _ ![3, 0, 0] (by decide) r l 3 r (lo l) rfl (Nat.zero_add _) (Nat.zero_add _))

theorem taken_im (f : a15.view.ty.Contents (Elt Ideal)) (k : Fin 4) (r : Fin 8) (l : Fin 512) : im (taken a15 f) k (ix2 r l) = a15.view.read (Elt Ideal) f (ix3 k r (hi l)) := by
  match k with
  | 0 => exact (take_apply _ r l).trans (ld_rows (R := 8) a15.view _ ![0, 0, 512] (by decide) r l 0 r (hi l) rfl (Nat.zero_add _) rfl)
  | 1 => exact (take_apply _ r l).trans (ld_rows (R := 8) a15.view _ ![1, 0, 512] (by decide) r l 1 r (hi l) rfl (Nat.zero_add _) rfl)
  | 2 => exact (take_apply _ r l).trans (ld_rows (R := 8) a15.view _ ![2, 0, 512] (by decide) r l 2 r (hi l) rfl (Nat.zero_add _) rfl)
  | 3 => exact (take_apply _ r l).trans (ld_rows (R := 8) a15.view _ ![3, 0, 512] (by decide) r l 3 r (hi l) rfl (Nat.zero_add _) rfl)

/-- The value the loop ends at. -/
def final (f : a15.view.ty.Contents (Elt Ideal)) : Carry :=
  (st_k0_t1 (F := Ideal) Variants.none c none i a2 h2 a3 h3 a4 h4 a5 h5 a6 h6 a7 h7 a8 h8 a9 h9 a10 h10 a11 h11 a12 h12 a13 h13 a14 h14 a15 h15 (taken a15 f).1 (h4.unread x2) (a13.view.writes (Elt Ideal) a13.view.junk (runNext.sl.HS1_4 c a2 h2 a5 h5 a12 x0 x3)) (taken a15 f) (Scf.trips k0_t1_loop.lb k0_t1_loop.ub k0_t1_loop.st)).1

/-- The state of sequence `r`, lane `l` of block `k` after the point's 128 inputs, from the states `s`. -/
def state (x0 : Vec Ideal S4x128x512 .f32) (s : Vec Ideal S4x8x1024 .f32) (x2 : Vec Ideal S4x2x1024 .f32) (x3 : Vec Ideal S4x128x1024 .f32)
    (k : Fin 4) (r : Fin 8) (l : Fin 512) : EReal × EReal :=
  Cert.Recur.run (x2 (ix3 k 0 (lo l))) (x2 (ix3 k 1 (lo l))) (fun t => inputs x0 x3 k (tm t r) (lo l)) (fun t => inputs x0 x3 k (tm t r) (hi l))
    (s (ix3 k r (lo l)), s (ix3 k r (hi l))) 128

theorem trips_128 : Scf.trips k0_t1_loop.lb k0_t1_loop.ub k0_t1_loop.st = 128 := by decide +kernel

theorem final_eq (f : a15.view.ty.Contents (Elt Ideal)) (k : Fin 4) (r : Fin 8) (hr : r.val < 4) (l : Fin 512) :
    (re (final c i a2 h2 a3 h3 a4 h4 a5 h5 a6 h6 a7 h7 a8 h8 a9 h9 a10 h10 a11 h11 a12 h12 a13 h13 a14 h14 a15 h15 x0 x2 x3 f) k (ix2 r l), im (final c i a2 h2 a3 h3 a4 h4 a5 h5 a6 h6 a7 h7 a8 h8 a9 h9 a10 h10 a11 h11 a12 h12 a13 h13 a14 h14 a15 h15 x0 x2 x3 f) k (ix2 r l)) = state x0 (a15.view.read (Elt Ideal) f) x2 x3 k r l := by
  have e := (loop_state Variants.none c none i a2 h2 a3 h3 a4 h4 a5 h5 a6 h6 a7 h7 a8 h8 a9 h9 a10 h10 a11 h11 a12 h12 a13 h13 a14 h14 a15 h15 (taken a15 f).1 (h4.unread x2)
    (a13.view.writes (Elt Ideal) a13.view.junk (runNext.sl.HS1_4 (F := Ideal) c a2 h2 a5 h5 a12 x0 x3)) (taken a15 f) 128 le_rfl).1 k r l
  unfold final
  rw [trips_128]
  refine e.trans ?_
  unfold state
  rw [taken_re, taken_im, h4.read_unread]
  have hy : ∀ t, (tm t r).val % 8 < 4 := fun t => by show (8 * t + r.val) % 1024 % 8 < 4; omega
  exact Cert.Recur.run_congr 128 (fun t _ => hb_read c a2 h2 a5 h5 a12 a13 x0 x3 k (tm t r) (hy t) (lo l)) (fun t _ => hb_read c a2 h2 a5 h5 a12 a13 x0 x3 k (tm t r) (hy t) (hi l))

/-- The stores into the state buffer, at each place of the pass. -/
theorem first_stores (hc0) (hc1) : (runFirst (F := Ideal) c i a2 h2 a3 h3 a4 h4 a5 h5 a6 h6 a7 h7 a8 h8 a9 h9 a10 h10 a11 h11 a12 h12 a13 h13 a14 h14 a15 h15 hc0 hc1 x0 x1 x2 x3 x4 x5 x6 x7).2.1
    = stores (final c i a2 h2 a3 h3 a4 h4 a5 h5 a6 h6 a7 h7 a8 h8 a9 h9 a10 h10 a11 h11 a12 h12 a13 h13 a14 h14 a15 h15 x0 x2 x3 (a15.view.writes (Elt Ideal) a15.view.junk (runFirst.sl.HS3_1 (F := Ideal) c a3 h3 x1))) ++ runFirst.sl.HS3_1 (F := Ideal) c a3 h3 x1 := rfl
theorem next_stores (hc0) (hc1) (s : Vec Ideal S4x8x1024 .f32) : (runNext (F := Ideal) c i a2 h2 a3 h3 a4 h4 a5 h5 a6 h6 a7 h7 a8 h8 a9 h9 a10 h10 a11 h11 a12 h12 a13 h13 a14 h14 a15 h15 hc0 hc1 x0 x1 x2 x3 x4 x5 x6 x7 s).2.1
    = stores (final c i a2 h2 a3 h3 a4 h4 a5 h5 a6 h6 a7 h7 a8 h8 a9 h9 a10 h10 a11 h11 a12 h12 a13 h13 a14 h14 a15 h15 x0 x2 x3 (h15.unread s)) ++ [] := rfl
theorem last_stores (hc0) (hc1) (s : Vec Ideal S4x8x1024 .f32) : (runLast (F := Ideal) c i a2 h2 a3 h3 a4 h4 a5 h5 a6 h6 a7 h7 a8 h8 a9 h9 a10 h10 a11 h11 a12 h12 a13 h13 a14 h14 a15 h15 hc0 hc1 x0 x1 x2 x3 x4 x5 x6 x7 s).2.2.1
    = stores (final c i a2 h2 a3 h3 a4 h4 a5 h5 a6 h6 a7 h7 a8 h8 a9 h9 a10 h10 a11 h11 a12 h12 a13 h13 a14 h14 a15 h15 x0 x2 x3 (h15.unread s)) ++ [] := rfl
theorem last_copy (hc0) (hc1) (s : Vec Ideal S4x8x1024 .f32) : (runLast (F := Ideal) c i a2 h2 a3 h3 a4 h4 a5 h5 a6 h6 a7 h7 a8 h8 a9 h9 a10 h10 a11 h11 a12 h12 a13 h13 a14 h14 a15 h15 hc0 hc1 x0 x1 x2 x3 x4 x5 x6 x7 s).2.1
    = [⟨Rect.unit ![0, 0, 0] S4x8x1024.size inb_S4x8x1024_S4x8x1024_0_0_0,
        a15.view.readCov (stores (final c i a2 h2 a3 h3 a4 h4 a5 h5 a6 h6 a7 h7 a8 h8 a9 h9 a10 h10 a11 h11 a12 h12 a13 h13 a14 h14 a15 h15 x0 x2 x3 (h15.unread s)) ++ []) (Rect.unit ![0, 0, 0] S4x8x1024.size inb_S4x8x1024_S4x8x1024_0_0_0).toLoadRect⟩] := rfl

theorem held_pair (w : Carry) (k : Fin 4) (r : Fin 8) (l : Fin 512) : (held w (ix3 k r (lo l)), held w (ix3 k r (hi l))) = (re w k (ix2 r l), im w k (ix2 r l)) :=
  Prod.ext (held_lo w k r l) (held_hi w k r l)

theorem ofH_stores (w : Carry) (L) (y : S4x8x1024.Idx) : ofH (stores w ++ L) y = held w y := stores_read VH VH.junk L w y

/-- A list of one store of everything, read back. -/
theorem ofH_whole (w : Vec Ideal S4x8x1024 .f32) (y : S4x8x1024.Idx) :
    ofH [⟨Rect.unit ![0, 0, 0] S4x8x1024.size inb_S4x8x1024_S4x8x1024_0_0_0, w⟩] y = w y := by
  obtain ⟨k, r, z, rfl⟩ : ∃ (k : Fin 4) (r : Fin 8) (z : Fin 1024), y = ix3 k r z := ⟨y 0, y 1, y 2, Cert.idx_ext₃ rfl rfl rfl⟩
  unfold ofH
  refine View.read_writes_apply_of_pieces VH _ w _ ?_ (ix3 k r z) ⟨_, List.mem_cons_self, ?_⟩
  · refine List.forall_mem_cons.2 ⟨fun x => ?_, fun p hp => absurd hp List.not_mem_nil⟩
    exact congrArg w (Cert.idx_ext₃ (show (x 0).val = 0 + 1 * (x 0).val by omega) (show (x 1).val = 0 + 1 * (x 1).val by omega) (show (x 2).val = 0 + 1 * (x 2).val by omega))
  · refine (LoadRect.mem_set _).mpr fun a => ?_
    match a with
    | ⟨0, _⟩ => exact ⟨k.val, k.isLt, by show k.val = 0 + 1 * k.val; omega⟩
    | ⟨1, _⟩ => exact ⟨r.val, r.isLt, by show r.val = 0 + 1 * r.val; omega⟩
    | ⟨2, _⟩ => exact ⟨z.val, z.isLt, by show z.val = 0 + 1 * z.val; omega⟩

theorem readCov_stores (w : Carry) (y : S4x8x1024.Idx) :
    a15.view.readCov (stores w ++ []) (Rect.unit ![0, 0, 0] S4x8x1024.size inb_S4x8x1024_S4x8x1024_0_0_0).toLoadRect y = held w y := by
  have e : (Rect.unit (s := S4x8x1024) ![0, 0, 0] S4x8x1024.size inb_S4x8x1024_S4x8x1024_0_0_0).toLoadRect.idx y = y :=
    Cert.idx_ext₃ (show 0 + 1 * (y 0).val = (y 0).val by omega) (show 0 + 1 * (y 1).val = (y 1).val by omega) (show 0 + 1 * (y 2).val = (y 2).val by omega)
  exact (congrArg (a15.view.read (Elt Ideal) (a15.view.writes (Elt Ideal) a15.view.junk (stores w ++ []))) e).trans (stores_read a15.view a15.view.junk [] w y)

theorem first_out (hc0) (hc1) (k : Fin 4) (r : Fin 8) (hr : r.val < 4) (l : Fin 512) :
    (ofH (runFirst (F := Ideal) c i a2 h2 a3 h3 a4 h4 a5 h5 a6 h6 a7 h7 a8 h8 a9 h9 a10 h10 a11 h11 a12 h12 a13 h13 a14 h14 a15 h15 hc0 hc1 x0 x1 x2 x3 x4 x5 x6 x7).2.1 (ix3 k r (lo l)), ofH (runFirst (F := Ideal) c i a2 h2 a3 h3 a4 h4 a5 h5 a6 h6 a7 h7 a8 h8 a9 h9 a10 h10 a11 h11 a12 h12 a13 h13 a14 h14 a15 h15 hc0 hc1 x0 x1 x2 x3 x4 x5 x6 x7).2.1 (ix3 k r (hi l))) = state x0 x1 x2 x3 k r l := by
  rw [first_stores, ofH_stores, ofH_stores, held_pair, final_eq c i a2 h2 a3 h3 a4 h4 a5 h5 a6 h6 a7 h7 a8 h8 a9 h9 a10 h10 a11 h11 a12 h12 a13 h13 a14 h14 a15 h15 x0 x2 x3 _ k r hr l]
  have e : a15.view.read (Elt Ideal) (a15.view.writes (Elt Ideal) a15.view.junk (runFirst.sl.HS3_1 (F := Ideal) c a3 h3 x1)) = x1 := by
    funext y
    obtain ⟨k, r, z, rfl⟩ : ∃ (k : Fin 4) (r : Fin 8) (z : Fin 1024), y = ix3 k r z := ⟨y 0, y 1, y 2, Cert.idx_ext₃ rfl rfl rfl⟩
    exact start_read c a3 h3 a15 x1 k r z
  rw [e]

theorem next_out (hc0) (hc1) (s : Vec Ideal S4x8x1024 .f32) (k : Fin 4) (r : Fin 8) (hr : r.val < 4) (l : Fin 512) :
    (ofH (runNext (F := Ideal) c i a2 h2 a3 h3 a4 h4 a5 h5 a6 h6 a7 h7 a8 h8 a9 h9 a10 h10 a11 h11 a12 h12 a13 h13 a14 h14 a15 h15 hc0 hc1 x0 x1 x2 x3 x4 x5 x6 x7 s).2.1 (ix3 k r (lo l)), ofH (runNext (F := Ideal) c i a2 h2 a3 h3 a4 h4 a5 h5 a6 h6 a7 h7 a8 h8 a9 h9 a10 h10 a11 h11 a12 h12 a13 h13 a14 h14 a15 h15 hc0 hc1 x0 x1 x2 x3 x4 x5 x6 x7 s).2.1 (ix3 k r (hi l))) = state x0 s x2 x3 k r l := by
  rw [next_stores, ofH_stores, ofH_stores, held_pair, final_eq c i a2 h2 a3 h3 a4 h4 a5 h5 a6 h6 a7 h7 a8 h8 a9 h9 a10 h10 a11 h11 a12 h12 a13 h13 a14 h14 a15 h15 x0 x2 x3 _ k r hr l, h15.read_unread]

theorem last_out (hc0) (hc1) (s : Vec Ideal S4x8x1024 .f32) (k : Fin 4) (r : Fin 8) (hr : r.val < 4) (l : Fin 512) :
    (ofH (runLast (F := Ideal) c i a2 h2 a3 h3 a4 h4 a5 h5 a6 h6 a7 h7 a8 h8 a9 h9 a10 h10 a11 h11 a12 h12 a13 h13 a14 h14 a15 h15 hc0 hc1 x0 x1 x2 x3 x4 x5 x6 x7 s).2.1 (ix3 k r (lo l)), ofH (runLast (F := Ideal) c i a2 h2 a3 h3 a4 h4 a5 h5 a6 h6 a7 h7 a8 h8 a9 h9 a10 h10 a11 h11 a12 h12 a13 h13 a14 h14 a15 h15 hc0 hc1 x0 x1 x2 x3 x4 x5 x6 x7 s).2.1 (ix3 k r (hi l))) = state x0 s x2 x3 k r l := by
  rw [last_copy, ofH_whole, ofH_whole, readCov_stores, readCov_stores, held_pair, final_eq c i a2 h2 a3 h3 a4 h4 a5 h5 a6 h6 a7 h7 a8 h8 a9 h9 a10 h10 a11 h11 a12 h12 a13 h13 a14 h14 a15 h15 x0 x2 x3 _ k r hr l, h15.read_unread]

end

end Cert.S5PromptIdeal.Scan

end
-- ==== Proof.S5PromptRefIdeal.lean ====
module

public import proofs.«01_k».proof.Proof.Gen.ReferenceS5PromptIdeal.StepRun
public import proofs.«01_k».proof.Proof.S5SampleRefIdeal
public import Idealize.ShloMosaic.Lib.DynamicIndex

@[expose] public section

set_option maxRecDepth 16384

noncomputable section

namespace Cert.ReferenceS5PromptIdeal.Scan

open Cert.ReferenceS5PromptIdeal Cert.ReferenceS5PromptIdeal.Gen Cert.ReferenceS5PromptIdeal.Step
open Idealize.ShloMosaic Idealize.ShloMosaic.TcCoe Idealize.SL.Sem

open Cert.ReferenceS5SampleIdeal.Scan (idx_ext₄ decayRe decayIm inRe inIm)

variable (x0 : S4x4096x2048.Idx → EReal) (x1 x2 : S1x32x64.Idx → EReal) (x3 : S1x32.Idx → EReal) (x4 x5 : S1x32x64x16.Idx → EReal)

/-- The recurrence's inputs: the last 512 columns. -/
def chan (b : Fin 4) (t : Fin 4096) (j : Fin 512) : EReal := x0 (ix3 b t ⟨1536 + j.val, by omega⟩)

/-- The states after `n` steps from zero, at an index. -/
def after (n : ℕ) (b : Fin 4) (g : Fin 32) (p : Fin 64) : EReal × EReal :=
  Cert.Recur.run (decayRe x1 x2 x3 g p) (decayIm x1 x2 x3 g p)
    (fun t => ∑ c : Fin 16, chan x0 b ⟨t % 4096, by omega⟩ ⟨16 * g.val + c.val, by omega⟩ * inRe x1 x2 x3 x4 x5 g p c)
    (fun t => ∑ c : Fin 16, chan x0 b ⟨t % 4096, by omega⟩ ⟨16 * g.val + c.val, by omega⟩ * inIm x1 x2 x3 x4 x5 g p c) (0, 0) n

/-- The states, as both programs leave them. -/
def valRe : S1x4x32x64.Idx → EReal := fun i => (after x0 x1 x2 x3 x4 x5 4096 (i 1) (i 2) (i 3)).1
def valIm : S1x4x32x64.Idx → EReal := fun i => (after x0 x1 x2 x3 x4 x5 4096 (i 1) (i 2) (i 3)).2

/-! The inputs of the reference at an index. -/

theorem chan_at (b : Fin 4) (t : Fin 4096) (g : Fin 32) (c : Fin 16) :
    A_main_v1 (F := Ideal) x0 x1 x2 x3 x4 x5 (ix4 b t g c) = chan x0 b t ⟨16 * g.val + c.val, by omega⟩ := by
  unfold A_main_v1 A_main_v0
  rw [shapeCast_apply _ shapeCasts_S4x4096x512_S4x4096x32x16 (ix4 b t g c) (ix3 b t ⟨16 * g.val + c.val, by omega⟩) (by
    rw [Shape.rowMajor_val_three, Shape.rowMajor_val_four]
    show (b.val * 4096 + t.val) * 512 + (16 * g.val + c.val) = ((b.val * 4096 + t.val) * 32 + g.val) * 16 + c.val
    omega)]
  exact extractStridedSlice_apply _ x0 _ _ (ix3 b t ⟨1536 + (16 * g.val + c.val), by omega⟩) (fun a => match a with
    | ⟨0, _⟩ => (Nat.zero_add _).symm
    | ⟨1, _⟩ => (Nat.zero_add _).symm
    | ⟨2, _⟩ => rfl)

abbrev dd := dot_S32x64x16_S4x4096x32x16_S32x64x4x4096_2_3_1_01_0_2

theorem lhs_at (g : Fin 32) (p : Fin 64) (b : Fin 4) (t : Fin 4096) (q : dd.contr.Idx) (c : Fin 16) (hq : (q ⟨0, by decide⟩).val = c.val) :
    dd.lhsIdx (ix4 g p b t) q = ix3 g p c := by
  have h0 : (dd.lhsIdx (ix4 g p b t) q 0).val = g.val := by
    unfold DotDims.lhsIdx
    rw [dif_pos (show (0 : Fin S32x64x16.rank) ∈ dd.lhsBatch by decide)]
    rfl
  have h1 : (dd.lhsIdx (ix4 g p b t) q 1).val = p.val := by
    unfold DotDims.lhsIdx
    rw [dif_neg (show ¬ (1 : Fin S32x64x16.rank) ∈ dd.lhsBatch by decide), dif_pos (show (1 : Fin S32x64x16.rank) ∈ dd.lhsNonContracting by decide)]
    rfl
  exact Cert.idx_ext₃ h0 h1 ((dd.lhsIdx_val_of_single rfl (ix4 g p b t) q).trans hq)

theorem rhs_at (g : Fin 32) (p : Fin 64) (b : Fin 4) (t : Fin 4096) (q : dd.contr.Idx) (c : Fin 16) (hq : (q ⟨0, by decide⟩).val = c.val) :
    dd.rhsIdx (ix4 g p b t) q = ix4 b t g c := by
  have h0 : (dd.rhsIdx (ix4 g p b t) q 0).val = b.val := by
    unfold DotDims.rhsIdx
    rw [dif_neg (show ¬ (0 : Fin S4x4096x32x16.rank) ∈ dd.rhsBatch by decide), dif_pos (show (0 : Fin S4x4096x32x16.rank) ∈ dd.rhsNonContracting by decide)]
    rfl
  have h1 : (dd.rhsIdx (ix4 g p b t) q 1).val = t.val := by
    unfold DotDims.rhsIdx
    rw [dif_neg (show ¬ (1 : Fin S4x4096x32x16.rank) ∈ dd.rhsBatch by decide), dif_pos (show (1 : Fin S4x4096x32x16.rank) ∈ dd.rhsNonContracting by decide)]
    rfl
  have h2 : (dd.rhsIdx (ix4 g p b t) q 2).val = g.val := by
    unfold DotDims.rhsIdx
    rw [dif_pos (show (2 : Fin S4x4096x32x16.rank) ∈ dd.rhsBatch by decide)]
    rfl
  exact idx_ext₄ h0 h1 h2 ((dd.rhsIdx_val_of_single rfl (ix4 g p b t) q).trans hq)

theorem dot_at (w : FVec Ideal S32x64x16 .f32) (u : FVec Ideal S4x4096x32x16 .f32) (b : Fin 4) (t : Fin 4096) (g : Fin 32) (p : Fin 64) :
    (transpose S4x4096x32x64 [2, 3, 0, 1] (Host.dotGeneral dd none w u : FVec Ideal S32x64x4x4096 .f32) transposes_S32x64x4x4096_S4x4096x32x64_2_3_0_1 : FVec Ideal S4x4096x32x64 .f32) (ix4 b t g p)
      = ∑ c : Fin 16, u (ix4 b t g c) * w (ix3 g p c) := by
  rw [transpose_apply [2, 3, 0, 1] _ transposes_S32x64x4x4096_S4x4096x32x64_2_3_0_1 (ix4 b t g p) (ix4 g p b t) (fun d => match d with
    | ⟨0, _⟩ => rfl | ⟨1, _⟩ => rfl | ⟨2, _⟩ => rfl | ⟨3, _⟩ => rfl)]
  simp only [Host.dotGeneral]
  rw [Ideal.dotGeneral_apply, ← Equiv.sum_comp (ValueIdx.contrEquiv1 dd 16 rfl rfl).symm]
  refine Finset.sum_congr rfl fun c _ => ?_
  have hk := ValueIdx.contrEquiv1_symm_val dd 16 rfl rfl c
  rw [lhs_at g p b t _ c hk, rhs_at g p b t _ c hk]
  exact mul_comm _ _

theorem re_in (b : Fin 4) (t : Fin 4096) (g : Fin 32) (p : Fin 64) :
    A_main_v48 (F := Ideal) x0 x1 x2 x3 x4 x5 (ix4 b t g p) = ∑ c : Fin 16, chan x0 b t ⟨16 * g.val + c.val, by omega⟩ * inRe x1 x2 x3 x4 x5 g p c := by
  unfold A_main_v48 A_main_v47
  exact (dot_at _ _ b t g p).trans (Finset.sum_congr rfl fun c _ => congrArg₂ (· * ·) (chan_at x0 x1 x2 x3 x4 x5 b t g c) rfl)

theorem im_in (b : Fin 4) (t : Fin 4096) (g : Fin 32) (p : Fin 64) :
    A_main_v50 (F := Ideal) x0 x1 x2 x3 x4 x5 (ix4 b t g p) = ∑ c : Fin 16, chan x0 b t ⟨16 * g.val + c.val, by omega⟩ * inIm x1 x2 x3 x4 x5 g p c := by
  unfold A_main_v50 A_main_v49
  exact (dot_at _ _ b t g p).trans (Finset.sum_congr rfl fun c _ => congrArg₂ (· * ·) (chan_at x0 x1 x2 x3 x4 x5 b t g c) rfl)

/-! One step of the reference's loop. -/

/-- The inputs of one time, at an index. -/
theorem cut_apply (t : ℕ) (ht : t < 4096) (o : Fin 4 → Int) (ho : ∀ a, o a = ((![0, t, 0, 0] : Fin 4 → ℕ) a : Int)) (h) (w : FVec Ideal S4x4096x32x64 .f32) (b : Fin 4) (g : Fin 32) (p : Fin 64) :
    (shapeCast S4x32x64 (Host.dynamicSlice S4x1x32x64 w o h) shapeCasts_S4x1x32x64_S4x32x64 : FVec Ideal S4x32x64 .f32) (ix3 b g p) = w (ix4 b ⟨t, ht⟩ g p) := by
  have hs : S4x4096x32x64.Slices ![0, t, 0, 0] S4x1x32x64 := ⟨rfl, fun a => match a with
    | ⟨0, _⟩ => by show 0 + 4 ≤ 4; omega
    | ⟨1, _⟩ => by show t + 1 ≤ 4096; omega
    | ⟨2, _⟩ => by show 0 + 32 ≤ 32; omega
    | ⟨3, _⟩ => by show 0 + 64 ≤ 64; omega⟩
  rw [Host.dynamicSlice_eq_extractStridedSlice S4x1x32x64 w o ![0, t, 0, 0] h hs ho]
  rw [shapeCast_apply _ shapeCasts_S4x1x32x64_S4x32x64 (ix3 b g p) (ix4 b 0 g p) (by
    rw [Shape.rowMajor_val_three, Shape.rowMajor_val_four]
    show ((b.val * 1 + 0) * 32 + g.val) * 64 + p.val = (b.val * 32 + g.val) * 64 + p.val
    omega)]
  exact extractStridedSlice_apply _ w hs (ix4 b 0 g p) (ix4 b ⟨t, ht⟩ g p) (fun a => match a with
    | ⟨0, _⟩ => by show b.val = 0 + b.val; omega
    | ⟨1, _⟩ => by show t = t + 0; omega
    | ⟨2, _⟩ => by show g.val = 0 + g.val; omega
    | ⟨3, _⟩ => by show p.val = 0 + p.val; omega)

/-- A decay at every sequence. -/
theorem spread (w : FVec Ideal S32x64 .f32) (b : Fin 4) (g : Fin 32) (p : Fin 64) :
    (broadcastInDim S4x32x64 ![0, 1, 2] bcast_S1x32x64_S4x32x64_0_1_2 (broadcastInDim S1x32x64 ![1, 2] bcast_S32x64_S1x32x64_1_2 w) : FVec Ideal S4x32x64 .f32) (ix3 b g p) = w (ix2 g p) := by
  rw [broadcastInDim_apply _ bcast_S1x32x64_S4x32x64_0_1_2 _ (ix3 b g p) (ix3 0 g p) (fun d => match d with
    | ⟨0, _⟩ => rfl | ⟨1, _⟩ => rfl | ⟨2, _⟩ => rfl)]
  exact broadcastInDim_apply _ bcast_S32x64_S1x32x64_1_2 w (ix3 0 g p) (ix2 g p) (fun d => match d with
    | ⟨0, _⟩ => rfl | ⟨1, _⟩ => rfl)

/-- Where a trip's cut of the inputs starts. -/
abbrev from_ (j : ℕ) : Fin 4 → Int := fun k => (((![constantI S_ 32 0#32,
  select (cmpi .slt (constantI S_ 32 (BitVec.ofNat 32 j)) (constantI S_ 32 0#32)) (addi (constantI S_ 32 (BitVec.ofNat 32 j)) (constantI S_ 32 4096#32)) (constantI S_ 32 (BitVec.ofNat 32 j)),
  constantI S_ 32 0#32, constantI S_ 32 0#32] : Fin 4 → IVec S_ 32)) k (Shape.Idx.first h_S_)).toInt

theorem from_eq (j : ℕ) (hj : j < 4096) (a : Fin 4) : from_ j a = ((![0, j, 0, 0] : Fin 4 → ℕ) a : Int) := by
  match a with
  | ⟨0, _⟩ => exact (rfl : (0#32 : BitVec 32).toInt = 0)
  | ⟨1, _⟩ => exact toInt_wrap_ofNat j (by omega)
  | ⟨2, _⟩ => exact (rfl : (0#32 : BitVec 32).toInt = 0)
  | ⟨3, _⟩ => exact (rfl : (0#32 : BitVec 32).toInt = 0)

theorem next_re (j : ℕ) (hj : j < 4096) (s : State Ideal) (b : Fin 4) (g : Fin 32) (p : Fin 64) :
    b20 j s (ix3 b g p) = s.main_v52_0 (ix2 g p) * s.main_v52_6 (ix3 b g p) - s.main_v52_1 (ix2 g p) * s.main_v52_7 (ix3 b g p) + s.main_v52_2 (ix4 b ⟨j, hj⟩ g p) :=
  congrArg₂ (· + ·) (congrArg₂ (· - ·) (congrArg (· * _) (spread s.main_v52_0 b g p)) (congrArg (· * _) (spread s.main_v52_1 b g p)))
    (cut_apply j hj (from_ j) (from_eq j hj) sliceFits_S4x4096x32x64_S4x1x32x64 s.main_v52_2 b g p)

theorem next_im (j : ℕ) (hj : j < 4096) (s : State Ideal) (b : Fin 4) (g : Fin 32) (p : Fin 64) :
    b39 j s (ix3 b g p) = s.main_v52_0 (ix2 g p) * s.main_v52_7 (ix3 b g p) + s.main_v52_1 (ix2 g p) * s.main_v52_6 (ix3 b g p) + s.main_v52_3 (ix4 b ⟨j, hj⟩ g p) :=
  congrArg₂ (· + ·) (congrArg₂ (· + ·) (congrArg (· * _) (spread s.main_v52_0 b g p)) (congrArg (· * _) (spread s.main_v52_1 b g p)))
    (cut_apply j hj (from_ j) (from_eq j hj) sliceFits_S4x4096x32x64_S4x1x32x64 s.main_v52_3 b g p)

/-! The loop's states. -/

/-- The loop's state before trip `n`. -/
def it (s : State Ideal) : ℕ → State Ideal
  | 0 => s
  | n + 1 => step n (it s n)

/-- What the loop's state before trip `n` holds. -/
structure Holds (n : ℕ) (s : State Ideal) : Prop where
  re : s.main_v52_0 = A_main_v15 (F := Ideal) x0 x1 x2 x3 x4 x5
  im : s.main_v52_1 = A_main_v19 (F := Ideal) x0 x1 x2 x3 x4 x5
  inr : s.main_v52_2 = A_main_v48 (F := Ideal) x0 x1 x2 x3 x4 x5
  ini : s.main_v52_3 = A_main_v50 (F := Ideal) x0 x1 x2 x3 x4 x5
  state : ∀ b g p, (s.main_v52_6 (ix3 b g p), s.main_v52_7 (ix3 b g p)) = after x0 x1 x2 x3 x4 x5 n b g p

theorem holds_zero : Holds x0 x1 x2 x3 x4 x5 0 (init (F := Ideal) x0 x1 x2 x3 x4 x5) where
  re := rfl
  im := rfl
  inr := rfl
  ini := rfl
  state b g p := Prod.ext Ideal.ofBits_zero_f32 Ideal.ofBits_zero_f32

theorem holds_succ (n : ℕ) (hn : n < 4096) (s : State Ideal) (h : Holds x0 x1 x2 x3 x4 x5 n s) : Holds x0 x1 x2 x3 x4 x5 (n + 1) (step n s) where
  re := h.re
  im := h.im
  inr := h.inr
  ini := h.ini
  state b g p := by
    have e1 := congrArg Prod.fst (h.state b g p)
    have e2 := congrArg Prod.snd (h.state b g p)
    dsimp only at e1 e2
    have ht : (⟨n % 4096, by omega⟩ : Fin 4096) = ⟨n, hn⟩ := Fin.ext (Nat.mod_eq_of_lt hn)
    have hr : A_main_v15 (F := Ideal) x0 x1 x2 x3 x4 x5 (ix2 g p) = decayRe x1 x2 x3 g p := rfl
    have hi : A_main_v19 (F := Ideal) x0 x1 x2 x3 x4 x5 (ix2 g p) = decayIm x1 x2 x3 g p := rfl
    refine Prod.ext ((next_re n hn s b g p).trans ?_) ((next_im n hn s b g p).trans ?_)
    · rw [h.re, h.im, h.inr, e1, e2, re_in, hr, hi]
      show _ = _ * _ - _ * _ + ∑ c : Fin 16, chan x0 b ⟨n % 4096, _⟩ _ * _
      rw [ht]
      rfl
    · rw [h.re, h.im, h.ini, e1, e2, im_in, hr, hi]
      show _ = _ * _ + _ * _ + ∑ c : Fin 16, chan x0 b ⟨n % 4096, _⟩ _ * _
      rw [ht]
      rfl

theorem holds_all : ∀ n, n ≤ 4096 → Holds x0 x1 x2 x3 x4 x5 n (it (init (F := Ideal) x0 x1 x2 x3 x4 x5) n)
  | 0, _ => holds_zero x0 x1 x2 x3 x4 x5
  | n + 1, h => holds_succ x0 x1 x2 x3 x4 x5 n (by omega) _ (holds_all n (by omega))

theorem lift_apply (w : FVec Ideal S4x32x64 .f32) (b : Fin 4) (g : Fin 32) (p : Fin 64) :
    (broadcastInDim S1x4x32x64 ![1, 2, 3] bcast_S4x32x64_S1x4x32x64_1_2_3 w : FVec Ideal S1x4x32x64 .f32) (ix4 0 b g p) = w (ix3 b g p) :=
  broadcastInDim_apply _ bcast_S4x32x64_S1x4x32x64_1_2_3 w (ix4 0 b g p) (ix3 b g p) (fun d => match d with
    | ⟨0, _⟩ => rfl | ⟨1, _⟩ => rfl | ⟨2, _⟩ => rfl)

theorem re_eq : R_main_v53 (it (init (F := Ideal) x0 x1 x2 x3 x4 x5) 4096) = valRe x0 x1 x2 x3 x4 x5 := by
  funext i
  obtain ⟨b, g, p, rfl⟩ : ∃ (b : Fin 4) (g : Fin 32) (p : Fin 64), i = ix4 0 b g p := ⟨i 1, i 2, i 3, idx_ext₄ (Nat.lt_one_iff.mp (i 0).isLt) rfl rfl rfl⟩
  have h := congrArg Prod.fst ((holds_all x0 x1 x2 x3 x4 x5 4096 (Nat.le_refl _)).state b g p)
  exact (lift_apply _ b g p).trans h

theorem im_eq : R_main_v54 (it (init (F := Ideal) x0 x1 x2 x3 x4 x5) 4096) = valIm x0 x1 x2 x3 x4 x5 := by
  funext i
  obtain ⟨b, g, p, rfl⟩ : ∃ (b : Fin 4) (g : Fin 32) (p : Fin 64), i = ix4 0 b g p := ⟨i 1, i 2, i 3, idx_ext₄ (Nat.lt_one_iff.mp (i 0).isLt) rfl rfl rfl⟩
  have h := congrArg Prod.snd ((holds_all x0 x1 x2 x3 x4 x5 4096 (Nat.le_refl _)).state b g p)
  exact (lift_apply _ b g p).trans h

/-- The states of a run. -/
def its (m : (ℓ : Loc nD τ sig) → Buf (Elt Ideal) ℓ) (c : Dev nD) : ℕ → State Ideal := it (StepRun.initState m c)

theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v53) = valRe (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v54) = valIm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run _ _ _).mono (fun r h c => ⟨(h c).1.trans (re_eq _ _ _ _ _ _), (h c).2.1.trans (im_eq _ _ _ _ _ _), (h c).2.2⟩)
    (StepRun.run_iter m ρ (its m) (fun _ => rfl) (fun _ _ => rfl))

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run _ _ _).mono (fun r h => ⟨fun c => (h c).2.2, sem_eq_zero_of_no_sems (by decide) r.2⟩) (run_value m ρ)

end Cert.ReferenceS5PromptIdeal.Scan

end
-- ==== Proof.S5PromptEntry.lean ====
module

public import proofs.«01_k».proof.Proof.S5PromptOut
public import proofs.«01_k».proof.Proof.S5PromptRefIdeal
public import proofs.«01_k».proof.Proof.S5SampleEntry

@[expose] public section

set_option maxRecDepth 16384

noncomputable section

namespace Cert.S5PromptIdeal.Scan

open Cert.S5PromptIdeal Cert.S5PromptIdeal.Gen
open Idealize.ShloMosaic Idealize.ShloMosaic.TcCoe Idealize.SL.Sem

open Cert.S5SampleIdeal.Scan (decays mats)

/-! The arrays at the entry of the grid: the decays and the matrices are laid out as for the other batch. -/

variable (m : (ℓ : Loc nD τ sig) → Buf (Elt Ideal) ℓ)

abbrev A0 : S4x4096x2048.Idx → EReal := m (((0 : Dev nD) : Thread nD τ).loc main_arg0)
abbrev A1 : S1x32x64.Idx → EReal := m (((0 : Dev nD) : Thread nD τ).loc main_arg1)
abbrev A2 : S1x32x64.Idx → EReal := m (((0 : Dev nD) : Thread nD τ).loc main_arg2)
abbrev A3 : S1x32.Idx → EReal := m (((0 : Dev nD) : Thread nD τ).loc main_arg3)
abbrev A4 : S1x32x64x16.Idx → EReal := m (((0 : Dev nD) : Thread nD τ).loc main_arg4)
abbrev A5 : S1x32x64x16.Idx → EReal := m (((0 : Dev nD) : Thread nD τ).loc main_arg5)

theorem entry_x : V m 0 main_arg0 = A0 m := by
  simp only [V, V0, hostOps0, List.flatten_cons, List.flatten_nil, List.append_nil]
  after_results

theorem entry_h (i : S4x8x1024.Idx) : V m 0 main_v99 i = (0 : EReal) := by
  simp only [V, V0, hostOps0, List.flatten_cons, List.flatten_nil, List.append_nil]
  after_results
  exact Ideal.ofBits_zero_f32

theorem entry_a : V m 0 main_v97 = decays (Cert.ReferenceS5SampleIdeal.Read.val_main_v17 (F := Ideal) (A1 m) (A2 m) (A3 m)) (Cert.ReferenceS5SampleIdeal.Read.val_main_v21 (F := Ideal) (A1 m) (A2 m) (A3 m)) := by
  simp only [V, V0, hostOps0, List.flatten_cons, List.flatten_nil, List.append_nil]
  after_results
  rfl

theorem entry_b : V m 0 main_v70 = mats (Cert.ReferenceS5SampleIdeal.Read.val_main_v41 (F := Ideal) (A1 m) (A2 m) (A3 m) (A4 m) (A5 m)) (Cert.ReferenceS5SampleIdeal.Read.val_main_v48 (F := Ideal) (A1 m) (A2 m) (A3 m) (A4 m) (A5 m)) := by
  simp only [V, V0, hostOps0, List.flatten_cons, List.flatten_nil, List.append_nil]
  after_results
  rfl

end Cert.S5PromptIdeal.Scan

end
-- ==== Proof.S5PromptKernelIdeal.lean ====
module

public import proofs.«01_k».proof.Proof.S5PromptEntry
public import proofs.«01_k».proof.Proof.S5SampleKernelIdeal

@[expose] public section

set_option maxRecDepth 16384

noncomputable section

/-- A recurrence of `N + M` inputs is one of `M` from the states after `N`. -/
theorem Cert.Recur.run_add (ar ai : EReal) (br bi : ℕ → EReal) (h : EReal × EReal) (N : ℕ) :
    ∀ M, Cert.Recur.run ar ai br bi h (N + M) = Cert.Recur.run ar ai (fun n => br (N + n)) (fun n => bi (N + n)) (Cert.Recur.run ar ai br bi h N) M
  | 0 => rfl
  | M + 1 => by
    have e := Cert.Recur.run_add ar ai br bi h N M
    rw [← Nat.add_assoc]
    simp only [Cert.Recur.run, e]

namespace Cert.S5PromptIdeal.Scan

open Cert.S5PromptIdeal Cert.S5PromptIdeal.Gen
open Idealize.ShloMosaic Idealize.ShloMosaic.TcCoe Idealize.SL.Sem

open Cert.ReferenceS5SampleIdeal.Scan (idx_ext₄ decayRe decayIm inRe inIm)
open Cert.ReferenceS5PromptIdeal.Scan (chan valRe valIm)
open Cert.S5SampleIdeal.Scan (grp decays decays_re decays_im mats mats_lo mats_hi diag_sum grp_eq)

variable (m : (ℓ : Loc nD τ sig) → Buf (Elt Ideal) ℓ)

/-- The state of a lane. -/
abbrev sta (l : Fin 512) : Fin 64 := Cert.S5SampleIdeal.Scan.st l

/-! The blocks a point reads, at an index of the arrays. -/

theorem idx0 : ∀ t : Fin cfg0.N, win0_0.index t = ![0, t.val, 3] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0] := (by decide +kernel : ∀ t : Fin grid0.N, _)
theorem idx9 : ∀ t : Fin cfg0.N, win0_9.index t = ![0, 0, 0] := (by decide +kernel : ∀ t : Fin grid0.N, _)

theorem pt_lt (t : Fin cfg0.N) : t.val < 32 := lt_of_lt_of_eq t.isLt (show cfg0.N = 32 from N_0)

/-- The time that is time `s` of a point's block. -/
def time (t : Fin cfg0.N) (s : Fin 128) : Fin 4096 := ⟨t.val * 128 + s.val, by have h := pt_lt t; omega⟩

theorem blk_x (t : Fin cfg0.N) (b : Fin 4) (s : Fin 128) (j : Fin 512) : iblk m 0 0 t (ix3 b s j) = chan (A0 m) b (time t s) j := by
  have e := Pipeline.Window.rect_emb_val (cfg0.win 0) t
  have hi := idx0 t
  exact (congrArg (V m 0 main_arg0) (Cert.idx_ext₃ ((e _ (0 : Fin 3)).trans (by rw [hi]; exact Nat.zero_add _)) ((e _ (1 : Fin 3)).trans (by rw [hi]; rfl)) ((e _ (2 : Fin 3)).trans (by rw [hi]; rfl)))).trans
    (congrFun (entry_x m) (ix3 b (time t s) ⟨1536 + j.val, by omega⟩))
theorem blk_h (t : Fin cfg0.N) (y : S4x8x1024.Idx) : iblk m 0 1 t y = (0 : EReal) := entry_h m _
theorem blk_a (t : Fin cfg0.N) (k : Fin 4) (d : Fin 2) (j : Fin 1024) : iblk m 0 2 t (ix3 k d j) = V m 0 main_v97 (ix3 k d j) := by
  have e := Pipeline.Window.rect_emb_val (cfg0.win 2) t
  have hi := idx2 t
  exact congrArg (V m 0 main_v97) (Cert.idx_ext₃ ((e _ (0 : Fin 3)).trans (by rw [hi]; exact Nat.zero_add _)) ((e _ (1 : Fin 3)).trans (by rw [hi]; exact Nat.zero_add _)) ((e _ (2 : Fin 3)).trans (by rw [hi]; exact Nat.zero_add _)))
theorem blk_b (t : Fin cfg0.N) (k : Fin 4) (i : Fin 128) (j : Fin 1024) : iblk m 0 3 t (ix3 k i j) = V m 0 main_v70 (ix3 k i j) := by
  have e := Pipeline.Window.rect_emb_val (cfg0.win 3) t
  have hi := idx3 t
  exact congrArg (V m 0 main_v70) (Cert.idx_ext₃ ((e _ (0 : Fin 3)).trans (by rw [hi]; exact Nat.zero_add _)) ((e _ (1 : Fin 3)).trans (by rw [hi]; exact Nat.zero_add _)) ((e _ (2 : Fin 3)).trans (by rw [hi]; exact Nat.zero_add _)))

/-! The states of a point are those of 128 more times of its four sequences. -/

theorem decay_re (t : Fin cfg0.N) (k : Fin 4) (l : Fin 512) : iblk m 0 2 t (ix3 k 0 (lo l)) = decayRe (A1 m) (A2 m) (A3 m) (grp k l) (sta l) :=
  (blk_a m t k 0 (lo l)).trans ((congrFun (entry_a m) _).trans (decays_re _ _ k l))
theorem decay_im (t : Fin cfg0.N) (k : Fin 4) (l : Fin 512) : iblk m 0 2 t (ix3 k 1 (lo l)) = decayIm (A1 m) (A2 m) (A3 m) (grp k l) (sta l) :=
  (blk_a m t k 1 (lo l)).trans ((congrFun (entry_a m) _).trans (decays_im _ _ k l))

/-- The row of a sequence among the eight of a block. -/
abbrev up (b : Fin 4) : Fin 8 := ⟨b.val, by omega⟩

/-- The channels of a sequence at step `s`, as a point's block holds them. -/
theorem utm_eq (t : Fin cfg0.N) (k : Fin 4) (s : ℕ) (hs : s < 128) (b : Fin 4) (j : Fin 128) :
    utm (iblk m 0 0 t) k (tm s (up b)) j = chan (A0 m) b ⟨(t.val * 128 + s) % 4096, Nat.mod_lt _ (by decide)⟩ ⟨128 * k.val + j.val, by omega⟩ := by
  have h := pt_lt t
  have e : (ix3 ⟨(tm s (up b)).val % 4, Nat.mod_lt _ (by decide)⟩ ⟨(tm s (up b)).val / 8, by have := (tm s (up b)).isLt; omega⟩ ⟨128 * k.val + j.val, by omega⟩ : S4x128x512.Idx)
      = ix3 b ⟨s, hs⟩ ⟨128 * k.val + j.val, by omega⟩ :=
    Cert.idx_ext₃ (show (8 * s + b.val) % 1024 % 4 = b.val by omega) (show (8 * s + b.val) % 1024 / 8 = s by omega) rfl
  have e' : time t ⟨s, hs⟩ = ⟨(t.val * 128 + s) % 4096, Nat.mod_lt _ (by decide)⟩ := Fin.ext (show t.val * 128 + s = (t.val * 128 + s) % 4096 by omega)
  exact (congrArg (iblk m 0 0 t) e).trans ((blk_x m t b ⟨s, hs⟩ ⟨128 * k.val + j.val, by omega⟩).trans (congrArg (fun x => chan (A0 m) b x ⟨128 * k.val + j.val, by omega⟩) e'))

theorem inputs_lo (t : Fin cfg0.N) (k : Fin 4) (s : ℕ) (hs : s < 128) (b : Fin 4) (l : Fin 512) :
    inputs (iblk m 0 0 t) (iblk m 0 3 t) k (tm s (up b)) (lo l) = ∑ c : Fin 16, chan (A0 m) b ⟨(t.val * 128 + s) % 4096, Nat.mod_lt _ (by decide)⟩ ⟨16 * (grp k l).val + c.val, by have := (grp k l).isLt; omega⟩
      * inRe (A1 m) (A2 m) (A3 m) (A4 m) (A5 m) (grp k l) (sta l) c :=
  (Finset.sum_congr rfl fun j _ => congrArg₂ (· * ·) (utm_eq m t k s hs b j) ((blk_b m t k j (lo l)).trans ((congrFun (entry_b m) _).trans (mats_lo _ _ k j l)))).trans
    (diag_sum _ (chan (A0 m) b ⟨(t.val * 128 + s) % 4096, Nat.mod_lt _ (by decide)⟩) k l)
theorem inputs_hi (t : Fin cfg0.N) (k : Fin 4) (s : ℕ) (hs : s < 128) (b : Fin 4) (l : Fin 512) :
    inputs (iblk m 0 0 t) (iblk m 0 3 t) k (tm s (up b)) (hi l) = ∑ c : Fin 16, chan (A0 m) b ⟨(t.val * 128 + s) % 4096, Nat.mod_lt _ (by decide)⟩ ⟨16 * (grp k l).val + c.val, by have := (grp k l).isLt; omega⟩
      * inIm (A1 m) (A2 m) (A3 m) (A4 m) (A5 m) (grp k l) (sta l) c :=
  (Finset.sum_congr rfl fun j _ => congrArg₂ (· * ·) (utm_eq m t k s hs b j) ((blk_b m t k j (hi l)).trans ((congrFun (entry_b m) _).trans (mats_hi _ _ k j l)))).trans
    (diag_sum _ (chan (A0 m) b ⟨(t.val * 128 + s) % 4096, Nat.mod_lt _ (by decide)⟩) k l)

/-- The states after `n` times. -/
abbrev swept (n : ℕ) : Fin 4 → Fin 32 → Fin 64 → EReal × EReal := Cert.ReferenceS5PromptIdeal.Scan.after (A0 m) (A1 m) (A2 m) (A3 m) (A4 m) (A5 m) n

/-- A block's states hold those after `n` times, at the rows of the four sequences. -/
def At (n : ℕ) (s : Vec Ideal S4x8x1024 .f32) : Prop :=
  ∀ (k b : Fin 4) (l : Fin 512), (s (ix3 k (up b) (lo l)), s (ix3 k (up b) (hi l))) = swept m n b (grp k l) (sta l)

theorem at_zero (t : Fin cfg0.N) : At m 0 (iblk m 0 1 t) := fun k b l => by
  rw [blk_h, blk_h]
  unfold swept Cert.ReferenceS5PromptIdeal.Scan.after
  simp only [Cert.Recur.run]

theorem state_eq (t : Fin cfg0.N) (s : Vec Ideal S4x8x1024 .f32) (h : At m (t.val * 128) s) (k b : Fin 4) (l : Fin 512) :
    state (iblk m 0 0 t) s (iblk m 0 2 t) (iblk m 0 3 t) k (up b) l = swept m (t.val * 128 + 128) b (grp k l) (sta l) := by
  have e := h k b l
  unfold swept Cert.ReferenceS5PromptIdeal.Scan.after at e ⊢
  unfold state
  rw [Cert.Recur.run_add, ← e, decay_re, decay_im]
  exact Cert.Recur.run_congr 128 (fun s hs => inputs_lo m t k s hs b l) (fun s hs => inputs_hi m t k s hs b l)

theorem step_first (t : Fin cfg0.N) (h : t.val = 0) (s : Vec Ideal S4x8x1024 .f32) : At m (t.val * 128 + 128) (step m 0 t s).2.2 := fun k b l => by
  have e : (step m 0 t s).2.2 = ofH (atFirst m 0 t h).2.1 := by unfold step; rw [dif_pos h]
  have h0 : At m (t.val * 128) (iblk m 0 1 t) := by rw [h]; exact at_zero m t
  rw [e, ← state_eq m t (iblk m 0 1 t) h0 k b l]
  exact first_out (hr := b.isLt) ..

theorem step_next (t : Fin cfg0.N) (h : t.val ≠ 0) (h' : t.val ≠ 31) (s : Vec Ideal S4x8x1024 .f32) (hs : At m (t.val * 128) s) : At m (t.val * 128 + 128) (step m 0 t s).2.2 := fun k b l => by
  have e : (step m 0 t s).2.2 = ofH (atNext m 0 t h h' s).2.1 := by unfold step; rw [dif_neg h, dif_neg h']
  rw [e, ← state_eq m t s hs k b l]
  exact next_out (hr := b.isLt) ..

theorem step_last (t : Fin cfg0.N) (h : t.val = 31) (s : Vec Ideal S4x8x1024 .f32) (hs : At m (t.val * 128) s) : At m (t.val * 128 + 128) (step m 0 t s).2.1 := fun k b l => by
  have e : (step m 0 t s).2.1 = ofH (atLast m 0 t h s).2.1 := by unfold step; rw [dif_neg (by omega), dif_pos h]
  rw [e, ← state_eq m t s hs k b l]
  exact last_out (hr := b.isLt) ..

theorem st_at : ∀ (n : ℕ) (hn : n < cfg0.N), n < 31 → At m (n * 128 + 128) (st m 0 n hn)
  | 0, hn, _ => step_first m ⟨0, hn⟩ rfl _
  | n + 1, hn, h => step_next m ⟨n + 1, hn⟩ (Nat.succ_ne_zero n) (by show n + 1 ≠ 31; omega) _ (by
      have e := st_at n (Nat.lt_of_succ_lt hn) (by omega)
      rw [show n * 128 + 128 = (n + 1) * 128 by omega] at e
      exact e)

/-- The last point. -/
abbrev fin_ : Fin cfg0.N := ⟨31, lt_of_lt_of_eq (by decide : 31 < 32) (show cfg0.N = 32 from N_0).symm⟩

/-- What the last point copies out. -/
abbrev left : Vec Ideal S4x8x1024 .f32 := (step m 0 fin_ (before m 0 fin_)).2.1

theorem left_at : At m 4096 (left m) :=
  step_last m fin_ rfl _ (by
    have e : before m 0 fin_ = st m 0 30 (Nat.lt_of_succ_lt fin_.isLt) := by unfold before; rw [dif_neg (by decide)]; rfl
    rw [e]
    exact st_at m 30 _ (by decide))

/-! The array of the states: the last point's block is all of it. -/

theorem flush9 : ∀ t : Fin cfg0.N, (cfg0.win 9).flush t = true → t.val = 31 := (by decide +kernel : ∀ t : Fin grid0.N, _)

theorem arr_eq : (dats m 0 0).arrAt 9 cfg0.N = left m := by
  refine (dats m 0 0).arrAt_eq_of_covers 9 (left m) ?_ fun t hf y => ?_
  · refine Pipeline.Window.covers_of_index_surj _ rfl (fun a => by match a with | ⟨0, _⟩ => exact (by decide : 0 < 4) | ⟨1, _⟩ => exact (by decide : 0 < 8) | ⟨2, _⟩ => exact (by decide : 0 < 1024)) fun β => ?_
    have h0 : (β (0 : Fin 3)).val < 1 := lt_of_lt_of_eq (β (0 : Fin 3)).isLt (show (4 + 3) / 4 = 1 by decide)
    have h1 : (β (1 : Fin 3)).val < 1 := lt_of_lt_of_eq (β (1 : Fin 3)).isLt (show (8 + 7) / 8 = 1 by decide)
    have h2 : (β (2 : Fin 3)).val < 1 := lt_of_lt_of_eq (β (2 : Fin 3)).isLt (show (1024 + 1023) / 1024 = 1 by decide)
    refine ⟨fin_, fun a => ?_⟩
    refine (congrFun (idx9 _) a).trans ?_
    match a with
    | ⟨0, _⟩ => exact (show 0 = (β (0 : Fin 3)).val by omega)
    | ⟨1, _⟩ => exact (show 0 = (β (1 : Fin 3)).val by omega)
    | ⟨2, _⟩ => exact (show 0 = (β (2 : Fin 3)).val by omega)
  · obtain rfl : t = fin_ := Fin.ext (flush9 t hf)
    have e := Pipeline.Window.rect_emb_val (cfg0.win 9) fin_ y
    have hi := idx9 fin_
    have z : ((cfg0.win 9).rect fin_).emb y = y := Cert.idx_ext₃ ((e (0 : Fin 3)).trans (by rw [hi]; exact Nat.zero_add _)) ((e (1 : Fin 3)).trans (by rw [hi]; exact Nat.zero_add _)) ((e (2 : Fin 3)).trans (by rw [hi]; exact Nat.zero_add _))
    have q : (dats m 0 0).after 9 fin_ y = left m (((cfg0.win 9).rect fin_).emb y) := (congrFun (after9 m 0 fin_) y).trans (congrArg (left m) z.symm)
    exact q

/-! The results: the states by sequence, after the call. -/

theorem arr_out : Pipeline.withArrays cfg0.spec 0 (V0 m 0) (fun w => (dats m 0 0).arrAt w cfg0.N) (Proc.devRef .tc main_v103_1) = left m :=
  (Pipeline.withArrays_arr cfg0.spec (by decide) 0 (V0 m 0) (fun w => (dats m 0 0).arrAt w cfg0.N) 9).trans (arr_eq m)

/-- The host's cut of the four sequences' lanes into groups. -/
def groups (o : Fin 3 → ℕ) (h : S4x4x1024.Slices o S4x4x512) (f : S4x8x1024.Idx → EReal) : S1x4x32x64.Idx → EReal :=
  broadcastInDim S1x4x32x64 ![1, 2, 3] bcast_S4x32x64_S1x4x32x64_1_2_3
    (shapeCast S4x32x64 (extractStridedSlice S4x4x512 o (transpose S4x4x1024 [1, 0, 2] (extractStridedSlice S4x4x1024 ![0, 0, 0] f slices_S4x8x1024_S4x4x1024_0_0_0) transposes_S4x4x1024_S4x4x1024_1_0_2) h) shapeCasts_S4x4x512_S4x32x64)

theorem groups_apply (d : ℕ) (o : Fin 3 → ℕ) (ho : o = ![0, 0, d]) (h : S4x4x1024.Slices o S4x4x512) (hd : d + 512 ≤ 1024) (f : S4x8x1024.Idx → EReal) (b : Fin 4) (g : Fin 32) (p : Fin 64) :
    groups o h f (ix4 0 b g p) = f (ix3 ⟨g.val / 8, by omega⟩ (up b) ⟨d + (64 * (g.val % 8) + p.val), by omega⟩) := by
  subst ho
  unfold groups
  rw [broadcastInDim_apply _ bcast_S4x32x64_S1x4x32x64_1_2_3 _ (ix4 0 b g p) (ix3 b g p) (fun a => match a with
    | ⟨0, _⟩ => rfl | ⟨1, _⟩ => rfl | ⟨2, _⟩ => rfl)]
  rw [shapeCast_apply _ shapeCasts_S4x4x512_S4x32x64 (ix3 b g p) (ix3 b ⟨g.val / 8, by omega⟩ ⟨64 * (g.val % 8) + p.val, by omega⟩) (by
    rw [Shape.rowMajor_val_three, Shape.rowMajor_val_three]
    show (b.val * 4 + g.val / 8) * 512 + (64 * (g.val % 8) + p.val) = (b.val * 32 + g.val) * 64 + p.val
    omega)]
  rw [extractStridedSlice_apply _ _ h _ (ix3 b ⟨g.val / 8, by omega⟩ ⟨d + (64 * (g.val % 8) + p.val), by omega⟩) (fun a => match a with
    | ⟨0, _⟩ => (Nat.zero_add _).symm | ⟨1, _⟩ => (Nat.zero_add _).symm | ⟨2, _⟩ => rfl)]
  rw [transpose_apply [1, 0, 2] _ transposes_S4x4x1024_S4x4x1024_1_0_2 (ix3 b ⟨g.val / 8, by omega⟩ ⟨d + (64 * (g.val % 8) + p.val), by omega⟩) (ix3 ⟨g.val / 8, by omega⟩ b ⟨d + (64 * (g.val % 8) + p.val), by omega⟩) (fun a => match a with
    | ⟨0, _⟩ => rfl | ⟨1, _⟩ => rfl | ⟨2, _⟩ => rfl)]
  exact extractStridedSlice_apply _ f _ _ _ (fun a => match a with
    | ⟨0, _⟩ => (Nat.zero_add _).symm | ⟨1, _⟩ => (Nat.zero_add _).symm | ⟨2, _⟩ => (Nat.zero_add _).symm)

theorem sta_eq (g : Fin 32) (p : Fin 64) : sta ⟨64 * (g.val % 8) + p.val, by omega⟩ = p := Cert.S5SampleIdeal.Scan.st_eq g p

/-- The states of a group's state, where the block holds them. -/
theorem pair_at (f : Vec Ideal S4x8x1024 .f32) (hf : At m 4096 f) (b : Fin 4) (g : Fin 32) (p : Fin 64) :
    (f (ix3 ⟨g.val / 8, by omega⟩ (up b) (lo ⟨64 * (g.val % 8) + p.val, by omega⟩)), f (ix3 ⟨g.val / 8, by omega⟩ (up b) (hi ⟨64 * (g.val % 8) + p.val, by omega⟩)))
      = swept m 4096 b g p :=
  (hf _ b _).trans (by rw [grp_eq, sta_eq])

theorem groups_re (f : Vec Ideal S4x8x1024 .f32) (hf : At m 4096 f) : groups ![0, 0, 0] slices_S4x4x1024_S4x4x512_0_0_0 f = valRe (A0 m) (A1 m) (A2 m) (A3 m) (A4 m) (A5 m) := by
  funext i
  obtain ⟨b, g, p, rfl⟩ : ∃ (b : Fin 4) (g : Fin 32) (p : Fin 64), i = ix4 0 b g p := ⟨i 1, i 2, i 3, idx_ext₄ (Nat.lt_one_iff.mp (i 0).isLt) rfl rfl rfl⟩
  have z : (ix3 ⟨g.val / 8, by omega⟩ (up b) ⟨0 + (64 * (g.val % 8) + p.val), by omega⟩ : S4x8x1024.Idx) = ix3 ⟨g.val / 8, by omega⟩ (up b) (lo ⟨64 * (g.val % 8) + p.val, by omega⟩) :=
    Cert.idx_ext₃ rfl rfl (Nat.zero_add _)
  have e : valRe (A0 m) (A1 m) (A2 m) (A3 m) (A4 m) (A5 m) (ix4 0 b g p) = (swept m 4096 b g p).1 := by unfold valRe; rfl
  rw [groups_apply 0 _ rfl _ (by decide) f b g p, z, e, ← pair_at m f hf b g p]
theorem groups_im (f : Vec Ideal S4x8x1024 .f32) (hf : At m 4096 f) : groups ![0, 0, 512] slices_S4x4x1024_S4x4x512_0_0_512 f = valIm (A0 m) (A1 m) (A2 m) (A3 m) (A4 m) (A5 m) := by
  funext i
  obtain ⟨b, g, p, rfl⟩ : ∃ (b : Fin 4) (g : Fin 32) (p : Fin 64), i = ix4 0 b g p := ⟨i 1, i 2, i 3, idx_ext₄ (Nat.lt_one_iff.mp (i 0).isLt) rfl rfl rfl⟩
  have e : valIm (A0 m) (A1 m) (A2 m) (A3 m) (A4 m) (A5 m) (ix4 0 b g p) = (swept m 4096 b g p).2 := by unfold valIm; rfl
  rw [groups_apply 512 _ rfl _ (by decide) f b g p, e, ← pair_at m f hf b g p]

theorem tail_re : Pipeline.afterTail₀ cfgs (dats m) 0 (V0 m) [hostOps1] 0 main_v110 = groups ![0, 0, 0] slices_S4x4x1024_S4x4x512_0_0_0 (left m) := by
  unfold Pipeline.afterTail₀
  simp only [hostOps1, List.flatten_cons, List.flatten_nil, List.append_nil]
  after_results
  rw [show Pipeline.withArrays (cfgs 0).spec 0 (V0 m 0) (fun w => (dats m 0 0).arrAt w (cfgs 0).N) (Proc.devRef .tc main_v103_1) = left m from arr_out m]
  rfl
theorem tail_im : Pipeline.afterTail₀ cfgs (dats m) 0 (V0 m) [hostOps1] 0 main_v111 = groups ![0, 0, 512] slices_S4x4x1024_S4x4x512_0_0_512 (left m) := by
  unfold Pipeline.afterTail₀
  simp only [hostOps1, List.flatten_cons, List.flatten_nil, List.append_nil]
  after_results
  rw [show Pipeline.withArrays (cfgs 0).spec 0 (V0 m 0) (fun w => (dats m 0 0).arrAt w (cfgs 0).N) (Proc.devRef .tc main_v103_1) = left m from arr_out m]
  rfl

theorem run_value (ρ : Dev nD → PrngReg) : θ_run (defs (F := Ideal)) (onTc (τ := τ) (main (F := Ideal))) ⟨m, fun _ => 0, ρ⟩ (fun r => ∀ c : Dev nD,
      r.2.mem ((c.tc : Thread nD τ).loc main_v110) = valRe (A0 m) (A1 m) (A2 m) (A3 m) (A4 m) (A5 m)
      ∧ r.2.mem ((c.tc : Thread nD τ).loc main_v111) = valIm (A0 m) (A1 m) (A2 m) (A3 m) (A4 m) (A5 m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run _ _ _).mono (fun r h c => by
    obtain rfl : c = 0 := Subsingleton.elim _ _
    exact ⟨((h.1 0).2 main_v110 (Pipeline.mem_restRefs_of main_v110 (by decide) (by decide))).trans ((tail_re m).trans (groups_re m _ (left_at m))),
      ((h.1 0).2 main_v111 (Pipeline.mem_restRefs_of main_v111 (by decide) (by decide))).trans ((tail_im m).trans (groups_im m _ (left_at m))), h.2.1 0⟩)
    (θ_run_and (run_main m ρ) (framed m ρ))

end Cert.S5PromptIdeal.Scan

end
-- ==== Proof.FfnKernelIdeal.lean ====
module

public import proofs.«01_k».proof.Proof.Rms
public import proofs.«01_k».proof.Proof.Gen.KernelFfnIdeal.Frame
public import Idealize.ShloMosaic.Lib.Pipeline.ValueKit
public import Idealize.ShloMosaic.Lib.Pipeline.Covers
public import Idealize.ShloMosaic.Lib.Pointwise
public import Idealize.ShloMosaic.Lib.Claim
public import Idealize.ShloMosaic.Lib.Tactic

@[expose] public section

set_option maxRecDepth 16384

noncomputable section

namespace Cert.KernelFfnIdeal.Rms

open Cert.KernelFfnIdeal Cert.KernelFfnIdeal.Gen
open Idealize.ShloMosaic Idealize.ShloMosaic.TcCoe Idealize.SL.Sem

theorem hz : (![0, 0] : Fin 2 → Nat) = fun _ => 0 := funext fun a => by fin_cases a <;> rfl

/-! The body's arithmetic at an index, over the extended reals. -/

/-- The gated unit of a row, from its two columns of weights. -/
def hid (x g wg wu : Fin 1024 → EReal) : EReal := Cert.Rms.dot x g wg * Ideal.logistic (Cert.Rms.dot x g wg) * Cert.Rms.dot x g wu

theorem pay1_apply (x : Vec Ideal S1024x1024 .f32) (g : Vec Ideal S1x1024 .f32) (a l : Fin 1024) :
    k0_pay1 x g (ix2 a l) = Cert.Rms.norm (fun k => x (ix2 a k)) (fun k => g (ix2 0 k)) l := by
  pointwise [k0_pay1]
  rfl

theorem pay2_apply (j : S1024x1024.Idx) : k0_pay2 (F := Ideal) j = 0 := by
  pointwise [k0_pay2]

theorem pay3_apply (xn : Vec Ideal S1024x1024 .bf16) (wg wu : Vec Ideal S1024x256 .f32) (acc : Vec Ideal S1024x1024 .f32) (wd : Vec Ideal S256x1024 .f32) (a b : Fin 1024) :
    k0_pay3 xn wg wu acc wd (ix2 a b) = acc (ix2 a b) + ∑ k : Fin 256, ((∑ l : Fin 1024, xn (ix2 a l) * wg (ix2 l k)) * Ideal.logistic (∑ l : Fin 1024, xn (ix2 a l) * wg (ix2 l k))
      * ∑ l : Fin 1024, xn (ix2 a l) * wu (ix2 l k)) * wd (ix2 k b) := by
  pointwise [k0_pay3]

theorem pay4_apply (x acc : Vec Ideal S1024x1024 .f32) (j : S1024x1024.Idx) : k0_pay4 x acc j = x j + acc j := by
  pointwise [k0_pay4]

/-! What a point leaves, from the blocks it reads. -/

section
variable {F : FTy → Type} [FloatOps F]

theorem rows_A (c : Dev nD) (i : grid0.Coords) (a2 : Memref sig .tc .vmem S1024x1024 .f32) (h2 : a2.IsWhole) (a3 : Memref sig .tc .vmem S1x1024 .f32) (h3 : a3.IsWhole)
    (a4 : Memref sig .tc .vmem S1024x256 .f32) (h4 : a4.IsWhole) (a5 : Memref sig .tc .vmem S1024x256 .f32) (h5 : a5.IsWhole) (a6 : Memref sig .tc .vmem S256x1024 .f32) (h6 : a6.IsWhole)
    (a7 : Memref sig .tc .vmem S1024x1024 .f32) (h7 : a7.IsWhole) (a8 : Memref sig .tc .vmem S1024x1024 .bf16) (h8 : a8.IsWhole) (a9 : Memref sig .tc .vmem S1024x1024 .f32) (h9 : a9.IsWhole)
    (hc0 : cond0_0 i) (hc1 : ¬cond0_1 i) (x0 : Vec F S1024x1024 .f32) (x1 : Vec F S1x1024 .f32) (x2 x3 : Vec F S1024x256 .f32) (x4 : Vec F S256x1024 .f32) :
    sout0_A_0 c i a2 h2 a3 h3 a4 h4 a5 h5 a6 h6 a7 h7 a8 h8 a9 h9 hc0 hc1 x0 x1 x2 x3 x4 = k0_pay1 x0 x1 := by
  unfold sout0_A_0
  rw [View.read_writes_eq_canon _ _ _ (scover0_A_0 c i a2 h2 a3 h3 a4 h4 a5 h5 a6 h6 a7 h7 a8 h8 a9 h9 hc0 hc1 x0 x1 x2 x3 x4)]
  unfold kernelRun0_A
  dsimp only
  sl_unfold_words
  rw [View.canon_cons_unit_zero (S := S1024x1024) hz]
  simp only [View.readCov_unit_zero (S := S1024x1024) _ hz, View.readAt_eq_ld, h2.read_unread, h3.read_unread, h4.read_unread, h5.read_unread, h6.read_unread, h8.read_unread, h9.read_unread, View.ld_unit_zero (S := S1024x1024) hz, View.ld_unit_zero (S := S1x1024) hz, View.ld_unit_zero (S := S1024x256) hz, View.ld_unit_zero (S := S256x1024) hz]

theorem sum_A (c : Dev nD) (i : grid0.Coords) (a2 : Memref sig .tc .vmem S1024x1024 .f32) (h2 : a2.IsWhole) (a3 : Memref sig .tc .vmem S1x1024 .f32) (h3 : a3.IsWhole)
    (a4 : Memref sig .tc .vmem S1024x256 .f32) (h4 : a4.IsWhole) (a5 : Memref sig .tc .vmem S1024x256 .f32) (h5 : a5.IsWhole) (a6 : Memref sig .tc .vmem S256x1024 .f32) (h6 : a6.IsWhole)
    (a7 : Memref sig .tc .vmem S1024x1024 .f32) (h7 : a7.IsWhole) (a8 : Memref sig .tc .vmem S1024x1024 .bf16) (h8 : a8.IsWhole) (a9 : Memref sig .tc .vmem S1024x1024 .f32) (h9 : a9.IsWhole)
    (hc0 : cond0_0 i) (hc1 : ¬cond0_1 i) (x0 : Vec F S1024x1024 .f32) (x1 : Vec F S1x1024 .f32) (x2 x3 : Vec F S1024x256 .f32) (x4 : Vec F S256x1024 .f32) :
    sout0_A_1 c i a2 h2 a3 h3 a4 h4 a5 h5 a6 h6 a7 h7 a8 h8 a9 h9 hc0 hc1 x0 x1 x2 x3 x4 = k0_pay3 (k0_pay1 x0 x1) x2 x3 (k0_pay2 (F := F)) x4 := by
  unfold sout0_A_1
  rw [View.read_writes_eq_canon _ _ _ (scover0_A_1 c i a2 h2 a3 h3 a4 h4 a5 h5 a6 h6 a7 h7 a8 h8 a9 h9 hc0 hc1 x0 x1 x2 x3 x4)]
  unfold kernelRun0_A
  dsimp only
  sl_unfold_words
  rw [View.canon_cons_unit_zero (S := S1024x1024) hz]
  simp only [View.readCov_unit_zero (S := S1024x1024) _ hz, View.readAt_eq_ld, h2.read_unread, h3.read_unread, h4.read_unread, h5.read_unread, h6.read_unread, h8.read_unread, h9.read_unread, View.ld_unit_zero (S := S1024x1024) hz, View.ld_unit_zero (S := S1x1024) hz, View.ld_unit_zero (S := S1024x256) hz, View.ld_unit_zero (S := S256x1024) hz]

theorem sum_B (c : Dev nD) (i : grid0.Coords) (a2 : Memref sig .tc .vmem S1024x1024 .f32) (h2 : a2.IsWhole) (a3 : Memref sig .tc .vmem S1x1024 .f32) (h3 : a3.IsWhole)
    (a4 : Memref sig .tc .vmem S1024x256 .f32) (h4 : a4.IsWhole) (a5 : Memref sig .tc .vmem S1024x256 .f32) (h5 : a5.IsWhole) (a6 : Memref sig .tc .vmem S256x1024 .f32) (h6 : a6.IsWhole)
    (a7 : Memref sig .tc .vmem S1024x1024 .f32) (h7 : a7.IsWhole) (a8 : Memref sig .tc .vmem S1024x1024 .bf16) (h8 : a8.IsWhole) (a9 : Memref sig .tc .vmem S1024x1024 .f32) (h9 : a9.IsWhole)
    (hc0 : ¬cond0_0 i) (hc1 : ¬cond0_1 i) (x0 : Vec F S1024x1024 .f32) (x1 : Vec F S1x1024 .f32) (x2 x3 : Vec F S1024x256 .f32) (x4 : Vec F S256x1024 .f32) (xs0 : Vec F S1024x1024 .bf16) (xs1 : Vec F S1024x1024 .f32) :
    sout0_B_1 c i a2 h2 a3 h3 a4 h4 a5 h5 a6 h6 a7 h7 a8 h8 a9 h9 hc0 hc1 x0 x1 x2 x3 x4 xs0 xs1 = k0_pay3 xs0 x2 x3 xs1 x4 := by
  unfold sout0_B_1
  rw [View.read_writes_eq_canon _ _ _ (scover0_B_1 c i a2 h2 a3 h3 a4 h4 a5 h5 a6 h6 a7 h7 a8 h8 a9 h9 hc0 hc1 x0 x1 x2 x3 x4 xs0 xs1)]
  unfold kernelRun0_B
  dsimp only
  sl_unfold_words
  rw [View.canon_cons_unit_zero (S := S1024x1024) hz]
  simp only [View.readCov_unit_zero (S := S1024x1024) _ hz, View.readAt_eq_ld, h2.read_unread, h3.read_unread, h4.read_unread, h5.read_unread, h6.read_unread, h8.read_unread, h9.read_unread, View.ld_unit_zero (S := S1024x1024) hz, View.ld_unit_zero (S := S1x1024) hz, View.ld_unit_zero (S := S1024x256) hz, View.ld_unit_zero (S := S256x1024) hz]

theorem sum_C (c : Dev nD) (i : grid0.Coords) (a2 : Memref sig .tc .vmem S1024x1024 .f32) (h2 : a2.IsWhole) (a3 : Memref sig .tc .vmem S1x1024 .f32) (h3 : a3.IsWhole)
    (a4 : Memref sig .tc .vmem S1024x256 .f32) (h4 : a4.IsWhole) (a5 : Memref sig .tc .vmem S1024x256 .f32) (h5 : a5.IsWhole) (a6 : Memref sig .tc .vmem S256x1024 .f32) (h6 : a6.IsWhole)
    (a7 : Memref sig .tc .vmem S1024x1024 .f32) (h7 : a7.IsWhole) (a8 : Memref sig .tc .vmem S1024x1024 .bf16) (h8 : a8.IsWhole) (a9 : Memref sig .tc .vmem S1024x1024 .f32) (h9 : a9.IsWhole)
    (hc0 : ¬cond0_0 i) (hc1 : cond0_1 i) (x0 : Vec F S1024x1024 .f32) (x1 : Vec F S1x1024 .f32) (x2 x3 : Vec F S1024x256 .f32) (x4 : Vec F S256x1024 .f32) (xs0 : Vec F S1024x1024 .bf16) (xs1 : Vec F S1024x1024 .f32) :
    sout0_C_1 c i a2 h2 a3 h3 a4 h4 a5 h5 a6 h6 a7 h7 a8 h8 a9 h9 hc0 hc1 x0 x1 x2 x3 x4 xs0 xs1 = k0_pay3 xs0 x2 x3 xs1 x4 := by
  unfold sout0_C_1
  rw [View.read_writes_eq_canon _ _ _ (scover0_C_1 c i a2 h2 a3 h3 a4 h4 a5 h5 a6 h6 a7 h7 a8 h8 a9 h9 hc0 hc1 x0 x1 x2 x3 x4 xs0 xs1)]
  unfold kernelRun0_C
  dsimp only
  sl_unfold_words
  rw [View.canon_cons_unit_zero (S := S1024x1024) hz]
  simp only [View.readCov_unit_zero (S := S1024x1024) _ hz, View.readAt_eq_ld, h2.read_unread, h3.read_unread, h4.read_unread, h5.read_unread, h6.read_unread, h8.read_unread, h9.read_unread, View.ld_unit_zero (S := S1024x1024) hz, View.ld_unit_zero (S := S1x1024) hz, View.ld_unit_zero (S := S1024x256) hz, View.ld_unit_zero (S := S256x1024) hz]

theorem out_C (c : Dev nD) (i : grid0.Coords) (a2 : Memref sig .tc .vmem S1024x1024 .f32) (h2 : a2.IsWhole) (a3 : Memref sig .tc .vmem S1x1024 .f32) (h3 : a3.IsWhole)
    (a4 : Memref sig .tc .vmem S1024x256 .f32) (h4 : a4.IsWhole) (a5 : Memref sig .tc .vmem S1024x256 .f32) (h5 : a5.IsWhole) (a6 : Memref sig .tc .vmem S256x1024 .f32) (h6 : a6.IsWhole)
    (a7 : Memref sig .tc .vmem S1024x1024 .f32) (h7 : a7.IsWhole) (a8 : Memref sig .tc .vmem S1024x1024 .bf16) (h8 : a8.IsWhole) (a9 : Memref sig .tc .vmem S1024x1024 .f32) (h9 : a9.IsWhole)
    (hc0 : ¬cond0_0 i) (hc1 : cond0_1 i) (x0 : Vec F S1024x1024 .f32) (x1 : Vec F S1x1024 .f32) (x2 x3 : Vec F S1024x256 .f32) (x4 : Vec F S256x1024 .f32) (xs0 : Vec F S1024x1024 .bf16) (xs1 : Vec F S1024x1024 .f32) :
    out0_C_5 c i a2 h2 a3 h3 a4 h4 a5 h5 a6 h6 a7 h7 a8 h8 a9 h9 hc0 hc1 x0 x1 x2 x3 x4 xs0 xs1 = k0_pay4 x0 (k0_pay3 xs0 x2 x3 xs1 x4) := by
  unfold out0_C_5
  rw [View.read_writes_eq_canon _ _ _ (cover0_C_5 c i a2 h2 a3 h3 a4 h4 a5 h5 a6 h6 a7 h7 a8 h8 a9 h9 hc0 hc1 x0 x1 x2 x3 x4 xs0 xs1)]
  unfold kernelRun0_C
  dsimp only
  sl_unfold_words
  rw [View.canon_cons_unit_zero (S := S1024x1024) hz]
  simp only [View.readCov_unit_zero (S := S1024x1024) _ hz, View.readAt_eq_ld, h2.read_unread, h3.read_unread, h4.read_unread, h5.read_unread, h6.read_unread, h8.read_unread, h9.read_unread, View.ld_unit_zero (S := S1024x1024) hz, View.ld_unit_zero (S := S1x1024) hz, View.ld_unit_zero (S := S1024x256) hz, View.ld_unit_zero (S := S256x1024) hz]

end

/-! The arrays at the entry of the grid. -/

variable (m : (ℓ : Loc nD τ sig) → Buf (Elt Ideal) ℓ)

abbrev A0 : S16384x1024.Idx → EReal := m (((0 : Dev nD) : Thread nD τ).loc main_arg0)
abbrev A1 : S2x1024.Idx → EReal := m (((0 : Dev nD) : Thread nD τ).loc main_arg1)
abbrev A2 : S1x1024x2816.Idx → EReal := m (((0 : Dev nD) : Thread nD τ).loc main_arg2)
abbrev A3 : S1x1024x2816.Idx → EReal := m (((0 : Dev nD) : Thread nD τ).loc main_arg3)
abbrev A4 : S1x2816x1024.Idx → EReal := m (((0 : Dev nD) : Thread nD τ).loc main_arg4)

theorem entry_x : V m 0 main_arg0 = A0 m := by
  simp only [V, hostOps0, List.flatten_cons, List.flatten_nil, List.append_nil]
  after_results
theorem entry_g (l : Fin 1024) : V m 0 main_v5 (ix2 0 l) = A1 m (ix2 0 l) := by
  have e : V m 0 main_v5 = shapeCast S1x1024 (shapeCast S1024 (extractStridedSlice S1x1024 ![0, 0] (A1 m) slices_S2x1024_S1x1024_0_0) shapeCasts_S1x1024_S1024) shapeCasts_S1024_S1x1024 := by
    simp only [V, hostOps0, List.flatten_cons, List.flatten_nil, List.append_nil]
    after_results
    rfl
  rw [e]
  pointwise
theorem entry_wg (l : Fin 1024) (b : Fin 2816) : V m 0 main_v2 (ix2 l b) = A2 m (ix3 0 l b) := by
  have e : V m 0 main_v2 = shapeCast S1024x2816 (A2 m) shapeCasts_S1x1024x2816_S1024x2816 := by
    simp only [V, hostOps0, List.flatten_cons, List.flatten_nil, List.append_nil]
    after_results
    rfl
  rw [e]
  pointwise
theorem entry_wu (l : Fin 1024) (b : Fin 2816) : V m 0 main_v3 (ix2 l b) = A3 m (ix3 0 l b) := by
  have e : V m 0 main_v3 = shapeCast S1024x2816 (A3 m) shapeCasts_S1x1024x2816_S1024x2816 := by
    simp only [V, hostOps0, List.flatten_cons, List.flatten_nil, List.append_nil]
    after_results
    rfl
  rw [e]
  pointwise
theorem entry_wd (l : Fin 2816) (b : Fin 1024) : V m 0 main_v4 (ix2 l b) = A4 m (ix3 0 l b) := by
  have e : V m 0 main_v4 = shapeCast S2816x1024 (A4 m) shapeCasts_S1x2816x1024_S2816x1024 := by
    simp only [V, hostOps0, List.flatten_cons, List.flatten_nil, List.append_nil]
    after_results
    rfl
  rw [e]
  pointwise

/-! The blocks a point reads, at an index of the arrays. -/

theorem idx0 : ∀ t : Fin cfg0.N, win0_0.index t = ![t.val / 11, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, t.val % 11] := (by decide +kernel : ∀ t : Fin grid0.N, _)
theorem idx3 : ∀ t : Fin cfg0.N, win0_3.index t = ![0, t.val % 11] := (by decide +kernel : ∀ t : Fin grid0.N, _)
theorem idx4 : ∀ t : Fin cfg0.N, win0_4.index t = ![t.val % 11, 0] := (by decide +kernel : ∀ t : Fin grid0.N, _)
theorem idx5 : ∀ t : Fin cfg0.N, win0_5.index t = ![t.val / 11, 0] := (by decide +kernel : ∀ t : Fin grid0.N, _)
theorem flush5 : ∀ t : Fin cfg0.N, (cfg0.win 5).flush t = true → t.val % 11 = 10 := (by decide +kernel : ∀ t : Fin grid0.N, _)

theorem row_lt (t : Fin cfg0.N) (a : Fin 1024) : t.val / 11 * 1024 + a.val < 16384 := by
  have h := lt_of_lt_of_eq t.isLt (show cfg0.N = 176 from N_0)
  omega
/-- The row of the array that is row `a` of a point's block, and the hidden column that is column `k` of its blocks of weights. -/
def row (t : Fin cfg0.N) (a : Fin 1024) : Fin 16384 := ⟨t.val / 11 * 1024 + a.val, row_lt t a⟩
def col (t : Fin cfg0.N) (k : Fin 256) : Fin 2816 := ⟨t.val % 11 * 256 + k.val, by omega⟩

theorem blk_x (t : Fin cfg0.N) (a l : Fin 1024) : iblk m 0 0 t (ix2 a l) = A0 m (ix2 (row t a) l) := by
  have e := Pipeline.Window.rect_emb_val (cfg0.win 0) t
  have hi := idx0 t
  exact (congrArg (V m 0 main_arg0) (Shape.idx_ext₂ ((e _ (0 : Fin 2)).trans (by rw [hi]; rfl)) ((e _ (1 : Fin 2)).trans (by rw [hi]; exact Nat.zero_add _)))).trans (congrFun (entry_x m) (ix2 (row t a) l))
theorem blk_g (t : Fin cfg0.N) (l : Fin 1024) : iblk m 0 1 t (ix2 0 l) = A1 m (ix2 0 l) := by
  have e := Pipeline.Window.rect_emb_val (cfg0.win 1) t
  have hi := idx1 t
  exact (congrArg (V m 0 main_v5) (Shape.idx_ext₂ ((e _ (0 : Fin 2)).trans (by rw [hi]; rfl)) ((e _ (1 : Fin 2)).trans (by rw [hi]; exact Nat.zero_add _)))).trans (entry_g m l)
theorem blk_wg (t : Fin cfg0.N) (l : Fin 1024) (k : Fin 256) : iblk m 0 2 t (ix2 l k) = A2 m (ix3 0 l (col t k)) := by
  have e := Pipeline.Window.rect_emb_val (cfg0.win 2) t
  have hi := idx2 t
  exact (congrArg (V m 0 main_v2) (Shape.idx_ext₂ ((e _ (0 : Fin 2)).trans (by rw [hi]; exact Nat.zero_add _)) ((e _ (1 : Fin 2)).trans (by rw [hi]; rfl)))).trans (entry_wg m l (col t k))
theorem blk_wu (t : Fin cfg0.N) (l : Fin 1024) (k : Fin 256) : iblk m 0 3 t (ix2 l k) = A3 m (ix3 0 l (col t k)) := by
  have e := Pipeline.Window.rect_emb_val (cfg0.win 3) t
  have hi := idx3 t
  exact (congrArg (V m 0 main_v3) (Shape.idx_ext₂ ((e _ (0 : Fin 2)).trans (by rw [hi]; exact Nat.zero_add _)) ((e _ (1 : Fin 2)).trans (by rw [hi]; rfl)))).trans (entry_wu m l (col t k))
theorem blk_wd (t : Fin cfg0.N) (k : Fin 256) (b : Fin 1024) : iblk m 0 4 t (ix2 k b) = A4 m (ix3 0 (col t k) b) := by
  have e := Pipeline.Window.rect_emb_val (cfg0.win 4) t
  have hi := idx4 t
  exact (congrArg (V m 0 main_v4) (Shape.idx_ext₂ ((e _ (0 : Fin 2)).trans (by rw [hi]; rfl)) ((e _ (1 : Fin 2)).trans (by rw [hi]; exact Nat.zero_add _)))).trans (entry_wd m (col t k) b)

/-! The scratch holds the normalized rows of the row block throughout its column blocks. -/

/-- The normalized rows of a point's row block, at an index. -/
def Normed (t : Fin cfg0.N) (v : Vec Ideal S1024x1024 .bf16) : Prop :=
  ∀ a l : Fin 1024, v (ix2 a l) = Cert.Rms.norm (fun k => A0 m (ix2 (row t a) k)) (fun k => A1 m (ix2 0 k)) l

theorem pay1_normed (t : Fin cfg0.N) : Normed m t (k0_pay1 (iblk m 0 0 t) (iblk m 0 1 t)) := fun a l => by
  rw [pay1_apply]
  congr 1
  · funext k; exact blk_x m t a k
  · funext k; exact blk_g m t k

/-- A point's row block is that of the point before, unless it is the first of its column blocks. -/
theorem Normed.next {n : ℕ} {h : n + 1 < cfg0.N} {v : Vec Ideal S1024x1024 .bf16} (hv : Normed m ⟨n, Nat.lt_of_succ_lt h⟩ v) (h0 : ¬(n + 1) % 11 = 0) : Normed m ⟨n + 1, h⟩ v := fun a l => by
  have e : row ⟨n, Nat.lt_of_succ_lt h⟩ a = row ⟨n + 1, h⟩ a := Fin.ext (show n / 11 * 1024 + a.val = (n + 1) / 11 * 1024 + a.val by omega)
  rw [hv a l, e]

theorem rows (n : ℕ) (h : n < cfg0.N) : Normed m ⟨n, h⟩ (outsAt0 m 0 n h).2.1 := by
  induction n with
  | zero =>
    have e := outsAt0_A m 0 ⟨0, h⟩ rfl (by show ¬0 % 11 = 10; omega)
    rw [rows_A] at e
    rw [e]
    exact pay1_normed m ⟨0, h⟩
  | succ n ih =>
    by_cases h0 : (n + 1) % 11 = 0
    · have e := outsAt0_A m 0 ⟨n + 1, h⟩ h0 (by show ¬(n + 1) % 11 = 10; omega)
      rw [rows_A] at e
      rw [e]
      exact pay1_normed m ⟨n + 1, h⟩
    · refine Normed.next m ?_ h0
      by_cases h1 : (n + 1) % 11 = 10
      · rw [show outsAt0 m 0 (n + 1) h = _ from outsAt0_C m 0 ⟨n + 1, h⟩ h0 h1]
        exact ih (Nat.lt_of_succ_lt h)
      · rw [show outsAt0 m 0 (n + 1) h = _ from outsAt0_B m 0 ⟨n + 1, h⟩ h0 h1]
        exact ih (Nat.lt_of_succ_lt h)

theorem rows_before (t : Fin cfg0.N) (h0 : ¬t.val % 11 = 0) : Normed m t (outsAt0 m 0 (t.val - 1) (Nat.lt_of_le_of_lt (Nat.sub_le _ _) t.isLt)).2.1 := by
  obtain ⟨n, h⟩ := t
  cases n with
  | zero => exact absurd rfl h0
  | succ n => exact Normed.next m (rows m n (Nat.lt_of_succ_lt h)) h0

/-! The running sum of a row block's column blocks. -/

/-- What hidden column `k` adds to row `r` at column `b`. -/
def unit (r : Fin 16384) (b : Fin 1024) (k : Fin 2816) : EReal :=
  hid (fun l => A0 m (ix2 r l)) (fun l => A1 m (ix2 0 l)) (fun l => A2 m (ix3 0 l k)) (fun l => A3 m (ix3 0 l k)) * A4 m (ix3 0 k b)

/-- What a point adds. -/
def term (t : Fin cfg0.N) (j : S1024x1024.Idx) : EReal := ∑ k : Fin 256, unit m (row t (j 0)) (j 1) (col t k)

theorem pay3_eq (t : Fin cfg0.N) (v : Vec Ideal S1024x1024 .bf16) (hv : Normed m t v) (acc : Vec Ideal S1024x1024 .f32) (j : S1024x1024.Idx) :
    k0_pay3 v (iblk m 0 2 t) (iblk m 0 3 t) acc (iblk m 0 4 t) j = acc j + term m t j := by
  obtain ⟨a, b, rfl⟩ : ∃ a b : Fin 1024, j = ix2 a b := ⟨j 0, j 1, Shape.idx_ext₂ rfl rfl⟩
  rw [pay3_apply]
  refine congrArg (acc (ix2 a b) + ·) (Finset.sum_congr rfl fun k _ => ?_)
  have eg : ∑ l : Fin 1024, v (ix2 a l) * iblk m 0 2 t (ix2 l k) = Cert.Rms.dot (fun l => A0 m (ix2 (row t a) l)) (fun l => A1 m (ix2 0 l)) (fun l => A2 m (ix3 0 l (col t k))) :=
    Finset.sum_congr rfl fun l _ => congrArg₂ (· * ·) (hv a l) (blk_wg m t l k)
  have eu : ∑ l : Fin 1024, v (ix2 a l) * iblk m 0 3 t (ix2 l k) = Cert.Rms.dot (fun l => A0 m (ix2 (row t a) l)) (fun l => A1 m (ix2 0 l)) (fun l => A3 m (ix3 0 l (col t k))) :=
    Finset.sum_congr rfl fun l _ => congrArg₂ (· * ·) (hv a l) (blk_wu m t l k)
  rw [eg, eu, blk_wd]
  rfl

theorem sum_reset (t : Fin cfg0.N) (h : t.val % 11 = 0) (j : S1024x1024.Idx) : (outsAt0 m 0 t.val t.isLt).2.2 j = (fun _ => (0 : EReal)) j + term m t j := by
  rw [outsAt0_A m 0 t h (by omega), sum_A]
  dsimp only
  rw [pay3_eq m t _ (pay1_normed m t), pay2_apply]

theorem sum_step (t : Fin cfg0.N) (h : ¬t.val % 11 = 0) (j : S1024x1024.Idx) :
    (outsAt0 m 0 t.val t.isLt).2.2 j = (outsAt0 m 0 (t.val - 1) (Nat.lt_of_le_of_lt (Nat.sub_le _ _) t.isLt)).2.2 j + term m t j := by
  by_cases h1 : t.val % 11 = 10
  · rw [outsAt0_C m 0 t h h1, sum_C]
    exact pay3_eq m t _ (rows_before m t h) _ j
  · rw [outsAt0_B m 0 t h h1, sum_B]
    exact pay3_eq m t _ (rows_before m t h) _ j

theorem sum_last (t : Fin cfg0.N) (h : t.val % 11 = 10) (a b : Fin 1024) : (outsAt0 m 0 t.val t.isLt).2.2 (ix2 a b) = ∑ k : Fin 2816, unit m (row t a) b k := by
  have e := Pipeline.eq_sum_fin_of_reset_step_apply_of_flush (M := EReal) (fun n h => (outsAt0 m 0 n h).2.2) 11 (fun _ => 0) (term m) (sum_reset m) (sum_step m) t h (ix2 a b)
  rw [zero_add] at e
  refine e.trans ?_
  have q : ∀ s : Fin 11, term m ⟨11 * (t.val / 11) + s.val, Pipeline.run_point_lt_of_flush t h s⟩ (ix2 a b) = ∑ k : Fin 256, unit m (row t a) b ⟨s.val * 256 + k.val, by omega⟩ := fun s => by
    have hr : row ⟨11 * (t.val / 11) + s.val, Pipeline.run_point_lt_of_flush t h s⟩ a = row t a := Fin.ext (show (11 * (t.val / 11) + s.val) / 11 * 1024 + a.val = t.val / 11 * 1024 + a.val by omega)
    refine Finset.sum_congr rfl fun k _ => ?_
    have hc : col ⟨11 * (t.val / 11) + s.val, Pipeline.run_point_lt_of_flush t h s⟩ k = ⟨s.val * 256 + k.val, by omega⟩ := Fin.ext (show (11 * (t.val / 11) + s.val) % 11 * 256 + k.val = s.val * 256 + k.val by omega)
    exact congr (congrArg (unit m · b) hr) hc
  simp only [q]
  exact Fin.sum_mul_add_fin 11 256 (fun k : Fin 2816 => unit m (row t a) b k)

/-! The array of the call. -/

/-- The result: a row plus its gated feed-forward network after the normalization. -/
def val (x : S16384x1024.Idx → EReal) (g : S2x1024.Idx → EReal) (wg wu : S1x1024x2816.Idx → EReal) (wd : S1x2816x1024.Idx → EReal) : S16384x1024.Idx → EReal := fun i =>
  x (ix2 (i 0) (i 1)) + ∑ k : Fin 2816, hid (fun l => x (ix2 (i 0) l)) (fun l => g (ix2 0 l)) (fun l => wg (ix3 0 l k)) (fun l => wu (ix3 0 l k)) * wd (ix3 0 k (i 1))

theorem out_block (t : Fin cfg0.N) (h : t.val % 11 = 10) (a b : Fin 1024) : (outsAt0 m 0 t.val t.isLt).1 (ix2 a b) = val (A0 m) (A1 m) (A2 m) (A3 m) (A4 m) (ix2 (row t a) b) := by
  have h0 : ¬t.val % 11 = 0 := by omega
  have e : (outsAt0 m 0 t.val t.isLt).1 = k0_pay4 (iblk m 0 0 t) (outsAt0 m 0 t.val t.isLt).2.2 := by
    rw [outsAt0_C m 0 t h0 h, out_C, sum_C]
  rw [e, pay4_apply, sum_last m t h, blk_x]
  rfl

theorem out_at (t : Fin cfg0.N) (h : t.val % 11 = 10) (y : S1024x1024.Idx) : (outsAt0 m 0 t.val t.isLt).1 y = val (A0 m) (A1 m) (A2 m) (A3 m) (A4 m) (((cfg0.win 5).rect t).emb y) := by
  have e := Pipeline.Window.rect_emb_val (cfg0.win 5) t y
  have hi := idx5 t
  obtain ⟨a, b, rfl⟩ : ∃ a b : Fin 1024, y = ix2 a b := ⟨y 0, y 1, Shape.idx_ext₂ rfl rfl⟩
  refine (out_block m t h a b).trans ?_
  exact congrArg (val (A0 m) (A1 m) (A2 m) (A3 m) (A4 m)) (Shape.idx_ext₂ ((e (0 : Fin 2)).trans (by rw [hi]; rfl)) ((e (1 : Fin 2)).trans (by rw [hi]; exact Nat.zero_add _))).symm

theorem arr_eq : (dats m 0 0).arrAt 5 cfg0.N = val (A0 m) (A1 m) (A2 m) (A3 m) (A4 m) := by
  refine (dats m 0 0).arrAt_eq_of_covers 5 _ ?_ fun t hf y => ?_
  · refine Pipeline.Window.covers_of_index_surj _ rfl (fun a => by match a with | ⟨0, _⟩ => exact (by decide : 0 < 1024) | ⟨1, _⟩ => exact (by decide : 0 < 1024)) fun β => ?_
    have h0 : (β (0 : Fin 2)).val < 16 := lt_of_lt_of_eq (β (0 : Fin 2)).isLt (show (16384 + 1023) / 1024 = 16 by decide)
    have h1 : (β (1 : Fin 2)).val < 1 := lt_of_lt_of_eq (β (1 : Fin 2)).isLt (show (1024 + 1023) / 1024 = 1 by decide)
    refine ⟨⟨11 * (β (0 : Fin 2)).val + 10, lt_of_lt_of_eq (by omega) (show cfg0.N = 176 from N_0).symm⟩, fun a => ?_⟩
    refine (congrFun (idx5 _) a).trans ?_
    match a with
    | ⟨0, _⟩ => exact (show (11 * (β (0 : Fin 2)).val + 10) / 11 = (β (0 : Fin 2)).val by omega)
    | ⟨1, _⟩ => exact (show 0 = (β (1 : Fin 2)).val by omega)
  · have e := out_at m t (flush5 t hf) y
    rw [← after0_5] at e
    exact e

theorem run_value (ρ : Dev nD → PrngReg) : θ_run (defs (F := Ideal)) (onTc (τ := τ) (main (F := Ideal))) ⟨m, fun _ => 0, ρ⟩ (fun r => ∀ c : Dev nD,
      r.2.mem ((c.tc : Thread nD τ).loc main_v6) = val (A0 m) (A1 m) (A2 m) (A3 m) (A4 m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => by
    obtain rfl : c = 0 := Subsingleton.elim _ _
    exact ⟨((h.1 0).1 5).trans (arr_eq m), h.2.1 0⟩)
    (θ_run_and (run_main m ρ) (frame m ρ))

end Cert.KernelFfnIdeal.Rms

end
-- ==== Proof.FfnRefIdeal.lean ====
module

public import proofs.«01_k».proof.Proof.FfnKernelIdeal
public import proofs.«01_k».proof.Proof.RefIdeal
public import proofs.«01_k».proof.Proof.Gen.ReferenceFfnIdeal.Run
public import proofs.«01_k».proof.Proof.Gen.ReferenceFfnIdeal.Read
public import Idealize.ShloMosaic.Lib.Quiescent

@[expose] public section

noncomputable section

namespace Cert.ReferenceFfnIdeal.Rms

open Cert.ReferenceFfnIdeal Cert.ReferenceFfnIdeal.Read
open Idealize.ShloMosaic Idealize.ShloMosaic.TcCoe Idealize.SL.Sem
open Cert.KernelFfnIdeal.Rms (hid val)

variable (x : S16384x1024.Idx → EReal) (g : S2x1024.Idx → EReal) (wg wu : S1x1024x2816.Idx → EReal) (wd : S1x2816x1024.Idx → EReal)

/-- The normalized row of the reference, at a position. -/
theorem norm_at (r : Fin 16384) (l : Fin 1024) :
    val_main_v14 (F := Ideal) x g (ix2 r l) = Cert.Rms.norm (fun k => x (ix2 r k)) (fun k => g (ix2 0 k)) l := by
  have hs : val_main_v3 (F := Ideal) x (idx_main_v4 (idx_main_v10 (ix2 r l))) = ∑ k : Fin 1024, x (ix2 r k) * x (ix2 r k) := by
    rw [val_main_v3_apply, val_main_cst_apply]
    refine (congrArg (· + _) Ideal.ofBits_zero_f32).trans ((zero_add _).trans (Finset.sum_congr rfl fun k _ => ?_))
    have hi : idx_main_v3 (idx_main_v4 (idx_main_v10 (ix2 r l))) k = ix2 r k := Shape.idx_ext₂ rfl rfl
    rw [hi]
    rfl
  have hg : val_main_v13 (F := Ideal) g (ix2 r l) = g (ix2 0 l) := by
    rw [val_main_v13_apply, val_main_v12_apply, val_main_v1_apply, val_main_v0_apply]
    exact congrArg g (Shape.idx_ext₂ rfl (Nat.mod_eq_of_lt l.isLt))
  rw [val_main_v14_apply, hg, val_main_v11_apply, val_main_v10_apply, val_main_v9_apply, val_main_v8_apply, val_main_v6_apply, val_main_v4_apply, hs,
    val_main_v5_apply, val_main_cst_0_apply, val_main_v7_apply, val_main_cst_1_apply]
  rfl

theorem gate_at (r : Fin 16384) (k : Fin 2816) : val_main_v18 (F := Ideal) x g wg (ix2 r k) = Cert.Rms.dot (fun l => x (ix2 r l)) (fun k => g (ix2 0 k)) (fun l => wg (ix3 0 l k)) := by
  rw [val_main_v18_apply]
  refine Finset.sum_congr rfl fun l _ => ?_
  have hl : lidx_main_v18 (ix2 r k) l = ix2 r l := Shape.idx_ext₂ rfl rfl
  have hw : val_main_v15 (F := Ideal) wg (ridx_main_v18 (ix2 r k) l) = wg (ix3 0 l k) := by
    rw [val_main_v15_apply]
    exact congrArg wg (idx_ext₃ rfl (show (l.val * 2816 + k.val) / 2816 % 1024 = l.val by omega) (show (l.val * 2816 + k.val) % 2816 = k.val by omega))
  rw [hl, norm_at, hw]
theorem up_at (r : Fin 16384) (k : Fin 2816) : val_main_v20 (F := Ideal) x g wu (ix2 r k) = Cert.Rms.dot (fun l => x (ix2 r l)) (fun k => g (ix2 0 k)) (fun l => wu (ix3 0 l k)) := by
  rw [val_main_v20_apply]
  refine Finset.sum_congr rfl fun l _ => ?_
  have hl : lidx_main_v20 (ix2 r k) l = ix2 r l := Shape.idx_ext₂ rfl rfl
  have hw : val_main_v16 (F := Ideal) wu (ridx_main_v20 (ix2 r k) l) = wu (ix3 0 l k) := by
    rw [val_main_v16_apply]
    exact congrArg wu (idx_ext₃ rfl (show (l.val * 2816 + k.val) / 2816 % 1024 = l.val by omega) (show (l.val * 2816 + k.val) % 2816 = k.val by omega))
  rw [hl, norm_at, hw]

theorem hid_at (r : Fin 16384) (k : Fin 2816) : val_main_v21 (F := Ideal) x g wg wu (ix2 r k)
    = hid (fun l => x (ix2 r l)) (fun k => g (ix2 0 k)) (fun l => wg (ix3 0 l k)) (fun l => wu (ix3 0 l k)) := by
  rw [val_main_v21_apply, val_main_v19_apply, val_main_call0_v5_apply, val_main_call0_v4_apply, val_main_call0_cst_0_apply, val_main_call0_v3_apply, val_main_call0_v2_apply, val_main_call0_cst_apply, val_main_call0_v1_apply, val_main_call0_v0_apply,
    Cert.ReferenceIdeal.Moe.silu_eq, gate_at, up_at]
  rfl

theorem value : val_main_v23 (F := Ideal) x g wg wu wd = val x g wg wu wd := by
  funext i
  obtain ⟨r, b, rfl⟩ : ∃ (r : Fin 16384) (b : Fin 1024), i = ix2 r b := ⟨i 0, i 1, Shape.idx_ext₂ rfl rfl⟩
  rw [val_main_v23_apply, val_main_v22_apply]
  refine congrArg (x (ix2 r b) + ·) (Finset.sum_congr rfl fun k _ => ?_)
  have hl : lidx_main_v22 (ix2 r b) k = ix2 r k := Shape.idx_ext₂ rfl rfl
  have hw : val_main_v17 (F := Ideal) wd (ridx_main_v22 (ix2 r b) k) = wd (ix3 0 k b) := by
    rw [val_main_v17_apply]
    exact congrArg wd (idx_ext₃ rfl (show (k.val * 1024 + b.val) / 1024 % 2816 = k.val by omega) (show (k.val * 1024 + b.val) % 1024 = b.val by omega))
  rw [hl, hid_at, hw]
  rfl

theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v23) = val (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => ⟨(h c).1.trans ((val_main_v23_eq _ _ _ _ _).trans (value _ _ _ _ _)), (h c).2⟩) (Value.run m ρ)

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => (h c).2, sem_eq_zero_of_no_sems (by decide) r.2⟩) (Value.run m ρ)

end Cert.ReferenceFfnIdeal.Rms

end
-- ==== Proof.lean ====
module

public import proofs.«01_k».proof.Defs
public import proofs.«01_k».proof.Proof.RunValue
public import proofs.«01_k».proof.Proof.Gen.Pre_expert_in_range
public import proofs.«01_k».proof.Proof.EvenRefIdeal
public import proofs.«01_k».proof.Proof.Gen.KernelEven.Frame
public import proofs.«01_k».proof.Proof.Gen.KernelEvenSample.Frame
public import proofs.«01_k».proof.Proof.EvenSampleRefIdeal
public import proofs.«01_k».proof.Proof.Gen.KernelOdd.Frame
public import proofs.«01_k».proof.Proof.OddRefIdeal
public import proofs.«01_k».proof.Proof.Gen.KernelOddSample.Frame
public import proofs.«01_k».proof.Proof.OddSampleRefIdeal
public import proofs.«01_k».proof.Proof.Gen.S5Sample.Frame
public import proofs.«01_k».proof.Proof.S5SampleKernelIdeal
public import proofs.«01_k».proof.Proof.S5PromptFrame
public import proofs.«01_k».proof.Proof.S5PromptKernelIdeal
public import proofs.«01_k».proof.Proof.Gen.KernelFfn.Frame
public import proofs.«01_k».proof.Proof.FfnRefIdeal

@[expose] public section

noncomputable section

namespace Cert.Proof

open Idealize.ShloMosaic Idealize.SL.Sem

theorem algebraic : letI := Cert.KernelIdeal.Gen.facts; letI := Cert.ReferenceIdeal.Gen.facts; letI := Cert.Pre_expert_in_range.Gen.facts
    Cert.algebraic_KernelIdeal_ReferenceIdeal := by
  intro m g m' g' h hagree
  have hr := Cert.KernelIdeal.Moe.te_lt m h
  refine ⟨fun _ => Cert.KernelIdeal.Moe.Y m hr, Cert.KernelIdeal.Moe.run_value m g hr (Cert.KernelIdeal.Moe.ok_of_pre m h), ?_⟩
  refine (θ_run _ _ _).mono (fun r hq c => ⟨?_, (hq c).2⟩) (Cert.ReferenceIdeal.Value.run m' g')
  refine (hq c).1.trans ((Cert.ReferenceIdeal.Read.val_main_v133_eq _).trans ?_)
  obtain rfl : c = 0 := Subsingleton.elim _ _
  obtain ⟨h0, h1, h2, h3, h4, h5⟩ := hagree 0
  refine Eq.trans ?_ (Cert.KernelIdeal.Moe.reference_eq m hr)
  exact congr (congr (congr (congr (congr (congrArg _ h0) h1) h2) h3) h4) h5

theorem algebraic_even : letI := Cert.KernelEvenIdeal.Gen.facts; letI := Cert.ReferenceEvenIdeal.Gen.facts
    Cert.algebraic_KernelEvenIdeal_ReferenceEvenIdeal := by
  intro m g m' g' _ hagree
  refine ⟨fun _ => _, fun _ => _, Cert.KernelEvenIdeal.Rms.run_value m g, ?_⟩
  refine (θ_run _ _ _).mono (fun r hq c => ?_) (Cert.ReferenceEvenIdeal.Rms.run_value m' g')
  obtain rfl : c = 0 := Subsingleton.elim _ _
  obtain ⟨h0, h1, h2⟩ := hagree 0
  exact ⟨(hq 0).1.trans (congr (congr (congrArg (Cert.KernelEvenIdeal.Rms.val 512 _) h0) h1) h2),
    (hq 0).2.1.trans (congr (congr (congrArg (Cert.KernelEvenIdeal.Rms.val 1024 _) h0) h1) h2), (hq 0).2.2⟩

theorem algebraic_even_sample : letI := Cert.KernelEvenSampleIdeal.Gen.facts; letI := Cert.ReferenceEvenSampleIdeal.Gen.facts
    Cert.algebraic_KernelEvenSampleIdeal_ReferenceEvenSampleIdeal := by
  intro m g m' g' _ hagree
  refine ⟨fun _ => _, fun _ => _, Cert.KernelEvenSampleIdeal.Rms.run_value m g, ?_⟩
  refine (θ_run _ _ _).mono (fun r hq c => ?_) (Cert.ReferenceEvenSampleIdeal.Rms.run_value m' g')
  obtain rfl : c = 0 := Subsingleton.elim _ _
  obtain ⟨h0, h1, h2⟩ := hagree 0
  exact ⟨(hq 0).1.trans (congr (congr (congrArg (Cert.KernelEvenSampleIdeal.Rms.val 512 _) h0) h1) h2),
    (hq 0).2.1.trans (congr (congr (congrArg (Cert.KernelEvenSampleIdeal.Rms.val 1024 _) h0) h1) h2), (hq 0).2.2⟩

theorem algebraic_odd : letI := Cert.KernelOddIdeal.Gen.facts; letI := Cert.ReferenceOddIdeal.Gen.facts
    Cert.algebraic_KernelOddIdeal_ReferenceOddIdeal := by
  intro m g m' g' _ hagree
  refine ⟨fun _ => _, fun _ => _, Cert.KernelOddIdeal.Rms.run_value m g, ?_⟩
  refine (θ_run _ _ _).mono (fun r hq c => ?_) (Cert.ReferenceOddIdeal.Rms.run_value m' g')
  obtain rfl : c = 0 := Subsingleton.elim _ _
  obtain ⟨h0, h1, h2⟩ := hagree 0
  exact ⟨(hq 0).1.trans (congr (congr (congrArg (Cert.KernelOddIdeal.Rms.val 512 _) h0) h1) h2),
    (hq 0).2.1.trans (congr (congr (congrArg (Cert.KernelOddIdeal.Rms.val 1024 _) h0) h1) h2), (hq 0).2.2⟩

theorem algebraic_odd_sample : letI := Cert.KernelOddSampleIdeal.Gen.facts; letI := Cert.ReferenceOddSampleIdeal.Gen.facts
    Cert.algebraic_KernelOddSampleIdeal_ReferenceOddSampleIdeal := by
  intro m g m' g' _ hagree
  refine ⟨fun _ => _, fun _ => _, Cert.KernelOddSampleIdeal.Rms.run_value m g, ?_⟩
  refine (θ_run _ _ _).mono (fun r hq c => ?_) (Cert.ReferenceOddSampleIdeal.Rms.run_value m' g')
  obtain rfl : c = 0 := Subsingleton.elim _ _
  obtain ⟨h0, h1, h2⟩ := hagree 0
  exact ⟨(hq 0).1.trans (congr (congr (congrArg (Cert.KernelOddSampleIdeal.Rms.val 512 _) h0) h1) h2),
    (hq 0).2.1.trans (congr (congr (congrArg (Cert.KernelOddSampleIdeal.Rms.val 1024 _) h0) h1) h2), (hq 0).2.2⟩

theorem algebraic_s5_sample : letI := Cert.S5SampleIdeal.Gen.facts; letI := Cert.ReferenceS5SampleIdeal.Gen.facts
    Cert.algebraic_S5SampleIdeal_ReferenceS5SampleIdeal := by
  intro m g m' g' _ hagree
  refine ⟨fun _ => _, fun _ => _, Cert.S5SampleIdeal.Scan.run_value m g, ?_⟩
  refine (θ_run _ _ _).mono (fun r hq c => ?_) (Cert.ReferenceS5SampleIdeal.Scan.run_value m' g')
  obtain rfl : c = 0 := Subsingleton.elim _ _
  obtain ⟨h0, h1, h2, h3, h4, h5, h6, h7, _⟩ := hagree 0
  exact ⟨(hq 0).1.trans (congr (congr (congr (congr (congr (congr (congr (congrArg Cert.ReferenceS5SampleIdeal.Scan.valRe h0) h1) h2) h3) h4) h5) h6) h7),
    (hq 0).2.1.trans (congr (congr (congr (congr (congr (congr (congr (congrArg Cert.ReferenceS5SampleIdeal.Scan.valIm h0) h1) h2) h3) h4) h5) h6) h7), (hq 0).2.2⟩

theorem algebraic_s5_prompt : letI := Cert.S5PromptIdeal.Gen.facts; letI := Cert.ReferenceS5PromptIdeal.Gen.facts
    Cert.algebraic_S5PromptIdeal_ReferenceS5PromptIdeal := by
  intro m g m' g' _ hagree
  refine ⟨fun _ => _, fun _ => _, Cert.S5PromptIdeal.Scan.run_value m g, ?_⟩
  refine (θ_run _ _ _).mono (fun r hq c => ?_) (Cert.ReferenceS5PromptIdeal.Scan.run_value m' g')
  obtain rfl : c = 0 := Subsingleton.elim _ _
  obtain ⟨h0, h1, h2, h3, h4, h5, _⟩ := hagree 0
  exact ⟨(hq 0).1.trans (congr (congr (congr (congr (congr (congrArg Cert.ReferenceS5PromptIdeal.Scan.valRe h0) h1) h2) h3) h4) h5),
    (hq 0).2.1.trans (congr (congr (congr (congr (congr (congrArg Cert.ReferenceS5PromptIdeal.Scan.valIm h0) h1) h2) h3) h4) h5), (hq 0).2.2⟩

theorem algebraic_ffn : letI := Cert.KernelFfnIdeal.Gen.facts; letI := Cert.ReferenceFfnIdeal.Gen.facts
    Cert.algebraic_KernelFfnIdeal_ReferenceFfnIdeal := by
  intro m g m' g' _ hagree
  refine ⟨fun _ => _, Cert.KernelFfnIdeal.Rms.run_value m g, ?_⟩
  refine (θ_run _ _ _).mono (fun r hq c => ?_) (Cert.ReferenceFfnIdeal.Rms.run_value m' g')
  obtain rfl : c = 0 := Subsingleton.elim _ _
  obtain ⟨h0, h1, h2, h3, h4⟩ := hagree 0
  exact ⟨(hq 0).1.trans (congr (congr (congr (congr (congrArg Cert.KernelFfnIdeal.Rms.val h0) h1) h2) h3) h4), (hq 0).2⟩

theorem claim : Cert.Claim := ⟨Cert.Kernel.Gen.facts, Cert.KernelIdeal.Gen.facts, Cert.ReferenceIdeal.Gen.facts,
  Cert.KernelEven.Gen.facts, Cert.KernelEvenIdeal.Gen.facts, Cert.ReferenceEvenIdeal.Gen.facts,
  Cert.KernelEvenSample.Gen.facts, Cert.KernelEvenSampleIdeal.Gen.facts, Cert.ReferenceEvenSampleIdeal.Gen.facts,
  Cert.KernelOdd.Gen.facts, Cert.KernelOddIdeal.Gen.facts, Cert.ReferenceOddIdeal.Gen.facts,
  Cert.KernelOddSample.Gen.facts, Cert.KernelOddSampleIdeal.Gen.facts, Cert.ReferenceOddSampleIdeal.Gen.facts,
  Cert.S5Sample.Gen.facts, Cert.S5SampleIdeal.Gen.facts, Cert.ReferenceS5SampleIdeal.Gen.facts,
  Cert.S5Prompt.Gen.facts, Cert.S5PromptIdeal.Gen.facts, Cert.ReferenceS5PromptIdeal.Gen.facts,
  Cert.KernelFfn.Gen.facts, Cert.KernelFfnIdeal.Gen.facts, Cert.ReferenceFfnIdeal.Gen.facts,
  Cert.Pre_expert_in_range.Gen.facts,
  fun m ρ h => Cert.Kernel.Moe.frame m ρ (Cert.Kernel.Moe.ok_of_pre m h),
  fun m ρ h => Cert.KernelIdeal.Moe.frame m ρ (Cert.KernelIdeal.Moe.ok_of_pre m h),
  fun m ρ _ => Cert.ReferenceIdeal.Moe.frame m ρ,
  fun m ρ _ => Cert.KernelEven.Gen.frame m ρ,
  fun m ρ _ => Cert.KernelEvenIdeal.Gen.frame m ρ,
  fun m ρ _ => Cert.ReferenceEvenIdeal.Rms.frame m ρ,
  fun m ρ _ => Cert.KernelEvenSample.Gen.frame m ρ,
  fun m ρ _ => Cert.KernelEvenSampleIdeal.Gen.frame m ρ,
  fun m ρ _ => Cert.ReferenceEvenSampleIdeal.Rms.frame m ρ,
  fun m ρ _ => Cert.KernelOdd.Gen.frame m ρ,
  fun m ρ _ => Cert.KernelOddIdeal.Gen.frame m ρ,
  fun m ρ _ => Cert.ReferenceOddIdeal.Rms.frame m ρ,
  fun m ρ _ => Cert.KernelOddSample.Gen.frame m ρ,
  fun m ρ _ => Cert.KernelOddSampleIdeal.Gen.frame m ρ,
  fun m ρ _ => Cert.ReferenceOddSampleIdeal.Rms.frame m ρ,
  fun m ρ _ => Cert.S5Sample.Gen.frame m ρ,
  fun m ρ _ => Cert.S5SampleIdeal.Gen.frame m ρ,
  fun m ρ _ => Cert.ReferenceS5SampleIdeal.Scan.frame m ρ,
  fun m ρ _ => Cert.S5Prompt.Scan.framed m ρ,
  fun m ρ _ => Cert.S5PromptIdeal.Scan.framed m ρ,
  fun m ρ _ => Cert.ReferenceS5PromptIdeal.Scan.frame m ρ,
  fun m ρ _ => Cert.KernelFfn.Gen.frame m ρ,
  fun m ρ _ => Cert.KernelFfnIdeal.Gen.frame m ρ,
  fun m ρ _ => Cert.ReferenceFfnIdeal.Rms.frame m ρ,
  trivial, algebraic, trivial, algebraic_even, trivial, algebraic_even_sample, trivial, algebraic_odd, trivial, algebraic_odd_sample, trivial, algebraic_s5_sample, trivial, algebraic_s5_prompt, trivial, algebraic_ffn⟩

end Cert.Proof

end
